-- ==== Defs.lean ====
def Pre_FfnActGrad (m : (ℓ : Loc Cert.FfnActGrad.nD Cert.FfnActGrad.τ Cert.FfnActGrad.sig) → Buf (Elt Bits) ℓ) : Prop :=
  True

def Pre_FfnActGradIdeal (m : (ℓ : Loc Cert.FfnActGradIdeal.nD Cert.FfnActGradIdeal.τ Cert.FfnActGradIdeal.sig) → Buf (Elt Ideal) ℓ) : Prop :=
  True

def Pre_FfnActGradIdeal_ffn_finite [hPre_ffn_finite : Cert.Pre_ffn_finite.Facts] (m : (ℓ : Loc Cert.FfnActGradIdeal.nD Cert.FfnActGradIdeal.τ Cert.FfnActGradIdeal.sig) → Buf (Elt Ideal) ℓ) : Prop :=
  ∀ c : Dev Cert.FfnActGradIdeal.nD,
    (Cert.Pre_ffn_finite.fn (F := Ideal) (m ((c.tc : Thread Cert.FfnActGradIdeal.nD Cert.FfnActGradIdeal.τ).loc Cert.FfnActGradIdeal.main_arg0)) (m ((c.tc : Thread Cert.FfnActGradIdeal.nD Cert.FfnActGradIdeal.τ).loc Cert.FfnActGradIdeal.main_arg1)) (m ((c.tc : Thread Cert.FfnActGradIdeal.nD Cert.FfnActGradIdeal.τ).loc Cert.FfnActGradIdeal.main_arg2)) (m ((c.tc : Thread Cert.FfnActGradIdeal.nD Cert.FfnActGradIdeal.τ).loc Cert.FfnActGradIdeal.main_arg3))) = (fun _ => 1#1)

def Pre_FfnActGradRefIdeal (m : (ℓ : Loc Cert.FfnActGradRefIdeal.nD Cert.FfnActGradRefIdeal.τ Cert.FfnActGradRefIdeal.sig) → Buf (Elt Ideal) ℓ) : Prop :=
  True

def Pre_FfnActGradRefIdeal_ffn_finite [hPre_ffn_finite : Cert.Pre_ffn_finite.Facts] (m : (ℓ : Loc Cert.FfnActGradRefIdeal.nD Cert.FfnActGradRefIdeal.τ Cert.FfnActGradRefIdeal.sig) → Buf (Elt Ideal) ℓ) : Prop :=
  ∀ c : Dev Cert.FfnActGradRefIdeal.nD,
    (Cert.Pre_ffn_finite.fn (F := Ideal) (m ((c.tc : Thread Cert.FfnActGradRefIdeal.nD Cert.FfnActGradRefIdeal.τ).loc Cert.FfnActGradRefIdeal.main_arg0)) (m ((c.tc : Thread Cert.FfnActGradRefIdeal.nD Cert.FfnActGradRefIdeal.τ).loc Cert.FfnActGradRefIdeal.main_arg1)) (m ((c.tc : Thread Cert.FfnActGradRefIdeal.nD Cert.FfnActGradRefIdeal.τ).loc Cert.FfnActGradRefIdeal.main_arg2)) (m ((c.tc : Thread Cert.FfnActGradRefIdeal.nD Cert.FfnActGradRefIdeal.τ).loc Cert.FfnActGradRefIdeal.main_arg3))) = (fun _ => 1#1)

def Pre_MergeGrad (m : (ℓ : Loc Cert.MergeGrad.nD Cert.MergeGrad.τ Cert.MergeGrad.sig) → Buf (Elt Bits) ℓ) : Prop :=
  True

def Pre_MergeGradIdeal (m : (ℓ : Loc Cert.MergeGradIdeal.nD Cert.MergeGradIdeal.τ Cert.MergeGradIdeal.sig) → Buf (Elt Ideal) ℓ) : Prop :=
  True

def Pre_MergeGradRefIdeal (m : (ℓ : Loc Cert.MergeGradRefIdeal.nD Cert.MergeGradRefIdeal.τ Cert.MergeGradRefIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradIdeal_norm_finite [hPre_norm_finite : Cert.Pre_norm_finite.Facts] (m : (ℓ : Loc Cert.NormGradIdeal.nD Cert.NormGradIdeal.τ Cert.NormGradIdeal.sig) → Buf (Elt Ideal) ℓ) : Prop :=
  ∀ c : Dev Cert.NormGradIdeal.nD,
    (Cert.Pre_norm_finite.fn (F := Ideal) (m ((c.tc : Thread Cert.NormGradIdeal.nD Cert.NormGradIdeal.τ).loc Cert.NormGradIdeal.main_arg0)) (m ((c.tc : Thread Cert.NormGradIdeal.nD Cert.NormGradIdeal.τ).loc Cert.NormGradIdeal.main_arg1)) (m ((c.tc : Thread Cert.NormGradIdeal.nD Cert.NormGradIdeal.τ).loc Cert.NormGradIdeal.main_arg2)) (m ((c.tc : Thread Cert.NormGradIdeal.nD Cert.NormGradIdeal.τ).loc Cert.NormGradIdeal.main_arg3))) = (fun _ => 1#1)

def Pre_NormGradRefIdeal (m : (ℓ : Loc Cert.NormGradRefIdeal.nD Cert.NormGradRefIdeal.τ Cert.NormGradRefIdeal.sig) → Buf (Elt Ideal) ℓ) : Prop :=
  True

def Pre_NormGradRefIdeal_norm_finite [hPre_norm_finite : Cert.Pre_norm_finite.Facts] (m : (ℓ : Loc Cert.NormGradRefIdeal.nD Cert.NormGradRefIdeal.τ Cert.NormGradRefIdeal.sig) → Buf (Elt Ideal) ℓ) : Prop :=
  ∀ c : Dev Cert.NormGradRefIdeal.nD,
    (Cert.Pre_norm_finite.fn (F := Ideal) (m ((c.tc : Thread Cert.NormGradRefIdeal.nD Cert.NormGradRefIdeal.τ).loc Cert.NormGradRefIdeal.main_arg0)) (m ((c.tc : Thread Cert.NormGradRefIdeal.nD Cert.NormGradRefIdeal.τ).loc Cert.NormGradRefIdeal.main_arg1)) (m ((c.tc : Thread Cert.NormGradRefIdeal.nD Cert.NormGradRefIdeal.τ).loc Cert.NormGradRefIdeal.main_arg2)) (m ((c.tc : Thread Cert.NormGradRefIdeal.nD Cert.NormGradRefIdeal.τ).loc Cert.NormGradRefIdeal.main_arg3))) = (fun _ => 1#1)

def Pre_ConvSsmGrad (m : (ℓ : Loc Cert.ConvSsmGrad.nD Cert.ConvSsmGrad.τ Cert.ConvSsmGrad.sig) → Buf (Elt Bits) ℓ) : Prop :=
  True

def Pre_ConvSsmGradIdeal (m : (ℓ : Loc Cert.ConvSsmGradIdeal.nD Cert.ConvSsmGradIdeal.τ Cert.ConvSsmGradIdeal.sig) → Buf (Elt Ideal) ℓ) : Prop :=
  True

def Pre_ConvSsmGradIdeal_conv_ssm_finite [hPre_conv_ssm_finite : Cert.Pre_conv_ssm_finite.Facts] (m : (ℓ : Loc Cert.ConvSsmGradIdeal.nD Cert.ConvSsmGradIdeal.τ Cert.ConvSsmGradIdeal.sig) → Buf (Elt Ideal) ℓ) : Prop :=
  ∀ c : Dev Cert.ConvSsmGradIdeal.nD,
    (Cert.Pre_conv_ssm_finite.fn (F := Ideal) (m ((c.tc : Thread Cert.ConvSsmGradIdeal.nD Cert.ConvSsmGradIdeal.τ).loc Cert.ConvSsmGradIdeal.main_arg0)) (m ((c.tc : Thread Cert.ConvSsmGradIdeal.nD Cert.ConvSsmGradIdeal.τ).loc Cert.ConvSsmGradIdeal.main_arg1)) (m ((c.tc : Thread Cert.ConvSsmGradIdeal.nD Cert.ConvSsmGradIdeal.τ).loc Cert.ConvSsmGradIdeal.main_arg2)) (m ((c.tc : Thread Cert.ConvSsmGradIdeal.nD Cert.ConvSsmGradIdeal.τ).loc Cert.ConvSsmGradIdeal.main_arg3)) (m ((c.tc : Thread Cert.ConvSsmGradIdeal.nD Cert.ConvSsmGradIdeal.τ).loc Cert.ConvSsmGradIdeal.main_arg4))) = (fun _ => 1#1)

def Pre_ConvSsmGradRefIdeal (m : (ℓ : Loc Cert.ConvSsmGradRefIdeal.nD Cert.ConvSsmGradRefIdeal.τ Cert.ConvSsmGradRefIdeal.sig) → Buf (Elt Ideal) ℓ) : Prop :=
  True

def Pre_ConvSsmGradRefIdeal_conv_ssm_finite [hPre_conv_ssm_finite : Cert.Pre_conv_ssm_finite.Facts] (m : (ℓ : Loc Cert.ConvSsmGradRefIdeal.nD Cert.ConvSsmGradRefIdeal.τ Cert.ConvSsmGradRefIdeal.sig) → Buf (Elt Ideal) ℓ) : Prop :=
  ∀ c : Dev Cert.ConvSsmGradRefIdeal.nD,
    (Cert.Pre_conv_ssm_finite.fn (F := Ideal) (m ((c.tc : Thread Cert.ConvSsmGradRefIdeal.nD Cert.ConvSsmGradRefIdeal.τ).loc Cert.ConvSsmGradRefIdeal.main_arg0)) (m ((c.tc : Thread Cert.ConvSsmGradRefIdeal.nD Cert.ConvSsmGradRefIdeal.τ).loc Cert.ConvSsmGradRefIdeal.main_arg1)) (m ((c.tc : Thread Cert.ConvSsmGradRefIdeal.nD Cert.ConvSsmGradRefIdeal.τ).loc Cert.ConvSsmGradRefIdeal.main_arg2)) (m ((c.tc : Thread Cert.ConvSsmGradRefIdeal.nD Cert.ConvSsmGradRefIdeal.τ).loc Cert.ConvSsmGradRefIdeal.main_arg3)) (m ((c.tc : Thread Cert.ConvSsmGradRefIdeal.nD Cert.ConvSsmGradRefIdeal.τ).loc Cert.ConvSsmGradRefIdeal.main_arg4))) = (fun _ => 1#1)

def Pre_ConvGdnGrad (m : (ℓ : Loc Cert.ConvGdnGrad.nD Cert.ConvGdnGrad.τ Cert.ConvGdnGrad.sig) → Buf (Elt Bits) ℓ) : Prop :=
  True

def Pre_ConvGdnGradIdeal (m : (ℓ : Loc Cert.ConvGdnGradIdeal.nD Cert.ConvGdnGradIdeal.τ Cert.ConvGdnGradIdeal.sig) → Buf (Elt Ideal) ℓ) : Prop :=
  True

def Pre_ConvGdnGradIdeal_conv_gdn_finite [hPre_conv_gdn_finite : Cert.Pre_conv_gdn_finite.Facts] (m : (ℓ : Loc Cert.ConvGdnGradIdeal.nD Cert.ConvGdnGradIdeal.τ Cert.ConvGdnGradIdeal.sig) → Buf (Elt Ideal) ℓ) : Prop :=
  ∀ c : Dev Cert.ConvGdnGradIdeal.nD,
    (Cert.Pre_conv_gdn_finite.fn (F := Ideal) (m ((c.tc : Thread Cert.ConvGdnGradIdeal.nD Cert.ConvGdnGradIdeal.τ).loc Cert.ConvGdnGradIdeal.main_arg0)) (m ((c.tc : Thread Cert.ConvGdnGradIdeal.nD Cert.ConvGdnGradIdeal.τ).loc Cert.ConvGdnGradIdeal.main_arg1)) (m ((c.tc : Thread Cert.ConvGdnGradIdeal.nD Cert.ConvGdnGradIdeal.τ).loc Cert.ConvGdnGradIdeal.main_arg2)) (m ((c.tc : Thread Cert.ConvGdnGradIdeal.nD Cert.ConvGdnGradIdeal.τ).loc Cert.ConvGdnGradIdeal.main_arg3))) = (fun _ => 1#1)

def Pre_ConvGdnGradRefIdeal (m : (ℓ : Loc Cert.ConvGdnGradRefIdeal.nD Cert.ConvGdnGradRefIdeal.τ Cert.ConvGdnGradRefIdeal.sig) → Buf (Elt Ideal) ℓ) : Prop :=
  True

def Pre_ConvGdnGradRefIdeal_conv_gdn_finite [hPre_conv_gdn_finite : Cert.Pre_conv_gdn_finite.Facts] (m : (ℓ : Loc Cert.ConvGdnGradRefIdeal.nD Cert.ConvGdnGradRefIdeal.τ Cert.ConvGdnGradRefIdeal.sig) → Buf (Elt Ideal) ℓ) : Prop :=
  ∀ c : Dev Cert.ConvGdnGradRefIdeal.nD,
    (Cert.Pre_conv_gdn_finite.fn (F := Ideal) (m ((c.tc : Thread Cert.ConvGdnGradRefIdeal.nD Cert.ConvGdnGradRefIdeal.τ).loc Cert.ConvGdnGradRefIdeal.main_arg0)) (m ((c.tc : Thread Cert.ConvGdnGradRefIdeal.nD Cert.ConvGdnGradRefIdeal.τ).loc Cert.ConvGdnGradRefIdeal.main_arg1)) (m ((c.tc : Thread Cert.ConvGdnGradRefIdeal.nD Cert.ConvGdnGradRefIdeal.τ).loc Cert.ConvGdnGradRefIdeal.main_arg2)) (m ((c.tc : Thread Cert.ConvGdnGradRefIdeal.nD Cert.ConvGdnGradRefIdeal.τ).loc Cert.ConvGdnGradRefIdeal.main_arg3))) = (fun _ => 1#1)

def Pre_SsdGrad (m : (ℓ : Loc Cert.SsdGrad.nD Cert.SsdGrad.τ Cert.SsdGrad.sig) → Buf (Elt Bits) ℓ) : Prop :=
  True

def Pre_SsdGradIdeal (m : (ℓ : Loc Cert.SsdGradIdeal.nD Cert.SsdGradIdeal.τ Cert.SsdGradIdeal.sig) → Buf (Elt Ideal) ℓ) : Prop :=
  True

def Pre_SsdGradIdeal_ssd_finite [hPre_ssd_finite : Cert.Pre_ssd_finite.Facts] (m : (ℓ : Loc Cert.SsdGradIdeal.nD Cert.SsdGradIdeal.τ Cert.SsdGradIdeal.sig) → Buf (Elt Ideal) ℓ) : Prop :=
  ∀ c : Dev Cert.SsdGradIdeal.nD,
    (Cert.Pre_ssd_finite.fn (F := Ideal) (m ((c.tc : Thread Cert.SsdGradIdeal.nD Cert.SsdGradIdeal.τ).loc Cert.SsdGradIdeal.main_arg0)) (m ((c.tc : Thread Cert.SsdGradIdeal.nD Cert.SsdGradIdeal.τ).loc Cert.SsdGradIdeal.main_arg1)) (m ((c.tc : Thread Cert.SsdGradIdeal.nD Cert.SsdGradIdeal.τ).loc Cert.SsdGradIdeal.main_arg2)) (m ((c.tc : Thread Cert.SsdGradIdeal.nD Cert.SsdGradIdeal.τ).loc Cert.SsdGradIdeal.main_arg3)) (m ((c.tc : Thread Cert.SsdGradIdeal.nD Cert.SsdGradIdeal.τ).loc Cert.SsdGradIdeal.main_arg4)) (m ((c.tc : Thread Cert.SsdGradIdeal.nD Cert.SsdGradIdeal.τ).loc Cert.SsdGradIdeal.main_arg5)) (m ((c.tc : Thread Cert.SsdGradIdeal.nD Cert.SsdGradIdeal.τ).loc Cert.SsdGradIdeal.main_arg6)) (m ((c.tc : Thread Cert.SsdGradIdeal.nD Cert.SsdGradIdeal.τ).loc Cert.SsdGradIdeal.main_arg7)) (m ((c.tc : Thread Cert.SsdGradIdeal.nD Cert.SsdGradIdeal.τ).loc Cert.SsdGradIdeal.main_arg8)) (m ((c.tc : Thread Cert.SsdGradIdeal.nD Cert.SsdGradIdeal.τ).loc Cert.SsdGradIdeal.main_arg9))) = (fun _ => 1#1)

def Pre_SsdGradRefIdeal (m : (ℓ : Loc Cert.SsdGradRefIdeal.nD Cert.SsdGradRefIdeal.τ Cert.SsdGradRefIdeal.sig) → Buf (Elt Ideal) ℓ) : Prop :=
  True

def Pre_SsdGradRefIdeal_ssd_finite [hPre_ssd_finite : Cert.Pre_ssd_finite.Facts] (m : (ℓ : Loc Cert.SsdGradRefIdeal.nD Cert.SsdGradRefIdeal.τ Cert.SsdGradRefIdeal.sig) → Buf (Elt Ideal) ℓ) : Prop :=
  ∀ c : Dev Cert.SsdGradRefIdeal.nD,
    (Cert.Pre_ssd_finite.fn (F := Ideal) (m ((c.tc : Thread Cert.SsdGradRefIdeal.nD Cert.SsdGradRefIdeal.τ).loc Cert.SsdGradRefIdeal.main_arg0)) (m ((c.tc : Thread Cert.SsdGradRefIdeal.nD Cert.SsdGradRefIdeal.τ).loc Cert.SsdGradRefIdeal.main_arg1)) (m ((c.tc : Thread Cert.SsdGradRefIdeal.nD Cert.SsdGradRefIdeal.τ).loc Cert.SsdGradRefIdeal.main_arg2)) (m ((c.tc : Thread Cert.SsdGradRefIdeal.nD Cert.SsdGradRefIdeal.τ).loc Cert.SsdGradRefIdeal.main_arg3)) (m ((c.tc : Thread Cert.SsdGradRefIdeal.nD Cert.SsdGradRefIdeal.τ).loc Cert.SsdGradRefIdeal.main_arg4)) (m ((c.tc : Thread Cert.SsdGradRefIdeal.nD Cert.SsdGradRefIdeal.τ).loc Cert.SsdGradRefIdeal.main_arg5)) (m ((c.tc : Thread Cert.SsdGradRefIdeal.nD Cert.SsdGradRefIdeal.τ).loc Cert.SsdGradRefIdeal.main_arg6)) (m ((c.tc : Thread Cert.SsdGradRefIdeal.nD Cert.SsdGradRefIdeal.τ).loc Cert.SsdGradRefIdeal.main_arg7)) (m ((c.tc : Thread Cert.SsdGradRefIdeal.nD Cert.SsdGradRefIdeal.τ).loc Cert.SsdGradRefIdeal.main_arg8)) (m ((c.tc : Thread Cert.SsdGradRefIdeal.nD Cert.SsdGradRefIdeal.τ).loc Cert.SsdGradRefIdeal.main_arg9))) = (fun _ => 1#1)

def Pre_InProjGrad (m : (ℓ : Loc Cert.InProjGrad.nD Cert.InProjGrad.τ Cert.InProjGrad.sig) → Buf (Elt Bits) ℓ) : Prop :=
  True

def Pre_InProjGradIdeal (m : (ℓ : Loc Cert.InProjGradIdeal.nD Cert.InProjGradIdeal.τ Cert.InProjGradIdeal.sig) → Buf (Elt Ideal) ℓ) : Prop :=
  True

def Pre_InProjGradRefIdeal (m : (ℓ : Loc Cert.InProjGradRefIdeal.nD Cert.InProjGradRefIdeal.τ Cert.InProjGradRefIdeal.sig) → Buf (Elt Ideal) ℓ) : Prop :=
  True

def Pre_InProjDw (m : (ℓ : Loc Cert.InProjDw.nD Cert.InProjDw.τ Cert.InProjDw.sig) → Buf (Elt Bits) ℓ) : Prop :=
  True

def Pre_InProjDwIdeal (m : (ℓ : Loc Cert.InProjDwIdeal.nD Cert.InProjDwIdeal.τ Cert.InProjDwIdeal.sig) → Buf (Elt Ideal) ℓ) : Prop :=
  True

def Pre_InProjDwRefIdeal (m : (ℓ : Loc Cert.InProjDwRefIdeal.nD Cert.InProjDwRefIdeal.τ Cert.InProjDwRefIdeal.sig) → Buf (Elt Ideal) ℓ) : Prop :=
  True

def Pre_FfnInGrad (m : (ℓ : Loc Cert.FfnInGrad.nD Cert.FfnInGrad.τ Cert.FfnInGrad.sig) → Buf (Elt Bits) ℓ) : Prop :=
  True

def Pre_FfnInGradIdeal (m : (ℓ : Loc Cert.FfnInGradIdeal.nD Cert.FfnInGradIdeal.τ Cert.FfnInGradIdeal.sig) → Buf (Elt Ideal) ℓ) : Prop :=
  True

def Pre_FfnInGradRefIdeal (m : (ℓ : Loc Cert.FfnInGradRefIdeal.nD Cert.FfnInGradRefIdeal.τ Cert.FfnInGradRefIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def Pre_FfnDownDw (m : (ℓ : Loc Cert.FfnDownDw.nD Cert.FfnDownDw.τ Cert.FfnDownDw.sig) → Buf (Elt Bits) ℓ) : Prop :=
  True

def Pre_FfnDownDwIdeal (m : (ℓ : Loc Cert.FfnDownDwIdeal.nD Cert.FfnDownDwIdeal.τ Cert.FfnDownDwIdeal.sig) → Buf (Elt Ideal) ℓ) : Prop :=
  True

def Pre_FfnDownDwRefIdeal (m : (ℓ : Loc Cert.FfnDownDwRefIdeal.nD Cert.FfnDownDwRefIdeal.τ Cert.FfnDownDwRefIdeal.sig) → Buf (Elt Ideal) ℓ) : Prop :=
  True

def Pre_SquareDw (m : (ℓ : Loc Cert.SquareDw.nD Cert.SquareDw.τ Cert.SquareDw.sig) → Buf (Elt Bits) ℓ) : Prop :=
  True

def Pre_SquareDwIdeal (m : (ℓ : Loc Cert.SquareDwIdeal.nD Cert.SquareDwIdeal.τ Cert.SquareDwIdeal.sig) → Buf (Elt Ideal) ℓ) : Prop :=
  True

def Pre_SquareDwRefIdeal (m : (ℓ : Loc Cert.SquareDwRefIdeal.nD Cert.SquareDwRefIdeal.τ Cert.SquareDwRefIdeal.sig) → Buf (Elt Ideal) ℓ) : Prop :=
  True

def Pre_SquareGrad (m : (ℓ : Loc Cert.SquareGrad.nD Cert.SquareGrad.τ Cert.SquareGrad.sig) → Buf (Elt Bits) ℓ) : Prop :=
  True

def Pre_SquareGradIdeal (m : (ℓ : Loc Cert.SquareGradIdeal.nD Cert.SquareGradIdeal.τ Cert.SquareGradIdeal.sig) → Buf (Elt Ideal) ℓ) : Prop :=
  True

def Pre_SquareGradRefIdeal (m : (ℓ : Loc Cert.SquareGradRefIdeal.nD Cert.SquareGradRefIdeal.τ Cert.SquareGradRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_ProjSsm (m : (ℓ : Loc Cert.ProjSsm.nD Cert.ProjSsm.τ Cert.ProjSsm.sig) → Buf (Elt Bits) ℓ) : Prop :=
  True

def Pre_ProjSsmIdeal (m : (ℓ : Loc Cert.ProjSsmIdeal.nD Cert.ProjSsmIdeal.τ Cert.ProjSsmIdeal.sig) → Buf (Elt Ideal) ℓ) : Prop :=
  True

def Pre_ProjSsmRefIdeal (m : (ℓ : Loc Cert.ProjSsmRefIdeal.nD Cert.ProjSsmRefIdeal.τ Cert.ProjSsmRefIdeal.sig) → Buf (Elt Ideal) ℓ) : Prop :=
  True

def Pre_ProjMerge (m : (ℓ : Loc Cert.ProjMerge.nD Cert.ProjMerge.τ Cert.ProjMerge.sig) → Buf (Elt Bits) ℓ) : Prop :=
  True

def Pre_ProjMergeIdeal (m : (ℓ : Loc Cert.ProjMergeIdeal.nD Cert.ProjMergeIdeal.τ Cert.ProjMergeIdeal.sig) → Buf (Elt Ideal) ℓ) : Prop :=
  True

def Pre_ProjMergeRefIdeal (m : (ℓ : Loc Cert.ProjMergeRefIdeal.nD Cert.ProjMergeRefIdeal.τ Cert.ProjMergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_loss_finite [hPre_loss_finite : Cert.Pre_loss_finite.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))) = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_loss_finite [hPre_loss_finite : Cert.Pre_loss_finite.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))) = (fun _ => 1#1)

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_SumConvSsm (m : (ℓ : Loc Cert.SumConvSsm.nD Cert.SumConvSsm.τ Cert.SumConvSsm.sig) → Buf (Elt Bits) ℓ) : Prop :=
  True

def Pre_SumConvSsmIdeal (m : (ℓ : Loc Cert.SumConvSsmIdeal.nD Cert.SumConvSsmIdeal.τ Cert.SumConvSsmIdeal.sig) → Buf (Elt Ideal) ℓ) : Prop :=
  True

def Pre_SumConvSsmRefIdeal (m : (ℓ : Loc Cert.SumConvSsmRefIdeal.nD Cert.SumConvSsmRefIdeal.τ Cert.SumConvSsmRefIdeal.sig) → Buf (Elt Ideal) ℓ) : Prop :=
  True

def Pre_SumConvGdn (m : (ℓ : Loc Cert.SumConvGdn.nD Cert.SumConvGdn.τ Cert.SumConvGdn.sig) → Buf (Elt Bits) ℓ) : Prop :=
  True

def Pre_SumConvGdnIdeal (m : (ℓ : Loc Cert.SumConvGdnIdeal.nD Cert.SumConvGdnIdeal.τ Cert.SumConvGdnIdeal.sig) → Buf (Elt Ideal) ℓ) : Prop :=
  True

def Pre_SumConvGdnRefIdeal (m : (ℓ : Loc Cert.SumConvGdnRefIdeal.nD Cert.SumConvGdnRefIdeal.τ Cert.SumConvGdnRefIdeal.sig) → Buf (Elt Ideal) ℓ) : Prop :=
  True

def Pre_SumSquare (m : (ℓ : Loc Cert.SumSquare.nD Cert.SumSquare.τ Cert.SumSquare.sig) → Buf (Elt Bits) ℓ) : Prop :=
  True

def Pre_SumSquareIdeal (m : (ℓ : Loc Cert.SumSquareIdeal.nD Cert.SumSquareIdeal.τ Cert.SumSquareIdeal.sig) → Buf (Elt Ideal) ℓ) : Prop :=
  True

def Pre_SumSquareRefIdeal (m : (ℓ : Loc Cert.SumSquareRefIdeal.nD Cert.SumSquareRefIdeal.τ Cert.SumSquareRefIdeal.sig) → Buf (Elt Ideal) ℓ) : Prop :=
  True

def Pre_SumFfnDown (m : (ℓ : Loc Cert.SumFfnDown.nD Cert.SumFfnDown.τ Cert.SumFfnDown.sig) → Buf (Elt Bits) ℓ) : Prop :=
  True

def Pre_SumFfnDownIdeal (m : (ℓ : Loc Cert.SumFfnDownIdeal.nD Cert.SumFfnDownIdeal.τ Cert.SumFfnDownIdeal.sig) → Buf (Elt Ideal) ℓ) : Prop :=
  True

def Pre_SumFfnDownRefIdeal (m : (ℓ : Loc Cert.SumFfnDownRefIdeal.nD Cert.SumFfnDownRefIdeal.τ Cert.SumFfnDownRefIdeal.sig) → Buf (Elt Ideal) ℓ) : Prop :=
  True

def Pre_SumFfnIn (m : (ℓ : Loc Cert.SumFfnIn.nD Cert.SumFfnIn.τ Cert.SumFfnIn.sig) → Buf (Elt Bits) ℓ) : Prop :=
  True

def Pre_SumFfnInIdeal (m : (ℓ : Loc Cert.SumFfnInIdeal.nD Cert.SumFfnInIdeal.τ Cert.SumFfnInIdeal.sig) → Buf (Elt Ideal) ℓ) : Prop :=
  True

def Pre_SumFfnInRefIdeal (m : (ℓ : Loc Cert.SumFfnInRefIdeal.nD Cert.SumFfnInRefIdeal.τ Cert.SumFfnInRefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamConvB (m : (ℓ : Loc Cert.AdamConvB.nD Cert.AdamConvB.τ Cert.AdamConvB.sig) → Buf (Elt Bits) ℓ) : Prop :=
  True

def Pre_AdamConvBIdeal (m : (ℓ : Loc Cert.AdamConvBIdeal.nD Cert.AdamConvBIdeal.τ Cert.AdamConvBIdeal.sig) → Buf (Elt Ideal) ℓ) : Prop :=
  True

def Pre_AdamConvBRefIdeal (m : (ℓ : Loc Cert.AdamConvBRefIdeal.nD Cert.AdamConvBRefIdeal.τ Cert.AdamConvBRefIdeal.sig) → Buf (Elt Ideal) ℓ) : Prop :=
  True

def Pre_AdamHeads (m : (ℓ : Loc Cert.AdamHeads.nD Cert.AdamHeads.τ Cert.AdamHeads.sig) → Buf (Elt Bits) ℓ) : Prop :=
  True

def Pre_AdamHeadsIdeal (m : (ℓ : Loc Cert.AdamHeadsIdeal.nD Cert.AdamHeadsIdeal.τ Cert.AdamHeadsIdeal.sig) → Buf (Elt Ideal) ℓ) : Prop :=
  True

def Pre_AdamHeadsRefIdeal (m : (ℓ : Loc Cert.AdamHeadsRefIdeal.nD Cert.AdamHeadsRefIdeal.τ Cert.AdamHeadsRefIdeal.sig) → Buf (Elt Ideal) ℓ) : Prop :=
  True

def Pre_AdamGdnHeads (m : (ℓ : Loc Cert.AdamGdnHeads.nD Cert.AdamGdnHeads.τ Cert.AdamGdnHeads.sig) → Buf (Elt Bits) ℓ) : Prop :=
  True

def Pre_AdamGdnHeadsIdeal (m : (ℓ : Loc Cert.AdamGdnHeadsIdeal.nD Cert.AdamGdnHeadsIdeal.τ Cert.AdamGdnHeadsIdeal.sig) → Buf (Elt Ideal) ℓ) : Prop :=
  True

def Pre_AdamGdnHeadsRefIdeal (m : (ℓ : Loc Cert.AdamGdnHeadsRefIdeal.nD Cert.AdamGdnHeadsRefIdeal.τ Cert.AdamGdnHeadsRefIdeal.sig) → Buf (Elt Ideal) ℓ) : Prop :=
  True

def Pre_AdamGdnNorm (m : (ℓ : Loc Cert.AdamGdnNorm.nD Cert.AdamGdnNorm.τ Cert.AdamGdnNorm.sig) → Buf (Elt Bits) ℓ) : Prop :=
  True

def Pre_AdamGdnNormIdeal (m : (ℓ : Loc Cert.AdamGdnNormIdeal.nD Cert.AdamGdnNormIdeal.τ Cert.AdamGdnNormIdeal.sig) → Buf (Elt Ideal) ℓ) : Prop :=
  True

def Pre_AdamGdnNormRefIdeal (m : (ℓ : Loc Cert.AdamGdnNormRefIdeal.nD Cert.AdamGdnNormRefIdeal.τ Cert.AdamGdnNormRefIdeal.sig) → Buf (Elt Ideal) ℓ) : Prop :=
  True

def Pre_AdamFinal (m : (ℓ : Loc Cert.AdamFinal.nD Cert.AdamFinal.τ Cert.AdamFinal.sig) → Buf (Elt Bits) ℓ) : Prop :=
  True

def Pre_AdamFinalIdeal (m : (ℓ : Loc Cert.AdamFinalIdeal.nD Cert.AdamFinalIdeal.τ Cert.AdamFinalIdeal.sig) → Buf (Elt Ideal) ℓ) : Prop :=
  True

def Pre_AdamFinalRefIdeal (m : (ℓ : Loc Cert.AdamFinalRefIdeal.nD Cert.AdamFinalRefIdeal.τ Cert.AdamFinalRefIdeal.sig) → Buf (Elt Ideal) ℓ) : Prop :=
  True

def Pre_AdamConvSsm (m : (ℓ : Loc Cert.AdamConvSsm.nD Cert.AdamConvSsm.τ Cert.AdamConvSsm.sig) → Buf (Elt Bits) ℓ) : Prop :=
  True

def Pre_AdamConvSsmIdeal (m : (ℓ : Loc Cert.AdamConvSsmIdeal.nD Cert.AdamConvSsmIdeal.τ Cert.AdamConvSsmIdeal.sig) → Buf (Elt Ideal) ℓ) : Prop :=
  True

def Pre_AdamConvSsmRefIdeal (m : (ℓ : Loc Cert.AdamConvSsmRefIdeal.nD Cert.AdamConvSsmRefIdeal.τ Cert.AdamConvSsmRefIdeal.sig) → Buf (Elt Ideal) ℓ) : Prop :=
  True

def Pre_AdamConvGdn (m : (ℓ : Loc Cert.AdamConvGdn.nD Cert.AdamConvGdn.τ Cert.AdamConvGdn.sig) → Buf (Elt Bits) ℓ) : Prop :=
  True

def Pre_AdamConvGdnIdeal (m : (ℓ : Loc Cert.AdamConvGdnIdeal.nD Cert.AdamConvGdnIdeal.τ Cert.AdamConvGdnIdeal.sig) → Buf (Elt Ideal) ℓ) : Prop :=
  True

def Pre_AdamConvGdnRefIdeal (m : (ℓ : Loc Cert.AdamConvGdnRefIdeal.nD Cert.AdamConvGdnRefIdeal.τ Cert.AdamConvGdnRefIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareRefIdeal (m : (ℓ : Loc Cert.AdamSquareRefIdeal.nD Cert.AdamSquareRefIdeal.τ Cert.AdamSquareRefIdeal.sig) → Buf (Elt Ideal) ℓ) : Prop :=
  True

def Pre_AdamFfnDown (m : (ℓ : Loc Cert.AdamFfnDown.nD Cert.AdamFfnDown.τ Cert.AdamFfnDown.sig) → Buf (Elt Bits) ℓ) : Prop :=
  True

def Pre_AdamFfnDownIdeal (m : (ℓ : Loc Cert.AdamFfnDownIdeal.nD Cert.AdamFfnDownIdeal.τ Cert.AdamFfnDownIdeal.sig) → Buf (Elt Ideal) ℓ) : Prop :=
  True

def Pre_AdamFfnDownRefIdeal (m : (ℓ : Loc Cert.AdamFfnDownRefIdeal.nD Cert.AdamFfnDownRefIdeal.τ Cert.AdamFfnDownRefIdeal.sig) → Buf (Elt Ideal) ℓ) : Prop :=
  True

def Pre_AdamFfnIn (m : (ℓ : Loc Cert.AdamFfnIn.nD Cert.AdamFfnIn.τ Cert.AdamFfnIn.sig) → Buf (Elt Bits) ℓ) : Prop :=
  True

def Pre_AdamFfnInIdeal (m : (ℓ : Loc Cert.AdamFfnInIdeal.nD Cert.AdamFfnInIdeal.τ Cert.AdamFfnInIdeal.sig) → Buf (Elt Ideal) ℓ) : Prop :=
  True

def Pre_AdamFfnInRefIdeal (m : (ℓ : Loc Cert.AdamFfnInRefIdeal.nD Cert.AdamFfnInRefIdeal.τ Cert.AdamFfnInRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def quiescent_FfnActGrad [hFfnActGrad : Cert.FfnActGrad.Facts] : Prop :=
  ∀ (m : (ℓ : Loc Cert.FfnActGrad.nD Cert.FfnActGrad.τ Cert.FfnActGrad.sig) → Buf (Elt Bits) ℓ) (g : Dev Cert.FfnActGrad.nD → PrngReg), Pre_FfnActGrad m →
    θ_run (Cert.FfnActGrad.defs (F := Bits)) (onTc (τ := Cert.FfnActGrad.τ) (Cert.FfnActGrad.main (F := Bits))) ⟨m, fun _ => 0, g⟩ (fun r => (∀ c : Dev Cert.FfnActGrad.nD,
      r.2.mem ((c.tc : Thread Cert.FfnActGrad.nD Cert.FfnActGrad.τ).loc Cert.FfnActGrad.main_arg0) = m ((c.tc : Thread Cert.FfnActGrad.nD Cert.FfnActGrad.τ).loc Cert.FfnActGrad.main_arg0)
      ∧ r.2.mem ((c.tc : Thread Cert.FfnActGrad.nD Cert.FfnActGrad.τ).loc Cert.FfnActGrad.main_arg1) = m ((c.tc : Thread Cert.FfnActGrad.nD Cert.FfnActGrad.τ).loc Cert.FfnActGrad.main_arg1)
      ∧ r.2.mem ((c.tc : Thread Cert.FfnActGrad.nD Cert.FfnActGrad.τ).loc Cert.FfnActGrad.main_arg2) = m ((c.tc : Thread Cert.FfnActGrad.nD Cert.FfnActGrad.τ).loc Cert.FfnActGrad.main_arg2)
      ∧ r.2.mem ((c.tc : Thread Cert.FfnActGrad.nD Cert.FfnActGrad.τ).loc Cert.FfnActGrad.main_arg3) = m ((c.tc : Thread Cert.FfnActGrad.nD Cert.FfnActGrad.τ).loc Cert.FfnActGrad.main_arg3))
      ∧ r.2.sem = fun _ => 0)

def quiescent_FfnActGradIdeal [hFfnActGradIdeal : Cert.FfnActGradIdeal.Facts] : Prop :=
  ∀ (m : (ℓ : Loc Cert.FfnActGradIdeal.nD Cert.FfnActGradIdeal.τ Cert.FfnActGradIdeal.sig) → Buf (Elt Ideal) ℓ) (g : Dev Cert.FfnActGradIdeal.nD → PrngReg), Pre_FfnActGradIdeal m →
    θ_run (Cert.FfnActGradIdeal.defs (F := Ideal)) (onTc (τ := Cert.FfnActGradIdeal.τ) (Cert.FfnActGradIdeal.main (F := Ideal))) ⟨m, fun _ => 0, g⟩ (fun r => (∀ c : Dev Cert.FfnActGradIdeal.nD,
      r.2.mem ((c.tc : Thread Cert.FfnActGradIdeal.nD Cert.FfnActGradIdeal.τ).loc Cert.FfnActGradIdeal.main_arg0) = m ((c.tc : Thread Cert.FfnActGradIdeal.nD Cert.FfnActGradIdeal.τ).loc Cert.FfnActGradIdeal.main_arg0)
      ∧ r.2.mem ((c.tc : Thread Cert.FfnActGradIdeal.nD Cert.FfnActGradIdeal.τ).loc Cert.FfnActGradIdeal.main_arg1) = m ((c.tc : Thread Cert.FfnActGradIdeal.nD Cert.FfnActGradIdeal.τ).loc Cert.FfnActGradIdeal.main_arg1)
      ∧ r.2.mem ((c.tc : Thread Cert.FfnActGradIdeal.nD Cert.FfnActGradIdeal.τ).loc Cert.FfnActGradIdeal.main_arg2) = m ((c.tc : Thread Cert.FfnActGradIdeal.nD Cert.FfnActGradIdeal.τ).loc Cert.FfnActGradIdeal.main_arg2)
      ∧ r.2.mem ((c.tc : Thread Cert.FfnActGradIdeal.nD Cert.FfnActGradIdeal.τ).loc Cert.FfnActGradIdeal.main_arg3) = m ((c.tc : Thread Cert.FfnActGradIdeal.nD Cert.FfnActGradIdeal.τ).loc Cert.FfnActGradIdeal.main_arg3))
      ∧ r.2.sem = fun _ => 0)

def quiescent_FfnActGradIdeal_pre_ffn_finite [hFfnActGradIdeal : Cert.FfnActGradIdeal.Facts] [hPre_ffn_finite : Cert.Pre_ffn_finite.Facts] : Prop :=
  ∀ (m : (ℓ : Loc Cert.FfnActGradIdeal.nD Cert.FfnActGradIdeal.τ Cert.FfnActGradIdeal.sig) → Buf (Elt Ideal) ℓ) (g : Dev Cert.FfnActGradIdeal.nD → PrngReg), Pre_FfnActGradIdeal_ffn_finite m →
    θ_run (Cert.FfnActGradIdeal.defs (F := Ideal)) (onTc (τ := Cert.FfnActGradIdeal.τ) (Cert.FfnActGradIdeal.main (F := Ideal))) ⟨m, fun _ => 0, g⟩ (fun r => (∀ c : Dev Cert.FfnActGradIdeal.nD,
      r.2.mem ((c.tc : Thread Cert.FfnActGradIdeal.nD Cert.FfnActGradIdeal.τ).loc Cert.FfnActGradIdeal.main_arg0) = m ((c.tc : Thread Cert.FfnActGradIdeal.nD Cert.FfnActGradIdeal.τ).loc Cert.FfnActGradIdeal.main_arg0)
      ∧ r.2.mem ((c.tc : Thread Cert.FfnActGradIdeal.nD Cert.FfnActGradIdeal.τ).loc Cert.FfnActGradIdeal.main_arg1) = m ((c.tc : Thread Cert.FfnActGradIdeal.nD Cert.FfnActGradIdeal.τ).loc Cert.FfnActGradIdeal.main_arg1)
      ∧ r.2.mem ((c.tc : Thread Cert.FfnActGradIdeal.nD Cert.FfnActGradIdeal.τ).loc Cert.FfnActGradIdeal.main_arg2) = m ((c.tc : Thread Cert.FfnActGradIdeal.nD Cert.FfnActGradIdeal.τ).loc Cert.FfnActGradIdeal.main_arg2)
      ∧ r.2.mem ((c.tc : Thread Cert.FfnActGradIdeal.nD Cert.FfnActGradIdeal.τ).loc Cert.FfnActGradIdeal.main_arg3) = m ((c.tc : Thread Cert.FfnActGradIdeal.nD Cert.FfnActGradIdeal.τ).loc Cert.FfnActGradIdeal.main_arg3))
      ∧ r.2.sem = fun _ => 0)

def quiescent_FfnActGradRefIdeal [hFfnActGradRefIdeal : Cert.FfnActGradRefIdeal.Facts] : Prop :=
  ∀ (m : (ℓ : Loc Cert.FfnActGradRefIdeal.nD Cert.FfnActGradRefIdeal.τ Cert.FfnActGradRefIdeal.sig) → Buf (Elt Ideal) ℓ) (g : Dev Cert.FfnActGradRefIdeal.nD → PrngReg), Pre_FfnActGradRefIdeal m →
    θ_run (Cert.FfnActGradRefIdeal.defs (F := Ideal)) (onTc (τ := Cert.FfnActGradRefIdeal.τ) (Cert.FfnActGradRefIdeal.main (F := Ideal))) ⟨m, fun _ => 0, g⟩ (fun r => (∀ c : Dev Cert.FfnActGradRefIdeal.nD,
      r.2.mem ((c.tc : Thread Cert.FfnActGradRefIdeal.nD Cert.FfnActGradRefIdeal.τ).loc Cert.FfnActGradRefIdeal.main_arg0) = m ((c.tc : Thread Cert.FfnActGradRefIdeal.nD Cert.FfnActGradRefIdeal.τ).loc Cert.FfnActGradRefIdeal.main_arg0)
      ∧ r.2.mem ((c.tc : Thread Cert.FfnActGradRefIdeal.nD Cert.FfnActGradRefIdeal.τ).loc Cert.FfnActGradRefIdeal.main_arg1) = m ((c.tc : Thread Cert.FfnActGradRefIdeal.nD Cert.FfnActGradRefIdeal.τ).loc Cert.FfnActGradRefIdeal.main_arg1)
      ∧ r.2.mem ((c.tc : Thread Cert.FfnActGradRefIdeal.nD Cert.FfnActGradRefIdeal.τ).loc Cert.FfnActGradRefIdeal.main_arg2) = m ((c.tc : Thread Cert.FfnActGradRefIdeal.nD Cert.FfnActGradRefIdeal.τ).loc Cert.FfnActGradRefIdeal.main_arg2)
      ∧ r.2.mem ((c.tc : Thread Cert.FfnActGradRefIdeal.nD Cert.FfnActGradRefIdeal.τ).loc Cert.FfnActGradRefIdeal.main_arg3) = m ((c.tc : Thread Cert.FfnActGradRefIdeal.nD Cert.FfnActGradRefIdeal.τ).loc Cert.FfnActGradRefIdeal.main_arg3))
      ∧ r.2.sem = fun _ => 0)

def quiescent_FfnActGradRefIdeal_pre_ffn_finite [hFfnActGradRefIdeal : Cert.FfnActGradRefIdeal.Facts] [hPre_ffn_finite : Cert.Pre_ffn_finite.Facts] : Prop :=
  ∀ (m : (ℓ : Loc Cert.FfnActGradRefIdeal.nD Cert.FfnActGradRefIdeal.τ Cert.FfnActGradRefIdeal.sig) → Buf (Elt Ideal) ℓ) (g : Dev Cert.FfnActGradRefIdeal.nD → PrngReg), Pre_FfnActGradRefIdeal_ffn_finite m →
    θ_run (Cert.FfnActGradRefIdeal.defs (F := Ideal)) (onTc (τ := Cert.FfnActGradRefIdeal.τ) (Cert.FfnActGradRefIdeal.main (F := Ideal))) ⟨m, fun _ => 0, g⟩ (fun r => (∀ c : Dev Cert.FfnActGradRefIdeal.nD,
      r.2.mem ((c.tc : Thread Cert.FfnActGradRefIdeal.nD Cert.FfnActGradRefIdeal.τ).loc Cert.FfnActGradRefIdeal.main_arg0) = m ((c.tc : Thread Cert.FfnActGradRefIdeal.nD Cert.FfnActGradRefIdeal.τ).loc Cert.FfnActGradRefIdeal.main_arg0)
      ∧ r.2.mem ((c.tc : Thread Cert.FfnActGradRefIdeal.nD Cert.FfnActGradRefIdeal.τ).loc Cert.FfnActGradRefIdeal.main_arg1) = m ((c.tc : Thread Cert.FfnActGradRefIdeal.nD Cert.FfnActGradRefIdeal.τ).loc Cert.FfnActGradRefIdeal.main_arg1)
      ∧ r.2.mem ((c.tc : Thread Cert.FfnActGradRefIdeal.nD Cert.FfnActGradRefIdeal.τ).loc Cert.FfnActGradRefIdeal.main_arg2) = m ((c.tc : Thread Cert.FfnActGradRefIdeal.nD Cert.FfnActGradRefIdeal.τ).loc Cert.FfnActGradRefIdeal.main_arg2)
      ∧ r.2.mem ((c.tc : Thread Cert.FfnActGradRefIdeal.nD Cert.FfnActGradRefIdeal.τ).loc Cert.FfnActGradRefIdeal.main_arg3) = m ((c.tc : Thread Cert.FfnActGradRefIdeal.nD Cert.FfnActGradRefIdeal.τ).loc Cert.FfnActGradRefIdeal.main_arg3))
      ∧ r.2.sem = fun _ => 0)

def quiescent_MergeGrad [hMergeGrad : Cert.MergeGrad.Facts] : Prop :=
  ∀ (m : (ℓ : Loc Cert.MergeGrad.nD Cert.MergeGrad.τ Cert.MergeGrad.sig) → Buf (Elt Bits) ℓ) (g : Dev Cert.MergeGrad.nD → PrngReg), Pre_MergeGrad m →
    θ_run (Cert.MergeGrad.defs (F := Bits)) (onTc (τ := Cert.MergeGrad.τ) (Cert.MergeGrad.main (F := Bits))) ⟨m, fun _ => 0, g⟩ (fun r => (∀ c : Dev Cert.MergeGrad.nD,
      r.2.mem ((c.tc : Thread Cert.MergeGrad.nD Cert.MergeGrad.τ).loc Cert.MergeGrad.main_arg0) = m ((c.tc : Thread Cert.MergeGrad.nD Cert.MergeGrad.τ).loc Cert.MergeGrad.main_arg0)
      ∧ r.2.mem ((c.tc : Thread Cert.MergeGrad.nD Cert.MergeGrad.τ).loc Cert.MergeGrad.main_arg1) = m ((c.tc : Thread Cert.MergeGrad.nD Cert.MergeGrad.τ).loc Cert.MergeGrad.main_arg1)
      ∧ r.2.mem ((c.tc : Thread Cert.MergeGrad.nD Cert.MergeGrad.τ).loc Cert.MergeGrad.main_arg2) = m ((c.tc : Thread Cert.MergeGrad.nD Cert.MergeGrad.τ).loc Cert.MergeGrad.main_arg2)
      ∧ r.2.mem ((c.tc : Thread Cert.MergeGrad.nD Cert.MergeGrad.τ).loc Cert.MergeGrad.main_arg3) = m ((c.tc : Thread Cert.MergeGrad.nD Cert.MergeGrad.τ).loc Cert.MergeGrad.main_arg3)
      ∧ r.2.mem ((c.tc : Thread Cert.MergeGrad.nD Cert.MergeGrad.τ).loc Cert.MergeGrad.main_arg4) = m ((c.tc : Thread Cert.MergeGrad.nD Cert.MergeGrad.τ).loc Cert.MergeGrad.main_arg4))
      ∧ r.2.sem = fun _ => 0)

def quiescent_MergeGradIdeal [hMergeGradIdeal : Cert.MergeGradIdeal.Facts] : Prop :=
  ∀ (m : (ℓ : Loc Cert.MergeGradIdeal.nD Cert.MergeGradIdeal.τ Cert.MergeGradIdeal.sig) → Buf (Elt Ideal) ℓ) (g : Dev Cert.MergeGradIdeal.nD → PrngReg), Pre_MergeGradIdeal m →
    θ_run (Cert.MergeGradIdeal.defs (F := Ideal)) (onTc (τ := Cert.MergeGradIdeal.τ) (Cert.MergeGradIdeal.main (F := Ideal))) ⟨m, fun _ => 0, g⟩ (fun r => (∀ c : Dev Cert.MergeGradIdeal.nD,
      r.2.mem ((c.tc : Thread Cert.MergeGradIdeal.nD Cert.MergeGradIdeal.τ).loc Cert.MergeGradIdeal.main_arg0) = m ((c.tc : Thread Cert.MergeGradIdeal.nD Cert.MergeGradIdeal.τ).loc Cert.MergeGradIdeal.main_arg0)
      ∧ r.2.mem ((c.tc : Thread Cert.MergeGradIdeal.nD Cert.MergeGradIdeal.τ).loc Cert.MergeGradIdeal.main_arg1) = m ((c.tc : Thread Cert.MergeGradIdeal.nD Cert.MergeGradIdeal.τ).loc Cert.MergeGradIdeal.main_arg1)
      ∧ r.2.mem ((c.tc : Thread Cert.MergeGradIdeal.nD Cert.MergeGradIdeal.τ).loc Cert.MergeGradIdeal.main_arg2) = m ((c.tc : Thread Cert.MergeGradIdeal.nD Cert.MergeGradIdeal.τ).loc Cert.MergeGradIdeal.main_arg2)
      ∧ r.2.mem ((c.tc : Thread Cert.MergeGradIdeal.nD Cert.MergeGradIdeal.τ).loc Cert.MergeGradIdeal.main_arg3) = m ((c.tc : Thread Cert.MergeGradIdeal.nD Cert.MergeGradIdeal.τ).loc Cert.MergeGradIdeal.main_arg3)
      ∧ r.2.mem ((c.tc : Thread Cert.MergeGradIdeal.nD Cert.MergeGradIdeal.τ).loc Cert.MergeGradIdeal.main_arg4) = m ((c.tc : Thread Cert.MergeGradIdeal.nD Cert.MergeGradIdeal.τ).loc Cert.MergeGradIdeal.main_arg4))
      ∧ r.2.sem = fun _ => 0)

def quiescent_MergeGradRefIdeal [hMergeGradRefIdeal : Cert.MergeGradRefIdeal.Facts] : Prop :=
  ∀ (m : (ℓ : Loc Cert.MergeGradRefIdeal.nD Cert.MergeGradRefIdeal.τ Cert.MergeGradRefIdeal.sig) → Buf (Elt Ideal) ℓ) (g : Dev Cert.MergeGradRefIdeal.nD → PrngReg), Pre_MergeGradRefIdeal m →
    θ_run (Cert.MergeGradRefIdeal.defs (F := Ideal)) (onTc (τ := Cert.MergeGradRefIdeal.τ) (Cert.MergeGradRefIdeal.main (F := Ideal))) ⟨m, fun _ => 0, g⟩ (fun r => (∀ c : Dev Cert.MergeGradRefIdeal.nD,
      r.2.mem ((c.tc : Thread Cert.MergeGradRefIdeal.nD Cert.MergeGradRefIdeal.τ).loc Cert.MergeGradRefIdeal.main_arg0) = m ((c.tc : Thread Cert.MergeGradRefIdeal.nD Cert.MergeGradRefIdeal.τ).loc Cert.MergeGradRefIdeal.main_arg0)
      ∧ r.2.mem ((c.tc : Thread Cert.MergeGradRefIdeal.nD Cert.MergeGradRefIdeal.τ).loc Cert.MergeGradRefIdeal.main_arg1) = m ((c.tc : Thread Cert.MergeGradRefIdeal.nD Cert.MergeGradRefIdeal.τ).loc Cert.MergeGradRefIdeal.main_arg1)
      ∧ r.2.mem ((c.tc : Thread Cert.MergeGradRefIdeal.nD Cert.MergeGradRefIdeal.τ).loc Cert.MergeGradRefIdeal.main_arg2) = m ((c.tc : Thread Cert.MergeGradRefIdeal.nD Cert.MergeGradRefIdeal.τ).loc Cert.MergeGradRefIdeal.main_arg2)
      ∧ r.2.mem ((c.tc : Thread Cert.MergeGradRefIdeal.nD Cert.MergeGradRefIdeal.τ).loc Cert.MergeGradRefIdeal.main_arg3) = m ((c.tc : Thread Cert.MergeGradRefIdeal.nD Cert.MergeGradRefIdeal.τ).loc Cert.MergeGradRefIdeal.main_arg3)
      ∧ r.2.mem ((c.tc : Thread Cert.MergeGradRefIdeal.nD Cert.MergeGradRefIdeal.τ).loc Cert.MergeGradRefIdeal.main_arg4) = m ((c.tc : Thread Cert.MergeGradRefIdeal.nD Cert.MergeGradRefIdeal.τ).loc Cert.MergeGradRefIdeal.main_arg4))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ r.2.sem = fun _ => 0)

def quiescent_NormGradIdeal_pre_norm_finite [hNormGradIdeal : Cert.NormGradIdeal.Facts] [hPre_norm_finite : Cert.Pre_norm_finite.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal_norm_finite m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ r.2.sem = fun _ => 0)

def quiescent_NormGradRefIdeal [hNormGradRefIdeal : Cert.NormGradRefIdeal.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3))
      ∧ r.2.sem = fun _ => 0)

def quiescent_NormGradRefIdeal_pre_norm_finite [hNormGradRefIdeal : Cert.NormGradRefIdeal.Facts] [hPre_norm_finite : Cert.Pre_norm_finite.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal_norm_finite m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3))
      ∧ r.2.sem = fun _ => 0)

def quiescent_ConvSsmGrad [hConvSsmGrad : Cert.ConvSsmGrad.Facts] : Prop :=
  ∀ (m : (ℓ : Loc Cert.ConvSsmGrad.nD Cert.ConvSsmGrad.τ Cert.ConvSsmGrad.sig) → Buf (Elt Bits) ℓ) (g : Dev Cert.ConvSsmGrad.nD → PrngReg), Pre_ConvSsmGrad m →
    θ_run (Cert.ConvSsmGrad.defs (F := Bits)) (onTc (τ := Cert.ConvSsmGrad.τ) (Cert.ConvSsmGrad.main (F := Bits))) ⟨m, fun _ => 0, g⟩ (fun r => (∀ c : Dev Cert.ConvSsmGrad.nD,
      r.2.mem ((c.tc : Thread Cert.ConvSsmGrad.nD Cert.ConvSsmGrad.τ).loc Cert.ConvSsmGrad.main_arg0) = m ((c.tc : Thread Cert.ConvSsmGrad.nD Cert.ConvSsmGrad.τ).loc Cert.ConvSsmGrad.main_arg0)
      ∧ r.2.mem ((c.tc : Thread Cert.ConvSsmGrad.nD Cert.ConvSsmGrad.τ).loc Cert.ConvSsmGrad.main_arg1) = m ((c.tc : Thread Cert.ConvSsmGrad.nD Cert.ConvSsmGrad.τ).loc Cert.ConvSsmGrad.main_arg1)
      ∧ r.2.mem ((c.tc : Thread Cert.ConvSsmGrad.nD Cert.ConvSsmGrad.τ).loc Cert.ConvSsmGrad.main_arg2) = m ((c.tc : Thread Cert.ConvSsmGrad.nD Cert.ConvSsmGrad.τ).loc Cert.ConvSsmGrad.main_arg2)
      ∧ r.2.mem ((c.tc : Thread Cert.ConvSsmGrad.nD Cert.ConvSsmGrad.τ).loc Cert.ConvSsmGrad.main_arg3) = m ((c.tc : Thread Cert.ConvSsmGrad.nD Cert.ConvSsmGrad.τ).loc Cert.ConvSsmGrad.main_arg3)
      ∧ r.2.mem ((c.tc : Thread Cert.ConvSsmGrad.nD Cert.ConvSsmGrad.τ).loc Cert.ConvSsmGrad.main_arg4) = m ((c.tc : Thread Cert.ConvSsmGrad.nD Cert.ConvSsmGrad.τ).loc Cert.ConvSsmGrad.main_arg4))
      ∧ r.2.sem = fun _ => 0)

def quiescent_ConvSsmGradIdeal [hConvSsmGradIdeal : Cert.ConvSsmGradIdeal.Facts] : Prop :=
  ∀ (m : (ℓ : Loc Cert.ConvSsmGradIdeal.nD Cert.ConvSsmGradIdeal.τ Cert.ConvSsmGradIdeal.sig) → Buf (Elt Ideal) ℓ) (g : Dev Cert.ConvSsmGradIdeal.nD → PrngReg), Pre_ConvSsmGradIdeal m →
    θ_run (Cert.ConvSsmGradIdeal.defs (F := Ideal)) (onTc (τ := Cert.ConvSsmGradIdeal.τ) (Cert.ConvSsmGradIdeal.main (F := Ideal))) ⟨m, fun _ => 0, g⟩ (fun r => (∀ c : Dev Cert.ConvSsmGradIdeal.nD,
      r.2.mem ((c.tc : Thread Cert.ConvSsmGradIdeal.nD Cert.ConvSsmGradIdeal.τ).loc Cert.ConvSsmGradIdeal.main_arg0) = m ((c.tc : Thread Cert.ConvSsmGradIdeal.nD Cert.ConvSsmGradIdeal.τ).loc Cert.ConvSsmGradIdeal.main_arg0)
      ∧ r.2.mem ((c.tc : Thread Cert.ConvSsmGradIdeal.nD Cert.ConvSsmGradIdeal.τ).loc Cert.ConvSsmGradIdeal.main_arg1) = m ((c.tc : Thread Cert.ConvSsmGradIdeal.nD Cert.ConvSsmGradIdeal.τ).loc Cert.ConvSsmGradIdeal.main_arg1)
      ∧ r.2.mem ((c.tc : Thread Cert.ConvSsmGradIdeal.nD Cert.ConvSsmGradIdeal.τ).loc Cert.ConvSsmGradIdeal.main_arg2) = m ((c.tc : Thread Cert.ConvSsmGradIdeal.nD Cert.ConvSsmGradIdeal.τ).loc Cert.ConvSsmGradIdeal.main_arg2)
      ∧ r.2.mem ((c.tc : Thread Cert.ConvSsmGradIdeal.nD Cert.ConvSsmGradIdeal.τ).loc Cert.ConvSsmGradIdeal.main_arg3) = m ((c.tc : Thread Cert.ConvSsmGradIdeal.nD Cert.ConvSsmGradIdeal.τ).loc Cert.ConvSsmGradIdeal.main_arg3)
      ∧ r.2.mem ((c.tc : Thread Cert.ConvSsmGradIdeal.nD Cert.ConvSsmGradIdeal.τ).loc Cert.ConvSsmGradIdeal.main_arg4) = m ((c.tc : Thread Cert.ConvSsmGradIdeal.nD Cert.ConvSsmGradIdeal.τ).loc Cert.ConvSsmGradIdeal.main_arg4))
      ∧ r.2.sem = fun _ => 0)

def quiescent_ConvSsmGradIdeal_pre_conv_ssm_finite [hConvSsmGradIdeal : Cert.ConvSsmGradIdeal.Facts] [hPre_conv_ssm_finite : Cert.Pre_conv_ssm_finite.Facts] : Prop :=
  ∀ (m : (ℓ : Loc Cert.ConvSsmGradIdeal.nD Cert.ConvSsmGradIdeal.τ Cert.ConvSsmGradIdeal.sig) → Buf (Elt Ideal) ℓ) (g : Dev Cert.ConvSsmGradIdeal.nD → PrngReg), Pre_ConvSsmGradIdeal_conv_ssm_finite m →
    θ_run (Cert.ConvSsmGradIdeal.defs (F := Ideal)) (onTc (τ := Cert.ConvSsmGradIdeal.τ) (Cert.ConvSsmGradIdeal.main (F := Ideal))) ⟨m, fun _ => 0, g⟩ (fun r => (∀ c : Dev Cert.ConvSsmGradIdeal.nD,
      r.2.mem ((c.tc : Thread Cert.ConvSsmGradIdeal.nD Cert.ConvSsmGradIdeal.τ).loc Cert.ConvSsmGradIdeal.main_arg0) = m ((c.tc : Thread Cert.ConvSsmGradIdeal.nD Cert.ConvSsmGradIdeal.τ).loc Cert.ConvSsmGradIdeal.main_arg0)
      ∧ r.2.mem ((c.tc : Thread Cert.ConvSsmGradIdeal.nD Cert.ConvSsmGradIdeal.τ).loc Cert.ConvSsmGradIdeal.main_arg1) = m ((c.tc : Thread Cert.ConvSsmGradIdeal.nD Cert.ConvSsmGradIdeal.τ).loc Cert.ConvSsmGradIdeal.main_arg1)
      ∧ r.2.mem ((c.tc : Thread Cert.ConvSsmGradIdeal.nD Cert.ConvSsmGradIdeal.τ).loc Cert.ConvSsmGradIdeal.main_arg2) = m ((c.tc : Thread Cert.ConvSsmGradIdeal.nD Cert.ConvSsmGradIdeal.τ).loc Cert.ConvSsmGradIdeal.main_arg2)
      ∧ r.2.mem ((c.tc : Thread Cert.ConvSsmGradIdeal.nD Cert.ConvSsmGradIdeal.τ).loc Cert.ConvSsmGradIdeal.main_arg3) = m ((c.tc : Thread Cert.ConvSsmGradIdeal.nD Cert.ConvSsmGradIdeal.τ).loc Cert.ConvSsmGradIdeal.main_arg3)
      ∧ r.2.mem ((c.tc : Thread Cert.ConvSsmGradIdeal.nD Cert.ConvSsmGradIdeal.τ).loc Cert.ConvSsmGradIdeal.main_arg4) = m ((c.tc : Thread Cert.ConvSsmGradIdeal.nD Cert.ConvSsmGradIdeal.τ).loc Cert.ConvSsmGradIdeal.main_arg4))
      ∧ r.2.sem = fun _ => 0)

def quiescent_ConvSsmGradRefIdeal [hConvSsmGradRefIdeal : Cert.ConvSsmGradRefIdeal.Facts] : Prop :=
  ∀ (m : (ℓ : Loc Cert.ConvSsmGradRefIdeal.nD Cert.ConvSsmGradRefIdeal.τ Cert.ConvSsmGradRefIdeal.sig) → Buf (Elt Ideal) ℓ) (g : Dev Cert.ConvSsmGradRefIdeal.nD → PrngReg), Pre_ConvSsmGradRefIdeal m →
    θ_run (Cert.ConvSsmGradRefIdeal.defs (F := Ideal)) (onTc (τ := Cert.ConvSsmGradRefIdeal.τ) (Cert.ConvSsmGradRefIdeal.main (F := Ideal))) ⟨m, fun _ => 0, g⟩ (fun r => (∀ c : Dev Cert.ConvSsmGradRefIdeal.nD,
      r.2.mem ((c.tc : Thread Cert.ConvSsmGradRefIdeal.nD Cert.ConvSsmGradRefIdeal.τ).loc Cert.ConvSsmGradRefIdeal.main_arg0) = m ((c.tc : Thread Cert.ConvSsmGradRefIdeal.nD Cert.ConvSsmGradRefIdeal.τ).loc Cert.ConvSsmGradRefIdeal.main_arg0)
      ∧ r.2.mem ((c.tc : Thread Cert.ConvSsmGradRefIdeal.nD Cert.ConvSsmGradRefIdeal.τ).loc Cert.ConvSsmGradRefIdeal.main_arg1) = m ((c.tc : Thread Cert.ConvSsmGradRefIdeal.nD Cert.ConvSsmGradRefIdeal.τ).loc Cert.ConvSsmGradRefIdeal.main_arg1)
      ∧ r.2.mem ((c.tc : Thread Cert.ConvSsmGradRefIdeal.nD Cert.ConvSsmGradRefIdeal.τ).loc Cert.ConvSsmGradRefIdeal.main_arg2) = m ((c.tc : Thread Cert.ConvSsmGradRefIdeal.nD Cert.ConvSsmGradRefIdeal.τ).loc Cert.ConvSsmGradRefIdeal.main_arg2)
      ∧ r.2.mem ((c.tc : Thread Cert.ConvSsmGradRefIdeal.nD Cert.ConvSsmGradRefIdeal.τ).loc Cert.ConvSsmGradRefIdeal.main_arg3) = m ((c.tc : Thread Cert.ConvSsmGradRefIdeal.nD Cert.ConvSsmGradRefIdeal.τ).loc Cert.ConvSsmGradRefIdeal.main_arg3)
      ∧ r.2.mem ((c.tc : Thread Cert.ConvSsmGradRefIdeal.nD Cert.ConvSsmGradRefIdeal.τ).loc Cert.ConvSsmGradRefIdeal.main_arg4) = m ((c.tc : Thread Cert.ConvSsmGradRefIdeal.nD Cert.ConvSsmGradRefIdeal.τ).loc Cert.ConvSsmGradRefIdeal.main_arg4))
      ∧ r.2.sem = fun _ => 0)

def quiescent_ConvSsmGradRefIdeal_pre_conv_ssm_finite [hConvSsmGradRefIdeal : Cert.ConvSsmGradRefIdeal.Facts] [hPre_conv_ssm_finite : Cert.Pre_conv_ssm_finite.Facts] : Prop :=
  ∀ (m : (ℓ : Loc Cert.ConvSsmGradRefIdeal.nD Cert.ConvSsmGradRefIdeal.τ Cert.ConvSsmGradRefIdeal.sig) → Buf (Elt Ideal) ℓ) (g : Dev Cert.ConvSsmGradRefIdeal.nD → PrngReg), Pre_ConvSsmGradRefIdeal_conv_ssm_finite m →
    θ_run (Cert.ConvSsmGradRefIdeal.defs (F := Ideal)) (onTc (τ := Cert.ConvSsmGradRefIdeal.τ) (Cert.ConvSsmGradRefIdeal.main (F := Ideal))) ⟨m, fun _ => 0, g⟩ (fun r => (∀ c : Dev Cert.ConvSsmGradRefIdeal.nD,
      r.2.mem ((c.tc : Thread Cert.ConvSsmGradRefIdeal.nD Cert.ConvSsmGradRefIdeal.τ).loc Cert.ConvSsmGradRefIdeal.main_arg0) = m ((c.tc : Thread Cert.ConvSsmGradRefIdeal.nD Cert.ConvSsmGradRefIdeal.τ).loc Cert.ConvSsmGradRefIdeal.main_arg0)
      ∧ r.2.mem ((c.tc : Thread Cert.ConvSsmGradRefIdeal.nD Cert.ConvSsmGradRefIdeal.τ).loc Cert.ConvSsmGradRefIdeal.main_arg1) = m ((c.tc : Thread Cert.ConvSsmGradRefIdeal.nD Cert.ConvSsmGradRefIdeal.τ).loc Cert.ConvSsmGradRefIdeal.main_arg1)
      ∧ r.2.mem ((c.tc : Thread Cert.ConvSsmGradRefIdeal.nD Cert.ConvSsmGradRefIdeal.τ).loc Cert.ConvSsmGradRefIdeal.main_arg2) = m ((c.tc : Thread Cert.ConvSsmGradRefIdeal.nD Cert.ConvSsmGradRefIdeal.τ).loc Cert.ConvSsmGradRefIdeal.main_arg2)
      ∧ r.2.mem ((c.tc : Thread Cert.ConvSsmGradRefIdeal.nD Cert.ConvSsmGradRefIdeal.τ).loc Cert.ConvSsmGradRefIdeal.main_arg3) = m ((c.tc : Thread Cert.ConvSsmGradRefIdeal.nD Cert.ConvSsmGradRefIdeal.τ).loc Cert.ConvSsmGradRefIdeal.main_arg3)
      ∧ r.2.mem ((c.tc : Thread Cert.ConvSsmGradRefIdeal.nD Cert.ConvSsmGradRefIdeal.τ).loc Cert.ConvSsmGradRefIdeal.main_arg4) = m ((c.tc : Thread Cert.ConvSsmGradRefIdeal.nD Cert.ConvSsmGradRefIdeal.τ).loc Cert.ConvSsmGradRefIdeal.main_arg4))
      ∧ r.2.sem = fun _ => 0)

def quiescent_ConvGdnGrad [hConvGdnGrad : Cert.ConvGdnGrad.Facts] : Prop :=
  ∀ (m : (ℓ : Loc Cert.ConvGdnGrad.nD Cert.ConvGdnGrad.τ Cert.ConvGdnGrad.sig) → Buf (Elt Bits) ℓ) (g : Dev Cert.ConvGdnGrad.nD → PrngReg), Pre_ConvGdnGrad m →
    θ_run (Cert.ConvGdnGrad.defs (F := Bits)) (onTc (τ := Cert.ConvGdnGrad.τ) (Cert.ConvGdnGrad.main (F := Bits))) ⟨m, fun _ => 0, g⟩ (fun r => (∀ c : Dev Cert.ConvGdnGrad.nD,
      r.2.mem ((c.tc : Thread Cert.ConvGdnGrad.nD Cert.ConvGdnGrad.τ).loc Cert.ConvGdnGrad.main_arg0) = m ((c.tc : Thread Cert.ConvGdnGrad.nD Cert.ConvGdnGrad.τ).loc Cert.ConvGdnGrad.main_arg0)
      ∧ r.2.mem ((c.tc : Thread Cert.ConvGdnGrad.nD Cert.ConvGdnGrad.τ).loc Cert.ConvGdnGrad.main_arg1) = m ((c.tc : Thread Cert.ConvGdnGrad.nD Cert.ConvGdnGrad.τ).loc Cert.ConvGdnGrad.main_arg1)
      ∧ r.2.mem ((c.tc : Thread Cert.ConvGdnGrad.nD Cert.ConvGdnGrad.τ).loc Cert.ConvGdnGrad.main_arg2) = m ((c.tc : Thread Cert.ConvGdnGrad.nD Cert.ConvGdnGrad.τ).loc Cert.ConvGdnGrad.main_arg2)
      ∧ r.2.mem ((c.tc : Thread Cert.ConvGdnGrad.nD Cert.ConvGdnGrad.τ).loc Cert.ConvGdnGrad.main_arg3) = m ((c.tc : Thread Cert.ConvGdnGrad.nD Cert.ConvGdnGrad.τ).loc Cert.ConvGdnGrad.main_arg3))
      ∧ r.2.sem = fun _ => 0)

def quiescent_ConvGdnGradIdeal [hConvGdnGradIdeal : Cert.ConvGdnGradIdeal.Facts] : Prop :=
  ∀ (m : (ℓ : Loc Cert.ConvGdnGradIdeal.nD Cert.ConvGdnGradIdeal.τ Cert.ConvGdnGradIdeal.sig) → Buf (Elt Ideal) ℓ) (g : Dev Cert.ConvGdnGradIdeal.nD → PrngReg), Pre_ConvGdnGradIdeal m →
    θ_run (Cert.ConvGdnGradIdeal.defs (F := Ideal)) (onTc (τ := Cert.ConvGdnGradIdeal.τ) (Cert.ConvGdnGradIdeal.main (F := Ideal))) ⟨m, fun _ => 0, g⟩ (fun r => (∀ c : Dev Cert.ConvGdnGradIdeal.nD,
      r.2.mem ((c.tc : Thread Cert.ConvGdnGradIdeal.nD Cert.ConvGdnGradIdeal.τ).loc Cert.ConvGdnGradIdeal.main_arg0) = m ((c.tc : Thread Cert.ConvGdnGradIdeal.nD Cert.ConvGdnGradIdeal.τ).loc Cert.ConvGdnGradIdeal.main_arg0)
      ∧ r.2.mem ((c.tc : Thread Cert.ConvGdnGradIdeal.nD Cert.ConvGdnGradIdeal.τ).loc Cert.ConvGdnGradIdeal.main_arg1) = m ((c.tc : Thread Cert.ConvGdnGradIdeal.nD Cert.ConvGdnGradIdeal.τ).loc Cert.ConvGdnGradIdeal.main_arg1)
      ∧ r.2.mem ((c.tc : Thread Cert.ConvGdnGradIdeal.nD Cert.ConvGdnGradIdeal.τ).loc Cert.ConvGdnGradIdeal.main_arg2) = m ((c.tc : Thread Cert.ConvGdnGradIdeal.nD Cert.ConvGdnGradIdeal.τ).loc Cert.ConvGdnGradIdeal.main_arg2)
      ∧ r.2.mem ((c.tc : Thread Cert.ConvGdnGradIdeal.nD Cert.ConvGdnGradIdeal.τ).loc Cert.ConvGdnGradIdeal.main_arg3) = m ((c.tc : Thread Cert.ConvGdnGradIdeal.nD Cert.ConvGdnGradIdeal.τ).loc Cert.ConvGdnGradIdeal.main_arg3))
      ∧ r.2.sem = fun _ => 0)

def quiescent_ConvGdnGradIdeal_pre_conv_gdn_finite [hConvGdnGradIdeal : Cert.ConvGdnGradIdeal.Facts] [hPre_conv_gdn_finite : Cert.Pre_conv_gdn_finite.Facts] : Prop :=
  ∀ (m : (ℓ : Loc Cert.ConvGdnGradIdeal.nD Cert.ConvGdnGradIdeal.τ Cert.ConvGdnGradIdeal.sig) → Buf (Elt Ideal) ℓ) (g : Dev Cert.ConvGdnGradIdeal.nD → PrngReg), Pre_ConvGdnGradIdeal_conv_gdn_finite m →
    θ_run (Cert.ConvGdnGradIdeal.defs (F := Ideal)) (onTc (τ := Cert.ConvGdnGradIdeal.τ) (Cert.ConvGdnGradIdeal.main (F := Ideal))) ⟨m, fun _ => 0, g⟩ (fun r => (∀ c : Dev Cert.ConvGdnGradIdeal.nD,
      r.2.mem ((c.tc : Thread Cert.ConvGdnGradIdeal.nD Cert.ConvGdnGradIdeal.τ).loc Cert.ConvGdnGradIdeal.main_arg0) = m ((c.tc : Thread Cert.ConvGdnGradIdeal.nD Cert.ConvGdnGradIdeal.τ).loc Cert.ConvGdnGradIdeal.main_arg0)
      ∧ r.2.mem ((c.tc : Thread Cert.ConvGdnGradIdeal.nD Cert.ConvGdnGradIdeal.τ).loc Cert.ConvGdnGradIdeal.main_arg1) = m ((c.tc : Thread Cert.ConvGdnGradIdeal.nD Cert.ConvGdnGradIdeal.τ).loc Cert.ConvGdnGradIdeal.main_arg1)
      ∧ r.2.mem ((c.tc : Thread Cert.ConvGdnGradIdeal.nD Cert.ConvGdnGradIdeal.τ).loc Cert.ConvGdnGradIdeal.main_arg2) = m ((c.tc : Thread Cert.ConvGdnGradIdeal.nD Cert.ConvGdnGradIdeal.τ).loc Cert.ConvGdnGradIdeal.main_arg2)
      ∧ r.2.mem ((c.tc : Thread Cert.ConvGdnGradIdeal.nD Cert.ConvGdnGradIdeal.τ).loc Cert.ConvGdnGradIdeal.main_arg3) = m ((c.tc : Thread Cert.ConvGdnGradIdeal.nD Cert.ConvGdnGradIdeal.τ).loc Cert.ConvGdnGradIdeal.main_arg3))
      ∧ r.2.sem = fun _ => 0)

def quiescent_ConvGdnGradRefIdeal [hConvGdnGradRefIdeal : Cert.ConvGdnGradRefIdeal.Facts] : Prop :=
  ∀ (m : (ℓ : Loc Cert.ConvGdnGradRefIdeal.nD Cert.ConvGdnGradRefIdeal.τ Cert.ConvGdnGradRefIdeal.sig) → Buf (Elt Ideal) ℓ) (g : Dev Cert.ConvGdnGradRefIdeal.nD → PrngReg), Pre_ConvGdnGradRefIdeal m →
    θ_run (Cert.ConvGdnGradRefIdeal.defs (F := Ideal)) (onTc (τ := Cert.ConvGdnGradRefIdeal.τ) (Cert.ConvGdnGradRefIdeal.main (F := Ideal))) ⟨m, fun _ => 0, g⟩ (fun r => (∀ c : Dev Cert.ConvGdnGradRefIdeal.nD,
      r.2.mem ((c.tc : Thread Cert.ConvGdnGradRefIdeal.nD Cert.ConvGdnGradRefIdeal.τ).loc Cert.ConvGdnGradRefIdeal.main_arg0) = m ((c.tc : Thread Cert.ConvGdnGradRefIdeal.nD Cert.ConvGdnGradRefIdeal.τ).loc Cert.ConvGdnGradRefIdeal.main_arg0)
      ∧ r.2.mem ((c.tc : Thread Cert.ConvGdnGradRefIdeal.nD Cert.ConvGdnGradRefIdeal.τ).loc Cert.ConvGdnGradRefIdeal.main_arg1) = m ((c.tc : Thread Cert.ConvGdnGradRefIdeal.nD Cert.ConvGdnGradRefIdeal.τ).loc Cert.ConvGdnGradRefIdeal.main_arg1)
      ∧ r.2.mem ((c.tc : Thread Cert.ConvGdnGradRefIdeal.nD Cert.ConvGdnGradRefIdeal.τ).loc Cert.ConvGdnGradRefIdeal.main_arg2) = m ((c.tc : Thread Cert.ConvGdnGradRefIdeal.nD Cert.ConvGdnGradRefIdeal.τ).loc Cert.ConvGdnGradRefIdeal.main_arg2)
      ∧ r.2.mem ((c.tc : Thread Cert.ConvGdnGradRefIdeal.nD Cert.ConvGdnGradRefIdeal.τ).loc Cert.ConvGdnGradRefIdeal.main_arg3) = m ((c.tc : Thread Cert.ConvGdnGradRefIdeal.nD Cert.ConvGdnGradRefIdeal.τ).loc Cert.ConvGdnGradRefIdeal.main_arg3))
      ∧ r.2.sem = fun _ => 0)

def quiescent_ConvGdnGradRefIdeal_pre_conv_gdn_finite [hConvGdnGradRefIdeal : Cert.ConvGdnGradRefIdeal.Facts] [hPre_conv_gdn_finite : Cert.Pre_conv_gdn_finite.Facts] : Prop :=
  ∀ (m : (ℓ : Loc Cert.ConvGdnGradRefIdeal.nD Cert.ConvGdnGradRefIdeal.τ Cert.ConvGdnGradRefIdeal.sig) → Buf (Elt Ideal) ℓ) (g : Dev Cert.ConvGdnGradRefIdeal.nD → PrngReg), Pre_ConvGdnGradRefIdeal_conv_gdn_finite m →
    θ_run (Cert.ConvGdnGradRefIdeal.defs (F := Ideal)) (onTc (τ := Cert.ConvGdnGradRefIdeal.τ) (Cert.ConvGdnGradRefIdeal.main (F := Ideal))) ⟨m, fun _ => 0, g⟩ (fun r => (∀ c : Dev Cert.ConvGdnGradRefIdeal.nD,
      r.2.mem ((c.tc : Thread Cert.ConvGdnGradRefIdeal.nD Cert.ConvGdnGradRefIdeal.τ).loc Cert.ConvGdnGradRefIdeal.main_arg0) = m ((c.tc : Thread Cert.ConvGdnGradRefIdeal.nD Cert.ConvGdnGradRefIdeal.τ).loc Cert.ConvGdnGradRefIdeal.main_arg0)
      ∧ r.2.mem ((c.tc : Thread Cert.ConvGdnGradRefIdeal.nD Cert.ConvGdnGradRefIdeal.τ).loc Cert.ConvGdnGradRefIdeal.main_arg1) = m ((c.tc : Thread Cert.ConvGdnGradRefIdeal.nD Cert.ConvGdnGradRefIdeal.τ).loc Cert.ConvGdnGradRefIdeal.main_arg1)
      ∧ r.2.mem ((c.tc : Thread Cert.ConvGdnGradRefIdeal.nD Cert.ConvGdnGradRefIdeal.τ).loc Cert.ConvGdnGradRefIdeal.main_arg2) = m ((c.tc : Thread Cert.ConvGdnGradRefIdeal.nD Cert.ConvGdnGradRefIdeal.τ).loc Cert.ConvGdnGradRefIdeal.main_arg2)
      ∧ r.2.mem ((c.tc : Thread Cert.ConvGdnGradRefIdeal.nD Cert.ConvGdnGradRefIdeal.τ).loc Cert.ConvGdnGradRefIdeal.main_arg3) = m ((c.tc : Thread Cert.ConvGdnGradRefIdeal.nD Cert.ConvGdnGradRefIdeal.τ).loc Cert.ConvGdnGradRefIdeal.main_arg3))
      ∧ r.2.sem = fun _ => 0)

def quiescent_SsdGrad [hSsdGrad : Cert.SsdGrad.Facts] : Prop :=
  ∀ (m : (ℓ : Loc Cert.SsdGrad.nD Cert.SsdGrad.τ Cert.SsdGrad.sig) → Buf (Elt Bits) ℓ) (g : Dev Cert.SsdGrad.nD → PrngReg), Pre_SsdGrad m →
    θ_run (Cert.SsdGrad.defs (F := Bits)) (onTc (τ := Cert.SsdGrad.τ) (Cert.SsdGrad.main (F := Bits))) ⟨m, fun _ => 0, g⟩ (fun r => (∀ c : Dev Cert.SsdGrad.nD,
      r.2.mem ((c.tc : Thread Cert.SsdGrad.nD Cert.SsdGrad.τ).loc Cert.SsdGrad.main_arg0) = m ((c.tc : Thread Cert.SsdGrad.nD Cert.SsdGrad.τ).loc Cert.SsdGrad.main_arg0)
      ∧ r.2.mem ((c.tc : Thread Cert.SsdGrad.nD Cert.SsdGrad.τ).loc Cert.SsdGrad.main_arg1) = m ((c.tc : Thread Cert.SsdGrad.nD Cert.SsdGrad.τ).loc Cert.SsdGrad.main_arg1)
      ∧ r.2.mem ((c.tc : Thread Cert.SsdGrad.nD Cert.SsdGrad.τ).loc Cert.SsdGrad.main_arg2) = m ((c.tc : Thread Cert.SsdGrad.nD Cert.SsdGrad.τ).loc Cert.SsdGrad.main_arg2)
      ∧ r.2.mem ((c.tc : Thread Cert.SsdGrad.nD Cert.SsdGrad.τ).loc Cert.SsdGrad.main_arg3) = m ((c.tc : Thread Cert.SsdGrad.nD Cert.SsdGrad.τ).loc Cert.SsdGrad.main_arg3)
      ∧ r.2.mem ((c.tc : Thread Cert.SsdGrad.nD Cert.SsdGrad.τ).loc Cert.SsdGrad.main_arg4) = m ((c.tc : Thread Cert.SsdGrad.nD Cert.SsdGrad.τ).loc Cert.SsdGrad.main_arg4)
      ∧ r.2.mem ((c.tc : Thread Cert.SsdGrad.nD Cert.SsdGrad.τ).loc Cert.SsdGrad.main_arg5) = m ((c.tc : Thread Cert.SsdGrad.nD Cert.SsdGrad.τ).loc Cert.SsdGrad.main_arg5)
      ∧ r.2.mem ((c.tc : Thread Cert.SsdGrad.nD Cert.SsdGrad.τ).loc Cert.SsdGrad.main_arg6) = m ((c.tc : Thread Cert.SsdGrad.nD Cert.SsdGrad.τ).loc Cert.SsdGrad.main_arg6)
      ∧ r.2.mem ((c.tc : Thread Cert.SsdGrad.nD Cert.SsdGrad.τ).loc Cert.SsdGrad.main_arg7) = m ((c.tc : Thread Cert.SsdGrad.nD Cert.SsdGrad.τ).loc Cert.SsdGrad.main_arg7)
      ∧ r.2.mem ((c.tc : Thread Cert.SsdGrad.nD Cert.SsdGrad.τ).loc Cert.SsdGrad.main_arg8) = m ((c.tc : Thread Cert.SsdGrad.nD Cert.SsdGrad.τ).loc Cert.SsdGrad.main_arg8)
      ∧ r.2.mem ((c.tc : Thread Cert.SsdGrad.nD Cert.SsdGrad.τ).loc Cert.SsdGrad.main_arg9) = m ((c.tc : Thread Cert.SsdGrad.nD Cert.SsdGrad.τ).loc Cert.SsdGrad.main_arg9))
      ∧ r.2.sem = fun _ => 0)

def quiescent_SsdGradIdeal [hSsdGradIdeal : Cert.SsdGradIdeal.Facts] : Prop :=
  ∀ (m : (ℓ : Loc Cert.SsdGradIdeal.nD Cert.SsdGradIdeal.τ Cert.SsdGradIdeal.sig) → Buf (Elt Ideal) ℓ) (g : Dev Cert.SsdGradIdeal.nD → PrngReg), Pre_SsdGradIdeal m →
    θ_run (Cert.SsdGradIdeal.defs (F := Ideal)) (onTc (τ := Cert.SsdGradIdeal.τ) (Cert.SsdGradIdeal.main (F := Ideal))) ⟨m, fun _ => 0, g⟩ (fun r => (∀ c : Dev Cert.SsdGradIdeal.nD,
      r.2.mem ((c.tc : Thread Cert.SsdGradIdeal.nD Cert.SsdGradIdeal.τ).loc Cert.SsdGradIdeal.main_arg0) = m ((c.tc : Thread Cert.SsdGradIdeal.nD Cert.SsdGradIdeal.τ).loc Cert.SsdGradIdeal.main_arg0)
      ∧ r.2.mem ((c.tc : Thread Cert.SsdGradIdeal.nD Cert.SsdGradIdeal.τ).loc Cert.SsdGradIdeal.main_arg1) = m ((c.tc : Thread Cert.SsdGradIdeal.nD Cert.SsdGradIdeal.τ).loc Cert.SsdGradIdeal.main_arg1)
      ∧ r.2.mem ((c.tc : Thread Cert.SsdGradIdeal.nD Cert.SsdGradIdeal.τ).loc Cert.SsdGradIdeal.main_arg2) = m ((c.tc : Thread Cert.SsdGradIdeal.nD Cert.SsdGradIdeal.τ).loc Cert.SsdGradIdeal.main_arg2)
      ∧ r.2.mem ((c.tc : Thread Cert.SsdGradIdeal.nD Cert.SsdGradIdeal.τ).loc Cert.SsdGradIdeal.main_arg3) = m ((c.tc : Thread Cert.SsdGradIdeal.nD Cert.SsdGradIdeal.τ).loc Cert.SsdGradIdeal.main_arg3)
      ∧ r.2.mem ((c.tc : Thread Cert.SsdGradIdeal.nD Cert.SsdGradIdeal.τ).loc Cert.SsdGradIdeal.main_arg4) = m ((c.tc : Thread Cert.SsdGradIdeal.nD Cert.SsdGradIdeal.τ).loc Cert.SsdGradIdeal.main_arg4)
      ∧ r.2.mem ((c.tc : Thread Cert.SsdGradIdeal.nD Cert.SsdGradIdeal.τ).loc Cert.SsdGradIdeal.main_arg5) = m ((c.tc : Thread Cert.SsdGradIdeal.nD Cert.SsdGradIdeal.τ).loc Cert.SsdGradIdeal.main_arg5)
      ∧ r.2.mem ((c.tc : Thread Cert.SsdGradIdeal.nD Cert.SsdGradIdeal.τ).loc Cert.SsdGradIdeal.main_arg6) = m ((c.tc : Thread Cert.SsdGradIdeal.nD Cert.SsdGradIdeal.τ).loc Cert.SsdGradIdeal.main_arg6)
      ∧ r.2.mem ((c.tc : Thread Cert.SsdGradIdeal.nD Cert.SsdGradIdeal.τ).loc Cert.SsdGradIdeal.main_arg7) = m ((c.tc : Thread Cert.SsdGradIdeal.nD Cert.SsdGradIdeal.τ).loc Cert.SsdGradIdeal.main_arg7)
      ∧ r.2.mem ((c.tc : Thread Cert.SsdGradIdeal.nD Cert.SsdGradIdeal.τ).loc Cert.SsdGradIdeal.main_arg8) = m ((c.tc : Thread Cert.SsdGradIdeal.nD Cert.SsdGradIdeal.τ).loc Cert.SsdGradIdeal.main_arg8)
      ∧ r.2.mem ((c.tc : Thread Cert.SsdGradIdeal.nD Cert.SsdGradIdeal.τ).loc Cert.SsdGradIdeal.main_arg9) = m ((c.tc : Thread Cert.SsdGradIdeal.nD Cert.SsdGradIdeal.τ).loc Cert.SsdGradIdeal.main_arg9))
      ∧ r.2.sem = fun _ => 0)

def quiescent_SsdGradIdeal_pre_ssd_finite [hSsdGradIdeal : Cert.SsdGradIdeal.Facts] [hPre_ssd_finite : Cert.Pre_ssd_finite.Facts] : Prop :=
  ∀ (m : (ℓ : Loc Cert.SsdGradIdeal.nD Cert.SsdGradIdeal.τ Cert.SsdGradIdeal.sig) → Buf (Elt Ideal) ℓ) (g : Dev Cert.SsdGradIdeal.nD → PrngReg), Pre_SsdGradIdeal_ssd_finite m →
    θ_run (Cert.SsdGradIdeal.defs (F := Ideal)) (onTc (τ := Cert.SsdGradIdeal.τ) (Cert.SsdGradIdeal.main (F := Ideal))) ⟨m, fun _ => 0, g⟩ (fun r => (∀ c : Dev Cert.SsdGradIdeal.nD,
      r.2.mem ((c.tc : Thread Cert.SsdGradIdeal.nD Cert.SsdGradIdeal.τ).loc Cert.SsdGradIdeal.main_arg0) = m ((c.tc : Thread Cert.SsdGradIdeal.nD Cert.SsdGradIdeal.τ).loc Cert.SsdGradIdeal.main_arg0)
      ∧ r.2.mem ((c.tc : Thread Cert.SsdGradIdeal.nD Cert.SsdGradIdeal.τ).loc Cert.SsdGradIdeal.main_arg1) = m ((c.tc : Thread Cert.SsdGradIdeal.nD Cert.SsdGradIdeal.τ).loc Cert.SsdGradIdeal.main_arg1)
      ∧ r.2.mem ((c.tc : Thread Cert.SsdGradIdeal.nD Cert.SsdGradIdeal.τ).loc Cert.SsdGradIdeal.main_arg2) = m ((c.tc : Thread Cert.SsdGradIdeal.nD Cert.SsdGradIdeal.τ).loc Cert.SsdGradIdeal.main_arg2)
      ∧ r.2.mem ((c.tc : Thread Cert.SsdGradIdeal.nD Cert.SsdGradIdeal.τ).loc Cert.SsdGradIdeal.main_arg3) = m ((c.tc : Thread Cert.SsdGradIdeal.nD Cert.SsdGradIdeal.τ).loc Cert.SsdGradIdeal.main_arg3)
      ∧ r.2.mem ((c.tc : Thread Cert.SsdGradIdeal.nD Cert.SsdGradIdeal.τ).loc Cert.SsdGradIdeal.main_arg4) = m ((c.tc : Thread Cert.SsdGradIdeal.nD Cert.SsdGradIdeal.τ).loc Cert.SsdGradIdeal.main_arg4)
      ∧ r.2.mem ((c.tc : Thread Cert.SsdGradIdeal.nD Cert.SsdGradIdeal.τ).loc Cert.SsdGradIdeal.main_arg5) = m ((c.tc : Thread Cert.SsdGradIdeal.nD Cert.SsdGradIdeal.τ).loc Cert.SsdGradIdeal.main_arg5)
      ∧ r.2.mem ((c.tc : Thread Cert.SsdGradIdeal.nD Cert.SsdGradIdeal.τ).loc Cert.SsdGradIdeal.main_arg6) = m ((c.tc : Thread Cert.SsdGradIdeal.nD Cert.SsdGradIdeal.τ).loc Cert.SsdGradIdeal.main_arg6)
      ∧ r.2.mem ((c.tc : Thread Cert.SsdGradIdeal.nD Cert.SsdGradIdeal.τ).loc Cert.SsdGradIdeal.main_arg7) = m ((c.tc : Thread Cert.SsdGradIdeal.nD Cert.SsdGradIdeal.τ).loc Cert.SsdGradIdeal.main_arg7)
      ∧ r.2.mem ((c.tc : Thread Cert.SsdGradIdeal.nD Cert.SsdGradIdeal.τ).loc Cert.SsdGradIdeal.main_arg8) = m ((c.tc : Thread Cert.SsdGradIdeal.nD Cert.SsdGradIdeal.τ).loc Cert.SsdGradIdeal.main_arg8)
      ∧ r.2.mem ((c.tc : Thread Cert.SsdGradIdeal.nD Cert.SsdGradIdeal.τ).loc Cert.SsdGradIdeal.main_arg9) = m ((c.tc : Thread Cert.SsdGradIdeal.nD Cert.SsdGradIdeal.τ).loc Cert.SsdGradIdeal.main_arg9))
      ∧ r.2.sem = fun _ => 0)

def quiescent_SsdGradRefIdeal [hSsdGradRefIdeal : Cert.SsdGradRefIdeal.Facts] : Prop :=
  ∀ (m : (ℓ : Loc Cert.SsdGradRefIdeal.nD Cert.SsdGradRefIdeal.τ Cert.SsdGradRefIdeal.sig) → Buf (Elt Ideal) ℓ) (g : Dev Cert.SsdGradRefIdeal.nD → PrngReg), Pre_SsdGradRefIdeal m →
    θ_run (Cert.SsdGradRefIdeal.defs (F := Ideal)) (onTc (τ := Cert.SsdGradRefIdeal.τ) (Cert.SsdGradRefIdeal.main (F := Ideal))) ⟨m, fun _ => 0, g⟩ (fun r => (∀ c : Dev Cert.SsdGradRefIdeal.nD,
      r.2.mem ((c.tc : Thread Cert.SsdGradRefIdeal.nD Cert.SsdGradRefIdeal.τ).loc Cert.SsdGradRefIdeal.main_arg0) = m ((c.tc : Thread Cert.SsdGradRefIdeal.nD Cert.SsdGradRefIdeal.τ).loc Cert.SsdGradRefIdeal.main_arg0)
      ∧ r.2.mem ((c.tc : Thread Cert.SsdGradRefIdeal.nD Cert.SsdGradRefIdeal.τ).loc Cert.SsdGradRefIdeal.main_arg1) = m ((c.tc : Thread Cert.SsdGradRefIdeal.nD Cert.SsdGradRefIdeal.τ).loc Cert.SsdGradRefIdeal.main_arg1)
      ∧ r.2.mem ((c.tc : Thread Cert.SsdGradRefIdeal.nD Cert.SsdGradRefIdeal.τ).loc Cert.SsdGradRefIdeal.main_arg2) = m ((c.tc : Thread Cert.SsdGradRefIdeal.nD Cert.SsdGradRefIdeal.τ).loc Cert.SsdGradRefIdeal.main_arg2)
      ∧ r.2.mem ((c.tc : Thread Cert.SsdGradRefIdeal.nD Cert.SsdGradRefIdeal.τ).loc Cert.SsdGradRefIdeal.main_arg3) = m ((c.tc : Thread Cert.SsdGradRefIdeal.nD Cert.SsdGradRefIdeal.τ).loc Cert.SsdGradRefIdeal.main_arg3)
      ∧ r.2.mem ((c.tc : Thread Cert.SsdGradRefIdeal.nD Cert.SsdGradRefIdeal.τ).loc Cert.SsdGradRefIdeal.main_arg4) = m ((c.tc : Thread Cert.SsdGradRefIdeal.nD Cert.SsdGradRefIdeal.τ).loc Cert.SsdGradRefIdeal.main_arg4)
      ∧ r.2.mem ((c.tc : Thread Cert.SsdGradRefIdeal.nD Cert.SsdGradRefIdeal.τ).loc Cert.SsdGradRefIdeal.main_arg5) = m ((c.tc : Thread Cert.SsdGradRefIdeal.nD Cert.SsdGradRefIdeal.τ).loc Cert.SsdGradRefIdeal.main_arg5)
      ∧ r.2.mem ((c.tc : Thread Cert.SsdGradRefIdeal.nD Cert.SsdGradRefIdeal.τ).loc Cert.SsdGradRefIdeal.main_arg6) = m ((c.tc : Thread Cert.SsdGradRefIdeal.nD Cert.SsdGradRefIdeal.τ).loc Cert.SsdGradRefIdeal.main_arg6)
      ∧ r.2.mem ((c.tc : Thread Cert.SsdGradRefIdeal.nD Cert.SsdGradRefIdeal.τ).loc Cert.SsdGradRefIdeal.main_arg7) = m ((c.tc : Thread Cert.SsdGradRefIdeal.nD Cert.SsdGradRefIdeal.τ).loc Cert.SsdGradRefIdeal.main_arg7)
      ∧ r.2.mem ((c.tc : Thread Cert.SsdGradRefIdeal.nD Cert.SsdGradRefIdeal.τ).loc Cert.SsdGradRefIdeal.main_arg8) = m ((c.tc : Thread Cert.SsdGradRefIdeal.nD Cert.SsdGradRefIdeal.τ).loc Cert.SsdGradRefIdeal.main_arg8)
      ∧ r.2.mem ((c.tc : Thread Cert.SsdGradRefIdeal.nD Cert.SsdGradRefIdeal.τ).loc Cert.SsdGradRefIdeal.main_arg9) = m ((c.tc : Thread Cert.SsdGradRefIdeal.nD Cert.SsdGradRefIdeal.τ).loc Cert.SsdGradRefIdeal.main_arg9))
      ∧ r.2.sem = fun _ => 0)

def quiescent_SsdGradRefIdeal_pre_ssd_finite [hSsdGradRefIdeal : Cert.SsdGradRefIdeal.Facts] [hPre_ssd_finite : Cert.Pre_ssd_finite.Facts] : Prop :=
  ∀ (m : (ℓ : Loc Cert.SsdGradRefIdeal.nD Cert.SsdGradRefIdeal.τ Cert.SsdGradRefIdeal.sig) → Buf (Elt Ideal) ℓ) (g : Dev Cert.SsdGradRefIdeal.nD → PrngReg), Pre_SsdGradRefIdeal_ssd_finite m →
    θ_run (Cert.SsdGradRefIdeal.defs (F := Ideal)) (onTc (τ := Cert.SsdGradRefIdeal.τ) (Cert.SsdGradRefIdeal.main (F := Ideal))) ⟨m, fun _ => 0, g⟩ (fun r => (∀ c : Dev Cert.SsdGradRefIdeal.nD,
      r.2.mem ((c.tc : Thread Cert.SsdGradRefIdeal.nD Cert.SsdGradRefIdeal.τ).loc Cert.SsdGradRefIdeal.main_arg0) = m ((c.tc : Thread Cert.SsdGradRefIdeal.nD Cert.SsdGradRefIdeal.τ).loc Cert.SsdGradRefIdeal.main_arg0)
      ∧ r.2.mem ((c.tc : Thread Cert.SsdGradRefIdeal.nD Cert.SsdGradRefIdeal.τ).loc Cert.SsdGradRefIdeal.main_arg1) = m ((c.tc : Thread Cert.SsdGradRefIdeal.nD Cert.SsdGradRefIdeal.τ).loc Cert.SsdGradRefIdeal.main_arg1)
      ∧ r.2.mem ((c.tc : Thread Cert.SsdGradRefIdeal.nD Cert.SsdGradRefIdeal.τ).loc Cert.SsdGradRefIdeal.main_arg2) = m ((c.tc : Thread Cert.SsdGradRefIdeal.nD Cert.SsdGradRefIdeal.τ).loc Cert.SsdGradRefIdeal.main_arg2)
      ∧ r.2.mem ((c.tc : Thread Cert.SsdGradRefIdeal.nD Cert.SsdGradRefIdeal.τ).loc Cert.SsdGradRefIdeal.main_arg3) = m ((c.tc : Thread Cert.SsdGradRefIdeal.nD Cert.SsdGradRefIdeal.τ).loc Cert.SsdGradRefIdeal.main_arg3)
      ∧ r.2.mem ((c.tc : Thread Cert.SsdGradRefIdeal.nD Cert.SsdGradRefIdeal.τ).loc Cert.SsdGradRefIdeal.main_arg4) = m ((c.tc : Thread Cert.SsdGradRefIdeal.nD Cert.SsdGradRefIdeal.τ).loc Cert.SsdGradRefIdeal.main_arg4)
      ∧ r.2.mem ((c.tc : Thread Cert.SsdGradRefIdeal.nD Cert.SsdGradRefIdeal.τ).loc Cert.SsdGradRefIdeal.main_arg5) = m ((c.tc : Thread Cert.SsdGradRefIdeal.nD Cert.SsdGradRefIdeal.τ).loc Cert.SsdGradRefIdeal.main_arg5)
      ∧ r.2.mem ((c.tc : Thread Cert.SsdGradRefIdeal.nD Cert.SsdGradRefIdeal.τ).loc Cert.SsdGradRefIdeal.main_arg6) = m ((c.tc : Thread Cert.SsdGradRefIdeal.nD Cert.SsdGradRefIdeal.τ).loc Cert.SsdGradRefIdeal.main_arg6)
      ∧ r.2.mem ((c.tc : Thread Cert.SsdGradRefIdeal.nD Cert.SsdGradRefIdeal.τ).loc Cert.SsdGradRefIdeal.main_arg7) = m ((c.tc : Thread Cert.SsdGradRefIdeal.nD Cert.SsdGradRefIdeal.τ).loc Cert.SsdGradRefIdeal.main_arg7)
      ∧ r.2.mem ((c.tc : Thread Cert.SsdGradRefIdeal.nD Cert.SsdGradRefIdeal.τ).loc Cert.SsdGradRefIdeal.main_arg8) = m ((c.tc : Thread Cert.SsdGradRefIdeal.nD Cert.SsdGradRefIdeal.τ).loc Cert.SsdGradRefIdeal.main_arg8)
      ∧ r.2.mem ((c.tc : Thread Cert.SsdGradRefIdeal.nD Cert.SsdGradRefIdeal.τ).loc Cert.SsdGradRefIdeal.main_arg9) = m ((c.tc : Thread Cert.SsdGradRefIdeal.nD Cert.SsdGradRefIdeal.τ).loc Cert.SsdGradRefIdeal.main_arg9))
      ∧ r.2.sem = fun _ => 0)

def quiescent_InProjGrad [hInProjGrad : Cert.InProjGrad.Facts] : Prop :=
  ∀ (m : (ℓ : Loc Cert.InProjGrad.nD Cert.InProjGrad.τ Cert.InProjGrad.sig) → Buf (Elt Bits) ℓ) (g : Dev Cert.InProjGrad.nD → PrngReg), Pre_InProjGrad m →
    θ_run (Cert.InProjGrad.defs (F := Bits)) (onTc (τ := Cert.InProjGrad.τ) (Cert.InProjGrad.main (F := Bits))) ⟨m, fun _ => 0, g⟩ (fun r => (∀ c : Dev Cert.InProjGrad.nD,
      r.2.mem ((c.tc : Thread Cert.InProjGrad.nD Cert.InProjGrad.τ).loc Cert.InProjGrad.main_arg0) = m ((c.tc : Thread Cert.InProjGrad.nD Cert.InProjGrad.τ).loc Cert.InProjGrad.main_arg0)
      ∧ r.2.mem ((c.tc : Thread Cert.InProjGrad.nD Cert.InProjGrad.τ).loc Cert.InProjGrad.main_arg1) = m ((c.tc : Thread Cert.InProjGrad.nD Cert.InProjGrad.τ).loc Cert.InProjGrad.main_arg1))
      ∧ r.2.sem = fun _ => 0)

def quiescent_InProjGradIdeal [hInProjGradIdeal : Cert.InProjGradIdeal.Facts] : Prop :=
  ∀ (m : (ℓ : Loc Cert.InProjGradIdeal.nD Cert.InProjGradIdeal.τ Cert.InProjGradIdeal.sig) → Buf (Elt Ideal) ℓ) (g : Dev Cert.InProjGradIdeal.nD → PrngReg), Pre_InProjGradIdeal m →
    θ_run (Cert.InProjGradIdeal.defs (F := Ideal)) (onTc (τ := Cert.InProjGradIdeal.τ) (Cert.InProjGradIdeal.main (F := Ideal))) ⟨m, fun _ => 0, g⟩ (fun r => (∀ c : Dev Cert.InProjGradIdeal.nD,
      r.2.mem ((c.tc : Thread Cert.InProjGradIdeal.nD Cert.InProjGradIdeal.τ).loc Cert.InProjGradIdeal.main_arg0) = m ((c.tc : Thread Cert.InProjGradIdeal.nD Cert.InProjGradIdeal.τ).loc Cert.InProjGradIdeal.main_arg0)
      ∧ r.2.mem ((c.tc : Thread Cert.InProjGradIdeal.nD Cert.InProjGradIdeal.τ).loc Cert.InProjGradIdeal.main_arg1) = m ((c.tc : Thread Cert.InProjGradIdeal.nD Cert.InProjGradIdeal.τ).loc Cert.InProjGradIdeal.main_arg1))
      ∧ r.2.sem = fun _ => 0)

def quiescent_InProjGradRefIdeal [hInProjGradRefIdeal : Cert.InProjGradRefIdeal.Facts] : Prop :=
  ∀ (m : (ℓ : Loc Cert.InProjGradRefIdeal.nD Cert.InProjGradRefIdeal.τ Cert.InProjGradRefIdeal.sig) → Buf (Elt Ideal) ℓ) (g : Dev Cert.InProjGradRefIdeal.nD → PrngReg), Pre_InProjGradRefIdeal m →
    θ_run (Cert.InProjGradRefIdeal.defs (F := Ideal)) (onTc (τ := Cert.InProjGradRefIdeal.τ) (Cert.InProjGradRefIdeal.main (F := Ideal))) ⟨m, fun _ => 0, g⟩ (fun r => (∀ c : Dev Cert.InProjGradRefIdeal.nD,
      r.2.mem ((c.tc : Thread Cert.InProjGradRefIdeal.nD Cert.InProjGradRefIdeal.τ).loc Cert.InProjGradRefIdeal.main_arg0) = m ((c.tc : Thread Cert.InProjGradRefIdeal.nD Cert.InProjGradRefIdeal.τ).loc Cert.InProjGradRefIdeal.main_arg0)
      ∧ r.2.mem ((c.tc : Thread Cert.InProjGradRefIdeal.nD Cert.InProjGradRefIdeal.τ).loc Cert.InProjGradRefIdeal.main_arg1) = m ((c.tc : Thread Cert.InProjGradRefIdeal.nD Cert.InProjGradRefIdeal.τ).loc Cert.InProjGradRefIdeal.main_arg1))
      ∧ r.2.sem = fun _ => 0)

def quiescent_InProjDw [hInProjDw : Cert.InProjDw.Facts] : Prop :=
  ∀ (m : (ℓ : Loc Cert.InProjDw.nD Cert.InProjDw.τ Cert.InProjDw.sig) → Buf (Elt Bits) ℓ) (g : Dev Cert.InProjDw.nD → PrngReg), Pre_InProjDw m →
    θ_run (Cert.InProjDw.defs (F := Bits)) (onTc (τ := Cert.InProjDw.τ) (Cert.InProjDw.main (F := Bits))) ⟨m, fun _ => 0, g⟩ (fun r => (∀ c : Dev Cert.InProjDw.nD,
      r.2.mem ((c.tc : Thread Cert.InProjDw.nD Cert.InProjDw.τ).loc Cert.InProjDw.main_arg0) = m ((c.tc : Thread Cert.InProjDw.nD Cert.InProjDw.τ).loc Cert.InProjDw.main_arg0)
      ∧ r.2.mem ((c.tc : Thread Cert.InProjDw.nD Cert.InProjDw.τ).loc Cert.InProjDw.main_arg1) = m ((c.tc : Thread Cert.InProjDw.nD Cert.InProjDw.τ).loc Cert.InProjDw.main_arg1))
      ∧ r.2.sem = fun _ => 0)

def quiescent_InProjDwIdeal [hInProjDwIdeal : Cert.InProjDwIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg), Pre_InProjDwIdeal m →
    θ_run (Cert.InProjDwIdeal.defs (F := Ideal)) (onTc (τ := Cert.InProjDwIdeal.τ) (Cert.InProjDwIdeal.main (F := Ideal))) ⟨m, fun _ => 0, g⟩ (fun r => (∀ c : Dev Cert.InProjDwIdeal.nD,
      r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
      ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1))
      ∧ r.2.sem = fun _ => 0)

def quiescent_InProjDwRefIdeal [hInProjDwRefIdeal : Cert.InProjDwRefIdeal.Facts] : Prop :=
  ∀ (m : (ℓ : Loc Cert.InProjDwRefIdeal.nD Cert.InProjDwRefIdeal.τ Cert.InProjDwRefIdeal.sig) → Buf (Elt Ideal) ℓ) (g : Dev Cert.InProjDwRefIdeal.nD → PrngReg), Pre_InProjDwRefIdeal m →
    θ_run (Cert.InProjDwRefIdeal.defs (F := Ideal)) (onTc (τ := Cert.InProjDwRefIdeal.τ) (Cert.InProjDwRefIdeal.main (F := Ideal))) ⟨m, fun _ => 0, g⟩ (fun r => (∀ c : Dev Cert.InProjDwRefIdeal.nD,
      r.2.mem ((c.tc : Thread Cert.InProjDwRefIdeal.nD Cert.InProjDwRefIdeal.τ).loc Cert.InProjDwRefIdeal.main_arg0) = m ((c.tc : Thread Cert.InProjDwRefIdeal.nD Cert.InProjDwRefIdeal.τ).loc Cert.InProjDwRefIdeal.main_arg0)
      ∧ r.2.mem ((c.tc : Thread Cert.InProjDwRefIdeal.nD Cert.InProjDwRefIdeal.τ).loc Cert.InProjDwRefIdeal.main_arg1) = m ((c.tc : Thread Cert.InProjDwRefIdeal.nD Cert.InProjDwRefIdeal.τ).loc Cert.InProjDwRefIdeal.main_arg1))
      ∧ r.2.sem = fun _ => 0)

def quiescent_FfnInGrad [hFfnInGrad : Cert.FfnInGrad.Facts] : Prop :=
  ∀ (m : (ℓ : Loc Cert.FfnInGrad.nD Cert.FfnInGrad.τ Cert.FfnInGrad.sig) → Buf (Elt Bits) ℓ) (g : Dev Cert.FfnInGrad.nD → PrngReg), Pre_FfnInGrad m →
    θ_run (Cert.FfnInGrad.defs (F := Bits)) (onTc (τ := Cert.FfnInGrad.τ) (Cert.FfnInGrad.main (F := Bits))) ⟨m, fun _ => 0, g⟩ (fun r => (∀ c : Dev Cert.FfnInGrad.nD,
      r.2.mem ((c.tc : Thread Cert.FfnInGrad.nD Cert.FfnInGrad.τ).loc Cert.FfnInGrad.main_arg0) = m ((c.tc : Thread Cert.FfnInGrad.nD Cert.FfnInGrad.τ).loc Cert.FfnInGrad.main_arg0)
      ∧ r.2.mem ((c.tc : Thread Cert.FfnInGrad.nD Cert.FfnInGrad.τ).loc Cert.FfnInGrad.main_arg1) = m ((c.tc : Thread Cert.FfnInGrad.nD Cert.FfnInGrad.τ).loc Cert.FfnInGrad.main_arg1)
      ∧ r.2.mem ((c.tc : Thread Cert.FfnInGrad.nD Cert.FfnInGrad.τ).loc Cert.FfnInGrad.main_arg2) = m ((c.tc : Thread Cert.FfnInGrad.nD Cert.FfnInGrad.τ).loc Cert.FfnInGrad.main_arg2))
      ∧ r.2.sem = fun _ => 0)

def quiescent_FfnInGradIdeal [hFfnInGradIdeal : Cert.FfnInGradIdeal.Facts] : Prop :=
  ∀ (m : (ℓ : Loc Cert.FfnInGradIdeal.nD Cert.FfnInGradIdeal.τ Cert.FfnInGradIdeal.sig) → Buf (Elt Ideal) ℓ) (g : Dev Cert.FfnInGradIdeal.nD → PrngReg), Pre_FfnInGradIdeal m →
    θ_run (Cert.FfnInGradIdeal.defs (F := Ideal)) (onTc (τ := Cert.FfnInGradIdeal.τ) (Cert.FfnInGradIdeal.main (F := Ideal))) ⟨m, fun _ => 0, g⟩ (fun r => (∀ c : Dev Cert.FfnInGradIdeal.nD,
      r.2.mem ((c.tc : Thread Cert.FfnInGradIdeal.nD Cert.FfnInGradIdeal.τ).loc Cert.FfnInGradIdeal.main_arg0) = m ((c.tc : Thread Cert.FfnInGradIdeal.nD Cert.FfnInGradIdeal.τ).loc Cert.FfnInGradIdeal.main_arg0)
      ∧ r.2.mem ((c.tc : Thread Cert.FfnInGradIdeal.nD Cert.FfnInGradIdeal.τ).loc Cert.FfnInGradIdeal.main_arg1) = m ((c.tc : Thread Cert.FfnInGradIdeal.nD Cert.FfnInGradIdeal.τ).loc Cert.FfnInGradIdeal.main_arg1)
      ∧ r.2.mem ((c.tc : Thread Cert.FfnInGradIdeal.nD Cert.FfnInGradIdeal.τ).loc Cert.FfnInGradIdeal.main_arg2) = m ((c.tc : Thread Cert.FfnInGradIdeal.nD Cert.FfnInGradIdeal.τ).loc Cert.FfnInGradIdeal.main_arg2))
      ∧ r.2.sem = fun _ => 0)

def quiescent_FfnInGradRefIdeal [hFfnInGradRefIdeal : Cert.FfnInGradRefIdeal.Facts] : Prop :=
  ∀ (m : (ℓ : Loc Cert.FfnInGradRefIdeal.nD Cert.FfnInGradRefIdeal.τ Cert.FfnInGradRefIdeal.sig) → Buf (Elt Ideal) ℓ) (g : Dev Cert.FfnInGradRefIdeal.nD → PrngReg), Pre_FfnInGradRefIdeal m →
    θ_run (Cert.FfnInGradRefIdeal.defs (F := Ideal)) (onTc (τ := Cert.FfnInGradRefIdeal.τ) (Cert.FfnInGradRefIdeal.main (F := Ideal))) ⟨m, fun _ => 0, g⟩ (fun r => (∀ c : Dev Cert.FfnInGradRefIdeal.nD,
      r.2.mem ((c.tc : Thread Cert.FfnInGradRefIdeal.nD Cert.FfnInGradRefIdeal.τ).loc Cert.FfnInGradRefIdeal.main_arg0) = m ((c.tc : Thread Cert.FfnInGradRefIdeal.nD Cert.FfnInGradRefIdeal.τ).loc Cert.FfnInGradRefIdeal.main_arg0)
      ∧ r.2.mem ((c.tc : Thread Cert.FfnInGradRefIdeal.nD Cert.FfnInGradRefIdeal.τ).loc Cert.FfnInGradRefIdeal.main_arg1) = m ((c.tc : Thread Cert.FfnInGradRefIdeal.nD Cert.FfnInGradRefIdeal.τ).loc Cert.FfnInGradRefIdeal.main_arg1)
      ∧ r.2.mem ((c.tc : Thread Cert.FfnInGradRefIdeal.nD Cert.FfnInGradRefIdeal.τ).loc Cert.FfnInGradRefIdeal.main_arg2) = m ((c.tc : Thread Cert.FfnInGradRefIdeal.nD Cert.FfnInGradRefIdeal.τ).loc Cert.FfnInGradRefIdeal.main_arg2))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1))
      ∧ r.2.sem = fun _ => 0)

def quiescent_FfnDownDw [hFfnDownDw : Cert.FfnDownDw.Facts] : Prop :=
  ∀ (m : (ℓ : Loc Cert.FfnDownDw.nD Cert.FfnDownDw.τ Cert.FfnDownDw.sig) → Buf (Elt Bits) ℓ) (g : Dev Cert.FfnDownDw.nD → PrngReg), Pre_FfnDownDw m →
    θ_run (Cert.FfnDownDw.defs (F := Bits)) (onTc (τ := Cert.FfnDownDw.τ) (Cert.FfnDownDw.main (F := Bits))) ⟨m, fun _ => 0, g⟩ (fun r => (∀ c : Dev Cert.FfnDownDw.nD,
      r.2.mem ((c.tc : Thread Cert.FfnDownDw.nD Cert.FfnDownDw.τ).loc Cert.FfnDownDw.main_arg0) = m ((c.tc : Thread Cert.FfnDownDw.nD Cert.FfnDownDw.τ).loc Cert.FfnDownDw.main_arg0)
      ∧ r.2.mem ((c.tc : Thread Cert.FfnDownDw.nD Cert.FfnDownDw.τ).loc Cert.FfnDownDw.main_arg1) = m ((c.tc : Thread Cert.FfnDownDw.nD Cert.FfnDownDw.τ).loc Cert.FfnDownDw.main_arg1))
      ∧ r.2.sem = fun _ => 0)

def quiescent_FfnDownDwIdeal [hFfnDownDwIdeal : Cert.FfnDownDwIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg), Pre_FfnDownDwIdeal m →
    θ_run (Cert.FfnDownDwIdeal.defs (F := Ideal)) (onTc (τ := Cert.FfnDownDwIdeal.τ) (Cert.FfnDownDwIdeal.main (F := Ideal))) ⟨m, fun _ => 0, g⟩ (fun r => (∀ c : Dev Cert.FfnDownDwIdeal.nD,
      r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
      ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ r.2.sem = fun _ => 0)

def quiescent_FfnDownDwRefIdeal [hFfnDownDwRefIdeal : Cert.FfnDownDwRefIdeal.Facts] : Prop :=
  ∀ (m : (ℓ : Loc Cert.FfnDownDwRefIdeal.nD Cert.FfnDownDwRefIdeal.τ Cert.FfnDownDwRefIdeal.sig) → Buf (Elt Ideal) ℓ) (g : Dev Cert.FfnDownDwRefIdeal.nD → PrngReg), Pre_FfnDownDwRefIdeal m →
    θ_run (Cert.FfnDownDwRefIdeal.defs (F := Ideal)) (onTc (τ := Cert.FfnDownDwRefIdeal.τ) (Cert.FfnDownDwRefIdeal.main (F := Ideal))) ⟨m, fun _ => 0, g⟩ (fun r => (∀ c : Dev Cert.FfnDownDwRefIdeal.nD,
      r.2.mem ((c.tc : Thread Cert.FfnDownDwRefIdeal.nD Cert.FfnDownDwRefIdeal.τ).loc Cert.FfnDownDwRefIdeal.main_arg0) = m ((c.tc : Thread Cert.FfnDownDwRefIdeal.nD Cert.FfnDownDwRefIdeal.τ).loc Cert.FfnDownDwRefIdeal.main_arg0)
      ∧ r.2.mem ((c.tc : Thread Cert.FfnDownDwRefIdeal.nD Cert.FfnDownDwRefIdeal.τ).loc Cert.FfnDownDwRefIdeal.main_arg1) = m ((c.tc : Thread Cert.FfnDownDwRefIdeal.nD Cert.FfnDownDwRefIdeal.τ).loc Cert.FfnDownDwRefIdeal.main_arg1))
      ∧ r.2.sem = fun _ => 0)

def quiescent_SquareDw [hSquareDw : Cert.SquareDw.Facts] : Prop :=
  ∀ (m : (ℓ : Loc Cert.SquareDw.nD Cert.SquareDw.τ Cert.SquareDw.sig) → Buf (Elt Bits) ℓ) (g : Dev Cert.SquareDw.nD → PrngReg), Pre_SquareDw m →
    θ_run (Cert.SquareDw.defs (F := Bits)) (onTc (τ := Cert.SquareDw.τ) (Cert.SquareDw.main (F := Bits))) ⟨m, fun _ => 0, g⟩ (fun r => (∀ c : Dev Cert.SquareDw.nD,
      r.2.mem ((c.tc : Thread Cert.SquareDw.nD Cert.SquareDw.τ).loc Cert.SquareDw.main_arg0) = m ((c.tc : Thread Cert.SquareDw.nD Cert.SquareDw.τ).loc Cert.SquareDw.main_arg0)
      ∧ r.2.mem ((c.tc : Thread Cert.SquareDw.nD Cert.SquareDw.τ).loc Cert.SquareDw.main_arg1) = m ((c.tc : Thread Cert.SquareDw.nD Cert.SquareDw.τ).loc Cert.SquareDw.main_arg1))
      ∧ r.2.sem = fun _ => 0)

def quiescent_SquareDwIdeal [hSquareDwIdeal : Cert.SquareDwIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg), Pre_SquareDwIdeal m →
    θ_run (Cert.SquareDwIdeal.defs (F := Ideal)) (onTc (τ := Cert.SquareDwIdeal.τ) (Cert.SquareDwIdeal.main (F := Ideal))) ⟨m, fun _ => 0, g⟩ (fun r => (∀ c : Dev Cert.SquareDwIdeal.nD,
      r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
      ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1))
      ∧ r.2.sem = fun _ => 0)

def quiescent_SquareDwRefIdeal [hSquareDwRefIdeal : Cert.SquareDwRefIdeal.Facts] : Prop :=
  ∀ (m : (ℓ : Loc Cert.SquareDwRefIdeal.nD Cert.SquareDwRefIdeal.τ Cert.SquareDwRefIdeal.sig) → Buf (Elt Ideal) ℓ) (g : Dev Cert.SquareDwRefIdeal.nD → PrngReg), Pre_SquareDwRefIdeal m →
    θ_run (Cert.SquareDwRefIdeal.defs (F := Ideal)) (onTc (τ := Cert.SquareDwRefIdeal.τ) (Cert.SquareDwRefIdeal.main (F := Ideal))) ⟨m, fun _ => 0, g⟩ (fun r => (∀ c : Dev Cert.SquareDwRefIdeal.nD,
      r.2.mem ((c.tc : Thread Cert.SquareDwRefIdeal.nD Cert.SquareDwRefIdeal.τ).loc Cert.SquareDwRefIdeal.main_arg0) = m ((c.tc : Thread Cert.SquareDwRefIdeal.nD Cert.SquareDwRefIdeal.τ).loc Cert.SquareDwRefIdeal.main_arg0)
      ∧ r.2.mem ((c.tc : Thread Cert.SquareDwRefIdeal.nD Cert.SquareDwRefIdeal.τ).loc Cert.SquareDwRefIdeal.main_arg1) = m ((c.tc : Thread Cert.SquareDwRefIdeal.nD Cert.SquareDwRefIdeal.τ).loc Cert.SquareDwRefIdeal.main_arg1))
      ∧ r.2.sem = fun _ => 0)

def quiescent_SquareGrad [hSquareGrad : Cert.SquareGrad.Facts] : Prop :=
  ∀ (m : (ℓ : Loc Cert.SquareGrad.nD Cert.SquareGrad.τ Cert.SquareGrad.sig) → Buf (Elt Bits) ℓ) (g : Dev Cert.SquareGrad.nD → PrngReg), Pre_SquareGrad m →
    θ_run (Cert.SquareGrad.defs (F := Bits)) (onTc (τ := Cert.SquareGrad.τ) (Cert.SquareGrad.main (F := Bits))) ⟨m, fun _ => 0, g⟩ (fun r => (∀ c : Dev Cert.SquareGrad.nD,
      r.2.mem ((c.tc : Thread Cert.SquareGrad.nD Cert.SquareGrad.τ).loc Cert.SquareGrad.main_arg0) = m ((c.tc : Thread Cert.SquareGrad.nD Cert.SquareGrad.τ).loc Cert.SquareGrad.main_arg0)
      ∧ r.2.mem ((c.tc : Thread Cert.SquareGrad.nD Cert.SquareGrad.τ).loc Cert.SquareGrad.main_arg1) = m ((c.tc : Thread Cert.SquareGrad.nD Cert.SquareGrad.τ).loc Cert.SquareGrad.main_arg1))
      ∧ r.2.sem = fun _ => 0)

def quiescent_SquareGradIdeal [hSquareGradIdeal : Cert.SquareGradIdeal.Facts] : Prop :=
  ∀ (m : (ℓ : Loc Cert.SquareGradIdeal.nD Cert.SquareGradIdeal.τ Cert.SquareGradIdeal.sig) → Buf (Elt Ideal) ℓ) (g : Dev Cert.SquareGradIdeal.nD → PrngReg), Pre_SquareGradIdeal m →
    θ_run (Cert.SquareGradIdeal.defs (F := Ideal)) (onTc (τ := Cert.SquareGradIdeal.τ) (Cert.SquareGradIdeal.main (F := Ideal))) ⟨m, fun _ => 0, g⟩ (fun r => (∀ c : Dev Cert.SquareGradIdeal.nD,
      r.2.mem ((c.tc : Thread Cert.SquareGradIdeal.nD Cert.SquareGradIdeal.τ).loc Cert.SquareGradIdeal.main_arg0) = m ((c.tc : Thread Cert.SquareGradIdeal.nD Cert.SquareGradIdeal.τ).loc Cert.SquareGradIdeal.main_arg0)
      ∧ r.2.mem ((c.tc : Thread Cert.SquareGradIdeal.nD Cert.SquareGradIdeal.τ).loc Cert.SquareGradIdeal.main_arg1) = m ((c.tc : Thread Cert.SquareGradIdeal.nD Cert.SquareGradIdeal.τ).loc Cert.SquareGradIdeal.main_arg1))
      ∧ r.2.sem = fun _ => 0)

def quiescent_SquareGradRefIdeal [hSquareGradRefIdeal : Cert.SquareGradRefIdeal.Facts] : Prop :=
  ∀ (m : (ℓ : Loc Cert.SquareGradRefIdeal.nD Cert.SquareGradRefIdeal.τ Cert.SquareGradRefIdeal.sig) → Buf (Elt Ideal) ℓ) (g : Dev Cert.SquareGradRefIdeal.nD → PrngReg), Pre_SquareGradRefIdeal m →
    θ_run (Cert.SquareGradRefIdeal.defs (F := Ideal)) (onTc (τ := Cert.SquareGradRefIdeal.τ) (Cert.SquareGradRefIdeal.main (F := Ideal))) ⟨m, fun _ => 0, g⟩ (fun r => (∀ c : Dev Cert.SquareGradRefIdeal.nD,
      r.2.mem ((c.tc : Thread Cert.SquareGradRefIdeal.nD Cert.SquareGradRefIdeal.τ).loc Cert.SquareGradRefIdeal.main_arg0) = m ((c.tc : Thread Cert.SquareGradRefIdeal.nD Cert.SquareGradRefIdeal.τ).loc Cert.SquareGradRefIdeal.main_arg0)
      ∧ r.2.mem ((c.tc : Thread Cert.SquareGradRefIdeal.nD Cert.SquareGradRefIdeal.τ).loc Cert.SquareGradRefIdeal.main_arg1) = m ((c.tc : Thread Cert.SquareGradRefIdeal.nD Cert.SquareGradRefIdeal.τ).loc Cert.SquareGradRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_ProjSsm [hProjSsm : Cert.ProjSsm.Facts] : Prop :=
  ∀ (m : (ℓ : Loc Cert.ProjSsm.nD Cert.ProjSsm.τ Cert.ProjSsm.sig) → Buf (Elt Bits) ℓ) (g : Dev Cert.ProjSsm.nD → PrngReg), Pre_ProjSsm m →
    θ_run (Cert.ProjSsm.defs (F := Bits)) (onTc (τ := Cert.ProjSsm.τ) (Cert.ProjSsm.main (F := Bits))) ⟨m, fun _ => 0, g⟩ (fun r => (∀ c : Dev Cert.ProjSsm.nD,
      r.2.mem ((c.tc : Thread Cert.ProjSsm.nD Cert.ProjSsm.τ).loc Cert.ProjSsm.main_arg0) = m ((c.tc : Thread Cert.ProjSsm.nD Cert.ProjSsm.τ).loc Cert.ProjSsm.main_arg0)
      ∧ r.2.mem ((c.tc : Thread Cert.ProjSsm.nD Cert.ProjSsm.τ).loc Cert.ProjSsm.main_arg1) = m ((c.tc : Thread Cert.ProjSsm.nD Cert.ProjSsm.τ).loc Cert.ProjSsm.main_arg1))
      ∧ r.2.sem = fun _ => 0)

def quiescent_ProjSsmIdeal [hProjSsmIdeal : Cert.ProjSsmIdeal.Facts] : Prop :=
  ∀ (m : (ℓ : Loc Cert.ProjSsmIdeal.nD Cert.ProjSsmIdeal.τ Cert.ProjSsmIdeal.sig) → Buf (Elt Ideal) ℓ) (g : Dev Cert.ProjSsmIdeal.nD → PrngReg), Pre_ProjSsmIdeal m →
    θ_run (Cert.ProjSsmIdeal.defs (F := Ideal)) (onTc (τ := Cert.ProjSsmIdeal.τ) (Cert.ProjSsmIdeal.main (F := Ideal))) ⟨m, fun _ => 0, g⟩ (fun r => (∀ c : Dev Cert.ProjSsmIdeal.nD,
      r.2.mem ((c.tc : Thread Cert.ProjSsmIdeal.nD Cert.ProjSsmIdeal.τ).loc Cert.ProjSsmIdeal.main_arg0) = m ((c.tc : Thread Cert.ProjSsmIdeal.nD Cert.ProjSsmIdeal.τ).loc Cert.ProjSsmIdeal.main_arg0)
      ∧ r.2.mem ((c.tc : Thread Cert.ProjSsmIdeal.nD Cert.ProjSsmIdeal.τ).loc Cert.ProjSsmIdeal.main_arg1) = m ((c.tc : Thread Cert.ProjSsmIdeal.nD Cert.ProjSsmIdeal.τ).loc Cert.ProjSsmIdeal.main_arg1))
      ∧ r.2.sem = fun _ => 0)

def quiescent_ProjSsmRefIdeal [hProjSsmRefIdeal : Cert.ProjSsmRefIdeal.Facts] : Prop :=
  ∀ (m : (ℓ : Loc Cert.ProjSsmRefIdeal.nD Cert.ProjSsmRefIdeal.τ Cert.ProjSsmRefIdeal.sig) → Buf (Elt Ideal) ℓ) (g : Dev Cert.ProjSsmRefIdeal.nD → PrngReg), Pre_ProjSsmRefIdeal m →
    θ_run (Cert.ProjSsmRefIdeal.defs (F := Ideal)) (onTc (τ := Cert.ProjSsmRefIdeal.τ) (Cert.ProjSsmRefIdeal.main (F := Ideal))) ⟨m, fun _ => 0, g⟩ (fun r => (∀ c : Dev Cert.ProjSsmRefIdeal.nD,
      r.2.mem ((c.tc : Thread Cert.ProjSsmRefIdeal.nD Cert.ProjSsmRefIdeal.τ).loc Cert.ProjSsmRefIdeal.main_arg0) = m ((c.tc : Thread Cert.ProjSsmRefIdeal.nD Cert.ProjSsmRefIdeal.τ).loc Cert.ProjSsmRefIdeal.main_arg0)
      ∧ r.2.mem ((c.tc : Thread Cert.ProjSsmRefIdeal.nD Cert.ProjSsmRefIdeal.τ).loc Cert.ProjSsmRefIdeal.main_arg1) = m ((c.tc : Thread Cert.ProjSsmRefIdeal.nD Cert.ProjSsmRefIdeal.τ).loc Cert.ProjSsmRefIdeal.main_arg1))
      ∧ r.2.sem = fun _ => 0)

def quiescent_ProjMerge [hProjMerge : Cert.ProjMerge.Facts] : Prop :=
  ∀ (m : (ℓ : Loc Cert.ProjMerge.nD Cert.ProjMerge.τ Cert.ProjMerge.sig) → Buf (Elt Bits) ℓ) (g : Dev Cert.ProjMerge.nD → PrngReg), Pre_ProjMerge m →
    θ_run (Cert.ProjMerge.defs (F := Bits)) (onTc (τ := Cert.ProjMerge.τ) (Cert.ProjMerge.main (F := Bits))) ⟨m, fun _ => 0, g⟩ (fun r => (∀ c : Dev Cert.ProjMerge.nD,
      r.2.mem ((c.tc : Thread Cert.ProjMerge.nD Cert.ProjMerge.τ).loc Cert.ProjMerge.main_arg0) = m ((c.tc : Thread Cert.ProjMerge.nD Cert.ProjMerge.τ).loc Cert.ProjMerge.main_arg0)
      ∧ r.2.mem ((c.tc : Thread Cert.ProjMerge.nD Cert.ProjMerge.τ).loc Cert.ProjMerge.main_arg1) = m ((c.tc : Thread Cert.ProjMerge.nD Cert.ProjMerge.τ).loc Cert.ProjMerge.main_arg1)
      ∧ r.2.mem ((c.tc : Thread Cert.ProjMerge.nD Cert.ProjMerge.τ).loc Cert.ProjMerge.main_arg2) = m ((c.tc : Thread Cert.ProjMerge.nD Cert.ProjMerge.τ).loc Cert.ProjMerge.main_arg2)
      ∧ r.2.mem ((c.tc : Thread Cert.ProjMerge.nD Cert.ProjMerge.τ).loc Cert.ProjMerge.main_arg3) = m ((c.tc : Thread Cert.ProjMerge.nD Cert.ProjMerge.τ).loc Cert.ProjMerge.main_arg3))
      ∧ r.2.sem = fun _ => 0)

def quiescent_ProjMergeIdeal [hProjMergeIdeal : Cert.ProjMergeIdeal.Facts] : Prop :=
  ∀ (m : (ℓ : Loc Cert.ProjMergeIdeal.nD Cert.ProjMergeIdeal.τ Cert.ProjMergeIdeal.sig) → Buf (Elt Ideal) ℓ) (g : Dev Cert.ProjMergeIdeal.nD → PrngReg), Pre_ProjMergeIdeal m →
    θ_run (Cert.ProjMergeIdeal.defs (F := Ideal)) (onTc (τ := Cert.ProjMergeIdeal.τ) (Cert.ProjMergeIdeal.main (F := Ideal))) ⟨m, fun _ => 0, g⟩ (fun r => (∀ c : Dev Cert.ProjMergeIdeal.nD,
      r.2.mem ((c.tc : Thread Cert.ProjMergeIdeal.nD Cert.ProjMergeIdeal.τ).loc Cert.ProjMergeIdeal.main_arg0) = m ((c.tc : Thread Cert.ProjMergeIdeal.nD Cert.ProjMergeIdeal.τ).loc Cert.ProjMergeIdeal.main_arg0)
      ∧ r.2.mem ((c.tc : Thread Cert.ProjMergeIdeal.nD Cert.ProjMergeIdeal.τ).loc Cert.ProjMergeIdeal.main_arg1) = m ((c.tc : Thread Cert.ProjMergeIdeal.nD Cert.ProjMergeIdeal.τ).loc Cert.ProjMergeIdeal.main_arg1)
      ∧ r.2.mem ((c.tc : Thread Cert.ProjMergeIdeal.nD Cert.ProjMergeIdeal.τ).loc Cert.ProjMergeIdeal.main_arg2) = m ((c.tc : Thread Cert.ProjMergeIdeal.nD Cert.ProjMergeIdeal.τ).loc Cert.ProjMergeIdeal.main_arg2)
      ∧ r.2.mem ((c.tc : Thread Cert.ProjMergeIdeal.nD Cert.ProjMergeIdeal.τ).loc Cert.ProjMergeIdeal.main_arg3) = m ((c.tc : Thread Cert.ProjMergeIdeal.nD Cert.ProjMergeIdeal.τ).loc Cert.ProjMergeIdeal.main_arg3))
      ∧ r.2.sem = fun _ => 0)

def quiescent_ProjMergeRefIdeal [hProjMergeRefIdeal : Cert.ProjMergeRefIdeal.Facts] : Prop :=
  ∀ (m : (ℓ : Loc Cert.ProjMergeRefIdeal.nD Cert.ProjMergeRefIdeal.τ Cert.ProjMergeRefIdeal.sig) → Buf (Elt Ideal) ℓ) (g : Dev Cert.ProjMergeRefIdeal.nD → PrngReg), Pre_ProjMergeRefIdeal m →
    θ_run (Cert.ProjMergeRefIdeal.defs (F := Ideal)) (onTc (τ := Cert.ProjMergeRefIdeal.τ) (Cert.ProjMergeRefIdeal.main (F := Ideal))) ⟨m, fun _ => 0, g⟩ (fun r => (∀ c : Dev Cert.ProjMergeRefIdeal.nD,
      r.2.mem ((c.tc : Thread Cert.ProjMergeRefIdeal.nD Cert.ProjMergeRefIdeal.τ).loc Cert.ProjMergeRefIdeal.main_arg0) = m ((c.tc : Thread Cert.ProjMergeRefIdeal.nD Cert.ProjMergeRefIdeal.τ).loc Cert.ProjMergeRefIdeal.main_arg0)
      ∧ r.2.mem ((c.tc : Thread Cert.ProjMergeRefIdeal.nD Cert.ProjMergeRefIdeal.τ).loc Cert.ProjMergeRefIdeal.main_arg1) = m ((c.tc : Thread Cert.ProjMergeRefIdeal.nD Cert.ProjMergeRefIdeal.τ).loc Cert.ProjMergeRefIdeal.main_arg1)
      ∧ r.2.mem ((c.tc : Thread Cert.ProjMergeRefIdeal.nD Cert.ProjMergeRefIdeal.τ).loc Cert.ProjMergeRefIdeal.main_arg2) = m ((c.tc : Thread Cert.ProjMergeRefIdeal.nD Cert.ProjMergeRefIdeal.τ).loc Cert.ProjMergeRefIdeal.main_arg2)
      ∧ r.2.mem ((c.tc : Thread Cert.ProjMergeRefIdeal.nD Cert.ProjMergeRefIdeal.τ).loc Cert.ProjMergeRefIdeal.main_arg3) = m ((c.tc : Thread Cert.ProjMergeRefIdeal.nD Cert.ProjMergeRefIdeal.τ).loc Cert.ProjMergeRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_loss_finite [hLossHeadIdeal : Cert.LossHeadIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_loss_finite m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_LossHeadRefIdeal_pre_loss_finite [hLossHeadRefIdeal : Cert.LossHeadRefIdeal.Facts] [hPre_loss_finite : Cert.Pre_loss_finite.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_loss_finite m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_SumConvSsm [hSumConvSsm : Cert.SumConvSsm.Facts] : Prop :=
  ∀ (m : (ℓ : Loc Cert.SumConvSsm.nD Cert.SumConvSsm.τ Cert.SumConvSsm.sig) → Buf (Elt Bits) ℓ) (g : Dev Cert.SumConvSsm.nD → PrngReg), Pre_SumConvSsm m →
    θ_run (Cert.SumConvSsm.defs (F := Bits)) (onTc (τ := Cert.SumConvSsm.τ) (Cert.SumConvSsm.main (F := Bits))) ⟨m, fun _ => 0, g⟩ (fun r => (∀ c : Dev Cert.SumConvSsm.nD,
      r.2.mem ((c.tc : Thread Cert.SumConvSsm.nD Cert.SumConvSsm.τ).loc Cert.SumConvSsm.main_arg0) = m ((c.tc : Thread Cert.SumConvSsm.nD Cert.SumConvSsm.τ).loc Cert.SumConvSsm.main_arg0)
      ∧ r.2.mem ((c.tc : Thread Cert.SumConvSsm.nD Cert.SumConvSsm.τ).loc Cert.SumConvSsm.main_arg1) = m ((c.tc : Thread Cert.SumConvSsm.nD Cert.SumConvSsm.τ).loc Cert.SumConvSsm.main_arg1))
      ∧ r.2.sem = fun _ => 0)

def quiescent_SumConvSsmIdeal [hSumConvSsmIdeal : Cert.SumConvSsmIdeal.Facts] : Prop :=
  ∀ (m : (ℓ : Loc Cert.SumConvSsmIdeal.nD Cert.SumConvSsmIdeal.τ Cert.SumConvSsmIdeal.sig) → Buf (Elt Ideal) ℓ) (g : Dev Cert.SumConvSsmIdeal.nD → PrngReg), Pre_SumConvSsmIdeal m →
    θ_run (Cert.SumConvSsmIdeal.defs (F := Ideal)) (onTc (τ := Cert.SumConvSsmIdeal.τ) (Cert.SumConvSsmIdeal.main (F := Ideal))) ⟨m, fun _ => 0, g⟩ (fun r => (∀ c : Dev Cert.SumConvSsmIdeal.nD,
      r.2.mem ((c.tc : Thread Cert.SumConvSsmIdeal.nD Cert.SumConvSsmIdeal.τ).loc Cert.SumConvSsmIdeal.main_arg0) = m ((c.tc : Thread Cert.SumConvSsmIdeal.nD Cert.SumConvSsmIdeal.τ).loc Cert.SumConvSsmIdeal.main_arg0)
      ∧ r.2.mem ((c.tc : Thread Cert.SumConvSsmIdeal.nD Cert.SumConvSsmIdeal.τ).loc Cert.SumConvSsmIdeal.main_arg1) = m ((c.tc : Thread Cert.SumConvSsmIdeal.nD Cert.SumConvSsmIdeal.τ).loc Cert.SumConvSsmIdeal.main_arg1))
      ∧ r.2.sem = fun _ => 0)

def quiescent_SumConvSsmRefIdeal [hSumConvSsmRefIdeal : Cert.SumConvSsmRefIdeal.Facts] : Prop :=
  ∀ (m : (ℓ : Loc Cert.SumConvSsmRefIdeal.nD Cert.SumConvSsmRefIdeal.τ Cert.SumConvSsmRefIdeal.sig) → Buf (Elt Ideal) ℓ) (g : Dev Cert.SumConvSsmRefIdeal.nD → PrngReg), Pre_SumConvSsmRefIdeal m →
    θ_run (Cert.SumConvSsmRefIdeal.defs (F := Ideal)) (onTc (τ := Cert.SumConvSsmRefIdeal.τ) (Cert.SumConvSsmRefIdeal.main (F := Ideal))) ⟨m, fun _ => 0, g⟩ (fun r => (∀ c : Dev Cert.SumConvSsmRefIdeal.nD,
      r.2.mem ((c.tc : Thread Cert.SumConvSsmRefIdeal.nD Cert.SumConvSsmRefIdeal.τ).loc Cert.SumConvSsmRefIdeal.main_arg0) = m ((c.tc : Thread Cert.SumConvSsmRefIdeal.nD Cert.SumConvSsmRefIdeal.τ).loc Cert.SumConvSsmRefIdeal.main_arg0)
      ∧ r.2.mem ((c.tc : Thread Cert.SumConvSsmRefIdeal.nD Cert.SumConvSsmRefIdeal.τ).loc Cert.SumConvSsmRefIdeal.main_arg1) = m ((c.tc : Thread Cert.SumConvSsmRefIdeal.nD Cert.SumConvSsmRefIdeal.τ).loc Cert.SumConvSsmRefIdeal.main_arg1))
      ∧ r.2.sem = fun _ => 0)

def quiescent_SumConvGdn [hSumConvGdn : Cert.SumConvGdn.Facts] : Prop :=
  ∀ (m : (ℓ : Loc Cert.SumConvGdn.nD Cert.SumConvGdn.τ Cert.SumConvGdn.sig) → Buf (Elt Bits) ℓ) (g : Dev Cert.SumConvGdn.nD → PrngReg), Pre_SumConvGdn m →
    θ_run (Cert.SumConvGdn.defs (F := Bits)) (onTc (τ := Cert.SumConvGdn.τ) (Cert.SumConvGdn.main (F := Bits))) ⟨m, fun _ => 0, g⟩ (fun r => (∀ c : Dev Cert.SumConvGdn.nD,
      r.2.mem ((c.tc : Thread Cert.SumConvGdn.nD Cert.SumConvGdn.τ).loc Cert.SumConvGdn.main_arg0) = m ((c.tc : Thread Cert.SumConvGdn.nD Cert.SumConvGdn.τ).loc Cert.SumConvGdn.main_arg0)
      ∧ r.2.mem ((c.tc : Thread Cert.SumConvGdn.nD Cert.SumConvGdn.τ).loc Cert.SumConvGdn.main_arg1) = m ((c.tc : Thread Cert.SumConvGdn.nD Cert.SumConvGdn.τ).loc Cert.SumConvGdn.main_arg1))
      ∧ r.2.sem = fun _ => 0)

def quiescent_SumConvGdnIdeal [hSumConvGdnIdeal : Cert.SumConvGdnIdeal.Facts] : Prop :=
  ∀ (m : (ℓ : Loc Cert.SumConvGdnIdeal.nD Cert.SumConvGdnIdeal.τ Cert.SumConvGdnIdeal.sig) → Buf (Elt Ideal) ℓ) (g : Dev Cert.SumConvGdnIdeal.nD → PrngReg), Pre_SumConvGdnIdeal m →
    θ_run (Cert.SumConvGdnIdeal.defs (F := Ideal)) (onTc (τ := Cert.SumConvGdnIdeal.τ) (Cert.SumConvGdnIdeal.main (F := Ideal))) ⟨m, fun _ => 0, g⟩ (fun r => (∀ c : Dev Cert.SumConvGdnIdeal.nD,
      r.2.mem ((c.tc : Thread Cert.SumConvGdnIdeal.nD Cert.SumConvGdnIdeal.τ).loc Cert.SumConvGdnIdeal.main_arg0) = m ((c.tc : Thread Cert.SumConvGdnIdeal.nD Cert.SumConvGdnIdeal.τ).loc Cert.SumConvGdnIdeal.main_arg0)
      ∧ r.2.mem ((c.tc : Thread Cert.SumConvGdnIdeal.nD Cert.SumConvGdnIdeal.τ).loc Cert.SumConvGdnIdeal.main_arg1) = m ((c.tc : Thread Cert.SumConvGdnIdeal.nD Cert.SumConvGdnIdeal.τ).loc Cert.SumConvGdnIdeal.main_arg1))
      ∧ r.2.sem = fun _ => 0)

def quiescent_SumConvGdnRefIdeal [hSumConvGdnRefIdeal : Cert.SumConvGdnRefIdeal.Facts] : Prop :=
  ∀ (m : (ℓ : Loc Cert.SumConvGdnRefIdeal.nD Cert.SumConvGdnRefIdeal.τ Cert.SumConvGdnRefIdeal.sig) → Buf (Elt Ideal) ℓ) (g : Dev Cert.SumConvGdnRefIdeal.nD → PrngReg), Pre_SumConvGdnRefIdeal m →
    θ_run (Cert.SumConvGdnRefIdeal.defs (F := Ideal)) (onTc (τ := Cert.SumConvGdnRefIdeal.τ) (Cert.SumConvGdnRefIdeal.main (F := Ideal))) ⟨m, fun _ => 0, g⟩ (fun r => (∀ c : Dev Cert.SumConvGdnRefIdeal.nD,
      r.2.mem ((c.tc : Thread Cert.SumConvGdnRefIdeal.nD Cert.SumConvGdnRefIdeal.τ).loc Cert.SumConvGdnRefIdeal.main_arg0) = m ((c.tc : Thread Cert.SumConvGdnRefIdeal.nD Cert.SumConvGdnRefIdeal.τ).loc Cert.SumConvGdnRefIdeal.main_arg0)
      ∧ r.2.mem ((c.tc : Thread Cert.SumConvGdnRefIdeal.nD Cert.SumConvGdnRefIdeal.τ).loc Cert.SumConvGdnRefIdeal.main_arg1) = m ((c.tc : Thread Cert.SumConvGdnRefIdeal.nD Cert.SumConvGdnRefIdeal.τ).loc Cert.SumConvGdnRefIdeal.main_arg1))
      ∧ r.2.sem = fun _ => 0)

def quiescent_SumSquare [hSumSquare : Cert.SumSquare.Facts] : Prop :=
  ∀ (m : (ℓ : Loc Cert.SumSquare.nD Cert.SumSquare.τ Cert.SumSquare.sig) → Buf (Elt Bits) ℓ) (g : Dev Cert.SumSquare.nD → PrngReg), Pre_SumSquare m →
    θ_run (Cert.SumSquare.defs (F := Bits)) (onTc (τ := Cert.SumSquare.τ) (Cert.SumSquare.main (F := Bits))) ⟨m, fun _ => 0, g⟩ (fun r => (∀ c : Dev Cert.SumSquare.nD,
      r.2.mem ((c.tc : Thread Cert.SumSquare.nD Cert.SumSquare.τ).loc Cert.SumSquare.main_arg0) = m ((c.tc : Thread Cert.SumSquare.nD Cert.SumSquare.τ).loc Cert.SumSquare.main_arg0)
      ∧ r.2.mem ((c.tc : Thread Cert.SumSquare.nD Cert.SumSquare.τ).loc Cert.SumSquare.main_arg1) = m ((c.tc : Thread Cert.SumSquare.nD Cert.SumSquare.τ).loc Cert.SumSquare.main_arg1))
      ∧ r.2.sem = fun _ => 0)

def quiescent_SumSquareIdeal [hSumSquareIdeal : Cert.SumSquareIdeal.Facts] : Prop :=
  ∀ (m : (ℓ : Loc Cert.SumSquareIdeal.nD Cert.SumSquareIdeal.τ Cert.SumSquareIdeal.sig) → Buf (Elt Ideal) ℓ) (g : Dev Cert.SumSquareIdeal.nD → PrngReg), Pre_SumSquareIdeal m →
    θ_run (Cert.SumSquareIdeal.defs (F := Ideal)) (onTc (τ := Cert.SumSquareIdeal.τ) (Cert.SumSquareIdeal.main (F := Ideal))) ⟨m, fun _ => 0, g⟩ (fun r => (∀ c : Dev Cert.SumSquareIdeal.nD,
      r.2.mem ((c.tc : Thread Cert.SumSquareIdeal.nD Cert.SumSquareIdeal.τ).loc Cert.SumSquareIdeal.main_arg0) = m ((c.tc : Thread Cert.SumSquareIdeal.nD Cert.SumSquareIdeal.τ).loc Cert.SumSquareIdeal.main_arg0)
      ∧ r.2.mem ((c.tc : Thread Cert.SumSquareIdeal.nD Cert.SumSquareIdeal.τ).loc Cert.SumSquareIdeal.main_arg1) = m ((c.tc : Thread Cert.SumSquareIdeal.nD Cert.SumSquareIdeal.τ).loc Cert.SumSquareIdeal.main_arg1))
      ∧ r.2.sem = fun _ => 0)

def quiescent_SumSquareRefIdeal [hSumSquareRefIdeal : Cert.SumSquareRefIdeal.Facts] : Prop :=
  ∀ (m : (ℓ : Loc Cert.SumSquareRefIdeal.nD Cert.SumSquareRefIdeal.τ Cert.SumSquareRefIdeal.sig) → Buf (Elt Ideal) ℓ) (g : Dev Cert.SumSquareRefIdeal.nD → PrngReg), Pre_SumSquareRefIdeal m →
    θ_run (Cert.SumSquareRefIdeal.defs (F := Ideal)) (onTc (τ := Cert.SumSquareRefIdeal.τ) (Cert.SumSquareRefIdeal.main (F := Ideal))) ⟨m, fun _ => 0, g⟩ (fun r => (∀ c : Dev Cert.SumSquareRefIdeal.nD,
      r.2.mem ((c.tc : Thread Cert.SumSquareRefIdeal.nD Cert.SumSquareRefIdeal.τ).loc Cert.SumSquareRefIdeal.main_arg0) = m ((c.tc : Thread Cert.SumSquareRefIdeal.nD Cert.SumSquareRefIdeal.τ).loc Cert.SumSquareRefIdeal.main_arg0)
      ∧ r.2.mem ((c.tc : Thread Cert.SumSquareRefIdeal.nD Cert.SumSquareRefIdeal.τ).loc Cert.SumSquareRefIdeal.main_arg1) = m ((c.tc : Thread Cert.SumSquareRefIdeal.nD Cert.SumSquareRefIdeal.τ).loc Cert.SumSquareRefIdeal.main_arg1))
      ∧ r.2.sem = fun _ => 0)

def quiescent_SumFfnDown [hSumFfnDown : Cert.SumFfnDown.Facts] : Prop :=
  ∀ (m : (ℓ : Loc Cert.SumFfnDown.nD Cert.SumFfnDown.τ Cert.SumFfnDown.sig) → Buf (Elt Bits) ℓ) (g : Dev Cert.SumFfnDown.nD → PrngReg), Pre_SumFfnDown m →
    θ_run (Cert.SumFfnDown.defs (F := Bits)) (onTc (τ := Cert.SumFfnDown.τ) (Cert.SumFfnDown.main (F := Bits))) ⟨m, fun _ => 0, g⟩ (fun r => (∀ c : Dev Cert.SumFfnDown.nD,
      r.2.mem ((c.tc : Thread Cert.SumFfnDown.nD Cert.SumFfnDown.τ).loc Cert.SumFfnDown.main_arg0) = m ((c.tc : Thread Cert.SumFfnDown.nD Cert.SumFfnDown.τ).loc Cert.SumFfnDown.main_arg0)
      ∧ r.2.mem ((c.tc : Thread Cert.SumFfnDown.nD Cert.SumFfnDown.τ).loc Cert.SumFfnDown.main_arg1) = m ((c.tc : Thread Cert.SumFfnDown.nD Cert.SumFfnDown.τ).loc Cert.SumFfnDown.main_arg1))
      ∧ r.2.sem = fun _ => 0)

def quiescent_SumFfnDownIdeal [hSumFfnDownIdeal : Cert.SumFfnDownIdeal.Facts] : Prop :=
  ∀ (m : (ℓ : Loc Cert.SumFfnDownIdeal.nD Cert.SumFfnDownIdeal.τ Cert.SumFfnDownIdeal.sig) → Buf (Elt Ideal) ℓ) (g : Dev Cert.SumFfnDownIdeal.nD → PrngReg), Pre_SumFfnDownIdeal m →
    θ_run (Cert.SumFfnDownIdeal.defs (F := Ideal)) (onTc (τ := Cert.SumFfnDownIdeal.τ) (Cert.SumFfnDownIdeal.main (F := Ideal))) ⟨m, fun _ => 0, g⟩ (fun r => (∀ c : Dev Cert.SumFfnDownIdeal.nD,
      r.2.mem ((c.tc : Thread Cert.SumFfnDownIdeal.nD Cert.SumFfnDownIdeal.τ).loc Cert.SumFfnDownIdeal.main_arg0) = m ((c.tc : Thread Cert.SumFfnDownIdeal.nD Cert.SumFfnDownIdeal.τ).loc Cert.SumFfnDownIdeal.main_arg0)
      ∧ r.2.mem ((c.tc : Thread Cert.SumFfnDownIdeal.nD Cert.SumFfnDownIdeal.τ).loc Cert.SumFfnDownIdeal.main_arg1) = m ((c.tc : Thread Cert.SumFfnDownIdeal.nD Cert.SumFfnDownIdeal.τ).loc Cert.SumFfnDownIdeal.main_arg1))
      ∧ r.2.sem = fun _ => 0)

def quiescent_SumFfnDownRefIdeal [hSumFfnDownRefIdeal : Cert.SumFfnDownRefIdeal.Facts] : Prop :=
  ∀ (m : (ℓ : Loc Cert.SumFfnDownRefIdeal.nD Cert.SumFfnDownRefIdeal.τ Cert.SumFfnDownRefIdeal.sig) → Buf (Elt Ideal) ℓ) (g : Dev Cert.SumFfnDownRefIdeal.nD → PrngReg), Pre_SumFfnDownRefIdeal m →
    θ_run (Cert.SumFfnDownRefIdeal.defs (F := Ideal)) (onTc (τ := Cert.SumFfnDownRefIdeal.τ) (Cert.SumFfnDownRefIdeal.main (F := Ideal))) ⟨m, fun _ => 0, g⟩ (fun r => (∀ c : Dev Cert.SumFfnDownRefIdeal.nD,
      r.2.mem ((c.tc : Thread Cert.SumFfnDownRefIdeal.nD Cert.SumFfnDownRefIdeal.τ).loc Cert.SumFfnDownRefIdeal.main_arg0) = m ((c.tc : Thread Cert.SumFfnDownRefIdeal.nD Cert.SumFfnDownRefIdeal.τ).loc Cert.SumFfnDownRefIdeal.main_arg0)
      ∧ r.2.mem ((c.tc : Thread Cert.SumFfnDownRefIdeal.nD Cert.SumFfnDownRefIdeal.τ).loc Cert.SumFfnDownRefIdeal.main_arg1) = m ((c.tc : Thread Cert.SumFfnDownRefIdeal.nD Cert.SumFfnDownRefIdeal.τ).loc Cert.SumFfnDownRefIdeal.main_arg1))
      ∧ r.2.sem = fun _ => 0)

def quiescent_SumFfnIn [hSumFfnIn : Cert.SumFfnIn.Facts] : Prop :=
  ∀ (m : (ℓ : Loc Cert.SumFfnIn.nD Cert.SumFfnIn.τ Cert.SumFfnIn.sig) → Buf (Elt Bits) ℓ) (g : Dev Cert.SumFfnIn.nD → PrngReg), Pre_SumFfnIn m →
    θ_run (Cert.SumFfnIn.defs (F := Bits)) (onTc (τ := Cert.SumFfnIn.τ) (Cert.SumFfnIn.main (F := Bits))) ⟨m, fun _ => 0, g⟩ (fun r => (∀ c : Dev Cert.SumFfnIn.nD,
      r.2.mem ((c.tc : Thread Cert.SumFfnIn.nD Cert.SumFfnIn.τ).loc Cert.SumFfnIn.main_arg0) = m ((c.tc : Thread Cert.SumFfnIn.nD Cert.SumFfnIn.τ).loc Cert.SumFfnIn.main_arg0)
      ∧ r.2.mem ((c.tc : Thread Cert.SumFfnIn.nD Cert.SumFfnIn.τ).loc Cert.SumFfnIn.main_arg1) = m ((c.tc : Thread Cert.SumFfnIn.nD Cert.SumFfnIn.τ).loc Cert.SumFfnIn.main_arg1))
      ∧ r.2.sem = fun _ => 0)

def quiescent_SumFfnInIdeal [hSumFfnInIdeal : Cert.SumFfnInIdeal.Facts] : Prop :=
  ∀ (m : (ℓ : Loc Cert.SumFfnInIdeal.nD Cert.SumFfnInIdeal.τ Cert.SumFfnInIdeal.sig) → Buf (Elt Ideal) ℓ) (g : Dev Cert.SumFfnInIdeal.nD → PrngReg), Pre_SumFfnInIdeal m →
    θ_run (Cert.SumFfnInIdeal.defs (F := Ideal)) (onTc (τ := Cert.SumFfnInIdeal.τ) (Cert.SumFfnInIdeal.main (F := Ideal))) ⟨m, fun _ => 0, g⟩ (fun r => (∀ c : Dev Cert.SumFfnInIdeal.nD,
      r.2.mem ((c.tc : Thread Cert.SumFfnInIdeal.nD Cert.SumFfnInIdeal.τ).loc Cert.SumFfnInIdeal.main_arg0) = m ((c.tc : Thread Cert.SumFfnInIdeal.nD Cert.SumFfnInIdeal.τ).loc Cert.SumFfnInIdeal.main_arg0)
      ∧ r.2.mem ((c.tc : Thread Cert.SumFfnInIdeal.nD Cert.SumFfnInIdeal.τ).loc Cert.SumFfnInIdeal.main_arg1) = m ((c.tc : Thread Cert.SumFfnInIdeal.nD Cert.SumFfnInIdeal.τ).loc Cert.SumFfnInIdeal.main_arg1))
      ∧ r.2.sem = fun _ => 0)

def quiescent_SumFfnInRefIdeal [hSumFfnInRefIdeal : Cert.SumFfnInRefIdeal.Facts] : Prop :=
  ∀ (m : (ℓ : Loc Cert.SumFfnInRefIdeal.nD Cert.SumFfnInRefIdeal.τ Cert.SumFfnInRefIdeal.sig) → Buf (Elt Ideal) ℓ) (g : Dev Cert.SumFfnInRefIdeal.nD → PrngReg), Pre_SumFfnInRefIdeal m →
    θ_run (Cert.SumFfnInRefIdeal.defs (F := Ideal)) (onTc (τ := Cert.SumFfnInRefIdeal.τ) (Cert.SumFfnInRefIdeal.main (F := Ideal))) ⟨m, fun _ => 0, g⟩ (fun r => (∀ c : Dev Cert.SumFfnInRefIdeal.nD,
      r.2.mem ((c.tc : Thread Cert.SumFfnInRefIdeal.nD Cert.SumFfnInRefIdeal.τ).loc Cert.SumFfnInRefIdeal.main_arg0) = m ((c.tc : Thread Cert.SumFfnInRefIdeal.nD Cert.SumFfnInRefIdeal.τ).loc Cert.SumFfnInRefIdeal.main_arg0)
      ∧ r.2.mem ((c.tc : Thread Cert.SumFfnInRefIdeal.nD Cert.SumFfnInRefIdeal.τ).loc Cert.SumFfnInRefIdeal.main_arg1) = m ((c.tc : Thread Cert.SumFfnInRefIdeal.nD Cert.SumFfnInRefIdeal.τ).loc Cert.SumFfnInRefIdeal.main_arg1))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0)
      ∧ r.2.mem ((c.tc : Thread Cert.SumIn.nD Cert.SumIn.τ).loc Cert.SumIn.main_arg1) = m ((c.tc : Thread Cert.SumIn.nD Cert.SumIn.τ).loc Cert.SumIn.main_arg1))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
      ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0)
      ∧ r.2.mem ((c.tc : Thread Cert.SumInRefIdeal.nD Cert.SumInRefIdeal.τ).loc Cert.SumInRefIdeal.main_arg1) = m ((c.tc : Thread Cert.SumInRefIdeal.nD Cert.SumInRefIdeal.τ).loc Cert.SumInRefIdeal.main_arg1))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_AdamConvB [hAdamConvB : Cert.AdamConvB.Facts] : Prop :=
  ∀ (m : (ℓ : Loc Cert.AdamConvB.nD Cert.AdamConvB.τ Cert.AdamConvB.sig) → Buf (Elt Bits) ℓ) (g : Dev Cert.AdamConvB.nD → PrngReg), Pre_AdamConvB m →
    θ_run (Cert.AdamConvB.defs (F := Bits)) (onTc (τ := Cert.AdamConvB.τ) (Cert.AdamConvB.main (F := Bits))) ⟨m, fun _ => 0, g⟩ (fun r => (∀ c : Dev Cert.AdamConvB.nD,
      r.2.mem ((c.tc : Thread Cert.AdamConvB.nD Cert.AdamConvB.τ).loc Cert.AdamConvB.main_arg0) = m ((c.tc : Thread Cert.AdamConvB.nD Cert.AdamConvB.τ).loc Cert.AdamConvB.main_arg0)
      ∧ r.2.mem ((c.tc : Thread Cert.AdamConvB.nD Cert.AdamConvB.τ).loc Cert.AdamConvB.main_arg1) = m ((c.tc : Thread Cert.AdamConvB.nD Cert.AdamConvB.τ).loc Cert.AdamConvB.main_arg1)
      ∧ r.2.mem ((c.tc : Thread Cert.AdamConvB.nD Cert.AdamConvB.τ).loc Cert.AdamConvB.main_arg2) = m ((c.tc : Thread Cert.AdamConvB.nD Cert.AdamConvB.τ).loc Cert.AdamConvB.main_arg2)
      ∧ r.2.mem ((c.tc : Thread Cert.AdamConvB.nD Cert.AdamConvB.τ).loc Cert.AdamConvB.main_arg3) = m ((c.tc : Thread Cert.AdamConvB.nD Cert.AdamConvB.τ).loc Cert.AdamConvB.main_arg3))
      ∧ r.2.sem = fun _ => 0)

def quiescent_AdamConvBIdeal [hAdamConvBIdeal : Cert.AdamConvBIdeal.Facts] : Prop :=
  ∀ (m : (ℓ : Loc Cert.AdamConvBIdeal.nD Cert.AdamConvBIdeal.τ Cert.AdamConvBIdeal.sig) → Buf (Elt Ideal) ℓ) (g : Dev Cert.AdamConvBIdeal.nD → PrngReg), Pre_AdamConvBIdeal m →
    θ_run (Cert.AdamConvBIdeal.defs (F := Ideal)) (onTc (τ := Cert.AdamConvBIdeal.τ) (Cert.AdamConvBIdeal.main (F := Ideal))) ⟨m, fun _ => 0, g⟩ (fun r => (∀ c : Dev Cert.AdamConvBIdeal.nD,
      r.2.mem ((c.tc : Thread Cert.AdamConvBIdeal.nD Cert.AdamConvBIdeal.τ).loc Cert.AdamConvBIdeal.main_arg0) = m ((c.tc : Thread Cert.AdamConvBIdeal.nD Cert.AdamConvBIdeal.τ).loc Cert.AdamConvBIdeal.main_arg0)
      ∧ r.2.mem ((c.tc : Thread Cert.AdamConvBIdeal.nD Cert.AdamConvBIdeal.τ).loc Cert.AdamConvBIdeal.main_arg1) = m ((c.tc : Thread Cert.AdamConvBIdeal.nD Cert.AdamConvBIdeal.τ).loc Cert.AdamConvBIdeal.main_arg1)
      ∧ r.2.mem ((c.tc : Thread Cert.AdamConvBIdeal.nD Cert.AdamConvBIdeal.τ).loc Cert.AdamConvBIdeal.main_arg2) = m ((c.tc : Thread Cert.AdamConvBIdeal.nD Cert.AdamConvBIdeal.τ).loc Cert.AdamConvBIdeal.main_arg2)
      ∧ r.2.mem ((c.tc : Thread Cert.AdamConvBIdeal.nD Cert.AdamConvBIdeal.τ).loc Cert.AdamConvBIdeal.main_arg3) = m ((c.tc : Thread Cert.AdamConvBIdeal.nD Cert.AdamConvBIdeal.τ).loc Cert.AdamConvBIdeal.main_arg3))
      ∧ r.2.sem = fun _ => 0)

def quiescent_AdamConvBRefIdeal [hAdamConvBRefIdeal : Cert.AdamConvBRefIdeal.Facts] : Prop :=
  ∀ (m : (ℓ : Loc Cert.AdamConvBRefIdeal.nD Cert.AdamConvBRefIdeal.τ Cert.AdamConvBRefIdeal.sig) → Buf (Elt Ideal) ℓ) (g : Dev Cert.AdamConvBRefIdeal.nD → PrngReg), Pre_AdamConvBRefIdeal m →
    θ_run (Cert.AdamConvBRefIdeal.defs (F := Ideal)) (onTc (τ := Cert.AdamConvBRefIdeal.τ) (Cert.AdamConvBRefIdeal.main (F := Ideal))) ⟨m, fun _ => 0, g⟩ (fun r => (∀ c : Dev Cert.AdamConvBRefIdeal.nD,
      r.2.mem ((c.tc : Thread Cert.AdamConvBRefIdeal.nD Cert.AdamConvBRefIdeal.τ).loc Cert.AdamConvBRefIdeal.main_arg0) = m ((c.tc : Thread Cert.AdamConvBRefIdeal.nD Cert.AdamConvBRefIdeal.τ).loc Cert.AdamConvBRefIdeal.main_arg0)
      ∧ r.2.mem ((c.tc : Thread Cert.AdamConvBRefIdeal.nD Cert.AdamConvBRefIdeal.τ).loc Cert.AdamConvBRefIdeal.main_arg1) = m ((c.tc : Thread Cert.AdamConvBRefIdeal.nD Cert.AdamConvBRefIdeal.τ).loc Cert.AdamConvBRefIdeal.main_arg1)
      ∧ r.2.mem ((c.tc : Thread Cert.AdamConvBRefIdeal.nD Cert.AdamConvBRefIdeal.τ).loc Cert.AdamConvBRefIdeal.main_arg2) = m ((c.tc : Thread Cert.AdamConvBRefIdeal.nD Cert.AdamConvBRefIdeal.τ).loc Cert.AdamConvBRefIdeal.main_arg2)
      ∧ r.2.mem ((c.tc : Thread Cert.AdamConvBRefIdeal.nD Cert.AdamConvBRefIdeal.τ).loc Cert.AdamConvBRefIdeal.main_arg3) = m ((c.tc : Thread Cert.AdamConvBRefIdeal.nD Cert.AdamConvBRefIdeal.τ).loc Cert.AdamConvBRefIdeal.main_arg3))
      ∧ r.2.sem = fun _ => 0)

def quiescent_AdamHeads [hAdamHeads : Cert.AdamHeads.Facts] : Prop :=
  ∀ (m : (ℓ : Loc Cert.AdamHeads.nD Cert.AdamHeads.τ Cert.AdamHeads.sig) → Buf (Elt Bits) ℓ) (g : Dev Cert.AdamHeads.nD → PrngReg), Pre_AdamHeads m →
    θ_run (Cert.AdamHeads.defs (F := Bits)) (onTc (τ := Cert.AdamHeads.τ) (Cert.AdamHeads.main (F := Bits))) ⟨m, fun _ => 0, g⟩ (fun r => (∀ c : Dev Cert.AdamHeads.nD,
      r.2.mem ((c.tc : Thread Cert.AdamHeads.nD Cert.AdamHeads.τ).loc Cert.AdamHeads.main_arg0) = m ((c.tc : Thread Cert.AdamHeads.nD Cert.AdamHeads.τ).loc Cert.AdamHeads.main_arg0)
      ∧ r.2.mem ((c.tc : Thread Cert.AdamHeads.nD Cert.AdamHeads.τ).loc Cert.AdamHeads.main_arg1) = m ((c.tc : Thread Cert.AdamHeads.nD Cert.AdamHeads.τ).loc Cert.AdamHeads.main_arg1)
      ∧ r.2.mem ((c.tc : Thread Cert.AdamHeads.nD Cert.AdamHeads.τ).loc Cert.AdamHeads.main_arg2) = m ((c.tc : Thread Cert.AdamHeads.nD Cert.AdamHeads.τ).loc Cert.AdamHeads.main_arg2)
      ∧ r.2.mem ((c.tc : Thread Cert.AdamHeads.nD Cert.AdamHeads.τ).loc Cert.AdamHeads.main_arg3) = m ((c.tc : Thread Cert.AdamHeads.nD Cert.AdamHeads.τ).loc Cert.AdamHeads.main_arg3))
      ∧ r.2.sem = fun _ => 0)

def quiescent_AdamHeadsIdeal [hAdamHeadsIdeal : Cert.AdamHeadsIdeal.Facts] : Prop :=
  ∀ (m : (ℓ : Loc Cert.AdamHeadsIdeal.nD Cert.AdamHeadsIdeal.τ Cert.AdamHeadsIdeal.sig) → Buf (Elt Ideal) ℓ) (g : Dev Cert.AdamHeadsIdeal.nD → PrngReg), Pre_AdamHeadsIdeal m →
    θ_run (Cert.AdamHeadsIdeal.defs (F := Ideal)) (onTc (τ := Cert.AdamHeadsIdeal.τ) (Cert.AdamHeadsIdeal.main (F := Ideal))) ⟨m, fun _ => 0, g⟩ (fun r => (∀ c : Dev Cert.AdamHeadsIdeal.nD,
      r.2.mem ((c.tc : Thread Cert.AdamHeadsIdeal.nD Cert.AdamHeadsIdeal.τ).loc Cert.AdamHeadsIdeal.main_arg0) = m ((c.tc : Thread Cert.AdamHeadsIdeal.nD Cert.AdamHeadsIdeal.τ).loc Cert.AdamHeadsIdeal.main_arg0)
      ∧ r.2.mem ((c.tc : Thread Cert.AdamHeadsIdeal.nD Cert.AdamHeadsIdeal.τ).loc Cert.AdamHeadsIdeal.main_arg1) = m ((c.tc : Thread Cert.AdamHeadsIdeal.nD Cert.AdamHeadsIdeal.τ).loc Cert.AdamHeadsIdeal.main_arg1)
      ∧ r.2.mem ((c.tc : Thread Cert.AdamHeadsIdeal.nD Cert.AdamHeadsIdeal.τ).loc Cert.AdamHeadsIdeal.main_arg2) = m ((c.tc : Thread Cert.AdamHeadsIdeal.nD Cert.AdamHeadsIdeal.τ).loc Cert.AdamHeadsIdeal.main_arg2)
      ∧ r.2.mem ((c.tc : Thread Cert.AdamHeadsIdeal.nD Cert.AdamHeadsIdeal.τ).loc Cert.AdamHeadsIdeal.main_arg3) = m ((c.tc : Thread Cert.AdamHeadsIdeal.nD Cert.AdamHeadsIdeal.τ).loc Cert.AdamHeadsIdeal.main_arg3))
      ∧ r.2.sem = fun _ => 0)

def quiescent_AdamHeadsRefIdeal [hAdamHeadsRefIdeal : Cert.AdamHeadsRefIdeal.Facts] : Prop :=
  ∀ (m : (ℓ : Loc Cert.AdamHeadsRefIdeal.nD Cert.AdamHeadsRefIdeal.τ Cert.AdamHeadsRefIdeal.sig) → Buf (Elt Ideal) ℓ) (g : Dev Cert.AdamHeadsRefIdeal.nD → PrngReg), Pre_AdamHeadsRefIdeal m →
    θ_run (Cert.AdamHeadsRefIdeal.defs (F := Ideal)) (onTc (τ := Cert.AdamHeadsRefIdeal.τ) (Cert.AdamHeadsRefIdeal.main (F := Ideal))) ⟨m, fun _ => 0, g⟩ (fun r => (∀ c : Dev Cert.AdamHeadsRefIdeal.nD,
      r.2.mem ((c.tc : Thread Cert.AdamHeadsRefIdeal.nD Cert.AdamHeadsRefIdeal.τ).loc Cert.AdamHeadsRefIdeal.main_arg0) = m ((c.tc : Thread Cert.AdamHeadsRefIdeal.nD Cert.AdamHeadsRefIdeal.τ).loc Cert.AdamHeadsRefIdeal.main_arg0)
      ∧ r.2.mem ((c.tc : Thread Cert.AdamHeadsRefIdeal.nD Cert.AdamHeadsRefIdeal.τ).loc Cert.AdamHeadsRefIdeal.main_arg1) = m ((c.tc : Thread Cert.AdamHeadsRefIdeal.nD Cert.AdamHeadsRefIdeal.τ).loc Cert.AdamHeadsRefIdeal.main_arg1)
      ∧ r.2.mem ((c.tc : Thread Cert.AdamHeadsRefIdeal.nD Cert.AdamHeadsRefIdeal.τ).loc Cert.AdamHeadsRefIdeal.main_arg2) = m ((c.tc : Thread Cert.AdamHeadsRefIdeal.nD Cert.AdamHeadsRefIdeal.τ).loc Cert.AdamHeadsRefIdeal.main_arg2)
      ∧ r.2.mem ((c.tc : Thread Cert.AdamHeadsRefIdeal.nD Cert.AdamHeadsRefIdeal.τ).loc Cert.AdamHeadsRefIdeal.main_arg3) = m ((c.tc : Thread Cert.AdamHeadsRefIdeal.nD Cert.AdamHeadsRefIdeal.τ).loc Cert.AdamHeadsRefIdeal.main_arg3))
      ∧ r.2.sem = fun _ => 0)

def quiescent_AdamGdnHeads [hAdamGdnHeads : Cert.AdamGdnHeads.Facts] : Prop :=
  ∀ (m : (ℓ : Loc Cert.AdamGdnHeads.nD Cert.AdamGdnHeads.τ Cert.AdamGdnHeads.sig) → Buf (Elt Bits) ℓ) (g : Dev Cert.AdamGdnHeads.nD → PrngReg), Pre_AdamGdnHeads m →
    θ_run (Cert.AdamGdnHeads.defs (F := Bits)) (onTc (τ := Cert.AdamGdnHeads.τ) (Cert.AdamGdnHeads.main (F := Bits))) ⟨m, fun _ => 0, g⟩ (fun r => (∀ c : Dev Cert.AdamGdnHeads.nD,
      r.2.mem ((c.tc : Thread Cert.AdamGdnHeads.nD Cert.AdamGdnHeads.τ).loc Cert.AdamGdnHeads.main_arg0) = m ((c.tc : Thread Cert.AdamGdnHeads.nD Cert.AdamGdnHeads.τ).loc Cert.AdamGdnHeads.main_arg0)
      ∧ r.2.mem ((c.tc : Thread Cert.AdamGdnHeads.nD Cert.AdamGdnHeads.τ).loc Cert.AdamGdnHeads.main_arg1) = m ((c.tc : Thread Cert.AdamGdnHeads.nD Cert.AdamGdnHeads.τ).loc Cert.AdamGdnHeads.main_arg1)
      ∧ r.2.mem ((c.tc : Thread Cert.AdamGdnHeads.nD Cert.AdamGdnHeads.τ).loc Cert.AdamGdnHeads.main_arg2) = m ((c.tc : Thread Cert.AdamGdnHeads.nD Cert.AdamGdnHeads.τ).loc Cert.AdamGdnHeads.main_arg2)
      ∧ r.2.mem ((c.tc : Thread Cert.AdamGdnHeads.nD Cert.AdamGdnHeads.τ).loc Cert.AdamGdnHeads.main_arg3) = m ((c.tc : Thread Cert.AdamGdnHeads.nD Cert.AdamGdnHeads.τ).loc Cert.AdamGdnHeads.main_arg3))
      ∧ r.2.sem = fun _ => 0)

def quiescent_AdamGdnHeadsIdeal [hAdamGdnHeadsIdeal : Cert.AdamGdnHeadsIdeal.Facts] : Prop :=
  ∀ (m : (ℓ : Loc Cert.AdamGdnHeadsIdeal.nD Cert.AdamGdnHeadsIdeal.τ Cert.AdamGdnHeadsIdeal.sig) → Buf (Elt Ideal) ℓ) (g : Dev Cert.AdamGdnHeadsIdeal.nD → PrngReg), Pre_AdamGdnHeadsIdeal m →
    θ_run (Cert.AdamGdnHeadsIdeal.defs (F := Ideal)) (onTc (τ := Cert.AdamGdnHeadsIdeal.τ) (Cert.AdamGdnHeadsIdeal.main (F := Ideal))) ⟨m, fun _ => 0, g⟩ (fun r => (∀ c : Dev Cert.AdamGdnHeadsIdeal.nD,
      r.2.mem ((c.tc : Thread Cert.AdamGdnHeadsIdeal.nD Cert.AdamGdnHeadsIdeal.τ).loc Cert.AdamGdnHeadsIdeal.main_arg0) = m ((c.tc : Thread Cert.AdamGdnHeadsIdeal.nD Cert.AdamGdnHeadsIdeal.τ).loc Cert.AdamGdnHeadsIdeal.main_arg0)
      ∧ r.2.mem ((c.tc : Thread Cert.AdamGdnHeadsIdeal.nD Cert.AdamGdnHeadsIdeal.τ).loc Cert.AdamGdnHeadsIdeal.main_arg1) = m ((c.tc : Thread Cert.AdamGdnHeadsIdeal.nD Cert.AdamGdnHeadsIdeal.τ).loc Cert.AdamGdnHeadsIdeal.main_arg1)
      ∧ r.2.mem ((c.tc : Thread Cert.AdamGdnHeadsIdeal.nD Cert.AdamGdnHeadsIdeal.τ).loc Cert.AdamGdnHeadsIdeal.main_arg2) = m ((c.tc : Thread Cert.AdamGdnHeadsIdeal.nD Cert.AdamGdnHeadsIdeal.τ).loc Cert.AdamGdnHeadsIdeal.main_arg2)
      ∧ r.2.mem ((c.tc : Thread Cert.AdamGdnHeadsIdeal.nD Cert.AdamGdnHeadsIdeal.τ).loc Cert.AdamGdnHeadsIdeal.main_arg3) = m ((c.tc : Thread Cert.AdamGdnHeadsIdeal.nD Cert.AdamGdnHeadsIdeal.τ).loc Cert.AdamGdnHeadsIdeal.main_arg3))
      ∧ r.2.sem = fun _ => 0)

def quiescent_AdamGdnHeadsRefIdeal [hAdamGdnHeadsRefIdeal : Cert.AdamGdnHeadsRefIdeal.Facts] : Prop :=
  ∀ (m : (ℓ : Loc Cert.AdamGdnHeadsRefIdeal.nD Cert.AdamGdnHeadsRefIdeal.τ Cert.AdamGdnHeadsRefIdeal.sig) → Buf (Elt Ideal) ℓ) (g : Dev Cert.AdamGdnHeadsRefIdeal.nD → PrngReg), Pre_AdamGdnHeadsRefIdeal m →
    θ_run (Cert.AdamGdnHeadsRefIdeal.defs (F := Ideal)) (onTc (τ := Cert.AdamGdnHeadsRefIdeal.τ) (Cert.AdamGdnHeadsRefIdeal.main (F := Ideal))) ⟨m, fun _ => 0, g⟩ (fun r => (∀ c : Dev Cert.AdamGdnHeadsRefIdeal.nD,
      r.2.mem ((c.tc : Thread Cert.AdamGdnHeadsRefIdeal.nD Cert.AdamGdnHeadsRefIdeal.τ).loc Cert.AdamGdnHeadsRefIdeal.main_arg0) = m ((c.tc : Thread Cert.AdamGdnHeadsRefIdeal.nD Cert.AdamGdnHeadsRefIdeal.τ).loc Cert.AdamGdnHeadsRefIdeal.main_arg0)
      ∧ r.2.mem ((c.tc : Thread Cert.AdamGdnHeadsRefIdeal.nD Cert.AdamGdnHeadsRefIdeal.τ).loc Cert.AdamGdnHeadsRefIdeal.main_arg1) = m ((c.tc : Thread Cert.AdamGdnHeadsRefIdeal.nD Cert.AdamGdnHeadsRefIdeal.τ).loc Cert.AdamGdnHeadsRefIdeal.main_arg1)
      ∧ r.2.mem ((c.tc : Thread Cert.AdamGdnHeadsRefIdeal.nD Cert.AdamGdnHeadsRefIdeal.τ).loc Cert.AdamGdnHeadsRefIdeal.main_arg2) = m ((c.tc : Thread Cert.AdamGdnHeadsRefIdeal.nD Cert.AdamGdnHeadsRefIdeal.τ).loc Cert.AdamGdnHeadsRefIdeal.main_arg2)
      ∧ r.2.mem ((c.tc : Thread Cert.AdamGdnHeadsRefIdeal.nD Cert.AdamGdnHeadsRefIdeal.τ).loc Cert.AdamGdnHeadsRefIdeal.main_arg3) = m ((c.tc : Thread Cert.AdamGdnHeadsRefIdeal.nD Cert.AdamGdnHeadsRefIdeal.τ).loc Cert.AdamGdnHeadsRefIdeal.main_arg3))
      ∧ r.2.sem = fun _ => 0)

def quiescent_AdamGdnNorm [hAdamGdnNorm : Cert.AdamGdnNorm.Facts] : Prop :=
  ∀ (m : (ℓ : Loc Cert.AdamGdnNorm.nD Cert.AdamGdnNorm.τ Cert.AdamGdnNorm.sig) → Buf (Elt Bits) ℓ) (g : Dev Cert.AdamGdnNorm.nD → PrngReg), Pre_AdamGdnNorm m →
    θ_run (Cert.AdamGdnNorm.defs (F := Bits)) (onTc (τ := Cert.AdamGdnNorm.τ) (Cert.AdamGdnNorm.main (F := Bits))) ⟨m, fun _ => 0, g⟩ (fun r => (∀ c : Dev Cert.AdamGdnNorm.nD,
      r.2.mem ((c.tc : Thread Cert.AdamGdnNorm.nD Cert.AdamGdnNorm.τ).loc Cert.AdamGdnNorm.main_arg0) = m ((c.tc : Thread Cert.AdamGdnNorm.nD Cert.AdamGdnNorm.τ).loc Cert.AdamGdnNorm.main_arg0)
      ∧ r.2.mem ((c.tc : Thread Cert.AdamGdnNorm.nD Cert.AdamGdnNorm.τ).loc Cert.AdamGdnNorm.main_arg1) = m ((c.tc : Thread Cert.AdamGdnNorm.nD Cert.AdamGdnNorm.τ).loc Cert.AdamGdnNorm.main_arg1)
      ∧ r.2.mem ((c.tc : Thread Cert.AdamGdnNorm.nD Cert.AdamGdnNorm.τ).loc Cert.AdamGdnNorm.main_arg2) = m ((c.tc : Thread Cert.AdamGdnNorm.nD Cert.AdamGdnNorm.τ).loc Cert.AdamGdnNorm.main_arg2)
      ∧ r.2.mem ((c.tc : Thread Cert.AdamGdnNorm.nD Cert.AdamGdnNorm.τ).loc Cert.AdamGdnNorm.main_arg3) = m ((c.tc : Thread Cert.AdamGdnNorm.nD Cert.AdamGdnNorm.τ).loc Cert.AdamGdnNorm.main_arg3))
      ∧ r.2.sem = fun _ => 0)

def quiescent_AdamGdnNormIdeal [hAdamGdnNormIdeal : Cert.AdamGdnNormIdeal.Facts] : Prop :=
  ∀ (m : (ℓ : Loc Cert.AdamGdnNormIdeal.nD Cert.AdamGdnNormIdeal.τ Cert.AdamGdnNormIdeal.sig) → Buf (Elt Ideal) ℓ) (g : Dev Cert.AdamGdnNormIdeal.nD → PrngReg), Pre_AdamGdnNormIdeal m →
    θ_run (Cert.AdamGdnNormIdeal.defs (F := Ideal)) (onTc (τ := Cert.AdamGdnNormIdeal.τ) (Cert.AdamGdnNormIdeal.main (F := Ideal))) ⟨m, fun _ => 0, g⟩ (fun r => (∀ c : Dev Cert.AdamGdnNormIdeal.nD,
      r.2.mem ((c.tc : Thread Cert.AdamGdnNormIdeal.nD Cert.AdamGdnNormIdeal.τ).loc Cert.AdamGdnNormIdeal.main_arg0) = m ((c.tc : Thread Cert.AdamGdnNormIdeal.nD Cert.AdamGdnNormIdeal.τ).loc Cert.AdamGdnNormIdeal.main_arg0)
      ∧ r.2.mem ((c.tc : Thread Cert.AdamGdnNormIdeal.nD Cert.AdamGdnNormIdeal.τ).loc Cert.AdamGdnNormIdeal.main_arg1) = m ((c.tc : Thread Cert.AdamGdnNormIdeal.nD Cert.AdamGdnNormIdeal.τ).loc Cert.AdamGdnNormIdeal.main_arg1)
      ∧ r.2.mem ((c.tc : Thread Cert.AdamGdnNormIdeal.nD Cert.AdamGdnNormIdeal.τ).loc Cert.AdamGdnNormIdeal.main_arg2) = m ((c.tc : Thread Cert.AdamGdnNormIdeal.nD Cert.AdamGdnNormIdeal.τ).loc Cert.AdamGdnNormIdeal.main_arg2)
      ∧ r.2.mem ((c.tc : Thread Cert.AdamGdnNormIdeal.nD Cert.AdamGdnNormIdeal.τ).loc Cert.AdamGdnNormIdeal.main_arg3) = m ((c.tc : Thread Cert.AdamGdnNormIdeal.nD Cert.AdamGdnNormIdeal.τ).loc Cert.AdamGdnNormIdeal.main_arg3))
      ∧ r.2.sem = fun _ => 0)

def quiescent_AdamGdnNormRefIdeal [hAdamGdnNormRefIdeal : Cert.AdamGdnNormRefIdeal.Facts] : Prop :=
  ∀ (m : (ℓ : Loc Cert.AdamGdnNormRefIdeal.nD Cert.AdamGdnNormRefIdeal.τ Cert.AdamGdnNormRefIdeal.sig) → Buf (Elt Ideal) ℓ) (g : Dev Cert.AdamGdnNormRefIdeal.nD → PrngReg), Pre_AdamGdnNormRefIdeal m →
    θ_run (Cert.AdamGdnNormRefIdeal.defs (F := Ideal)) (onTc (τ := Cert.AdamGdnNormRefIdeal.τ) (Cert.AdamGdnNormRefIdeal.main (F := Ideal))) ⟨m, fun _ => 0, g⟩ (fun r => (∀ c : Dev Cert.AdamGdnNormRefIdeal.nD,
      r.2.mem ((c.tc : Thread Cert.AdamGdnNormRefIdeal.nD Cert.AdamGdnNormRefIdeal.τ).loc Cert.AdamGdnNormRefIdeal.main_arg0) = m ((c.tc : Thread Cert.AdamGdnNormRefIdeal.nD Cert.AdamGdnNormRefIdeal.τ).loc Cert.AdamGdnNormRefIdeal.main_arg0)
      ∧ r.2.mem ((c.tc : Thread Cert.AdamGdnNormRefIdeal.nD Cert.AdamGdnNormRefIdeal.τ).loc Cert.AdamGdnNormRefIdeal.main_arg1) = m ((c.tc : Thread Cert.AdamGdnNormRefIdeal.nD Cert.AdamGdnNormRefIdeal.τ).loc Cert.AdamGdnNormRefIdeal.main_arg1)
      ∧ r.2.mem ((c.tc : Thread Cert.AdamGdnNormRefIdeal.nD Cert.AdamGdnNormRefIdeal.τ).loc Cert.AdamGdnNormRefIdeal.main_arg2) = m ((c.tc : Thread Cert.AdamGdnNormRefIdeal.nD Cert.AdamGdnNormRefIdeal.τ).loc Cert.AdamGdnNormRefIdeal.main_arg2)
      ∧ r.2.mem ((c.tc : Thread Cert.AdamGdnNormRefIdeal.nD Cert.AdamGdnNormRefIdeal.τ).loc Cert.AdamGdnNormRefIdeal.main_arg3) = m ((c.tc : Thread Cert.AdamGdnNormRefIdeal.nD Cert.AdamGdnNormRefIdeal.τ).loc Cert.AdamGdnNormRefIdeal.main_arg3))
      ∧ r.2.sem = fun _ => 0)

def quiescent_AdamFinal [hAdamFinal : Cert.AdamFinal.Facts] : Prop :=
  ∀ (m : (ℓ : Loc Cert.AdamFinal.nD Cert.AdamFinal.τ Cert.AdamFinal.sig) → Buf (Elt Bits) ℓ) (g : Dev Cert.AdamFinal.nD → PrngReg), Pre_AdamFinal m →
    θ_run (Cert.AdamFinal.defs (F := Bits)) (onTc (τ := Cert.AdamFinal.τ) (Cert.AdamFinal.main (F := Bits))) ⟨m, fun _ => 0, g⟩ (fun r => (∀ c : Dev Cert.AdamFinal.nD,
      r.2.mem ((c.tc : Thread Cert.AdamFinal.nD Cert.AdamFinal.τ).loc Cert.AdamFinal.main_arg0) = m ((c.tc : Thread Cert.AdamFinal.nD Cert.AdamFinal.τ).loc Cert.AdamFinal.main_arg0)
      ∧ r.2.mem ((c.tc : Thread Cert.AdamFinal.nD Cert.AdamFinal.τ).loc Cert.AdamFinal.main_arg1) = m ((c.tc : Thread Cert.AdamFinal.nD Cert.AdamFinal.τ).loc Cert.AdamFinal.main_arg1)
      ∧ r.2.mem ((c.tc : Thread Cert.AdamFinal.nD Cert.AdamFinal.τ).loc Cert.AdamFinal.main_arg2) = m ((c.tc : Thread Cert.AdamFinal.nD Cert.AdamFinal.τ).loc Cert.AdamFinal.main_arg2)
      ∧ r.2.mem ((c.tc : Thread Cert.AdamFinal.nD Cert.AdamFinal.τ).loc Cert.AdamFinal.main_arg3) = m ((c.tc : Thread Cert.AdamFinal.nD Cert.AdamFinal.τ).loc Cert.AdamFinal.main_arg3))
      ∧ r.2.sem = fun _ => 0)

def quiescent_AdamFinalIdeal [hAdamFinalIdeal : Cert.AdamFinalIdeal.Facts] : Prop :=
  ∀ (m : (ℓ : Loc Cert.AdamFinalIdeal.nD Cert.AdamFinalIdeal.τ Cert.AdamFinalIdeal.sig) → Buf (Elt Ideal) ℓ) (g : Dev Cert.AdamFinalIdeal.nD → PrngReg), Pre_AdamFinalIdeal m →
    θ_run (Cert.AdamFinalIdeal.defs (F := Ideal)) (onTc (τ := Cert.AdamFinalIdeal.τ) (Cert.AdamFinalIdeal.main (F := Ideal))) ⟨m, fun _ => 0, g⟩ (fun r => (∀ c : Dev Cert.AdamFinalIdeal.nD,
      r.2.mem ((c.tc : Thread Cert.AdamFinalIdeal.nD Cert.AdamFinalIdeal.τ).loc Cert.AdamFinalIdeal.main_arg0) = m ((c.tc : Thread Cert.AdamFinalIdeal.nD Cert.AdamFinalIdeal.τ).loc Cert.AdamFinalIdeal.main_arg0)
      ∧ r.2.mem ((c.tc : Thread Cert.AdamFinalIdeal.nD Cert.AdamFinalIdeal.τ).loc Cert.AdamFinalIdeal.main_arg1) = m ((c.tc : Thread Cert.AdamFinalIdeal.nD Cert.AdamFinalIdeal.τ).loc Cert.AdamFinalIdeal.main_arg1)
      ∧ r.2.mem ((c.tc : Thread Cert.AdamFinalIdeal.nD Cert.AdamFinalIdeal.τ).loc Cert.AdamFinalIdeal.main_arg2) = m ((c.tc : Thread Cert.AdamFinalIdeal.nD Cert.AdamFinalIdeal.τ).loc Cert.AdamFinalIdeal.main_arg2)
      ∧ r.2.mem ((c.tc : Thread Cert.AdamFinalIdeal.nD Cert.AdamFinalIdeal.τ).loc Cert.AdamFinalIdeal.main_arg3) = m ((c.tc : Thread Cert.AdamFinalIdeal.nD Cert.AdamFinalIdeal.τ).loc Cert.AdamFinalIdeal.main_arg3))
      ∧ r.2.sem = fun _ => 0)

def quiescent_AdamFinalRefIdeal [hAdamFinalRefIdeal : Cert.AdamFinalRefIdeal.Facts] : Prop :=
  ∀ (m : (ℓ : Loc Cert.AdamFinalRefIdeal.nD Cert.AdamFinalRefIdeal.τ Cert.AdamFinalRefIdeal.sig) → Buf (Elt Ideal) ℓ) (g : Dev Cert.AdamFinalRefIdeal.nD → PrngReg), Pre_AdamFinalRefIdeal m →
    θ_run (Cert.AdamFinalRefIdeal.defs (F := Ideal)) (onTc (τ := Cert.AdamFinalRefIdeal.τ) (Cert.AdamFinalRefIdeal.main (F := Ideal))) ⟨m, fun _ => 0, g⟩ (fun r => (∀ c : Dev Cert.AdamFinalRefIdeal.nD,
      r.2.mem ((c.tc : Thread Cert.AdamFinalRefIdeal.nD Cert.AdamFinalRefIdeal.τ).loc Cert.AdamFinalRefIdeal.main_arg0) = m ((c.tc : Thread Cert.AdamFinalRefIdeal.nD Cert.AdamFinalRefIdeal.τ).loc Cert.AdamFinalRefIdeal.main_arg0)
      ∧ r.2.mem ((c.tc : Thread Cert.AdamFinalRefIdeal.nD Cert.AdamFinalRefIdeal.τ).loc Cert.AdamFinalRefIdeal.main_arg1) = m ((c.tc : Thread Cert.AdamFinalRefIdeal.nD Cert.AdamFinalRefIdeal.τ).loc Cert.AdamFinalRefIdeal.main_arg1)
      ∧ r.2.mem ((c.tc : Thread Cert.AdamFinalRefIdeal.nD Cert.AdamFinalRefIdeal.τ).loc Cert.AdamFinalRefIdeal.main_arg2) = m ((c.tc : Thread Cert.AdamFinalRefIdeal.nD Cert.AdamFinalRefIdeal.τ).loc Cert.AdamFinalRefIdeal.main_arg2)
      ∧ r.2.mem ((c.tc : Thread Cert.AdamFinalRefIdeal.nD Cert.AdamFinalRefIdeal.τ).loc Cert.AdamFinalRefIdeal.main_arg3) = m ((c.tc : Thread Cert.AdamFinalRefIdeal.nD Cert.AdamFinalRefIdeal.τ).loc Cert.AdamFinalRefIdeal.main_arg3))
      ∧ r.2.sem = fun _ => 0)

def quiescent_AdamConvSsm [hAdamConvSsm : Cert.AdamConvSsm.Facts] : Prop :=
  ∀ (m : (ℓ : Loc Cert.AdamConvSsm.nD Cert.AdamConvSsm.τ Cert.AdamConvSsm.sig) → Buf (Elt Bits) ℓ) (g : Dev Cert.AdamConvSsm.nD → PrngReg), Pre_AdamConvSsm m →
    θ_run (Cert.AdamConvSsm.defs (F := Bits)) (onTc (τ := Cert.AdamConvSsm.τ) (Cert.AdamConvSsm.main (F := Bits))) ⟨m, fun _ => 0, g⟩ (fun r => (∀ c : Dev Cert.AdamConvSsm.nD,
      r.2.mem ((c.tc : Thread Cert.AdamConvSsm.nD Cert.AdamConvSsm.τ).loc Cert.AdamConvSsm.main_arg0) = m ((c.tc : Thread Cert.AdamConvSsm.nD Cert.AdamConvSsm.τ).loc Cert.AdamConvSsm.main_arg0)
      ∧ r.2.mem ((c.tc : Thread Cert.AdamConvSsm.nD Cert.AdamConvSsm.τ).loc Cert.AdamConvSsm.main_arg1) = m ((c.tc : Thread Cert.AdamConvSsm.nD Cert.AdamConvSsm.τ).loc Cert.AdamConvSsm.main_arg1)
      ∧ r.2.mem ((c.tc : Thread Cert.AdamConvSsm.nD Cert.AdamConvSsm.τ).loc Cert.AdamConvSsm.main_arg2) = m ((c.tc : Thread Cert.AdamConvSsm.nD Cert.AdamConvSsm.τ).loc Cert.AdamConvSsm.main_arg2)
      ∧ r.2.mem ((c.tc : Thread Cert.AdamConvSsm.nD Cert.AdamConvSsm.τ).loc Cert.AdamConvSsm.main_arg3) = m ((c.tc : Thread Cert.AdamConvSsm.nD Cert.AdamConvSsm.τ).loc Cert.AdamConvSsm.main_arg3)
      ∧ r.2.mem ((c.tc : Thread Cert.AdamConvSsm.nD Cert.AdamConvSsm.τ).loc Cert.AdamConvSsm.main_arg4) = m ((c.tc : Thread Cert.AdamConvSsm.nD Cert.AdamConvSsm.τ).loc Cert.AdamConvSsm.main_arg4))
      ∧ r.2.sem = fun _ => 0)

def quiescent_AdamConvSsmIdeal [hAdamConvSsmIdeal : Cert.AdamConvSsmIdeal.Facts] : Prop :=
  ∀ (m : (ℓ : Loc Cert.AdamConvSsmIdeal.nD Cert.AdamConvSsmIdeal.τ Cert.AdamConvSsmIdeal.sig) → Buf (Elt Ideal) ℓ) (g : Dev Cert.AdamConvSsmIdeal.nD → PrngReg), Pre_AdamConvSsmIdeal m →
    θ_run (Cert.AdamConvSsmIdeal.defs (F := Ideal)) (onTc (τ := Cert.AdamConvSsmIdeal.τ) (Cert.AdamConvSsmIdeal.main (F := Ideal))) ⟨m, fun _ => 0, g⟩ (fun r => (∀ c : Dev Cert.AdamConvSsmIdeal.nD,
      r.2.mem ((c.tc : Thread Cert.AdamConvSsmIdeal.nD Cert.AdamConvSsmIdeal.τ).loc Cert.AdamConvSsmIdeal.main_arg0) = m ((c.tc : Thread Cert.AdamConvSsmIdeal.nD Cert.AdamConvSsmIdeal.τ).loc Cert.AdamConvSsmIdeal.main_arg0)
      ∧ r.2.mem ((c.tc : Thread Cert.AdamConvSsmIdeal.nD Cert.AdamConvSsmIdeal.τ).loc Cert.AdamConvSsmIdeal.main_arg1) = m ((c.tc : Thread Cert.AdamConvSsmIdeal.nD Cert.AdamConvSsmIdeal.τ).loc Cert.AdamConvSsmIdeal.main_arg1)
      ∧ r.2.mem ((c.tc : Thread Cert.AdamConvSsmIdeal.nD Cert.AdamConvSsmIdeal.τ).loc Cert.AdamConvSsmIdeal.main_arg2) = m ((c.tc : Thread Cert.AdamConvSsmIdeal.nD Cert.AdamConvSsmIdeal.τ).loc Cert.AdamConvSsmIdeal.main_arg2)
      ∧ r.2.mem ((c.tc : Thread Cert.AdamConvSsmIdeal.nD Cert.AdamConvSsmIdeal.τ).loc Cert.AdamConvSsmIdeal.main_arg3) = m ((c.tc : Thread Cert.AdamConvSsmIdeal.nD Cert.AdamConvSsmIdeal.τ).loc Cert.AdamConvSsmIdeal.main_arg3)
      ∧ r.2.mem ((c.tc : Thread Cert.AdamConvSsmIdeal.nD Cert.AdamConvSsmIdeal.τ).loc Cert.AdamConvSsmIdeal.main_arg4) = m ((c.tc : Thread Cert.AdamConvSsmIdeal.nD Cert.AdamConvSsmIdeal.τ).loc Cert.AdamConvSsmIdeal.main_arg4))
      ∧ r.2.sem = fun _ => 0)

def quiescent_AdamConvSsmRefIdeal [hAdamConvSsmRefIdeal : Cert.AdamConvSsmRefIdeal.Facts] : Prop :=
  ∀ (m : (ℓ : Loc Cert.AdamConvSsmRefIdeal.nD Cert.AdamConvSsmRefIdeal.τ Cert.AdamConvSsmRefIdeal.sig) → Buf (Elt Ideal) ℓ) (g : Dev Cert.AdamConvSsmRefIdeal.nD → PrngReg), Pre_AdamConvSsmRefIdeal m →
    θ_run (Cert.AdamConvSsmRefIdeal.defs (F := Ideal)) (onTc (τ := Cert.AdamConvSsmRefIdeal.τ) (Cert.AdamConvSsmRefIdeal.main (F := Ideal))) ⟨m, fun _ => 0, g⟩ (fun r => (∀ c : Dev Cert.AdamConvSsmRefIdeal.nD,
      r.2.mem ((c.tc : Thread Cert.AdamConvSsmRefIdeal.nD Cert.AdamConvSsmRefIdeal.τ).loc Cert.AdamConvSsmRefIdeal.main_arg0) = m ((c.tc : Thread Cert.AdamConvSsmRefIdeal.nD Cert.AdamConvSsmRefIdeal.τ).loc Cert.AdamConvSsmRefIdeal.main_arg0)
      ∧ r.2.mem ((c.tc : Thread Cert.AdamConvSsmRefIdeal.nD Cert.AdamConvSsmRefIdeal.τ).loc Cert.AdamConvSsmRefIdeal.main_arg1) = m ((c.tc : Thread Cert.AdamConvSsmRefIdeal.nD Cert.AdamConvSsmRefIdeal.τ).loc Cert.AdamConvSsmRefIdeal.main_arg1)
      ∧ r.2.mem ((c.tc : Thread Cert.AdamConvSsmRefIdeal.nD Cert.AdamConvSsmRefIdeal.τ).loc Cert.AdamConvSsmRefIdeal.main_arg2) = m ((c.tc : Thread Cert.AdamConvSsmRefIdeal.nD Cert.AdamConvSsmRefIdeal.τ).loc Cert.AdamConvSsmRefIdeal.main_arg2)
      ∧ r.2.mem ((c.tc : Thread Cert.AdamConvSsmRefIdeal.nD Cert.AdamConvSsmRefIdeal.τ).loc Cert.AdamConvSsmRefIdeal.main_arg3) = m ((c.tc : Thread Cert.AdamConvSsmRefIdeal.nD Cert.AdamConvSsmRefIdeal.τ).loc Cert.AdamConvSsmRefIdeal.main_arg3)
      ∧ r.2.mem ((c.tc : Thread Cert.AdamConvSsmRefIdeal.nD Cert.AdamConvSsmRefIdeal.τ).loc Cert.AdamConvSsmRefIdeal.main_arg4) = m ((c.tc : Thread Cert.AdamConvSsmRefIdeal.nD Cert.AdamConvSsmRefIdeal.τ).loc Cert.AdamConvSsmRefIdeal.main_arg4))
      ∧ r.2.sem = fun _ => 0)

def quiescent_AdamConvGdn [hAdamConvGdn : Cert.AdamConvGdn.Facts] : Prop :=
  ∀ (m : (ℓ : Loc Cert.AdamConvGdn.nD Cert.AdamConvGdn.τ Cert.AdamConvGdn.sig) → Buf (Elt Bits) ℓ) (g : Dev Cert.AdamConvGdn.nD → PrngReg), Pre_AdamConvGdn m →
    θ_run (Cert.AdamConvGdn.defs (F := Bits)) (onTc (τ := Cert.AdamConvGdn.τ) (Cert.AdamConvGdn.main (F := Bits))) ⟨m, fun _ => 0, g⟩ (fun r => (∀ c : Dev Cert.AdamConvGdn.nD,
      r.2.mem ((c.tc : Thread Cert.AdamConvGdn.nD Cert.AdamConvGdn.τ).loc Cert.AdamConvGdn.main_arg0) = m ((c.tc : Thread Cert.AdamConvGdn.nD Cert.AdamConvGdn.τ).loc Cert.AdamConvGdn.main_arg0)
      ∧ r.2.mem ((c.tc : Thread Cert.AdamConvGdn.nD Cert.AdamConvGdn.τ).loc Cert.AdamConvGdn.main_arg1) = m ((c.tc : Thread Cert.AdamConvGdn.nD Cert.AdamConvGdn.τ).loc Cert.AdamConvGdn.main_arg1)
      ∧ r.2.mem ((c.tc : Thread Cert.AdamConvGdn.nD Cert.AdamConvGdn.τ).loc Cert.AdamConvGdn.main_arg2) = m ((c.tc : Thread Cert.AdamConvGdn.nD Cert.AdamConvGdn.τ).loc Cert.AdamConvGdn.main_arg2)
      ∧ r.2.mem ((c.tc : Thread Cert.AdamConvGdn.nD Cert.AdamConvGdn.τ).loc Cert.AdamConvGdn.main_arg3) = m ((c.tc : Thread Cert.AdamConvGdn.nD Cert.AdamConvGdn.τ).loc Cert.AdamConvGdn.main_arg3)
      ∧ r.2.mem ((c.tc : Thread Cert.AdamConvGdn.nD Cert.AdamConvGdn.τ).loc Cert.AdamConvGdn.main_arg4) = m ((c.tc : Thread Cert.AdamConvGdn.nD Cert.AdamConvGdn.τ).loc Cert.AdamConvGdn.main_arg4))
      ∧ r.2.sem = fun _ => 0)

def quiescent_AdamConvGdnIdeal [hAdamConvGdnIdeal : Cert.AdamConvGdnIdeal.Facts] : Prop :=
  ∀ (m : (ℓ : Loc Cert.AdamConvGdnIdeal.nD Cert.AdamConvGdnIdeal.τ Cert.AdamConvGdnIdeal.sig) → Buf (Elt Ideal) ℓ) (g : Dev Cert.AdamConvGdnIdeal.nD → PrngReg), Pre_AdamConvGdnIdeal m →
    θ_run (Cert.AdamConvGdnIdeal.defs (F := Ideal)) (onTc (τ := Cert.AdamConvGdnIdeal.τ) (Cert.AdamConvGdnIdeal.main (F := Ideal))) ⟨m, fun _ => 0, g⟩ (fun r => (∀ c : Dev Cert.AdamConvGdnIdeal.nD,
      r.2.mem ((c.tc : Thread Cert.AdamConvGdnIdeal.nD Cert.AdamConvGdnIdeal.τ).loc Cert.AdamConvGdnIdeal.main_arg0) = m ((c.tc : Thread Cert.AdamConvGdnIdeal.nD Cert.AdamConvGdnIdeal.τ).loc Cert.AdamConvGdnIdeal.main_arg0)
      ∧ r.2.mem ((c.tc : Thread Cert.AdamConvGdnIdeal.nD Cert.AdamConvGdnIdeal.τ).loc Cert.AdamConvGdnIdeal.main_arg1) = m ((c.tc : Thread Cert.AdamConvGdnIdeal.nD Cert.AdamConvGdnIdeal.τ).loc Cert.AdamConvGdnIdeal.main_arg1)
      ∧ r.2.mem ((c.tc : Thread Cert.AdamConvGdnIdeal.nD Cert.AdamConvGdnIdeal.τ).loc Cert.AdamConvGdnIdeal.main_arg2) = m ((c.tc : Thread Cert.AdamConvGdnIdeal.nD Cert.AdamConvGdnIdeal.τ).loc Cert.AdamConvGdnIdeal.main_arg2)
      ∧ r.2.mem ((c.tc : Thread Cert.AdamConvGdnIdeal.nD Cert.AdamConvGdnIdeal.τ).loc Cert.AdamConvGdnIdeal.main_arg3) = m ((c.tc : Thread Cert.AdamConvGdnIdeal.nD Cert.AdamConvGdnIdeal.τ).loc Cert.AdamConvGdnIdeal.main_arg3)
      ∧ r.2.mem ((c.tc : Thread Cert.AdamConvGdnIdeal.nD Cert.AdamConvGdnIdeal.τ).loc Cert.AdamConvGdnIdeal.main_arg4) = m ((c.tc : Thread Cert.AdamConvGdnIdeal.nD Cert.AdamConvGdnIdeal.τ).loc Cert.AdamConvGdnIdeal.main_arg4))
      ∧ r.2.sem = fun _ => 0)

def quiescent_AdamConvGdnRefIdeal [hAdamConvGdnRefIdeal : Cert.AdamConvGdnRefIdeal.Facts] : Prop :=
  ∀ (m : (ℓ : Loc Cert.AdamConvGdnRefIdeal.nD Cert.AdamConvGdnRefIdeal.τ Cert.AdamConvGdnRefIdeal.sig) → Buf (Elt Ideal) ℓ) (g : Dev Cert.AdamConvGdnRefIdeal.nD → PrngReg), Pre_AdamConvGdnRefIdeal m →
    θ_run (Cert.AdamConvGdnRefIdeal.defs (F := Ideal)) (onTc (τ := Cert.AdamConvGdnRefIdeal.τ) (Cert.AdamConvGdnRefIdeal.main (F := Ideal))) ⟨m, fun _ => 0, g⟩ (fun r => (∀ c : Dev Cert.AdamConvGdnRefIdeal.nD,
      r.2.mem ((c.tc : Thread Cert.AdamConvGdnRefIdeal.nD Cert.AdamConvGdnRefIdeal.τ).loc Cert.AdamConvGdnRefIdeal.main_arg0) = m ((c.tc : Thread Cert.AdamConvGdnRefIdeal.nD Cert.AdamConvGdnRefIdeal.τ).loc Cert.AdamConvGdnRefIdeal.main_arg0)
      ∧ r.2.mem ((c.tc : Thread Cert.AdamConvGdnRefIdeal.nD Cert.AdamConvGdnRefIdeal.τ).loc Cert.AdamConvGdnRefIdeal.main_arg1) = m ((c.tc : Thread Cert.AdamConvGdnRefIdeal.nD Cert.AdamConvGdnRefIdeal.τ).loc Cert.AdamConvGdnRefIdeal.main_arg1)
      ∧ r.2.mem ((c.tc : Thread Cert.AdamConvGdnRefIdeal.nD Cert.AdamConvGdnRefIdeal.τ).loc Cert.AdamConvGdnRefIdeal.main_arg2) = m ((c.tc : Thread Cert.AdamConvGdnRefIdeal.nD Cert.AdamConvGdnRefIdeal.τ).loc Cert.AdamConvGdnRefIdeal.main_arg2)
      ∧ r.2.mem ((c.tc : Thread Cert.AdamConvGdnRefIdeal.nD Cert.AdamConvGdnRefIdeal.τ).loc Cert.AdamConvGdnRefIdeal.main_arg3) = m ((c.tc : Thread Cert.AdamConvGdnRefIdeal.nD Cert.AdamConvGdnRefIdeal.τ).loc Cert.AdamConvGdnRefIdeal.main_arg3)
      ∧ r.2.mem ((c.tc : Thread Cert.AdamConvGdnRefIdeal.nD Cert.AdamConvGdnRefIdeal.τ).loc Cert.AdamConvGdnRefIdeal.main_arg4) = m ((c.tc : Thread Cert.AdamConvGdnRefIdeal.nD Cert.AdamConvGdnRefIdeal.τ).loc Cert.AdamConvGdnRefIdeal.main_arg4))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3)
      ∧ r.2.mem ((c.tc : Thread Cert.AdamSquare.nD Cert.AdamSquare.τ).loc Cert.AdamSquare.main_arg4) = m ((c.tc : Thread Cert.AdamSquare.nD Cert.AdamSquare.τ).loc Cert.AdamSquare.main_arg4))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3)
      ∧ r.2.mem ((c.tc : Thread Cert.AdamSquareIdeal.nD Cert.AdamSquareIdeal.τ).loc Cert.AdamSquareIdeal.main_arg4) = m ((c.tc : Thread Cert.AdamSquareIdeal.nD Cert.AdamSquareIdeal.τ).loc Cert.AdamSquareIdeal.main_arg4))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3)
      ∧ r.2.mem ((c.tc : Thread Cert.AdamSquareRefIdeal.nD Cert.AdamSquareRefIdeal.τ).loc Cert.AdamSquareRefIdeal.main_arg4) = m ((c.tc : Thread Cert.AdamSquareRefIdeal.nD Cert.AdamSquareRefIdeal.τ).loc Cert.AdamSquareRefIdeal.main_arg4))
      ∧ r.2.sem = fun _ => 0)

def quiescent_AdamFfnDown [hAdamFfnDown : Cert.AdamFfnDown.Facts] : Prop :=
  ∀ (m : (ℓ : Loc Cert.AdamFfnDown.nD Cert.AdamFfnDown.τ Cert.AdamFfnDown.sig) → Buf (Elt Bits) ℓ) (g : Dev Cert.AdamFfnDown.nD → PrngReg), Pre_AdamFfnDown m →
    θ_run (Cert.AdamFfnDown.defs (F := Bits)) (onTc (τ := Cert.AdamFfnDown.τ) (Cert.AdamFfnDown.main (F := Bits))) ⟨m, fun _ => 0, g⟩ (fun r => (∀ c : Dev Cert.AdamFfnDown.nD,
      r.2.mem ((c.tc : Thread Cert.AdamFfnDown.nD Cert.AdamFfnDown.τ).loc Cert.AdamFfnDown.main_arg0) = m ((c.tc : Thread Cert.AdamFfnDown.nD Cert.AdamFfnDown.τ).loc Cert.AdamFfnDown.main_arg0)
      ∧ r.2.mem ((c.tc : Thread Cert.AdamFfnDown.nD Cert.AdamFfnDown.τ).loc Cert.AdamFfnDown.main_arg1) = m ((c.tc : Thread Cert.AdamFfnDown.nD Cert.AdamFfnDown.τ).loc Cert.AdamFfnDown.main_arg1)
      ∧ r.2.mem ((c.tc : Thread Cert.AdamFfnDown.nD Cert.AdamFfnDown.τ).loc Cert.AdamFfnDown.main_arg2) = m ((c.tc : Thread Cert.AdamFfnDown.nD Cert.AdamFfnDown.τ).loc Cert.AdamFfnDown.main_arg2)
      ∧ r.2.mem ((c.tc : Thread Cert.AdamFfnDown.nD Cert.AdamFfnDown.τ).loc Cert.AdamFfnDown.main_arg3) = m ((c.tc : Thread Cert.AdamFfnDown.nD Cert.AdamFfnDown.τ).loc Cert.AdamFfnDown.main_arg3)
      ∧ r.2.mem ((c.tc : Thread Cert.AdamFfnDown.nD Cert.AdamFfnDown.τ).loc Cert.AdamFfnDown.main_arg4) = m ((c.tc : Thread Cert.AdamFfnDown.nD Cert.AdamFfnDown.τ).loc Cert.AdamFfnDown.main_arg4))
      ∧ r.2.sem = fun _ => 0)

def quiescent_AdamFfnDownIdeal [hAdamFfnDownIdeal : Cert.AdamFfnDownIdeal.Facts] : Prop :=
  ∀ (m : (ℓ : Loc Cert.AdamFfnDownIdeal.nD Cert.AdamFfnDownIdeal.τ Cert.AdamFfnDownIdeal.sig) → Buf (Elt Ideal) ℓ) (g : Dev Cert.AdamFfnDownIdeal.nD → PrngReg), Pre_AdamFfnDownIdeal m →
    θ_run (Cert.AdamFfnDownIdeal.defs (F := Ideal)) (onTc (τ := Cert.AdamFfnDownIdeal.τ) (Cert.AdamFfnDownIdeal.main (F := Ideal))) ⟨m, fun _ => 0, g⟩ (fun r => (∀ c : Dev Cert.AdamFfnDownIdeal.nD,
      r.2.mem ((c.tc : Thread Cert.AdamFfnDownIdeal.nD Cert.AdamFfnDownIdeal.τ).loc Cert.AdamFfnDownIdeal.main_arg0) = m ((c.tc : Thread Cert.AdamFfnDownIdeal.nD Cert.AdamFfnDownIdeal.τ).loc Cert.AdamFfnDownIdeal.main_arg0)
      ∧ r.2.mem ((c.tc : Thread Cert.AdamFfnDownIdeal.nD Cert.AdamFfnDownIdeal.τ).loc Cert.AdamFfnDownIdeal.main_arg1) = m ((c.tc : Thread Cert.AdamFfnDownIdeal.nD Cert.AdamFfnDownIdeal.τ).loc Cert.AdamFfnDownIdeal.main_arg1)
      ∧ r.2.mem ((c.tc : Thread Cert.AdamFfnDownIdeal.nD Cert.AdamFfnDownIdeal.τ).loc Cert.AdamFfnDownIdeal.main_arg2) = m ((c.tc : Thread Cert.AdamFfnDownIdeal.nD Cert.AdamFfnDownIdeal.τ).loc Cert.AdamFfnDownIdeal.main_arg2)
      ∧ r.2.mem ((c.tc : Thread Cert.AdamFfnDownIdeal.nD Cert.AdamFfnDownIdeal.τ).loc Cert.AdamFfnDownIdeal.main_arg3) = m ((c.tc : Thread Cert.AdamFfnDownIdeal.nD Cert.AdamFfnDownIdeal.τ).loc Cert.AdamFfnDownIdeal.main_arg3)
      ∧ r.2.mem ((c.tc : Thread Cert.AdamFfnDownIdeal.nD Cert.AdamFfnDownIdeal.τ).loc Cert.AdamFfnDownIdeal.main_arg4) = m ((c.tc : Thread Cert.AdamFfnDownIdeal.nD Cert.AdamFfnDownIdeal.τ).loc Cert.AdamFfnDownIdeal.main_arg4))
      ∧ r.2.sem = fun _ => 0)

def quiescent_AdamFfnDownRefIdeal [hAdamFfnDownRefIdeal : Cert.AdamFfnDownRefIdeal.Facts] : Prop :=
  ∀ (m : (ℓ : Loc Cert.AdamFfnDownRefIdeal.nD Cert.AdamFfnDownRefIdeal.τ Cert.AdamFfnDownRefIdeal.sig) → Buf (Elt Ideal) ℓ) (g : Dev Cert.AdamFfnDownRefIdeal.nD → PrngReg), Pre_AdamFfnDownRefIdeal m →
    θ_run (Cert.AdamFfnDownRefIdeal.defs (F := Ideal)) (onTc (τ := Cert.AdamFfnDownRefIdeal.τ) (Cert.AdamFfnDownRefIdeal.main (F := Ideal))) ⟨m, fun _ => 0, g⟩ (fun r => (∀ c : Dev Cert.AdamFfnDownRefIdeal.nD,
      r.2.mem ((c.tc : Thread Cert.AdamFfnDownRefIdeal.nD Cert.AdamFfnDownRefIdeal.τ).loc Cert.AdamFfnDownRefIdeal.main_arg0) = m ((c.tc : Thread Cert.AdamFfnDownRefIdeal.nD Cert.AdamFfnDownRefIdeal.τ).loc Cert.AdamFfnDownRefIdeal.main_arg0)
      ∧ r.2.mem ((c.tc : Thread Cert.AdamFfnDownRefIdeal.nD Cert.AdamFfnDownRefIdeal.τ).loc Cert.AdamFfnDownRefIdeal.main_arg1) = m ((c.tc : Thread Cert.AdamFfnDownRefIdeal.nD Cert.AdamFfnDownRefIdeal.τ).loc Cert.AdamFfnDownRefIdeal.main_arg1)
      ∧ r.2.mem ((c.tc : Thread Cert.AdamFfnDownRefIdeal.nD Cert.AdamFfnDownRefIdeal.τ).loc Cert.AdamFfnDownRefIdeal.main_arg2) = m ((c.tc : Thread Cert.AdamFfnDownRefIdeal.nD Cert.AdamFfnDownRefIdeal.τ).loc Cert.AdamFfnDownRefIdeal.main_arg2)
      ∧ r.2.mem ((c.tc : Thread Cert.AdamFfnDownRefIdeal.nD Cert.AdamFfnDownRefIdeal.τ).loc Cert.AdamFfnDownRefIdeal.main_arg3) = m ((c.tc : Thread Cert.AdamFfnDownRefIdeal.nD Cert.AdamFfnDownRefIdeal.τ).loc Cert.AdamFfnDownRefIdeal.main_arg3)
      ∧ r.2.mem ((c.tc : Thread Cert.AdamFfnDownRefIdeal.nD Cert.AdamFfnDownRefIdeal.τ).loc Cert.AdamFfnDownRefIdeal.main_arg4) = m ((c.tc : Thread Cert.AdamFfnDownRefIdeal.nD Cert.AdamFfnDownRefIdeal.τ).loc Cert.AdamFfnDownRefIdeal.main_arg4))
      ∧ r.2.sem = fun _ => 0)

def quiescent_AdamFfnIn [hAdamFfnIn : Cert.AdamFfnIn.Facts] : Prop :=
  ∀ (m : (ℓ : Loc Cert.AdamFfnIn.nD Cert.AdamFfnIn.τ Cert.AdamFfnIn.sig) → Buf (Elt Bits) ℓ) (g : Dev Cert.AdamFfnIn.nD → PrngReg), Pre_AdamFfnIn m →
    θ_run (Cert.AdamFfnIn.defs (F := Bits)) (onTc (τ := Cert.AdamFfnIn.τ) (Cert.AdamFfnIn.main (F := Bits))) ⟨m, fun _ => 0, g⟩ (fun r => (∀ c : Dev Cert.AdamFfnIn.nD,
      r.2.mem ((c.tc : Thread Cert.AdamFfnIn.nD Cert.AdamFfnIn.τ).loc Cert.AdamFfnIn.main_arg0) = m ((c.tc : Thread Cert.AdamFfnIn.nD Cert.AdamFfnIn.τ).loc Cert.AdamFfnIn.main_arg0)
      ∧ r.2.mem ((c.tc : Thread Cert.AdamFfnIn.nD Cert.AdamFfnIn.τ).loc Cert.AdamFfnIn.main_arg1) = m ((c.tc : Thread Cert.AdamFfnIn.nD Cert.AdamFfnIn.τ).loc Cert.AdamFfnIn.main_arg1)
      ∧ r.2.mem ((c.tc : Thread Cert.AdamFfnIn.nD Cert.AdamFfnIn.τ).loc Cert.AdamFfnIn.main_arg2) = m ((c.tc : Thread Cert.AdamFfnIn.nD Cert.AdamFfnIn.τ).loc Cert.AdamFfnIn.main_arg2)
      ∧ r.2.mem ((c.tc : Thread Cert.AdamFfnIn.nD Cert.AdamFfnIn.τ).loc Cert.AdamFfnIn.main_arg3) = m ((c.tc : Thread Cert.AdamFfnIn.nD Cert.AdamFfnIn.τ).loc Cert.AdamFfnIn.main_arg3)
      ∧ r.2.mem ((c.tc : Thread Cert.AdamFfnIn.nD Cert.AdamFfnIn.τ).loc Cert.AdamFfnIn.main_arg4) = m ((c.tc : Thread Cert.AdamFfnIn.nD Cert.AdamFfnIn.τ).loc Cert.AdamFfnIn.main_arg4))
      ∧ r.2.sem = fun _ => 0)

def quiescent_AdamFfnInIdeal [hAdamFfnInIdeal : Cert.AdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg), Pre_AdamFfnInIdeal m →
    θ_run (Cert.AdamFfnInIdeal.defs (F := Ideal)) (onTc (τ := Cert.AdamFfnInIdeal.τ) (Cert.AdamFfnInIdeal.main (F := Ideal))) ⟨m, fun _ => 0, g⟩ (fun r => (∀ c : Dev Cert.AdamFfnInIdeal.nD,
      r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
      ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
      ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
      ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3)
      ∧ r.2.mem ((c.tc : Thread Cert.AdamFfnInIdeal.nD Cert.AdamFfnInIdeal.τ).loc Cert.AdamFfnInIdeal.main_arg4) = m ((c.tc : Thread Cert.AdamFfnInIdeal.nD Cert.AdamFfnInIdeal.τ).loc Cert.AdamFfnInIdeal.main_arg4))
      ∧ r.2.sem = fun _ => 0)

def quiescent_AdamFfnInRefIdeal [hAdamFfnInRefIdeal : Cert.AdamFfnInRefIdeal.Facts] : Prop :=
  ∀ (m : (ℓ : Loc Cert.AdamFfnInRefIdeal.nD Cert.AdamFfnInRefIdeal.τ Cert.AdamFfnInRefIdeal.sig) → Buf (Elt Ideal) ℓ) (g : Dev Cert.AdamFfnInRefIdeal.nD → PrngReg), Pre_AdamFfnInRefIdeal m →
    θ_run (Cert.AdamFfnInRefIdeal.defs (F := Ideal)) (onTc (τ := Cert.AdamFfnInRefIdeal.τ) (Cert.AdamFfnInRefIdeal.main (F := Ideal))) ⟨m, fun _ => 0, g⟩ (fun r => (∀ c : Dev Cert.AdamFfnInRefIdeal.nD,
      r.2.mem ((c.tc : Thread Cert.AdamFfnInRefIdeal.nD Cert.AdamFfnInRefIdeal.τ).loc Cert.AdamFfnInRefIdeal.main_arg0) = m ((c.tc : Thread Cert.AdamFfnInRefIdeal.nD Cert.AdamFfnInRefIdeal.τ).loc Cert.AdamFfnInRefIdeal.main_arg0)
      ∧ r.2.mem ((c.tc : Thread Cert.AdamFfnInRefIdeal.nD Cert.AdamFfnInRefIdeal.τ).loc Cert.AdamFfnInRefIdeal.main_arg1) = m ((c.tc : Thread Cert.AdamFfnInRefIdeal.nD Cert.AdamFfnInRefIdeal.τ).loc Cert.AdamFfnInRefIdeal.main_arg1)
      ∧ r.2.mem ((c.tc : Thread Cert.AdamFfnInRefIdeal.nD Cert.AdamFfnInRefIdeal.τ).loc Cert.AdamFfnInRefIdeal.main_arg2) = m ((c.tc : Thread Cert.AdamFfnInRefIdeal.nD Cert.AdamFfnInRefIdeal.τ).loc Cert.AdamFfnInRefIdeal.main_arg2)
      ∧ r.2.mem ((c.tc : Thread Cert.AdamFfnInRefIdeal.nD Cert.AdamFfnInRefIdeal.τ).loc Cert.AdamFfnInRefIdeal.main_arg3) = m ((c.tc : Thread Cert.AdamFfnInRefIdeal.nD Cert.AdamFfnInRefIdeal.τ).loc Cert.AdamFfnInRefIdeal.main_arg3)
      ∧ r.2.mem ((c.tc : Thread Cert.AdamFfnInRefIdeal.nD Cert.AdamFfnInRefIdeal.τ).loc Cert.AdamFfnInRefIdeal.main_arg4) = m ((c.tc : Thread Cert.AdamFfnInRefIdeal.nD Cert.AdamFfnInRefIdeal.τ).loc Cert.AdamFfnInRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def preserves_FfnActGrad_FfnActGradIdeal : Prop :=
  True

def algebraic_FfnActGradIdeal_FfnActGradRefIdeal_pre_ffn_finite [hFfnActGradIdeal : Cert.FfnActGradIdeal.Facts] [hFfnActGradRefIdeal : Cert.FfnActGradRefIdeal.Facts] [hPre_ffn_finite : Cert.Pre_ffn_finite.Facts] : Prop :=
  ∀ (m : (ℓ : Loc Cert.FfnActGradIdeal.nD Cert.FfnActGradIdeal.τ Cert.FfnActGradIdeal.sig) → Buf (Elt Ideal) ℓ) (g : Dev Cert.FfnActGradIdeal.nD → PrngReg)
    (m' : (ℓ : Loc Cert.FfnActGradRefIdeal.nD Cert.FfnActGradRefIdeal.τ Cert.FfnActGradRefIdeal.sig) → Buf (Elt Ideal) ℓ) (g' : Dev Cert.FfnActGradRefIdeal.nD → PrngReg), Pre_FfnActGradIdeal_ffn_finite m →
    (∀ c : Dev Cert.FfnActGradIdeal.nD,
      m' ((c.tc : Thread Cert.FfnActGradRefIdeal.nD Cert.FfnActGradRefIdeal.τ).loc Cert.FfnActGradRefIdeal.main_arg0) = m ((c.tc : Thread Cert.FfnActGradIdeal.nD Cert.FfnActGradIdeal.τ).loc Cert.FfnActGradIdeal.main_arg0)
      ∧ m' ((c.tc : Thread Cert.FfnActGradRefIdeal.nD Cert.FfnActGradRefIdeal.τ).loc Cert.FfnActGradRefIdeal.main_arg1) = m ((c.tc : Thread Cert.FfnActGradIdeal.nD Cert.FfnActGradIdeal.τ).loc Cert.FfnActGradIdeal.main_arg1)
      ∧ m' ((c.tc : Thread Cert.FfnActGradRefIdeal.nD Cert.FfnActGradRefIdeal.τ).loc Cert.FfnActGradRefIdeal.main_arg2) = m ((c.tc : Thread Cert.FfnActGradIdeal.nD Cert.FfnActGradIdeal.τ).loc Cert.FfnActGradIdeal.main_arg2)
      ∧ m' ((c.tc : Thread Cert.FfnActGradRefIdeal.nD Cert.FfnActGradRefIdeal.τ).loc Cert.FfnActGradRefIdeal.main_arg3) = m ((c.tc : Thread Cert.FfnActGradIdeal.nD Cert.FfnActGradIdeal.τ).loc Cert.FfnActGradIdeal.main_arg3)) →
    ∃ (v0 : (c : Dev Cert.FfnActGradIdeal.nD) → Buf (Elt Ideal) ((c.tc : Thread Cert.FfnActGradIdeal.nD Cert.FfnActGradIdeal.τ).loc Cert.FfnActGradIdeal.main_v0_0)) (v1 : (c : Dev Cert.FfnActGradIdeal.nD) → Buf (Elt Ideal) ((c.tc : Thread Cert.FfnActGradIdeal.nD Cert.FfnActGradIdeal.τ).loc Cert.FfnActGradIdeal.main_v0_1)),
      θ_run (Cert.FfnActGradIdeal.defs (F := Ideal)) (onTc (τ := Cert.FfnActGradIdeal.τ) (Cert.FfnActGradIdeal.main (F := Ideal))) ⟨m, fun _ => 0, g⟩ (fun r => ∀ c : Dev Cert.FfnActGradIdeal.nD,
          r.2.mem ((c.tc : Thread Cert.FfnActGradIdeal.nD Cert.FfnActGradIdeal.τ).loc Cert.FfnActGradIdeal.main_v0_0) = v0 c
          ∧ r.2.mem ((c.tc : Thread Cert.FfnActGradIdeal.nD Cert.FfnActGradIdeal.τ).loc Cert.FfnActGradIdeal.main_v0_1) = v1 c
          ∧ r.2.mem ((c.tc : Thread Cert.FfnActGradIdeal.nD Cert.FfnActGradIdeal.τ).loc Cert.FfnActGradIdeal.main_arg0) = m ((c.tc : Thread Cert.FfnActGradIdeal.nD Cert.FfnActGradIdeal.τ).loc Cert.FfnActGradIdeal.main_arg0)
          ∧ r.2.mem ((c.tc : Thread Cert.FfnActGradIdeal.nD Cert.FfnActGradIdeal.τ).loc Cert.FfnActGradIdeal.main_arg1) = m ((c.tc : Thread Cert.FfnActGradIdeal.nD Cert.FfnActGradIdeal.τ).loc Cert.FfnActGradIdeal.main_arg1)
          ∧ r.2.mem ((c.tc : Thread Cert.FfnActGradIdeal.nD Cert.FfnActGradIdeal.τ).loc Cert.FfnActGradIdeal.main_arg2) = m ((c.tc : Thread Cert.FfnActGradIdeal.nD Cert.FfnActGradIdeal.τ).loc Cert.FfnActGradIdeal.main_arg2)
          ∧ r.2.mem ((c.tc : Thread Cert.FfnActGradIdeal.nD Cert.FfnActGradIdeal.τ).loc Cert.FfnActGradIdeal.main_arg3) = m ((c.tc : Thread Cert.FfnActGradIdeal.nD Cert.FfnActGradIdeal.τ).loc Cert.FfnActGradIdeal.main_arg3))
      ∧ θ_run (Cert.FfnActGradRefIdeal.defs (F := Ideal)) (onTc (τ := Cert.FfnActGradRefIdeal.τ) (Cert.FfnActGradRefIdeal.main (F := Ideal))) ⟨m', fun _ => 0, g'⟩ (fun r => ∀ c : Dev Cert.FfnActGradRefIdeal.nD,
          r.2.mem ((c.tc : Thread Cert.FfnActGradRefIdeal.nD Cert.FfnActGradRefIdeal.τ).loc Cert.FfnActGradRefIdeal.main_v24) = v0 c
          ∧ r.2.mem ((c.tc : Thread Cert.FfnActGradRefIdeal.nD Cert.FfnActGradRefIdeal.τ).loc Cert.FfnActGradRefIdeal.main_v19) = v1 c
          ∧ r.2.mem ((c.tc : Thread Cert.FfnActGradRefIdeal.nD Cert.FfnActGradRefIdeal.τ).loc Cert.FfnActGradRefIdeal.main_arg0) = m' ((c.tc : Thread Cert.FfnActGradRefIdeal.nD Cert.FfnActGradRefIdeal.τ).loc Cert.FfnActGradRefIdeal.main_arg0)
          ∧ r.2.mem ((c.tc : Thread Cert.FfnActGradRefIdeal.nD Cert.FfnActGradRefIdeal.τ).loc Cert.FfnActGradRefIdeal.main_arg1) = m' ((c.tc : Thread Cert.FfnActGradRefIdeal.nD Cert.FfnActGradRefIdeal.τ).loc Cert.FfnActGradRefIdeal.main_arg1)
          ∧ r.2.mem ((c.tc : Thread Cert.FfnActGradRefIdeal.nD Cert.FfnActGradRefIdeal.τ).loc Cert.FfnActGradRefIdeal.main_arg2) = m' ((c.tc : Thread Cert.FfnActGradRefIdeal.nD Cert.FfnActGradRefIdeal.τ).loc Cert.FfnActGradRefIdeal.main_arg2)
          ∧ r.2.mem ((c.tc : Thread Cert.FfnActGradRefIdeal.nD Cert.FfnActGradRefIdeal.τ).loc Cert.FfnActGradRefIdeal.main_arg3) = m' ((c.tc : Thread Cert.FfnActGradRefIdeal.nD Cert.FfnActGradRefIdeal.τ).loc Cert.FfnActGradRefIdeal.main_arg3))

def preserves_MergeGrad_MergeGradIdeal : Prop :=
  True

def algebraic_MergeGradIdeal_MergeGradRefIdeal_on_gate_columns [hMergeGradIdeal : Cert.MergeGradIdeal.Facts] [hMergeGradRefIdeal : Cert.MergeGradRefIdeal.Facts] [hOn_gate_columns : Cert.On_gate_columns.Facts] : Prop :=
  ∀ (m : (ℓ : Loc Cert.MergeGradIdeal.nD Cert.MergeGradIdeal.τ Cert.MergeGradIdeal.sig) → Buf (Elt Ideal) ℓ) (g : Dev Cert.MergeGradIdeal.nD → PrngReg)
    (m' : (ℓ : Loc Cert.MergeGradRefIdeal.nD Cert.MergeGradRefIdeal.τ Cert.MergeGradRefIdeal.sig) → Buf (Elt Ideal) ℓ) (g' : Dev Cert.MergeGradRefIdeal.nD → PrngReg), Pre_MergeGradIdeal m →
    (∀ c : Dev Cert.MergeGradIdeal.nD,
      m' ((c.tc : Thread Cert.MergeGradRefIdeal.nD Cert.MergeGradRefIdeal.τ).loc Cert.MergeGradRefIdeal.main_arg0) = m ((c.tc : Thread Cert.MergeGradIdeal.nD Cert.MergeGradIdeal.τ).loc Cert.MergeGradIdeal.main_arg0)
      ∧ m' ((c.tc : Thread Cert.MergeGradRefIdeal.nD Cert.MergeGradRefIdeal.τ).loc Cert.MergeGradRefIdeal.main_arg1) = m ((c.tc : Thread Cert.MergeGradIdeal.nD Cert.MergeGradIdeal.τ).loc Cert.MergeGradIdeal.main_arg1)
      ∧ m' ((c.tc : Thread Cert.MergeGradRefIdeal.nD Cert.MergeGradRefIdeal.τ).loc Cert.MergeGradRefIdeal.main_arg2) = m ((c.tc : Thread Cert.MergeGradIdeal.nD Cert.MergeGradIdeal.τ).loc Cert.MergeGradIdeal.main_arg2)
      ∧ m' ((c.tc : Thread Cert.MergeGradRefIdeal.nD Cert.MergeGradRefIdeal.τ).loc Cert.MergeGradRefIdeal.main_arg3) = m ((c.tc : Thread Cert.MergeGradIdeal.nD Cert.MergeGradIdeal.τ).loc Cert.MergeGradIdeal.main_arg3)
      ∧ m' ((c.tc : Thread Cert.MergeGradRefIdeal.nD Cert.MergeGradRefIdeal.τ).loc Cert.MergeGradRefIdeal.main_arg4) = m ((c.tc : Thread Cert.MergeGradIdeal.nD Cert.MergeGradIdeal.τ).loc Cert.MergeGradIdeal.main_arg4)) →
    ∃ (v0 : (c : Dev Cert.MergeGradIdeal.nD) → Buf (Elt Ideal) ((c.tc : Thread Cert.MergeGradIdeal.nD Cert.MergeGradIdeal.τ).loc Cert.MergeGradIdeal.main_v0_0)) (v1 : (c : Dev Cert.MergeGradIdeal.nD) → Buf (Elt Ideal) ((c.tc : Thread Cert.MergeGradIdeal.nD Cert.MergeGradIdeal.τ).loc Cert.MergeGradIdeal.main_v0_1)) (v2 : (c : Dev Cert.MergeGradIdeal.nD) → Buf (Elt Ideal) ((c.tc : Thread Cert.MergeGradIdeal.nD Cert.MergeGradIdeal.τ).loc Cert.MergeGradIdeal.main_v0_2)),
      θ_run (Cert.MergeGradIdeal.defs (F := Ideal)) (onTc (τ := Cert.MergeGradIdeal.τ) (Cert.MergeGradIdeal.main (F := Ideal))) ⟨m, fun _ => 0, g⟩ (fun r => ∀ c : Dev Cert.MergeGradIdeal.nD,
          (∀ i : (⟨2, ![4096, 1024]⟩ : Shape).Idx, (Cert.On_gate_columns.fn (F := Ideal) (m ((c.tc : Thread Cert.MergeGradIdeal.nD Cert.MergeGradIdeal.τ).loc Cert.MergeGradIdeal.main_arg0)) (m ((c.tc : Thread Cert.MergeGradIdeal.nD Cert.MergeGradIdeal.τ).loc Cert.MergeGradIdeal.main_arg1)) (m ((c.tc : Thread Cert.MergeGradIdeal.nD Cert.MergeGradIdeal.τ).loc Cert.MergeGradIdeal.main_arg2)) (m ((c.tc : Thread Cert.MergeGradIdeal.nD Cert.MergeGradIdeal.τ).loc Cert.MergeGradIdeal.main_arg3)) (m ((c.tc : Thread Cert.MergeGradIdeal.nD Cert.MergeGradIdeal.τ).loc Cert.MergeGradIdeal.main_arg4))).1 i = 1#1 → r.2.mem ((c.tc : Thread Cert.MergeGradIdeal.nD Cert.MergeGradIdeal.τ).loc Cert.MergeGradIdeal.main_v0_0) i = v0 c i)
          ∧ (∀ i : (⟨2, ![4096, 1024]⟩ : Shape).Idx, (Cert.On_gate_columns.fn (F := Ideal) (m ((c.tc : Thread Cert.MergeGradIdeal.nD Cert.MergeGradIdeal.τ).loc Cert.MergeGradIdeal.main_arg0)) (m ((c.tc : Thread Cert.MergeGradIdeal.nD Cert.MergeGradIdeal.τ).loc Cert.MergeGradIdeal.main_arg1)) (m ((c.tc : Thread Cert.MergeGradIdeal.nD Cert.MergeGradIdeal.τ).loc Cert.MergeGradIdeal.main_arg2)) (m ((c.tc : Thread Cert.MergeGradIdeal.nD Cert.MergeGradIdeal.τ).loc Cert.MergeGradIdeal.main_arg3)) (m ((c.tc : Thread Cert.MergeGradIdeal.nD Cert.MergeGradIdeal.τ).loc Cert.MergeGradIdeal.main_arg4))).2.1 i = 1#1 → r.2.mem ((c.tc : Thread Cert.MergeGradIdeal.nD Cert.MergeGradIdeal.τ).loc Cert.MergeGradIdeal.main_v0_1) i = v1 c i)
          ∧ (∀ i : (⟨2, ![4096, 8960]⟩ : Shape).Idx, (Cert.On_gate_columns.fn (F := Ideal) (m ((c.tc : Thread Cert.MergeGradIdeal.nD Cert.MergeGradIdeal.τ).loc Cert.MergeGradIdeal.main_arg0)) (m ((c.tc : Thread Cert.MergeGradIdeal.nD Cert.MergeGradIdeal.τ).loc Cert.MergeGradIdeal.main_arg1)) (m ((c.tc : Thread Cert.MergeGradIdeal.nD Cert.MergeGradIdeal.τ).loc Cert.MergeGradIdeal.main_arg2)) (m ((c.tc : Thread Cert.MergeGradIdeal.nD Cert.MergeGradIdeal.τ).loc Cert.MergeGradIdeal.main_arg3)) (m ((c.tc : Thread Cert.MergeGradIdeal.nD Cert.MergeGradIdeal.τ).loc Cert.MergeGradIdeal.main_arg4))).2.2 i = 1#1 → r.2.mem ((c.tc : Thread Cert.MergeGradIdeal.nD Cert.MergeGradIdeal.τ).loc Cert.MergeGradIdeal.main_v0_2) i = v2 c i)
          ∧ r.2.mem ((c.tc : Thread Cert.MergeGradIdeal.nD Cert.MergeGradIdeal.τ).loc Cert.MergeGradIdeal.main_arg0) = m ((c.tc : Thread Cert.MergeGradIdeal.nD Cert.MergeGradIdeal.τ).loc Cert.MergeGradIdeal.main_arg0)
          ∧ r.2.mem ((c.tc : Thread Cert.MergeGradIdeal.nD Cert.MergeGradIdeal.τ).loc Cert.MergeGradIdeal.main_arg1) = m ((c.tc : Thread Cert.MergeGradIdeal.nD Cert.MergeGradIdeal.τ).loc Cert.MergeGradIdeal.main_arg1)
          ∧ r.2.mem ((c.tc : Thread Cert.MergeGradIdeal.nD Cert.MergeGradIdeal.τ).loc Cert.MergeGradIdeal.main_arg2) = m ((c.tc : Thread Cert.MergeGradIdeal.nD Cert.MergeGradIdeal.τ).loc Cert.MergeGradIdeal.main_arg2)
          ∧ r.2.mem ((c.tc : Thread Cert.MergeGradIdeal.nD Cert.MergeGradIdeal.τ).loc Cert.MergeGradIdeal.main_arg3) = m ((c.tc : Thread Cert.MergeGradIdeal.nD Cert.MergeGradIdeal.τ).loc Cert.MergeGradIdeal.main_arg3)
          ∧ r.2.mem ((c.tc : Thread Cert.MergeGradIdeal.nD Cert.MergeGradIdeal.τ).loc Cert.MergeGradIdeal.main_arg4) = m ((c.tc : Thread Cert.MergeGradIdeal.nD Cert.MergeGradIdeal.τ).loc Cert.MergeGradIdeal.main_arg4))
      ∧ θ_run (Cert.MergeGradRefIdeal.defs (F := Ideal)) (onTc (τ := Cert.MergeGradRefIdeal.τ) (Cert.MergeGradRefIdeal.main (F := Ideal))) ⟨m', fun _ => 0, g'⟩ (fun r => ∀ c : Dev Cert.MergeGradRefIdeal.nD,
          (∀ i : (⟨2, ![4096, 1024]⟩ : Shape).Idx, (Cert.On_gate_columns.fn (F := Ideal) (m ((c.tc : Thread Cert.MergeGradIdeal.nD Cert.MergeGradIdeal.τ).loc Cert.MergeGradIdeal.main_arg0)) (m ((c.tc : Thread Cert.MergeGradIdeal.nD Cert.MergeGradIdeal.τ).loc Cert.MergeGradIdeal.main_arg1)) (m ((c.tc : Thread Cert.MergeGradIdeal.nD Cert.MergeGradIdeal.τ).loc Cert.MergeGradIdeal.main_arg2)) (m ((c.tc : Thread Cert.MergeGradIdeal.nD Cert.MergeGradIdeal.τ).loc Cert.MergeGradIdeal.main_arg3)) (m ((c.tc : Thread Cert.MergeGradIdeal.nD Cert.MergeGradIdeal.τ).loc Cert.MergeGradIdeal.main_arg4))).1 i = 1#1 → r.2.mem ((c.tc : Thread Cert.MergeGradRefIdeal.nD Cert.MergeGradRefIdeal.τ).loc Cert.MergeGradRefIdeal.main_v35) i = v0 c i)
          ∧ (∀ i : (⟨2, ![4096, 1024]⟩ : Shape).Idx, (Cert.On_gate_columns.fn (F := Ideal) (m ((c.tc : Thread Cert.MergeGradIdeal.nD Cert.MergeGradIdeal.τ).loc Cert.MergeGradIdeal.main_arg0)) (m ((c.tc : Thread Cert.MergeGradIdeal.nD Cert.MergeGradIdeal.τ).loc Cert.MergeGradIdeal.main_arg1)) (m ((c.tc : Thread Cert.MergeGradIdeal.nD Cert.MergeGradIdeal.τ).loc Cert.MergeGradIdeal.main_arg2)) (m ((c.tc : Thread Cert.MergeGradIdeal.nD Cert.MergeGradIdeal.τ).loc Cert.MergeGradIdeal.main_arg3)) (m ((c.tc : Thread Cert.MergeGradIdeal.nD Cert.MergeGradIdeal.τ).loc Cert.MergeGradIdeal.main_arg4))).2.1 i = 1#1 → r.2.mem ((c.tc : Thread Cert.MergeGradRefIdeal.nD Cert.MergeGradRefIdeal.τ).loc Cert.MergeGradRefIdeal.main_v31) i = v1 c i)
          ∧ (∀ i : (⟨2, ![4096, 8960]⟩ : Shape).Idx, (Cert.On_gate_columns.fn (F := Ideal) (m ((c.tc : Thread Cert.MergeGradIdeal.nD Cert.MergeGradIdeal.τ).loc Cert.MergeGradIdeal.main_arg0)) (m ((c.tc : Thread Cert.MergeGradIdeal.nD Cert.MergeGradIdeal.τ).loc Cert.MergeGradIdeal.main_arg1)) (m ((c.tc : Thread Cert.MergeGradIdeal.nD Cert.MergeGradIdeal.τ).loc Cert.MergeGradIdeal.main_arg2)) (m ((c.tc : Thread Cert.MergeGradIdeal.nD Cert.MergeGradIdeal.τ).loc Cert.MergeGradIdeal.main_arg3)) (m ((c.tc : Thread Cert.MergeGradIdeal.nD Cert.MergeGradIdeal.τ).loc Cert.MergeGradIdeal.main_arg4))).2.2 i = 1#1 → r.2.mem ((c.tc : Thread Cert.MergeGradRefIdeal.nD Cert.MergeGradRefIdeal.τ).loc Cert.MergeGradRefIdeal.main_v40) i = v2 c i)
          ∧ r.2.mem ((c.tc : Thread Cert.MergeGradRefIdeal.nD Cert.MergeGradRefIdeal.τ).loc Cert.MergeGradRefIdeal.main_arg0) = m' ((c.tc : Thread Cert.MergeGradRefIdeal.nD Cert.MergeGradRefIdeal.τ).loc Cert.MergeGradRefIdeal.main_arg0)
          ∧ r.2.mem ((c.tc : Thread Cert.MergeGradRefIdeal.nD Cert.MergeGradRefIdeal.τ).loc Cert.MergeGradRefIdeal.main_arg1) = m' ((c.tc : Thread Cert.MergeGradRefIdeal.nD Cert.MergeGradRefIdeal.τ).loc Cert.MergeGradRefIdeal.main_arg1)
          ∧ r.2.mem ((c.tc : Thread Cert.MergeGradRefIdeal.nD Cert.MergeGradRefIdeal.τ).loc Cert.MergeGradRefIdeal.main_arg2) = m' ((c.tc : Thread Cert.MergeGradRefIdeal.nD Cert.MergeGradRefIdeal.τ).loc Cert.MergeGradRefIdeal.main_arg2)
          ∧ r.2.mem ((c.tc : Thread Cert.MergeGradRefIdeal.nD Cert.MergeGradRefIdeal.τ).loc Cert.MergeGradRefIdeal.main_arg3) = m' ((c.tc : Thread Cert.MergeGradRefIdeal.nD Cert.MergeGradRefIdeal.τ).loc Cert.MergeGradRefIdeal.main_arg3)
          ∧ r.2.mem ((c.tc : Thread Cert.MergeGradRefIdeal.nD Cert.MergeGradRefIdeal.τ).loc Cert.MergeGradRefIdeal.main_arg4) = m' ((c.tc : Thread Cert.MergeGradRefIdeal.nD Cert.MergeGradRefIdeal.τ).loc Cert.MergeGradRefIdeal.main_arg4))

def preserves_NormGrad_NormGradIdeal : Prop :=
  True

def algebraic_NormGradIdeal_NormGradRefIdeal_pre_norm_finite [hNormGradIdeal : Cert.NormGradIdeal.Facts] [hNormGradRefIdeal : Cert.NormGradRefIdeal.Facts] [hPre_norm_finite : Cert.Pre_norm_finite.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradRefIdeal.nD Cert.NormGradRefIdeal.τ Cert.NormGradRefIdeal.sig) → Buf (Elt Ideal) ℓ) (g' : Dev Cert.NormGradRefIdeal.nD → PrngReg), Pre_NormGradIdeal_norm_finite m →
    (∀ c : Dev Cert.NormGradIdeal.nD,
      m' ((c.tc : Thread Cert.NormGradRefIdeal.nD Cert.NormGradRefIdeal.τ).loc Cert.NormGradRefIdeal.main_arg0) = m ((c.tc : Thread Cert.NormGradIdeal.nD Cert.NormGradIdeal.τ).loc Cert.NormGradIdeal.main_arg0)
      ∧ m' ((c.tc : Thread Cert.NormGradRefIdeal.nD Cert.NormGradRefIdeal.τ).loc Cert.NormGradRefIdeal.main_arg1) = m ((c.tc : Thread Cert.NormGradIdeal.nD Cert.NormGradIdeal.τ).loc Cert.NormGradIdeal.main_arg1)
      ∧ m' ((c.tc : Thread Cert.NormGradRefIdeal.nD Cert.NormGradRefIdeal.τ).loc Cert.NormGradRefIdeal.main_arg2) = m ((c.tc : Thread Cert.NormGradIdeal.nD Cert.NormGradIdeal.τ).loc Cert.NormGradIdeal.main_arg2)
      ∧ m' ((c.tc : Thread Cert.NormGradRefIdeal.nD Cert.NormGradRefIdeal.τ).loc Cert.NormGradRefIdeal.main_arg3) = m ((c.tc : Thread Cert.NormGradIdeal.nD Cert.NormGradIdeal.τ).loc Cert.NormGradIdeal.main_arg3)) →
    ∃ (v0 : (c : Dev Cert.NormGradIdeal.nD) → Buf (Elt Ideal) ((c.tc : Thread Cert.NormGradIdeal.nD Cert.NormGradIdeal.τ).loc Cert.NormGradIdeal.main_v1_0)) (v1 : (c : Dev Cert.NormGradIdeal.nD) → Buf (Elt Ideal) ((c.tc : Thread Cert.NormGradIdeal.nD Cert.NormGradIdeal.τ).loc Cert.NormGradIdeal.main_v1_1)) (v2 : (c : Dev Cert.NormGradIdeal.nD) → Buf (Elt Ideal) ((c.tc : Thread Cert.NormGradIdeal.nD Cert.NormGradIdeal.τ).loc Cert.NormGradIdeal.main_v1_2)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v1_0) = v0 c
          ∧ r.2.mem ((c.tc : Thread Cert.NormGradIdeal.nD Cert.NormGradIdeal.τ).loc Cert.NormGradIdeal.main_v1_1) = v1 c
          ∧ r.2.mem ((c.tc : Thread Cert.NormGradIdeal.nD Cert.NormGradIdeal.τ).loc Cert.NormGradIdeal.main_v1_2) = v2 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ θ_run (Cert.NormGradRefIdeal.defs (F := Ideal)) (onTc (τ := Cert.NormGradRefIdeal.τ) (Cert.NormGradRefIdeal.main (F := Ideal))) ⟨m', fun _ => 0, g'⟩ (fun r => ∀ c : Dev Cert.NormGradRefIdeal.nD,
          r.2.mem ((c.tc : Thread Cert.NormGradRefIdeal.nD Cert.NormGradRefIdeal.τ).loc Cert.NormGradRefIdeal.main_v36) = v0 c
          ∧ r.2.mem ((c.tc : Thread Cert.NormGradRefIdeal.nD Cert.NormGradRefIdeal.τ).loc Cert.NormGradRefIdeal.main_v37) = v1 c
          ∧ r.2.mem ((c.tc : Thread Cert.NormGradRefIdeal.nD Cert.NormGradRefIdeal.τ).loc Cert.NormGradRefIdeal.main_v38) = v2 c
          ∧ r.2.mem ((c.tc : Thread Cert.NormGradRefIdeal.nD Cert.NormGradRefIdeal.τ).loc Cert.NormGradRefIdeal.main_arg0) = m' ((c.tc : Thread Cert.NormGradRefIdeal.nD Cert.NormGradRefIdeal.τ).loc Cert.NormGradRefIdeal.main_arg0)
          ∧ r.2.mem ((c.tc : Thread Cert.NormGradRefIdeal.nD Cert.NormGradRefIdeal.τ).loc Cert.NormGradRefIdeal.main_arg1) = m' ((c.tc : Thread Cert.NormGradRefIdeal.nD Cert.NormGradRefIdeal.τ).loc Cert.NormGradRefIdeal.main_arg1)
          ∧ r.2.mem ((c.tc : Thread Cert.NormGradRefIdeal.nD Cert.NormGradRefIdeal.τ).loc Cert.NormGradRefIdeal.main_arg2) = m' ((c.tc : Thread Cert.NormGradRefIdeal.nD Cert.NormGradRefIdeal.τ).loc Cert.NormGradRefIdeal.main_arg2)
          ∧ r.2.mem ((c.tc : Thread Cert.NormGradRefIdeal.nD Cert.NormGradRefIdeal.τ).loc Cert.NormGradRefIdeal.main_arg3) = m' ((c.tc : Thread Cert.NormGradRefIdeal.nD Cert.NormGradRefIdeal.τ).loc Cert.NormGradRefIdeal.main_arg3))

def preserves_ConvSsmGrad_ConvSsmGradIdeal : Prop :=
  True

def algebraic_ConvSsmGradIdeal_ConvSsmGradRefIdeal_pre_conv_ssm_finite [hConvSsmGradIdeal : Cert.ConvSsmGradIdeal.Facts] [hConvSsmGradRefIdeal : Cert.ConvSsmGradRefIdeal.Facts] [hPre_conv_ssm_finite : Cert.Pre_conv_ssm_finite.Facts] : Prop :=
  ∀ (m : (ℓ : Loc Cert.ConvSsmGradIdeal.nD Cert.ConvSsmGradIdeal.τ Cert.ConvSsmGradIdeal.sig) → Buf (Elt Ideal) ℓ) (g : Dev Cert.ConvSsmGradIdeal.nD → PrngReg)
    (m' : (ℓ : Loc Cert.ConvSsmGradRefIdeal.nD Cert.ConvSsmGradRefIdeal.τ Cert.ConvSsmGradRefIdeal.sig) → Buf (Elt Ideal) ℓ) (g' : Dev Cert.ConvSsmGradRefIdeal.nD → PrngReg), Pre_ConvSsmGradIdeal_conv_ssm_finite m →
    (∀ c : Dev Cert.ConvSsmGradIdeal.nD,
      m' ((c.tc : Thread Cert.ConvSsmGradRefIdeal.nD Cert.ConvSsmGradRefIdeal.τ).loc Cert.ConvSsmGradRefIdeal.main_arg0) = m ((c.tc : Thread Cert.ConvSsmGradIdeal.nD Cert.ConvSsmGradIdeal.τ).loc Cert.ConvSsmGradIdeal.main_arg0)
      ∧ m' ((c.tc : Thread Cert.ConvSsmGradRefIdeal.nD Cert.ConvSsmGradRefIdeal.τ).loc Cert.ConvSsmGradRefIdeal.main_arg1) = m ((c.tc : Thread Cert.ConvSsmGradIdeal.nD Cert.ConvSsmGradIdeal.τ).loc Cert.ConvSsmGradIdeal.main_arg1)
      ∧ m' ((c.tc : Thread Cert.ConvSsmGradRefIdeal.nD Cert.ConvSsmGradRefIdeal.τ).loc Cert.ConvSsmGradRefIdeal.main_arg2) = m ((c.tc : Thread Cert.ConvSsmGradIdeal.nD Cert.ConvSsmGradIdeal.τ).loc Cert.ConvSsmGradIdeal.main_arg2)
      ∧ m' ((c.tc : Thread Cert.ConvSsmGradRefIdeal.nD Cert.ConvSsmGradRefIdeal.τ).loc Cert.ConvSsmGradRefIdeal.main_arg3) = m ((c.tc : Thread Cert.ConvSsmGradIdeal.nD Cert.ConvSsmGradIdeal.τ).loc Cert.ConvSsmGradIdeal.main_arg3)
      ∧ m' ((c.tc : Thread Cert.ConvSsmGradRefIdeal.nD Cert.ConvSsmGradRefIdeal.τ).loc Cert.ConvSsmGradRefIdeal.main_arg4) = m ((c.tc : Thread Cert.ConvSsmGradIdeal.nD Cert.ConvSsmGradIdeal.τ).loc Cert.ConvSsmGradIdeal.main_arg4)) →
    ∃ (v0 : (c : Dev Cert.ConvSsmGradIdeal.nD) → Buf (Elt Ideal) ((c.tc : Thread Cert.ConvSsmGradIdeal.nD Cert.ConvSsmGradIdeal.τ).loc Cert.ConvSsmGradIdeal.main_v37_0)) (v1 : (c : Dev Cert.ConvSsmGradIdeal.nD) → Buf (Elt Ideal) ((c.tc : Thread Cert.ConvSsmGradIdeal.nD Cert.ConvSsmGradIdeal.τ).loc Cert.ConvSsmGradIdeal.main_v37_1)) (v2 : (c : Dev Cert.ConvSsmGradIdeal.nD) → Buf (Elt Ideal) ((c.tc : Thread Cert.ConvSsmGradIdeal.nD Cert.ConvSsmGradIdeal.τ).loc Cert.ConvSsmGradIdeal.main_v37_2)),
      θ_run (Cert.ConvSsmGradIdeal.defs (F := Ideal)) (onTc (τ := Cert.ConvSsmGradIdeal.τ) (Cert.ConvSsmGradIdeal.main (F := Ideal))) ⟨m, fun _ => 0, g⟩ (fun r => ∀ c : Dev Cert.ConvSsmGradIdeal.nD,
          r.2.mem ((c.tc : Thread Cert.ConvSsmGradIdeal.nD Cert.ConvSsmGradIdeal.τ).loc Cert.ConvSsmGradIdeal.main_v37_0) = v0 c
          ∧ r.2.mem ((c.tc : Thread Cert.ConvSsmGradIdeal.nD Cert.ConvSsmGradIdeal.τ).loc Cert.ConvSsmGradIdeal.main_v37_1) = v1 c
          ∧ r.2.mem ((c.tc : Thread Cert.ConvSsmGradIdeal.nD Cert.ConvSsmGradIdeal.τ).loc Cert.ConvSsmGradIdeal.main_v37_2) = v2 c
          ∧ r.2.mem ((c.tc : Thread Cert.ConvSsmGradIdeal.nD Cert.ConvSsmGradIdeal.τ).loc Cert.ConvSsmGradIdeal.main_arg0) = m ((c.tc : Thread Cert.ConvSsmGradIdeal.nD Cert.ConvSsmGradIdeal.τ).loc Cert.ConvSsmGradIdeal.main_arg0)
          ∧ r.2.mem ((c.tc : Thread Cert.ConvSsmGradIdeal.nD Cert.ConvSsmGradIdeal.τ).loc Cert.ConvSsmGradIdeal.main_arg1) = m ((c.tc : Thread Cert.ConvSsmGradIdeal.nD Cert.ConvSsmGradIdeal.τ).loc Cert.ConvSsmGradIdeal.main_arg1)
          ∧ r.2.mem ((c.tc : Thread Cert.ConvSsmGradIdeal.nD Cert.ConvSsmGradIdeal.τ).loc Cert.ConvSsmGradIdeal.main_arg2) = m ((c.tc : Thread Cert.ConvSsmGradIdeal.nD Cert.ConvSsmGradIdeal.τ).loc Cert.ConvSsmGradIdeal.main_arg2)
          ∧ r.2.mem ((c.tc : Thread Cert.ConvSsmGradIdeal.nD Cert.ConvSsmGradIdeal.τ).loc Cert.ConvSsmGradIdeal.main_arg3) = m ((c.tc : Thread Cert.ConvSsmGradIdeal.nD Cert.ConvSsmGradIdeal.τ).loc Cert.ConvSsmGradIdeal.main_arg3)
          ∧ r.2.mem ((c.tc : Thread Cert.ConvSsmGradIdeal.nD Cert.ConvSsmGradIdeal.τ).loc Cert.ConvSsmGradIdeal.main_arg4) = m ((c.tc : Thread Cert.ConvSsmGradIdeal.nD Cert.ConvSsmGradIdeal.τ).loc Cert.ConvSsmGradIdeal.main_arg4))
      ∧ θ_run (Cert.ConvSsmGradRefIdeal.defs (F := Ideal)) (onTc (τ := Cert.ConvSsmGradRefIdeal.τ) (Cert.ConvSsmGradRefIdeal.main (F := Ideal))) ⟨m', fun _ => 0, g'⟩ (fun r => ∀ c : Dev Cert.ConvSsmGradRefIdeal.nD,
          r.2.mem ((c.tc : Thread Cert.ConvSsmGradRefIdeal.nD Cert.ConvSsmGradRefIdeal.τ).loc Cert.ConvSsmGradRefIdeal.main_v107) = v0 c
          ∧ r.2.mem ((c.tc : Thread Cert.ConvSsmGradRefIdeal.nD Cert.ConvSsmGradRefIdeal.τ).loc Cert.ConvSsmGradRefIdeal.main_v105) = v1 c
          ∧ r.2.mem ((c.tc : Thread Cert.ConvSsmGradRefIdeal.nD Cert.ConvSsmGradRefIdeal.τ).loc Cert.ConvSsmGradRefIdeal.main_v92) = v2 c
          ∧ r.2.mem ((c.tc : Thread Cert.ConvSsmGradRefIdeal.nD Cert.ConvSsmGradRefIdeal.τ).loc Cert.ConvSsmGradRefIdeal.main_arg0) = m' ((c.tc : Thread Cert.ConvSsmGradRefIdeal.nD Cert.ConvSsmGradRefIdeal.τ).loc Cert.ConvSsmGradRefIdeal.main_arg0)
          ∧ r.2.mem ((c.tc : Thread Cert.ConvSsmGradRefIdeal.nD Cert.ConvSsmGradRefIdeal.τ).loc Cert.ConvSsmGradRefIdeal.main_arg1) = m' ((c.tc : Thread Cert.ConvSsmGradRefIdeal.nD Cert.ConvSsmGradRefIdeal.τ).loc Cert.ConvSsmGradRefIdeal.main_arg1)
          ∧ r.2.mem ((c.tc : Thread Cert.ConvSsmGradRefIdeal.nD Cert.ConvSsmGradRefIdeal.τ).loc Cert.ConvSsmGradRefIdeal.main_arg2) = m' ((c.tc : Thread Cert.ConvSsmGradRefIdeal.nD Cert.ConvSsmGradRefIdeal.τ).loc Cert.ConvSsmGradRefIdeal.main_arg2)
          ∧ r.2.mem ((c.tc : Thread Cert.ConvSsmGradRefIdeal.nD Cert.ConvSsmGradRefIdeal.τ).loc Cert.ConvSsmGradRefIdeal.main_arg3) = m' ((c.tc : Thread Cert.ConvSsmGradRefIdeal.nD Cert.ConvSsmGradRefIdeal.τ).loc Cert.ConvSsmGradRefIdeal.main_arg3)
          ∧ r.2.mem ((c.tc : Thread Cert.ConvSsmGradRefIdeal.nD Cert.ConvSsmGradRefIdeal.τ).loc Cert.ConvSsmGradRefIdeal.main_arg4) = m' ((c.tc : Thread Cert.ConvSsmGradRefIdeal.nD Cert.ConvSsmGradRefIdeal.τ).loc Cert.ConvSsmGradRefIdeal.main_arg4))

def preserves_ConvGdnGrad_ConvGdnGradIdeal : Prop :=
  True

def algebraic_ConvGdnGradIdeal_ConvGdnGradRefIdeal_pre_conv_gdn_finite [hConvGdnGradIdeal : Cert.ConvGdnGradIdeal.Facts] [hConvGdnGradRefIdeal : Cert.ConvGdnGradRefIdeal.Facts] [hPre_conv_gdn_finite : Cert.Pre_conv_gdn_finite.Facts] : Prop :=
  ∀ (m : (ℓ : Loc Cert.ConvGdnGradIdeal.nD Cert.ConvGdnGradIdeal.τ Cert.ConvGdnGradIdeal.sig) → Buf (Elt Ideal) ℓ) (g : Dev Cert.ConvGdnGradIdeal.nD → PrngReg)
    (m' : (ℓ : Loc Cert.ConvGdnGradRefIdeal.nD Cert.ConvGdnGradRefIdeal.τ Cert.ConvGdnGradRefIdeal.sig) → Buf (Elt Ideal) ℓ) (g' : Dev Cert.ConvGdnGradRefIdeal.nD → PrngReg), Pre_ConvGdnGradIdeal_conv_gdn_finite m →
    (∀ c : Dev Cert.ConvGdnGradIdeal.nD,
      m' ((c.tc : Thread Cert.ConvGdnGradRefIdeal.nD Cert.ConvGdnGradRefIdeal.τ).loc Cert.ConvGdnGradRefIdeal.main_arg0) = m ((c.tc : Thread Cert.ConvGdnGradIdeal.nD Cert.ConvGdnGradIdeal.τ).loc Cert.ConvGdnGradIdeal.main_arg0)
      ∧ m' ((c.tc : Thread Cert.ConvGdnGradRefIdeal.nD Cert.ConvGdnGradRefIdeal.τ).loc Cert.ConvGdnGradRefIdeal.main_arg1) = m ((c.tc : Thread Cert.ConvGdnGradIdeal.nD Cert.ConvGdnGradIdeal.τ).loc Cert.ConvGdnGradIdeal.main_arg1)
      ∧ m' ((c.tc : Thread Cert.ConvGdnGradRefIdeal.nD Cert.ConvGdnGradRefIdeal.τ).loc Cert.ConvGdnGradRefIdeal.main_arg2) = m ((c.tc : Thread Cert.ConvGdnGradIdeal.nD Cert.ConvGdnGradIdeal.τ).loc Cert.ConvGdnGradIdeal.main_arg2)
      ∧ m' ((c.tc : Thread Cert.ConvGdnGradRefIdeal.nD Cert.ConvGdnGradRefIdeal.τ).loc Cert.ConvGdnGradRefIdeal.main_arg3) = m ((c.tc : Thread Cert.ConvGdnGradIdeal.nD Cert.ConvGdnGradIdeal.τ).loc Cert.ConvGdnGradIdeal.main_arg3)) →
    ∃ (v0 : (c : Dev Cert.ConvGdnGradIdeal.nD) → Buf (Elt Ideal) ((c.tc : Thread Cert.ConvGdnGradIdeal.nD Cert.ConvGdnGradIdeal.τ).loc Cert.ConvGdnGradIdeal.main_v38_0)) (v1 : (c : Dev Cert.ConvGdnGradIdeal.nD) → Buf (Elt Ideal) ((c.tc : Thread Cert.ConvGdnGradIdeal.nD Cert.ConvGdnGradIdeal.τ).loc Cert.ConvGdnGradIdeal.main_v38_1)),
      θ_run (Cert.ConvGdnGradIdeal.defs (F := Ideal)) (onTc (τ := Cert.ConvGdnGradIdeal.τ) (Cert.ConvGdnGradIdeal.main (F := Ideal))) ⟨m, fun _ => 0, g⟩ (fun r => ∀ c : Dev Cert.ConvGdnGradIdeal.nD,
          r.2.mem ((c.tc : Thread Cert.ConvGdnGradIdeal.nD Cert.ConvGdnGradIdeal.τ).loc Cert.ConvGdnGradIdeal.main_v38_0) = v0 c
          ∧ r.2.mem ((c.tc : Thread Cert.ConvGdnGradIdeal.nD Cert.ConvGdnGradIdeal.τ).loc Cert.ConvGdnGradIdeal.main_v38_1) = v1 c
          ∧ r.2.mem ((c.tc : Thread Cert.ConvGdnGradIdeal.nD Cert.ConvGdnGradIdeal.τ).loc Cert.ConvGdnGradIdeal.main_arg0) = m ((c.tc : Thread Cert.ConvGdnGradIdeal.nD Cert.ConvGdnGradIdeal.τ).loc Cert.ConvGdnGradIdeal.main_arg0)
          ∧ r.2.mem ((c.tc : Thread Cert.ConvGdnGradIdeal.nD Cert.ConvGdnGradIdeal.τ).loc Cert.ConvGdnGradIdeal.main_arg1) = m ((c.tc : Thread Cert.ConvGdnGradIdeal.nD Cert.ConvGdnGradIdeal.τ).loc Cert.ConvGdnGradIdeal.main_arg1)
          ∧ r.2.mem ((c.tc : Thread Cert.ConvGdnGradIdeal.nD Cert.ConvGdnGradIdeal.τ).loc Cert.ConvGdnGradIdeal.main_arg2) = m ((c.tc : Thread Cert.ConvGdnGradIdeal.nD Cert.ConvGdnGradIdeal.τ).loc Cert.ConvGdnGradIdeal.main_arg2)
          ∧ r.2.mem ((c.tc : Thread Cert.ConvGdnGradIdeal.nD Cert.ConvGdnGradIdeal.τ).loc Cert.ConvGdnGradIdeal.main_arg3) = m ((c.tc : Thread Cert.ConvGdnGradIdeal.nD Cert.ConvGdnGradIdeal.τ).loc Cert.ConvGdnGradIdeal.main_arg3))
      ∧ θ_run (Cert.ConvGdnGradRefIdeal.defs (F := Ideal)) (onTc (τ := Cert.ConvGdnGradRefIdeal.τ) (Cert.ConvGdnGradRefIdeal.main (F := Ideal))) ⟨m', fun _ => 0, g'⟩ (fun r => ∀ c : Dev Cert.ConvGdnGradRefIdeal.nD,
          r.2.mem ((c.tc : Thread Cert.ConvGdnGradRefIdeal.nD Cert.ConvGdnGradRefIdeal.τ).loc Cert.ConvGdnGradRefIdeal.main_v108) = v0 c
          ∧ r.2.mem ((c.tc : Thread Cert.ConvGdnGradRefIdeal.nD Cert.ConvGdnGradRefIdeal.τ).loc Cert.ConvGdnGradRefIdeal.main_v106) = v1 c
          ∧ r.2.mem ((c.tc : Thread Cert.ConvGdnGradRefIdeal.nD Cert.ConvGdnGradRefIdeal.τ).loc Cert.ConvGdnGradRefIdeal.main_arg0) = m' ((c.tc : Thread Cert.ConvGdnGradRefIdeal.nD Cert.ConvGdnGradRefIdeal.τ).loc Cert.ConvGdnGradRefIdeal.main_arg0)
          ∧ r.2.mem ((c.tc : Thread Cert.ConvGdnGradRefIdeal.nD Cert.ConvGdnGradRefIdeal.τ).loc Cert.ConvGdnGradRefIdeal.main_arg1) = m' ((c.tc : Thread Cert.ConvGdnGradRefIdeal.nD Cert.ConvGdnGradRefIdeal.τ).loc Cert.ConvGdnGradRefIdeal.main_arg1)
          ∧ r.2.mem ((c.tc : Thread Cert.ConvGdnGradRefIdeal.nD Cert.ConvGdnGradRefIdeal.τ).loc Cert.ConvGdnGradRefIdeal.main_arg2) = m' ((c.tc : Thread Cert.ConvGdnGradRefIdeal.nD Cert.ConvGdnGradRefIdeal.τ).loc Cert.ConvGdnGradRefIdeal.main_arg2)
          ∧ r.2.mem ((c.tc : Thread Cert.ConvGdnGradRefIdeal.nD Cert.ConvGdnGradRefIdeal.τ).loc Cert.ConvGdnGradRefIdeal.main_arg3) = m' ((c.tc : Thread Cert.ConvGdnGradRefIdeal.nD Cert.ConvGdnGradRefIdeal.τ).loc Cert.ConvGdnGradRefIdeal.main_arg3))

def preserves_SsdGrad_SsdGradIdeal : Prop :=
  True

def algebraic_SsdGradIdeal_SsdGradRefIdeal_pre_ssd_finite [hSsdGradIdeal : Cert.SsdGradIdeal.Facts] [hSsdGradRefIdeal : Cert.SsdGradRefIdeal.Facts] [hPre_ssd_finite : Cert.Pre_ssd_finite.Facts] : Prop :=
  ∀ (m : (ℓ : Loc Cert.SsdGradIdeal.nD Cert.SsdGradIdeal.τ Cert.SsdGradIdeal.sig) → Buf (Elt Ideal) ℓ) (g : Dev Cert.SsdGradIdeal.nD → PrngReg)
    (m' : (ℓ : Loc Cert.SsdGradRefIdeal.nD Cert.SsdGradRefIdeal.τ Cert.SsdGradRefIdeal.sig) → Buf (Elt Ideal) ℓ) (g' : Dev Cert.SsdGradRefIdeal.nD → PrngReg), Pre_SsdGradIdeal_ssd_finite m →
    (∀ c : Dev Cert.SsdGradIdeal.nD,
      m' ((c.tc : Thread Cert.SsdGradRefIdeal.nD Cert.SsdGradRefIdeal.τ).loc Cert.SsdGradRefIdeal.main_arg0) = m ((c.tc : Thread Cert.SsdGradIdeal.nD Cert.SsdGradIdeal.τ).loc Cert.SsdGradIdeal.main_arg0)
      ∧ m' ((c.tc : Thread Cert.SsdGradRefIdeal.nD Cert.SsdGradRefIdeal.τ).loc Cert.SsdGradRefIdeal.main_arg1) = m ((c.tc : Thread Cert.SsdGradIdeal.nD Cert.SsdGradIdeal.τ).loc Cert.SsdGradIdeal.main_arg1)
      ∧ m' ((c.tc : Thread Cert.SsdGradRefIdeal.nD Cert.SsdGradRefIdeal.τ).loc Cert.SsdGradRefIdeal.main_arg2) = m ((c.tc : Thread Cert.SsdGradIdeal.nD Cert.SsdGradIdeal.τ).loc Cert.SsdGradIdeal.main_arg2)
      ∧ m' ((c.tc : Thread Cert.SsdGradRefIdeal.nD Cert.SsdGradRefIdeal.τ).loc Cert.SsdGradRefIdeal.main_arg3) = m ((c.tc : Thread Cert.SsdGradIdeal.nD Cert.SsdGradIdeal.τ).loc Cert.SsdGradIdeal.main_arg3)
      ∧ m' ((c.tc : Thread Cert.SsdGradRefIdeal.nD Cert.SsdGradRefIdeal.τ).loc Cert.SsdGradRefIdeal.main_arg4) = m ((c.tc : Thread Cert.SsdGradIdeal.nD Cert.SsdGradIdeal.τ).loc Cert.SsdGradIdeal.main_arg4)
      ∧ m' ((c.tc : Thread Cert.SsdGradRefIdeal.nD Cert.SsdGradRefIdeal.τ).loc Cert.SsdGradRefIdeal.main_arg5) = m ((c.tc : Thread Cert.SsdGradIdeal.nD Cert.SsdGradIdeal.τ).loc Cert.SsdGradIdeal.main_arg5)
      ∧ m' ((c.tc : Thread Cert.SsdGradRefIdeal.nD Cert.SsdGradRefIdeal.τ).loc Cert.SsdGradRefIdeal.main_arg6) = m ((c.tc : Thread Cert.SsdGradIdeal.nD Cert.SsdGradIdeal.τ).loc Cert.SsdGradIdeal.main_arg6)
      ∧ m' ((c.tc : Thread Cert.SsdGradRefIdeal.nD Cert.SsdGradRefIdeal.τ).loc Cert.SsdGradRefIdeal.main_arg7) = m ((c.tc : Thread Cert.SsdGradIdeal.nD Cert.SsdGradIdeal.τ).loc Cert.SsdGradIdeal.main_arg7)
      ∧ m' ((c.tc : Thread Cert.SsdGradRefIdeal.nD Cert.SsdGradRefIdeal.τ).loc Cert.SsdGradRefIdeal.main_arg8) = m ((c.tc : Thread Cert.SsdGradIdeal.nD Cert.SsdGradIdeal.τ).loc Cert.SsdGradIdeal.main_arg8)
      ∧ m' ((c.tc : Thread Cert.SsdGradRefIdeal.nD Cert.SsdGradRefIdeal.τ).loc Cert.SsdGradRefIdeal.main_arg9) = m ((c.tc : Thread Cert.SsdGradIdeal.nD Cert.SsdGradIdeal.τ).loc Cert.SsdGradIdeal.main_arg9)) →
    ∃ (v0 : (c : Dev Cert.SsdGradIdeal.nD) → Buf (Elt Ideal) ((c.tc : Thread Cert.SsdGradIdeal.nD Cert.SsdGradIdeal.τ).loc Cert.SsdGradIdeal.main_v9_1)) (v1 : (c : Dev Cert.SsdGradIdeal.nD) → Buf (Elt Ideal) ((c.tc : Thread Cert.SsdGradIdeal.nD Cert.SsdGradIdeal.τ).loc Cert.SsdGradIdeal.main_v9_3)) (v2 : (c : Dev Cert.SsdGradIdeal.nD) → Buf (Elt Ideal) ((c.tc : Thread Cert.SsdGradIdeal.nD Cert.SsdGradIdeal.τ).loc Cert.SsdGradIdeal.main_v9_4)),
      θ_run (Cert.SsdGradIdeal.defs (F := Ideal)) (onTc (τ := Cert.SsdGradIdeal.τ) (Cert.SsdGradIdeal.main (F := Ideal))) ⟨m, fun _ => 0, g⟩ (fun r => ∀ c : Dev Cert.SsdGradIdeal.nD,
          r.2.mem ((c.tc : Thread Cert.SsdGradIdeal.nD Cert.SsdGradIdeal.τ).loc Cert.SsdGradIdeal.main_v9_1) = v0 c
          ∧ r.2.mem ((c.tc : Thread Cert.SsdGradIdeal.nD Cert.SsdGradIdeal.τ).loc Cert.SsdGradIdeal.main_v9_3) = v1 c
          ∧ r.2.mem ((c.tc : Thread Cert.SsdGradIdeal.nD Cert.SsdGradIdeal.τ).loc Cert.SsdGradIdeal.main_v9_4) = v2 c
          ∧ r.2.mem ((c.tc : Thread Cert.SsdGradIdeal.nD Cert.SsdGradIdeal.τ).loc Cert.SsdGradIdeal.main_arg0) = m ((c.tc : Thread Cert.SsdGradIdeal.nD Cert.SsdGradIdeal.τ).loc Cert.SsdGradIdeal.main_arg0)
          ∧ r.2.mem ((c.tc : Thread Cert.SsdGradIdeal.nD Cert.SsdGradIdeal.τ).loc Cert.SsdGradIdeal.main_arg1) = m ((c.tc : Thread Cert.SsdGradIdeal.nD Cert.SsdGradIdeal.τ).loc Cert.SsdGradIdeal.main_arg1)
          ∧ r.2.mem ((c.tc : Thread Cert.SsdGradIdeal.nD Cert.SsdGradIdeal.τ).loc Cert.SsdGradIdeal.main_arg2) = m ((c.tc : Thread Cert.SsdGradIdeal.nD Cert.SsdGradIdeal.τ).loc Cert.SsdGradIdeal.main_arg2)
          ∧ r.2.mem ((c.tc : Thread Cert.SsdGradIdeal.nD Cert.SsdGradIdeal.τ).loc Cert.SsdGradIdeal.main_arg3) = m ((c.tc : Thread Cert.SsdGradIdeal.nD Cert.SsdGradIdeal.τ).loc Cert.SsdGradIdeal.main_arg3)
          ∧ r.2.mem ((c.tc : Thread Cert.SsdGradIdeal.nD Cert.SsdGradIdeal.τ).loc Cert.SsdGradIdeal.main_arg4) = m ((c.tc : Thread Cert.SsdGradIdeal.nD Cert.SsdGradIdeal.τ).loc Cert.SsdGradIdeal.main_arg4)
          ∧ r.2.mem ((c.tc : Thread Cert.SsdGradIdeal.nD Cert.SsdGradIdeal.τ).loc Cert.SsdGradIdeal.main_arg5) = m ((c.tc : Thread Cert.SsdGradIdeal.nD Cert.SsdGradIdeal.τ).loc Cert.SsdGradIdeal.main_arg5)
          ∧ r.2.mem ((c.tc : Thread Cert.SsdGradIdeal.nD Cert.SsdGradIdeal.τ).loc Cert.SsdGradIdeal.main_arg6) = m ((c.tc : Thread Cert.SsdGradIdeal.nD Cert.SsdGradIdeal.τ).loc Cert.SsdGradIdeal.main_arg6)
          ∧ r.2.mem ((c.tc : Thread Cert.SsdGradIdeal.nD Cert.SsdGradIdeal.τ).loc Cert.SsdGradIdeal.main_arg7) = m ((c.tc : Thread Cert.SsdGradIdeal.nD Cert.SsdGradIdeal.τ).loc Cert.SsdGradIdeal.main_arg7)
          ∧ r.2.mem ((c.tc : Thread Cert.SsdGradIdeal.nD Cert.SsdGradIdeal.τ).loc Cert.SsdGradIdeal.main_arg8) = m ((c.tc : Thread Cert.SsdGradIdeal.nD Cert.SsdGradIdeal.τ).loc Cert.SsdGradIdeal.main_arg8)
          ∧ r.2.mem ((c.tc : Thread Cert.SsdGradIdeal.nD Cert.SsdGradIdeal.τ).loc Cert.SsdGradIdeal.main_arg9) = m ((c.tc : Thread Cert.SsdGradIdeal.nD Cert.SsdGradIdeal.τ).loc Cert.SsdGradIdeal.main_arg9))
      ∧ θ_run (Cert.SsdGradRefIdeal.defs (F := Ideal)) (onTc (τ := Cert.SsdGradRefIdeal.τ) (Cert.SsdGradRefIdeal.main (F := Ideal))) ⟨m', fun _ => 0, g'⟩ (fun r => ∀ c : Dev Cert.SsdGradRefIdeal.nD,
          r.2.mem ((c.tc : Thread Cert.SsdGradRefIdeal.nD Cert.SsdGradRefIdeal.τ).loc Cert.SsdGradRefIdeal.main_v75) = v0 c
          ∧ r.2.mem ((c.tc : Thread Cert.SsdGradRefIdeal.nD Cert.SsdGradRefIdeal.τ).loc Cert.SsdGradRefIdeal.main_v76) = v1 c
          ∧ r.2.mem ((c.tc : Thread Cert.SsdGradRefIdeal.nD Cert.SsdGradRefIdeal.τ).loc Cert.SsdGradRefIdeal.main_v78) = v2 c
          ∧ r.2.mem ((c.tc : Thread Cert.SsdGradRefIdeal.nD Cert.SsdGradRefIdeal.τ).loc Cert.SsdGradRefIdeal.main_arg0) = m' ((c.tc : Thread Cert.SsdGradRefIdeal.nD Cert.SsdGradRefIdeal.τ).loc Cert.SsdGradRefIdeal.main_arg0)
          ∧ r.2.mem ((c.tc : Thread Cert.SsdGradRefIdeal.nD Cert.SsdGradRefIdeal.τ).loc Cert.SsdGradRefIdeal.main_arg1) = m' ((c.tc : Thread Cert.SsdGradRefIdeal.nD Cert.SsdGradRefIdeal.τ).loc Cert.SsdGradRefIdeal.main_arg1)
          ∧ r.2.mem ((c.tc : Thread Cert.SsdGradRefIdeal.nD Cert.SsdGradRefIdeal.τ).loc Cert.SsdGradRefIdeal.main_arg2) = m' ((c.tc : Thread Cert.SsdGradRefIdeal.nD Cert.SsdGradRefIdeal.τ).loc Cert.SsdGradRefIdeal.main_arg2)
          ∧ r.2.mem ((c.tc : Thread Cert.SsdGradRefIdeal.nD Cert.SsdGradRefIdeal.τ).loc Cert.SsdGradRefIdeal.main_arg3) = m' ((c.tc : Thread Cert.SsdGradRefIdeal.nD Cert.SsdGradRefIdeal.τ).loc Cert.SsdGradRefIdeal.main_arg3)
          ∧ r.2.mem ((c.tc : Thread Cert.SsdGradRefIdeal.nD Cert.SsdGradRefIdeal.τ).loc Cert.SsdGradRefIdeal.main_arg4) = m' ((c.tc : Thread Cert.SsdGradRefIdeal.nD Cert.SsdGradRefIdeal.τ).loc Cert.SsdGradRefIdeal.main_arg4)
          ∧ r.2.mem ((c.tc : Thread Cert.SsdGradRefIdeal.nD Cert.SsdGradRefIdeal.τ).loc Cert.SsdGradRefIdeal.main_arg5) = m' ((c.tc : Thread Cert.SsdGradRefIdeal.nD Cert.SsdGradRefIdeal.τ).loc Cert.SsdGradRefIdeal.main_arg5)
          ∧ r.2.mem ((c.tc : Thread Cert.SsdGradRefIdeal.nD Cert.SsdGradRefIdeal.τ).loc Cert.SsdGradRefIdeal.main_arg6) = m' ((c.tc : Thread Cert.SsdGradRefIdeal.nD Cert.SsdGradRefIdeal.τ).loc Cert.SsdGradRefIdeal.main_arg6)
          ∧ r.2.mem ((c.tc : Thread Cert.SsdGradRefIdeal.nD Cert.SsdGradRefIdeal.τ).loc Cert.SsdGradRefIdeal.main_arg7) = m' ((c.tc : Thread Cert.SsdGradRefIdeal.nD Cert.SsdGradRefIdeal.τ).loc Cert.SsdGradRefIdeal.main_arg7)
          ∧ r.2.mem ((c.tc : Thread Cert.SsdGradRefIdeal.nD Cert.SsdGradRefIdeal.τ).loc Cert.SsdGradRefIdeal.main_arg8) = m' ((c.tc : Thread Cert.SsdGradRefIdeal.nD Cert.SsdGradRefIdeal.τ).loc Cert.SsdGradRefIdeal.main_arg8)
          ∧ r.2.mem ((c.tc : Thread Cert.SsdGradRefIdeal.nD Cert.SsdGradRefIdeal.τ).loc Cert.SsdGradRefIdeal.main_arg9) = m' ((c.tc : Thread Cert.SsdGradRefIdeal.nD Cert.SsdGradRefIdeal.τ).loc Cert.SsdGradRefIdeal.main_arg9))

def preserves_InProjGrad_InProjGradIdeal : Prop :=
  True

def algebraic_InProjGradIdeal_InProjGradRefIdeal [hInProjGradIdeal : Cert.InProjGradIdeal.Facts] [hInProjGradRefIdeal : Cert.InProjGradRefIdeal.Facts] : Prop :=
  ∀ (m : (ℓ : Loc Cert.InProjGradIdeal.nD Cert.InProjGradIdeal.τ Cert.InProjGradIdeal.sig) → Buf (Elt Ideal) ℓ) (g : Dev Cert.InProjGradIdeal.nD → PrngReg)
    (m' : (ℓ : Loc Cert.InProjGradRefIdeal.nD Cert.InProjGradRefIdeal.τ Cert.InProjGradRefIdeal.sig) → Buf (Elt Ideal) ℓ) (g' : Dev Cert.InProjGradRefIdeal.nD → PrngReg), Pre_InProjGradIdeal m →
    (∀ c : Dev Cert.InProjGradIdeal.nD,
      m' ((c.tc : Thread Cert.InProjGradRefIdeal.nD Cert.InProjGradRefIdeal.τ).loc Cert.InProjGradRefIdeal.main_arg0) = m ((c.tc : Thread Cert.InProjGradIdeal.nD Cert.InProjGradIdeal.τ).loc Cert.InProjGradIdeal.main_arg0)
      ∧ m' ((c.tc : Thread Cert.InProjGradRefIdeal.nD Cert.InProjGradRefIdeal.τ).loc Cert.InProjGradRefIdeal.main_arg1) = m ((c.tc : Thread Cert.InProjGradIdeal.nD Cert.InProjGradIdeal.τ).loc Cert.InProjGradIdeal.main_arg1)) →
    ∃ (v0 : (c : Dev Cert.InProjGradIdeal.nD) → Buf (Elt Ideal) ((c.tc : Thread Cert.InProjGradIdeal.nD Cert.InProjGradIdeal.τ).loc Cert.InProjGradIdeal.main_v0)),
      θ_run (Cert.InProjGradIdeal.defs (F := Ideal)) (onTc (τ := Cert.InProjGradIdeal.τ) (Cert.InProjGradIdeal.main (F := Ideal))) ⟨m, fun _ => 0, g⟩ (fun r => ∀ c : Dev Cert.InProjGradIdeal.nD,
          r.2.mem ((c.tc : Thread Cert.InProjGradIdeal.nD Cert.InProjGradIdeal.τ).loc Cert.InProjGradIdeal.main_v0) = v0 c
          ∧ r.2.mem ((c.tc : Thread Cert.InProjGradIdeal.nD Cert.InProjGradIdeal.τ).loc Cert.InProjGradIdeal.main_arg0) = m ((c.tc : Thread Cert.InProjGradIdeal.nD Cert.InProjGradIdeal.τ).loc Cert.InProjGradIdeal.main_arg0)
          ∧ r.2.mem ((c.tc : Thread Cert.InProjGradIdeal.nD Cert.InProjGradIdeal.τ).loc Cert.InProjGradIdeal.main_arg1) = m ((c.tc : Thread Cert.InProjGradIdeal.nD Cert.InProjGradIdeal.τ).loc Cert.InProjGradIdeal.main_arg1))
      ∧ θ_run (Cert.InProjGradRefIdeal.defs (F := Ideal)) (onTc (τ := Cert.InProjGradRefIdeal.τ) (Cert.InProjGradRefIdeal.main (F := Ideal))) ⟨m', fun _ => 0, g'⟩ (fun r => ∀ c : Dev Cert.InProjGradRefIdeal.nD,
          r.2.mem ((c.tc : Thread Cert.InProjGradRefIdeal.nD Cert.InProjGradRefIdeal.τ).loc Cert.InProjGradRefIdeal.main_v2) = v0 c
          ∧ r.2.mem ((c.tc : Thread Cert.InProjGradRefIdeal.nD Cert.InProjGradRefIdeal.τ).loc Cert.InProjGradRefIdeal.main_arg0) = m' ((c.tc : Thread Cert.InProjGradRefIdeal.nD Cert.InProjGradRefIdeal.τ).loc Cert.InProjGradRefIdeal.main_arg0)
          ∧ r.2.mem ((c.tc : Thread Cert.InProjGradRefIdeal.nD Cert.InProjGradRefIdeal.τ).loc Cert.InProjGradRefIdeal.main_arg1) = m' ((c.tc : Thread Cert.InProjGradRefIdeal.nD Cert.InProjGradRefIdeal.τ).loc Cert.InProjGradRefIdeal.main_arg1))

def preserves_InProjDw_InProjDwIdeal : Prop :=
  True

def algebraic_InProjDwIdeal_InProjDwRefIdeal [hInProjDwIdeal : Cert.InProjDwIdeal.Facts] [hInProjDwRefIdeal : Cert.InProjDwRefIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg)
    (m' : (ℓ : Loc Cert.InProjDwRefIdeal.nD Cert.InProjDwRefIdeal.τ Cert.InProjDwRefIdeal.sig) → Buf (Elt Ideal) ℓ) (g' : Dev Cert.InProjDwRefIdeal.nD → PrngReg), Pre_InProjDwIdeal m →
    (∀ c : Dev Cert.InProjDwIdeal.nD,
      m' ((c.tc : Thread Cert.InProjDwRefIdeal.nD Cert.InProjDwRefIdeal.τ).loc Cert.InProjDwRefIdeal.main_arg0) = m ((c.tc : Thread Cert.InProjDwIdeal.nD Cert.InProjDwIdeal.τ).loc Cert.InProjDwIdeal.main_arg0)
      ∧ m' ((c.tc : Thread Cert.InProjDwRefIdeal.nD Cert.InProjDwRefIdeal.τ).loc Cert.InProjDwRefIdeal.main_arg1) = m ((c.tc : Thread Cert.InProjDwIdeal.nD Cert.InProjDwIdeal.τ).loc Cert.InProjDwIdeal.main_arg1)) →
    ∃ (v0 : (c : Dev Cert.InProjDwIdeal.nD) → Buf (Elt Ideal) ((c.tc : Thread Cert.InProjDwIdeal.nD Cert.InProjDwIdeal.τ).loc Cert.InProjDwIdeal.main_v0)),
      θ_run (Cert.InProjDwIdeal.defs (F := Ideal)) (onTc (τ := Cert.InProjDwIdeal.τ) (Cert.InProjDwIdeal.main (F := Ideal))) ⟨m, fun _ => 0, g⟩ (fun r => ∀ c : Dev Cert.InProjDwIdeal.nD,
          r.2.mem ((c.tc : Thread Cert.InProjDwIdeal.nD Cert.InProjDwIdeal.τ).loc Cert.InProjDwIdeal.main_v0) = v0 c
          ∧ r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
          ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1))
      ∧ θ_run (Cert.InProjDwRefIdeal.defs (F := Ideal)) (onTc (τ := Cert.InProjDwRefIdeal.τ) (Cert.InProjDwRefIdeal.main (F := Ideal))) ⟨m', fun _ => 0, g'⟩ (fun r => ∀ c : Dev Cert.InProjDwRefIdeal.nD,
          r.2.mem ((c.tc : Thread Cert.InProjDwRefIdeal.nD Cert.InProjDwRefIdeal.τ).loc Cert.InProjDwRefIdeal.main_v4) = v0 c
          ∧ r.2.mem ((c.tc : Thread Cert.InProjDwRefIdeal.nD Cert.InProjDwRefIdeal.τ).loc Cert.InProjDwRefIdeal.main_arg0) = m' ((c.tc : Thread Cert.InProjDwRefIdeal.nD Cert.InProjDwRefIdeal.τ).loc Cert.InProjDwRefIdeal.main_arg0)
          ∧ r.2.mem ((c.tc : Thread Cert.InProjDwRefIdeal.nD Cert.InProjDwRefIdeal.τ).loc Cert.InProjDwRefIdeal.main_arg1) = m' ((c.tc : Thread Cert.InProjDwRefIdeal.nD Cert.InProjDwRefIdeal.τ).loc Cert.InProjDwRefIdeal.main_arg1))

def preserves_FfnInGrad_FfnInGradIdeal : Prop :=
  True

def algebraic_FfnInGradIdeal_FfnInGradRefIdeal [hFfnInGradIdeal : Cert.FfnInGradIdeal.Facts] [hFfnInGradRefIdeal : Cert.FfnInGradRefIdeal.Facts] : Prop :=
  ∀ (m : (ℓ : Loc Cert.FfnInGradIdeal.nD Cert.FfnInGradIdeal.τ Cert.FfnInGradIdeal.sig) → Buf (Elt Ideal) ℓ) (g : Dev Cert.FfnInGradIdeal.nD → PrngReg)
    (m' : (ℓ : Loc Cert.FfnInGradRefIdeal.nD Cert.FfnInGradRefIdeal.τ Cert.FfnInGradRefIdeal.sig) → Buf (Elt Ideal) ℓ) (g' : Dev Cert.FfnInGradRefIdeal.nD → PrngReg), Pre_FfnInGradIdeal m →
    (∀ c : Dev Cert.FfnInGradIdeal.nD,
      m' ((c.tc : Thread Cert.FfnInGradRefIdeal.nD Cert.FfnInGradRefIdeal.τ).loc Cert.FfnInGradRefIdeal.main_arg0) = m ((c.tc : Thread Cert.FfnInGradIdeal.nD Cert.FfnInGradIdeal.τ).loc Cert.FfnInGradIdeal.main_arg0)
      ∧ m' ((c.tc : Thread Cert.FfnInGradRefIdeal.nD Cert.FfnInGradRefIdeal.τ).loc Cert.FfnInGradRefIdeal.main_arg1) = m ((c.tc : Thread Cert.FfnInGradIdeal.nD Cert.FfnInGradIdeal.τ).loc Cert.FfnInGradIdeal.main_arg1)
      ∧ m' ((c.tc : Thread Cert.FfnInGradRefIdeal.nD Cert.FfnInGradRefIdeal.τ).loc Cert.FfnInGradRefIdeal.main_arg2) = m ((c.tc : Thread Cert.FfnInGradIdeal.nD Cert.FfnInGradIdeal.τ).loc Cert.FfnInGradIdeal.main_arg2)) →
    ∃ (v0 : (c : Dev Cert.FfnInGradIdeal.nD) → Buf (Elt Ideal) ((c.tc : Thread Cert.FfnInGradIdeal.nD Cert.FfnInGradIdeal.τ).loc Cert.FfnInGradIdeal.main_v0)),
      θ_run (Cert.FfnInGradIdeal.defs (F := Ideal)) (onTc (τ := Cert.FfnInGradIdeal.τ) (Cert.FfnInGradIdeal.main (F := Ideal))) ⟨m, fun _ => 0, g⟩ (fun r => ∀ c : Dev Cert.FfnInGradIdeal.nD,
          r.2.mem ((c.tc : Thread Cert.FfnInGradIdeal.nD Cert.FfnInGradIdeal.τ).loc Cert.FfnInGradIdeal.main_v0) = v0 c
          ∧ r.2.mem ((c.tc : Thread Cert.FfnInGradIdeal.nD Cert.FfnInGradIdeal.τ).loc Cert.FfnInGradIdeal.main_arg0) = m ((c.tc : Thread Cert.FfnInGradIdeal.nD Cert.FfnInGradIdeal.τ).loc Cert.FfnInGradIdeal.main_arg0)
          ∧ r.2.mem ((c.tc : Thread Cert.FfnInGradIdeal.nD Cert.FfnInGradIdeal.τ).loc Cert.FfnInGradIdeal.main_arg1) = m ((c.tc : Thread Cert.FfnInGradIdeal.nD Cert.FfnInGradIdeal.τ).loc Cert.FfnInGradIdeal.main_arg1)
          ∧ r.2.mem ((c.tc : Thread Cert.FfnInGradIdeal.nD Cert.FfnInGradIdeal.τ).loc Cert.FfnInGradIdeal.main_arg2) = m ((c.tc : Thread Cert.FfnInGradIdeal.nD Cert.FfnInGradIdeal.τ).loc Cert.FfnInGradIdeal.main_arg2))
      ∧ θ_run (Cert.FfnInGradRefIdeal.defs (F := Ideal)) (onTc (τ := Cert.FfnInGradRefIdeal.τ) (Cert.FfnInGradRefIdeal.main (F := Ideal))) ⟨m', fun _ => 0, g'⟩ (fun r => ∀ c : Dev Cert.FfnInGradRefIdeal.nD,
          r.2.mem ((c.tc : Thread Cert.FfnInGradRefIdeal.nD Cert.FfnInGradRefIdeal.τ).loc Cert.FfnInGradRefIdeal.main_v4) = v0 c
          ∧ r.2.mem ((c.tc : Thread Cert.FfnInGradRefIdeal.nD Cert.FfnInGradRefIdeal.τ).loc Cert.FfnInGradRefIdeal.main_arg0) = m' ((c.tc : Thread Cert.FfnInGradRefIdeal.nD Cert.FfnInGradRefIdeal.τ).loc Cert.FfnInGradRefIdeal.main_arg0)
          ∧ r.2.mem ((c.tc : Thread Cert.FfnInGradRefIdeal.nD Cert.FfnInGradRefIdeal.τ).loc Cert.FfnInGradRefIdeal.main_arg1) = m' ((c.tc : Thread Cert.FfnInGradRefIdeal.nD Cert.FfnInGradRefIdeal.τ).loc Cert.FfnInGradRefIdeal.main_arg1)
          ∧ r.2.mem ((c.tc : Thread Cert.FfnInGradRefIdeal.nD Cert.FfnInGradRefIdeal.τ).loc Cert.FfnInGradRefIdeal.main_arg2) = m' ((c.tc : Thread Cert.FfnInGradRefIdeal.nD Cert.FfnInGradRefIdeal.τ).loc Cert.FfnInGradRefIdeal.main_arg2))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)) →
    ∃ (v0 : (c : Dev Cert.FfnInDwIdeal.nD) → Buf (Elt Ideal) ((c.tc : Thread Cert.FfnInDwIdeal.nD Cert.FfnInDwIdeal.τ).loc Cert.FfnInDwIdeal.main_v0)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v0) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v4) = v0 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1))

def preserves_FfnDownDw_FfnDownDwIdeal : Prop :=
  True

def algebraic_FfnDownDwIdeal_FfnDownDwRefIdeal [hFfnDownDwIdeal : Cert.FfnDownDwIdeal.Facts] [hFfnDownDwRefIdeal : Cert.FfnDownDwRefIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg)
    (m' : (ℓ : Loc Cert.FfnDownDwRefIdeal.nD Cert.FfnDownDwRefIdeal.τ Cert.FfnDownDwRefIdeal.sig) → Buf (Elt Ideal) ℓ) (g' : Dev Cert.FfnDownDwRefIdeal.nD → PrngReg), Pre_FfnDownDwIdeal m →
    (∀ c : Dev Cert.FfnDownDwIdeal.nD,
      m' ((c.tc : Thread Cert.FfnDownDwRefIdeal.nD Cert.FfnDownDwRefIdeal.τ).loc Cert.FfnDownDwRefIdeal.main_arg0) = m ((c.tc : Thread Cert.FfnDownDwIdeal.nD Cert.FfnDownDwIdeal.τ).loc Cert.FfnDownDwIdeal.main_arg0)
      ∧ m' ((c.tc : Thread Cert.FfnDownDwRefIdeal.nD Cert.FfnDownDwRefIdeal.τ).loc Cert.FfnDownDwRefIdeal.main_arg1) = m ((c.tc : Thread Cert.FfnDownDwIdeal.nD Cert.FfnDownDwIdeal.τ).loc Cert.FfnDownDwIdeal.main_arg1)) →
    ∃ (v0 : (c : Dev Cert.FfnDownDwIdeal.nD) → Buf (Elt Ideal) ((c.tc : Thread Cert.FfnDownDwIdeal.nD Cert.FfnDownDwIdeal.τ).loc Cert.FfnDownDwIdeal.main_v0)),
      θ_run (Cert.FfnDownDwIdeal.defs (F := Ideal)) (onTc (τ := Cert.FfnDownDwIdeal.τ) (Cert.FfnDownDwIdeal.main (F := Ideal))) ⟨m, fun _ => 0, g⟩ (fun r => ∀ c : Dev Cert.FfnDownDwIdeal.nD,
          r.2.mem ((c.tc : Thread Cert.FfnDownDwIdeal.nD Cert.FfnDownDwIdeal.τ).loc Cert.FfnDownDwIdeal.main_v0) = v0 c
          ∧ r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
          ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ θ_run (Cert.FfnDownDwRefIdeal.defs (F := Ideal)) (onTc (τ := Cert.FfnDownDwRefIdeal.τ) (Cert.FfnDownDwRefIdeal.main (F := Ideal))) ⟨m', fun _ => 0, g'⟩ (fun r => ∀ c : Dev Cert.FfnDownDwRefIdeal.nD,
          r.2.mem ((c.tc : Thread Cert.FfnDownDwRefIdeal.nD Cert.FfnDownDwRefIdeal.τ).loc Cert.FfnDownDwRefIdeal.main_v4) = v0 c
          ∧ r.2.mem ((c.tc : Thread Cert.FfnDownDwRefIdeal.nD Cert.FfnDownDwRefIdeal.τ).loc Cert.FfnDownDwRefIdeal.main_arg0) = m' ((c.tc : Thread Cert.FfnDownDwRefIdeal.nD Cert.FfnDownDwRefIdeal.τ).loc Cert.FfnDownDwRefIdeal.main_arg0)
          ∧ r.2.mem ((c.tc : Thread Cert.FfnDownDwRefIdeal.nD Cert.FfnDownDwRefIdeal.τ).loc Cert.FfnDownDwRefIdeal.main_arg1) = m' ((c.tc : Thread Cert.FfnDownDwRefIdeal.nD Cert.FfnDownDwRefIdeal.τ).loc Cert.FfnDownDwRefIdeal.main_arg1))

def preserves_SquareDw_SquareDwIdeal : Prop :=
  True

def algebraic_SquareDwIdeal_SquareDwRefIdeal [hSquareDwIdeal : Cert.SquareDwIdeal.Facts] [hSquareDwRefIdeal : Cert.SquareDwRefIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg)
    (m' : (ℓ : Loc Cert.SquareDwRefIdeal.nD Cert.SquareDwRefIdeal.τ Cert.SquareDwRefIdeal.sig) → Buf (Elt Ideal) ℓ) (g' : Dev Cert.SquareDwRefIdeal.nD → PrngReg), Pre_SquareDwIdeal m →
    (∀ c : Dev Cert.SquareDwIdeal.nD,
      m' ((c.tc : Thread Cert.SquareDwRefIdeal.nD Cert.SquareDwRefIdeal.τ).loc Cert.SquareDwRefIdeal.main_arg0) = m ((c.tc : Thread Cert.SquareDwIdeal.nD Cert.SquareDwIdeal.τ).loc Cert.SquareDwIdeal.main_arg0)
      ∧ m' ((c.tc : Thread Cert.SquareDwRefIdeal.nD Cert.SquareDwRefIdeal.τ).loc Cert.SquareDwRefIdeal.main_arg1) = m ((c.tc : Thread Cert.SquareDwIdeal.nD Cert.SquareDwIdeal.τ).loc Cert.SquareDwIdeal.main_arg1)) →
    ∃ (v0 : (c : Dev Cert.SquareDwIdeal.nD) → Buf (Elt Ideal) ((c.tc : Thread Cert.SquareDwIdeal.nD Cert.SquareDwIdeal.τ).loc Cert.SquareDwIdeal.main_v0)),
      θ_run (Cert.SquareDwIdeal.defs (F := Ideal)) (onTc (τ := Cert.SquareDwIdeal.τ) (Cert.SquareDwIdeal.main (F := Ideal))) ⟨m, fun _ => 0, g⟩ (fun r => ∀ c : Dev Cert.SquareDwIdeal.nD,
          r.2.mem ((c.tc : Thread Cert.SquareDwIdeal.nD Cert.SquareDwIdeal.τ).loc Cert.SquareDwIdeal.main_v0) = v0 c
          ∧ r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
          ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1))
      ∧ θ_run (Cert.SquareDwRefIdeal.defs (F := Ideal)) (onTc (τ := Cert.SquareDwRefIdeal.τ) (Cert.SquareDwRefIdeal.main (F := Ideal))) ⟨m', fun _ => 0, g'⟩ (fun r => ∀ c : Dev Cert.SquareDwRefIdeal.nD,
          r.2.mem ((c.tc : Thread Cert.SquareDwRefIdeal.nD Cert.SquareDwRefIdeal.τ).loc Cert.SquareDwRefIdeal.main_v4) = v0 c
          ∧ r.2.mem ((c.tc : Thread Cert.SquareDwRefIdeal.nD Cert.SquareDwRefIdeal.τ).loc Cert.SquareDwRefIdeal.main_arg0) = m' ((c.tc : Thread Cert.SquareDwRefIdeal.nD Cert.SquareDwRefIdeal.τ).loc Cert.SquareDwRefIdeal.main_arg0)
          ∧ r.2.mem ((c.tc : Thread Cert.SquareDwRefIdeal.nD Cert.SquareDwRefIdeal.τ).loc Cert.SquareDwRefIdeal.main_arg1) = m' ((c.tc : Thread Cert.SquareDwRefIdeal.nD Cert.SquareDwRefIdeal.τ).loc Cert.SquareDwRefIdeal.main_arg1))

def preserves_SquareGrad_SquareGradIdeal : Prop :=
  True

def algebraic_SquareGradIdeal_SquareGradRefIdeal [hSquareGradIdeal : Cert.SquareGradIdeal.Facts] [hSquareGradRefIdeal : Cert.SquareGradRefIdeal.Facts] : Prop :=
  ∀ (m : (ℓ : Loc Cert.SquareGradIdeal.nD Cert.SquareGradIdeal.τ Cert.SquareGradIdeal.sig) → Buf (Elt Ideal) ℓ) (g : Dev Cert.SquareGradIdeal.nD → PrngReg)
    (m' : (ℓ : Loc Cert.SquareGradRefIdeal.nD Cert.SquareGradRefIdeal.τ Cert.SquareGradRefIdeal.sig) → Buf (Elt Ideal) ℓ) (g' : Dev Cert.SquareGradRefIdeal.nD → PrngReg), Pre_SquareGradIdeal m →
    (∀ c : Dev Cert.SquareGradIdeal.nD,
      m' ((c.tc : Thread Cert.SquareGradRefIdeal.nD Cert.SquareGradRefIdeal.τ).loc Cert.SquareGradRefIdeal.main_arg0) = m ((c.tc : Thread Cert.SquareGradIdeal.nD Cert.SquareGradIdeal.τ).loc Cert.SquareGradIdeal.main_arg0)
      ∧ m' ((c.tc : Thread Cert.SquareGradRefIdeal.nD Cert.SquareGradRefIdeal.τ).loc Cert.SquareGradRefIdeal.main_arg1) = m ((c.tc : Thread Cert.SquareGradIdeal.nD Cert.SquareGradIdeal.τ).loc Cert.SquareGradIdeal.main_arg1)) →
    ∃ (v0 : (c : Dev Cert.SquareGradIdeal.nD) → Buf (Elt Ideal) ((c.tc : Thread Cert.SquareGradIdeal.nD Cert.SquareGradIdeal.τ).loc Cert.SquareGradIdeal.main_v0)),
      θ_run (Cert.SquareGradIdeal.defs (F := Ideal)) (onTc (τ := Cert.SquareGradIdeal.τ) (Cert.SquareGradIdeal.main (F := Ideal))) ⟨m, fun _ => 0, g⟩ (fun r => ∀ c : Dev Cert.SquareGradIdeal.nD,
          r.2.mem ((c.tc : Thread Cert.SquareGradIdeal.nD Cert.SquareGradIdeal.τ).loc Cert.SquareGradIdeal.main_v0) = v0 c
          ∧ r.2.mem ((c.tc : Thread Cert.SquareGradIdeal.nD Cert.SquareGradIdeal.τ).loc Cert.SquareGradIdeal.main_arg0) = m ((c.tc : Thread Cert.SquareGradIdeal.nD Cert.SquareGradIdeal.τ).loc Cert.SquareGradIdeal.main_arg0)
          ∧ r.2.mem ((c.tc : Thread Cert.SquareGradIdeal.nD Cert.SquareGradIdeal.τ).loc Cert.SquareGradIdeal.main_arg1) = m ((c.tc : Thread Cert.SquareGradIdeal.nD Cert.SquareGradIdeal.τ).loc Cert.SquareGradIdeal.main_arg1))
      ∧ θ_run (Cert.SquareGradRefIdeal.defs (F := Ideal)) (onTc (τ := Cert.SquareGradRefIdeal.τ) (Cert.SquareGradRefIdeal.main (F := Ideal))) ⟨m', fun _ => 0, g'⟩ (fun r => ∀ c : Dev Cert.SquareGradRefIdeal.nD,
          r.2.mem ((c.tc : Thread Cert.SquareGradRefIdeal.nD Cert.SquareGradRefIdeal.τ).loc Cert.SquareGradRefIdeal.main_v2) = v0 c
          ∧ r.2.mem ((c.tc : Thread Cert.SquareGradRefIdeal.nD Cert.SquareGradRefIdeal.τ).loc Cert.SquareGradRefIdeal.main_arg0) = m' ((c.tc : Thread Cert.SquareGradRefIdeal.nD Cert.SquareGradRefIdeal.τ).loc Cert.SquareGradRefIdeal.main_arg0)
          ∧ r.2.mem ((c.tc : Thread Cert.SquareGradRefIdeal.nD Cert.SquareGradRefIdeal.τ).loc Cert.SquareGradRefIdeal.main_arg1) = m' ((c.tc : Thread Cert.SquareGradRefIdeal.nD Cert.SquareGradRefIdeal.τ).loc Cert.SquareGradRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_ProjSsm_ProjSsmIdeal : Prop :=
  True

def algebraic_ProjSsmIdeal_ProjSsmRefIdeal [hProjSsmIdeal : Cert.ProjSsmIdeal.Facts] [hProjSsmRefIdeal : Cert.ProjSsmRefIdeal.Facts] : Prop :=
  ∀ (m : (ℓ : Loc Cert.ProjSsmIdeal.nD Cert.ProjSsmIdeal.τ Cert.ProjSsmIdeal.sig) → Buf (Elt Ideal) ℓ) (g : Dev Cert.ProjSsmIdeal.nD → PrngReg)
    (m' : (ℓ : Loc Cert.ProjSsmRefIdeal.nD Cert.ProjSsmRefIdeal.τ Cert.ProjSsmRefIdeal.sig) → Buf (Elt Ideal) ℓ) (g' : Dev Cert.ProjSsmRefIdeal.nD → PrngReg), Pre_ProjSsmIdeal m →
    (∀ c : Dev Cert.ProjSsmIdeal.nD,
      m' ((c.tc : Thread Cert.ProjSsmRefIdeal.nD Cert.ProjSsmRefIdeal.τ).loc Cert.ProjSsmRefIdeal.main_arg0) = m ((c.tc : Thread Cert.ProjSsmIdeal.nD Cert.ProjSsmIdeal.τ).loc Cert.ProjSsmIdeal.main_arg0)
      ∧ m' ((c.tc : Thread Cert.ProjSsmRefIdeal.nD Cert.ProjSsmRefIdeal.τ).loc Cert.ProjSsmRefIdeal.main_arg1) = m ((c.tc : Thread Cert.ProjSsmIdeal.nD Cert.ProjSsmIdeal.τ).loc Cert.ProjSsmIdeal.main_arg1)) →
    ∃ (v0 : (c : Dev Cert.ProjSsmIdeal.nD) → Buf (Elt Ideal) ((c.tc : Thread Cert.ProjSsmIdeal.nD Cert.ProjSsmIdeal.τ).loc Cert.ProjSsmIdeal.main_v0)),
      θ_run (Cert.ProjSsmIdeal.defs (F := Ideal)) (onTc (τ := Cert.ProjSsmIdeal.τ) (Cert.ProjSsmIdeal.main (F := Ideal))) ⟨m, fun _ => 0, g⟩ (fun r => ∀ c : Dev Cert.ProjSsmIdeal.nD,
          r.2.mem ((c.tc : Thread Cert.ProjSsmIdeal.nD Cert.ProjSsmIdeal.τ).loc Cert.ProjSsmIdeal.main_v0) = v0 c
          ∧ r.2.mem ((c.tc : Thread Cert.ProjSsmIdeal.nD Cert.ProjSsmIdeal.τ).loc Cert.ProjSsmIdeal.main_arg0) = m ((c.tc : Thread Cert.ProjSsmIdeal.nD Cert.ProjSsmIdeal.τ).loc Cert.ProjSsmIdeal.main_arg0)
          ∧ r.2.mem ((c.tc : Thread Cert.ProjSsmIdeal.nD Cert.ProjSsmIdeal.τ).loc Cert.ProjSsmIdeal.main_arg1) = m ((c.tc : Thread Cert.ProjSsmIdeal.nD Cert.ProjSsmIdeal.τ).loc Cert.ProjSsmIdeal.main_arg1))
      ∧ θ_run (Cert.ProjSsmRefIdeal.defs (F := Ideal)) (onTc (τ := Cert.ProjSsmRefIdeal.τ) (Cert.ProjSsmRefIdeal.main (F := Ideal))) ⟨m', fun _ => 0, g'⟩ (fun r => ∀ c : Dev Cert.ProjSsmRefIdeal.nD,
          r.2.mem ((c.tc : Thread Cert.ProjSsmRefIdeal.nD Cert.ProjSsmRefIdeal.τ).loc Cert.ProjSsmRefIdeal.main_v3) = v0 c
          ∧ r.2.mem ((c.tc : Thread Cert.ProjSsmRefIdeal.nD Cert.ProjSsmRefIdeal.τ).loc Cert.ProjSsmRefIdeal.main_arg0) = m' ((c.tc : Thread Cert.ProjSsmRefIdeal.nD Cert.ProjSsmRefIdeal.τ).loc Cert.ProjSsmRefIdeal.main_arg0)
          ∧ r.2.mem ((c.tc : Thread Cert.ProjSsmRefIdeal.nD Cert.ProjSsmRefIdeal.τ).loc Cert.ProjSsmRefIdeal.main_arg1) = m' ((c.tc : Thread Cert.ProjSsmRefIdeal.nD Cert.ProjSsmRefIdeal.τ).loc Cert.ProjSsmRefIdeal.main_arg1))

def preserves_ProjMerge_ProjMergeIdeal : Prop :=
  True

def algebraic_ProjMergeIdeal_ProjMergeRefIdeal [hProjMergeIdeal : Cert.ProjMergeIdeal.Facts] [hProjMergeRefIdeal : Cert.ProjMergeRefIdeal.Facts] : Prop :=
  ∀ (m : (ℓ : Loc Cert.ProjMergeIdeal.nD Cert.ProjMergeIdeal.τ Cert.ProjMergeIdeal.sig) → Buf (Elt Ideal) ℓ) (g : Dev Cert.ProjMergeIdeal.nD → PrngReg)
    (m' : (ℓ : Loc Cert.ProjMergeRefIdeal.nD Cert.ProjMergeRefIdeal.τ Cert.ProjMergeRefIdeal.sig) → Buf (Elt Ideal) ℓ) (g' : Dev Cert.ProjMergeRefIdeal.nD → PrngReg), Pre_ProjMergeIdeal m →
    (∀ c : Dev Cert.ProjMergeIdeal.nD,
      m' ((c.tc : Thread Cert.ProjMergeRefIdeal.nD Cert.ProjMergeRefIdeal.τ).loc Cert.ProjMergeRefIdeal.main_arg0) = m ((c.tc : Thread Cert.ProjMergeIdeal.nD Cert.ProjMergeIdeal.τ).loc Cert.ProjMergeIdeal.main_arg0)
      ∧ m' ((c.tc : Thread Cert.ProjMergeRefIdeal.nD Cert.ProjMergeRefIdeal.τ).loc Cert.ProjMergeRefIdeal.main_arg1) = m ((c.tc : Thread Cert.ProjMergeIdeal.nD Cert.ProjMergeIdeal.τ).loc Cert.ProjMergeIdeal.main_arg1)
      ∧ m' ((c.tc : Thread Cert.ProjMergeRefIdeal.nD Cert.ProjMergeRefIdeal.τ).loc Cert.ProjMergeRefIdeal.main_arg2) = m ((c.tc : Thread Cert.ProjMergeIdeal.nD Cert.ProjMergeIdeal.τ).loc Cert.ProjMergeIdeal.main_arg2)
      ∧ m' ((c.tc : Thread Cert.ProjMergeRefIdeal.nD Cert.ProjMergeRefIdeal.τ).loc Cert.ProjMergeRefIdeal.main_arg3) = m ((c.tc : Thread Cert.ProjMergeIdeal.nD Cert.ProjMergeIdeal.τ).loc Cert.ProjMergeIdeal.main_arg3)) →
    ∃ (v0 : (c : Dev Cert.ProjMergeIdeal.nD) → Buf (Elt Ideal) ((c.tc : Thread Cert.ProjMergeIdeal.nD Cert.ProjMergeIdeal.τ).loc Cert.ProjMergeIdeal.main_v0_0)) (v1 : (c : Dev Cert.ProjMergeIdeal.nD) → Buf (Elt Ideal) ((c.tc : Thread Cert.ProjMergeIdeal.nD Cert.ProjMergeIdeal.τ).loc Cert.ProjMergeIdeal.main_v0_1)),
      θ_run (Cert.ProjMergeIdeal.defs (F := Ideal)) (onTc (τ := Cert.ProjMergeIdeal.τ) (Cert.ProjMergeIdeal.main (F := Ideal))) ⟨m, fun _ => 0, g⟩ (fun r => ∀ c : Dev Cert.ProjMergeIdeal.nD,
          r.2.mem ((c.tc : Thread Cert.ProjMergeIdeal.nD Cert.ProjMergeIdeal.τ).loc Cert.ProjMergeIdeal.main_v0_0) = v0 c
          ∧ r.2.mem ((c.tc : Thread Cert.ProjMergeIdeal.nD Cert.ProjMergeIdeal.τ).loc Cert.ProjMergeIdeal.main_v0_1) = v1 c
          ∧ r.2.mem ((c.tc : Thread Cert.ProjMergeIdeal.nD Cert.ProjMergeIdeal.τ).loc Cert.ProjMergeIdeal.main_arg0) = m ((c.tc : Thread Cert.ProjMergeIdeal.nD Cert.ProjMergeIdeal.τ).loc Cert.ProjMergeIdeal.main_arg0)
          ∧ r.2.mem ((c.tc : Thread Cert.ProjMergeIdeal.nD Cert.ProjMergeIdeal.τ).loc Cert.ProjMergeIdeal.main_arg1) = m ((c.tc : Thread Cert.ProjMergeIdeal.nD Cert.ProjMergeIdeal.τ).loc Cert.ProjMergeIdeal.main_arg1)
          ∧ r.2.mem ((c.tc : Thread Cert.ProjMergeIdeal.nD Cert.ProjMergeIdeal.τ).loc Cert.ProjMergeIdeal.main_arg2) = m ((c.tc : Thread Cert.ProjMergeIdeal.nD Cert.ProjMergeIdeal.τ).loc Cert.ProjMergeIdeal.main_arg2)
          ∧ r.2.mem ((c.tc : Thread Cert.ProjMergeIdeal.nD Cert.ProjMergeIdeal.τ).loc Cert.ProjMergeIdeal.main_arg3) = m ((c.tc : Thread Cert.ProjMergeIdeal.nD Cert.ProjMergeIdeal.τ).loc Cert.ProjMergeIdeal.main_arg3))
      ∧ θ_run (Cert.ProjMergeRefIdeal.defs (F := Ideal)) (onTc (τ := Cert.ProjMergeRefIdeal.τ) (Cert.ProjMergeRefIdeal.main (F := Ideal))) ⟨m', fun _ => 0, g'⟩ (fun r => ∀ c : Dev Cert.ProjMergeRefIdeal.nD,
          r.2.mem ((c.tc : Thread Cert.ProjMergeRefIdeal.nD Cert.ProjMergeRefIdeal.τ).loc Cert.ProjMergeRefIdeal.main_v21) = v0 c
          ∧ r.2.mem ((c.tc : Thread Cert.ProjMergeRefIdeal.nD Cert.ProjMergeRefIdeal.τ).loc Cert.ProjMergeRefIdeal.main_v22) = v1 c
          ∧ r.2.mem ((c.tc : Thread Cert.ProjMergeRefIdeal.nD Cert.ProjMergeRefIdeal.τ).loc Cert.ProjMergeRefIdeal.main_arg0) = m' ((c.tc : Thread Cert.ProjMergeRefIdeal.nD Cert.ProjMergeRefIdeal.τ).loc Cert.ProjMergeRefIdeal.main_arg0)
          ∧ r.2.mem ((c.tc : Thread Cert.ProjMergeRefIdeal.nD Cert.ProjMergeRefIdeal.τ).loc Cert.ProjMergeRefIdeal.main_arg1) = m' ((c.tc : Thread Cert.ProjMergeRefIdeal.nD Cert.ProjMergeRefIdeal.τ).loc Cert.ProjMergeRefIdeal.main_arg1)
          ∧ r.2.mem ((c.tc : Thread Cert.ProjMergeRefIdeal.nD Cert.ProjMergeRefIdeal.τ).loc Cert.ProjMergeRefIdeal.main_arg2) = m' ((c.tc : Thread Cert.ProjMergeRefIdeal.nD Cert.ProjMergeRefIdeal.τ).loc Cert.ProjMergeRefIdeal.main_arg2)
          ∧ r.2.mem ((c.tc : Thread Cert.ProjMergeRefIdeal.nD Cert.ProjMergeRefIdeal.τ).loc Cert.ProjMergeRefIdeal.main_arg3) = m' ((c.tc : Thread Cert.ProjMergeRefIdeal.nD Cert.ProjMergeRefIdeal.τ).loc Cert.ProjMergeRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0_0)) (v1 : (c : Dev Cert.FfnInIdeal.nD) → Buf (Elt Ideal) ((c.tc : Thread Cert.FfnInIdeal.nD Cert.FfnInIdeal.τ).loc Cert.FfnInIdeal.main_v0_1)) (v2 : (c : Dev Cert.FfnInIdeal.nD) → Buf (Elt Ideal) ((c.tc : Thread Cert.FfnInIdeal.nD Cert.FfnInIdeal.τ).loc Cert.FfnInIdeal.main_v0_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0_0) = v0 c
          ∧ r.2.mem ((c.tc : Thread Cert.FfnInIdeal.nD Cert.FfnInIdeal.τ).loc Cert.FfnInIdeal.main_v0_1) = v1 c
          ∧ r.2.mem ((c.tc : Thread Cert.FfnInIdeal.nD Cert.FfnInIdeal.τ).loc Cert.FfnInIdeal.main_v0_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v5) = v0 c
          ∧ r.2.mem ((c.tc : Thread Cert.FfnInRefIdeal.nD Cert.FfnInRefIdeal.τ).loc Cert.FfnInRefIdeal.main_v6) = v1 c
          ∧ r.2.mem ((c.tc : Thread Cert.FfnInRefIdeal.nD Cert.FfnInRefIdeal.τ).loc Cert.FfnInRefIdeal.main_v15) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v13) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_LossHead_LossHeadIdeal : Prop :=
  True

def algebraic_LossHeadIdeal_LossHeadRefIdeal_pre_loss_finite [hLossHeadIdeal : Cert.LossHeadIdeal.Facts] [hLossHeadRefIdeal : Cert.LossHeadRefIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_loss_finite m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)) (v3 : (c : Dev Cert.LossHeadIdeal.nD) → Buf (Elt Ideal) ((c.tc : Thread Cert.LossHeadIdeal.nD Cert.LossHeadIdeal.τ).loc Cert.LossHeadIdeal.main_v1_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_v1_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v50) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_v53) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_SumConvSsm_SumConvSsmIdeal : Prop :=
  True

def algebraic_SumConvSsmIdeal_SumConvSsmRefIdeal [hSumConvSsmIdeal : Cert.SumConvSsmIdeal.Facts] [hSumConvSsmRefIdeal : Cert.SumConvSsmRefIdeal.Facts] : Prop :=
  ∀ (m : (ℓ : Loc Cert.SumConvSsmIdeal.nD Cert.SumConvSsmIdeal.τ Cert.SumConvSsmIdeal.sig) → Buf (Elt Ideal) ℓ) (g : Dev Cert.SumConvSsmIdeal.nD → PrngReg)
    (m' : (ℓ : Loc Cert.SumConvSsmRefIdeal.nD Cert.SumConvSsmRefIdeal.τ Cert.SumConvSsmRefIdeal.sig) → Buf (Elt Ideal) ℓ) (g' : Dev Cert.SumConvSsmRefIdeal.nD → PrngReg), Pre_SumConvSsmIdeal m →
    (∀ c : Dev Cert.SumConvSsmIdeal.nD,
      m' ((c.tc : Thread Cert.SumConvSsmRefIdeal.nD Cert.SumConvSsmRefIdeal.τ).loc Cert.SumConvSsmRefIdeal.main_arg0) = m ((c.tc : Thread Cert.SumConvSsmIdeal.nD Cert.SumConvSsmIdeal.τ).loc Cert.SumConvSsmIdeal.main_arg0)
      ∧ m' ((c.tc : Thread Cert.SumConvSsmRefIdeal.nD Cert.SumConvSsmRefIdeal.τ).loc Cert.SumConvSsmRefIdeal.main_arg1) = m ((c.tc : Thread Cert.SumConvSsmIdeal.nD Cert.SumConvSsmIdeal.τ).loc Cert.SumConvSsmIdeal.main_arg1)) →
    ∃ (v0 : (c : Dev Cert.SumConvSsmIdeal.nD) → Buf (Elt Ideal) ((c.tc : Thread Cert.SumConvSsmIdeal.nD Cert.SumConvSsmIdeal.τ).loc Cert.SumConvSsmIdeal.main_v0)),
      θ_run (Cert.SumConvSsmIdeal.defs (F := Ideal)) (onTc (τ := Cert.SumConvSsmIdeal.τ) (Cert.SumConvSsmIdeal.main (F := Ideal))) ⟨m, fun _ => 0, g⟩ (fun r => ∀ c : Dev Cert.SumConvSsmIdeal.nD,
          r.2.mem ((c.tc : Thread Cert.SumConvSsmIdeal.nD Cert.SumConvSsmIdeal.τ).loc Cert.SumConvSsmIdeal.main_v0) = v0 c
          ∧ r.2.mem ((c.tc : Thread Cert.SumConvSsmIdeal.nD Cert.SumConvSsmIdeal.τ).loc Cert.SumConvSsmIdeal.main_arg0) = m ((c.tc : Thread Cert.SumConvSsmIdeal.nD Cert.SumConvSsmIdeal.τ).loc Cert.SumConvSsmIdeal.main_arg0)
          ∧ r.2.mem ((c.tc : Thread Cert.SumConvSsmIdeal.nD Cert.SumConvSsmIdeal.τ).loc Cert.SumConvSsmIdeal.main_arg1) = m ((c.tc : Thread Cert.SumConvSsmIdeal.nD Cert.SumConvSsmIdeal.τ).loc Cert.SumConvSsmIdeal.main_arg1))
      ∧ θ_run (Cert.SumConvSsmRefIdeal.defs (F := Ideal)) (onTc (τ := Cert.SumConvSsmRefIdeal.τ) (Cert.SumConvSsmRefIdeal.main (F := Ideal))) ⟨m', fun _ => 0, g'⟩ (fun r => ∀ c : Dev Cert.SumConvSsmRefIdeal.nD,
          r.2.mem ((c.tc : Thread Cert.SumConvSsmRefIdeal.nD Cert.SumConvSsmRefIdeal.τ).loc Cert.SumConvSsmRefIdeal.main_v4) = v0 c
          ∧ r.2.mem ((c.tc : Thread Cert.SumConvSsmRefIdeal.nD Cert.SumConvSsmRefIdeal.τ).loc Cert.SumConvSsmRefIdeal.main_arg0) = m' ((c.tc : Thread Cert.SumConvSsmRefIdeal.nD Cert.SumConvSsmRefIdeal.τ).loc Cert.SumConvSsmRefIdeal.main_arg0)
          ∧ r.2.mem ((c.tc : Thread Cert.SumConvSsmRefIdeal.nD Cert.SumConvSsmRefIdeal.τ).loc Cert.SumConvSsmRefIdeal.main_arg1) = m' ((c.tc : Thread Cert.SumConvSsmRefIdeal.nD Cert.SumConvSsmRefIdeal.τ).loc Cert.SumConvSsmRefIdeal.main_arg1))

def preserves_SumConvGdn_SumConvGdnIdeal : Prop :=
  True

def algebraic_SumConvGdnIdeal_SumConvGdnRefIdeal [hSumConvGdnIdeal : Cert.SumConvGdnIdeal.Facts] [hSumConvGdnRefIdeal : Cert.SumConvGdnRefIdeal.Facts] : Prop :=
  ∀ (m : (ℓ : Loc Cert.SumConvGdnIdeal.nD Cert.SumConvGdnIdeal.τ Cert.SumConvGdnIdeal.sig) → Buf (Elt Ideal) ℓ) (g : Dev Cert.SumConvGdnIdeal.nD → PrngReg)
    (m' : (ℓ : Loc Cert.SumConvGdnRefIdeal.nD Cert.SumConvGdnRefIdeal.τ Cert.SumConvGdnRefIdeal.sig) → Buf (Elt Ideal) ℓ) (g' : Dev Cert.SumConvGdnRefIdeal.nD → PrngReg), Pre_SumConvGdnIdeal m →
    (∀ c : Dev Cert.SumConvGdnIdeal.nD,
      m' ((c.tc : Thread Cert.SumConvGdnRefIdeal.nD Cert.SumConvGdnRefIdeal.τ).loc Cert.SumConvGdnRefIdeal.main_arg0) = m ((c.tc : Thread Cert.SumConvGdnIdeal.nD Cert.SumConvGdnIdeal.τ).loc Cert.SumConvGdnIdeal.main_arg0)
      ∧ m' ((c.tc : Thread Cert.SumConvGdnRefIdeal.nD Cert.SumConvGdnRefIdeal.τ).loc Cert.SumConvGdnRefIdeal.main_arg1) = m ((c.tc : Thread Cert.SumConvGdnIdeal.nD Cert.SumConvGdnIdeal.τ).loc Cert.SumConvGdnIdeal.main_arg1)) →
    ∃ (v0 : (c : Dev Cert.SumConvGdnIdeal.nD) → Buf (Elt Ideal) ((c.tc : Thread Cert.SumConvGdnIdeal.nD Cert.SumConvGdnIdeal.τ).loc Cert.SumConvGdnIdeal.main_v0)),
      θ_run (Cert.SumConvGdnIdeal.defs (F := Ideal)) (onTc (τ := Cert.SumConvGdnIdeal.τ) (Cert.SumConvGdnIdeal.main (F := Ideal))) ⟨m, fun _ => 0, g⟩ (fun r => ∀ c : Dev Cert.SumConvGdnIdeal.nD,
          r.2.mem ((c.tc : Thread Cert.SumConvGdnIdeal.nD Cert.SumConvGdnIdeal.τ).loc Cert.SumConvGdnIdeal.main_v0) = v0 c
          ∧ r.2.mem ((c.tc : Thread Cert.SumConvGdnIdeal.nD Cert.SumConvGdnIdeal.τ).loc Cert.SumConvGdnIdeal.main_arg0) = m ((c.tc : Thread Cert.SumConvGdnIdeal.nD Cert.SumConvGdnIdeal.τ).loc Cert.SumConvGdnIdeal.main_arg0)
          ∧ r.2.mem ((c.tc : Thread Cert.SumConvGdnIdeal.nD Cert.SumConvGdnIdeal.τ).loc Cert.SumConvGdnIdeal.main_arg1) = m ((c.tc : Thread Cert.SumConvGdnIdeal.nD Cert.SumConvGdnIdeal.τ).loc Cert.SumConvGdnIdeal.main_arg1))
      ∧ θ_run (Cert.SumConvGdnRefIdeal.defs (F := Ideal)) (onTc (τ := Cert.SumConvGdnRefIdeal.τ) (Cert.SumConvGdnRefIdeal.main (F := Ideal))) ⟨m', fun _ => 0, g'⟩ (fun r => ∀ c : Dev Cert.SumConvGdnRefIdeal.nD,
          r.2.mem ((c.tc : Thread Cert.SumConvGdnRefIdeal.nD Cert.SumConvGdnRefIdeal.τ).loc Cert.SumConvGdnRefIdeal.main_v4) = v0 c
          ∧ r.2.mem ((c.tc : Thread Cert.SumConvGdnRefIdeal.nD Cert.SumConvGdnRefIdeal.τ).loc Cert.SumConvGdnRefIdeal.main_arg0) = m' ((c.tc : Thread Cert.SumConvGdnRefIdeal.nD Cert.SumConvGdnRefIdeal.τ).loc Cert.SumConvGdnRefIdeal.main_arg0)
          ∧ r.2.mem ((c.tc : Thread Cert.SumConvGdnRefIdeal.nD Cert.SumConvGdnRefIdeal.τ).loc Cert.SumConvGdnRefIdeal.main_arg1) = m' ((c.tc : Thread Cert.SumConvGdnRefIdeal.nD Cert.SumConvGdnRefIdeal.τ).loc Cert.SumConvGdnRefIdeal.main_arg1))

def preserves_SumSquare_SumSquareIdeal : Prop :=
  True

def algebraic_SumSquareIdeal_SumSquareRefIdeal [hSumSquareIdeal : Cert.SumSquareIdeal.Facts] [hSumSquareRefIdeal : Cert.SumSquareRefIdeal.Facts] : Prop :=
  ∀ (m : (ℓ : Loc Cert.SumSquareIdeal.nD Cert.SumSquareIdeal.τ Cert.SumSquareIdeal.sig) → Buf (Elt Ideal) ℓ) (g : Dev Cert.SumSquareIdeal.nD → PrngReg)
    (m' : (ℓ : Loc Cert.SumSquareRefIdeal.nD Cert.SumSquareRefIdeal.τ Cert.SumSquareRefIdeal.sig) → Buf (Elt Ideal) ℓ) (g' : Dev Cert.SumSquareRefIdeal.nD → PrngReg), Pre_SumSquareIdeal m →
    (∀ c : Dev Cert.SumSquareIdeal.nD,
      m' ((c.tc : Thread Cert.SumSquareRefIdeal.nD Cert.SumSquareRefIdeal.τ).loc Cert.SumSquareRefIdeal.main_arg0) = m ((c.tc : Thread Cert.SumSquareIdeal.nD Cert.SumSquareIdeal.τ).loc Cert.SumSquareIdeal.main_arg0)
      ∧ m' ((c.tc : Thread Cert.SumSquareRefIdeal.nD Cert.SumSquareRefIdeal.τ).loc Cert.SumSquareRefIdeal.main_arg1) = m ((c.tc : Thread Cert.SumSquareIdeal.nD Cert.SumSquareIdeal.τ).loc Cert.SumSquareIdeal.main_arg1)) →
    ∃ (v0 : (c : Dev Cert.SumSquareIdeal.nD) → Buf (Elt Ideal) ((c.tc : Thread Cert.SumSquareIdeal.nD Cert.SumSquareIdeal.τ).loc Cert.SumSquareIdeal.main_v0)),
      θ_run (Cert.SumSquareIdeal.defs (F := Ideal)) (onTc (τ := Cert.SumSquareIdeal.τ) (Cert.SumSquareIdeal.main (F := Ideal))) ⟨m, fun _ => 0, g⟩ (fun r => ∀ c : Dev Cert.SumSquareIdeal.nD,
          r.2.mem ((c.tc : Thread Cert.SumSquareIdeal.nD Cert.SumSquareIdeal.τ).loc Cert.SumSquareIdeal.main_v0) = v0 c
          ∧ r.2.mem ((c.tc : Thread Cert.SumSquareIdeal.nD Cert.SumSquareIdeal.τ).loc Cert.SumSquareIdeal.main_arg0) = m ((c.tc : Thread Cert.SumSquareIdeal.nD Cert.SumSquareIdeal.τ).loc Cert.SumSquareIdeal.main_arg0)
          ∧ r.2.mem ((c.tc : Thread Cert.SumSquareIdeal.nD Cert.SumSquareIdeal.τ).loc Cert.SumSquareIdeal.main_arg1) = m ((c.tc : Thread Cert.SumSquareIdeal.nD Cert.SumSquareIdeal.τ).loc Cert.SumSquareIdeal.main_arg1))
      ∧ θ_run (Cert.SumSquareRefIdeal.defs (F := Ideal)) (onTc (τ := Cert.SumSquareRefIdeal.τ) (Cert.SumSquareRefIdeal.main (F := Ideal))) ⟨m', fun _ => 0, g'⟩ (fun r => ∀ c : Dev Cert.SumSquareRefIdeal.nD,
          r.2.mem ((c.tc : Thread Cert.SumSquareRefIdeal.nD Cert.SumSquareRefIdeal.τ).loc Cert.SumSquareRefIdeal.main_v4) = v0 c
          ∧ r.2.mem ((c.tc : Thread Cert.SumSquareRefIdeal.nD Cert.SumSquareRefIdeal.τ).loc Cert.SumSquareRefIdeal.main_arg0) = m' ((c.tc : Thread Cert.SumSquareRefIdeal.nD Cert.SumSquareRefIdeal.τ).loc Cert.SumSquareRefIdeal.main_arg0)
          ∧ r.2.mem ((c.tc : Thread Cert.SumSquareRefIdeal.nD Cert.SumSquareRefIdeal.τ).loc Cert.SumSquareRefIdeal.main_arg1) = m' ((c.tc : Thread Cert.SumSquareRefIdeal.nD Cert.SumSquareRefIdeal.τ).loc Cert.SumSquareRefIdeal.main_arg1))

def preserves_SumFfnDown_SumFfnDownIdeal : Prop :=
  True

def algebraic_SumFfnDownIdeal_SumFfnDownRefIdeal [hSumFfnDownIdeal : Cert.SumFfnDownIdeal.Facts] [hSumFfnDownRefIdeal : Cert.SumFfnDownRefIdeal.Facts] : Prop :=
  ∀ (m : (ℓ : Loc Cert.SumFfnDownIdeal.nD Cert.SumFfnDownIdeal.τ Cert.SumFfnDownIdeal.sig) → Buf (Elt Ideal) ℓ) (g : Dev Cert.SumFfnDownIdeal.nD → PrngReg)
    (m' : (ℓ : Loc Cert.SumFfnDownRefIdeal.nD Cert.SumFfnDownRefIdeal.τ Cert.SumFfnDownRefIdeal.sig) → Buf (Elt Ideal) ℓ) (g' : Dev Cert.SumFfnDownRefIdeal.nD → PrngReg), Pre_SumFfnDownIdeal m →
    (∀ c : Dev Cert.SumFfnDownIdeal.nD,
      m' ((c.tc : Thread Cert.SumFfnDownRefIdeal.nD Cert.SumFfnDownRefIdeal.τ).loc Cert.SumFfnDownRefIdeal.main_arg0) = m ((c.tc : Thread Cert.SumFfnDownIdeal.nD Cert.SumFfnDownIdeal.τ).loc Cert.SumFfnDownIdeal.main_arg0)
      ∧ m' ((c.tc : Thread Cert.SumFfnDownRefIdeal.nD Cert.SumFfnDownRefIdeal.τ).loc Cert.SumFfnDownRefIdeal.main_arg1) = m ((c.tc : Thread Cert.SumFfnDownIdeal.nD Cert.SumFfnDownIdeal.τ).loc Cert.SumFfnDownIdeal.main_arg1)) →
    ∃ (v0 : (c : Dev Cert.SumFfnDownIdeal.nD) → Buf (Elt Ideal) ((c.tc : Thread Cert.SumFfnDownIdeal.nD Cert.SumFfnDownIdeal.τ).loc Cert.SumFfnDownIdeal.main_v0)),
      θ_run (Cert.SumFfnDownIdeal.defs (F := Ideal)) (onTc (τ := Cert.SumFfnDownIdeal.τ) (Cert.SumFfnDownIdeal.main (F := Ideal))) ⟨m, fun _ => 0, g⟩ (fun r => ∀ c : Dev Cert.SumFfnDownIdeal.nD,
          r.2.mem ((c.tc : Thread Cert.SumFfnDownIdeal.nD Cert.SumFfnDownIdeal.τ).loc Cert.SumFfnDownIdeal.main_v0) = v0 c
          ∧ r.2.mem ((c.tc : Thread Cert.SumFfnDownIdeal.nD Cert.SumFfnDownIdeal.τ).loc Cert.SumFfnDownIdeal.main_arg0) = m ((c.tc : Thread Cert.SumFfnDownIdeal.nD Cert.SumFfnDownIdeal.τ).loc Cert.SumFfnDownIdeal.main_arg0)
          ∧ r.2.mem ((c.tc : Thread Cert.SumFfnDownIdeal.nD Cert.SumFfnDownIdeal.τ).loc Cert.SumFfnDownIdeal.main_arg1) = m ((c.tc : Thread Cert.SumFfnDownIdeal.nD Cert.SumFfnDownIdeal.τ).loc Cert.SumFfnDownIdeal.main_arg1))
      ∧ θ_run (Cert.SumFfnDownRefIdeal.defs (F := Ideal)) (onTc (τ := Cert.SumFfnDownRefIdeal.τ) (Cert.SumFfnDownRefIdeal.main (F := Ideal))) ⟨m', fun _ => 0, g'⟩ (fun r => ∀ c : Dev Cert.SumFfnDownRefIdeal.nD,
          r.2.mem ((c.tc : Thread Cert.SumFfnDownRefIdeal.nD Cert.SumFfnDownRefIdeal.τ).loc Cert.SumFfnDownRefIdeal.main_v4) = v0 c
          ∧ r.2.mem ((c.tc : Thread Cert.SumFfnDownRefIdeal.nD Cert.SumFfnDownRefIdeal.τ).loc Cert.SumFfnDownRefIdeal.main_arg0) = m' ((c.tc : Thread Cert.SumFfnDownRefIdeal.nD Cert.SumFfnDownRefIdeal.τ).loc Cert.SumFfnDownRefIdeal.main_arg0)
          ∧ r.2.mem ((c.tc : Thread Cert.SumFfnDownRefIdeal.nD Cert.SumFfnDownRefIdeal.τ).loc Cert.SumFfnDownRefIdeal.main_arg1) = m' ((c.tc : Thread Cert.SumFfnDownRefIdeal.nD Cert.SumFfnDownRefIdeal.τ).loc Cert.SumFfnDownRefIdeal.main_arg1))

def preserves_SumFfnIn_SumFfnInIdeal : Prop :=
  True

def algebraic_SumFfnInIdeal_SumFfnInRefIdeal [hSumFfnInIdeal : Cert.SumFfnInIdeal.Facts] [hSumFfnInRefIdeal : Cert.SumFfnInRefIdeal.Facts] : Prop :=
  ∀ (m : (ℓ : Loc Cert.SumFfnInIdeal.nD Cert.SumFfnInIdeal.τ Cert.SumFfnInIdeal.sig) → Buf (Elt Ideal) ℓ) (g : Dev Cert.SumFfnInIdeal.nD → PrngReg)
    (m' : (ℓ : Loc Cert.SumFfnInRefIdeal.nD Cert.SumFfnInRefIdeal.τ Cert.SumFfnInRefIdeal.sig) → Buf (Elt Ideal) ℓ) (g' : Dev Cert.SumFfnInRefIdeal.nD → PrngReg), Pre_SumFfnInIdeal m →
    (∀ c : Dev Cert.SumFfnInIdeal.nD,
      m' ((c.tc : Thread Cert.SumFfnInRefIdeal.nD Cert.SumFfnInRefIdeal.τ).loc Cert.SumFfnInRefIdeal.main_arg0) = m ((c.tc : Thread Cert.SumFfnInIdeal.nD Cert.SumFfnInIdeal.τ).loc Cert.SumFfnInIdeal.main_arg0)
      ∧ m' ((c.tc : Thread Cert.SumFfnInRefIdeal.nD Cert.SumFfnInRefIdeal.τ).loc Cert.SumFfnInRefIdeal.main_arg1) = m ((c.tc : Thread Cert.SumFfnInIdeal.nD Cert.SumFfnInIdeal.τ).loc Cert.SumFfnInIdeal.main_arg1)) →
    ∃ (v0 : (c : Dev Cert.SumFfnInIdeal.nD) → Buf (Elt Ideal) ((c.tc : Thread Cert.SumFfnInIdeal.nD Cert.SumFfnInIdeal.τ).loc Cert.SumFfnInIdeal.main_v0)),
      θ_run (Cert.SumFfnInIdeal.defs (F := Ideal)) (onTc (τ := Cert.SumFfnInIdeal.τ) (Cert.SumFfnInIdeal.main (F := Ideal))) ⟨m, fun _ => 0, g⟩ (fun r => ∀ c : Dev Cert.SumFfnInIdeal.nD,
          r.2.mem ((c.tc : Thread Cert.SumFfnInIdeal.nD Cert.SumFfnInIdeal.τ).loc Cert.SumFfnInIdeal.main_v0) = v0 c
          ∧ r.2.mem ((c.tc : Thread Cert.SumFfnInIdeal.nD Cert.SumFfnInIdeal.τ).loc Cert.SumFfnInIdeal.main_arg0) = m ((c.tc : Thread Cert.SumFfnInIdeal.nD Cert.SumFfnInIdeal.τ).loc Cert.SumFfnInIdeal.main_arg0)
          ∧ r.2.mem ((c.tc : Thread Cert.SumFfnInIdeal.nD Cert.SumFfnInIdeal.τ).loc Cert.SumFfnInIdeal.main_arg1) = m ((c.tc : Thread Cert.SumFfnInIdeal.nD Cert.SumFfnInIdeal.τ).loc Cert.SumFfnInIdeal.main_arg1))
      ∧ θ_run (Cert.SumFfnInRefIdeal.defs (F := Ideal)) (onTc (τ := Cert.SumFfnInRefIdeal.τ) (Cert.SumFfnInRefIdeal.main (F := Ideal))) ⟨m', fun _ => 0, g'⟩ (fun r => ∀ c : Dev Cert.SumFfnInRefIdeal.nD,
          r.2.mem ((c.tc : Thread Cert.SumFfnInRefIdeal.nD Cert.SumFfnInRefIdeal.τ).loc Cert.SumFfnInRefIdeal.main_v4) = v0 c
          ∧ r.2.mem ((c.tc : Thread Cert.SumFfnInRefIdeal.nD Cert.SumFfnInRefIdeal.τ).loc Cert.SumFfnInRefIdeal.main_arg0) = m' ((c.tc : Thread Cert.SumFfnInRefIdeal.nD Cert.SumFfnInRefIdeal.τ).loc Cert.SumFfnInRefIdeal.main_arg0)
          ∧ r.2.mem ((c.tc : Thread Cert.SumFfnInRefIdeal.nD Cert.SumFfnInRefIdeal.τ).loc Cert.SumFfnInRefIdeal.main_arg1) = m' ((c.tc : Thread Cert.SumFfnInRefIdeal.nD Cert.SumFfnInRefIdeal.τ).loc Cert.SumFfnInRefIdeal.main_arg1))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)
      ∧ m' ((c.tc : Thread Cert.SumInRefIdeal.nD Cert.SumInRefIdeal.τ).loc Cert.SumInRefIdeal.main_arg1) = m ((c.tc : Thread Cert.SumInIdeal.nD Cert.SumInIdeal.τ).loc Cert.SumInIdeal.main_arg1)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
          ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v4) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0)
          ∧ r.2.mem ((c.tc : Thread Cert.SumInRefIdeal.nD Cert.SumInRefIdeal.τ).loc Cert.SumInRefIdeal.main_arg1) = m' ((c.tc : Thread Cert.SumInRefIdeal.nD Cert.SumInRefIdeal.τ).loc Cert.SumInRefIdeal.main_arg1))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v3_0)) (v1 : (c : Dev Cert.AdamNormIdeal.nD) → Buf (Elt Ideal) ((c.tc : Thread Cert.AdamNormIdeal.nD Cert.AdamNormIdeal.τ).loc Cert.AdamNormIdeal.main_v3_1)) (v2 : (c : Dev Cert.AdamNormIdeal.nD) → Buf (Elt Ideal) ((c.tc : Thread Cert.AdamNormIdeal.nD Cert.AdamNormIdeal.τ).loc Cert.AdamNormIdeal.main_v3_2)) (v3 : (c : Dev Cert.AdamNormIdeal.nD) → Buf (Elt Ideal) ((c.tc : Thread Cert.AdamNormIdeal.nD Cert.AdamNormIdeal.τ).loc Cert.AdamNormIdeal.main_v3_3)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v3_0) = v0 c
          ∧ r.2.mem ((c.tc : Thread Cert.AdamNormIdeal.nD Cert.AdamNormIdeal.τ).loc Cert.AdamNormIdeal.main_v3_1) = v1 c
          ∧ r.2.mem ((c.tc : Thread Cert.AdamNormIdeal.nD Cert.AdamNormIdeal.τ).loc Cert.AdamNormIdeal.main_v3_2) = v2 c
          ∧ r.2.mem ((c.tc : Thread Cert.AdamNormIdeal.nD Cert.AdamNormIdeal.τ).loc Cert.AdamNormIdeal.main_v3_3) = v3 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v24) = v0 c
          ∧ r.2.mem ((c.tc : Thread Cert.AdamNormRefIdeal.nD Cert.AdamNormRefIdeal.τ).loc Cert.AdamNormRefIdeal.main_v25) = v1 c
          ∧ r.2.mem ((c.tc : Thread Cert.AdamNormRefIdeal.nD Cert.AdamNormRefIdeal.τ).loc Cert.AdamNormRefIdeal.main_v26) = v2 c
          ∧ r.2.mem ((c.tc : Thread Cert.AdamNormRefIdeal.nD Cert.AdamNormRefIdeal.τ).loc Cert.AdamNormRefIdeal.main_v27) = v3 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_AdamConvB_AdamConvBIdeal : Prop :=
  True

def algebraic_AdamConvBIdeal_AdamConvBRefIdeal [hAdamConvBIdeal : Cert.AdamConvBIdeal.Facts] [hAdamConvBRefIdeal : Cert.AdamConvBRefIdeal.Facts] : Prop :=
  ∀ (m : (ℓ : Loc Cert.AdamConvBIdeal.nD Cert.AdamConvBIdeal.τ Cert.AdamConvBIdeal.sig) → Buf (Elt Ideal) ℓ) (g : Dev Cert.AdamConvBIdeal.nD → PrngReg)
    (m' : (ℓ : Loc Cert.AdamConvBRefIdeal.nD Cert.AdamConvBRefIdeal.τ Cert.AdamConvBRefIdeal.sig) → Buf (Elt Ideal) ℓ) (g' : Dev Cert.AdamConvBRefIdeal.nD → PrngReg), Pre_AdamConvBIdeal m →
    (∀ c : Dev Cert.AdamConvBIdeal.nD,
      m' ((c.tc : Thread Cert.AdamConvBRefIdeal.nD Cert.AdamConvBRefIdeal.τ).loc Cert.AdamConvBRefIdeal.main_arg0) = m ((c.tc : Thread Cert.AdamConvBIdeal.nD Cert.AdamConvBIdeal.τ).loc Cert.AdamConvBIdeal.main_arg0)
      ∧ m' ((c.tc : Thread Cert.AdamConvBRefIdeal.nD Cert.AdamConvBRefIdeal.τ).loc Cert.AdamConvBRefIdeal.main_arg1) = m ((c.tc : Thread Cert.AdamConvBIdeal.nD Cert.AdamConvBIdeal.τ).loc Cert.AdamConvBIdeal.main_arg1)
      ∧ m' ((c.tc : Thread Cert.AdamConvBRefIdeal.nD Cert.AdamConvBRefIdeal.τ).loc Cert.AdamConvBRefIdeal.main_arg2) = m ((c.tc : Thread Cert.AdamConvBIdeal.nD Cert.AdamConvBIdeal.τ).loc Cert.AdamConvBIdeal.main_arg2)
      ∧ m' ((c.tc : Thread Cert.AdamConvBRefIdeal.nD Cert.AdamConvBRefIdeal.τ).loc Cert.AdamConvBRefIdeal.main_arg3) = m ((c.tc : Thread Cert.AdamConvBIdeal.nD Cert.AdamConvBIdeal.τ).loc Cert.AdamConvBIdeal.main_arg3)) →
    ∃ (v0 : (c : Dev Cert.AdamConvBIdeal.nD) → Buf (Elt Ideal) ((c.tc : Thread Cert.AdamConvBIdeal.nD Cert.AdamConvBIdeal.τ).loc Cert.AdamConvBIdeal.main_v3_0)) (v1 : (c : Dev Cert.AdamConvBIdeal.nD) → Buf (Elt Ideal) ((c.tc : Thread Cert.AdamConvBIdeal.nD Cert.AdamConvBIdeal.τ).loc Cert.AdamConvBIdeal.main_v3_1)) (v2 : (c : Dev Cert.AdamConvBIdeal.nD) → Buf (Elt Ideal) ((c.tc : Thread Cert.AdamConvBIdeal.nD Cert.AdamConvBIdeal.τ).loc Cert.AdamConvBIdeal.main_v3_2)) (v3 : (c : Dev Cert.AdamConvBIdeal.nD) → Buf (Elt Ideal) ((c.tc : Thread Cert.AdamConvBIdeal.nD Cert.AdamConvBIdeal.τ).loc Cert.AdamConvBIdeal.main_v3_3)),
      θ_run (Cert.AdamConvBIdeal.defs (F := Ideal)) (onTc (τ := Cert.AdamConvBIdeal.τ) (Cert.AdamConvBIdeal.main (F := Ideal))) ⟨m, fun _ => 0, g⟩ (fun r => ∀ c : Dev Cert.AdamConvBIdeal.nD,
          r.2.mem ((c.tc : Thread Cert.AdamConvBIdeal.nD Cert.AdamConvBIdeal.τ).loc Cert.AdamConvBIdeal.main_v3_0) = v0 c
          ∧ r.2.mem ((c.tc : Thread Cert.AdamConvBIdeal.nD Cert.AdamConvBIdeal.τ).loc Cert.AdamConvBIdeal.main_v3_1) = v1 c
          ∧ r.2.mem ((c.tc : Thread Cert.AdamConvBIdeal.nD Cert.AdamConvBIdeal.τ).loc Cert.AdamConvBIdeal.main_v3_2) = v2 c
          ∧ r.2.mem ((c.tc : Thread Cert.AdamConvBIdeal.nD Cert.AdamConvBIdeal.τ).loc Cert.AdamConvBIdeal.main_v3_3) = v3 c
          ∧ r.2.mem ((c.tc : Thread Cert.AdamConvBIdeal.nD Cert.AdamConvBIdeal.τ).loc Cert.AdamConvBIdeal.main_arg0) = m ((c.tc : Thread Cert.AdamConvBIdeal.nD Cert.AdamConvBIdeal.τ).loc Cert.AdamConvBIdeal.main_arg0)
          ∧ r.2.mem ((c.tc : Thread Cert.AdamConvBIdeal.nD Cert.AdamConvBIdeal.τ).loc Cert.AdamConvBIdeal.main_arg1) = m ((c.tc : Thread Cert.AdamConvBIdeal.nD Cert.AdamConvBIdeal.τ).loc Cert.AdamConvBIdeal.main_arg1)
          ∧ r.2.mem ((c.tc : Thread Cert.AdamConvBIdeal.nD Cert.AdamConvBIdeal.τ).loc Cert.AdamConvBIdeal.main_arg2) = m ((c.tc : Thread Cert.AdamConvBIdeal.nD Cert.AdamConvBIdeal.τ).loc Cert.AdamConvBIdeal.main_arg2)
          ∧ r.2.mem ((c.tc : Thread Cert.AdamConvBIdeal.nD Cert.AdamConvBIdeal.τ).loc Cert.AdamConvBIdeal.main_arg3) = m ((c.tc : Thread Cert.AdamConvBIdeal.nD Cert.AdamConvBIdeal.τ).loc Cert.AdamConvBIdeal.main_arg3))
      ∧ θ_run (Cert.AdamConvBRefIdeal.defs (F := Ideal)) (onTc (τ := Cert.AdamConvBRefIdeal.τ) (Cert.AdamConvBRefIdeal.main (F := Ideal))) ⟨m', fun _ => 0, g'⟩ (fun r => ∀ c : Dev Cert.AdamConvBRefIdeal.nD,
          r.2.mem ((c.tc : Thread Cert.AdamConvBRefIdeal.nD Cert.AdamConvBRefIdeal.τ).loc Cert.AdamConvBRefIdeal.main_v24) = v0 c
          ∧ r.2.mem ((c.tc : Thread Cert.AdamConvBRefIdeal.nD Cert.AdamConvBRefIdeal.τ).loc Cert.AdamConvBRefIdeal.main_v25) = v1 c
          ∧ r.2.mem ((c.tc : Thread Cert.AdamConvBRefIdeal.nD Cert.AdamConvBRefIdeal.τ).loc Cert.AdamConvBRefIdeal.main_v26) = v2 c
          ∧ r.2.mem ((c.tc : Thread Cert.AdamConvBRefIdeal.nD Cert.AdamConvBRefIdeal.τ).loc Cert.AdamConvBRefIdeal.main_v27) = v3 c
          ∧ r.2.mem ((c.tc : Thread Cert.AdamConvBRefIdeal.nD Cert.AdamConvBRefIdeal.τ).loc Cert.AdamConvBRefIdeal.main_arg0) = m' ((c.tc : Thread Cert.AdamConvBRefIdeal.nD Cert.AdamConvBRefIdeal.τ).loc Cert.AdamConvBRefIdeal.main_arg0)
          ∧ r.2.mem ((c.tc : Thread Cert.AdamConvBRefIdeal.nD Cert.AdamConvBRefIdeal.τ).loc Cert.AdamConvBRefIdeal.main_arg1) = m' ((c.tc : Thread Cert.AdamConvBRefIdeal.nD Cert.AdamConvBRefIdeal.τ).loc Cert.AdamConvBRefIdeal.main_arg1)
          ∧ r.2.mem ((c.tc : Thread Cert.AdamConvBRefIdeal.nD Cert.AdamConvBRefIdeal.τ).loc Cert.AdamConvBRefIdeal.main_arg2) = m' ((c.tc : Thread Cert.AdamConvBRefIdeal.nD Cert.AdamConvBRefIdeal.τ).loc Cert.AdamConvBRefIdeal.main_arg2)
          ∧ r.2.mem ((c.tc : Thread Cert.AdamConvBRefIdeal.nD Cert.AdamConvBRefIdeal.τ).loc Cert.AdamConvBRefIdeal.main_arg3) = m' ((c.tc : Thread Cert.AdamConvBRefIdeal.nD Cert.AdamConvBRefIdeal.τ).loc Cert.AdamConvBRefIdeal.main_arg3))

def preserves_AdamHeads_AdamHeadsIdeal : Prop :=
  True

def algebraic_AdamHeadsIdeal_AdamHeadsRefIdeal [hAdamHeadsIdeal : Cert.AdamHeadsIdeal.Facts] [hAdamHeadsRefIdeal : Cert.AdamHeadsRefIdeal.Facts] : Prop :=
  ∀ (m : (ℓ : Loc Cert.AdamHeadsIdeal.nD Cert.AdamHeadsIdeal.τ Cert.AdamHeadsIdeal.sig) → Buf (Elt Ideal) ℓ) (g : Dev Cert.AdamHeadsIdeal.nD → PrngReg)
    (m' : (ℓ : Loc Cert.AdamHeadsRefIdeal.nD Cert.AdamHeadsRefIdeal.τ Cert.AdamHeadsRefIdeal.sig) → Buf (Elt Ideal) ℓ) (g' : Dev Cert.AdamHeadsRefIdeal.nD → PrngReg), Pre_AdamHeadsIdeal m →
    (∀ c : Dev Cert.AdamHeadsIdeal.nD,
      m' ((c.tc : Thread Cert.AdamHeadsRefIdeal.nD Cert.AdamHeadsRefIdeal.τ).loc Cert.AdamHeadsRefIdeal.main_arg0) = m ((c.tc : Thread Cert.AdamHeadsIdeal.nD Cert.AdamHeadsIdeal.τ).loc Cert.AdamHeadsIdeal.main_arg0)
      ∧ m' ((c.tc : Thread Cert.AdamHeadsRefIdeal.nD Cert.AdamHeadsRefIdeal.τ).loc Cert.AdamHeadsRefIdeal.main_arg1) = m ((c.tc : Thread Cert.AdamHeadsIdeal.nD Cert.AdamHeadsIdeal.τ).loc Cert.AdamHeadsIdeal.main_arg1)
      ∧ m' ((c.tc : Thread Cert.AdamHeadsRefIdeal.nD Cert.AdamHeadsRefIdeal.τ).loc Cert.AdamHeadsRefIdeal.main_arg2) = m ((c.tc : Thread Cert.AdamHeadsIdeal.nD Cert.AdamHeadsIdeal.τ).loc Cert.AdamHeadsIdeal.main_arg2)
      ∧ m' ((c.tc : Thread Cert.AdamHeadsRefIdeal.nD Cert.AdamHeadsRefIdeal.τ).loc Cert.AdamHeadsRefIdeal.main_arg3) = m ((c.tc : Thread Cert.AdamHeadsIdeal.nD Cert.AdamHeadsIdeal.τ).loc Cert.AdamHeadsIdeal.main_arg3)) →
    ∃ (v0 : (c : Dev Cert.AdamHeadsIdeal.nD) → Buf (Elt Ideal) ((c.tc : Thread Cert.AdamHeadsIdeal.nD Cert.AdamHeadsIdeal.τ).loc Cert.AdamHeadsIdeal.main_v3_0)) (v1 : (c : Dev Cert.AdamHeadsIdeal.nD) → Buf (Elt Ideal) ((c.tc : Thread Cert.AdamHeadsIdeal.nD Cert.AdamHeadsIdeal.τ).loc Cert.AdamHeadsIdeal.main_v3_1)) (v2 : (c : Dev Cert.AdamHeadsIdeal.nD) → Buf (Elt Ideal) ((c.tc : Thread Cert.AdamHeadsIdeal.nD Cert.AdamHeadsIdeal.τ).loc Cert.AdamHeadsIdeal.main_v3_2)) (v3 : (c : Dev Cert.AdamHeadsIdeal.nD) → Buf (Elt Ideal) ((c.tc : Thread Cert.AdamHeadsIdeal.nD Cert.AdamHeadsIdeal.τ).loc Cert.AdamHeadsIdeal.main_v3_3)),
      θ_run (Cert.AdamHeadsIdeal.defs (F := Ideal)) (onTc (τ := Cert.AdamHeadsIdeal.τ) (Cert.AdamHeadsIdeal.main (F := Ideal))) ⟨m, fun _ => 0, g⟩ (fun r => ∀ c : Dev Cert.AdamHeadsIdeal.nD,
          r.2.mem ((c.tc : Thread Cert.AdamHeadsIdeal.nD Cert.AdamHeadsIdeal.τ).loc Cert.AdamHeadsIdeal.main_v3_0) = v0 c
          ∧ r.2.mem ((c.tc : Thread Cert.AdamHeadsIdeal.nD Cert.AdamHeadsIdeal.τ).loc Cert.AdamHeadsIdeal.main_v3_1) = v1 c
          ∧ r.2.mem ((c.tc : Thread Cert.AdamHeadsIdeal.nD Cert.AdamHeadsIdeal.τ).loc Cert.AdamHeadsIdeal.main_v3_2) = v2 c
          ∧ r.2.mem ((c.tc : Thread Cert.AdamHeadsIdeal.nD Cert.AdamHeadsIdeal.τ).loc Cert.AdamHeadsIdeal.main_v3_3) = v3 c
          ∧ r.2.mem ((c.tc : Thread Cert.AdamHeadsIdeal.nD Cert.AdamHeadsIdeal.τ).loc Cert.AdamHeadsIdeal.main_arg0) = m ((c.tc : Thread Cert.AdamHeadsIdeal.nD Cert.AdamHeadsIdeal.τ).loc Cert.AdamHeadsIdeal.main_arg0)
          ∧ r.2.mem ((c.tc : Thread Cert.AdamHeadsIdeal.nD Cert.AdamHeadsIdeal.τ).loc Cert.AdamHeadsIdeal.main_arg1) = m ((c.tc : Thread Cert.AdamHeadsIdeal.nD Cert.AdamHeadsIdeal.τ).loc Cert.AdamHeadsIdeal.main_arg1)
          ∧ r.2.mem ((c.tc : Thread Cert.AdamHeadsIdeal.nD Cert.AdamHeadsIdeal.τ).loc Cert.AdamHeadsIdeal.main_arg2) = m ((c.tc : Thread Cert.AdamHeadsIdeal.nD Cert.AdamHeadsIdeal.τ).loc Cert.AdamHeadsIdeal.main_arg2)
          ∧ r.2.mem ((c.tc : Thread Cert.AdamHeadsIdeal.nD Cert.AdamHeadsIdeal.τ).loc Cert.AdamHeadsIdeal.main_arg3) = m ((c.tc : Thread Cert.AdamHeadsIdeal.nD Cert.AdamHeadsIdeal.τ).loc Cert.AdamHeadsIdeal.main_arg3))
      ∧ θ_run (Cert.AdamHeadsRefIdeal.defs (F := Ideal)) (onTc (τ := Cert.AdamHeadsRefIdeal.τ) (Cert.AdamHeadsRefIdeal.main (F := Ideal))) ⟨m', fun _ => 0, g'⟩ (fun r => ∀ c : Dev Cert.AdamHeadsRefIdeal.nD,
          r.2.mem ((c.tc : Thread Cert.AdamHeadsRefIdeal.nD Cert.AdamHeadsRefIdeal.τ).loc Cert.AdamHeadsRefIdeal.main_v24) = v0 c
          ∧ r.2.mem ((c.tc : Thread Cert.AdamHeadsRefIdeal.nD Cert.AdamHeadsRefIdeal.τ).loc Cert.AdamHeadsRefIdeal.main_v25) = v1 c
          ∧ r.2.mem ((c.tc : Thread Cert.AdamHeadsRefIdeal.nD Cert.AdamHeadsRefIdeal.τ).loc Cert.AdamHeadsRefIdeal.main_v26) = v2 c
          ∧ r.2.mem ((c.tc : Thread Cert.AdamHeadsRefIdeal.nD Cert.AdamHeadsRefIdeal.τ).loc Cert.AdamHeadsRefIdeal.main_v27) = v3 c
          ∧ r.2.mem ((c.tc : Thread Cert.AdamHeadsRefIdeal.nD Cert.AdamHeadsRefIdeal.τ).loc Cert.AdamHeadsRefIdeal.main_arg0) = m' ((c.tc : Thread Cert.AdamHeadsRefIdeal.nD Cert.AdamHeadsRefIdeal.τ).loc Cert.AdamHeadsRefIdeal.main_arg0)
          ∧ r.2.mem ((c.tc : Thread Cert.AdamHeadsRefIdeal.nD Cert.AdamHeadsRefIdeal.τ).loc Cert.AdamHeadsRefIdeal.main_arg1) = m' ((c.tc : Thread Cert.AdamHeadsRefIdeal.nD Cert.AdamHeadsRefIdeal.τ).loc Cert.AdamHeadsRefIdeal.main_arg1)
          ∧ r.2.mem ((c.tc : Thread Cert.AdamHeadsRefIdeal.nD Cert.AdamHeadsRefIdeal.τ).loc Cert.AdamHeadsRefIdeal.main_arg2) = m' ((c.tc : Thread Cert.AdamHeadsRefIdeal.nD Cert.AdamHeadsRefIdeal.τ).loc Cert.AdamHeadsRefIdeal.main_arg2)
          ∧ r.2.mem ((c.tc : Thread Cert.AdamHeadsRefIdeal.nD Cert.AdamHeadsRefIdeal.τ).loc Cert.AdamHeadsRefIdeal.main_arg3) = m' ((c.tc : Thread Cert.AdamHeadsRefIdeal.nD Cert.AdamHeadsRefIdeal.τ).loc Cert.AdamHeadsRefIdeal.main_arg3))

def preserves_AdamGdnHeads_AdamGdnHeadsIdeal : Prop :=
  True

def algebraic_AdamGdnHeadsIdeal_AdamGdnHeadsRefIdeal [hAdamGdnHeadsIdeal : Cert.AdamGdnHeadsIdeal.Facts] [hAdamGdnHeadsRefIdeal : Cert.AdamGdnHeadsRefIdeal.Facts] : Prop :=
  ∀ (m : (ℓ : Loc Cert.AdamGdnHeadsIdeal.nD Cert.AdamGdnHeadsIdeal.τ Cert.AdamGdnHeadsIdeal.sig) → Buf (Elt Ideal) ℓ) (g : Dev Cert.AdamGdnHeadsIdeal.nD → PrngReg)
    (m' : (ℓ : Loc Cert.AdamGdnHeadsRefIdeal.nD Cert.AdamGdnHeadsRefIdeal.τ Cert.AdamGdnHeadsRefIdeal.sig) → Buf (Elt Ideal) ℓ) (g' : Dev Cert.AdamGdnHeadsRefIdeal.nD → PrngReg), Pre_AdamGdnHeadsIdeal m →
    (∀ c : Dev Cert.AdamGdnHeadsIdeal.nD,
      m' ((c.tc : Thread Cert.AdamGdnHeadsRefIdeal.nD Cert.AdamGdnHeadsRefIdeal.τ).loc Cert.AdamGdnHeadsRefIdeal.main_arg0) = m ((c.tc : Thread Cert.AdamGdnHeadsIdeal.nD Cert.AdamGdnHeadsIdeal.τ).loc Cert.AdamGdnHeadsIdeal.main_arg0)
      ∧ m' ((c.tc : Thread Cert.AdamGdnHeadsRefIdeal.nD Cert.AdamGdnHeadsRefIdeal.τ).loc Cert.AdamGdnHeadsRefIdeal.main_arg1) = m ((c.tc : Thread Cert.AdamGdnHeadsIdeal.nD Cert.AdamGdnHeadsIdeal.τ).loc Cert.AdamGdnHeadsIdeal.main_arg1)
      ∧ m' ((c.tc : Thread Cert.AdamGdnHeadsRefIdeal.nD Cert.AdamGdnHeadsRefIdeal.τ).loc Cert.AdamGdnHeadsRefIdeal.main_arg2) = m ((c.tc : Thread Cert.AdamGdnHeadsIdeal.nD Cert.AdamGdnHeadsIdeal.τ).loc Cert.AdamGdnHeadsIdeal.main_arg2)
      ∧ m' ((c.tc : Thread Cert.AdamGdnHeadsRefIdeal.nD Cert.AdamGdnHeadsRefIdeal.τ).loc Cert.AdamGdnHeadsRefIdeal.main_arg3) = m ((c.tc : Thread Cert.AdamGdnHeadsIdeal.nD Cert.AdamGdnHeadsIdeal.τ).loc Cert.AdamGdnHeadsIdeal.main_arg3)) →
    ∃ (v0 : (c : Dev Cert.AdamGdnHeadsIdeal.nD) → Buf (Elt Ideal) ((c.tc : Thread Cert.AdamGdnHeadsIdeal.nD Cert.AdamGdnHeadsIdeal.τ).loc Cert.AdamGdnHeadsIdeal.main_v3_0)) (v1 : (c : Dev Cert.AdamGdnHeadsIdeal.nD) → Buf (Elt Ideal) ((c.tc : Thread Cert.AdamGdnHeadsIdeal.nD Cert.AdamGdnHeadsIdeal.τ).loc Cert.AdamGdnHeadsIdeal.main_v3_1)) (v2 : (c : Dev Cert.AdamGdnHeadsIdeal.nD) → Buf (Elt Ideal) ((c.tc : Thread Cert.AdamGdnHeadsIdeal.nD Cert.AdamGdnHeadsIdeal.τ).loc Cert.AdamGdnHeadsIdeal.main_v3_2)) (v3 : (c : Dev Cert.AdamGdnHeadsIdeal.nD) → Buf (Elt Ideal) ((c.tc : Thread Cert.AdamGdnHeadsIdeal.nD Cert.AdamGdnHeadsIdeal.τ).loc Cert.AdamGdnHeadsIdeal.main_v3_3)),
      θ_run (Cert.AdamGdnHeadsIdeal.defs (F := Ideal)) (onTc (τ := Cert.AdamGdnHeadsIdeal.τ) (Cert.AdamGdnHeadsIdeal.main (F := Ideal))) ⟨m, fun _ => 0, g⟩ (fun r => ∀ c : Dev Cert.AdamGdnHeadsIdeal.nD,
          r.2.mem ((c.tc : Thread Cert.AdamGdnHeadsIdeal.nD Cert.AdamGdnHeadsIdeal.τ).loc Cert.AdamGdnHeadsIdeal.main_v3_0) = v0 c
          ∧ r.2.mem ((c.tc : Thread Cert.AdamGdnHeadsIdeal.nD Cert.AdamGdnHeadsIdeal.τ).loc Cert.AdamGdnHeadsIdeal.main_v3_1) = v1 c
          ∧ r.2.mem ((c.tc : Thread Cert.AdamGdnHeadsIdeal.nD Cert.AdamGdnHeadsIdeal.τ).loc Cert.AdamGdnHeadsIdeal.main_v3_2) = v2 c
          ∧ r.2.mem ((c.tc : Thread Cert.AdamGdnHeadsIdeal.nD Cert.AdamGdnHeadsIdeal.τ).loc Cert.AdamGdnHeadsIdeal.main_v3_3) = v3 c
          ∧ r.2.mem ((c.tc : Thread Cert.AdamGdnHeadsIdeal.nD Cert.AdamGdnHeadsIdeal.τ).loc Cert.AdamGdnHeadsIdeal.main_arg0) = m ((c.tc : Thread Cert.AdamGdnHeadsIdeal.nD Cert.AdamGdnHeadsIdeal.τ).loc Cert.AdamGdnHeadsIdeal.main_arg0)
          ∧ r.2.mem ((c.tc : Thread Cert.AdamGdnHeadsIdeal.nD Cert.AdamGdnHeadsIdeal.τ).loc Cert.AdamGdnHeadsIdeal.main_arg1) = m ((c.tc : Thread Cert.AdamGdnHeadsIdeal.nD Cert.AdamGdnHeadsIdeal.τ).loc Cert.AdamGdnHeadsIdeal.main_arg1)
          ∧ r.2.mem ((c.tc : Thread Cert.AdamGdnHeadsIdeal.nD Cert.AdamGdnHeadsIdeal.τ).loc Cert.AdamGdnHeadsIdeal.main_arg2) = m ((c.tc : Thread Cert.AdamGdnHeadsIdeal.nD Cert.AdamGdnHeadsIdeal.τ).loc Cert.AdamGdnHeadsIdeal.main_arg2)
          ∧ r.2.mem ((c.tc : Thread Cert.AdamGdnHeadsIdeal.nD Cert.AdamGdnHeadsIdeal.τ).loc Cert.AdamGdnHeadsIdeal.main_arg3) = m ((c.tc : Thread Cert.AdamGdnHeadsIdeal.nD Cert.AdamGdnHeadsIdeal.τ).loc Cert.AdamGdnHeadsIdeal.main_arg3))
      ∧ θ_run (Cert.AdamGdnHeadsRefIdeal.defs (F := Ideal)) (onTc (τ := Cert.AdamGdnHeadsRefIdeal.τ) (Cert.AdamGdnHeadsRefIdeal.main (F := Ideal))) ⟨m', fun _ => 0, g'⟩ (fun r => ∀ c : Dev Cert.AdamGdnHeadsRefIdeal.nD,
          r.2.mem ((c.tc : Thread Cert.AdamGdnHeadsRefIdeal.nD Cert.AdamGdnHeadsRefIdeal.τ).loc Cert.AdamGdnHeadsRefIdeal.main_v24) = v0 c
          ∧ r.2.mem ((c.tc : Thread Cert.AdamGdnHeadsRefIdeal.nD Cert.AdamGdnHeadsRefIdeal.τ).loc Cert.AdamGdnHeadsRefIdeal.main_v25) = v1 c
          ∧ r.2.mem ((c.tc : Thread Cert.AdamGdnHeadsRefIdeal.nD Cert.AdamGdnHeadsRefIdeal.τ).loc Cert.AdamGdnHeadsRefIdeal.main_v26) = v2 c
          ∧ r.2.mem ((c.tc : Thread Cert.AdamGdnHeadsRefIdeal.nD Cert.AdamGdnHeadsRefIdeal.τ).loc Cert.AdamGdnHeadsRefIdeal.main_v27) = v3 c
          ∧ r.2.mem ((c.tc : Thread Cert.AdamGdnHeadsRefIdeal.nD Cert.AdamGdnHeadsRefIdeal.τ).loc Cert.AdamGdnHeadsRefIdeal.main_arg0) = m' ((c.tc : Thread Cert.AdamGdnHeadsRefIdeal.nD Cert.AdamGdnHeadsRefIdeal.τ).loc Cert.AdamGdnHeadsRefIdeal.main_arg0)
          ∧ r.2.mem ((c.tc : Thread Cert.AdamGdnHeadsRefIdeal.nD Cert.AdamGdnHeadsRefIdeal.τ).loc Cert.AdamGdnHeadsRefIdeal.main_arg1) = m' ((c.tc : Thread Cert.AdamGdnHeadsRefIdeal.nD Cert.AdamGdnHeadsRefIdeal.τ).loc Cert.AdamGdnHeadsRefIdeal.main_arg1)
          ∧ r.2.mem ((c.tc : Thread Cert.AdamGdnHeadsRefIdeal.nD Cert.AdamGdnHeadsRefIdeal.τ).loc Cert.AdamGdnHeadsRefIdeal.main_arg2) = m' ((c.tc : Thread Cert.AdamGdnHeadsRefIdeal.nD Cert.AdamGdnHeadsRefIdeal.τ).loc Cert.AdamGdnHeadsRefIdeal.main_arg2)
          ∧ r.2.mem ((c.tc : Thread Cert.AdamGdnHeadsRefIdeal.nD Cert.AdamGdnHeadsRefIdeal.τ).loc Cert.AdamGdnHeadsRefIdeal.main_arg3) = m' ((c.tc : Thread Cert.AdamGdnHeadsRefIdeal.nD Cert.AdamGdnHeadsRefIdeal.τ).loc Cert.AdamGdnHeadsRefIdeal.main_arg3))

def preserves_AdamGdnNorm_AdamGdnNormIdeal : Prop :=
  True

def algebraic_AdamGdnNormIdeal_AdamGdnNormRefIdeal [hAdamGdnNormIdeal : Cert.AdamGdnNormIdeal.Facts] [hAdamGdnNormRefIdeal : Cert.AdamGdnNormRefIdeal.Facts] : Prop :=
  ∀ (m : (ℓ : Loc Cert.AdamGdnNormIdeal.nD Cert.AdamGdnNormIdeal.τ Cert.AdamGdnNormIdeal.sig) → Buf (Elt Ideal) ℓ) (g : Dev Cert.AdamGdnNormIdeal.nD → PrngReg)
    (m' : (ℓ : Loc Cert.AdamGdnNormRefIdeal.nD Cert.AdamGdnNormRefIdeal.τ Cert.AdamGdnNormRefIdeal.sig) → Buf (Elt Ideal) ℓ) (g' : Dev Cert.AdamGdnNormRefIdeal.nD → PrngReg), Pre_AdamGdnNormIdeal m →
    (∀ c : Dev Cert.AdamGdnNormIdeal.nD,
      m' ((c.tc : Thread Cert.AdamGdnNormRefIdeal.nD Cert.AdamGdnNormRefIdeal.τ).loc Cert.AdamGdnNormRefIdeal.main_arg0) = m ((c.tc : Thread Cert.AdamGdnNormIdeal.nD Cert.AdamGdnNormIdeal.τ).loc Cert.AdamGdnNormIdeal.main_arg0)
      ∧ m' ((c.tc : Thread Cert.AdamGdnNormRefIdeal.nD Cert.AdamGdnNormRefIdeal.τ).loc Cert.AdamGdnNormRefIdeal.main_arg1) = m ((c.tc : Thread Cert.AdamGdnNormIdeal.nD Cert.AdamGdnNormIdeal.τ).loc Cert.AdamGdnNormIdeal.main_arg1)
      ∧ m' ((c.tc : Thread Cert.AdamGdnNormRefIdeal.nD Cert.AdamGdnNormRefIdeal.τ).loc Cert.AdamGdnNormRefIdeal.main_arg2) = m ((c.tc : Thread Cert.AdamGdnNormIdeal.nD Cert.AdamGdnNormIdeal.τ).loc Cert.AdamGdnNormIdeal.main_arg2)
      ∧ m' ((c.tc : Thread Cert.AdamGdnNormRefIdeal.nD Cert.AdamGdnNormRefIdeal.τ).loc Cert.AdamGdnNormRefIdeal.main_arg3) = m ((c.tc : Thread Cert.AdamGdnNormIdeal.nD Cert.AdamGdnNormIdeal.τ).loc Cert.AdamGdnNormIdeal.main_arg3)) →
    ∃ (v0 : (c : Dev Cert.AdamGdnNormIdeal.nD) → Buf (Elt Ideal) ((c.tc : Thread Cert.AdamGdnNormIdeal.nD Cert.AdamGdnNormIdeal.τ).loc Cert.AdamGdnNormIdeal.main_v3_0)) (v1 : (c : Dev Cert.AdamGdnNormIdeal.nD) → Buf (Elt Ideal) ((c.tc : Thread Cert.AdamGdnNormIdeal.nD Cert.AdamGdnNormIdeal.τ).loc Cert.AdamGdnNormIdeal.main_v3_1)) (v2 : (c : Dev Cert.AdamGdnNormIdeal.nD) → Buf (Elt Ideal) ((c.tc : Thread Cert.AdamGdnNormIdeal.nD Cert.AdamGdnNormIdeal.τ).loc Cert.AdamGdnNormIdeal.main_v3_2)) (v3 : (c : Dev Cert.AdamGdnNormIdeal.nD) → Buf (Elt Ideal) ((c.tc : Thread Cert.AdamGdnNormIdeal.nD Cert.AdamGdnNormIdeal.τ).loc Cert.AdamGdnNormIdeal.main_v3_3)),
      θ_run (Cert.AdamGdnNormIdeal.defs (F := Ideal)) (onTc (τ := Cert.AdamGdnNormIdeal.τ) (Cert.AdamGdnNormIdeal.main (F := Ideal))) ⟨m, fun _ => 0, g⟩ (fun r => ∀ c : Dev Cert.AdamGdnNormIdeal.nD,
          r.2.mem ((c.tc : Thread Cert.AdamGdnNormIdeal.nD Cert.AdamGdnNormIdeal.τ).loc Cert.AdamGdnNormIdeal.main_v3_0) = v0 c
          ∧ r.2.mem ((c.tc : Thread Cert.AdamGdnNormIdeal.nD Cert.AdamGdnNormIdeal.τ).loc Cert.AdamGdnNormIdeal.main_v3_1) = v1 c
          ∧ r.2.mem ((c.tc : Thread Cert.AdamGdnNormIdeal.nD Cert.AdamGdnNormIdeal.τ).loc Cert.AdamGdnNormIdeal.main_v3_2) = v2 c
          ∧ r.2.mem ((c.tc : Thread Cert.AdamGdnNormIdeal.nD Cert.AdamGdnNormIdeal.τ).loc Cert.AdamGdnNormIdeal.main_v3_3) = v3 c
          ∧ r.2.mem ((c.tc : Thread Cert.AdamGdnNormIdeal.nD Cert.AdamGdnNormIdeal.τ).loc Cert.AdamGdnNormIdeal.main_arg0) = m ((c.tc : Thread Cert.AdamGdnNormIdeal.nD Cert.AdamGdnNormIdeal.τ).loc Cert.AdamGdnNormIdeal.main_arg0)
          ∧ r.2.mem ((c.tc : Thread Cert.AdamGdnNormIdeal.nD Cert.AdamGdnNormIdeal.τ).loc Cert.AdamGdnNormIdeal.main_arg1) = m ((c.tc : Thread Cert.AdamGdnNormIdeal.nD Cert.AdamGdnNormIdeal.τ).loc Cert.AdamGdnNormIdeal.main_arg1)
          ∧ r.2.mem ((c.tc : Thread Cert.AdamGdnNormIdeal.nD Cert.AdamGdnNormIdeal.τ).loc Cert.AdamGdnNormIdeal.main_arg2) = m ((c.tc : Thread Cert.AdamGdnNormIdeal.nD Cert.AdamGdnNormIdeal.τ).loc Cert.AdamGdnNormIdeal.main_arg2)
          ∧ r.2.mem ((c.tc : Thread Cert.AdamGdnNormIdeal.nD Cert.AdamGdnNormIdeal.τ).loc Cert.AdamGdnNormIdeal.main_arg3) = m ((c.tc : Thread Cert.AdamGdnNormIdeal.nD Cert.AdamGdnNormIdeal.τ).loc Cert.AdamGdnNormIdeal.main_arg3))
      ∧ θ_run (Cert.AdamGdnNormRefIdeal.defs (F := Ideal)) (onTc (τ := Cert.AdamGdnNormRefIdeal.τ) (Cert.AdamGdnNormRefIdeal.main (F := Ideal))) ⟨m', fun _ => 0, g'⟩ (fun r => ∀ c : Dev Cert.AdamGdnNormRefIdeal.nD,
          r.2.mem ((c.tc : Thread Cert.AdamGdnNormRefIdeal.nD Cert.AdamGdnNormRefIdeal.τ).loc Cert.AdamGdnNormRefIdeal.main_v24) = v0 c
          ∧ r.2.mem ((c.tc : Thread Cert.AdamGdnNormRefIdeal.nD Cert.AdamGdnNormRefIdeal.τ).loc Cert.AdamGdnNormRefIdeal.main_v25) = v1 c
          ∧ r.2.mem ((c.tc : Thread Cert.AdamGdnNormRefIdeal.nD Cert.AdamGdnNormRefIdeal.τ).loc Cert.AdamGdnNormRefIdeal.main_v26) = v2 c
          ∧ r.2.mem ((c.tc : Thread Cert.AdamGdnNormRefIdeal.nD Cert.AdamGdnNormRefIdeal.τ).loc Cert.AdamGdnNormRefIdeal.main_v27) = v3 c
          ∧ r.2.mem ((c.tc : Thread Cert.AdamGdnNormRefIdeal.nD Cert.AdamGdnNormRefIdeal.τ).loc Cert.AdamGdnNormRefIdeal.main_arg0) = m' ((c.tc : Thread Cert.AdamGdnNormRefIdeal.nD Cert.AdamGdnNormRefIdeal.τ).loc Cert.AdamGdnNormRefIdeal.main_arg0)
          ∧ r.2.mem ((c.tc : Thread Cert.AdamGdnNormRefIdeal.nD Cert.AdamGdnNormRefIdeal.τ).loc Cert.AdamGdnNormRefIdeal.main_arg1) = m' ((c.tc : Thread Cert.AdamGdnNormRefIdeal.nD Cert.AdamGdnNormRefIdeal.τ).loc Cert.AdamGdnNormRefIdeal.main_arg1)
          ∧ r.2.mem ((c.tc : Thread Cert.AdamGdnNormRefIdeal.nD Cert.AdamGdnNormRefIdeal.τ).loc Cert.AdamGdnNormRefIdeal.main_arg2) = m' ((c.tc : Thread Cert.AdamGdnNormRefIdeal.nD Cert.AdamGdnNormRefIdeal.τ).loc Cert.AdamGdnNormRefIdeal.main_arg2)
          ∧ r.2.mem ((c.tc : Thread Cert.AdamGdnNormRefIdeal.nD Cert.AdamGdnNormRefIdeal.τ).loc Cert.AdamGdnNormRefIdeal.main_arg3) = m' ((c.tc : Thread Cert.AdamGdnNormRefIdeal.nD Cert.AdamGdnNormRefIdeal.τ).loc Cert.AdamGdnNormRefIdeal.main_arg3))

def preserves_AdamFinal_AdamFinalIdeal : Prop :=
  True

def algebraic_AdamFinalIdeal_AdamFinalRefIdeal [hAdamFinalIdeal : Cert.AdamFinalIdeal.Facts] [hAdamFinalRefIdeal : Cert.AdamFinalRefIdeal.Facts] : Prop :=
  ∀ (m : (ℓ : Loc Cert.AdamFinalIdeal.nD Cert.AdamFinalIdeal.τ Cert.AdamFinalIdeal.sig) → Buf (Elt Ideal) ℓ) (g : Dev Cert.AdamFinalIdeal.nD → PrngReg)
    (m' : (ℓ : Loc Cert.AdamFinalRefIdeal.nD Cert.AdamFinalRefIdeal.τ Cert.AdamFinalRefIdeal.sig) → Buf (Elt Ideal) ℓ) (g' : Dev Cert.AdamFinalRefIdeal.nD → PrngReg), Pre_AdamFinalIdeal m →
    (∀ c : Dev Cert.AdamFinalIdeal.nD,
      m' ((c.tc : Thread Cert.AdamFinalRefIdeal.nD Cert.AdamFinalRefIdeal.τ).loc Cert.AdamFinalRefIdeal.main_arg0) = m ((c.tc : Thread Cert.AdamFinalIdeal.nD Cert.AdamFinalIdeal.τ).loc Cert.AdamFinalIdeal.main_arg0)
      ∧ m' ((c.tc : Thread Cert.AdamFinalRefIdeal.nD Cert.AdamFinalRefIdeal.τ).loc Cert.AdamFinalRefIdeal.main_arg1) = m ((c.tc : Thread Cert.AdamFinalIdeal.nD Cert.AdamFinalIdeal.τ).loc Cert.AdamFinalIdeal.main_arg1)
      ∧ m' ((c.tc : Thread Cert.AdamFinalRefIdeal.nD Cert.AdamFinalRefIdeal.τ).loc Cert.AdamFinalRefIdeal.main_arg2) = m ((c.tc : Thread Cert.AdamFinalIdeal.nD Cert.AdamFinalIdeal.τ).loc Cert.AdamFinalIdeal.main_arg2)
      ∧ m' ((c.tc : Thread Cert.AdamFinalRefIdeal.nD Cert.AdamFinalRefIdeal.τ).loc Cert.AdamFinalRefIdeal.main_arg3) = m ((c.tc : Thread Cert.AdamFinalIdeal.nD Cert.AdamFinalIdeal.τ).loc Cert.AdamFinalIdeal.main_arg3)) →
    ∃ (v0 : (c : Dev Cert.AdamFinalIdeal.nD) → Buf (Elt Ideal) ((c.tc : Thread Cert.AdamFinalIdeal.nD Cert.AdamFinalIdeal.τ).loc Cert.AdamFinalIdeal.main_v4_0)) (v1 : (c : Dev Cert.AdamFinalIdeal.nD) → Buf (Elt Ideal) ((c.tc : Thread Cert.AdamFinalIdeal.nD Cert.AdamFinalIdeal.τ).loc Cert.AdamFinalIdeal.main_v4_1)) (v2 : (c : Dev Cert.AdamFinalIdeal.nD) → Buf (Elt Ideal) ((c.tc : Thread Cert.AdamFinalIdeal.nD Cert.AdamFinalIdeal.τ).loc Cert.AdamFinalIdeal.main_v4_2)) (v3 : (c : Dev Cert.AdamFinalIdeal.nD) → Buf (Elt Ideal) ((c.tc : Thread Cert.AdamFinalIdeal.nD Cert.AdamFinalIdeal.τ).loc Cert.AdamFinalIdeal.main_v4_3)),
      θ_run (Cert.AdamFinalIdeal.defs (F := Ideal)) (onTc (τ := Cert.AdamFinalIdeal.τ) (Cert.AdamFinalIdeal.main (F := Ideal))) ⟨m, fun _ => 0, g⟩ (fun r => ∀ c : Dev Cert.AdamFinalIdeal.nD,
          r.2.mem ((c.tc : Thread Cert.AdamFinalIdeal.nD Cert.AdamFinalIdeal.τ).loc Cert.AdamFinalIdeal.main_v4_0) = v0 c
          ∧ r.2.mem ((c.tc : Thread Cert.AdamFinalIdeal.nD Cert.AdamFinalIdeal.τ).loc Cert.AdamFinalIdeal.main_v4_1) = v1 c
          ∧ r.2.mem ((c.tc : Thread Cert.AdamFinalIdeal.nD Cert.AdamFinalIdeal.τ).loc Cert.AdamFinalIdeal.main_v4_2) = v2 c
          ∧ r.2.mem ((c.tc : Thread Cert.AdamFinalIdeal.nD Cert.AdamFinalIdeal.τ).loc Cert.AdamFinalIdeal.main_v4_3) = v3 c
          ∧ r.2.mem ((c.tc : Thread Cert.AdamFinalIdeal.nD Cert.AdamFinalIdeal.τ).loc Cert.AdamFinalIdeal.main_arg0) = m ((c.tc : Thread Cert.AdamFinalIdeal.nD Cert.AdamFinalIdeal.τ).loc Cert.AdamFinalIdeal.main_arg0)
          ∧ r.2.mem ((c.tc : Thread Cert.AdamFinalIdeal.nD Cert.AdamFinalIdeal.τ).loc Cert.AdamFinalIdeal.main_arg1) = m ((c.tc : Thread Cert.AdamFinalIdeal.nD Cert.AdamFinalIdeal.τ).loc Cert.AdamFinalIdeal.main_arg1)
          ∧ r.2.mem ((c.tc : Thread Cert.AdamFinalIdeal.nD Cert.AdamFinalIdeal.τ).loc Cert.AdamFinalIdeal.main_arg2) = m ((c.tc : Thread Cert.AdamFinalIdeal.nD Cert.AdamFinalIdeal.τ).loc Cert.AdamFinalIdeal.main_arg2)
          ∧ r.2.mem ((c.tc : Thread Cert.AdamFinalIdeal.nD Cert.AdamFinalIdeal.τ).loc Cert.AdamFinalIdeal.main_arg3) = m ((c.tc : Thread Cert.AdamFinalIdeal.nD Cert.AdamFinalIdeal.τ).loc Cert.AdamFinalIdeal.main_arg3))
      ∧ θ_run (Cert.AdamFinalRefIdeal.defs (F := Ideal)) (onTc (τ := Cert.AdamFinalRefIdeal.τ) (Cert.AdamFinalRefIdeal.main (F := Ideal))) ⟨m', fun _ => 0, g'⟩ (fun r => ∀ c : Dev Cert.AdamFinalRefIdeal.nD,
          r.2.mem ((c.tc : Thread Cert.AdamFinalRefIdeal.nD Cert.AdamFinalRefIdeal.τ).loc Cert.AdamFinalRefIdeal.main_v24) = v0 c
          ∧ r.2.mem ((c.tc : Thread Cert.AdamFinalRefIdeal.nD Cert.AdamFinalRefIdeal.τ).loc Cert.AdamFinalRefIdeal.main_v25) = v1 c
          ∧ r.2.mem ((c.tc : Thread Cert.AdamFinalRefIdeal.nD Cert.AdamFinalRefIdeal.τ).loc Cert.AdamFinalRefIdeal.main_v26) = v2 c
          ∧ r.2.mem ((c.tc : Thread Cert.AdamFinalRefIdeal.nD Cert.AdamFinalRefIdeal.τ).loc Cert.AdamFinalRefIdeal.main_v27) = v3 c
          ∧ r.2.mem ((c.tc : Thread Cert.AdamFinalRefIdeal.nD Cert.AdamFinalRefIdeal.τ).loc Cert.AdamFinalRefIdeal.main_arg0) = m' ((c.tc : Thread Cert.AdamFinalRefIdeal.nD Cert.AdamFinalRefIdeal.τ).loc Cert.AdamFinalRefIdeal.main_arg0)
          ∧ r.2.mem ((c.tc : Thread Cert.AdamFinalRefIdeal.nD Cert.AdamFinalRefIdeal.τ).loc Cert.AdamFinalRefIdeal.main_arg1) = m' ((c.tc : Thread Cert.AdamFinalRefIdeal.nD Cert.AdamFinalRefIdeal.τ).loc Cert.AdamFinalRefIdeal.main_arg1)
          ∧ r.2.mem ((c.tc : Thread Cert.AdamFinalRefIdeal.nD Cert.AdamFinalRefIdeal.τ).loc Cert.AdamFinalRefIdeal.main_arg2) = m' ((c.tc : Thread Cert.AdamFinalRefIdeal.nD Cert.AdamFinalRefIdeal.τ).loc Cert.AdamFinalRefIdeal.main_arg2)
          ∧ r.2.mem ((c.tc : Thread Cert.AdamFinalRefIdeal.nD Cert.AdamFinalRefIdeal.τ).loc Cert.AdamFinalRefIdeal.main_arg3) = m' ((c.tc : Thread Cert.AdamFinalRefIdeal.nD Cert.AdamFinalRefIdeal.τ).loc Cert.AdamFinalRefIdeal.main_arg3))

def preserves_AdamConvSsm_AdamConvSsmIdeal : Prop :=
  True

def algebraic_AdamConvSsmIdeal_AdamConvSsmRefIdeal [hAdamConvSsmIdeal : Cert.AdamConvSsmIdeal.Facts] [hAdamConvSsmRefIdeal : Cert.AdamConvSsmRefIdeal.Facts] : Prop :=
  ∀ (m : (ℓ : Loc Cert.AdamConvSsmIdeal.nD Cert.AdamConvSsmIdeal.τ Cert.AdamConvSsmIdeal.sig) → Buf (Elt Ideal) ℓ) (g : Dev Cert.AdamConvSsmIdeal.nD → PrngReg)
    (m' : (ℓ : Loc Cert.AdamConvSsmRefIdeal.nD Cert.AdamConvSsmRefIdeal.τ Cert.AdamConvSsmRefIdeal.sig) → Buf (Elt Ideal) ℓ) (g' : Dev Cert.AdamConvSsmRefIdeal.nD → PrngReg), Pre_AdamConvSsmIdeal m →
    (∀ c : Dev Cert.AdamConvSsmIdeal.nD,
      m' ((c.tc : Thread Cert.AdamConvSsmRefIdeal.nD Cert.AdamConvSsmRefIdeal.τ).loc Cert.AdamConvSsmRefIdeal.main_arg0) = m ((c.tc : Thread Cert.AdamConvSsmIdeal.nD Cert.AdamConvSsmIdeal.τ).loc Cert.AdamConvSsmIdeal.main_arg0)
      ∧ m' ((c.tc : Thread Cert.AdamConvSsmRefIdeal.nD Cert.AdamConvSsmRefIdeal.τ).loc Cert.AdamConvSsmRefIdeal.main_arg1) = m ((c.tc : Thread Cert.AdamConvSsmIdeal.nD Cert.AdamConvSsmIdeal.τ).loc Cert.AdamConvSsmIdeal.main_arg1)
      ∧ m' ((c.tc : Thread Cert.AdamConvSsmRefIdeal.nD Cert.AdamConvSsmRefIdeal.τ).loc Cert.AdamConvSsmRefIdeal.main_arg2) = m ((c.tc : Thread Cert.AdamConvSsmIdeal.nD Cert.AdamConvSsmIdeal.τ).loc Cert.AdamConvSsmIdeal.main_arg2)
      ∧ m' ((c.tc : Thread Cert.AdamConvSsmRefIdeal.nD Cert.AdamConvSsmRefIdeal.τ).loc Cert.AdamConvSsmRefIdeal.main_arg3) = m ((c.tc : Thread Cert.AdamConvSsmIdeal.nD Cert.AdamConvSsmIdeal.τ).loc Cert.AdamConvSsmIdeal.main_arg3)
      ∧ m' ((c.tc : Thread Cert.AdamConvSsmRefIdeal.nD Cert.AdamConvSsmRefIdeal.τ).loc Cert.AdamConvSsmRefIdeal.main_arg4) = m ((c.tc : Thread Cert.AdamConvSsmIdeal.nD Cert.AdamConvSsmIdeal.τ).loc Cert.AdamConvSsmIdeal.main_arg4)) →
    ∃ (v0 : (c : Dev Cert.AdamConvSsmIdeal.nD) → Buf (Elt Ideal) ((c.tc : Thread Cert.AdamConvSsmIdeal.nD Cert.AdamConvSsmIdeal.τ).loc Cert.AdamConvSsmIdeal.main_v0_0)) (v1 : (c : Dev Cert.AdamConvSsmIdeal.nD) → Buf (Elt Ideal) ((c.tc : Thread Cert.AdamConvSsmIdeal.nD Cert.AdamConvSsmIdeal.τ).loc Cert.AdamConvSsmIdeal.main_v0_1)) (v2 : (c : Dev Cert.AdamConvSsmIdeal.nD) → Buf (Elt Ideal) ((c.tc : Thread Cert.AdamConvSsmIdeal.nD Cert.AdamConvSsmIdeal.τ).loc Cert.AdamConvSsmIdeal.main_v0_2)) (v3 : (c : Dev Cert.AdamConvSsmIdeal.nD) → Buf (Elt Ideal) ((c.tc : Thread Cert.AdamConvSsmIdeal.nD Cert.AdamConvSsmIdeal.τ).loc Cert.AdamConvSsmIdeal.main_v0_3)),
      θ_run (Cert.AdamConvSsmIdeal.defs (F := Ideal)) (onTc (τ := Cert.AdamConvSsmIdeal.τ) (Cert.AdamConvSsmIdeal.main (F := Ideal))) ⟨m, fun _ => 0, g⟩ (fun r => ∀ c : Dev Cert.AdamConvSsmIdeal.nD,
          r.2.mem ((c.tc : Thread Cert.AdamConvSsmIdeal.nD Cert.AdamConvSsmIdeal.τ).loc Cert.AdamConvSsmIdeal.main_v0_0) = v0 c
          ∧ r.2.mem ((c.tc : Thread Cert.AdamConvSsmIdeal.nD Cert.AdamConvSsmIdeal.τ).loc Cert.AdamConvSsmIdeal.main_v0_1) = v1 c
          ∧ r.2.mem ((c.tc : Thread Cert.AdamConvSsmIdeal.nD Cert.AdamConvSsmIdeal.τ).loc Cert.AdamConvSsmIdeal.main_v0_2) = v2 c
          ∧ r.2.mem ((c.tc : Thread Cert.AdamConvSsmIdeal.nD Cert.AdamConvSsmIdeal.τ).loc Cert.AdamConvSsmIdeal.main_v0_3) = v3 c
          ∧ r.2.mem ((c.tc : Thread Cert.AdamConvSsmIdeal.nD Cert.AdamConvSsmIdeal.τ).loc Cert.AdamConvSsmIdeal.main_arg0) = m ((c.tc : Thread Cert.AdamConvSsmIdeal.nD Cert.AdamConvSsmIdeal.τ).loc Cert.AdamConvSsmIdeal.main_arg0)
          ∧ r.2.mem ((c.tc : Thread Cert.AdamConvSsmIdeal.nD Cert.AdamConvSsmIdeal.τ).loc Cert.AdamConvSsmIdeal.main_arg1) = m ((c.tc : Thread Cert.AdamConvSsmIdeal.nD Cert.AdamConvSsmIdeal.τ).loc Cert.AdamConvSsmIdeal.main_arg1)
          ∧ r.2.mem ((c.tc : Thread Cert.AdamConvSsmIdeal.nD Cert.AdamConvSsmIdeal.τ).loc Cert.AdamConvSsmIdeal.main_arg2) = m ((c.tc : Thread Cert.AdamConvSsmIdeal.nD Cert.AdamConvSsmIdeal.τ).loc Cert.AdamConvSsmIdeal.main_arg2)
          ∧ r.2.mem ((c.tc : Thread Cert.AdamConvSsmIdeal.nD Cert.AdamConvSsmIdeal.τ).loc Cert.AdamConvSsmIdeal.main_arg3) = m ((c.tc : Thread Cert.AdamConvSsmIdeal.nD Cert.AdamConvSsmIdeal.τ).loc Cert.AdamConvSsmIdeal.main_arg3)
          ∧ r.2.mem ((c.tc : Thread Cert.AdamConvSsmIdeal.nD Cert.AdamConvSsmIdeal.τ).loc Cert.AdamConvSsmIdeal.main_arg4) = m ((c.tc : Thread Cert.AdamConvSsmIdeal.nD Cert.AdamConvSsmIdeal.τ).loc Cert.AdamConvSsmIdeal.main_arg4))
      ∧ θ_run (Cert.AdamConvSsmRefIdeal.defs (F := Ideal)) (onTc (τ := Cert.AdamConvSsmRefIdeal.τ) (Cert.AdamConvSsmRefIdeal.main (F := Ideal))) ⟨m', fun _ => 0, g'⟩ (fun r => ∀ c : Dev Cert.AdamConvSsmRefIdeal.nD,
          r.2.mem ((c.tc : Thread Cert.AdamConvSsmRefIdeal.nD Cert.AdamConvSsmRefIdeal.τ).loc Cert.AdamConvSsmRefIdeal.main_v2) = v0 c
          ∧ r.2.mem ((c.tc : Thread Cert.AdamConvSsmRefIdeal.nD Cert.AdamConvSsmRefIdeal.τ).loc Cert.AdamConvSsmRefIdeal.main_v26) = v1 c
          ∧ r.2.mem ((c.tc : Thread Cert.AdamConvSsmRefIdeal.nD Cert.AdamConvSsmRefIdeal.τ).loc Cert.AdamConvSsmRefIdeal.main_v7) = v2 c
          ∧ r.2.mem ((c.tc : Thread Cert.AdamConvSsmRefIdeal.nD Cert.AdamConvSsmRefIdeal.τ).loc Cert.AdamConvSsmRefIdeal.main_v13) = v3 c
          ∧ r.2.mem ((c.tc : Thread Cert.AdamConvSsmRefIdeal.nD Cert.AdamConvSsmRefIdeal.τ).loc Cert.AdamConvSsmRefIdeal.main_arg0) = m' ((c.tc : Thread Cert.AdamConvSsmRefIdeal.nD Cert.AdamConvSsmRefIdeal.τ).loc Cert.AdamConvSsmRefIdeal.main_arg0)
          ∧ r.2.mem ((c.tc : Thread Cert.AdamConvSsmRefIdeal.nD Cert.AdamConvSsmRefIdeal.τ).loc Cert.AdamConvSsmRefIdeal.main_arg1) = m' ((c.tc : Thread Cert.AdamConvSsmRefIdeal.nD Cert.AdamConvSsmRefIdeal.τ).loc Cert.AdamConvSsmRefIdeal.main_arg1)
          ∧ r.2.mem ((c.tc : Thread Cert.AdamConvSsmRefIdeal.nD Cert.AdamConvSsmRefIdeal.τ).loc Cert.AdamConvSsmRefIdeal.main_arg2) = m' ((c.tc : Thread Cert.AdamConvSsmRefIdeal.nD Cert.AdamConvSsmRefIdeal.τ).loc Cert.AdamConvSsmRefIdeal.main_arg2)
          ∧ r.2.mem ((c.tc : Thread Cert.AdamConvSsmRefIdeal.nD Cert.AdamConvSsmRefIdeal.τ).loc Cert.AdamConvSsmRefIdeal.main_arg3) = m' ((c.tc : Thread Cert.AdamConvSsmRefIdeal.nD Cert.AdamConvSsmRefIdeal.τ).loc Cert.AdamConvSsmRefIdeal.main_arg3)
          ∧ r.2.mem ((c.tc : Thread Cert.AdamConvSsmRefIdeal.nD Cert.AdamConvSsmRefIdeal.τ).loc Cert.AdamConvSsmRefIdeal.main_arg4) = m' ((c.tc : Thread Cert.AdamConvSsmRefIdeal.nD Cert.AdamConvSsmRefIdeal.τ).loc Cert.AdamConvSsmRefIdeal.main_arg4))

def preserves_AdamConvGdn_AdamConvGdnIdeal : Prop :=
  True

def algebraic_AdamConvGdnIdeal_AdamConvGdnRefIdeal [hAdamConvGdnIdeal : Cert.AdamConvGdnIdeal.Facts] [hAdamConvGdnRefIdeal : Cert.AdamConvGdnRefIdeal.Facts] : Prop :=
  ∀ (m : (ℓ : Loc Cert.AdamConvGdnIdeal.nD Cert.AdamConvGdnIdeal.τ Cert.AdamConvGdnIdeal.sig) → Buf (Elt Ideal) ℓ) (g : Dev Cert.AdamConvGdnIdeal.nD → PrngReg)
    (m' : (ℓ : Loc Cert.AdamConvGdnRefIdeal.nD Cert.AdamConvGdnRefIdeal.τ Cert.AdamConvGdnRefIdeal.sig) → Buf (Elt Ideal) ℓ) (g' : Dev Cert.AdamConvGdnRefIdeal.nD → PrngReg), Pre_AdamConvGdnIdeal m →
    (∀ c : Dev Cert.AdamConvGdnIdeal.nD,
      m' ((c.tc : Thread Cert.AdamConvGdnRefIdeal.nD Cert.AdamConvGdnRefIdeal.τ).loc Cert.AdamConvGdnRefIdeal.main_arg0) = m ((c.tc : Thread Cert.AdamConvGdnIdeal.nD Cert.AdamConvGdnIdeal.τ).loc Cert.AdamConvGdnIdeal.main_arg0)
      ∧ m' ((c.tc : Thread Cert.AdamConvGdnRefIdeal.nD Cert.AdamConvGdnRefIdeal.τ).loc Cert.AdamConvGdnRefIdeal.main_arg1) = m ((c.tc : Thread Cert.AdamConvGdnIdeal.nD Cert.AdamConvGdnIdeal.τ).loc Cert.AdamConvGdnIdeal.main_arg1)
      ∧ m' ((c.tc : Thread Cert.AdamConvGdnRefIdeal.nD Cert.AdamConvGdnRefIdeal.τ).loc Cert.AdamConvGdnRefIdeal.main_arg2) = m ((c.tc : Thread Cert.AdamConvGdnIdeal.nD Cert.AdamConvGdnIdeal.τ).loc Cert.AdamConvGdnIdeal.main_arg2)
      ∧ m' ((c.tc : Thread Cert.AdamConvGdnRefIdeal.nD Cert.AdamConvGdnRefIdeal.τ).loc Cert.AdamConvGdnRefIdeal.main_arg3) = m ((c.tc : Thread Cert.AdamConvGdnIdeal.nD Cert.AdamConvGdnIdeal.τ).loc Cert.AdamConvGdnIdeal.main_arg3)
      ∧ m' ((c.tc : Thread Cert.AdamConvGdnRefIdeal.nD Cert.AdamConvGdnRefIdeal.τ).loc Cert.AdamConvGdnRefIdeal.main_arg4) = m ((c.tc : Thread Cert.AdamConvGdnIdeal.nD Cert.AdamConvGdnIdeal.τ).loc Cert.AdamConvGdnIdeal.main_arg4)) →
    ∃ (v0 : (c : Dev Cert.AdamConvGdnIdeal.nD) → Buf (Elt Ideal) ((c.tc : Thread Cert.AdamConvGdnIdeal.nD Cert.AdamConvGdnIdeal.τ).loc Cert.AdamConvGdnIdeal.main_v0_0)) (v1 : (c : Dev Cert.AdamConvGdnIdeal.nD) → Buf (Elt Ideal) ((c.tc : Thread Cert.AdamConvGdnIdeal.nD Cert.AdamConvGdnIdeal.τ).loc Cert.AdamConvGdnIdeal.main_v0_1)) (v2 : (c : Dev Cert.AdamConvGdnIdeal.nD) → Buf (Elt Ideal) ((c.tc : Thread Cert.AdamConvGdnIdeal.nD Cert.AdamConvGdnIdeal.τ).loc Cert.AdamConvGdnIdeal.main_v0_2)) (v3 : (c : Dev Cert.AdamConvGdnIdeal.nD) → Buf (Elt Ideal) ((c.tc : Thread Cert.AdamConvGdnIdeal.nD Cert.AdamConvGdnIdeal.τ).loc Cert.AdamConvGdnIdeal.main_v0_3)),
      θ_run (Cert.AdamConvGdnIdeal.defs (F := Ideal)) (onTc (τ := Cert.AdamConvGdnIdeal.τ) (Cert.AdamConvGdnIdeal.main (F := Ideal))) ⟨m, fun _ => 0, g⟩ (fun r => ∀ c : Dev Cert.AdamConvGdnIdeal.nD,
          r.2.mem ((c.tc : Thread Cert.AdamConvGdnIdeal.nD Cert.AdamConvGdnIdeal.τ).loc Cert.AdamConvGdnIdeal.main_v0_0) = v0 c
          ∧ r.2.mem ((c.tc : Thread Cert.AdamConvGdnIdeal.nD Cert.AdamConvGdnIdeal.τ).loc Cert.AdamConvGdnIdeal.main_v0_1) = v1 c
          ∧ r.2.mem ((c.tc : Thread Cert.AdamConvGdnIdeal.nD Cert.AdamConvGdnIdeal.τ).loc Cert.AdamConvGdnIdeal.main_v0_2) = v2 c
          ∧ r.2.mem ((c.tc : Thread Cert.AdamConvGdnIdeal.nD Cert.AdamConvGdnIdeal.τ).loc Cert.AdamConvGdnIdeal.main_v0_3) = v3 c
          ∧ r.2.mem ((c.tc : Thread Cert.AdamConvGdnIdeal.nD Cert.AdamConvGdnIdeal.τ).loc Cert.AdamConvGdnIdeal.main_arg0) = m ((c.tc : Thread Cert.AdamConvGdnIdeal.nD Cert.AdamConvGdnIdeal.τ).loc Cert.AdamConvGdnIdeal.main_arg0)
          ∧ r.2.mem ((c.tc : Thread Cert.AdamConvGdnIdeal.nD Cert.AdamConvGdnIdeal.τ).loc Cert.AdamConvGdnIdeal.main_arg1) = m ((c.tc : Thread Cert.AdamConvGdnIdeal.nD Cert.AdamConvGdnIdeal.τ).loc Cert.AdamConvGdnIdeal.main_arg1)
          ∧ r.2.mem ((c.tc : Thread Cert.AdamConvGdnIdeal.nD Cert.AdamConvGdnIdeal.τ).loc Cert.AdamConvGdnIdeal.main_arg2) = m ((c.tc : Thread Cert.AdamConvGdnIdeal.nD Cert.AdamConvGdnIdeal.τ).loc Cert.AdamConvGdnIdeal.main_arg2)
          ∧ r.2.mem ((c.tc : Thread Cert.AdamConvGdnIdeal.nD Cert.AdamConvGdnIdeal.τ).loc Cert.AdamConvGdnIdeal.main_arg3) = m ((c.tc : Thread Cert.AdamConvGdnIdeal.nD Cert.AdamConvGdnIdeal.τ).loc Cert.AdamConvGdnIdeal.main_arg3)
          ∧ r.2.mem ((c.tc : Thread Cert.AdamConvGdnIdeal.nD Cert.AdamConvGdnIdeal.τ).loc Cert.AdamConvGdnIdeal.main_arg4) = m ((c.tc : Thread Cert.AdamConvGdnIdeal.nD Cert.AdamConvGdnIdeal.τ).loc Cert.AdamConvGdnIdeal.main_arg4))
      ∧ θ_run (Cert.AdamConvGdnRefIdeal.defs (F := Ideal)) (onTc (τ := Cert.AdamConvGdnRefIdeal.τ) (Cert.AdamConvGdnRefIdeal.main (F := Ideal))) ⟨m', fun _ => 0, g'⟩ (fun r => ∀ c : Dev Cert.AdamConvGdnRefIdeal.nD,
          r.2.mem ((c.tc : Thread Cert.AdamConvGdnRefIdeal.nD Cert.AdamConvGdnRefIdeal.τ).loc Cert.AdamConvGdnRefIdeal.main_v2) = v0 c
          ∧ r.2.mem ((c.tc : Thread Cert.AdamConvGdnRefIdeal.nD Cert.AdamConvGdnRefIdeal.τ).loc Cert.AdamConvGdnRefIdeal.main_v26) = v1 c
          ∧ r.2.mem ((c.tc : Thread Cert.AdamConvGdnRefIdeal.nD Cert.AdamConvGdnRefIdeal.τ).loc Cert.AdamConvGdnRefIdeal.main_v7) = v2 c
          ∧ r.2.mem ((c.tc : Thread Cert.AdamConvGdnRefIdeal.nD Cert.AdamConvGdnRefIdeal.τ).loc Cert.AdamConvGdnRefIdeal.main_v13) = v3 c
          ∧ r.2.mem ((c.tc : Thread Cert.AdamConvGdnRefIdeal.nD Cert.AdamConvGdnRefIdeal.τ).loc Cert.AdamConvGdnRefIdeal.main_arg0) = m' ((c.tc : Thread Cert.AdamConvGdnRefIdeal.nD Cert.AdamConvGdnRefIdeal.τ).loc Cert.AdamConvGdnRefIdeal.main_arg0)
          ∧ r.2.mem ((c.tc : Thread Cert.AdamConvGdnRefIdeal.nD Cert.AdamConvGdnRefIdeal.τ).loc Cert.AdamConvGdnRefIdeal.main_arg1) = m' ((c.tc : Thread Cert.AdamConvGdnRefIdeal.nD Cert.AdamConvGdnRefIdeal.τ).loc Cert.AdamConvGdnRefIdeal.main_arg1)
          ∧ r.2.mem ((c.tc : Thread Cert.AdamConvGdnRefIdeal.nD Cert.AdamConvGdnRefIdeal.τ).loc Cert.AdamConvGdnRefIdeal.main_arg2) = m' ((c.tc : Thread Cert.AdamConvGdnRefIdeal.nD Cert.AdamConvGdnRefIdeal.τ).loc Cert.AdamConvGdnRefIdeal.main_arg2)
          ∧ r.2.mem ((c.tc : Thread Cert.AdamConvGdnRefIdeal.nD Cert.AdamConvGdnRefIdeal.τ).loc Cert.AdamConvGdnRefIdeal.main_arg3) = m' ((c.tc : Thread Cert.AdamConvGdnRefIdeal.nD Cert.AdamConvGdnRefIdeal.τ).loc Cert.AdamConvGdnRefIdeal.main_arg3)
          ∧ r.2.mem ((c.tc : Thread Cert.AdamConvGdnRefIdeal.nD Cert.AdamConvGdnRefIdeal.τ).loc Cert.AdamConvGdnRefIdeal.main_arg4) = m' ((c.tc : Thread Cert.AdamConvGdnRefIdeal.nD Cert.AdamConvGdnRefIdeal.τ).loc Cert.AdamConvGdnRefIdeal.main_arg4))

def preserves_AdamSquare_AdamSquareIdeal : Prop :=
  True

def algebraic_AdamSquareIdeal_AdamSquareRefIdeal [hAdamSquareIdeal : Cert.AdamSquareIdeal.Facts] [hAdamSquareRefIdeal : Cert.AdamSquareRefIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)
      ∧ m' ((c.tc : Thread Cert.AdamSquareRefIdeal.nD Cert.AdamSquareRefIdeal.τ).loc Cert.AdamSquareRefIdeal.main_arg4) = m ((c.tc : Thread Cert.AdamSquareIdeal.nD Cert.AdamSquareIdeal.τ).loc Cert.AdamSquareIdeal.main_arg4)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)) (v3 : (c : Dev Cert.AdamSquareIdeal.nD) → Buf (Elt Ideal) ((c.tc : Thread Cert.AdamSquareIdeal.nD Cert.AdamSquareIdeal.τ).loc Cert.AdamSquareIdeal.main_v0_3)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_v0_3) = v3 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3)
          ∧ r.2.mem ((c.tc : Thread Cert.AdamSquareIdeal.nD Cert.AdamSquareIdeal.τ).loc Cert.AdamSquareIdeal.main_arg4) = m ((c.tc : Thread Cert.AdamSquareIdeal.nD Cert.AdamSquareIdeal.τ).loc Cert.AdamSquareIdeal.main_arg4))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_v2) = v0 c
          ∧ r.2.mem ((c.tc : Thread Cert.AdamSquareRefIdeal.nD Cert.AdamSquareRefIdeal.τ).loc Cert.AdamSquareRefIdeal.main_v26) = v1 c
          ∧ r.2.mem ((c.tc : Thread Cert.AdamSquareRefIdeal.nD Cert.AdamSquareRefIdeal.τ).loc Cert.AdamSquareRefIdeal.main_v7) = v2 c
          ∧ r.2.mem ((c.tc : Thread Cert.AdamSquareRefIdeal.nD Cert.AdamSquareRefIdeal.τ).loc Cert.AdamSquareRefIdeal.main_v13) = v3 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3)
          ∧ r.2.mem ((c.tc : Thread Cert.AdamSquareRefIdeal.nD Cert.AdamSquareRefIdeal.τ).loc Cert.AdamSquareRefIdeal.main_arg4) = m' ((c.tc : Thread Cert.AdamSquareRefIdeal.nD Cert.AdamSquareRefIdeal.τ).loc Cert.AdamSquareRefIdeal.main_arg4))

def preserves_AdamFfnDown_AdamFfnDownIdeal : Prop :=
  True

def algebraic_AdamFfnDownIdeal_AdamFfnDownRefIdeal [hAdamFfnDownIdeal : Cert.AdamFfnDownIdeal.Facts] [hAdamFfnDownRefIdeal : Cert.AdamFfnDownRefIdeal.Facts] : Prop :=
  ∀ (m : (ℓ : Loc Cert.AdamFfnDownIdeal.nD Cert.AdamFfnDownIdeal.τ Cert.AdamFfnDownIdeal.sig) → Buf (Elt Ideal) ℓ) (g : Dev Cert.AdamFfnDownIdeal.nD → PrngReg)
    (m' : (ℓ : Loc Cert.AdamFfnDownRefIdeal.nD Cert.AdamFfnDownRefIdeal.τ Cert.AdamFfnDownRefIdeal.sig) → Buf (Elt Ideal) ℓ) (g' : Dev Cert.AdamFfnDownRefIdeal.nD → PrngReg), Pre_AdamFfnDownIdeal m →
    (∀ c : Dev Cert.AdamFfnDownIdeal.nD,
      m' ((c.tc : Thread Cert.AdamFfnDownRefIdeal.nD Cert.AdamFfnDownRefIdeal.τ).loc Cert.AdamFfnDownRefIdeal.main_arg0) = m ((c.tc : Thread Cert.AdamFfnDownIdeal.nD Cert.AdamFfnDownIdeal.τ).loc Cert.AdamFfnDownIdeal.main_arg0)
      ∧ m' ((c.tc : Thread Cert.AdamFfnDownRefIdeal.nD Cert.AdamFfnDownRefIdeal.τ).loc Cert.AdamFfnDownRefIdeal.main_arg1) = m ((c.tc : Thread Cert.AdamFfnDownIdeal.nD Cert.AdamFfnDownIdeal.τ).loc Cert.AdamFfnDownIdeal.main_arg1)
      ∧ m' ((c.tc : Thread Cert.AdamFfnDownRefIdeal.nD Cert.AdamFfnDownRefIdeal.τ).loc Cert.AdamFfnDownRefIdeal.main_arg2) = m ((c.tc : Thread Cert.AdamFfnDownIdeal.nD Cert.AdamFfnDownIdeal.τ).loc Cert.AdamFfnDownIdeal.main_arg2)
      ∧ m' ((c.tc : Thread Cert.AdamFfnDownRefIdeal.nD Cert.AdamFfnDownRefIdeal.τ).loc Cert.AdamFfnDownRefIdeal.main_arg3) = m ((c.tc : Thread Cert.AdamFfnDownIdeal.nD Cert.AdamFfnDownIdeal.τ).loc Cert.AdamFfnDownIdeal.main_arg3)
      ∧ m' ((c.tc : Thread Cert.AdamFfnDownRefIdeal.nD Cert.AdamFfnDownRefIdeal.τ).loc Cert.AdamFfnDownRefIdeal.main_arg4) = m ((c.tc : Thread Cert.AdamFfnDownIdeal.nD Cert.AdamFfnDownIdeal.τ).loc Cert.AdamFfnDownIdeal.main_arg4)) →
    ∃ (v0 : (c : Dev Cert.AdamFfnDownIdeal.nD) → Buf (Elt Ideal) ((c.tc : Thread Cert.AdamFfnDownIdeal.nD Cert.AdamFfnDownIdeal.τ).loc Cert.AdamFfnDownIdeal.main_v0_0)) (v1 : (c : Dev Cert.AdamFfnDownIdeal.nD) → Buf (Elt Ideal) ((c.tc : Thread Cert.AdamFfnDownIdeal.nD Cert.AdamFfnDownIdeal.τ).loc Cert.AdamFfnDownIdeal.main_v0_1)) (v2 : (c : Dev Cert.AdamFfnDownIdeal.nD) → Buf (Elt Ideal) ((c.tc : Thread Cert.AdamFfnDownIdeal.nD Cert.AdamFfnDownIdeal.τ).loc Cert.AdamFfnDownIdeal.main_v0_2)) (v3 : (c : Dev Cert.AdamFfnDownIdeal.nD) → Buf (Elt Ideal) ((c.tc : Thread Cert.AdamFfnDownIdeal.nD Cert.AdamFfnDownIdeal.τ).loc Cert.AdamFfnDownIdeal.main_v0_3)),
      θ_run (Cert.AdamFfnDownIdeal.defs (F := Ideal)) (onTc (τ := Cert.AdamFfnDownIdeal.τ) (Cert.AdamFfnDownIdeal.main (F := Ideal))) ⟨m, fun _ => 0, g⟩ (fun r => ∀ c : Dev Cert.AdamFfnDownIdeal.nD,
          r.2.mem ((c.tc : Thread Cert.AdamFfnDownIdeal.nD Cert.AdamFfnDownIdeal.τ).loc Cert.AdamFfnDownIdeal.main_v0_0) = v0 c
          ∧ r.2.mem ((c.tc : Thread Cert.AdamFfnDownIdeal.nD Cert.AdamFfnDownIdeal.τ).loc Cert.AdamFfnDownIdeal.main_v0_1) = v1 c
          ∧ r.2.mem ((c.tc : Thread Cert.AdamFfnDownIdeal.nD Cert.AdamFfnDownIdeal.τ).loc Cert.AdamFfnDownIdeal.main_v0_2) = v2 c
          ∧ r.2.mem ((c.tc : Thread Cert.AdamFfnDownIdeal.nD Cert.AdamFfnDownIdeal.τ).loc Cert.AdamFfnDownIdeal.main_v0_3) = v3 c
          ∧ r.2.mem ((c.tc : Thread Cert.AdamFfnDownIdeal.nD Cert.AdamFfnDownIdeal.τ).loc Cert.AdamFfnDownIdeal.main_arg0) = m ((c.tc : Thread Cert.AdamFfnDownIdeal.nD Cert.AdamFfnDownIdeal.τ).loc Cert.AdamFfnDownIdeal.main_arg0)
          ∧ r.2.mem ((c.tc : Thread Cert.AdamFfnDownIdeal.nD Cert.AdamFfnDownIdeal.τ).loc Cert.AdamFfnDownIdeal.main_arg1) = m ((c.tc : Thread Cert.AdamFfnDownIdeal.nD Cert.AdamFfnDownIdeal.τ).loc Cert.AdamFfnDownIdeal.main_arg1)
          ∧ r.2.mem ((c.tc : Thread Cert.AdamFfnDownIdeal.nD Cert.AdamFfnDownIdeal.τ).loc Cert.AdamFfnDownIdeal.main_arg2) = m ((c.tc : Thread Cert.AdamFfnDownIdeal.nD Cert.AdamFfnDownIdeal.τ).loc Cert.AdamFfnDownIdeal.main_arg2)
          ∧ r.2.mem ((c.tc : Thread Cert.AdamFfnDownIdeal.nD Cert.AdamFfnDownIdeal.τ).loc Cert.AdamFfnDownIdeal.main_arg3) = m ((c.tc : Thread Cert.AdamFfnDownIdeal.nD Cert.AdamFfnDownIdeal.τ).loc Cert.AdamFfnDownIdeal.main_arg3)
          ∧ r.2.mem ((c.tc : Thread Cert.AdamFfnDownIdeal.nD Cert.AdamFfnDownIdeal.τ).loc Cert.AdamFfnDownIdeal.main_arg4) = m ((c.tc : Thread Cert.AdamFfnDownIdeal.nD Cert.AdamFfnDownIdeal.τ).loc Cert.AdamFfnDownIdeal.main_arg4))
      ∧ θ_run (Cert.AdamFfnDownRefIdeal.defs (F := Ideal)) (onTc (τ := Cert.AdamFfnDownRefIdeal.τ) (Cert.AdamFfnDownRefIdeal.main (F := Ideal))) ⟨m', fun _ => 0, g'⟩ (fun r => ∀ c : Dev Cert.AdamFfnDownRefIdeal.nD,
          r.2.mem ((c.tc : Thread Cert.AdamFfnDownRefIdeal.nD Cert.AdamFfnDownRefIdeal.τ).loc Cert.AdamFfnDownRefIdeal.main_v2) = v0 c
          ∧ r.2.mem ((c.tc : Thread Cert.AdamFfnDownRefIdeal.nD Cert.AdamFfnDownRefIdeal.τ).loc Cert.AdamFfnDownRefIdeal.main_v26) = v1 c
          ∧ r.2.mem ((c.tc : Thread Cert.AdamFfnDownRefIdeal.nD Cert.AdamFfnDownRefIdeal.τ).loc Cert.AdamFfnDownRefIdeal.main_v7) = v2 c
          ∧ r.2.mem ((c.tc : Thread Cert.AdamFfnDownRefIdeal.nD Cert.AdamFfnDownRefIdeal.τ).loc Cert.AdamFfnDownRefIdeal.main_v13) = v3 c
          ∧ r.2.mem ((c.tc : Thread Cert.AdamFfnDownRefIdeal.nD Cert.AdamFfnDownRefIdeal.τ).loc Cert.AdamFfnDownRefIdeal.main_arg0) = m' ((c.tc : Thread Cert.AdamFfnDownRefIdeal.nD Cert.AdamFfnDownRefIdeal.τ).loc Cert.AdamFfnDownRefIdeal.main_arg0)
          ∧ r.2.mem ((c.tc : Thread Cert.AdamFfnDownRefIdeal.nD Cert.AdamFfnDownRefIdeal.τ).loc Cert.AdamFfnDownRefIdeal.main_arg1) = m' ((c.tc : Thread Cert.AdamFfnDownRefIdeal.nD Cert.AdamFfnDownRefIdeal.τ).loc Cert.AdamFfnDownRefIdeal.main_arg1)
          ∧ r.2.mem ((c.tc : Thread Cert.AdamFfnDownRefIdeal.nD Cert.AdamFfnDownRefIdeal.τ).loc Cert.AdamFfnDownRefIdeal.main_arg2) = m' ((c.tc : Thread Cert.AdamFfnDownRefIdeal.nD Cert.AdamFfnDownRefIdeal.τ).loc Cert.AdamFfnDownRefIdeal.main_arg2)
          ∧ r.2.mem ((c.tc : Thread Cert.AdamFfnDownRefIdeal.nD Cert.AdamFfnDownRefIdeal.τ).loc Cert.AdamFfnDownRefIdeal.main_arg3) = m' ((c.tc : Thread Cert.AdamFfnDownRefIdeal.nD Cert.AdamFfnDownRefIdeal.τ).loc Cert.AdamFfnDownRefIdeal.main_arg3)
          ∧ r.2.mem ((c.tc : Thread Cert.AdamFfnDownRefIdeal.nD Cert.AdamFfnDownRefIdeal.τ).loc Cert.AdamFfnDownRefIdeal.main_arg4) = m' ((c.tc : Thread Cert.AdamFfnDownRefIdeal.nD Cert.AdamFfnDownRefIdeal.τ).loc Cert.AdamFfnDownRefIdeal.main_arg4))

def preserves_AdamFfnIn_AdamFfnInIdeal : Prop :=
  True

def algebraic_AdamFfnInIdeal_AdamFfnInRefIdeal [hAdamFfnInIdeal : Cert.AdamFfnInIdeal.Facts] [hAdamFfnInRefIdeal : Cert.AdamFfnInRefIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg)
    (m' : (ℓ : Loc Cert.AdamFfnInRefIdeal.nD Cert.AdamFfnInRefIdeal.τ Cert.AdamFfnInRefIdeal.sig) → Buf (Elt Ideal) ℓ) (g' : Dev Cert.AdamFfnInRefIdeal.nD → PrngReg), Pre_AdamFfnInIdeal m →
    (∀ c : Dev Cert.AdamFfnInIdeal.nD,
      m' ((c.tc : Thread Cert.AdamFfnInRefIdeal.nD Cert.AdamFfnInRefIdeal.τ).loc Cert.AdamFfnInRefIdeal.main_arg0) = m ((c.tc : Thread Cert.AdamFfnInIdeal.nD Cert.AdamFfnInIdeal.τ).loc Cert.AdamFfnInIdeal.main_arg0)
      ∧ m' ((c.tc : Thread Cert.AdamFfnInRefIdeal.nD Cert.AdamFfnInRefIdeal.τ).loc Cert.AdamFfnInRefIdeal.main_arg1) = m ((c.tc : Thread Cert.AdamFfnInIdeal.nD Cert.AdamFfnInIdeal.τ).loc Cert.AdamFfnInIdeal.main_arg1)
      ∧ m' ((c.tc : Thread Cert.AdamFfnInRefIdeal.nD Cert.AdamFfnInRefIdeal.τ).loc Cert.AdamFfnInRefIdeal.main_arg2) = m ((c.tc : Thread Cert.AdamFfnInIdeal.nD Cert.AdamFfnInIdeal.τ).loc Cert.AdamFfnInIdeal.main_arg2)
      ∧ m' ((c.tc : Thread Cert.AdamFfnInRefIdeal.nD Cert.AdamFfnInRefIdeal.τ).loc Cert.AdamFfnInRefIdeal.main_arg3) = m ((c.tc : Thread Cert.AdamFfnInIdeal.nD Cert.AdamFfnInIdeal.τ).loc Cert.AdamFfnInIdeal.main_arg3)
      ∧ m' ((c.tc : Thread Cert.AdamFfnInRefIdeal.nD Cert.AdamFfnInRefIdeal.τ).loc Cert.AdamFfnInRefIdeal.main_arg4) = m ((c.tc : Thread Cert.AdamFfnInIdeal.nD Cert.AdamFfnInIdeal.τ).loc Cert.AdamFfnInIdeal.main_arg4)) →
    ∃ (v0 : (c : Dev Cert.AdamFfnInIdeal.nD) → Buf (Elt Ideal) ((c.tc : Thread Cert.AdamFfnInIdeal.nD Cert.AdamFfnInIdeal.τ).loc Cert.AdamFfnInIdeal.main_v5_0)) (v1 : (c : Dev Cert.AdamFfnInIdeal.nD) → Buf (Elt Ideal) ((c.tc : Thread Cert.AdamFfnInIdeal.nD Cert.AdamFfnInIdeal.τ).loc Cert.AdamFfnInIdeal.main_v5_1)) (v2 : (c : Dev Cert.AdamFfnInIdeal.nD) → Buf (Elt Ideal) ((c.tc : Thread Cert.AdamFfnInIdeal.nD Cert.AdamFfnInIdeal.τ).loc Cert.AdamFfnInIdeal.main_v5_2)) (v3 : (c : Dev Cert.AdamFfnInIdeal.nD) → Buf (Elt Ideal) ((c.tc : Thread Cert.AdamFfnInIdeal.nD Cert.AdamFfnInIdeal.τ).loc Cert.AdamFfnInIdeal.main_v5_3)),
      θ_run (Cert.AdamFfnInIdeal.defs (F := Ideal)) (onTc (τ := Cert.AdamFfnInIdeal.τ) (Cert.AdamFfnInIdeal.main (F := Ideal))) ⟨m, fun _ => 0, g⟩ (fun r => ∀ c : Dev Cert.AdamFfnInIdeal.nD,
          r.2.mem ((c.tc : Thread Cert.AdamFfnInIdeal.nD Cert.AdamFfnInIdeal.τ).loc Cert.AdamFfnInIdeal.main_v5_0) = v0 c
          ∧ r.2.mem ((c.tc : Thread Cert.AdamFfnInIdeal.nD Cert.AdamFfnInIdeal.τ).loc Cert.AdamFfnInIdeal.main_v5_1) = v1 c
          ∧ r.2.mem ((c.tc : Thread Cert.AdamFfnInIdeal.nD Cert.AdamFfnInIdeal.τ).loc Cert.AdamFfnInIdeal.main_v5_2) = v2 c
          ∧ r.2.mem ((c.tc : Thread Cert.AdamFfnInIdeal.nD Cert.AdamFfnInIdeal.τ).loc Cert.AdamFfnInIdeal.main_v5_3) = v3 c
          ∧ r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
          ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
          ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
          ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3)
          ∧ r.2.mem ((c.tc : Thread Cert.AdamFfnInIdeal.nD Cert.AdamFfnInIdeal.τ).loc Cert.AdamFfnInIdeal.main_arg4) = m ((c.tc : Thread Cert.AdamFfnInIdeal.nD Cert.AdamFfnInIdeal.τ).loc Cert.AdamFfnInIdeal.main_arg4))
      ∧ θ_run (Cert.AdamFfnInRefIdeal.defs (F := Ideal)) (onTc (τ := Cert.AdamFfnInRefIdeal.τ) (Cert.AdamFfnInRefIdeal.main (F := Ideal))) ⟨m', fun _ => 0, g'⟩ (fun r => ∀ c : Dev Cert.AdamFfnInRefIdeal.nD,
          r.2.mem ((c.tc : Thread Cert.AdamFfnInRefIdeal.nD Cert.AdamFfnInRefIdeal.τ).loc Cert.AdamFfnInRefIdeal.main_v27) = v0 c
          ∧ r.2.mem ((c.tc : Thread Cert.AdamFfnInRefIdeal.nD Cert.AdamFfnInRefIdeal.τ).loc Cert.AdamFfnInRefIdeal.main_v28) = v1 c
          ∧ r.2.mem ((c.tc : Thread Cert.AdamFfnInRefIdeal.nD Cert.AdamFfnInRefIdeal.τ).loc Cert.AdamFfnInRefIdeal.main_v29) = v2 c
          ∧ r.2.mem ((c.tc : Thread Cert.AdamFfnInRefIdeal.nD Cert.AdamFfnInRefIdeal.τ).loc Cert.AdamFfnInRefIdeal.main_v30) = v3 c
          ∧ r.2.mem ((c.tc : Thread Cert.AdamFfnInRefIdeal.nD Cert.AdamFfnInRefIdeal.τ).loc Cert.AdamFfnInRefIdeal.main_arg0) = m' ((c.tc : Thread Cert.AdamFfnInRefIdeal.nD Cert.AdamFfnInRefIdeal.τ).loc Cert.AdamFfnInRefIdeal.main_arg0)
          ∧ r.2.mem ((c.tc : Thread Cert.AdamFfnInRefIdeal.nD Cert.AdamFfnInRefIdeal.τ).loc Cert.AdamFfnInRefIdeal.main_arg1) = m' ((c.tc : Thread Cert.AdamFfnInRefIdeal.nD Cert.AdamFfnInRefIdeal.τ).loc Cert.AdamFfnInRefIdeal.main_arg1)
          ∧ r.2.mem ((c.tc : Thread Cert.AdamFfnInRefIdeal.nD Cert.AdamFfnInRefIdeal.τ).loc Cert.AdamFfnInRefIdeal.main_arg2) = m' ((c.tc : Thread Cert.AdamFfnInRefIdeal.nD Cert.AdamFfnInRefIdeal.τ).loc Cert.AdamFfnInRefIdeal.main_arg2)
          ∧ r.2.mem ((c.tc : Thread Cert.AdamFfnInRefIdeal.nD Cert.AdamFfnInRefIdeal.τ).loc Cert.AdamFfnInRefIdeal.main_arg3) = m' ((c.tc : Thread Cert.AdamFfnInRefIdeal.nD Cert.AdamFfnInRefIdeal.τ).loc Cert.AdamFfnInRefIdeal.main_arg3)
          ∧ r.2.mem ((c.tc : Thread Cert.AdamFfnInRefIdeal.nD Cert.AdamFfnInRefIdeal.τ).loc Cert.AdamFfnInRefIdeal.main_arg4) = m' ((c.tc : Thread Cert.AdamFfnInRefIdeal.nD Cert.AdamFfnInRefIdeal.τ).loc Cert.AdamFfnInRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v8_0)) (v1 : (c : Dev Cert.AdamInIdeal.nD) → Buf (Elt Ideal) ((c.tc : Thread Cert.AdamInIdeal.nD Cert.AdamInIdeal.τ).loc Cert.AdamInIdeal.main_v8_1)) (v2 : (c : Dev Cert.AdamInIdeal.nD) → Buf (Elt Ideal) ((c.tc : Thread Cert.AdamInIdeal.nD Cert.AdamInIdeal.τ).loc Cert.AdamInIdeal.main_v8_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v8_0) = v0 c
          ∧ r.2.mem ((c.tc : Thread Cert.AdamInIdeal.nD Cert.AdamInIdeal.τ).loc Cert.AdamInIdeal.main_v8_1) = v1 c
          ∧ r.2.mem ((c.tc : Thread Cert.AdamInIdeal.nD Cert.AdamInIdeal.τ).loc Cert.AdamInIdeal.main_v8_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v27) = v0 c
          ∧ r.2.mem ((c.tc : Thread Cert.AdamInRefIdeal.nD Cert.AdamInRefIdeal.τ).loc Cert.AdamInRefIdeal.main_v28) = v1 c
          ∧ r.2.mem ((c.tc : Thread Cert.AdamInRefIdeal.nD Cert.AdamInRefIdeal.τ).loc Cert.AdamInRefIdeal.main_v29) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def Claim : Prop :=
  ∃ (hFfnActGrad : Cert.FfnActGrad.Facts) (hFfnActGradIdeal : Cert.FfnActGradIdeal.Facts) (hFfnActGradRefIdeal : Cert.FfnActGradRefIdeal.Facts) (hMergeGrad : Cert.MergeGrad.Facts) (hMergeGradIdeal : Cert.MergeGradIdeal.Facts) (hMergeGradRefIdeal : Cert.MergeGradRefIdeal.Facts) (hNormGrad : Cert.NormGrad.Facts) (hNormGradIdeal : Cert.NormGradIdeal.Facts) (hNormGradRefIdeal : Cert.NormGradRefIdeal.Facts) (hConvSsmGrad : Cert.ConvSsmGrad.Facts) (hConvSsmGradIdeal : Cert.ConvSsmGradIdeal.Facts) (hConvSsmGradRefIdeal : Cert.ConvSsmGradRefIdeal.Facts) (hConvGdnGrad : Cert.ConvGdnGrad.Facts) (hConvGdnGradIdeal : Cert.ConvGdnGradIdeal.Facts) (hConvGdnGradRefIdeal : Cert.ConvGdnGradRefIdeal.Facts) (hSsdGrad : Cert.SsdGrad.Facts) (hSsdGradIdeal : Cert.SsdGradIdeal.Facts) (hSsdGradRefIdeal : Cert.SsdGradRefIdeal.Facts) (hInProjGrad : Cert.InProjGrad.Facts) (hInProjGradIdeal : Cert.InProjGradIdeal.Facts) (hInProjGradRefIdeal : Cert.InProjGradRefIdeal.Facts) (hInProjDw : Cert.InProjDw.Facts) (hInProjDwIdeal : Cert.InProjDwIdeal.Facts) (hInProjDwRefIdeal : Cert.InProjDwRefIdeal.Facts) (hFfnInGrad : Cert.FfnInGrad.Facts) (hFfnInGradIdeal : Cert.FfnInGradIdeal.Facts) (hFfnInGradRefIdeal : Cert.FfnInGradRefIdeal.Facts) (hFfnInDw : Cert.FfnInDw.Facts) (hFfnInDwIdeal : Cert.FfnInDwIdeal.Facts) (hFfnInDwRefIdeal : Cert.FfnInDwRefIdeal.Facts) (hFfnDownDw : Cert.FfnDownDw.Facts) (hFfnDownDwIdeal : Cert.FfnDownDwIdeal.Facts) (hFfnDownDwRefIdeal : Cert.FfnDownDwRefIdeal.Facts) (hSquareDw : Cert.SquareDw.Facts) (hSquareDwIdeal : Cert.SquareDwIdeal.Facts) (hSquareDwRefIdeal : Cert.SquareDwRefIdeal.Facts) (hSquareGrad : Cert.SquareGrad.Facts) (hSquareGradIdeal : Cert.SquareGradIdeal.Facts) (hSquareGradRefIdeal : Cert.SquareGradRefIdeal.Facts) (hInProj : Cert.InProj.Facts) (hInProjIdeal : Cert.InProjIdeal.Facts) (hInProjRefIdeal : Cert.InProjRefIdeal.Facts) (hProjSsm : Cert.ProjSsm.Facts) (hProjSsmIdeal : Cert.ProjSsmIdeal.Facts) (hProjSsmRefIdeal : Cert.ProjSsmRefIdeal.Facts) (hProjMerge : Cert.ProjMerge.Facts) (hProjMergeIdeal : Cert.ProjMergeIdeal.Facts) (hProjMergeRefIdeal : Cert.ProjMergeRefIdeal.Facts) (hOutProj : Cert.OutProj.Facts) (hOutProjIdeal : Cert.OutProjIdeal.Facts) (hOutProjRefIdeal : Cert.OutProjRefIdeal.Facts) (hFfnIn : Cert.FfnIn.Facts) (hFfnInIdeal : Cert.FfnInIdeal.Facts) (hFfnInRefIdeal : Cert.FfnInRefIdeal.Facts) (hFfnDown : Cert.FfnDown.Facts) (hFfnDownIdeal : Cert.FfnDownIdeal.Facts) (hFfnDownRefIdeal : Cert.FfnDownRefIdeal.Facts) (hNormFwd : Cert.NormFwd.Facts) (hNormFwdIdeal : Cert.NormFwdIdeal.Facts) (hNormFwdRefIdeal : Cert.NormFwdRefIdeal.Facts) (hLossHead : Cert.LossHead.Facts) (hLossHeadIdeal : Cert.LossHeadIdeal.Facts) (hLossHeadRefIdeal : Cert.LossHeadRefIdeal.Facts) (hSumSmall : Cert.SumSmall.Facts) (hSumSmallIdeal : Cert.SumSmallIdeal.Facts) (hSumSmallRefIdeal : Cert.SumSmallRefIdeal.Facts) (hSumConvSsm : Cert.SumConvSsm.Facts) (hSumConvSsmIdeal : Cert.SumConvSsmIdeal.Facts) (hSumConvSsmRefIdeal : Cert.SumConvSsmRefIdeal.Facts) (hSumConvGdn : Cert.SumConvGdn.Facts) (hSumConvGdnIdeal : Cert.SumConvGdnIdeal.Facts) (hSumConvGdnRefIdeal : Cert.SumConvGdnRefIdeal.Facts) (hSumSquare : Cert.SumSquare.Facts) (hSumSquareIdeal : Cert.SumSquareIdeal.Facts) (hSumSquareRefIdeal : Cert.SumSquareRefIdeal.Facts) (hSumFfnDown : Cert.SumFfnDown.Facts) (hSumFfnDownIdeal : Cert.SumFfnDownIdeal.Facts) (hSumFfnDownRefIdeal : Cert.SumFfnDownRefIdeal.Facts) (hSumFfnIn : Cert.SumFfnIn.Facts) (hSumFfnInIdeal : Cert.SumFfnInIdeal.Facts) (hSumFfnInRefIdeal : Cert.SumFfnInRefIdeal.Facts) (hSumIn : Cert.SumIn.Facts) (hSumInIdeal : Cert.SumInIdeal.Facts) (hSumInRefIdeal : Cert.SumInRefIdeal.Facts) (hAdamNorm : Cert.AdamNorm.Facts) (hAdamNormIdeal : Cert.AdamNormIdeal.Facts) (hAdamNormRefIdeal : Cert.AdamNormRefIdeal.Facts) (hAdamConvB : Cert.AdamConvB.Facts) (hAdamConvBIdeal : Cert.AdamConvBIdeal.Facts) (hAdamConvBRefIdeal : Cert.AdamConvBRefIdeal.Facts) (hAdamHeads : Cert.AdamHeads.Facts) (hAdamHeadsIdeal : Cert.AdamHeadsIdeal.Facts) (hAdamHeadsRefIdeal : Cert.AdamHeadsRefIdeal.Facts) (hAdamGdnHeads : Cert.AdamGdnHeads.Facts) (hAdamGdnHeadsIdeal : Cert.AdamGdnHeadsIdeal.Facts) (hAdamGdnHeadsRefIdeal : Cert.AdamGdnHeadsRefIdeal.Facts) (hAdamGdnNorm : Cert.AdamGdnNorm.Facts) (hAdamGdnNormIdeal : Cert.AdamGdnNormIdeal.Facts) (hAdamGdnNormRefIdeal : Cert.AdamGdnNormRefIdeal.Facts) (hAdamFinal : Cert.AdamFinal.Facts) (hAdamFinalIdeal : Cert.AdamFinalIdeal.Facts) (hAdamFinalRefIdeal : Cert.AdamFinalRefIdeal.Facts) (hAdamConvSsm : Cert.AdamConvSsm.Facts) (hAdamConvSsmIdeal : Cert.AdamConvSsmIdeal.Facts) (hAdamConvSsmRefIdeal : Cert.AdamConvSsmRefIdeal.Facts) (hAdamConvGdn : Cert.AdamConvGdn.Facts) (hAdamConvGdnIdeal : Cert.AdamConvGdnIdeal.Facts) (hAdamConvGdnRefIdeal : Cert.AdamConvGdnRefIdeal.Facts) (hAdamSquare : Cert.AdamSquare.Facts) (hAdamSquareIdeal : Cert.AdamSquareIdeal.Facts) (hAdamSquareRefIdeal : Cert.AdamSquareRefIdeal.Facts) (hAdamFfnDown : Cert.AdamFfnDown.Facts) (hAdamFfnDownIdeal : Cert.AdamFfnDownIdeal.Facts) (hAdamFfnDownRefIdeal : Cert.AdamFfnDownRefIdeal.Facts) (hAdamFfnIn : Cert.AdamFfnIn.Facts) (hAdamFfnInIdeal : Cert.AdamFfnInIdeal.Facts) (hAdamFfnInRefIdeal : Cert.AdamFfnInRefIdeal.Facts) (hAdamIn : Cert.AdamIn.Facts) (hAdamInIdeal : Cert.AdamInIdeal.Facts) (hAdamInRefIdeal : Cert.AdamInRefIdeal.Facts) (hPre_ffn_finite : Cert.Pre_ffn_finite.Facts) (hPre_norm_finite : Cert.Pre_norm_finite.Facts) (hPre_conv_ssm_finite : Cert.Pre_conv_ssm_finite.Facts) (hPre_conv_gdn_finite : Cert.Pre_conv_gdn_finite.Facts) (hPre_ssd_finite : Cert.Pre_ssd_finite.Facts) (hPre_loss_finite : Cert.Pre_loss_finite.Facts) (hOn_gate_columns : Cert.On_gate_columns.Facts),
    quiescent_FfnActGrad (hFfnActGrad := hFfnActGrad)
    ∧ quiescent_FfnActGradIdeal (hFfnActGradIdeal := hFfnActGradIdeal)
    ∧ quiescent_FfnActGradIdeal_pre_ffn_finite (hFfnActGradIdeal := hFfnActGradIdeal) (hPre_ffn_finite := hPre_ffn_finite)
    ∧ quiescent_FfnActGradRefIdeal (hFfnActGradRefIdeal := hFfnActGradRefIdeal)
    ∧ quiescent_FfnActGradRefIdeal_pre_ffn_finite (hFfnActGradRefIdeal := hFfnActGradRefIdeal) (hPre_ffn_finite := hPre_ffn_finite)
    ∧ quiescent_MergeGrad (hMergeGrad := hMergeGrad)
    ∧ quiescent_MergeGradIdeal (hMergeGradIdeal := hMergeGradIdeal)
    ∧ quiescent_MergeGradRefIdeal (hMergeGradRefIdeal := hMergeGradRefIdeal)
    ∧ quiescent_NormGrad (hNormGrad := hNormGrad)
    ∧ quiescent_NormGradIdeal (hNormGradIdeal := hNormGradIdeal)
    ∧ quiescent_NormGradIdeal_pre_norm_finite (hNormGradIdeal := hNormGradIdeal) (hPre_norm_finite := hPre_norm_finite)
    ∧ quiescent_NormGradRefIdeal (hNormGradRefIdeal := hNormGradRefIdeal)
    ∧ quiescent_NormGradRefIdeal_pre_norm_finite (hNormGradRefIdeal := hNormGradRefIdeal) (hPre_norm_finite := hPre_norm_finite)
    ∧ quiescent_ConvSsmGrad (hConvSsmGrad := hConvSsmGrad)
    ∧ quiescent_ConvSsmGradIdeal (hConvSsmGradIdeal := hConvSsmGradIdeal)
    ∧ quiescent_ConvSsmGradIdeal_pre_conv_ssm_finite (hConvSsmGradIdeal := hConvSsmGradIdeal) (hPre_conv_ssm_finite := hPre_conv_ssm_finite)
    ∧ quiescent_ConvSsmGradRefIdeal (hConvSsmGradRefIdeal := hConvSsmGradRefIdeal)
    ∧ quiescent_ConvSsmGradRefIdeal_pre_conv_ssm_finite (hConvSsmGradRefIdeal := hConvSsmGradRefIdeal) (hPre_conv_ssm_finite := hPre_conv_ssm_finite)
    ∧ quiescent_ConvGdnGrad (hConvGdnGrad := hConvGdnGrad)
    ∧ quiescent_ConvGdnGradIdeal (hConvGdnGradIdeal := hConvGdnGradIdeal)
    ∧ quiescent_ConvGdnGradIdeal_pre_conv_gdn_finite (hConvGdnGradIdeal := hConvGdnGradIdeal) (hPre_conv_gdn_finite := hPre_conv_gdn_finite)
    ∧ quiescent_ConvGdnGradRefIdeal (hConvGdnGradRefIdeal := hConvGdnGradRefIdeal)
    ∧ quiescent_ConvGdnGradRefIdeal_pre_conv_gdn_finite (hConvGdnGradRefIdeal := hConvGdnGradRefIdeal) (hPre_conv_gdn_finite := hPre_conv_gdn_finite)
    ∧ quiescent_SsdGrad (hSsdGrad := hSsdGrad)
    ∧ quiescent_SsdGradIdeal (hSsdGradIdeal := hSsdGradIdeal)
    ∧ quiescent_SsdGradIdeal_pre_ssd_finite (hSsdGradIdeal := hSsdGradIdeal) (hPre_ssd_finite := hPre_ssd_finite)
    ∧ quiescent_SsdGradRefIdeal (hSsdGradRefIdeal := hSsdGradRefIdeal)
    ∧ quiescent_SsdGradRefIdeal_pre_ssd_finite (hSsdGradRefIdeal := hSsdGradRefIdeal) (hPre_ssd_finite := hPre_ssd_finite)
    ∧ quiescent_InProjGrad (hInProjGrad := hInProjGrad)
    ∧ quiescent_InProjGradIdeal (hInProjGradIdeal := hInProjGradIdeal)
    ∧ quiescent_InProjGradRefIdeal (hInProjGradRefIdeal := hInProjGradRefIdeal)
    ∧ quiescent_InProjDw (hInProjDw := hInProjDw)
    ∧ quiescent_InProjDwIdeal (hInProjDwIdeal := hInProjDwIdeal)
    ∧ quiescent_InProjDwRefIdeal (hInProjDwRefIdeal := hInProjDwRefIdeal)
    ∧ quiescent_FfnInGrad (hFfnInGrad := hFfnInGrad)
    ∧ quiescent_FfnInGradIdeal (hFfnInGradIdeal := hFfnInGradIdeal)
    ∧ quiescent_FfnInGradRefIdeal (hFfnInGradRefIdeal := hFfnInGradRefIdeal)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ quiescent_FfnDownDw (hFfnDownDw := hFfnDownDw)
    ∧ quiescent_FfnDownDwIdeal (hFfnDownDwIdeal := hFfnDownDwIdeal)
    ∧ quiescent_FfnDownDwRefIdeal (hFfnDownDwRefIdeal := hFfnDownDwRefIdeal)
    ∧ quiescent_SquareDw (hSquareDw := hSquareDw)
    ∧ quiescent_SquareDwIdeal (hSquareDwIdeal := hSquareDwIdeal)
    ∧ quiescent_SquareDwRefIdeal (hSquareDwRefIdeal := hSquareDwRefIdeal)
    ∧ quiescent_SquareGrad (hSquareGrad := hSquareGrad)
    ∧ quiescent_SquareGradIdeal (hSquareGradIdeal := hSquareGradIdeal)
    ∧ quiescent_SquareGradRefIdeal (hSquareGradRefIdeal := hSquareGradRefIdeal)
    ∧ quiescent_InProj (hInProj := hInProj)
    ∧ quiescent_InProjIdeal (hInProjIdeal := hInProjIdeal)
    ∧ quiescent_InProjRefIdeal (hInProjRefIdeal := hInProjRefIdeal)
    ∧ quiescent_ProjSsm (hProjSsm := hProjSsm)
    ∧ quiescent_ProjSsmIdeal (hProjSsmIdeal := hProjSsmIdeal)
    ∧ quiescent_ProjSsmRefIdeal (hProjSsmRefIdeal := hProjSsmRefIdeal)
    ∧ quiescent_ProjMerge (hProjMerge := hProjMerge)
    ∧ quiescent_ProjMergeIdeal (hProjMergeIdeal := hProjMergeIdeal)
    ∧ quiescent_ProjMergeRefIdeal (hProjMergeRefIdeal := hProjMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_LossHead (hLossHead := hLossHead)
    ∧ quiescent_LossHeadIdeal (hLossHeadIdeal := hLossHeadIdeal)
    ∧ quiescent_LossHeadIdeal_pre_loss_finite (hLossHeadIdeal := hLossHeadIdeal) (hPre_loss_finite := hPre_loss_finite)
    ∧ quiescent_LossHeadRefIdeal (hLossHeadRefIdeal := hLossHeadRefIdeal)
    ∧ quiescent_LossHeadRefIdeal_pre_loss_finite (hLossHeadRefIdeal := hLossHeadRefIdeal) (hPre_loss_finite := hPre_loss_finite)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_SumConvSsm (hSumConvSsm := hSumConvSsm)
    ∧ quiescent_SumConvSsmIdeal (hSumConvSsmIdeal := hSumConvSsmIdeal)
    ∧ quiescent_SumConvSsmRefIdeal (hSumConvSsmRefIdeal := hSumConvSsmRefIdeal)
    ∧ quiescent_SumConvGdn (hSumConvGdn := hSumConvGdn)
    ∧ quiescent_SumConvGdnIdeal (hSumConvGdnIdeal := hSumConvGdnIdeal)
    ∧ quiescent_SumConvGdnRefIdeal (hSumConvGdnRefIdeal := hSumConvGdnRefIdeal)
    ∧ quiescent_SumSquare (hSumSquare := hSumSquare)
    ∧ quiescent_SumSquareIdeal (hSumSquareIdeal := hSumSquareIdeal)
    ∧ quiescent_SumSquareRefIdeal (hSumSquareRefIdeal := hSumSquareRefIdeal)
    ∧ quiescent_SumFfnDown (hSumFfnDown := hSumFfnDown)
    ∧ quiescent_SumFfnDownIdeal (hSumFfnDownIdeal := hSumFfnDownIdeal)
    ∧ quiescent_SumFfnDownRefIdeal (hSumFfnDownRefIdeal := hSumFfnDownRefIdeal)
    ∧ quiescent_SumFfnIn (hSumFfnIn := hSumFfnIn)
    ∧ quiescent_SumFfnInIdeal (hSumFfnInIdeal := hSumFfnInIdeal)
    ∧ quiescent_SumFfnInRefIdeal (hSumFfnInRefIdeal := hSumFfnInRefIdeal)
    ∧ quiescent_SumIn (hSumIn := hSumIn)
    ∧ quiescent_SumInIdeal (hSumInIdeal := hSumInIdeal)
    ∧ quiescent_SumInRefIdeal (hSumInRefIdeal := hSumInRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamConvB (hAdamConvB := hAdamConvB)
    ∧ quiescent_AdamConvBIdeal (hAdamConvBIdeal := hAdamConvBIdeal)
    ∧ quiescent_AdamConvBRefIdeal (hAdamConvBRefIdeal := hAdamConvBRefIdeal)
    ∧ quiescent_AdamHeads (hAdamHeads := hAdamHeads)
    ∧ quiescent_AdamHeadsIdeal (hAdamHeadsIdeal := hAdamHeadsIdeal)
    ∧ quiescent_AdamHeadsRefIdeal (hAdamHeadsRefIdeal := hAdamHeadsRefIdeal)
    ∧ quiescent_AdamGdnHeads (hAdamGdnHeads := hAdamGdnHeads)
    ∧ quiescent_AdamGdnHeadsIdeal (hAdamGdnHeadsIdeal := hAdamGdnHeadsIdeal)
    ∧ quiescent_AdamGdnHeadsRefIdeal (hAdamGdnHeadsRefIdeal := hAdamGdnHeadsRefIdeal)
    ∧ quiescent_AdamGdnNorm (hAdamGdnNorm := hAdamGdnNorm)
    ∧ quiescent_AdamGdnNormIdeal (hAdamGdnNormIdeal := hAdamGdnNormIdeal)
    ∧ quiescent_AdamGdnNormRefIdeal (hAdamGdnNormRefIdeal := hAdamGdnNormRefIdeal)
    ∧ quiescent_AdamFinal (hAdamFinal := hAdamFinal)
    ∧ quiescent_AdamFinalIdeal (hAdamFinalIdeal := hAdamFinalIdeal)
    ∧ quiescent_AdamFinalRefIdeal (hAdamFinalRefIdeal := hAdamFinalRefIdeal)
    ∧ quiescent_AdamConvSsm (hAdamConvSsm := hAdamConvSsm)
    ∧ quiescent_AdamConvSsmIdeal (hAdamConvSsmIdeal := hAdamConvSsmIdeal)
    ∧ quiescent_AdamConvSsmRefIdeal (hAdamConvSsmRefIdeal := hAdamConvSsmRefIdeal)
    ∧ quiescent_AdamConvGdn (hAdamConvGdn := hAdamConvGdn)
    ∧ quiescent_AdamConvGdnIdeal (hAdamConvGdnIdeal := hAdamConvGdnIdeal)
    ∧ quiescent_AdamConvGdnRefIdeal (hAdamConvGdnRefIdeal := hAdamConvGdnRefIdeal)
    ∧ quiescent_AdamSquare (hAdamSquare := hAdamSquare)
    ∧ quiescent_AdamSquareIdeal (hAdamSquareIdeal := hAdamSquareIdeal)
    ∧ quiescent_AdamSquareRefIdeal (hAdamSquareRefIdeal := hAdamSquareRefIdeal)
    ∧ quiescent_AdamFfnDown (hAdamFfnDown := hAdamFfnDown)
    ∧ quiescent_AdamFfnDownIdeal (hAdamFfnDownIdeal := hAdamFfnDownIdeal)
    ∧ quiescent_AdamFfnDownRefIdeal (hAdamFfnDownRefIdeal := hAdamFfnDownRefIdeal)
    ∧ quiescent_AdamFfnIn (hAdamFfnIn := hAdamFfnIn)
    ∧ quiescent_AdamFfnInIdeal (hAdamFfnInIdeal := hAdamFfnInIdeal)
    ∧ quiescent_AdamFfnInRefIdeal (hAdamFfnInRefIdeal := hAdamFfnInRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ preserves_FfnActGrad_FfnActGradIdeal
    ∧ algebraic_FfnActGradIdeal_FfnActGradRefIdeal_pre_ffn_finite (hFfnActGradIdeal := hFfnActGradIdeal) (hFfnActGradRefIdeal := hFfnActGradRefIdeal) (hPre_ffn_finite := hPre_ffn_finite)
    ∧ preserves_MergeGrad_MergeGradIdeal
    ∧ algebraic_MergeGradIdeal_MergeGradRefIdeal_on_gate_columns (hMergeGradIdeal := hMergeGradIdeal) (hMergeGradRefIdeal := hMergeGradRefIdeal) (hOn_gate_columns := hOn_gate_columns)
    ∧ preserves_NormGrad_NormGradIdeal
    ∧ algebraic_NormGradIdeal_NormGradRefIdeal_pre_norm_finite (hNormGradIdeal := hNormGradIdeal) (hNormGradRefIdeal := hNormGradRefIdeal) (hPre_norm_finite := hPre_norm_finite)
    ∧ preserves_ConvSsmGrad_ConvSsmGradIdeal
    ∧ algebraic_ConvSsmGradIdeal_ConvSsmGradRefIdeal_pre_conv_ssm_finite (hConvSsmGradIdeal := hConvSsmGradIdeal) (hConvSsmGradRefIdeal := hConvSsmGradRefIdeal) (hPre_conv_ssm_finite := hPre_conv_ssm_finite)
    ∧ preserves_ConvGdnGrad_ConvGdnGradIdeal
    ∧ algebraic_ConvGdnGradIdeal_ConvGdnGradRefIdeal_pre_conv_gdn_finite (hConvGdnGradIdeal := hConvGdnGradIdeal) (hConvGdnGradRefIdeal := hConvGdnGradRefIdeal) (hPre_conv_gdn_finite := hPre_conv_gdn_finite)
    ∧ preserves_SsdGrad_SsdGradIdeal
    ∧ algebraic_SsdGradIdeal_SsdGradRefIdeal_pre_ssd_finite (hSsdGradIdeal := hSsdGradIdeal) (hSsdGradRefIdeal := hSsdGradRefIdeal) (hPre_ssd_finite := hPre_ssd_finite)
    ∧ preserves_InProjGrad_InProjGradIdeal
    ∧ algebraic_InProjGradIdeal_InProjGradRefIdeal (hInProjGradIdeal := hInProjGradIdeal) (hInProjGradRefIdeal := hInProjGradRefIdeal)
    ∧ preserves_InProjDw_InProjDwIdeal
    ∧ algebraic_InProjDwIdeal_InProjDwRefIdeal (hInProjDwIdeal := hInProjDwIdeal) (hInProjDwRefIdeal := hInProjDwRefIdeal)
    ∧ preserves_FfnInGrad_FfnInGradIdeal
    ∧ algebraic_FfnInGradIdeal_FfnInGradRefIdeal (hFfnInGradIdeal := hFfnInGradIdeal) (hFfnInGradRefIdeal := hFfnInGradRefIdeal)
    ∧ preserves_FfnInDw_FfnInDwIdeal
    ∧ algebraic_FfnInDwIdeal_FfnInDwRefIdeal (hFfnInDwIdeal := hFfnInDwIdeal) (hFfnInDwRefIdeal := hFfnInDwRefIdeal)
    ∧ preserves_FfnDownDw_FfnDownDwIdeal
    ∧ algebraic_FfnDownDwIdeal_FfnDownDwRefIdeal (hFfnDownDwIdeal := hFfnDownDwIdeal) (hFfnDownDwRefIdeal := hFfnDownDwRefIdeal)
    ∧ preserves_SquareDw_SquareDwIdeal
    ∧ algebraic_SquareDwIdeal_SquareDwRefIdeal (hSquareDwIdeal := hSquareDwIdeal) (hSquareDwRefIdeal := hSquareDwRefIdeal)
    ∧ preserves_SquareGrad_SquareGradIdeal
    ∧ algebraic_SquareGradIdeal_SquareGradRefIdeal (hSquareGradIdeal := hSquareGradIdeal) (hSquareGradRefIdeal := hSquareGradRefIdeal)
    ∧ preserves_InProj_InProjIdeal
    ∧ algebraic_InProjIdeal_InProjRefIdeal (hInProjIdeal := hInProjIdeal) (hInProjRefIdeal := hInProjRefIdeal)
    ∧ preserves_ProjSsm_ProjSsmIdeal
    ∧ algebraic_ProjSsmIdeal_ProjSsmRefIdeal (hProjSsmIdeal := hProjSsmIdeal) (hProjSsmRefIdeal := hProjSsmRefIdeal)
    ∧ preserves_ProjMerge_ProjMergeIdeal
    ∧ algebraic_ProjMergeIdeal_ProjMergeRefIdeal (hProjMergeIdeal := hProjMergeIdeal) (hProjMergeRefIdeal := hProjMergeRefIdeal)
    ∧ preserves_OutProj_OutProjIdeal
    ∧ algebraic_OutProjIdeal_OutProjRefIdeal (hOutProjIdeal := hOutProjIdeal) (hOutProjRefIdeal := hOutProjRefIdeal)
    ∧ preserves_FfnIn_FfnInIdeal
    ∧ algebraic_FfnInIdeal_FfnInRefIdeal (hFfnInIdeal := hFfnInIdeal) (hFfnInRefIdeal := hFfnInRefIdeal)
    ∧ preserves_FfnDown_FfnDownIdeal
    ∧ algebraic_FfnDownIdeal_FfnDownRefIdeal (hFfnDownIdeal := hFfnDownIdeal) (hFfnDownRefIdeal := hFfnDownRefIdeal)
    ∧ preserves_NormFwd_NormFwdIdeal
    ∧ algebraic_NormFwdIdeal_NormFwdRefIdeal (hNormFwdIdeal := hNormFwdIdeal) (hNormFwdRefIdeal := hNormFwdRefIdeal)
    ∧ preserves_LossHead_LossHeadIdeal
    ∧ algebraic_LossHeadIdeal_LossHeadRefIdeal_pre_loss_finite (hLossHeadIdeal := hLossHeadIdeal) (hLossHeadRefIdeal := hLossHeadRefIdeal) (hPre_loss_finite := hPre_loss_finite)
    ∧ preserves_SumSmall_SumSmallIdeal
    ∧ algebraic_SumSmallIdeal_SumSmallRefIdeal (hSumSmallIdeal := hSumSmallIdeal) (hSumSmallRefIdeal := hSumSmallRefIdeal)
    ∧ preserves_SumConvSsm_SumConvSsmIdeal
    ∧ algebraic_SumConvSsmIdeal_SumConvSsmRefIdeal (hSumConvSsmIdeal := hSumConvSsmIdeal) (hSumConvSsmRefIdeal := hSumConvSsmRefIdeal)
    ∧ preserves_SumConvGdn_SumConvGdnIdeal
    ∧ algebraic_SumConvGdnIdeal_SumConvGdnRefIdeal (hSumConvGdnIdeal := hSumConvGdnIdeal) (hSumConvGdnRefIdeal := hSumConvGdnRefIdeal)
    ∧ preserves_SumSquare_SumSquareIdeal
    ∧ algebraic_SumSquareIdeal_SumSquareRefIdeal (hSumSquareIdeal := hSumSquareIdeal) (hSumSquareRefIdeal := hSumSquareRefIdeal)
    ∧ preserves_SumFfnDown_SumFfnDownIdeal
    ∧ algebraic_SumFfnDownIdeal_SumFfnDownRefIdeal (hSumFfnDownIdeal := hSumFfnDownIdeal) (hSumFfnDownRefIdeal := hSumFfnDownRefIdeal)
    ∧ preserves_SumFfnIn_SumFfnInIdeal
    ∧ algebraic_SumFfnInIdeal_SumFfnInRefIdeal (hSumFfnInIdeal := hSumFfnInIdeal) (hSumFfnInRefIdeal := hSumFfnInRefIdeal)
    ∧ preserves_SumIn_SumInIdeal
    ∧ algebraic_SumInIdeal_SumInRefIdeal (hSumInIdeal := hSumInIdeal) (hSumInRefIdeal := hSumInRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamConvB_AdamConvBIdeal
    ∧ algebraic_AdamConvBIdeal_AdamConvBRefIdeal (hAdamConvBIdeal := hAdamConvBIdeal) (hAdamConvBRefIdeal := hAdamConvBRefIdeal)
    ∧ preserves_AdamHeads_AdamHeadsIdeal
    ∧ algebraic_AdamHeadsIdeal_AdamHeadsRefIdeal (hAdamHeadsIdeal := hAdamHeadsIdeal) (hAdamHeadsRefIdeal := hAdamHeadsRefIdeal)
    ∧ preserves_AdamGdnHeads_AdamGdnHeadsIdeal
    ∧ algebraic_AdamGdnHeadsIdeal_AdamGdnHeadsRefIdeal (hAdamGdnHeadsIdeal := hAdamGdnHeadsIdeal) (hAdamGdnHeadsRefIdeal := hAdamGdnHeadsRefIdeal)
    ∧ preserves_AdamGdnNorm_AdamGdnNormIdeal
    ∧ algebraic_AdamGdnNormIdeal_AdamGdnNormRefIdeal (hAdamGdnNormIdeal := hAdamGdnNormIdeal) (hAdamGdnNormRefIdeal := hAdamGdnNormRefIdeal)
    ∧ preserves_AdamFinal_AdamFinalIdeal
    ∧ algebraic_AdamFinalIdeal_AdamFinalRefIdeal (hAdamFinalIdeal := hAdamFinalIdeal) (hAdamFinalRefIdeal := hAdamFinalRefIdeal)
    ∧ preserves_AdamConvSsm_AdamConvSsmIdeal
    ∧ algebraic_AdamConvSsmIdeal_AdamConvSsmRefIdeal (hAdamConvSsmIdeal := hAdamConvSsmIdeal) (hAdamConvSsmRefIdeal := hAdamConvSsmRefIdeal)
    ∧ preserves_AdamConvGdn_AdamConvGdnIdeal
    ∧ algebraic_AdamConvGdnIdeal_AdamConvGdnRefIdeal (hAdamConvGdnIdeal := hAdamConvGdnIdeal) (hAdamConvGdnRefIdeal := hAdamConvGdnRefIdeal)
    ∧ preserves_AdamSquare_AdamSquareIdeal
    ∧ algebraic_AdamSquareIdeal_AdamSquareRefIdeal (hAdamSquareIdeal := hAdamSquareIdeal) (hAdamSquareRefIdeal := hAdamSquareRefIdeal)
    ∧ preserves_AdamFfnDown_AdamFfnDownIdeal
    ∧ algebraic_AdamFfnDownIdeal_AdamFfnDownRefIdeal (hAdamFfnDownIdeal := hAdamFfnDownIdeal) (hAdamFfnDownRefIdeal := hAdamFfnDownRefIdeal)
    ∧ preserves_AdamFfnIn_AdamFfnInIdeal
    ∧ algebraic_AdamFfnInIdeal_AdamFfnInRefIdeal (hAdamFfnInIdeal := hAdamFfnInIdeal) (hAdamFfnInRefIdeal := hAdamFfnInRefIdeal)
    ∧ preserves_AdamIn_AdamInIdeal
    ∧ algebraic_AdamInIdeal_AdamInRefIdeal (hAdamInIdeal := hAdamInIdeal) (hAdamInRefIdeal := hAdamInRefIdeal)
-- ==== On_gate_columns.lean ====
abbrev S4096x1024 : Shape := ⟨2, ![4096, 1024]⟩
abbrev S1024x1024 : Shape := ⟨2, ![1024, 1024]⟩
abbrev S4096x8960 : Shape := ⟨2, ![4096, 8960]⟩
abbrev S_ : Shape := ⟨0, ![]⟩

class Facts : Prop where
  bcast_S_S4096x1024 : S_.BroadcastsInDim S4096x1024 (![] : Fin 0 → Fin S4096x1024.rank)
  bcast_S_S4096x8960 : S_.BroadcastsInDim S4096x8960 (![] : Fin 0 → Fin S4096x8960.rank)

variable [Facts]

def fn {F : FTy → Type} [FloatOps F] (main_arg0 : FVec F S4096x1024 .bf16) (main_arg1 : FVec F S1024x1024 .bf16) (main_arg2 : FVec F S4096x8960 .f32) (main_arg3 : FVec F S4096x1024 .bf16) (main_arg4 : FVec F S4096x1024 .bf16) : IVec S4096x1024 1 × IVec S4096x1024 1 × IVec S4096x8960 1 :=
  let main_v0 : IVec S4096x1024 32 := iotaInDim S4096x1024 32 1
  let main_c : IVec S_ 32 := constantI S_ 32 0#32
  let main_v1 : IVec S4096x1024 32 := broadcastInDim S4096x1024 ![] bcast_S_S4096x1024 main_c
  let main_v2 : IVec S4096x1024 1 := cmpi .sge main_v0 main_v1
  let main_v3 : IVec S4096x8960 32 := iotaInDim S4096x8960 32 1
  let main_c_0 : IVec S_ 32 := constantI S_ 32 2048#32
  let main_v4 : IVec S4096x8960 32 := broadcastInDim S4096x8960 ![] bcast_S_S4096x8960 main_c_0
  let main_v5 : IVec S4096x8960 1 := cmpi .sge main_v3 main_v4
  let main_c_1 : IVec S_ 32 := constantI S_ 32 4096#32
  let main_v6 : IVec S4096x8960 32 := broadcastInDim S4096x8960 ![] bcast_S_S4096x8960 main_c_1
  let main_v7 : IVec S4096x8960 1 := cmpi .slt main_v3 main_v6
  let main_v8 : IVec S4096x8960 1 := andi main_v5 main_v7
  (main_v2, main_v2, main_v8)
-- ==== Pre_conv_gdn_finite.lean ====
abbrev S4096x8960 : Shape := ⟨2, ![4096, 8960]⟩
abbrev S4x3072 : Shape := ⟨2, ![4, 3072]⟩
abbrev S4096x3072 : Shape := ⟨2, ![4096, 3072]⟩
abbrev S_ : Shape := ⟨0, ![]⟩

class Facts : Prop where
  bcast_S_S4096x8960 : S_.BroadcastsInDim S4096x8960 (![] : Fin 0 → Fin S4096x8960.rank)
  reducesTo_S4096x8960_S_d0_1 : S4096x8960.ReducesTo [0, 1] S_
  h_S_ : 0 < S_.numel
  bcast_S_S4096x3072 : S_.BroadcastsInDim S4096x3072 (![] : Fin 0 → Fin S4096x3072.rank)
  reducesTo_S4096x3072_S_d0_1 : S4096x3072.ReducesTo [0, 1] S_

variable [Facts]

def fn {F : FTy → Type} [FloatOps F] (main_arg0 : FVec F S4096x8960 .f32) (main_arg1 : FVec F S4x3072 .f32) (main_arg2 : FVec F S4096x3072 .f32) (main_arg3 : FVec F S4096x8960 .bf16) : IVec S_ 1 :=
  let main_v0 : FVec F S4096x8960 .f32 := Host.absf main_arg0
  let main_cst : FVec F S_ .f32 := constant S_ .f32 0x7F800000#32
  let main_v1 : FVec F S4096x8960 .f32 := broadcastInDim S4096x8960 ![] bcast_S_S4096x8960 main_cst
  let main_v2 : IVec S4096x8960 1 := cmpf .olt main_v0 main_v1
  let main_c : IVec S_ 1 := constantI S_ 1 1#1
  let main_v3 : IVec S_ 1 := (fun x v => Host.reduce IntOp.andi x v reducesTo_S4096x8960_S_d0_1 h_S_) main_v2 main_c
  let main_v4 : FVec F S4096x3072 .f32 := Host.absf main_arg2
  let main_cst_0 : FVec F S_ .f32 := constant S_ .f32 0x7F800000#32
  let main_v5 : FVec F S4096x3072 .f32 := broadcastInDim S4096x3072 ![] bcast_S_S4096x3072 main_cst_0
  let main_v6 : IVec S4096x3072 1 := cmpf .olt main_v4 main_v5
  let main_c_1 : IVec S_ 1 := constantI S_ 1 1#1
  let main_v7 : IVec S_ 1 := (fun x v => Host.reduce IntOp.andi x v reducesTo_S4096x3072_S_d0_1 h_S_) main_v6 main_c_1
  let main_v8 : IVec S_ 1 := andi main_v3 main_v7
  main_v8
-- ==== Pre_conv_ssm_finite.lean ====
abbrev S4096x8960 : Shape := ⟨2, ![4096, 8960]⟩
abbrev S4x1536 : Shape := ⟨2, ![4, 1536]⟩
abbrev S1x1536 : Shape := ⟨2, ![1, 1536]⟩
abbrev S4096x1536 : Shape := ⟨2, ![4096, 1536]⟩
abbrev S_ : Shape := ⟨0, ![]⟩

class Facts : Prop where
  bcast_S_S4096x8960 : S_.BroadcastsInDim S4096x8960 (![] : Fin 0 → Fin S4096x8960.rank)
  reducesTo_S4096x8960_S_d0_1 : S4096x8960.ReducesTo [0, 1] S_
  h_S_ : 0 < S_.numel
  bcast_S_S4096x1536 : S_.BroadcastsInDim S4096x1536 (![] : Fin 0 → Fin S4096x1536.rank)
  reducesTo_S4096x1536_S_d0_1 : S4096x1536.ReducesTo [0, 1] S_

variable [Facts]

def fn {F : FTy → Type} [FloatOps F] (main_arg0 : FVec F S4096x8960 .f32) (main_arg1 : FVec F S4x1536 .f32) (main_arg2 : FVec F S1x1536 .f32) (main_arg3 : FVec F S4096x1536 .f32) (main_arg4 : FVec F S4096x8960 .bf16) : IVec S_ 1 :=
  let main_v0 : FVec F S4096x8960 .f32 := Host.absf main_arg0
  let main_cst : FVec F S_ .f32 := constant S_ .f32 0x7F800000#32
  let main_v1 : FVec F S4096x8960 .f32 := broadcastInDim S4096x8960 ![] bcast_S_S4096x8960 main_cst
  let main_v2 : IVec S4096x8960 1 := cmpf .olt main_v0 main_v1
  let main_c : IVec S_ 1 := constantI S_ 1 1#1
  let main_v3 : IVec S_ 1 := (fun x v => Host.reduce IntOp.andi x v reducesTo_S4096x8960_S_d0_1 h_S_) main_v2 main_c
  let main_v4 : FVec F S4096x1536 .f32 := Host.absf main_arg3
  let main_cst_0 : FVec F S_ .f32 := constant S_ .f32 0x7F800000#32
  let main_v5 : FVec F S4096x1536 .f32 := broadcastInDim S4096x1536 ![] bcast_S_S4096x1536 main_cst_0
  let main_v6 : IVec S4096x1536 1 := cmpf .olt main_v4 main_v5
  let main_c_1 : IVec S_ 1 := constantI S_ 1 1#1
  let main_v7 : IVec S_ 1 := (fun x v => Host.reduce IntOp.andi x v reducesTo_S4096x1536_S_d0_1 h_S_) main_v6 main_c_1
  let main_v8 : IVec S_ 1 := andi main_v3 main_v7
  main_v8
-- ==== Pre_ffn_finite.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn {F : FTy → Type} [FloatOps F] (main_arg0 : FVec F S4096x1024 .bf16) (main_arg1 : FVec F S2816x1024 .bf16) (main_arg2 : FVec F S4096x2816 .bf16) (main_arg3 : FVec F S4096x2816 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S4096x2816 .f32 := (extf .f32 · bitsLt_bf16_f32) main_arg3
  let main_v12 : FVec F S4096x2816 .f32 := Host.absf main_v11
  let main_cst_2 : FVec F S_ .f32 := constant S_ .f32 0x7F800000#32
  let main_v13 : FVec F S4096x2816 .f32 := broadcastInDim S4096x2816 ![] bcast_S_S4096x2816 main_cst_2
  let main_v14 : IVec S4096x2816 1 := cmpf .olt main_v12 main_v13
  let main_c_3 : IVec S_ 1 := constantI S_ 1 1#1
  let main_v15 : IVec S_ 1 := (fun x v => Host.reduce IntOp.andi x v reducesTo_S4096x2816_S_d0_1 h_S_) main_v14 main_c_3
  let main_v16 : IVec S_ 1 := andi main_v10 main_v15
  main_v16
-- ==== Pre_loss_finite.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x1024 .f32) (main_arg1 : FVec F S1024 .f32) (main_arg2 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Pre_norm_finite.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x1024 .f32) (main_arg1 : FVec F S1024 .f32) (main_arg2 : FVec F S4096x1024 .f32) (main_arg3 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Pre_ssd_finite.lean ====
abbrev S4096x1536 : Shape := ⟨2, ![4096, 1536]⟩
abbrev S4096x8960 : Shape := ⟨2, ![4096, 8960]⟩
abbrev S1x128 : Shape := ⟨2, ![1, 128]⟩
abbrev S16 : Shape := ⟨1, ![16]⟩
abbrev S1024 : Shape := ⟨1, ![1024]⟩
abbrev S4096x1024 : Shape := ⟨2, ![4096, 1024]⟩
abbrev S64x128x1024 : Shape := ⟨3, ![64, 128, 1024]⟩
abbrev S_ : Shape := ⟨0, ![]⟩

class Facts : Prop where
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S4096x8960 : S_.BroadcastsInDim S4096x8960 (![] : Fin 0 → Fin S4096x8960.rank)
  reducesTo_S4096x8960_S_d0_1 : S4096x8960.ReducesTo [0, 1] S_
  bcast_S_S16 : S_.BroadcastsInDim S16 (![] : Fin 0 → Fin S16.rank)
  reducesTo_S16_S_d0 : S16.ReducesTo [0] S_
  bcast_S_S1024 : S_.BroadcastsInDim S1024 (![] : Fin 0 → Fin S1024.rank)
  reducesTo_S1024_S_d0 : S1024.ReducesTo [0] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg6 : FVec F S4096x1024 .f32) (main_arg8 : FVec F S4096x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S4096x1024 .f32 := Host.absf main_arg6
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096x1024 .f32 := Host.absf main_arg8
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1536 .f32) (main_arg1 : FVec F S4096x8960 .f32) (main_arg2 : FVec F S1x128 .f32) (main_arg3 : FVec F S1x128 .f32) (main_arg4 : FVec F S16 .f32) (main_arg5 : FVec F S1024 .f32) (main_arg6 : FVec F S4096x1024 .f32) (main_arg7 : FVec F S64x128x1024 .f32) (main_arg8 : FVec F S4096x1024 .f32) (main_arg9 : FVec F S4096x8960 .bf16) : IVec S_ 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_c : IVec S_ 1 := constantI S_ 1 1#1
  let main_v3 : IVec S_ 1 := (fun x v => Host.reduce IntOp.andi x v reducesTo_S4096x1536_S_d0_1 h_S_) main_v2 main_c
  let main_v4 : FVec F S4096x8960 .f32 := Host.absf main_arg1
  let main_cst_0 : FVec F S_ .f32 := constant S_ .f32 0x7F800000#32
  let main_v5 : FVec F S4096x8960 .f32 := broadcastInDim S4096x8960 ![] bcast_S_S4096x8960 main_cst_0
  let main_v6 : IVec S4096x8960 1 := cmpf .olt main_v4 main_v5
  let main_c_1 : IVec S_ 1 := constantI S_ 1 1#1
  let main_v7 : IVec S_ 1 := (fun x v => Host.reduce IntOp.andi x v reducesTo_S4096x8960_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg6 main_arg8 main_v13 main_v16
-- ==== FfnActGrad.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnActGradRefIdeal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S2816x1024, .f32⟩
  | .hbm, ⟨21, _⟩ => ⟨S4096x1024, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .bf16⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== MergeGrad.lean ====
abbrev S4096x1024 : Shape := ⟨2, ![4096, 1024]⟩
abbrev S1024x1024 : Shape := ⟨2, ![1024, 1024]⟩
abbrev S4096x8960 : Shape := ⟨2, ![4096, 8960]⟩
abbrev S512x1024 : Shape := ⟨2, ![512, 1024]⟩
abbrev S512x2048 : Shape := ⟨2, ![512, 2048]⟩

abbrev nBuf : Space → Nat
  | .hbm => 8
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x8960, .f32⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x8960, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg1 c3_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== MergeGradRefIdeal.lean ====
abbrev S4096x1024 : Shape := ⟨2, ![4096, 1024]⟩
abbrev S1024x1024 : Shape := ⟨2, ![1024, 1024]⟩
abbrev S4096x8960 : Shape := ⟨2, ![4096, 8960]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x8960, .f32⟩
  | .hbm, ⟨3, _⟩ => ⟨S4096x1024, .bf16⟩
  | .hbm, ⟨4, _⟩ => ⟨S4096x1024, .bf16⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S1024x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .bf16⟩
  | .hbm, ⟨47, _⟩ => ⟨S4096x1024, .f32⟩
  | .hbm, ⟨48, _⟩ => ⟨S_, .f32⟩
  | .hbm, ⟨49, _⟩ => ⟨S4096x8960, .f32⟩
  | .hbm, ⟨50, _⟩ => ⟨S_, .f32⟩
  | .hbm, ⟨51, _⟩ => ⟨S4096x8960, .f32⟩
  | .hbm, ⟨52, _⟩ => ⟨S4096x8960, .f32⟩
  | .hbm, ⟨53, _⟩ => ⟨S4096x8960, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== NormGrad.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormGradRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | .hbm, ⟨51, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== ConvSsmGrad.lean ====
abbrev S4096x8960 : Shape := ⟨2, ![4096, 8960]⟩
abbrev S4x1536 : Shape := ⟨2, ![4, 1536]⟩
abbrev S1x1536 : Shape := ⟨2, ![1, 1536]⟩
abbrev S4096x1536 : Shape := ⟨2, ![4096, 1536]⟩
abbrev S1536 : Shape := ⟨1, ![1536]⟩
abbrev S_ : Shape := ⟨0, ![]⟩
abbrev S3x1536 : Shape := ⟨2, ![3, 1536]⟩
abbrev S4093x1536 : Shape := ⟨2, ![4093, 1536]⟩
abbrev S2x1536 : Shape := ⟨2, ![2, 1536]⟩
abbrev S4094x1536 : Shape := ⟨2, ![4094, 1536]⟩
abbrev S4095x1536 : Shape := ⟨2, ![4095, 1536]⟩
abbrev S0x1536 : Shape := ⟨2, ![0, 1536]⟩
abbrev S4096x256 : Shape := ⟨2, ![4096, 256]⟩
abbrev S4x256 : Shape := ⟨2, ![4, 256]⟩
abbrev S1x256 : Shape := ⟨2, ![1, 256]⟩
abbrev S16x256 : Shape := ⟨2, ![16, 256]⟩
abbrev S256 : Shape := ⟨1, ![256]⟩

abbrev nBuf : Space → Nat
  | .hbm => 49
  | .vmem => 14
  | .smem => 0
  | _ => 0

abbrev bufTy : (tb : Table) → Fin (tcTables nBuf tb) → BufTy
  | .hbm, ⟨0, _⟩ => ⟨S4096x8960, .f32⟩
  | .hbm, ⟨1, _⟩ => ⟨S4x1536, .f32⟩
  | .hbm, ⟨2, _⟩ => ⟨S1x1536, .f32⟩
  | .hbm, ⟨3, _⟩ => ⟨S4096x1536, .f32⟩
  | .hbm, ⟨4, _⟩ => ⟨S4096x8960, .bf16⟩
  | .hbm, ⟨5, _⟩ => ⟨S4096x1536, .f32⟩
  | .hbm, ⟨6, _⟩ => ⟨S1x1536, .f32⟩
  | .hbm, ⟨7, _⟩ => ⟨S1536, .f32⟩
  | .hbm, ⟨8, _⟩ => ⟨S_, .f32⟩
  | .hbm, ⟨9, _⟩ => ⟨S3x1536, .f32⟩
  | .hbm, ⟨10, _⟩ => ⟨S4093x1536, .f32⟩
  | .hbm, ⟨11, _⟩ => ⟨S4096x1536, .f32⟩
  | .hbm, ⟨12, _⟩ => ⟨S1x1536, .f32⟩
  | .hbm, ⟨13, _⟩ => ⟨S4096x1536, .f32⟩
  | .hbm, ⟨14, _⟩ => ⟨S4096x1536, .f32⟩
  | .hbm, ⟨15, _⟩ => ⟨S4096x1536, .f32⟩
  | .hbm, ⟨16, _⟩ => ⟨S4096x1536, .f32⟩
  | .hbm, ⟨17, _⟩ => ⟨S1x1536, .f32⟩
  | .hbm, ⟨18, _⟩ => ⟨S1536, .f32⟩
  | .hbm, ⟨19, _⟩ => ⟨S_, .f32⟩
  | .hbm, ⟨20, _⟩ => ⟨S2x1536, .f32⟩
  | .hbm, ⟨21, _⟩ => ⟨S4094x1536, .f32⟩
  | .hbm, ⟨22, _⟩ => ⟨S4096x1536, .f32⟩
  | .hbm, ⟨23, _⟩ => ⟨S1x1536, .f32⟩
  | .hbm, ⟨24, _⟩ => ⟨S4096x1536, .f32⟩
  | .hbm, ⟨25, _⟩ => ⟨S4096x1536, .f32⟩
  | .hbm, ⟨26, _⟩ => ⟨S4096x1536, .f32⟩
  | .hbm, ⟨27, _⟩ => ⟨S1x1536, .f32⟩
  | .hbm, ⟨28, _⟩ => ⟨S1536, .f32⟩
  | .hbm, ⟨29, _⟩ => ⟨S_, .f32⟩
  | .hbm, ⟨30, _⟩ => ⟨S1x1536, .f32⟩
  | .hbm, ⟨31, _⟩ => ⟨S4095x1536, .f32⟩
  | .hbm, ⟨32, _⟩ => ⟨S4096x1536, .f32⟩
  | .hbm, ⟨33, _⟩ => ⟨S1x1536, .f32⟩
  | .hbm, ⟨34, _⟩ => ⟨S4096x1536, .f32⟩
  | .hbm, ⟨35, _⟩ => ⟨S4096x1536, .f32⟩
  | .hbm, ⟨36, _⟩ => ⟨S4096x1536, .f32⟩
  | .hbm, ⟨37, _⟩ => ⟨S1x1536, .f32⟩
  | .hbm, ⟨38, _⟩ => ⟨S1536, .f32⟩
  | .hbm, ⟨39, _⟩ => ⟨S_, .f32⟩
  | .hbm, ⟨40, _⟩ => ⟨S0x1536, .f32⟩
  | .hbm, ⟨41, _⟩ => ⟨S4096x1536, .f32⟩
  | .hbm, ⟨42, _⟩ => ⟨S1x1536, .f32⟩
  | .hbm, ⟨43, _⟩ => ⟨S4096x1536, .f32⟩
  | .hbm, ⟨44, _⟩ => ⟨S4096x1536, .f32⟩
  | .hbm, ⟨45, _⟩ => ⟨S4096x1536, .f32⟩
  | .hbm, ⟨46, _⟩ => ⟨S4096x8960, .bf16⟩
  | .hbm, ⟨47, _⟩ => ⟨S4x1536, .f32⟩
  | .hbm, ⟨48, _⟩ => ⟨S1x1536, .f32⟩
  | .local _ .vmem, ⟨0, _⟩ => ⟨S4096x256, .f32⟩
  | .local _ .vmem, ⟨1, _⟩ => ⟨S4096x256, .f32⟩
  | .local _ .vmem, ⟨2, _⟩ => ⟨S4x256, .f32⟩
  | .local _ .vmem, ⟨3, _⟩ => ⟨S4x256, .f32⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S4096x256, .f32⟩
  | .local _ .vmem, ⟨8, _⟩ => ⟨S4096x256, .bf16⟩
  | .local _ .vmem, ⟨9, _⟩ => ⟨S4096x256, .bf16⟩
  | .local _ .vmem, ⟨10, _⟩ => ⟨S4x256, .f32⟩
  | .local _ .vmem, ⟨11, _⟩ => ⟨S4x256, .f32⟩
  | .local _ .vmem, ⟨12, _⟩ => ⟨S1x256, .f32⟩
  | .local _ .vmem, ⟨13, _⟩ => ⟨S1x256, .f32⟩
  | _, _ => ⟨S4096x8960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37_0 : Ref sig .tc := ⟨.hbm, 46, rfl⟩
abbrev main_v37_1 : Ref sig .tc := ⟨.hbm, 47, rfl⟩
abbrev main_v37_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c28_i32 : BitVec 32 := 28#32
  let v0 : BitVec 32 := Scalar.addi arg0 c28_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c28_i32 : BitVec 32 := 28#32
  let v0 : BitVec 32 := Scalar.addi arg0 c28_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvSsmGradRefIdeal.lean ====
abbrev S4096x8960 : Shape := ⟨2, ![4096, 8960]⟩
abbrev S4x1536 : Shape := ⟨2, ![4, 1536]⟩
abbrev S1x1536 : Shape := ⟨2, ![1, 1536]⟩
abbrev S4096x1536 : Shape := ⟨2, ![4096, 1536]⟩
abbrev S1536 : Shape := ⟨1, ![1536]⟩
abbrev S_ : Shape := ⟨0, ![]⟩
abbrev S3x1536 : Shape := ⟨2, ![3, 1536]⟩
abbrev S4093x1536 : Shape := ⟨2, ![4093, 1536]⟩
abbrev S2x1536 : Shape := ⟨2, ![2, 1536]⟩
abbrev S4094x1536 : Shape := ⟨2, ![4094, 1536]⟩
abbrev S4095x1536 : Shape := ⟨2, ![4095, 1536]⟩
abbrev S0x1536 : Shape := ⟨2, ![0, 1536]⟩

abbrev nBuf : Space → Nat
  | .hbm => 142
  | .vmem => 0
  | .smem => 0
  | _ => 0

abbrev hbmTy0_0 (i : Nat) : BufTy := match i % 128 with
  | 0 => ⟨S4096x8960, .f32⟩
  | 1 => ⟨S4x1536, .f32⟩
  | 2 => ⟨S1x1536, .f32⟩
  | 3 => ⟨S4096x1536, .f32⟩
  | 4 => ⟨S4096x8960, .bf16⟩
  | 5 => ⟨S4096x1536, .f32⟩
  | 6 => ⟨S1x1536, .f32⟩
  | 7 => ⟨S1536, .f32⟩
  | 8 => ⟨S_, .f32⟩
  | 9 => ⟨S3x1536, .f32⟩
  | 10 => ⟨S4093x1536, .f32⟩
  | 11 => ⟨S4096x1536, .f32⟩
  | 12 => ⟨S_, .f32⟩
  | 13 => ⟨S3x1536, .f32⟩
  | 14 => ⟨S1x1536, .f32⟩
  | 15 => ⟨S4096x1536, .f32⟩
  | 16 => ⟨S4096x1536, .f32⟩
  | 17 => ⟨S4096x1536, .f32⟩
  | 18 => ⟨S4096x1536, .f32⟩
  | 19 => ⟨S1x1536, .f32⟩
  | 20 => ⟨S1536, .f32⟩
  | 21 => ⟨S_, .f32⟩
  | 22 => ⟨S2x1536, .f32⟩
  | 23 => ⟨S4094x1536, .f32⟩
  | 24 => ⟨S4096x1536, .f32⟩
  | 25 => ⟨S_, .f32⟩
  | 26 => ⟨S2x1536, .f32⟩
  | 27 => ⟨S1x1536, .f32⟩
  | 28 => ⟨S4096x1536, .f32⟩
  | 29 => ⟨S4096x1536, .f32⟩
  | 30 => ⟨S4096x1536, .f32⟩
  | 31 => ⟨S1x1536, .f32⟩
  | 32 => ⟨S1536, .f32⟩
  | 33 => ⟨S_, .f32⟩
  | 34 => ⟨S1x1536, .f32⟩
  | 35 => ⟨S4095x1536, .f32⟩
  | 36 => ⟨S4096x1536, .f32⟩
  | 37 => ⟨S_, .f32⟩
  | 38 => ⟨S1x1536, .f32⟩
  | 39 => ⟨S1x1536, .f32⟩
  | 40 => ⟨S4096x1536, .f32⟩
  | 41 => ⟨S4096x1536, .f32⟩
  | 42 => ⟨S4096x1536, .f32⟩
  | 43 => ⟨S1x1536, .f32⟩
  | 44 => ⟨S1536, .f32⟩
  | 45 => ⟨S_, .f32⟩
  | 46 => ⟨S0x1536, .f32⟩
  | 47 => ⟨S4096x1536, .f32⟩
  | 48 => ⟨S_, .f32⟩
  | 49 => ⟨S0x1536, .f32⟩
  | 50 => ⟨S1x1536, .f32⟩
  | 51 => ⟨S4096x1536, .f32⟩
  | 52 => ⟨S4096x1536, .f32⟩
  | 53 => ⟨S4096x1536, .f32⟩
  | 54 => ⟨S4096x1536, .f32⟩
  | 55 => ⟨S4096x1536, .f32⟩
  | 56 => ⟨S_, .f32⟩
  | 57 => ⟨S4096x1536, .f32⟩
  | 58 => ⟨S4096x1536, .f32⟩
  | 59 => ⟨S_, .f32⟩
  | 60 => ⟨S4096x1536, .f32⟩
  | 61 => ⟨S4096x1536, .f32⟩
  | 62 => ⟨S_, .f32⟩
  | 63 => ⟨S4096x1536, .f32⟩
  | 64 => ⟨S4096x1536, .f32⟩
  | 65 => ⟨S4096x1536, .f32⟩
  | 66 => ⟨S4096x1536, .f32⟩
  | 67 => ⟨S4096x1536, .f32⟩
  | 68 => ⟨S4096x1536, .f32⟩
  | 69 => ⟨S4096x1536, .f32⟩
  | 70 => ⟨S4096x1536, .f32⟩
  | 71 => ⟨S4096x1536, .f32⟩
  | 72 => ⟨S4096x1536, .f32⟩
  | 73 => ⟨S4096x1536, .f32⟩
  | 74 => ⟨S_, .f32⟩
  | 75 => ⟨S1536, .f32⟩
  | 76 => ⟨S1x1536, .f32⟩
  | 77 => ⟨S_, .f32⟩
  | 78 => ⟨S1536, .f32⟩
  | 79 => ⟨S0x1536, .f32⟩
  | 80 => ⟨S4096x1536, .f32⟩
  | 81 => ⟨S1x1536, .f32⟩
  | 82 => ⟨S_, .f32⟩
  | 83 => ⟨S4x1536, .f32⟩
  | 84 => ⟨S4096x1536, .f32⟩
  | 85 => ⟨S4096x1536, .f32⟩
  | 86 => ⟨S4096x1536, .f32⟩
  | 87 => ⟨S_, .f32⟩
  | 88 => ⟨S1536, .f32⟩
  | 89 => ⟨S1x1536, .f32⟩
  | 90 => ⟨S_, .f32⟩
  | 91 => ⟨S1536, .f32⟩
  | 92 => ⟨S1x1536, .f32⟩
  | 93 => ⟨S4095x1536, .f32⟩
  | 94 => ⟨S_, .f32⟩
  | 95 => ⟨S4096x1536, .f32⟩
  | 96 => ⟨S4096x1536, .f32⟩
  | 97 => ⟨S1x1536, .f32⟩
  | 98 => ⟨S_, .f32⟩
  | 99 => ⟨S4x1536, .f32⟩
  | 100 => ⟨S4x1536, .f32⟩
  | 101 => ⟨S4096x1536, .f32⟩
  | 102 => ⟨S4096x1536, .f32⟩
  | 103 => ⟨S4096x1536, .f32⟩
  | 104 => ⟨S_, .f32⟩
  | 105 => ⟨S1536, .f32⟩
  | 106 => ⟨S1x1536, .f32⟩
  | 107 => ⟨S_, .f32⟩
  | 108 => ⟨S1536, .f32⟩
  | 109 => ⟨S2x1536, .f32⟩
  | 110 => ⟨S4094x1536, .f32⟩
  | 111 => ⟨S_, .f32⟩
  | 112 => ⟨S4096x1536, .f32⟩
  | 113 => ⟨S4096x1536, .f32⟩
  | 114 => ⟨S1x1536, .f32⟩
  | 115 => ⟨S_, .f32⟩
  | 116 => ⟨S4x1536, .f32⟩
  | 117 => ⟨S4x1536, .f32⟩
  | 118 => ⟨S_, .f32⟩
  | 119 => ⟨S1536, .f32⟩
  | 120 => ⟨S1x1536, .f32⟩
  | 121 => ⟨S4096x1536, .f32⟩
  | 122 => ⟨S4096x1536, .f32⟩
  | 123 => ⟨S4096x1536, .f32⟩
  | 124 => ⟨S_, .f32⟩
  | 125 => ⟨S1536, .f32⟩
  | 126 => ⟨S1x1536, .f32⟩
  | 127 => ⟨S_, .f32⟩
  | _ => ⟨S4096x8960, .f32⟩

abbrev hbmTy0_1 (i : Nat) : BufTy := match i % 128 with
  | 0 => ⟨S1536, .f32⟩
  | 1 => ⟨S3x1536, .f32⟩
  | 2 => ⟨S4093x1536, .f32⟩
  | 3 => ⟨S_, .f32⟩
  | 4 => ⟨S4096x1536, .f32⟩
  | 5 => ⟨S4096x1536, .f32⟩
  | 6 => ⟨S1x1536, .f32⟩
  | 7 => ⟨S_, .f32⟩
  | 8 => ⟨S4x1536, .f32⟩
  | 9 => ⟨S4x1536, .f32⟩
  | 10 => ⟨S4096x1536, .bf16⟩
  | 11 => ⟨S_, .i32⟩
  | 12 => ⟨S_, .i32⟩
  | 13 => ⟨S4096x8960, .bf16⟩
  | _ => ⟨S4096x8960, .f32⟩

abbrev hbmTy (i : Nat) : BufTy := match i / 128 with
  | 0 => hbmTy0_0 i
  | 1 => hbmTy0_1 i
  | _ => ⟨S4096x8960, .f32⟩

abbrev bufTy : (tb : Table) → Fin (tcTables nBuf tb) → BufTy
  | .hbm, ⟨i, _⟩ => hbmTy i
  | _, _ => ⟨S4096x8960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_10 : Ref sig .tc := ⟨.hbm, 74, rfl⟩
abbrev main_v58 : Ref sig .tc := ⟨.hbm, 75, rfl⟩
abbrev main_v59 : Ref sig .tc := ⟨.hbm, 76, rfl⟩
abbrev main_cst_11 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_12 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_13 : Ref sig .tc := ⟨.hbm, 87, rfl⟩
abbrev main_v68 : Ref sig .tc := ⟨.hbm, 88, rfl⟩
abbrev main_v69 : Ref sig .tc := ⟨.hbm, 89, rfl⟩
abbrev main_cst_14 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_15 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_16 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_17 : Ref sig .tc := ⟨.hbm, 104, rfl⟩
abbrev main_v81 : Ref sig .tc := ⟨.hbm, 105, rfl⟩
abbrev main_v82 : Ref sig .tc := ⟨.hbm, 106, rfl⟩
abbrev main_cst_18 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_19 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_20 : Ref sig .tc := ⟨.hbm, 115, rfl⟩
abbrev main_v89 : Ref sig .tc := ⟨.hbm, 116, rfl⟩
abbrev main_v90 : Ref sig .tc := ⟨.hbm, 117, rfl⟩
abbrev main_cst_21 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_22 : Ref sig .tc := ⟨.hbm, 124, rfl⟩
abbrev main_v96 : Ref sig .tc := ⟨.hbm, 125, rfl⟩
abbrev main_v97 : Ref sig .tc := ⟨.hbm, 126, rfl⟩
abbrev main_cst_23 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_24 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_25 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_c : Ref sig .tc := ⟨.hbm, 139, rfl⟩
abbrev main_c_26 : Ref sig .tc := ⟨.hbm, 140, rfl⟩
abbrev main_v107 : Ref sig .tc := ⟨.hbm, 141, rfl⟩

abbrev nD : Nat := 1
abbrev τ : Topo := Topo.v7x

variable {F : FTy → Type} [FloatOps F]
-- ==== ConvGdnGrad.lean ====
abbrev S4096x8960 : Shape := ⟨2, ![4096, 8960]⟩
abbrev S4x3072 : Shape := ⟨2, ![4, 3072]⟩
abbrev S4096x3072 : Shape := ⟨2, ![4096, 3072]⟩
abbrev S_ : Shape := ⟨0, ![]⟩
abbrev S1x3072 : Shape := ⟨2, ![1, 3072]⟩
abbrev S3072 : Shape := ⟨1, ![3072]⟩
abbrev S3x3072 : Shape := ⟨2, ![3, 3072]⟩
abbrev S4093x3072 : Shape := ⟨2, ![4093, 3072]⟩
abbrev S2x3072 : Shape := ⟨2, ![2, 3072]⟩
abbrev S4094x3072 : Shape := ⟨2, ![4094, 3072]⟩
abbrev S4095x3072 : Shape := ⟨2, ![4095, 3072]⟩
abbrev S0x3072 : Shape := ⟨2, ![0, 3072]⟩
abbrev S4096x256 : Shape := ⟨2, ![4096, 256]⟩
abbrev S4x256 : Shape := ⟨2, ![4, 256]⟩
abbrev S1x256 : Shape := ⟨2, ![1, 256]⟩
abbrev S16x256 : Shape := ⟨2, ![16, 256]⟩
abbrev S256 : Shape := ⟨1, ![256]⟩

abbrev nBuf : Space → Nat
  | .hbm => 50
  | .vmem => 14
  | .smem => 0
  | _ => 0

abbrev bufTy : (tb : Table) → Fin (tcTables nBuf tb) → BufTy
  | .hbm, ⟨0, _⟩ => ⟨S4096x8960, .f32⟩
  | .hbm, ⟨1, _⟩ => ⟨S4x3072, .f32⟩
  | .hbm, ⟨2, _⟩ => ⟨S4096x3072, .f32⟩
  | .hbm, ⟨3, _⟩ => ⟨S4096x8960, .bf16⟩
  | .hbm, ⟨4, _⟩ => ⟨S4096x3072, .f32⟩
  | .hbm, ⟨5, _⟩ => ⟨S_, .f32⟩
  | .hbm, ⟨6, _⟩ => ⟨S1x3072, .f32⟩
  | .hbm, ⟨7, _⟩ => ⟨S1x3072, .f32⟩
  | .hbm, ⟨8, _⟩ => ⟨S3072, .f32⟩
  | .hbm, ⟨9, _⟩ => ⟨S_, .f32⟩
  | .hbm, ⟨10, _⟩ => ⟨S3x3072, .f32⟩
  | .hbm, ⟨11, _⟩ => ⟨S4093x3072, .f32⟩
  | .hbm, ⟨12, _⟩ => ⟨S4096x3072, .f32⟩
  | .hbm, ⟨13, _⟩ => ⟨S1x3072, .f32⟩
  | .hbm, ⟨14, _⟩ => ⟨S4096x3072, .f32⟩
  | .hbm, ⟨15, _⟩ => ⟨S4096x3072, .f32⟩
  | .hbm, ⟨16, _⟩ => ⟨S4096x3072, .f32⟩
  | .hbm, ⟨17, _⟩ => ⟨S4096x3072, .f32⟩
  | .hbm, ⟨18, _⟩ => ⟨S1x3072, .f32⟩
  | .hbm, ⟨19, _⟩ => ⟨S3072, .f32⟩
  | .hbm, ⟨20, _⟩ => ⟨S_, .f32⟩
  | .hbm, ⟨21, _⟩ => ⟨S2x3072, .f32⟩
  | .hbm, ⟨22, _⟩ => ⟨S4094x3072, .f32⟩
  | .hbm, ⟨23, _⟩ => ⟨S4096x3072, .f32⟩
  | .hbm, ⟨24, _⟩ => ⟨S1x3072, .f32⟩
  | .hbm, ⟨25, _⟩ => ⟨S4096x3072, .f32⟩
  | .hbm, ⟨26, _⟩ => ⟨S4096x3072, .f32⟩
  | .hbm, ⟨27, _⟩ => ⟨S4096x3072, .f32⟩
  | .hbm, ⟨28, _⟩ => ⟨S1x3072, .f32⟩
  | .hbm, ⟨29, _⟩ => ⟨S3072, .f32⟩
  | .hbm, ⟨30, _⟩ => ⟨S_, .f32⟩
  | .hbm, ⟨31, _⟩ => ⟨S1x3072, .f32⟩
  | .hbm, ⟨32, _⟩ => ⟨S4095x3072, .f32⟩
  | .hbm, ⟨33, _⟩ => ⟨S4096x3072, .f32⟩
  | .hbm, ⟨34, _⟩ => ⟨S1x3072, .f32⟩
  | .hbm, ⟨35, _⟩ => ⟨S4096x3072, .f32⟩
  | .hbm, ⟨36, _⟩ => ⟨S4096x3072, .f32⟩
  | .hbm, ⟨37, _⟩ => ⟨S4096x3072, .f32⟩
  | .hbm, ⟨38, _⟩ => ⟨S1x3072, .f32⟩
  | .hbm, ⟨39, _⟩ => ⟨S3072, .f32⟩
  | .hbm, ⟨40, _⟩ => ⟨S_, .f32⟩
  | .hbm, ⟨41, _⟩ => ⟨S0x3072, .f32⟩
  | .hbm, ⟨42, _⟩ => ⟨S4096x3072, .f32⟩
  | .hbm, ⟨43, _⟩ => ⟨S1x3072, .f32⟩
  | .hbm, ⟨44, _⟩ => ⟨S4096x3072, .f32⟩
  | .hbm, ⟨45, _⟩ => ⟨S4096x3072, .f32⟩
  | .hbm, ⟨46, _⟩ => ⟨S4096x3072, .f32⟩
  | .hbm, ⟨47, _⟩ => ⟨S4096x8960, .bf16⟩
  | .hbm, ⟨48, _⟩ => ⟨S4x3072, .f32⟩
  | .hbm, ⟨49, _⟩ => ⟨S1x3072, .f32⟩
  | .local _ .vmem, ⟨0, _⟩ => ⟨S4096x256, .f32⟩
  | .local _ .vmem, ⟨1, _⟩ => ⟨S4096x256, .f32⟩
  | .local _ .vmem, ⟨2, _⟩ => ⟨S4x256, .f32⟩
  | .local _ .vmem, ⟨3, _⟩ => ⟨S4x256, .f32⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S4096x256, .f32⟩
  | .local _ .vmem, ⟨8, _⟩ => ⟨S4096x256, .bf16⟩
  | .local _ .vmem, ⟨9, _⟩ => ⟨S4096x256, .bf16⟩
  | .local _ .vmem, ⟨10, _⟩ => ⟨S4x256, .f32⟩
  | .local _ .vmem, ⟨11, _⟩ => ⟨S4x256, .f32⟩
  | .local _ .vmem, ⟨12, _⟩ => ⟨S1x256, .f32⟩
  | .local _ .vmem, ⟨13, _⟩ => ⟨S1x256, .f32⟩
  | _, _ => ⟨S4096x8960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38_0 : Ref sig .tc := ⟨.hbm, 47, rfl⟩
abbrev main_v38_1 : Ref sig .tc := ⟨.hbm, 48, rfl⟩
abbrev main_v38_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvGdnGradRefIdeal.lean ====
abbrev S4096x8960 : Shape := ⟨2, ![4096, 8960]⟩
abbrev S4x3072 : Shape := ⟨2, ![4, 3072]⟩
abbrev S4096x3072 : Shape := ⟨2, ![4096, 3072]⟩
abbrev S_ : Shape := ⟨0, ![]⟩
abbrev S1x3072 : Shape := ⟨2, ![1, 3072]⟩
abbrev S3072 : Shape := ⟨1, ![3072]⟩
abbrev S3x3072 : Shape := ⟨2, ![3, 3072]⟩
abbrev S4093x3072 : Shape := ⟨2, ![4093, 3072]⟩
abbrev S2x3072 : Shape := ⟨2, ![2, 3072]⟩
abbrev S4094x3072 : Shape := ⟨2, ![4094, 3072]⟩
abbrev S4095x3072 : Shape := ⟨2, ![4095, 3072]⟩
abbrev S0x3072 : Shape := ⟨2, ![0, 3072]⟩

abbrev nBuf : Space → Nat
  | .hbm => 143
  | .vmem => 0
  | .smem => 0
  | _ => 0

abbrev hbmTy0_0 (i : Nat) : BufTy := match i % 128 with
  | 0 => ⟨S4096x8960, .f32⟩
  | 1 => ⟨S4x3072, .f32⟩
  | 2 => ⟨S4096x3072, .f32⟩
  | 3 => ⟨S4096x8960, .bf16⟩
  | 4 => ⟨S_, .f32⟩
  | 5 => ⟨S1x3072, .f32⟩
  | 6 => ⟨S4096x3072, .f32⟩
  | 7 => ⟨S1x3072, .f32⟩
  | 8 => ⟨S3072, .f32⟩
  | 9 => ⟨S_, .f32⟩
  | 10 => ⟨S3x3072, .f32⟩
  | 11 => ⟨S4093x3072, .f32⟩
  | 12 => ⟨S4096x3072, .f32⟩
  | 13 => ⟨S_, .f32⟩
  | 14 => ⟨S3x3072, .f32⟩
  | 15 => ⟨S1x3072, .f32⟩
  | 16 => ⟨S4096x3072, .f32⟩
  | 17 => ⟨S4096x3072, .f32⟩
  | 18 => ⟨S4096x3072, .f32⟩
  | 19 => ⟨S4096x3072, .f32⟩
  | 20 => ⟨S1x3072, .f32⟩
  | 21 => ⟨S3072, .f32⟩
  | 22 => ⟨S_, .f32⟩
  | 23 => ⟨S2x3072, .f32⟩
  | 24 => ⟨S4094x3072, .f32⟩
  | 25 => ⟨S4096x3072, .f32⟩
  | 26 => ⟨S_, .f32⟩
  | 27 => ⟨S2x3072, .f32⟩
  | 28 => ⟨S1x3072, .f32⟩
  | 29 => ⟨S4096x3072, .f32⟩
  | 30 => ⟨S4096x3072, .f32⟩
  | 31 => ⟨S4096x3072, .f32⟩
  | 32 => ⟨S1x3072, .f32⟩
  | 33 => ⟨S3072, .f32⟩
  | 34 => ⟨S_, .f32⟩
  | 35 => ⟨S1x3072, .f32⟩
  | 36 => ⟨S4095x3072, .f32⟩
  | 37 => ⟨S4096x3072, .f32⟩
  | 38 => ⟨S_, .f32⟩
  | 39 => ⟨S1x3072, .f32⟩
  | 40 => ⟨S1x3072, .f32⟩
  | 41 => ⟨S4096x3072, .f32⟩
  | 42 => ⟨S4096x3072, .f32⟩
  | 43 => ⟨S4096x3072, .f32⟩
  | 44 => ⟨S1x3072, .f32⟩
  | 45 => ⟨S3072, .f32⟩
  | 46 => ⟨S_, .f32⟩
  | 47 => ⟨S0x3072, .f32⟩
  | 48 => ⟨S4096x3072, .f32⟩
  | 49 => ⟨S_, .f32⟩
  | 50 => ⟨S0x3072, .f32⟩
  | 51 => ⟨S1x3072, .f32⟩
  | 52 => ⟨S4096x3072, .f32⟩
  | 53 => ⟨S4096x3072, .f32⟩
  | 54 => ⟨S4096x3072, .f32⟩
  | 55 => ⟨S4096x3072, .f32⟩
  | 56 => ⟨S4096x3072, .f32⟩
  | 57 => ⟨S_, .f32⟩
  | 58 => ⟨S4096x3072, .f32⟩
  | 59 => ⟨S4096x3072, .f32⟩
  | 60 => ⟨S_, .f32⟩
  | 61 => ⟨S4096x3072, .f32⟩
  | 62 => ⟨S4096x3072, .f32⟩
  | 63 => ⟨S_, .f32⟩
  | 64 => ⟨S4096x3072, .f32⟩
  | 65 => ⟨S4096x3072, .f32⟩
  | 66 => ⟨S4096x3072, .f32⟩
  | 67 => ⟨S4096x3072, .f32⟩
  | 68 => ⟨S4096x3072, .f32⟩
  | 69 => ⟨S4096x3072, .f32⟩
  | 70 => ⟨S4096x3072, .f32⟩
  | 71 => ⟨S4096x3072, .f32⟩
  | 72 => ⟨S4096x3072, .f32⟩
  | 73 => ⟨S4096x3072, .f32⟩
  | 74 => ⟨S4096x3072, .f32⟩
  | 75 => ⟨S_, .f32⟩
  | 76 => ⟨S3072, .f32⟩
  | 77 => ⟨S1x3072, .f32⟩
  | 78 => ⟨S_, .f32⟩
  | 79 => ⟨S3072, .f32⟩
  | 80 => ⟨S0x3072, .f32⟩
  | 81 => ⟨S4096x3072, .f32⟩
  | 82 => ⟨S1x3072, .f32⟩
  | 83 => ⟨S_, .f32⟩
  | 84 => ⟨S4x3072, .f32⟩
  | 85 => ⟨S4096x3072, .f32⟩
  | 86 => ⟨S4096x3072, .f32⟩
  | 87 => ⟨S4096x3072, .f32⟩
  | 88 => ⟨S_, .f32⟩
  | 89 => ⟨S3072, .f32⟩
  | 90 => ⟨S1x3072, .f32⟩
  | 91 => ⟨S_, .f32⟩
  | 92 => ⟨S3072, .f32⟩
  | 93 => ⟨S1x3072, .f32⟩
  | 94 => ⟨S4095x3072, .f32⟩
  | 95 => ⟨S_, .f32⟩
  | 96 => ⟨S4096x3072, .f32⟩
  | 97 => ⟨S4096x3072, .f32⟩
  | 98 => ⟨S1x3072, .f32⟩
  | 99 => ⟨S_, .f32⟩
  | 100 => ⟨S4x3072, .f32⟩
  | 101 => ⟨S4x3072, .f32⟩
  | 102 => ⟨S4096x3072, .f32⟩
  | 103 => ⟨S4096x3072, .f32⟩
  | 104 => ⟨S4096x3072, .f32⟩
  | 105 => ⟨S_, .f32⟩
  | 106 => ⟨S3072, .f32⟩
  | 107 => ⟨S1x3072, .f32⟩
  | 108 => ⟨S_, .f32⟩
  | 109 => ⟨S3072, .f32⟩
  | 110 => ⟨S2x3072, .f32⟩
  | 111 => ⟨S4094x3072, .f32⟩
  | 112 => ⟨S_, .f32⟩
  | 113 => ⟨S4096x3072, .f32⟩
  | 114 => ⟨S4096x3072, .f32⟩
  | 115 => ⟨S1x3072, .f32⟩
  | 116 => ⟨S_, .f32⟩
  | 117 => ⟨S4x3072, .f32⟩
  | 118 => ⟨S4x3072, .f32⟩
  | 119 => ⟨S_, .f32⟩
  | 120 => ⟨S3072, .f32⟩
  | 121 => ⟨S1x3072, .f32⟩
  | 122 => ⟨S4096x3072, .f32⟩
  | 123 => ⟨S4096x3072, .f32⟩
  | 124 => ⟨S4096x3072, .f32⟩
  | 125 => ⟨S_, .f32⟩
  | 126 => ⟨S3072, .f32⟩
  | 127 => ⟨S1x3072, .f32⟩
  | _ => ⟨S4096x8960, .f32⟩

abbrev hbmTy0_1 (i : Nat) : BufTy := match i % 128 with
  | 0 => ⟨S_, .f32⟩
  | 1 => ⟨S3072, .f32⟩
  | 2 => ⟨S3x3072, .f32⟩
  | 3 => ⟨S4093x3072, .f32⟩
  | 4 => ⟨S_, .f32⟩
  | 5 => ⟨S4096x3072, .f32⟩
  | 6 => ⟨S4096x3072, .f32⟩
  | 7 => ⟨S1x3072, .f32⟩
  | 8 => ⟨S_, .f32⟩
  | 9 => ⟨S4x3072, .f32⟩
  | 10 => ⟨S4x3072, .f32⟩
  | 11 => ⟨S4096x3072, .bf16⟩
  | 12 => ⟨S_, .i32⟩
  | 13 => ⟨S_, .i32⟩
  | 14 => ⟨S4096x8960, .bf16⟩
  | _ => ⟨S4096x8960, .f32⟩

abbrev hbmTy (i : Nat) : BufTy := match i / 128 with
  | 0 => hbmTy0_0 i
  | 1 => hbmTy0_1 i
  | _ => ⟨S4096x8960, .f32⟩

abbrev bufTy : (tb : Table) → Fin (tcTables nBuf tb) → BufTy
  | .hbm, ⟨i, _⟩ => hbmTy i
  | _, _ => ⟨S4096x8960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_v47 : Ref sig .tc := ⟨.hbm, 62, rfl⟩
abbrev main_cst_10 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_11 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_13 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_14 : Ref sig .tc := ⟨.hbm, 88, rfl⟩
abbrev main_v69 : Ref sig .tc := ⟨.hbm, 89, rfl⟩
abbrev main_v70 : Ref sig .tc := ⟨.hbm, 90, rfl⟩
abbrev main_cst_15 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_16 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_17 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_18 : Ref sig .tc := ⟨.hbm, 105, rfl⟩
abbrev main_v82 : Ref sig .tc := ⟨.hbm, 106, rfl⟩
abbrev main_v83 : Ref sig .tc := ⟨.hbm, 107, rfl⟩
abbrev main_cst_19 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_20 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_21 : Ref sig .tc := ⟨.hbm, 116, rfl⟩
abbrev main_v90 : Ref sig .tc := ⟨.hbm, 117, rfl⟩
abbrev main_v91 : Ref sig .tc := ⟨.hbm, 118, rfl⟩
abbrev main_cst_22 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_23 : Ref sig .tc := ⟨.hbm, 125, rfl⟩
abbrev main_v97 : Ref sig .tc := ⟨.hbm, 126, rfl⟩
abbrev main_v98 : Ref sig .tc := ⟨.hbm, 127, rfl⟩
abbrev main_cst_24 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_25 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_26 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_c : Ref sig .tc := ⟨.hbm, 140, rfl⟩
abbrev main_c_27 : Ref sig .tc := ⟨.hbm, 141, rfl⟩
abbrev main_v108 : Ref sig .tc := ⟨.hbm, 142, rfl⟩

abbrev nD : Nat := 1
abbrev τ : Topo := Topo.v7x

variable {F : FTy → Type} [FloatOps F]
-- ==== SsdGrad.lean ====
abbrev S4096x1536 : Shape := ⟨2, ![4096, 1536]⟩
abbrev S4096x8960 : Shape := ⟨2, ![4096, 8960]⟩
abbrev S1x128 : Shape := ⟨2, ![1, 128]⟩
abbrev S16 : Shape := ⟨1, ![16]⟩
abbrev S1024 : Shape := ⟨1, ![1024]⟩
abbrev S4096x1024 : Shape := ⟨2, ![4096, 1024]⟩
abbrev S64x128x1024 : Shape := ⟨3, ![64, 128, 1024]⟩
abbrev S16x64 : Shape := ⟨2, ![16, 64]⟩
abbrev S1x1024 : Shape := ⟨2, ![1, 1024]⟩
abbrev S128x1024 : Shape := ⟨2, ![128, 1024]⟩
abbrev S_ : Shape := ⟨0, ![]⟩
abbrev S4096x128 : Shape := ⟨2, ![4096, 128]⟩
abbrev S512x1536 : Shape := ⟨2, ![512, 1536]⟩
abbrev S512x1024 : Shape := ⟨2, ![512, 1024]⟩
abbrev S512x128 : Shape := ⟨2, ![512, 128]⟩
abbrev S8x128x1024 : Shape := ⟨3, ![8, 128, 1024]⟩
abbrev S64x1536 : Shape := ⟨2, ![64, 1536]⟩
abbrev S64x128 : Shape := ⟨2, ![64, 128]⟩
abbrev S64x64 : Shape := ⟨2, ![64, 64]⟩
abbrev S128x64 : Shape := ⟨2, ![128, 64]⟩
abbrev S64x1024 : Shape := ⟨2, ![64, 1024]⟩
abbrev S1x128x1024 : Shape := ⟨3, ![1, 128, 1024]⟩
abbrev S64x512 : Shape := ⟨2, ![64, 512]⟩
abbrev S64 : Shape := ⟨1, ![64]⟩
abbrev S64x1 : Shape := ⟨2, ![64, 1]⟩
abbrev S128x512 : Shape := ⟨2, ![128, 512]⟩
abbrev S1x64 : Shape := ⟨2, ![1, 64]⟩
abbrev S112x64 : Shape := ⟨2, ![112, 64]⟩
abbrev S128 : Shape := ⟨1, ![128]⟩

abbrev nBuf : Space → Nat
  | .hbm => 43
  | .vmem => 29
  | .smem => 0
  | _ => 0

abbrev bufTy : (tb : Table) → Fin (tcTables nBuf tb) → BufTy
  | .hbm, ⟨0, _⟩ => ⟨S4096x1536, .f32⟩
  | .hbm, ⟨1, _⟩ => ⟨S4096x8960, .f32⟩
  | .hbm, ⟨2, _⟩ => ⟨S1x128, .f32⟩
  | .hbm, ⟨3, _⟩ => ⟨S1x128, .f32⟩
  | .hbm, ⟨4, _⟩ => ⟨S16, .f32⟩
  | .hbm, ⟨5, _⟩ => ⟨S1024, .f32⟩
  | .hbm, ⟨6, _⟩ => ⟨S4096x1024, .f32⟩
  | .hbm, ⟨7, _⟩ => ⟨S64x128x1024, .f32⟩
  | .hbm, ⟨8, _⟩ => ⟨S4096x1024, .f32⟩
  | .hbm, ⟨9, _⟩ => ⟨S4096x8960, .bf16⟩
  | .hbm, ⟨10, _⟩ => ⟨S16x64, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S128x1024, .i32⟩
  | .hbm, ⟨15, _⟩ => ⟨S128x1024, .i32⟩
  | .hbm, ⟨16, _⟩ => ⟨S_, .i32⟩
  | .hbm, ⟨17, _⟩ => ⟨S_, .i32⟩
  | .hbm, ⟨18, _⟩ => ⟨S128x1024, .i32⟩
  | .hbm, ⟨19, _⟩ => ⟨S128x1024, .i32⟩
  | .hbm, ⟨20, _⟩ => ⟨S128x1024, .i32⟩
  | .hbm, ⟨21, _⟩ => ⟨S_, .i32⟩
  | .hbm, ⟨22, _⟩ => ⟨S128x1024, .i32⟩
  | .hbm, ⟨23, _⟩ => ⟨S128x1024, .i1⟩
  | .hbm, ⟨24, _⟩ => ⟨S128x1024, .i32⟩
  | .hbm, ⟨25, _⟩ => ⟨S128x1024, .i32⟩
  | .hbm, ⟨26, _⟩ => ⟨S_, .i32⟩
  | .hbm, ⟨27, _⟩ => ⟨S128x1024, .i32⟩
  | .hbm, ⟨28, _⟩ => ⟨S128x1024, .i1⟩
  | .hbm, ⟨29, _⟩ => ⟨S128x1024, .i1⟩
  | .hbm, ⟨30, _⟩ => ⟨S_, .i32⟩
  | .hbm, ⟨31, _⟩ => ⟨S128x1024, .i32⟩
  | .hbm, ⟨32, _⟩ => ⟨S128x1024, .i32⟩
  | .hbm, ⟨33, _⟩ => ⟨S128x1024, .i32⟩
  | .hbm, ⟨34, _⟩ => ⟨S128x1024, .i1⟩
  | .hbm, ⟨35, _⟩ => ⟨S128x1024, .bf16⟩
  | .hbm, ⟨36, _⟩ => ⟨S4096x1536, .f32⟩
  | .hbm, ⟨37, _⟩ => ⟨S4096x8960, .bf16⟩
  | .hbm, ⟨38, _⟩ => ⟨S4096x128, .bf16⟩
  | .hbm, ⟨39, _⟩ => ⟨S1x1024, .f32⟩
  | .hbm, ⟨40, _⟩ => ⟨S1x128, .f32⟩
  | .hbm, ⟨41, _⟩ => ⟨S1x128, .f32⟩
  | .hbm, ⟨42, _⟩ => ⟨S1x128, .f32⟩
  | .local _ .vmem, ⟨0, _⟩ => ⟨S512x1536, .f32⟩
  | .local _ .vmem, ⟨1, _⟩ => ⟨S512x1536, .f32⟩
  | .local _ .vmem, ⟨2, _⟩ => ⟨S512x1024, .f32⟩
  | .local _ .vmem, ⟨3, _⟩ => ⟨S512x1024, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S1x128, .f32⟩
  | .local _ .vmem, ⟨8, _⟩ => ⟨S1x1024, .f32⟩
  | .local _ .vmem, ⟨9, _⟩ => ⟨S1x1024, .f32⟩
  | .local _ .vmem, ⟨10, _⟩ => ⟨S128x1024, .bf16⟩
  | .local _ .vmem, ⟨11, _⟩ => ⟨S512x1024, .f32⟩
  | .local _ .vmem, ⟨12, _⟩ => ⟨S512x1024, .f32⟩
  | .local _ .vmem, ⟨13, _⟩ => ⟨S8x128x1024, .f32⟩
  | .local _ .vmem, ⟨14, _⟩ => ⟨S8x128x1024, .f32⟩
  | .local _ .vmem, ⟨15, _⟩ => ⟨S512x1024, .f32⟩
  | .local _ .vmem, ⟨16, _⟩ => ⟨S512x1024, .f32⟩
  | .local _ .vmem, ⟨17, _⟩ => ⟨S512x1536, .f32⟩
  | .local _ .vmem, ⟨18, _⟩ => ⟨S512x1536, .f32⟩
  | .local _ .vmem, ⟨19, _⟩ => ⟨S512x1024, .bf16⟩
  | .local _ .vmem, ⟨20, _⟩ => ⟨S512x1024, .bf16⟩
  | .local _ .vmem, ⟨21, _⟩ => ⟨S512x128, .bf16⟩
  | .local _ .vmem, ⟨22, _⟩ => ⟨S512x128, .bf16⟩
  | .local _ .vmem, ⟨23, _⟩ => ⟨S1x1024, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S128x1024, .f32⟩
  | .local _ .vmem, ⟨28, _⟩ => ⟨S512x1024, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9_0 : Ref sig .tc := ⟨.hbm, 36, rfl⟩
abbrev main_v9_1 : Ref sig .tc := ⟨.hbm, 37, rfl⟩
abbrev main_v9_2 : Ref sig .tc := ⟨.hbm, 38, rfl⟩
abbrev main_v9_3 : Ref sig .tc := ⟨.hbm, 39, rfl⟩
abbrev main_v9_4 : Ref sig .tc := ⟨.hbm, 40, rfl⟩
abbrev main_v9_5 : Ref sig .tc := ⟨.hbm, 41, rfl⟩
abbrev main_v9_6 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25
abbrev cc0_sem17_0 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c68_i32 : BitVec 32 := 68#32
  let c0_i32 : BitVec 32 := 0#32
  ![v0.toNat, c68_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== SsdGradRefIdeal.lean ====
abbrev S4096x1536 : Shape := ⟨2, ![4096, 1536]⟩
abbrev S4096x8960 : Shape := ⟨2, ![4096, 8960]⟩
abbrev S1x128 : Shape := ⟨2, ![1, 128]⟩
abbrev S16 : Shape := ⟨1, ![16]⟩
abbrev S1024 : Shape := ⟨1, ![1024]⟩
abbrev S4096x1024 : Shape := ⟨2, ![4096, 1024]⟩
abbrev S64x128x1024 : Shape := ⟨3, ![64, 128, 1024]⟩
abbrev S4096x16x64 : Shape := ⟨3, ![4096, 16, 64]⟩
abbrev S16x1 : Shape := ⟨2, ![16, 1]⟩
abbrev S1x16x1 : Shape := ⟨3, ![1, 16, 1]⟩
abbrev S_ : Shape := ⟨0, ![]⟩
abbrev S4096x2x512 : Shape := ⟨3, ![4096, 2, 512]⟩
abbrev S4096x2 : Shape := ⟨2, ![4096, 2]⟩
abbrev S4096x2x1 : Shape := ⟨3, ![4096, 2, 1]⟩
abbrev S1x1024 : Shape := ⟨2, ![1, 1024]⟩
abbrev S128 : Shape := ⟨1, ![128]⟩

abbrev nBuf : Space → Nat
  | .hbm => 108
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x8960, .f32⟩
  | .hbm, ⟨2, _⟩ => ⟨S1x128, .f32⟩
  | .hbm, ⟨3, _⟩ => ⟨S1x128, .f32⟩
  | .hbm, ⟨4, _⟩ => ⟨S16, .f32⟩
  | .hbm, ⟨5, _⟩ => ⟨S1024, .f32⟩
  | .hbm, ⟨6, _⟩ => ⟨S4096x1024, .f32⟩
  | .hbm, ⟨7, _⟩ => ⟨S64x128x1024, .f32⟩
  | .hbm, ⟨8, _⟩ => ⟨S4096x1024, .f32⟩
  | .hbm, ⟨9, _⟩ => ⟨S4096x8960, .bf16⟩
  | .hbm, ⟨10, _⟩ => ⟨S4096x1024, .f32⟩
  | .hbm, ⟨11, _⟩ => ⟨S4096x16x64, .f32⟩
  | .hbm, ⟨12, _⟩ => ⟨S4096x1024, .f32⟩
  | .hbm, ⟨13, _⟩ => ⟨S4096x16x64, .f32⟩
  | .hbm, ⟨14, _⟩ => ⟨S16x1, .f32⟩
  | .hbm, ⟨15, _⟩ => ⟨S1x16x1, .f32⟩
  | .hbm, ⟨16, _⟩ => ⟨S4096x16x64, .f32⟩
  | .hbm, ⟨17, _⟩ => ⟨S4096x16x64, .f32⟩
  | .hbm, ⟨18, _⟩ => ⟨S4096x16x64, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x2x512, .f32⟩
  | .hbm, ⟨35, _⟩ => ⟨S4096x2x512, .f32⟩
  | .hbm, ⟨36, _⟩ => ⟨S_, .f32⟩
  | .hbm, ⟨37, _⟩ => ⟨S4096x2, .f32⟩
  | .hbm, ⟨38, _⟩ => ⟨S4096x2x1, .f32⟩
  | .hbm, ⟨39, _⟩ => ⟨S_, .f32⟩
  | .hbm, ⟨40, _⟩ => ⟨S4096x2x1, .f32⟩
  | .hbm, ⟨41, _⟩ => ⟨S4096x2x1, .f32⟩
  | .hbm, ⟨42, _⟩ => ⟨S_, .f32⟩
  | .hbm, ⟨43, _⟩ => ⟨S4096x2x1, .f32⟩
  | .hbm, ⟨44, _⟩ => ⟨S4096x2x1, .f32⟩
  | .hbm, ⟨45, _⟩ => ⟨S4096x2x1, .f32⟩
  | .hbm, ⟨46, _⟩ => ⟨S4096x2x1, .f32⟩
  | .hbm, ⟨47, _⟩ => ⟨S_, .f32⟩
  | .hbm, ⟨48, _⟩ => ⟨S4096x2x1, .f32⟩
  | .hbm, ⟨49, _⟩ => ⟨S4096x2x1, .f32⟩
  | .hbm, ⟨50, _⟩ => ⟨S4096x2x512, .f32⟩
  | .hbm, ⟨51, _⟩ => ⟨S4096x2x512, .f32⟩
  | .hbm, ⟨52, _⟩ => ⟨S4096x1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S4096x2x512, .f32⟩
  | .hbm, ⟨65, _⟩ => ⟨S4096x2x512, .f32⟩
  | .hbm, ⟨66, _⟩ => ⟨S_, .f32⟩
  | .hbm, ⟨67, _⟩ => ⟨S4096x2, .f32⟩
  | .hbm, ⟨68, _⟩ => ⟨S4096x2x1, .f32⟩
  | .hbm, ⟨69, _⟩ => ⟨S4096x2x512, .f32⟩
  | .hbm, ⟨70, _⟩ => ⟨S4096x2x512, .f32⟩
  | .hbm, ⟨71, _⟩ => ⟨S4096x2x1, .f32⟩
  | .hbm, ⟨72, _⟩ => ⟨S_, .f32⟩
  | .hbm, ⟨73, _⟩ => ⟨S4096x2x1, .f32⟩
  | .hbm, ⟨74, _⟩ => ⟨S4096x2x1, .f32⟩
  | .hbm, ⟨75, _⟩ => ⟨S_, .f32⟩
  | .hbm, ⟨76, _⟩ => ⟨S4096x2, .f32⟩
  | .hbm, ⟨77, _⟩ => ⟨S4096x2x512, .f32⟩
  | .hbm, ⟨78, _⟩ => ⟨S4096x2x512, .f32⟩
  | .hbm, ⟨79, _⟩ => ⟨S4096x2x512, .f32⟩
  | .hbm, ⟨80, _⟩ => ⟨S4096x2x512, .f32⟩
  | .hbm, ⟨81, _⟩ => ⟨S4096x2x512, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x16x64, .f32⟩
  | .hbm, ⟨90, _⟩ => ⟨S4096x16x64, .f32⟩
  | .hbm, ⟨91, _⟩ => ⟨S_, .f32⟩
  | .hbm, ⟨92, _⟩ => ⟨S16, .f32⟩
  | .hbm, ⟨93, _⟩ => ⟨S1x16x1, .f32⟩
  | .hbm, ⟨94, _⟩ => ⟨S_, .f32⟩
  | .hbm, ⟨95, _⟩ => ⟨S16, .f32⟩
  | .hbm, ⟨96, _⟩ => ⟨S16x1, .f32⟩
  | .hbm, ⟨97, _⟩ => ⟨S_, .f32⟩
  | .hbm, ⟨98, _⟩ => ⟨S16, .f32⟩
  | .hbm, ⟨99, _⟩ => ⟨S4096x1024, .bf16⟩
  | .hbm, ⟨100, _⟩ => ⟨S_, .i32⟩
  | .hbm, ⟨101, _⟩ => ⟨S_, .i32⟩
  | .hbm, ⟨102, _⟩ => ⟨S4096x8960, .bf16⟩
  | .hbm, ⟨103, _⟩ => ⟨S1x1024, .f32⟩
  | .hbm, ⟨104, _⟩ => ⟨S_, .i32⟩
  | .hbm, ⟨105, _⟩ => ⟨S_, .f32⟩
  | .hbm, ⟨106, _⟩ => ⟨S128, .f32⟩
  | .hbm, ⟨107, _⟩ => ⟨S1x128, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_11 : Ref sig .tc := ⟨.hbm, 91, rfl⟩
abbrev main_v69 : Ref sig .tc := ⟨.hbm, 92, rfl⟩
abbrev main_v70 : Ref sig .tc := ⟨.hbm, 93, rfl⟩
abbrev main_cst_12 : Ref sig .tc := ⟨.hbm, 94, rfl⟩
abbrev main_v71 : Ref sig .tc := ⟨.hbm, 95, rfl⟩
abbrev main_v72 : Ref sig .tc := ⟨.hbm, 96, rfl⟩
abbrev main_cst_13 : Ref sig .tc := ⟨.hbm, 97, rfl⟩
abbrev main_v73 : Ref sig .tc := ⟨.hbm, 98, rfl⟩
abbrev main_v74 : Ref sig .tc := ⟨.hbm, 99, rfl⟩
abbrev main_c : Ref sig .tc := ⟨.hbm, 100, rfl⟩
abbrev main_c_14 : Ref sig .tc := ⟨.hbm, 101, rfl⟩
abbrev main_v75 : Ref sig .tc := ⟨.hbm, 102, rfl⟩
abbrev main_v76 : Ref sig .tc := ⟨.hbm, 103, rfl⟩
abbrev main_c_15 : Ref sig .tc := ⟨.hbm, 104, rfl⟩
abbrev main_call0_v0 : Ref sig .tc := ⟨.hbm, 105, rfl⟩
abbrev main_v77 : Ref sig .tc := ⟨.hbm, 106, rfl⟩
abbrev main_v78 : Ref sig .tc := ⟨.hbm, 107, rfl⟩

abbrev nD : Nat := 1
abbrev τ : Topo := Topo.v7x

variable {F : FTy → Type} [FloatOps F]
-- ==== InProjGrad.lean ====
abbrev S4096x8960 : Shape := ⟨2, ![4096, 8960]⟩
abbrev S1024x8960 : Shape := ⟨2, ![1024, 8960]⟩
abbrev S4096x1024 : Shape := ⟨2, ![4096, 1024]⟩
abbrev S1024x1280 : Shape := ⟨2, ![1024, 1280]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8960, .bf16⟩
  | .hbm, ⟨1, _⟩ => ⟨S1024x8960, .bf16⟩
  | .hbm, ⟨2, _⟩ => ⟨S4096x1024, .f32⟩
  | .local _ .vmem, ⟨0, _⟩ => ⟨S1024x1280, .bf16⟩
  | .local _ .vmem, ⟨1, _⟩ => ⟨S1024x1280, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 7], ![false, false, false]⟩

def k0_cond3 (i : grid0.Coords) : BitVec 1 :=
  let arg2 : BitVec 32 := BitVec.ofNat 32 (i 2).val
  let c6_i32 : BitVec 32 := 6#32
  let v9 : BitVec 1 := Scalar.cmpi .eq arg2 c6_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjGradRefIdeal.lean ====
abbrev S4096x8960 : Shape := ⟨2, ![4096, 8960]⟩
abbrev S1024x8960 : Shape := ⟨2, ![1024, 8960]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x8960, .bf16⟩
  | .hbm, ⟨1, _⟩ => ⟨S1024x8960, .bf16⟩
  | .hbm, ⟨2, _⟩ => ⟨S1024x8960, .f32⟩
  | .hbm, ⟨3, _⟩ => ⟨S4096x8960, .f32⟩
  | .hbm, ⟨4, _⟩ => ⟨S4096x1024, .f32⟩
  | _, _ => ⟨S4096x8960, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InProjDw.lean ====
abbrev S4096x1024 : Shape := ⟨2, ![4096, 1024]⟩
abbrev S4096x8960 : Shape := ⟨2, ![4096, 8960]⟩
abbrev S1024x8960 : Shape := ⟨2, ![1024, 8960]⟩
abbrev S1024x1024 : Shape := ⟨2, ![1024, 1024]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x8960, .bf16⟩
  | .hbm, ⟨2, _⟩ => ⟨S1024x8960, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDwRefIdeal.lean ====
abbrev S4096x1024 : Shape := ⟨2, ![4096, 1024]⟩
abbrev S4096x8960 : Shape := ⟨2, ![4096, 8960]⟩
abbrev S8960x1024 : Shape := ⟨2, ![8960, 1024]⟩
abbrev S1024x8960 : Shape := ⟨2, ![1024, 8960]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x8960, .bf16⟩
  | .hbm, ⟨2, _⟩ => ⟨S4096x1024, .f32⟩
  | .hbm, ⟨3, _⟩ => ⟨S4096x8960, .f32⟩
  | .hbm, ⟨4, _⟩ => ⟨S8960x1024, .f32⟩
  | .hbm, ⟨5, _⟩ => ⟨S1024x8960, .f32⟩
  | .hbm, ⟨6, _⟩ => ⟨S1024x8960, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnInGrad.lean ====
abbrev S4096x2816 : Shape := ⟨2, ![4096, 2816]⟩
abbrev S1024x5632 : Shape := ⟨2, ![1024, 5632]⟩
abbrev S4096x1024 : Shape := ⟨2, ![4096, 1024]⟩
abbrev S1024x1408 : Shape := ⟨2, ![1024, 1408]⟩
abbrev S1024x1024 : Shape := ⟨2, ![1024, 1024]⟩

abbrev nBuf : Space → Nat
  | .hbm => 4
  | .vmem => 11
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .bf16⟩
  | .hbm, ⟨3, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfnInGradRefIdeal.lean ====
abbrev S4096x2816 : Shape := ⟨2, ![4096, 2816]⟩
abbrev S1024x5632 : Shape := ⟨2, ![1024, 5632]⟩
abbrev S4096x5632 : Shape := ⟨2, ![4096, 5632]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .bf16⟩
  | .hbm, ⟨3, _⟩ => ⟨S1024x5632, .f32⟩
  | .hbm, ⟨4, _⟩ => ⟨S4096x2816, .f32⟩
  | .hbm, ⟨5, _⟩ => ⟨S4096x2816, .f32⟩
  | .hbm, ⟨6, _⟩ => ⟨S4096x5632, .f32⟩
  | .hbm, ⟨7, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnInDw.lean ====
abbrev S4096x1024 : Shape := ⟨2, ![4096, 1024]⟩
abbrev S4096x2816 : Shape := ⟨2, ![4096, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1024x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwRefIdeal.lean ====
abbrev S4096x1024 : Shape := ⟨2, ![4096, 1024]⟩
abbrev S4096x2816 : Shape := ⟨2, ![4096, 2816]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S1024x2816, .f32⟩
  | .hbm, ⟨6, _⟩ => ⟨S1024x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnDownDw.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDwRefIdeal.lean ====
abbrev S4096x2816 : Shape := ⟨2, ![4096, 2816]⟩
abbrev S4096x1024 : Shape := ⟨2, ![4096, 1024]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SquareDw.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SquareDwRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SquareGrad.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareGradRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .f32⟩
  | .hbm, ⟨3, _⟩ => ⟨S4096x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InProj.lean ====
abbrev S4096x1024 : Shape := ⟨2, ![4096, 1024]⟩
abbrev S1024x8960 : Shape := ⟨2, ![1024, 8960]⟩
abbrev S4096x8960 : Shape := ⟨2, ![4096, 8960]⟩
abbrev S1024x1024 : Shape := ⟨2, ![1024, 1024]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x8960, .bf16⟩
  | .hbm, ⟨2, _⟩ => ⟨S4096x8960, .f32⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .f32⟩
  | .local _ .vmem, ⟨5, _⟩ => ⟨S1024x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S4096x1024 : Shape := ⟨2, ![4096, 1024]⟩
abbrev S1024x8960 : Shape := ⟨2, ![1024, 8960]⟩
abbrev S4096x8960 : Shape := ⟨2, ![4096, 8960]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x8960, .bf16⟩
  | .hbm, ⟨2, _⟩ => ⟨S4096x1024, .f32⟩
  | .hbm, ⟨3, _⟩ => ⟨S1024x8960, .f32⟩
  | .hbm, ⟨4, _⟩ => ⟨S4096x8960, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjSsm.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjSsmRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjMerge.lean ====
abbrev S4096x1024 : Shape := ⟨2, ![4096, 1024]⟩
abbrev S1024x1024 : Shape := ⟨2, ![1024, 1024]⟩
abbrev S4096x8960 : Shape := ⟨2, ![4096, 8960]⟩
abbrev S512x1024 : Shape := ⟨2, ![512, 1024]⟩

abbrev nBuf : Space → Nat
  | .hbm => 6
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x8960, .f32⟩
  | .hbm, ⟨4, _⟩ => ⟨S4096x1024, .bf16⟩
  | .hbm, ⟨5, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg1 c3_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ProjMergeRefIdeal.lean ====
abbrev S4096x1024 : Shape := ⟨2, ![4096, 1024]⟩
abbrev S1024x1024 : Shape := ⟨2, ![1024, 1024]⟩
abbrev S4096x8960 : Shape := ⟨2, ![4096, 8960]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x8960, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .bf16⟩
  | .hbm, ⟨30, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnIn.lean ====
abbrev S4096x1024 : Shape := ⟨2, ![4096, 1024]⟩
abbrev S1024x5632 : Shape := ⟨2, ![1024, 5632]⟩
abbrev S4096x2816 : Shape := ⟨2, ![4096, 2816]⟩
abbrev S1024x1024 : Shape := ⟨2, ![1024, 1024]⟩
abbrev S1024x1408 : Shape := ⟨2, ![1024, 1408]⟩

abbrev nBuf : Space → Nat
  | .hbm => 5
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | .local _ .vmem, ⟨13, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== FfnInRefIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .bf16⟩
  | .hbm, ⟨8, _⟩ => ⟨S4096x2816, .bf16⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== FfnDown.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== NormFwd.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== LossHead.lean ====
abbrev S4096x1024 : Shape := ⟨2, ![4096, 1024]⟩
abbrev S1024 : Shape := ⟨1, ![1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S1x1, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x1, .f32⟩
  | .hbm, ⟨72, _⟩ => ⟨S4096x1024, .bf16⟩
  | .hbm, ⟨73, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== SumSmall.lean ====
abbrev S8x88x128 : Shape := ⟨3, ![8, 88, 128]⟩
abbrev S88x128 : Shape := ⟨2, ![88, 128]⟩
abbrev S1x8x128 : Shape := ⟨3, ![1, 8, 128]⟩
abbrev S8x128 : Shape := ⟨2, ![8, 128]⟩

abbrev nBuf : Space → Nat
  | .hbm => 2
  | .vmem => 18
  | .smem => 0
  | _ => 0

abbrev bufTy : (tb : Table) → Fin (tcTables nBuf tb) → BufTy
  | .hbm, ⟨0, _⟩ => ⟨S8x88x128, .f32⟩
  | .hbm, ⟨1, _⟩ => ⟨S88x128, .f32⟩
  | .local _ .vmem, ⟨0, _⟩ => ⟨S1x8x128, .f32⟩
  | .local _ .vmem, ⟨1, _⟩ => ⟨S1x8x128, .f32⟩
  | .local _ .vmem, ⟨2, _⟩ => ⟨S1x8x128, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | .local _ .vmem, ⟨13, _⟩ => ⟨S1x8x128, .f32⟩
  | .local _ .vmem, ⟨14, _⟩ => ⟨S1x8x128, .f32⟩
  | .local _ .vmem, ⟨15, _⟩ => ⟨S1x8x128, .f32⟩
  | .local _ .vmem, ⟨16, _⟩ => ⟨S8x128, .f32⟩
  | .local _ .vmem, ⟨17, _⟩ => ⟨S8x128, .f32⟩
  | _, _ => ⟨S8x88x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SumSmallRefIdeal.lean ====
abbrev S8x88x128 : Shape := ⟨3, ![8, 88, 128]⟩
abbrev S_ : Shape := ⟨0, ![]⟩
abbrev S88x128 : Shape := ⟨2, ![88, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x88x128, .f32⟩
  | .hbm, ⟨1, _⟩ => ⟨S_, .f32⟩
  | .hbm, ⟨2, _⟩ => ⟨S88x128, .f32⟩
  | _, _ => ⟨S8x88x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumConvSsm.lean ====
abbrev S1x4x192 : Shape := ⟨3, ![1, 4, 192]⟩
abbrev S3x4x192 : Shape := ⟨3, ![3, 4, 192]⟩
abbrev S4x192 : Shape := ⟨2, ![4, 192]⟩

abbrev nBuf : Space → Nat
  | .hbm => 3
  | .vmem => 5
  | .smem => 0
  | _ => 0

abbrev bufTy : (tb : Table) → Fin (tcTables nBuf tb) → BufTy
  | .hbm, ⟨0, _⟩ => ⟨S1x4x192, .bf16⟩
  | .hbm, ⟨1, _⟩ => ⟨S3x4x192, .bf16⟩
  | .hbm, ⟨2, _⟩ => ⟨S4x192, .f32⟩
  | .local _ .vmem, ⟨0, _⟩ => ⟨S1x4x192, .bf16⟩
  | .local _ .vmem, ⟨1, _⟩ => ⟨S1x4x192, .bf16⟩
  | .local _ .vmem, ⟨2, _⟩ => ⟨S1x4x192, .bf16⟩
  | .local _ .vmem, ⟨3, _⟩ => ⟨S1x4x192, .bf16⟩
  | .local _ .vmem, ⟨4, _⟩ => ⟨S4x192, .f32⟩
  | _, _ => ⟨S1x4x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4x192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== SumConvSsmIdeal.lean ====
abbrev S1x4x192 : Shape := ⟨3, ![1, 4, 192]⟩
abbrev S3x4x192 : Shape := ⟨3, ![3, 4, 192]⟩
abbrev S4x192 : Shape := ⟨2, ![4, 192]⟩

abbrev nBuf : Space → Nat
  | .hbm => 3
  | .vmem => 5
  | .smem => 0
  | _ => 0

abbrev bufTy : (tb : Table) → Fin (tcTables nBuf tb) → BufTy
  | .hbm, ⟨0, _⟩ => ⟨S1x4x192, .bf16⟩
  | .hbm, ⟨1, _⟩ => ⟨S3x4x192, .bf16⟩
  | .hbm, ⟨2, _⟩ => ⟨S4x192, .f32⟩
  | .local _ .vmem, ⟨0, _⟩ => ⟨S1x4x192, .bf16⟩
  | .local _ .vmem, ⟨1, _⟩ => ⟨S1x4x192, .bf16⟩
  | .local _ .vmem, ⟨2, _⟩ => ⟨S1x4x192, .bf16⟩
  | .local _ .vmem, ⟨3, _⟩ => ⟨S1x4x192, .bf16⟩
  | .local _ .vmem, ⟨4, _⟩ => ⟨S4x192, .f32⟩
  | _, _ => ⟨S1x4x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4x192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== SumConvSsmRefIdeal.lean ====
abbrev S1x4x192 : Shape := ⟨3, ![1, 4, 192]⟩
abbrev S3x4x192 : Shape := ⟨3, ![3, 4, 192]⟩
abbrev S4x192 : Shape := ⟨2, ![4, 192]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1x4x192, .bf16⟩
  | .hbm, ⟨1, _⟩ => ⟨S3x4x192, .bf16⟩
  | .hbm, ⟨2, _⟩ => ⟨S1x4x192, .f32⟩
  | .hbm, ⟨3, _⟩ => ⟨S4x192, .f32⟩
  | .hbm, ⟨4, _⟩ => ⟨S3x4x192, .f32⟩
  | .hbm, ⟨5, _⟩ => ⟨S_, .f32⟩
  | .hbm, ⟨6, _⟩ => ⟨S4x192, .f32⟩
  | .hbm, ⟨7, _⟩ => ⟨S4x192, .f32⟩
  | _, _ => ⟨S1x4x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SumConvGdn.lean ====
abbrev S1x4x384 : Shape := ⟨3, ![1, 4, 384]⟩
abbrev S3x4x384 : Shape := ⟨3, ![3, 4, 384]⟩
abbrev S4x384 : Shape := ⟨2, ![4, 384]⟩

abbrev nBuf : Space → Nat
  | .hbm => 3
  | .vmem => 5
  | .smem => 0
  | _ => 0

abbrev bufTy : (tb : Table) → Fin (tcTables nBuf tb) → BufTy
  | .hbm, ⟨0, _⟩ => ⟨S1x4x384, .bf16⟩
  | .hbm, ⟨1, _⟩ => ⟨S3x4x384, .bf16⟩
  | .hbm, ⟨2, _⟩ => ⟨S4x384, .f32⟩
  | .local _ .vmem, ⟨0, _⟩ => ⟨S1x4x384, .bf16⟩
  | .local _ .vmem, ⟨1, _⟩ => ⟨S1x4x384, .bf16⟩
  | .local _ .vmem, ⟨2, _⟩ => ⟨S1x4x384, .bf16⟩
  | .local _ .vmem, ⟨3, _⟩ => ⟨S1x4x384, .bf16⟩
  | .local _ .vmem, ⟨4, _⟩ => ⟨S4x384, .f32⟩
  | _, _ => ⟨S1x4x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== SumConvGdnIdeal.lean ====
abbrev S1x4x384 : Shape := ⟨3, ![1, 4, 384]⟩
abbrev S3x4x384 : Shape := ⟨3, ![3, 4, 384]⟩
abbrev S4x384 : Shape := ⟨2, ![4, 384]⟩

abbrev nBuf : Space → Nat
  | .hbm => 3
  | .vmem => 5
  | .smem => 0
  | _ => 0

abbrev bufTy : (tb : Table) → Fin (tcTables nBuf tb) → BufTy
  | .hbm, ⟨0, _⟩ => ⟨S1x4x384, .bf16⟩
  | .hbm, ⟨1, _⟩ => ⟨S3x4x384, .bf16⟩
  | .hbm, ⟨2, _⟩ => ⟨S4x384, .f32⟩
  | .local _ .vmem, ⟨0, _⟩ => ⟨S1x4x384, .bf16⟩
  | .local _ .vmem, ⟨1, _⟩ => ⟨S1x4x384, .bf16⟩
  | .local _ .vmem, ⟨2, _⟩ => ⟨S1x4x384, .bf16⟩
  | .local _ .vmem, ⟨3, _⟩ => ⟨S1x4x384, .bf16⟩
  | .local _ .vmem, ⟨4, _⟩ => ⟨S4x384, .f32⟩
  | _, _ => ⟨S1x4x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== SumConvGdnRefIdeal.lean ====
abbrev S1x4x384 : Shape := ⟨3, ![1, 4, 384]⟩
abbrev S3x4x384 : Shape := ⟨3, ![3, 4, 384]⟩
abbrev S4x384 : Shape := ⟨2, ![4, 384]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1x4x384, .bf16⟩
  | .hbm, ⟨1, _⟩ => ⟨S3x4x384, .bf16⟩
  | .hbm, ⟨2, _⟩ => ⟨S1x4x384, .f32⟩
  | .hbm, ⟨3, _⟩ => ⟨S4x384, .f32⟩
  | .hbm, ⟨4, _⟩ => ⟨S3x4x384, .f32⟩
  | .hbm, ⟨5, _⟩ => ⟨S_, .f32⟩
  | .hbm, ⟨6, _⟩ => ⟨S4x384, .f32⟩
  | .hbm, ⟨7, _⟩ => ⟨S4x384, .f32⟩
  | _, _ => ⟨S1x4x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SumSquare.lean ====
abbrev S1x128x1024 : Shape := ⟨3, ![1, 128, 1024]⟩
abbrev S3x128x1024 : Shape := ⟨3, ![3, 128, 1024]⟩
abbrev S128x1024 : Shape := ⟨2, ![128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x128x1024, .bf16⟩
  | .hbm, ⟨1, _⟩ => ⟨S3x128x1024, .bf16⟩
  | .hbm, ⟨2, _⟩ => ⟨S128x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S128x1024, .f32⟩
  | _, _ => ⟨S1x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== SumSquareIdeal.lean ====
abbrev S1x128x1024 : Shape := ⟨3, ![1, 128, 1024]⟩
abbrev S3x128x1024 : Shape := ⟨3, ![3, 128, 1024]⟩
abbrev S128x1024 : Shape := ⟨2, ![128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1x128x1024, .bf16⟩
  | .hbm, ⟨1, _⟩ => ⟨S3x128x1024, .bf16⟩
  | .hbm, ⟨2, _⟩ => ⟨S128x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S128x1024, .f32⟩
  | _, _ => ⟨S1x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== SumSquareRefIdeal.lean ====
abbrev S1x128x1024 : Shape := ⟨3, ![1, 128, 1024]⟩
abbrev S3x128x1024 : Shape := ⟨3, ![3, 128, 1024]⟩
abbrev S128x1024 : Shape := ⟨2, ![128, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1x128x1024, .bf16⟩
  | .hbm, ⟨1, _⟩ => ⟨S3x128x1024, .bf16⟩
  | .hbm, ⟨2, _⟩ => ⟨S1x128x1024, .f32⟩
  | .hbm, ⟨3, _⟩ => ⟨S128x1024, .f32⟩
  | .hbm, ⟨4, _⟩ => ⟨S3x128x1024, .f32⟩
  | .hbm, ⟨5, _⟩ => ⟨S_, .f32⟩
  | .hbm, ⟨6, _⟩ => ⟨S128x1024, .f32⟩
  | .hbm, ⟨7, _⟩ => ⟨S128x1024, .f32⟩
  | _, _ => ⟨S1x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SumFfnDown.lean ====
abbrev S1x352x1024 : Shape := ⟨3, ![1, 352, 1024]⟩
abbrev S3x352x1024 : Shape := ⟨3, ![3, 352, 1024]⟩
abbrev S352x1024 : Shape := ⟨2, ![352, 1024]⟩
abbrev S1x32x1024 : Shape := ⟨3, ![1, 32, 1024]⟩
abbrev S32x1024 : Shape := ⟨2, ![32, 1024]⟩

abbrev nBuf : Space → Nat
  | .hbm => 3
  | .vmem => 10
  | .smem => 0
  | _ => 0

abbrev bufTy : (tb : Table) → Fin (tcTables nBuf tb) → BufTy
  | .hbm, ⟨0, _⟩ => ⟨S1x352x1024, .bf16⟩
  | .hbm, ⟨1, _⟩ => ⟨S3x352x1024, .bf16⟩
  | .hbm, ⟨2, _⟩ => ⟨S352x1024, .f32⟩
  | .local _ .vmem, ⟨0, _⟩ => ⟨S1x32x1024, .bf16⟩
  | .local _ .vmem, ⟨1, _⟩ => ⟨S1x32x1024, .bf16⟩
  | .local _ .vmem, ⟨2, _⟩ => ⟨S1x32x1024, .bf16⟩
  | .local _ .vmem, ⟨3, _⟩ => ⟨S1x32x1024, .bf16⟩
  | .local _ .vmem, ⟨4, _⟩ => ⟨S1x32x1024, .bf16⟩
  | .local _ .vmem, ⟨5, _⟩ => ⟨S1x32x1024, .bf16⟩
  | .local _ .vmem, ⟨6, _⟩ => ⟨S1x32x1024, .bf16⟩
  | .local _ .vmem, ⟨7, _⟩ => ⟨S1x32x1024, .bf16⟩
  | .local _ .vmem, ⟨8, _⟩ => ⟨S32x1024, .f32⟩
  | .local _ .vmem, ⟨9, _⟩ => ⟨S32x1024, .f32⟩
  | _, _ => ⟨S1x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SumFfnDownIdeal.lean ====
abbrev S1x352x1024 : Shape := ⟨3, ![1, 352, 1024]⟩
abbrev S3x352x1024 : Shape := ⟨3, ![3, 352, 1024]⟩
abbrev S352x1024 : Shape := ⟨2, ![352, 1024]⟩
abbrev S1x32x1024 : Shape := ⟨3, ![1, 32, 1024]⟩
abbrev S32x1024 : Shape := ⟨2, ![32, 1024]⟩

abbrev nBuf : Space → Nat
  | .hbm => 3
  | .vmem => 10
  | .smem => 0
  | _ => 0

abbrev bufTy : (tb : Table) → Fin (tcTables nBuf tb) → BufTy
  | .hbm, ⟨0, _⟩ => ⟨S1x352x1024, .bf16⟩
  | .hbm, ⟨1, _⟩ => ⟨S3x352x1024, .bf16⟩
  | .hbm, ⟨2, _⟩ => ⟨S352x1024, .f32⟩
  | .local _ .vmem, ⟨0, _⟩ => ⟨S1x32x1024, .bf16⟩
  | .local _ .vmem, ⟨1, _⟩ => ⟨S1x32x1024, .bf16⟩
  | .local _ .vmem, ⟨2, _⟩ => ⟨S1x32x1024, .bf16⟩
  | .local _ .vmem, ⟨3, _⟩ => ⟨S1x32x1024, .bf16⟩
  | .local _ .vmem, ⟨4, _⟩ => ⟨S1x32x1024, .bf16⟩
  | .local _ .vmem, ⟨5, _⟩ => ⟨S1x32x1024, .bf16⟩
  | .local _ .vmem, ⟨6, _⟩ => ⟨S1x32x1024, .bf16⟩
  | .local _ .vmem, ⟨7, _⟩ => ⟨S1x32x1024, .bf16⟩
  | .local _ .vmem, ⟨8, _⟩ => ⟨S32x1024, .f32⟩
  | .local _ .vmem, ⟨9, _⟩ => ⟨S32x1024, .f32⟩
  | _, _ => ⟨S1x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SumFfnDownRefIdeal.lean ====
abbrev S1x352x1024 : Shape := ⟨3, ![1, 352, 1024]⟩
abbrev S3x352x1024 : Shape := ⟨3, ![3, 352, 1024]⟩
abbrev S352x1024 : Shape := ⟨2, ![352, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1x352x1024, .bf16⟩
  | .hbm, ⟨1, _⟩ => ⟨S3x352x1024, .bf16⟩
  | .hbm, ⟨2, _⟩ => ⟨S1x352x1024, .f32⟩
  | .hbm, ⟨3, _⟩ => ⟨S352x1024, .f32⟩
  | .hbm, ⟨4, _⟩ => ⟨S3x352x1024, .f32⟩
  | .hbm, ⟨5, _⟩ => ⟨S_, .f32⟩
  | .hbm, ⟨6, _⟩ => ⟨S352x1024, .f32⟩
  | .hbm, ⟨7, _⟩ => ⟨S352x1024, .f32⟩
  | _, _ => ⟨S1x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SumFfnIn.lean ====
abbrev S1x1024x704 : Shape := ⟨3, ![1, 1024, 704]⟩
abbrev S3x1024x704 : Shape := ⟨3, ![3, 1024, 704]⟩
abbrev S1024x704 : Shape := ⟨2, ![1024, 704]⟩
abbrev S1x256x704 : Shape := ⟨3, ![1, 256, 704]⟩
abbrev S256x704 : Shape := ⟨2, ![256, 704]⟩

abbrev nBuf : Space → Nat
  | .hbm => 3
  | .vmem => 10
  | .smem => 0
  | _ => 0

abbrev bufTy : (tb : Table) → Fin (tcTables nBuf tb) → BufTy
  | .hbm, ⟨0, _⟩ => ⟨S1x1024x704, .bf16⟩
  | .hbm, ⟨1, _⟩ => ⟨S3x1024x704, .bf16⟩
  | .hbm, ⟨2, _⟩ => ⟨S1024x704, .f32⟩
  | .local _ .vmem, ⟨0, _⟩ => ⟨S1x256x704, .bf16⟩
  | .local _ .vmem, ⟨1, _⟩ => ⟨S1x256x704, .bf16⟩
  | .local _ .vmem, ⟨2, _⟩ => ⟨S1x256x704, .bf16⟩
  | .local _ .vmem, ⟨3, _⟩ => ⟨S1x256x704, .bf16⟩
  | .local _ .vmem, ⟨4, _⟩ => ⟨S1x256x704, .bf16⟩
  | .local _ .vmem, ⟨5, _⟩ => ⟨S1x256x704, .bf16⟩
  | .local _ .vmem, ⟨6, _⟩ => ⟨S1x256x704, .bf16⟩
  | .local _ .vmem, ⟨7, _⟩ => ⟨S1x256x704, .bf16⟩
  | .local _ .vmem, ⟨8, _⟩ => ⟨S256x704, .f32⟩
  | .local _ .vmem, ⟨9, _⟩ => ⟨S256x704, .f32⟩
  | _, _ => ⟨S1x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SumFfnInIdeal.lean ====
abbrev S1x1024x704 : Shape := ⟨3, ![1, 1024, 704]⟩
abbrev S3x1024x704 : Shape := ⟨3, ![3, 1024, 704]⟩
abbrev S1024x704 : Shape := ⟨2, ![1024, 704]⟩
abbrev S1x256x704 : Shape := ⟨3, ![1, 256, 704]⟩
abbrev S256x704 : Shape := ⟨2, ![256, 704]⟩

abbrev nBuf : Space → Nat
  | .hbm => 3
  | .vmem => 10
  | .smem => 0
  | _ => 0

abbrev bufTy : (tb : Table) → Fin (tcTables nBuf tb) → BufTy
  | .hbm, ⟨0, _⟩ => ⟨S1x1024x704, .bf16⟩
  | .hbm, ⟨1, _⟩ => ⟨S3x1024x704, .bf16⟩
  | .hbm, ⟨2, _⟩ => ⟨S1024x704, .f32⟩
  | .local _ .vmem, ⟨0, _⟩ => ⟨S1x256x704, .bf16⟩
  | .local _ .vmem, ⟨1, _⟩ => ⟨S1x256x704, .bf16⟩
  | .local _ .vmem, ⟨2, _⟩ => ⟨S1x256x704, .bf16⟩
  | .local _ .vmem, ⟨3, _⟩ => ⟨S1x256x704, .bf16⟩
  | .local _ .vmem, ⟨4, _⟩ => ⟨S1x256x704, .bf16⟩
  | .local _ .vmem, ⟨5, _⟩ => ⟨S1x256x704, .bf16⟩
  | .local _ .vmem, ⟨6, _⟩ => ⟨S1x256x704, .bf16⟩
  | .local _ .vmem, ⟨7, _⟩ => ⟨S1x256x704, .bf16⟩
  | .local _ .vmem, ⟨8, _⟩ => ⟨S256x704, .f32⟩
  | .local _ .vmem, ⟨9, _⟩ => ⟨S256x704, .f32⟩
  | _, _ => ⟨S1x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SumFfnInRefIdeal.lean ====
abbrev S1x1024x704 : Shape := ⟨3, ![1, 1024, 704]⟩
abbrev S3x1024x704 : Shape := ⟨3, ![3, 1024, 704]⟩
abbrev S1024x704 : Shape := ⟨2, ![1024, 704]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1x1024x704, .bf16⟩
  | .hbm, ⟨1, _⟩ => ⟨S3x1024x704, .bf16⟩
  | .hbm, ⟨2, _⟩ => ⟨S1x1024x704, .f32⟩
  | .hbm, ⟨3, _⟩ => ⟨S1024x704, .f32⟩
  | .hbm, ⟨4, _⟩ => ⟨S3x1024x704, .f32⟩
  | .hbm, ⟨5, _⟩ => ⟨S_, .f32⟩
  | .hbm, ⟨6, _⟩ => ⟨S1024x704, .f32⟩
  | .hbm, ⟨7, _⟩ => ⟨S1024x704, .f32⟩
  | _, _ => ⟨S1x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SumIn.lean ====
abbrev S1x1024x1092 : Shape := ⟨3, ![1, 1024, 1092]⟩
abbrev S3x1024x1092 : Shape := ⟨3, ![3, 1024, 1092]⟩
abbrev S1024x1092 : Shape := ⟨2, ![1024, 1092]⟩
abbrev S1x256x1092 : Shape := ⟨3, ![1, 256, 1092]⟩
abbrev S256x1092 : Shape := ⟨2, ![256, 1092]⟩

abbrev nBuf : Space → Nat
  | .hbm => 3
  | .vmem => 10
  | .smem => 0
  | _ => 0

abbrev bufTy : (tb : Table) → Fin (tcTables nBuf tb) → BufTy
  | .hbm, ⟨0, _⟩ => ⟨S1x1024x1092, .bf16⟩
  | .hbm, ⟨1, _⟩ => ⟨S3x1024x1092, .bf16⟩
  | .hbm, ⟨2, _⟩ => ⟨S1024x1092, .f32⟩
  | .local _ .vmem, ⟨0, _⟩ => ⟨S1x256x1092, .bf16⟩
  | .local _ .vmem, ⟨1, _⟩ => ⟨S1x256x1092, .bf16⟩
  | .local _ .vmem, ⟨2, _⟩ => ⟨S1x256x1092, .bf16⟩
  | .local _ .vmem, ⟨3, _⟩ => ⟨S1x256x1092, .bf16⟩
  | .local _ .vmem, ⟨4, _⟩ => ⟨S1x256x1092, .bf16⟩
  | .local _ .vmem, ⟨5, _⟩ => ⟨S1x256x1092, .bf16⟩
  | .local _ .vmem, ⟨6, _⟩ => ⟨S1x256x1092, .bf16⟩
  | .local _ .vmem, ⟨7, _⟩ => ⟨S1x256x1092, .bf16⟩
  | .local _ .vmem, ⟨8, _⟩ => ⟨S256x1092, .f32⟩
  | .local _ .vmem, ⟨9, _⟩ => ⟨S256x1092, .f32⟩
  | _, _ => ⟨S1x1024x1092, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1092 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1092 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1092 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1092 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1092 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SumInRefIdeal.lean ====
abbrev S1x1024x1092 : Shape := ⟨3, ![1, 1024, 1092]⟩
abbrev S3x1024x1092 : Shape := ⟨3, ![3, 1024, 1092]⟩
abbrev S1024x1092 : Shape := ⟨2, ![1024, 1092]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1x1024x1092, .bf16⟩
  | .hbm, ⟨1, _⟩ => ⟨S3x1024x1092, .bf16⟩
  | .hbm, ⟨2, _⟩ => ⟨S1x1024x1092, .f32⟩
  | .hbm, ⟨3, _⟩ => ⟨S1024x1092, .f32⟩
  | .hbm, ⟨4, _⟩ => ⟨S3x1024x1092, .f32⟩
  | .hbm, ⟨5, _⟩ => ⟨S_, .f32⟩
  | .hbm, ⟨6, _⟩ => ⟨S1024x1092, .f32⟩
  | .hbm, ⟨7, _⟩ => ⟨S1024x1092, .f32⟩
  | _, _ => ⟨S1x1024x1092, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AdamNorm.lean ====
abbrev S2x1024 : Shape := ⟨2, ![2, 1024]⟩
abbrev S1x2x1024 : Shape := ⟨3, ![1, 2, 1024]⟩

abbrev nBuf : Space → Nat
  | .hbm => 11
  | .vmem => 8
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S1x2x1024, .f32⟩
  | .hbm, ⟨5, _⟩ => ⟨S1x2x1024, .f32⟩
  | .hbm, ⟨6, _⟩ => ⟨S1x2x1024, .f32⟩
  | .hbm, ⟨7, _⟩ => ⟨S1x2x1024, .f32⟩
  | .hbm, ⟨8, _⟩ => ⟨S1x2x1024, .f32⟩
  | .hbm, ⟨9, _⟩ => ⟨S1x2x1024, .f32⟩
  | .hbm, ⟨10, _⟩ => ⟨S1x2x1024, .f32⟩
  | .local _ .vmem, ⟨0, _⟩ => ⟨S1x2x1024, .f32⟩
  | .local _ .vmem, ⟨1, _⟩ => ⟨S1x2x1024, .f32⟩
  | .local _ .vmem, ⟨2, _⟩ => ⟨S1x2x1024, .f32⟩
  | .local _ .vmem, ⟨3, _⟩ => ⟨S2x1024, .f32⟩
  | .local _ .vmem, ⟨4, _⟩ => ⟨S1x2x1024, .f32⟩
  | .local _ .vmem, ⟨5, _⟩ => ⟨S1x2x1024, .f32⟩
  | .local _ .vmem, ⟨6, _⟩ => ⟨S1x2x1024, .f32⟩
  | .local _ .vmem, ⟨7, _⟩ => ⟨S1x2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamNormIdeal.lean ====
abbrev S2x1024 : Shape := ⟨2, ![2, 1024]⟩
abbrev S1x2x1024 : Shape := ⟨3, ![1, 2, 1024]⟩

abbrev nBuf : Space → Nat
  | .hbm => 11
  | .vmem => 8
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S1x2x1024, .f32⟩
  | .hbm, ⟨5, _⟩ => ⟨S1x2x1024, .f32⟩
  | .hbm, ⟨6, _⟩ => ⟨S1x2x1024, .f32⟩
  | .hbm, ⟨7, _⟩ => ⟨S1x2x1024, .f32⟩
  | .hbm, ⟨8, _⟩ => ⟨S1x2x1024, .f32⟩
  | .hbm, ⟨9, _⟩ => ⟨S1x2x1024, .f32⟩
  | .hbm, ⟨10, _⟩ => ⟨S1x2x1024, .f32⟩
  | .local _ .vmem, ⟨0, _⟩ => ⟨S1x2x1024, .f32⟩
  | .local _ .vmem, ⟨1, _⟩ => ⟨S1x2x1024, .f32⟩
  | .local _ .vmem, ⟨2, _⟩ => ⟨S1x2x1024, .f32⟩
  | .local _ .vmem, ⟨3, _⟩ => ⟨S2x1024, .f32⟩
  | .local _ .vmem, ⟨4, _⟩ => ⟨S1x2x1024, .f32⟩
  | .local _ .vmem, ⟨5, _⟩ => ⟨S1x2x1024, .f32⟩
  | .local _ .vmem, ⟨6, _⟩ => ⟨S1x2x1024, .f32⟩
  | .local _ .vmem, ⟨7, _⟩ => ⟨S1x2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamNormRefIdeal.lean ====
abbrev S2x1024 : Shape := ⟨2, ![2, 1024]⟩
abbrev S_ : Shape := ⟨0, ![]⟩
abbrev S1x2x1024 : Shape := ⟨3, ![1, 2, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | .hbm, ⟨37, _⟩ => ⟨S1x2x1024, .f32⟩
  | .hbm, ⟨38, _⟩ => ⟨S1x2x1024, .f32⟩
  | .hbm, ⟨39, _⟩ => ⟨S1x2x1024, .f32⟩
  | .hbm, ⟨40, _⟩ => ⟨S1x2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamConvB.lean ====
abbrev S2x1536 : Shape := ⟨2, ![2, 1536]⟩
abbrev S1x2x1536 : Shape := ⟨3, ![1, 2, 1536]⟩

abbrev nBuf : Space → Nat
  | .hbm => 11
  | .vmem => 8
  | .smem => 0
  | _ => 0

abbrev bufTy : (tb : Table) → Fin (tcTables nBuf tb) → BufTy
  | .hbm, ⟨0, _⟩ => ⟨S2x1536, .f32⟩
  | .hbm, ⟨1, _⟩ => ⟨S2x1536, .f32⟩
  | .hbm, ⟨2, _⟩ => ⟨S2x1536, .f32⟩
  | .hbm, ⟨3, _⟩ => ⟨S2x1536, .f32⟩
  | .hbm, ⟨4, _⟩ => ⟨S1x2x1536, .f32⟩
  | .hbm, ⟨5, _⟩ => ⟨S1x2x1536, .f32⟩
  | .hbm, ⟨6, _⟩ => ⟨S1x2x1536, .f32⟩
  | .hbm, ⟨7, _⟩ => ⟨S1x2x1536, .f32⟩
  | .hbm, ⟨8, _⟩ => ⟨S1x2x1536, .f32⟩
  | .hbm, ⟨9, _⟩ => ⟨S1x2x1536, .f32⟩
  | .hbm, ⟨10, _⟩ => ⟨S1x2x1536, .f32⟩
  | .local _ .vmem, ⟨0, _⟩ => ⟨S1x2x1536, .f32⟩
  | .local _ .vmem, ⟨1, _⟩ => ⟨S1x2x1536, .f32⟩
  | .local _ .vmem, ⟨2, _⟩ => ⟨S1x2x1536, .f32⟩
  | .local _ .vmem, ⟨3, _⟩ => ⟨S2x1536, .f32⟩
  | .local _ .vmem, ⟨4, _⟩ => ⟨S1x2x1536, .f32⟩
  | .local _ .vmem, ⟨5, _⟩ => ⟨S1x2x1536, .f32⟩
  | .local _ .vmem, ⟨6, _⟩ => ⟨S1x2x1536, .f32⟩
  | .local _ .vmem, ⟨7, _⟩ => ⟨S1x2x1536, .f32⟩
  | _, _ => ⟨S2x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x2x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamConvBIdeal.lean ====
abbrev S2x1536 : Shape := ⟨2, ![2, 1536]⟩
abbrev S1x2x1536 : Shape := ⟨3, ![1, 2, 1536]⟩

abbrev nBuf : Space → Nat
  | .hbm => 11
  | .vmem => 8
  | .smem => 0
  | _ => 0

abbrev bufTy : (tb : Table) → Fin (tcTables nBuf tb) → BufTy
  | .hbm, ⟨0, _⟩ => ⟨S2x1536, .f32⟩
  | .hbm, ⟨1, _⟩ => ⟨S2x1536, .f32⟩
  | .hbm, ⟨2, _⟩ => ⟨S2x1536, .f32⟩
  | .hbm, ⟨3, _⟩ => ⟨S2x1536, .f32⟩
  | .hbm, ⟨4, _⟩ => ⟨S1x2x1536, .f32⟩
  | .hbm, ⟨5, _⟩ => ⟨S1x2x1536, .f32⟩
  | .hbm, ⟨6, _⟩ => ⟨S1x2x1536, .f32⟩
  | .hbm, ⟨7, _⟩ => ⟨S1x2x1536, .f32⟩
  | .hbm, ⟨8, _⟩ => ⟨S1x2x1536, .f32⟩
  | .hbm, ⟨9, _⟩ => ⟨S1x2x1536, .f32⟩
  | .hbm, ⟨10, _⟩ => ⟨S1x2x1536, .f32⟩
  | .local _ .vmem, ⟨0, _⟩ => ⟨S1x2x1536, .f32⟩
  | .local _ .vmem, ⟨1, _⟩ => ⟨S1x2x1536, .f32⟩
  | .local _ .vmem, ⟨2, _⟩ => ⟨S1x2x1536, .f32⟩
  | .local _ .vmem, ⟨3, _⟩ => ⟨S2x1536, .f32⟩
  | .local _ .vmem, ⟨4, _⟩ => ⟨S1x2x1536, .f32⟩
  | .local _ .vmem, ⟨5, _⟩ => ⟨S1x2x1536, .f32⟩
  | .local _ .vmem, ⟨6, _⟩ => ⟨S1x2x1536, .f32⟩
  | .local _ .vmem, ⟨7, _⟩ => ⟨S1x2x1536, .f32⟩
  | _, _ => ⟨S2x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x2x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamConvBRefIdeal.lean ====
abbrev S2x1536 : Shape := ⟨2, ![2, 1536]⟩
abbrev S_ : Shape := ⟨0, ![]⟩
abbrev S1x2x1536 : Shape := ⟨3, ![1, 2, 1536]⟩

abbrev nBuf : Space → Nat
  | .hbm => 41
  | .vmem => 0
  | .smem => 0
  | _ => 0

abbrev bufTy : (tb : Table) → Fin (tcTables nBuf tb) → BufTy
  | .hbm, ⟨0, _⟩ => ⟨S2x1536, .f32⟩
  | .hbm, ⟨1, _⟩ => ⟨S2x1536, .f32⟩
  | .hbm, ⟨2, _⟩ => ⟨S2x1536, .f32⟩
  | .hbm, ⟨3, _⟩ => ⟨S2x1536, .f32⟩
  | .hbm, ⟨4, _⟩ => ⟨S_, .f32⟩
  | .hbm, ⟨5, _⟩ => ⟨S2x1536, .f32⟩
  | .hbm, ⟨6, _⟩ => ⟨S2x1536, .f32⟩
  | .hbm, ⟨7, _⟩ => ⟨S_, .f32⟩
  | .hbm, ⟨8, _⟩ => ⟨S2x1536, .f32⟩
  | .hbm, ⟨9, _⟩ => ⟨S2x1536, .f32⟩
  | .hbm, ⟨10, _⟩ => ⟨S2x1536, .f32⟩
  | .hbm, ⟨11, _⟩ => ⟨S_, .f32⟩
  | .hbm, ⟨12, _⟩ => ⟨S2x1536, .f32⟩
  | .hbm, ⟨13, _⟩ => ⟨S2x1536, .f32⟩
  | .hbm, ⟨14, _⟩ => ⟨S2x1536, .f32⟩
  | .hbm, ⟨15, _⟩ => ⟨S_, .f32⟩
  | .hbm, ⟨16, _⟩ => ⟨S2x1536, .f32⟩
  | .hbm, ⟨17, _⟩ => ⟨S2x1536, .f32⟩
  | .hbm, ⟨18, _⟩ => ⟨S2x1536, .f32⟩
  | .hbm, ⟨19, _⟩ => ⟨S_, .f32⟩
  | .hbm, ⟨20, _⟩ => ⟨S2x1536, .f32⟩
  | .hbm, ⟨21, _⟩ => ⟨S2x1536, .f32⟩
  | .hbm, ⟨22, _⟩ => ⟨S_, .f32⟩
  | .hbm, ⟨23, _⟩ => ⟨S2x1536, .f32⟩
  | .hbm, ⟨24, _⟩ => ⟨S2x1536, .f32⟩
  | .hbm, ⟨25, _⟩ => ⟨S2x1536, .f32⟩
  | .hbm, ⟨26, _⟩ => ⟨S_, .f32⟩
  | .hbm, ⟨27, _⟩ => ⟨S2x1536, .f32⟩
  | .hbm, ⟨28, _⟩ => ⟨S2x1536, .f32⟩
  | .hbm, ⟨29, _⟩ => ⟨S2x1536, .f32⟩
  | .hbm, ⟨30, _⟩ => ⟨S_, .f32⟩
  | .hbm, ⟨31, _⟩ => ⟨S2x1536, .f32⟩
  | .hbm, ⟨32, _⟩ => ⟨S2x1536, .f32⟩
  | .hbm, ⟨33, _⟩ => ⟨S2x1536, .f32⟩
  | .hbm, ⟨34, _⟩ => ⟨S_, .f32⟩
  | .hbm, ⟨35, _⟩ => ⟨S2x1536, .f32⟩
  | .hbm, ⟨36, _⟩ => ⟨S2x1536, .f32⟩
  | .hbm, ⟨37, _⟩ => ⟨S1x2x1536, .f32⟩
  | .hbm, ⟨38, _⟩ => ⟨S1x2x1536, .f32⟩
  | .hbm, ⟨39, _⟩ => ⟨S1x2x1536, .f32⟩
  | .hbm, ⟨40, _⟩ => ⟨S1x2x1536, .f32⟩
  | _, _ => ⟨S2x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamHeads.lean ====
abbrev S2x16 : Shape := ⟨2, ![2, 16]⟩
abbrev S1x2x16 : Shape := ⟨3, ![1, 2, 16]⟩

abbrev nBuf : Space → Nat
  | .hbm => 11
  | .vmem => 8
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S1x2x16, .f32⟩
  | .hbm, ⟨5, _⟩ => ⟨S1x2x16, .f32⟩
  | .hbm, ⟨6, _⟩ => ⟨S1x2x16, .f32⟩
  | .hbm, ⟨7, _⟩ => ⟨S1x2x16, .f32⟩
  | .hbm, ⟨8, _⟩ => ⟨S1x2x16, .f32⟩
  | .hbm, ⟨9, _⟩ => ⟨S1x2x16, .f32⟩
  | .hbm, ⟨10, _⟩ => ⟨S1x2x16, .f32⟩
  | .local _ .vmem, ⟨0, _⟩ => ⟨S1x2x16, .f32⟩
  | .local _ .vmem, ⟨1, _⟩ => ⟨S1x2x16, .f32⟩
  | .local _ .vmem, ⟨2, _⟩ => ⟨S1x2x16, .f32⟩
  | .local _ .vmem, ⟨3, _⟩ => ⟨S2x16, .f32⟩
  | .local _ .vmem, ⟨4, _⟩ => ⟨S1x2x16, .f32⟩
  | .local _ .vmem, ⟨5, _⟩ => ⟨S1x2x16, .f32⟩
  | .local _ .vmem, ⟨6, _⟩ => ⟨S1x2x16, .f32⟩
  | .local _ .vmem, ⟨7, _⟩ => ⟨S1x2x16, .f32⟩
  | _, _ => ⟨S2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamHeadsIdeal.lean ====
abbrev S2x16 : Shape := ⟨2, ![2, 16]⟩
abbrev S1x2x16 : Shape := ⟨3, ![1, 2, 16]⟩

abbrev nBuf : Space → Nat
  | .hbm => 11
  | .vmem => 8
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S1x2x16, .f32⟩
  | .hbm, ⟨5, _⟩ => ⟨S1x2x16, .f32⟩
  | .hbm, ⟨6, _⟩ => ⟨S1x2x16, .f32⟩
  | .hbm, ⟨7, _⟩ => ⟨S1x2x16, .f32⟩
  | .hbm, ⟨8, _⟩ => ⟨S1x2x16, .f32⟩
  | .hbm, ⟨9, _⟩ => ⟨S1x2x16, .f32⟩
  | .hbm, ⟨10, _⟩ => ⟨S1x2x16, .f32⟩
  | .local _ .vmem, ⟨0, _⟩ => ⟨S1x2x16, .f32⟩
  | .local _ .vmem, ⟨1, _⟩ => ⟨S1x2x16, .f32⟩
  | .local _ .vmem, ⟨2, _⟩ => ⟨S1x2x16, .f32⟩
  | .local _ .vmem, ⟨3, _⟩ => ⟨S2x16, .f32⟩
  | .local _ .vmem, ⟨4, _⟩ => ⟨S1x2x16, .f32⟩
  | .local _ .vmem, ⟨5, _⟩ => ⟨S1x2x16, .f32⟩
  | .local _ .vmem, ⟨6, _⟩ => ⟨S1x2x16, .f32⟩
  | .local _ .vmem, ⟨7, _⟩ => ⟨S1x2x16, .f32⟩
  | _, _ => ⟨S2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamHeadsRefIdeal.lean ====
abbrev S2x16 : Shape := ⟨2, ![2, 16]⟩
abbrev S_ : Shape := ⟨0, ![]⟩
abbrev S1x2x16 : Shape := ⟨3, ![1, 2, 16]⟩

abbrev nBuf : Space → Nat
  | .hbm => 41
  | .vmem => 0
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S_, .f32⟩
  | .hbm, ⟨5, _⟩ => ⟨S2x16, .f32⟩
  | .hbm, ⟨6, _⟩ => ⟨S2x16, .f32⟩
  | .hbm, ⟨7, _⟩ => ⟨S_, .f32⟩
  | .hbm, ⟨8, _⟩ => ⟨S2x16, .f32⟩
  | .hbm, ⟨9, _⟩ => ⟨S2x16, .f32⟩
  | .hbm, ⟨10, _⟩ => ⟨S2x16, .f32⟩
  | .hbm, ⟨11, _⟩ => ⟨S_, .f32⟩
  | .hbm, ⟨12, _⟩ => ⟨S2x16, .f32⟩
  | .hbm, ⟨13, _⟩ => ⟨S2x16, .f32⟩
  | .hbm, ⟨14, _⟩ => ⟨S2x16, .f32⟩
  | .hbm, ⟨15, _⟩ => ⟨S_, .f32⟩
  | .hbm, ⟨16, _⟩ => ⟨S2x16, .f32⟩
  | .hbm, ⟨17, _⟩ => ⟨S2x16, .f32⟩
  | .hbm, ⟨18, _⟩ => ⟨S2x16, .f32⟩
  | .hbm, ⟨19, _⟩ => ⟨S_, .f32⟩
  | .hbm, ⟨20, _⟩ => ⟨S2x16, .f32⟩
  | .hbm, ⟨21, _⟩ => ⟨S2x16, .f32⟩
  | .hbm, ⟨22, _⟩ => ⟨S_, .f32⟩
  | .hbm, ⟨23, _⟩ => ⟨S2x16, .f32⟩
  | .hbm, ⟨24, _⟩ => ⟨S2x16, .f32⟩
  | .hbm, ⟨25, _⟩ => ⟨S2x16, .f32⟩
  | .hbm, ⟨26, _⟩ => ⟨S_, .f32⟩
  | .hbm, ⟨27, _⟩ => ⟨S2x16, .f32⟩
  | .hbm, ⟨28, _⟩ => ⟨S2x16, .f32⟩
  | .hbm, ⟨29, _⟩ => ⟨S2x16, .f32⟩
  | .hbm, ⟨30, _⟩ => ⟨S_, .f32⟩
  | .hbm, ⟨31, _⟩ => ⟨S2x16, .f32⟩
  | .hbm, ⟨32, _⟩ => ⟨S2x16, .f32⟩
  | .hbm, ⟨33, _⟩ => ⟨S2x16, .f32⟩
  | .hbm, ⟨34, _⟩ => ⟨S_, .f32⟩
  | .hbm, ⟨35, _⟩ => ⟨S2x16, .f32⟩
  | .hbm, ⟨36, _⟩ => ⟨S2x16, .f32⟩
  | .hbm, ⟨37, _⟩ => ⟨S1x2x16, .f32⟩
  | .hbm, ⟨38, _⟩ => ⟨S1x2x16, .f32⟩
  | .hbm, ⟨39, _⟩ => ⟨S1x2x16, .f32⟩
  | .hbm, ⟨40, _⟩ => ⟨S1x2x16, .f32⟩
  | _, _ => ⟨S2x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamGdnHeads.lean ====
abbrev S2x8 : Shape := ⟨2, ![2, 8]⟩
abbrev S1x2x8 : Shape := ⟨3, ![1, 2, 8]⟩

abbrev nBuf : Space → Nat
  | .hbm => 11
  | .vmem => 8
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S1x2x8, .f32⟩
  | .hbm, ⟨5, _⟩ => ⟨S1x2x8, .f32⟩
  | .hbm, ⟨6, _⟩ => ⟨S1x2x8, .f32⟩
  | .hbm, ⟨7, _⟩ => ⟨S1x2x8, .f32⟩
  | .hbm, ⟨8, _⟩ => ⟨S1x2x8, .f32⟩
  | .hbm, ⟨9, _⟩ => ⟨S1x2x8, .f32⟩
  | .hbm, ⟨10, _⟩ => ⟨S1x2x8, .f32⟩
  | .local _ .vmem, ⟨0, _⟩ => ⟨S1x2x8, .f32⟩
  | .local _ .vmem, ⟨1, _⟩ => ⟨S1x2x8, .f32⟩
  | .local _ .vmem, ⟨2, _⟩ => ⟨S1x2x8, .f32⟩
  | .local _ .vmem, ⟨3, _⟩ => ⟨S2x8, .f32⟩
  | .local _ .vmem, ⟨4, _⟩ => ⟨S1x2x8, .f32⟩
  | .local _ .vmem, ⟨5, _⟩ => ⟨S1x2x8, .f32⟩
  | .local _ .vmem, ⟨6, _⟩ => ⟨S1x2x8, .f32⟩
  | .local _ .vmem, ⟨7, _⟩ => ⟨S1x2x8, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamGdnHeadsIdeal.lean ====
abbrev S2x8 : Shape := ⟨2, ![2, 8]⟩
abbrev S1x2x8 : Shape := ⟨3, ![1, 2, 8]⟩

abbrev nBuf : Space → Nat
  | .hbm => 11
  | .vmem => 8
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S1x2x8, .f32⟩
  | .hbm, ⟨5, _⟩ => ⟨S1x2x8, .f32⟩
  | .hbm, ⟨6, _⟩ => ⟨S1x2x8, .f32⟩
  | .hbm, ⟨7, _⟩ => ⟨S1x2x8, .f32⟩
  | .hbm, ⟨8, _⟩ => ⟨S1x2x8, .f32⟩
  | .hbm, ⟨9, _⟩ => ⟨S1x2x8, .f32⟩
  | .hbm, ⟨10, _⟩ => ⟨S1x2x8, .f32⟩
  | .local _ .vmem, ⟨0, _⟩ => ⟨S1x2x8, .f32⟩
  | .local _ .vmem, ⟨1, _⟩ => ⟨S1x2x8, .f32⟩
  | .local _ .vmem, ⟨2, _⟩ => ⟨S1x2x8, .f32⟩
  | .local _ .vmem, ⟨3, _⟩ => ⟨S2x8, .f32⟩
  | .local _ .vmem, ⟨4, _⟩ => ⟨S1x2x8, .f32⟩
  | .local _ .vmem, ⟨5, _⟩ => ⟨S1x2x8, .f32⟩
  | .local _ .vmem, ⟨6, _⟩ => ⟨S1x2x8, .f32⟩
  | .local _ .vmem, ⟨7, _⟩ => ⟨S1x2x8, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamGdnHeadsRefIdeal.lean ====
abbrev S2x8 : Shape := ⟨2, ![2, 8]⟩
abbrev S_ : Shape := ⟨0, ![]⟩
abbrev S1x2x8 : Shape := ⟨3, ![1, 2, 8]⟩

abbrev nBuf : Space → Nat
  | .hbm => 41
  | .vmem => 0
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S_, .f32⟩
  | .hbm, ⟨5, _⟩ => ⟨S2x8, .f32⟩
  | .hbm, ⟨6, _⟩ => ⟨S2x8, .f32⟩
  | .hbm, ⟨7, _⟩ => ⟨S_, .f32⟩
  | .hbm, ⟨8, _⟩ => ⟨S2x8, .f32⟩
  | .hbm, ⟨9, _⟩ => ⟨S2x8, .f32⟩
  | .hbm, ⟨10, _⟩ => ⟨S2x8, .f32⟩
  | .hbm, ⟨11, _⟩ => ⟨S_, .f32⟩
  | .hbm, ⟨12, _⟩ => ⟨S2x8, .f32⟩
  | .hbm, ⟨13, _⟩ => ⟨S2x8, .f32⟩
  | .hbm, ⟨14, _⟩ => ⟨S2x8, .f32⟩
  | .hbm, ⟨15, _⟩ => ⟨S_, .f32⟩
  | .hbm, ⟨16, _⟩ => ⟨S2x8, .f32⟩
  | .hbm, ⟨17, _⟩ => ⟨S2x8, .f32⟩
  | .hbm, ⟨18, _⟩ => ⟨S2x8, .f32⟩
  | .hbm, ⟨19, _⟩ => ⟨S_, .f32⟩
  | .hbm, ⟨20, _⟩ => ⟨S2x8, .f32⟩
  | .hbm, ⟨21, _⟩ => ⟨S2x8, .f32⟩
  | .hbm, ⟨22, _⟩ => ⟨S_, .f32⟩
  | .hbm, ⟨23, _⟩ => ⟨S2x8, .f32⟩
  | .hbm, ⟨24, _⟩ => ⟨S2x8, .f32⟩
  | .hbm, ⟨25, _⟩ => ⟨S2x8, .f32⟩
  | .hbm, ⟨26, _⟩ => ⟨S_, .f32⟩
  | .hbm, ⟨27, _⟩ => ⟨S2x8, .f32⟩
  | .hbm, ⟨28, _⟩ => ⟨S2x8, .f32⟩
  | .hbm, ⟨29, _⟩ => ⟨S2x8, .f32⟩
  | .hbm, ⟨30, _⟩ => ⟨S_, .f32⟩
  | .hbm, ⟨31, _⟩ => ⟨S2x8, .f32⟩
  | .hbm, ⟨32, _⟩ => ⟨S2x8, .f32⟩
  | .hbm, ⟨33, _⟩ => ⟨S2x8, .f32⟩
  | .hbm, ⟨34, _⟩ => ⟨S_, .f32⟩
  | .hbm, ⟨35, _⟩ => ⟨S2x8, .f32⟩
  | .hbm, ⟨36, _⟩ => ⟨S2x8, .f32⟩
  | .hbm, ⟨37, _⟩ => ⟨S1x2x8, .f32⟩
  | .hbm, ⟨38, _⟩ => ⟨S1x2x8, .f32⟩
  | .hbm, ⟨39, _⟩ => ⟨S1x2x8, .f32⟩
  | .hbm, ⟨40, _⟩ => ⟨S1x2x8, .f32⟩
  | _, _ => ⟨S2x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamGdnNorm.lean ====
abbrev S2x128 : Shape := ⟨2, ![2, 128]⟩
abbrev S1x2x128 : Shape := ⟨3, ![1, 2, 128]⟩

abbrev nBuf : Space → Nat
  | .hbm => 11
  | .vmem => 8
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S1x2x128, .f32⟩
  | .hbm, ⟨5, _⟩ => ⟨S1x2x128, .f32⟩
  | .hbm, ⟨6, _⟩ => ⟨S1x2x128, .f32⟩
  | .hbm, ⟨7, _⟩ => ⟨S1x2x128, .f32⟩
  | .hbm, ⟨8, _⟩ => ⟨S1x2x128, .f32⟩
  | .hbm, ⟨9, _⟩ => ⟨S1x2x128, .f32⟩
  | .hbm, ⟨10, _⟩ => ⟨S1x2x128, .f32⟩
  | .local _ .vmem, ⟨0, _⟩ => ⟨S1x2x128, .f32⟩
  | .local _ .vmem, ⟨1, _⟩ => ⟨S1x2x128, .f32⟩
  | .local _ .vmem, ⟨2, _⟩ => ⟨S1x2x128, .f32⟩
  | .local _ .vmem, ⟨3, _⟩ => ⟨S2x128, .f32⟩
  | .local _ .vmem, ⟨4, _⟩ => ⟨S1x2x128, .f32⟩
  | .local _ .vmem, ⟨5, _⟩ => ⟨S1x2x128, .f32⟩
  | .local _ .vmem, ⟨6, _⟩ => ⟨S1x2x128, .f32⟩
  | .local _ .vmem, ⟨7, _⟩ => ⟨S1x2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamGdnNormIdeal.lean ====
abbrev S2x128 : Shape := ⟨2, ![2, 128]⟩
abbrev S1x2x128 : Shape := ⟨3, ![1, 2, 128]⟩

abbrev nBuf : Space → Nat
  | .hbm => 11
  | .vmem => 8
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S1x2x128, .f32⟩
  | .hbm, ⟨5, _⟩ => ⟨S1x2x128, .f32⟩
  | .hbm, ⟨6, _⟩ => ⟨S1x2x128, .f32⟩
  | .hbm, ⟨7, _⟩ => ⟨S1x2x128, .f32⟩
  | .hbm, ⟨8, _⟩ => ⟨S1x2x128, .f32⟩
  | .hbm, ⟨9, _⟩ => ⟨S1x2x128, .f32⟩
  | .hbm, ⟨10, _⟩ => ⟨S1x2x128, .f32⟩
  | .local _ .vmem, ⟨0, _⟩ => ⟨S1x2x128, .f32⟩
  | .local _ .vmem, ⟨1, _⟩ => ⟨S1x2x128, .f32⟩
  | .local _ .vmem, ⟨2, _⟩ => ⟨S1x2x128, .f32⟩
  | .local _ .vmem, ⟨3, _⟩ => ⟨S2x128, .f32⟩
  | .local _ .vmem, ⟨4, _⟩ => ⟨S1x2x128, .f32⟩
  | .local _ .vmem, ⟨5, _⟩ => ⟨S1x2x128, .f32⟩
  | .local _ .vmem, ⟨6, _⟩ => ⟨S1x2x128, .f32⟩
  | .local _ .vmem, ⟨7, _⟩ => ⟨S1x2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamGdnNormRefIdeal.lean ====
abbrev S2x128 : Shape := ⟨2, ![2, 128]⟩
abbrev S_ : Shape := ⟨0, ![]⟩
abbrev S1x2x128 : Shape := ⟨3, ![1, 2, 128]⟩

abbrev nBuf : Space → Nat
  | .hbm => 41
  | .vmem => 0
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S_, .f32⟩
  | .hbm, ⟨5, _⟩ => ⟨S2x128, .f32⟩
  | .hbm, ⟨6, _⟩ => ⟨S2x128, .f32⟩
  | .hbm, ⟨7, _⟩ => ⟨S_, .f32⟩
  | .hbm, ⟨8, _⟩ => ⟨S2x128, .f32⟩
  | .hbm, ⟨9, _⟩ => ⟨S2x128, .f32⟩
  | .hbm, ⟨10, _⟩ => ⟨S2x128, .f32⟩
  | .hbm, ⟨11, _⟩ => ⟨S_, .f32⟩
  | .hbm, ⟨12, _⟩ => ⟨S2x128, .f32⟩
  | .hbm, ⟨13, _⟩ => ⟨S2x128, .f32⟩
  | .hbm, ⟨14, _⟩ => ⟨S2x128, .f32⟩
  | .hbm, ⟨15, _⟩ => ⟨S_, .f32⟩
  | .hbm, ⟨16, _⟩ => ⟨S2x128, .f32⟩
  | .hbm, ⟨17, _⟩ => ⟨S2x128, .f32⟩
  | .hbm, ⟨18, _⟩ => ⟨S2x128, .f32⟩
  | .hbm, ⟨19, _⟩ => ⟨S_, .f32⟩
  | .hbm, ⟨20, _⟩ => ⟨S2x128, .f32⟩
  | .hbm, ⟨21, _⟩ => ⟨S2x128, .f32⟩
  | .hbm, ⟨22, _⟩ => ⟨S_, .f32⟩
  | .hbm, ⟨23, _⟩ => ⟨S2x128, .f32⟩
  | .hbm, ⟨24, _⟩ => ⟨S2x128, .f32⟩
  | .hbm, ⟨25, _⟩ => ⟨S2x128, .f32⟩
  | .hbm, ⟨26, _⟩ => ⟨S_, .f32⟩
  | .hbm, ⟨27, _⟩ => ⟨S2x128, .f32⟩
  | .hbm, ⟨28, _⟩ => ⟨S2x128, .f32⟩
  | .hbm, ⟨29, _⟩ => ⟨S2x128, .f32⟩
  | .hbm, ⟨30, _⟩ => ⟨S_, .f32⟩
  | .hbm, ⟨31, _⟩ => ⟨S2x128, .f32⟩
  | .hbm, ⟨32, _⟩ => ⟨S2x128, .f32⟩
  | .hbm, ⟨33, _⟩ => ⟨S2x128, .f32⟩
  | .hbm, ⟨34, _⟩ => ⟨S_, .f32⟩
  | .hbm, ⟨35, _⟩ => ⟨S2x128, .f32⟩
  | .hbm, ⟨36, _⟩ => ⟨S2x128, .f32⟩
  | .hbm, ⟨37, _⟩ => ⟨S1x2x128, .f32⟩
  | .hbm, ⟨38, _⟩ => ⟨S1x2x128, .f32⟩
  | .hbm, ⟨39, _⟩ => ⟨S1x2x128, .f32⟩
  | .hbm, ⟨40, _⟩ => ⟨S1x2x128, .f32⟩
  | _, _ => ⟨S2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamFinal.lean ====
abbrev S1024 : Shape := ⟨1, ![1024]⟩
abbrev S1x1024 : Shape := ⟨2, ![1, 1024]⟩
abbrev S1x1x1024 : Shape := ⟨3, ![1, 1, 1024]⟩

abbrev nBuf : Space → Nat
  | .hbm => 12
  | .vmem => 8
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1x1024, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamFinalRefIdeal.lean ====
abbrev S1024 : Shape := ⟨1, ![1024]⟩
abbrev S_ : Shape := ⟨0, ![]⟩
abbrev S1x1x1024 : Shape := ⟨3, ![1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1x1024, .f32⟩
  | .hbm, ⟨38, _⟩ => ⟨S1x1x1024, .f32⟩
  | .hbm, ⟨39, _⟩ => ⟨S1x1x1024, .f32⟩
  | .hbm, ⟨40, _⟩ => ⟨S1x1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamConvSsm.lean ====
abbrev S2x4x192 : Shape := ⟨3, ![2, 4, 192]⟩
abbrev S4x192 : Shape := ⟨2, ![4, 192]⟩
abbrev S1x4x192 : Shape := ⟨3, ![1, 4, 192]⟩

abbrev nBuf : Space → Nat
  | .hbm => 9
  | .vmem => 16
  | .smem => 0
  | _ => 0

abbrev bufTy : (tb : Table) → Fin (tcTables nBuf tb) → BufTy
  | .hbm, ⟨0, _⟩ => ⟨S2x4x192, .f32⟩
  | .hbm, ⟨1, _⟩ => ⟨S4x192, .f32⟩
  | .hbm, ⟨2, _⟩ => ⟨S4x192, .f32⟩
  | .hbm, ⟨3, _⟩ => ⟨S2x4x192, .f32⟩
  | .hbm, ⟨4, _⟩ => ⟨S2x4x192, .f32⟩
  | .hbm, ⟨5, _⟩ => ⟨S2x4x192, .f32⟩
  | .hbm, ⟨6, _⟩ => ⟨S2x4x192, .f32⟩
  | .hbm, ⟨7, _⟩ => ⟨S2x4x192, .f32⟩
  | .hbm, ⟨8, _⟩ => ⟨S2x4x192, .f32⟩
  | .local _ .vmem, ⟨0, _⟩ => ⟨S1x4x192, .f32⟩
  | .local _ .vmem, ⟨1, _⟩ => ⟨S1x4x192, .f32⟩
  | .local _ .vmem, ⟨2, _⟩ => ⟨S1x4x192, .f32⟩
  | .local _ .vmem, ⟨3, _⟩ => ⟨S1x4x192, .f32⟩
  | .local _ .vmem, ⟨4, _⟩ => ⟨S1x4x192, .f32⟩
  | .local _ .vmem, ⟨5, _⟩ => ⟨S1x4x192, .f32⟩
  | .local _ .vmem, ⟨6, _⟩ => ⟨S4x192, .f32⟩
  | .local _ .vmem, ⟨7, _⟩ => ⟨S4x192, .f32⟩
  | .local _ .vmem, ⟨8, _⟩ => ⟨S1x4x192, .f32⟩
  | .local _ .vmem, ⟨9, _⟩ => ⟨S1x4x192, .f32⟩
  | .local _ .vmem, ⟨10, _⟩ => ⟨S1x4x192, .f32⟩
  | .local _ .vmem, ⟨11, _⟩ => ⟨S1x4x192, .f32⟩
  | .local _ .vmem, ⟨12, _⟩ => ⟨S1x4x192, .f32⟩
  | .local _ .vmem, ⟨13, _⟩ => ⟨S1x4x192, .f32⟩
  | .local _ .vmem, ⟨14, _⟩ => ⟨S1x4x192, .f32⟩
  | .local _ .vmem, ⟨15, _⟩ => ⟨S1x4x192, .f32⟩
  | _, _ => ⟨S2x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S4x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1x4x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamConvSsmIdeal.lean ====
abbrev S2x4x192 : Shape := ⟨3, ![2, 4, 192]⟩
abbrev S4x192 : Shape := ⟨2, ![4, 192]⟩
abbrev S1x4x192 : Shape := ⟨3, ![1, 4, 192]⟩

abbrev nBuf : Space → Nat
  | .hbm => 9
  | .vmem => 16
  | .smem => 0
  | _ => 0

abbrev bufTy : (tb : Table) → Fin (tcTables nBuf tb) → BufTy
  | .hbm, ⟨0, _⟩ => ⟨S2x4x192, .f32⟩
  | .hbm, ⟨1, _⟩ => ⟨S4x192, .f32⟩
  | .hbm, ⟨2, _⟩ => ⟨S4x192, .f32⟩
  | .hbm, ⟨3, _⟩ => ⟨S2x4x192, .f32⟩
  | .hbm, ⟨4, _⟩ => ⟨S2x4x192, .f32⟩
  | .hbm, ⟨5, _⟩ => ⟨S2x4x192, .f32⟩
  | .hbm, ⟨6, _⟩ => ⟨S2x4x192, .f32⟩
  | .hbm, ⟨7, _⟩ => ⟨S2x4x192, .f32⟩
  | .hbm, ⟨8, _⟩ => ⟨S2x4x192, .f32⟩
  | .local _ .vmem, ⟨0, _⟩ => ⟨S1x4x192, .f32⟩
  | .local _ .vmem, ⟨1, _⟩ => ⟨S1x4x192, .f32⟩
  | .local _ .vmem, ⟨2, _⟩ => ⟨S1x4x192, .f32⟩
  | .local _ .vmem, ⟨3, _⟩ => ⟨S1x4x192, .f32⟩
  | .local _ .vmem, ⟨4, _⟩ => ⟨S1x4x192, .f32⟩
  | .local _ .vmem, ⟨5, _⟩ => ⟨S1x4x192, .f32⟩
  | .local _ .vmem, ⟨6, _⟩ => ⟨S4x192, .f32⟩
  | .local _ .vmem, ⟨7, _⟩ => ⟨S4x192, .f32⟩
  | .local _ .vmem, ⟨8, _⟩ => ⟨S1x4x192, .f32⟩
  | .local _ .vmem, ⟨9, _⟩ => ⟨S1x4x192, .f32⟩
  | .local _ .vmem, ⟨10, _⟩ => ⟨S1x4x192, .f32⟩
  | .local _ .vmem, ⟨11, _⟩ => ⟨S1x4x192, .f32⟩
  | .local _ .vmem, ⟨12, _⟩ => ⟨S1x4x192, .f32⟩
  | .local _ .vmem, ⟨13, _⟩ => ⟨S1x4x192, .f32⟩
  | .local _ .vmem, ⟨14, _⟩ => ⟨S1x4x192, .f32⟩
  | .local _ .vmem, ⟨15, _⟩ => ⟨S1x4x192, .f32⟩
  | _, _ => ⟨S2x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S4x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1x4x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamConvSsmRefIdeal.lean ====
abbrev S2x4x192 : Shape := ⟨3, ![2, 4, 192]⟩
abbrev S4x192 : Shape := ⟨2, ![4, 192]⟩
abbrev S1x4x192 : Shape := ⟨3, ![1, 4, 192]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x4x192, .f32⟩
  | .hbm, ⟨1, _⟩ => ⟨S4x192, .f32⟩
  | .hbm, ⟨2, _⟩ => ⟨S4x192, .f32⟩
  | .hbm, ⟨3, _⟩ => ⟨S2x4x192, .f32⟩
  | .hbm, ⟨4, _⟩ => ⟨S2x4x192, .f32⟩
  | .hbm, ⟨5, _⟩ => ⟨S1x4x192, .f32⟩
  | .hbm, ⟨6, _⟩ => ⟨S1x4x192, .f32⟩
  | .hbm, ⟨7, _⟩ => ⟨S2x4x192, .f32⟩
  | .hbm, ⟨8, _⟩ => ⟨S_, .f32⟩
  | .hbm, ⟨9, _⟩ => ⟨S2x4x192, .f32⟩
  | .hbm, ⟨10, _⟩ => ⟨S2x4x192, .f32⟩
  | .hbm, ⟨11, _⟩ => ⟨S_, .f32⟩
  | .hbm, ⟨12, _⟩ => ⟨S2x4x192, .f32⟩
  | .hbm, ⟨13, _⟩ => ⟨S2x4x192, .f32⟩
  | .hbm, ⟨14, _⟩ => ⟨S2x4x192, .f32⟩
  | .hbm, ⟨15, _⟩ => ⟨S_, .f32⟩
  | .hbm, ⟨16, _⟩ => ⟨S2x4x192, .f32⟩
  | .hbm, ⟨17, _⟩ => ⟨S2x4x192, .f32⟩
  | .hbm, ⟨18, _⟩ => ⟨S2x4x192, .f32⟩
  | .hbm, ⟨19, _⟩ => ⟨S_, .f32⟩
  | .hbm, ⟨20, _⟩ => ⟨S2x4x192, .f32⟩
  | .hbm, ⟨21, _⟩ => ⟨S2x4x192, .f32⟩
  | .hbm, ⟨22, _⟩ => ⟨S2x4x192, .f32⟩
  | .hbm, ⟨23, _⟩ => ⟨S_, .f32⟩
  | .hbm, ⟨24, _⟩ => ⟨S2x4x192, .f32⟩
  | .hbm, ⟨25, _⟩ => ⟨S2x4x192, .f32⟩
  | .hbm, ⟨26, _⟩ => ⟨S_, .f32⟩
  | .hbm, ⟨27, _⟩ => ⟨S2x4x192, .f32⟩
  | .hbm, ⟨28, _⟩ => ⟨S2x4x192, .f32⟩
  | .hbm, ⟨29, _⟩ => ⟨S2x4x192, .f32⟩
  | .hbm, ⟨30, _⟩ => ⟨S_, .f32⟩
  | .hbm, ⟨31, _⟩ => ⟨S2x4x192, .f32⟩
  | .hbm, ⟨32, _⟩ => ⟨S2x4x192, .f32⟩
  | .hbm, ⟨33, _⟩ => ⟨S2x4x192, .f32⟩
  | .hbm, ⟨34, _⟩ => ⟨S_, .f32⟩
  | .hbm, ⟨35, _⟩ => ⟨S2x4x192, .f32⟩
  | .hbm, ⟨36, _⟩ => ⟨S2x4x192, .f32⟩
  | .hbm, ⟨37, _⟩ => ⟨S2x4x192, .f32⟩
  | .hbm, ⟨38, _⟩ => ⟨S_, .f32⟩
  | .hbm, ⟨39, _⟩ => ⟨S2x4x192, .f32⟩
  | .hbm, ⟨40, _⟩ => ⟨S2x4x192, .f32⟩
  | _, _ => ⟨S2x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamConvGdn.lean ====
abbrev S2x4x384 : Shape := ⟨3, ![2, 4, 384]⟩
abbrev S4x384 : Shape := ⟨2, ![4, 384]⟩
abbrev S1x4x384 : Shape := ⟨3, ![1, 4, 384]⟩

abbrev nBuf : Space → Nat
  | .hbm => 9
  | .vmem => 16
  | .smem => 0
  | _ => 0

abbrev bufTy : (tb : Table) → Fin (tcTables nBuf tb) → BufTy
  | .hbm, ⟨0, _⟩ => ⟨S2x4x384, .f32⟩
  | .hbm, ⟨1, _⟩ => ⟨S4x384, .f32⟩
  | .hbm, ⟨2, _⟩ => ⟨S4x384, .f32⟩
  | .hbm, ⟨3, _⟩ => ⟨S2x4x384, .f32⟩
  | .hbm, ⟨4, _⟩ => ⟨S2x4x384, .f32⟩
  | .hbm, ⟨5, _⟩ => ⟨S2x4x384, .f32⟩
  | .hbm, ⟨6, _⟩ => ⟨S2x4x384, .f32⟩
  | .hbm, ⟨7, _⟩ => ⟨S2x4x384, .f32⟩
  | .hbm, ⟨8, _⟩ => ⟨S2x4x384, .f32⟩
  | .local _ .vmem, ⟨0, _⟩ => ⟨S1x4x384, .f32⟩
  | .local _ .vmem, ⟨1, _⟩ => ⟨S1x4x384, .f32⟩
  | .local _ .vmem, ⟨2, _⟩ => ⟨S1x4x384, .f32⟩
  | .local _ .vmem, ⟨3, _⟩ => ⟨S1x4x384, .f32⟩
  | .local _ .vmem, ⟨4, _⟩ => ⟨S1x4x384, .f32⟩
  | .local _ .vmem, ⟨5, _⟩ => ⟨S1x4x384, .f32⟩
  | .local _ .vmem, ⟨6, _⟩ => ⟨S4x384, .f32⟩
  | .local _ .vmem, ⟨7, _⟩ => ⟨S4x384, .f32⟩
  | .local _ .vmem, ⟨8, _⟩ => ⟨S1x4x384, .f32⟩
  | .local _ .vmem, ⟨9, _⟩ => ⟨S1x4x384, .f32⟩
  | .local _ .vmem, ⟨10, _⟩ => ⟨S1x4x384, .f32⟩
  | .local _ .vmem, ⟨11, _⟩ => ⟨S1x4x384, .f32⟩
  | .local _ .vmem, ⟨12, _⟩ => ⟨S1x4x384, .f32⟩
  | .local _ .vmem, ⟨13, _⟩ => ⟨S1x4x384, .f32⟩
  | .local _ .vmem, ⟨14, _⟩ => ⟨S1x4x384, .f32⟩
  | .local _ .vmem, ⟨15, _⟩ => ⟨S1x4x384, .f32⟩
  | _, _ => ⟨S2x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1x4x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamConvGdnIdeal.lean ====
abbrev S2x4x384 : Shape := ⟨3, ![2, 4, 384]⟩
abbrev S4x384 : Shape := ⟨2, ![4, 384]⟩
abbrev S1x4x384 : Shape := ⟨3, ![1, 4, 384]⟩

abbrev nBuf : Space → Nat
  | .hbm => 9
  | .vmem => 16
  | .smem => 0
  | _ => 0

abbrev bufTy : (tb : Table) → Fin (tcTables nBuf tb) → BufTy
  | .hbm, ⟨0, _⟩ => ⟨S2x4x384, .f32⟩
  | .hbm, ⟨1, _⟩ => ⟨S4x384, .f32⟩
  | .hbm, ⟨2, _⟩ => ⟨S4x384, .f32⟩
  | .hbm, ⟨3, _⟩ => ⟨S2x4x384, .f32⟩
  | .hbm, ⟨4, _⟩ => ⟨S2x4x384, .f32⟩
  | .hbm, ⟨5, _⟩ => ⟨S2x4x384, .f32⟩
  | .hbm, ⟨6, _⟩ => ⟨S2x4x384, .f32⟩
  | .hbm, ⟨7, _⟩ => ⟨S2x4x384, .f32⟩
  | .hbm, ⟨8, _⟩ => ⟨S2x4x384, .f32⟩
  | .local _ .vmem, ⟨0, _⟩ => ⟨S1x4x384, .f32⟩
  | .local _ .vmem, ⟨1, _⟩ => ⟨S1x4x384, .f32⟩
  | .local _ .vmem, ⟨2, _⟩ => ⟨S1x4x384, .f32⟩
  | .local _ .vmem, ⟨3, _⟩ => ⟨S1x4x384, .f32⟩
  | .local _ .vmem, ⟨4, _⟩ => ⟨S1x4x384, .f32⟩
  | .local _ .vmem, ⟨5, _⟩ => ⟨S1x4x384, .f32⟩
  | .local _ .vmem, ⟨6, _⟩ => ⟨S4x384, .f32⟩
  | .local _ .vmem, ⟨7, _⟩ => ⟨S4x384, .f32⟩
  | .local _ .vmem, ⟨8, _⟩ => ⟨S1x4x384, .f32⟩
  | .local _ .vmem, ⟨9, _⟩ => ⟨S1x4x384, .f32⟩
  | .local _ .vmem, ⟨10, _⟩ => ⟨S1x4x384, .f32⟩
  | .local _ .vmem, ⟨11, _⟩ => ⟨S1x4x384, .f32⟩
  | .local _ .vmem, ⟨12, _⟩ => ⟨S1x4x384, .f32⟩
  | .local _ .vmem, ⟨13, _⟩ => ⟨S1x4x384, .f32⟩
  | .local _ .vmem, ⟨14, _⟩ => ⟨S1x4x384, .f32⟩
  | .local _ .vmem, ⟨15, _⟩ => ⟨S1x4x384, .f32⟩
  | _, _ => ⟨S2x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1x4x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamConvGdnRefIdeal.lean ====
abbrev S2x4x384 : Shape := ⟨3, ![2, 4, 384]⟩
abbrev S4x384 : Shape := ⟨2, ![4, 384]⟩
abbrev S1x4x384 : Shape := ⟨3, ![1, 4, 384]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x4x384, .f32⟩
  | .hbm, ⟨1, _⟩ => ⟨S4x384, .f32⟩
  | .hbm, ⟨2, _⟩ => ⟨S4x384, .f32⟩
  | .hbm, ⟨3, _⟩ => ⟨S2x4x384, .f32⟩
  | .hbm, ⟨4, _⟩ => ⟨S2x4x384, .f32⟩
  | .hbm, ⟨5, _⟩ => ⟨S1x4x384, .f32⟩
  | .hbm, ⟨6, _⟩ => ⟨S1x4x384, .f32⟩
  | .hbm, ⟨7, _⟩ => ⟨S2x4x384, .f32⟩
  | .hbm, ⟨8, _⟩ => ⟨S_, .f32⟩
  | .hbm, ⟨9, _⟩ => ⟨S2x4x384, .f32⟩
  | .hbm, ⟨10, _⟩ => ⟨S2x4x384, .f32⟩
  | .hbm, ⟨11, _⟩ => ⟨S_, .f32⟩
  | .hbm, ⟨12, _⟩ => ⟨S2x4x384, .f32⟩
  | .hbm, ⟨13, _⟩ => ⟨S2x4x384, .f32⟩
  | .hbm, ⟨14, _⟩ => ⟨S2x4x384, .f32⟩
  | .hbm, ⟨15, _⟩ => ⟨S_, .f32⟩
  | .hbm, ⟨16, _⟩ => ⟨S2x4x384, .f32⟩
  | .hbm, ⟨17, _⟩ => ⟨S2x4x384, .f32⟩
  | .hbm, ⟨18, _⟩ => ⟨S2x4x384, .f32⟩
  | .hbm, ⟨19, _⟩ => ⟨S_, .f32⟩
  | .hbm, ⟨20, _⟩ => ⟨S2x4x384, .f32⟩
  | .hbm, ⟨21, _⟩ => ⟨S2x4x384, .f32⟩
  | .hbm, ⟨22, _⟩ => ⟨S2x4x384, .f32⟩
  | .hbm, ⟨23, _⟩ => ⟨S_, .f32⟩
  | .hbm, ⟨24, _⟩ => ⟨S2x4x384, .f32⟩
  | .hbm, ⟨25, _⟩ => ⟨S2x4x384, .f32⟩
  | .hbm, ⟨26, _⟩ => ⟨S_, .f32⟩
  | .hbm, ⟨27, _⟩ => ⟨S2x4x384, .f32⟩
  | .hbm, ⟨28, _⟩ => ⟨S2x4x384, .f32⟩
  | .hbm, ⟨29, _⟩ => ⟨S2x4x384, .f32⟩
  | .hbm, ⟨30, _⟩ => ⟨S_, .f32⟩
  | .hbm, ⟨31, _⟩ => ⟨S2x4x384, .f32⟩
  | .hbm, ⟨32, _⟩ => ⟨S2x4x384, .f32⟩
  | .hbm, ⟨33, _⟩ => ⟨S2x4x384, .f32⟩
  | .hbm, ⟨34, _⟩ => ⟨S_, .f32⟩
  | .hbm, ⟨35, _⟩ => ⟨S2x4x384, .f32⟩
  | .hbm, ⟨36, _⟩ => ⟨S2x4x384, .f32⟩
  | .hbm, ⟨37, _⟩ => ⟨S2x4x384, .f32⟩
  | .hbm, ⟨38, _⟩ => ⟨S_, .f32⟩
  | .hbm, ⟨39, _⟩ => ⟨S2x4x384, .f32⟩
  | .hbm, ⟨40, _⟩ => ⟨S2x4x384, .f32⟩
  | _, _ => ⟨S2x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamSquare.lean ====
abbrev S2x128x1024 : Shape := ⟨3, ![2, 128, 1024]⟩
abbrev S128x1024 : Shape := ⟨2, ![128, 1024]⟩
abbrev S1x128x1024 : Shape := ⟨3, ![1, 128, 1024]⟩

abbrev nBuf : Space → Nat
  | .hbm => 9
  | .vmem => 16
  | .smem => 0
  | _ => 0

abbrev bufTy : (tb : Table) → Fin (tcTables nBuf tb) → BufTy
  | .hbm, ⟨0, _⟩ => ⟨S2x128x1024, .f32⟩
  | .hbm, ⟨1, _⟩ => ⟨S128x1024, .f32⟩
  | .hbm, ⟨2, _⟩ => ⟨S128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S128x1024, .f32⟩
  | .local _ .vmem, ⟨7, _⟩ => ⟨S128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamSquareIdeal.lean ====
abbrev S2x128x1024 : Shape := ⟨3, ![2, 128, 1024]⟩
abbrev S128x1024 : Shape := ⟨2, ![128, 1024]⟩
abbrev S1x128x1024 : Shape := ⟨3, ![1, 128, 1024]⟩

abbrev nBuf : Space → Nat
  | .hbm => 9
  | .vmem => 16
  | .smem => 0
  | _ => 0

abbrev bufTy : (tb : Table) → Fin (tcTables nBuf tb) → BufTy
  | .hbm, ⟨0, _⟩ => ⟨S2x128x1024, .f32⟩
  | .hbm, ⟨1, _⟩ => ⟨S128x1024, .f32⟩
  | .hbm, ⟨2, _⟩ => ⟨S128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S128x1024, .f32⟩
  | .local _ .vmem, ⟨7, _⟩ => ⟨S128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamSquareRefIdeal.lean ====
abbrev S2x128x1024 : Shape := ⟨3, ![2, 128, 1024]⟩
abbrev S128x1024 : Shape := ⟨2, ![128, 1024]⟩
abbrev S1x128x1024 : Shape := ⟨3, ![1, 128, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S128x1024, .f32⟩
  | .hbm, ⟨2, _⟩ => ⟨S128x1024, .f32⟩
  | .hbm, ⟨3, _⟩ => ⟨S2x128x1024, .f32⟩
  | .hbm, ⟨4, _⟩ => ⟨S2x128x1024, .f32⟩
  | .hbm, ⟨5, _⟩ => ⟨S1x128x1024, .f32⟩
  | .hbm, ⟨6, _⟩ => ⟨S1x128x1024, .f32⟩
  | .hbm, ⟨7, _⟩ => ⟨S2x128x1024, .f32⟩
  | .hbm, ⟨8, _⟩ => ⟨S_, .f32⟩
  | .hbm, ⟨9, _⟩ => ⟨S2x128x1024, .f32⟩
  | .hbm, ⟨10, _⟩ => ⟨S2x128x1024, .f32⟩
  | .hbm, ⟨11, _⟩ => ⟨S_, .f32⟩
  | .hbm, ⟨12, _⟩ => ⟨S2x128x1024, .f32⟩
  | .hbm, ⟨13, _⟩ => ⟨S2x128x1024, .f32⟩
  | .hbm, ⟨14, _⟩ => ⟨S2x128x1024, .f32⟩
  | .hbm, ⟨15, _⟩ => ⟨S_, .f32⟩
  | .hbm, ⟨16, _⟩ => ⟨S2x128x1024, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S2x128x1024, .f32⟩
  | .hbm, ⟨23, _⟩ => ⟨S_, .f32⟩
  | .hbm, ⟨24, _⟩ => ⟨S2x128x1024, .f32⟩
  | .hbm, ⟨25, _⟩ => ⟨S2x128x1024, .f32⟩
  | .hbm, ⟨26, _⟩ => ⟨S_, .f32⟩
  | .hbm, ⟨27, _⟩ => ⟨S2x128x1024, .f32⟩
  | .hbm, ⟨28, _⟩ => ⟨S2x128x1024, .f32⟩
  | .hbm, ⟨29, _⟩ => ⟨S2x128x1024, .f32⟩
  | .hbm, ⟨30, _⟩ => ⟨S_, .f32⟩
  | .hbm, ⟨31, _⟩ => ⟨S2x128x1024, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | .hbm, ⟨37, _⟩ => ⟨S2x128x1024, .f32⟩
  | .hbm, ⟨38, _⟩ => ⟨S_, .f32⟩
  | .hbm, ⟨39, _⟩ => ⟨S2x128x1024, .f32⟩
  | .hbm, ⟨40, _⟩ => ⟨S2x128x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamFfnDown.lean ====
abbrev S2x352x1024 : Shape := ⟨3, ![2, 352, 1024]⟩
abbrev S352x1024 : Shape := ⟨2, ![352, 1024]⟩
abbrev S1x32x1024 : Shape := ⟨3, ![1, 32, 1024]⟩
abbrev S32x1024 : Shape := ⟨2, ![32, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x352x1024, .f32⟩
  | .hbm, ⟨1, _⟩ => ⟨S352x1024, .f32⟩
  | .hbm, ⟨2, _⟩ => ⟨S352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S1x32x1024, .f32⟩
  | .local _ .vmem, ⟨1, _⟩ => ⟨S1x32x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x32x1024, .f32⟩
  | .local _ .vmem, ⟨16, _⟩ => ⟨S1x32x1024, .f32⟩
  | .local _ .vmem, ⟨17, _⟩ => ⟨S1x32x1024, .f32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamFfnDownRefIdeal.lean ====
abbrev S2x352x1024 : Shape := ⟨3, ![2, 352, 1024]⟩
abbrev S352x1024 : Shape := ⟨2, ![352, 1024]⟩
abbrev S1x352x1024 : Shape := ⟨3, ![1, 352, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x352x1024, .f32⟩
  | .hbm, ⟨1, _⟩ => ⟨S352x1024, .f32⟩
  | .hbm, ⟨2, _⟩ => ⟨S352x1024, .f32⟩
  | .hbm, ⟨3, _⟩ => ⟨S2x352x1024, .f32⟩
  | .hbm, ⟨4, _⟩ => ⟨S2x352x1024, .f32⟩
  | .hbm, ⟨5, _⟩ => ⟨S1x352x1024, .f32⟩
  | .hbm, ⟨6, _⟩ => ⟨S1x352x1024, .f32⟩
  | .hbm, ⟨7, _⟩ => ⟨S2x352x1024, .f32⟩
  | .hbm, ⟨8, _⟩ => ⟨S_, .f32⟩
  | .hbm, ⟨9, _⟩ => ⟨S2x352x1024, .f32⟩
  | .hbm, ⟨10, _⟩ => ⟨S2x352x1024, .f32⟩
  | .hbm, ⟨11, _⟩ => ⟨S_, .f32⟩
  | .hbm, ⟨12, _⟩ => ⟨S2x352x1024, .f32⟩
  | .hbm, ⟨13, _⟩ => ⟨S2x352x1024, .f32⟩
  | .hbm, ⟨14, _⟩ => ⟨S2x352x1024, .f32⟩
  | .hbm, ⟨15, _⟩ => ⟨S_, .f32⟩
  | .hbm, ⟨16, _⟩ => ⟨S2x352x1024, .f32⟩
  | .hbm, ⟨17, _⟩ => ⟨S2x352x1024, .f32⟩
  | .hbm, ⟨18, _⟩ => ⟨S2x352x1024, .f32⟩
  | .hbm, ⟨19, _⟩ => ⟨S_, .f32⟩
  | .hbm, ⟨20, _⟩ => ⟨S2x352x1024, .f32⟩
  | .hbm, ⟨21, _⟩ => ⟨S2x352x1024, .f32⟩
  | .hbm, ⟨22, _⟩ => ⟨S2x352x1024, .f32⟩
  | .hbm, ⟨23, _⟩ => ⟨S_, .f32⟩
  | .hbm, ⟨24, _⟩ => ⟨S2x352x1024, .f32⟩
  | .hbm, ⟨25, _⟩ => ⟨S2x352x1024, .f32⟩
  | .hbm, ⟨26, _⟩ => ⟨S_, .f32⟩
  | .hbm, ⟨27, _⟩ => ⟨S2x352x1024, .f32⟩
  | .hbm, ⟨28, _⟩ => ⟨S2x352x1024, .f32⟩
  | .hbm, ⟨29, _⟩ => ⟨S2x352x1024, .f32⟩
  | .hbm, ⟨30, _⟩ => ⟨S_, .f32⟩
  | .hbm, ⟨31, _⟩ => ⟨S2x352x1024, .f32⟩
  | .hbm, ⟨32, _⟩ => ⟨S2x352x1024, .f32⟩
  | .hbm, ⟨33, _⟩ => ⟨S2x352x1024, .f32⟩
  | .hbm, ⟨34, _⟩ => ⟨S_, .f32⟩
  | .hbm, ⟨35, _⟩ => ⟨S2x352x1024, .f32⟩
  | .hbm, ⟨36, _⟩ => ⟨S2x352x1024, .f32⟩
  | .hbm, ⟨37, _⟩ => ⟨S2x352x1024, .f32⟩
  | .hbm, ⟨38, _⟩ => ⟨S_, .f32⟩
  | .hbm, ⟨39, _⟩ => ⟨S2x352x1024, .f32⟩
  | .hbm, ⟨40, _⟩ => ⟨S2x352x1024, .f32⟩
  | _, _ => ⟨S2x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamFfnIn.lean ====
abbrev S2x1024x704 : Shape := ⟨3, ![2, 1024, 704]⟩
abbrev S1024x704 : Shape := ⟨2, ![1024, 704]⟩
abbrev S2x704x1024 : Shape := ⟨3, ![2, 704, 1024]⟩
abbrev S704x1024 : Shape := ⟨2, ![704, 1024]⟩
abbrev S1x64x1024 : Shape := ⟨3, ![1, 64, 1024]⟩
abbrev S64x1024 : Shape := ⟨2, ![64, 1024]⟩

abbrev nBuf : Space → Nat
  | .hbm => 14
  | .vmem => 18
  | .smem => 0
  | _ => 0

abbrev bufTy : (tb : Table) → Fin (tcTables nBuf tb) → BufTy
  | .hbm, ⟨0, _⟩ => ⟨S2x1024x704, .f32⟩
  | .hbm, ⟨1, _⟩ => ⟨S1024x704, .f32⟩
  | .hbm, ⟨2, _⟩ => ⟨S1024x704, .f32⟩
  | .hbm, ⟨3, _⟩ => ⟨S2x1024x704, .f32⟩
  | .hbm, ⟨4, _⟩ => ⟨S2x1024x704, .f32⟩
  | .hbm, ⟨5, _⟩ => ⟨S2x704x1024, .f32⟩
  | .hbm, ⟨6, _⟩ => ⟨S704x1024, .f32⟩
  | .hbm, ⟨7, _⟩ => ⟨S704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S2x704x1024, .f32⟩
  | .hbm, ⟨12, _⟩ => ⟨S2x704x1024, .f32⟩
  | .hbm, ⟨13, _⟩ => ⟨S2x704x1024, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1x64x1024, .f32⟩
  | .local _ .vmem, ⟨17, _⟩ => ⟨S1x64x1024, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamFfnInRefIdeal.lean ====
abbrev S2x1024x704 : Shape := ⟨3, ![2, 1024, 704]⟩
abbrev S1024x704 : Shape := ⟨2, ![1024, 704]⟩
abbrev S1x1024x704 : Shape := ⟨3, ![1, 1024, 704]⟩
abbrev S_ : Shape := ⟨0, ![]⟩
abbrev S2x704x1024 : Shape := ⟨3, ![2, 704, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2x1024x704, .f32⟩
  | .hbm, ⟨1, _⟩ => ⟨S1024x704, .f32⟩
  | .hbm, ⟨2, _⟩ => ⟨S1024x704, .f32⟩
  | .hbm, ⟨3, _⟩ => ⟨S2x1024x704, .f32⟩
  | .hbm, ⟨4, _⟩ => ⟨S2x1024x704, .f32⟩
  | .hbm, ⟨5, _⟩ => ⟨S1x1024x704, .f32⟩
  | .hbm, ⟨6, _⟩ => ⟨S1x1024x704, .f32⟩
  | .hbm, ⟨7, _⟩ => ⟨S2x1024x704, .f32⟩
  | .hbm, ⟨8, _⟩ => ⟨S_, .f32⟩
  | .hbm, ⟨9, _⟩ => ⟨S2x1024x704, .f32⟩
  | .hbm, ⟨10, _⟩ => ⟨S2x1024x704, .f32⟩
  | .hbm, ⟨11, _⟩ => ⟨S_, .f32⟩
  | .hbm, ⟨12, _⟩ => ⟨S2x1024x704, .f32⟩
  | .hbm, ⟨13, _⟩ => ⟨S2x1024x704, .f32⟩
  | .hbm, ⟨14, _⟩ => ⟨S2x1024x704, .f32⟩
  | .hbm, ⟨15, _⟩ => ⟨S_, .f32⟩
  | .hbm, ⟨16, _⟩ => ⟨S2x1024x704, .f32⟩
  | .hbm, ⟨17, _⟩ => ⟨S2x1024x704, .f32⟩
  | .hbm, ⟨18, _⟩ => ⟨S2x1024x704, .f32⟩
  | .hbm, ⟨19, _⟩ => ⟨S_, .f32⟩
  | .hbm, ⟨20, _⟩ => ⟨S2x1024x704, .f32⟩
  | .hbm, ⟨21, _⟩ => ⟨S2x1024x704, .f32⟩
  | .hbm, ⟨22, _⟩ => ⟨S2x1024x704, .f32⟩
  | .hbm, ⟨23, _⟩ => ⟨S_, .f32⟩
  | .hbm, ⟨24, _⟩ => ⟨S2x1024x704, .f32⟩
  | .hbm, ⟨25, _⟩ => ⟨S2x1024x704, .f32⟩
  | .hbm, ⟨26, _⟩ => ⟨S_, .f32⟩
  | .hbm, ⟨27, _⟩ => ⟨S2x1024x704, .f32⟩
  | .hbm, ⟨28, _⟩ => ⟨S2x1024x704, .f32⟩
  | .hbm, ⟨29, _⟩ => ⟨S2x1024x704, .f32⟩
  | .hbm, ⟨30, _⟩ => ⟨S_, .f32⟩
  | .hbm, ⟨31, _⟩ => ⟨S2x1024x704, .f32⟩
  | .hbm, ⟨32, _⟩ => ⟨S2x1024x704, .f32⟩
  | .hbm, ⟨33, _⟩ => ⟨S2x1024x704, .f32⟩
  | .hbm, ⟨34, _⟩ => ⟨S_, .f32⟩
  | .hbm, ⟨35, _⟩ => ⟨S2x1024x704, .f32⟩
  | .hbm, ⟨36, _⟩ => ⟨S2x1024x704, .f32⟩
  | .hbm, ⟨37, _⟩ => ⟨S2x1024x704, .f32⟩
  | .hbm, ⟨38, _⟩ => ⟨S_, .f32⟩
  | .hbm, ⟨39, _⟩ => ⟨S2x1024x704, .f32⟩
  | .hbm, ⟨40, _⟩ => ⟨S2x1024x704, .f32⟩
  | .hbm, ⟨41, _⟩ => ⟨S2x704x1024, .f32⟩
  | .hbm, ⟨42, _⟩ => ⟨S2x704x1024, .f32⟩
  | .hbm, ⟨43, _⟩ => ⟨S2x704x1024, .f32⟩
  | .hbm, ⟨44, _⟩ => ⟨S2x704x1024, .f32⟩
  | _, _ => ⟨S2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== AdamIn.lean ====
abbrev S2x1024x1092 : Shape := ⟨3, ![2, 1024, 1092]⟩
abbrev S1024x1092 : Shape := ⟨2, ![1024, 1092]⟩
abbrev S1092x2x1024 : Shape := ⟨3, ![1092, 2, 1024]⟩
abbrev S1092x1024 : Shape := ⟨2, ![1092, 1024]⟩
abbrev S1092x1x1024 : Shape := ⟨3, ![1092, 1, 1024]⟩
abbrev S91x2x1024 : Shape := ⟨3, ![91, 2, 1024]⟩

abbrev nBuf : Space → Nat
  | .hbm => 16
  | .vmem => 14
  | .smem => 0
  | _ => 0

abbrev bufTy : (tb : Table) → Fin (tcTables nBuf tb) → BufTy
  | .hbm, ⟨0, _⟩ => ⟨S2x1024x1092, .f32⟩
  | .hbm, ⟨1, _⟩ => ⟨S1024x1092, .f32⟩
  | .hbm, ⟨2, _⟩ => ⟨S1024x1092, .f32⟩
  | .hbm, ⟨3, _⟩ => ⟨S2x1024x1092, .f32⟩
  | .hbm, ⟨4, _⟩ => ⟨S2x1024x1092, .f32⟩
  | .hbm, ⟨5, _⟩ => ⟨S1092x2x1024, .f32⟩
  | .hbm, ⟨6, _⟩ => ⟨S1092x1024, .f32⟩
  | .hbm, ⟨7, _⟩ => ⟨S1092x1024, .f32⟩
  | .hbm, ⟨8, _⟩ => ⟨S1092x1x1024, .f32⟩
  | .hbm, ⟨9, _⟩ => ⟨S1092x1x1024, .f32⟩
  | .hbm, ⟨10, _⟩ => ⟨S1092x2x1024, .f32⟩
  | .hbm, ⟨11, _⟩ => ⟨S1092x2x1024, .f32⟩
  | .hbm, ⟨12, _⟩ => ⟨S1092x2x1024, .f32⟩
  | .hbm, ⟨13, _⟩ => ⟨S1092x2x1024, .f32⟩
  | .hbm, ⟨14, _⟩ => ⟨S1092x2x1024, .f32⟩
  | .hbm, ⟨15, _⟩ => ⟨S1092x2x1024, .f32⟩
  | .local _ .vmem, ⟨0, _⟩ => ⟨S91x2x1024, .f32⟩
  | .local _ .vmem, ⟨1, _⟩ => ⟨S91x2x1024, .f32⟩
  | .local _ .vmem, ⟨2, _⟩ => ⟨S91x2x1024, .f32⟩
  | .local _ .vmem, ⟨3, _⟩ => ⟨S91x2x1024, .f32⟩
  | .local _ .vmem, ⟨4, _⟩ => ⟨S91x2x1024, .f32⟩
  | .local _ .vmem, ⟨5, _⟩ => ⟨S91x2x1024, .f32⟩
  | .local _ .vmem, ⟨6, _⟩ => ⟨S91x2x1024, .f32⟩
  | .local _ .vmem, ⟨7, _⟩ => ⟨S91x2x1024, .f32⟩
  | .local _ .vmem, ⟨8, _⟩ => ⟨S91x2x1024, .f32⟩
  | .local _ .vmem, ⟨9, _⟩ => ⟨S91x2x1024, .f32⟩
  | .local _ .vmem, ⟨10, _⟩ => ⟨S91x2x1024, .f32⟩
  | .local _ .vmem, ⟨11, _⟩ => ⟨S91x2x1024, .f32⟩
  | .local _ .vmem, ⟨12, _⟩ => ⟨S91x2x1024, .f32⟩
  | .local _ .vmem, ⟨13, _⟩ => ⟨S91x2x1024, .f32⟩
  | _, _ => ⟨S2x1024x1092, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S91x2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S91x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S91x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S91x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S91x2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S91x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S91x2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S2x1024x1092 : Shape := ⟨3, ![2, 1024, 1092]⟩
abbrev S1024x1092 : Shape := ⟨2, ![1024, 1092]⟩
abbrev S1x1024x1092 : Shape := ⟨3, ![1, 1024, 1092]⟩
abbrev S_ : Shape := ⟨0, ![]⟩
abbrev S1092x2x1024 : Shape := ⟨3, ![1092, 2, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2x1024x1092, .f32⟩
  | .hbm, ⟨1, _⟩ => ⟨S1024x1092, .f32⟩
  | .hbm, ⟨2, _⟩ => ⟨S1024x1092, .f32⟩
  | .hbm, ⟨3, _⟩ => ⟨S2x1024x1092, .f32⟩
  | .hbm, ⟨4, _⟩ => ⟨S2x1024x1092, .f32⟩
  | .hbm, ⟨5, _⟩ => ⟨S1x1024x1092, .f32⟩
  | .hbm, ⟨6, _⟩ => ⟨S1x1024x1092, .f32⟩
  | .hbm, ⟨7, _⟩ => ⟨S2x1024x1092, .f32⟩
  | .hbm, ⟨8, _⟩ => ⟨S_, .f32⟩
  | .hbm, ⟨9, _⟩ => ⟨S2x1024x1092, .f32⟩
  | .hbm, ⟨10, _⟩ => ⟨S2x1024x1092, .f32⟩
  | .hbm, ⟨11, _⟩ => ⟨S_, .f32⟩
  | .hbm, ⟨12, _⟩ => ⟨S2x1024x1092, .f32⟩
  | .hbm, ⟨13, _⟩ => ⟨S2x1024x1092, .f32⟩
  | .hbm, ⟨14, _⟩ => ⟨S2x1024x1092, .f32⟩
  | .hbm, ⟨15, _⟩ => ⟨S_, .f32⟩
  | .hbm, ⟨16, _⟩ => ⟨S2x1024x1092, .f32⟩
  | .hbm, ⟨17, _⟩ => ⟨S2x1024x1092, .f32⟩
  | .hbm, ⟨18, _⟩ => ⟨S2x1024x1092, .f32⟩
  | .hbm, ⟨19, _⟩ => ⟨S_, .f32⟩
  | .hbm, ⟨20, _⟩ => ⟨S2x1024x1092, .f32⟩
  | .hbm, ⟨21, _⟩ => ⟨S2x1024x1092, .f32⟩
  | .hbm, ⟨22, _⟩ => ⟨S2x1024x1092, .f32⟩
  | .hbm, ⟨23, _⟩ => ⟨S_, .f32⟩
  | .hbm, ⟨24, _⟩ => ⟨S2x1024x1092, .f32⟩
  | .hbm, ⟨25, _⟩ => ⟨S2x1024x1092, .f32⟩
  | .hbm, ⟨26, _⟩ => ⟨S_, .f32⟩
  | .hbm, ⟨27, _⟩ => ⟨S2x1024x1092, .f32⟩
  | .hbm, ⟨28, _⟩ => ⟨S2x1024x1092, .f32⟩
  | .hbm, ⟨29, _⟩ => ⟨S2x1024x1092, .f32⟩
  | .hbm, ⟨30, _⟩ => ⟨S_, .f32⟩
  | .hbm, ⟨31, _⟩ => ⟨S2x1024x1092, .f32⟩
  | .hbm, ⟨32, _⟩ => ⟨S2x1024x1092, .f32⟩
  | .hbm, ⟨33, _⟩ => ⟨S2x1024x1092, .f32⟩
  | .hbm, ⟨34, _⟩ => ⟨S_, .f32⟩
  | .hbm, ⟨35, _⟩ => ⟨S2x1024x1092, .f32⟩
  | .hbm, ⟨36, _⟩ => ⟨S2x1024x1092, .f32⟩
  | .hbm, ⟨37, _⟩ => ⟨S2x1024x1092, .f32⟩
  | .hbm, ⟨38, _⟩ => ⟨S_, .f32⟩
  | .hbm, ⟨39, _⟩ => ⟨S2x1024x1092, .f32⟩
  | .hbm, ⟨40, _⟩ => ⟨S2x1024x1092, .f32⟩
  | .hbm, ⟨41, _⟩ => ⟨S1092x2x1024, .f32⟩
  | .hbm, ⟨42, _⟩ => ⟨S1092x2x1024, .f32⟩
  | .hbm, ⟨43, _⟩ => ⟨S1092x2x1024, .f32⟩
  | _, _ => ⟨S2x1024x1092, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Proof.Real.lean ====
/- Extended reals that are real numbers: closed under sums, products and finite sums; and the algebra of the sigmoid's
   and of x · sigmoid x's derivative, at every extended real that the programs can meet. -/
module

public import Idealize.ShloMosaic.PureOps.Ideal.Laws
public import Idealize.ShloMosaic.Lib.Pointwise

@[expose] public section

noncomputable section

namespace Cert.Proof

open Idealize.ShloMosaic

/-- `x` is a real number. -/
def IsReal (x : EReal) : Prop := ∃ r : ℝ, x = r

namespace IsReal

theorem coe (r : ℝ) : IsReal r := ⟨r, rfl⟩
theorem zero : IsReal 0 := ⟨0, rfl⟩
theorem one : IsReal 1 := ⟨1, rfl⟩
theorem add {x y : EReal} : IsReal x → IsReal y → IsReal (x + y) := by
  rintro ⟨a, rfl⟩ ⟨b, rfl⟩; exact ⟨a + b, by push_cast; rfl⟩
theorem mul {x y : EReal} : IsReal x → IsReal y → IsReal (x * y) := by
  rintro ⟨a, rfl⟩ ⟨b, rfl⟩; exact ⟨a * b, by push_cast; rfl⟩
theorem neg {x : EReal} : IsReal x → IsReal (-x) := by
  rintro ⟨a, rfl⟩; exact ⟨-a, by push_cast; rfl⟩
theorem sub {x y : EReal} : IsReal x → IsReal y → IsReal (x - y) := by
  rintro ⟨a, rfl⟩ ⟨b, rfl⟩; exact ⟨a - b, by push_cast; rfl⟩
theorem sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- An absolute value below the infinite word's value is a real number's. -/
theorem of_abs_lt {x : EReal} (h : Ideal.cmp .olt (max x (-x)) (Ideal.ofBits .f32 0x7F800000#32) = 1#1) : IsReal x := by
  have ht : Ideal.ofBits .f32 0x7F800000#32 = ⊤ := by
    simp [Ideal.ofBits, Ideal.ieee]
  rw [ht] at h
  induction x with
  | bot => simp [Ideal.cmp] at h
  | top => simp [Ideal.cmp] at h
  | coe r => exact ⟨r, rfl⟩

end IsReal

/-- The sigmoid as both programs write it. -/
def sigm (x : EReal) : EReal := Ideal.div 1 (1 + Ideal.exp (-x))

theorem sigm_coe (r : ℝ) : sigm r = (((1 + Real.exp (-r))⁻¹ : ℝ) : EReal) := Ideal.logistic_coe r
theorem sigm_bot : sigm ⊥ = 0 := Ideal.logistic_bot
theorem sigm_top : sigm ⊤ = 1 := Ideal.logistic_top

/-- The derivative of `g · sigm g` in the two forms the programs take, times a real cotangent `c`: `g` may be infinite. -/
theorem silu_grad {c : EReal} (hc : IsReal c) (g : EReal) :
    c * (sigm g * (1 + g * (1 - sigm g))) = c * sigm g + g * c * (sigm g * (1 - sigm g)) := by
  obtain ⟨c, rfl⟩ := hc
  have h1 : (1 : EReal) - 1 = 0 := by rw [← EReal.coe_one, ← EReal.coe_sub, sub_self, EReal.coe_zero]
  induction g with
  | bot => simp [sigm_bot]
  | top => simp [sigm_top, h1]
  | coe g =>
    rw [sigm_coe]
    norm_cast
    ring

/-- The two forms of that gradient, of equal products, gates and factors. -/
theorem silu_grad_congr {s s' u u' g g' : EReal} (hs : s = s') (hu : u = u') (hg : g = g') (hc : IsReal s') (hc' : IsReal u') :
    s * u * (Ideal.div 1 (1 + Ideal.exp (0 - g)) * (1 + g * (1 - Ideal.div 1 (1 + Ideal.exp (0 - g)))))
      = s' * u' * Ideal.div 1 (1 + Ideal.exp (-g'))
        + g' * (s' * u') * (Ideal.div 1 (1 + Ideal.exp (-g')) * (1 - Ideal.div 1 (1 + Ideal.exp (-g')))) := by
  subst hs hu hg; rw [zero_sub]; exact silu_grad (hc.mul hc') g

/-- The up value's gradient in the two orders. -/
theorem up_grad_congr {s s' g g' : EReal} (hs : s = s') (hg : g = g') :
    s * (g * Ideal.div 1 (1 + Ideal.exp (0 - g))) = g' * Ideal.div 1 (1 + Ideal.exp (-g')) * s' := by
  subst hs hg; rw [zero_sub, mul_comm]

/-- A gate's sigmoid times a value, of equal gates and values, in either order. -/
theorem gate_mul_congr {s s' g g' : EReal} (hs : s = s') (hg : g = g') :
    Ideal.div 1 (1 + Ideal.exp (0 - g)) * s = Ideal.div 1 (1 + Ideal.exp (-g')) * s' := by
  subst hs hg; rw [zero_sub]
theorem mul_gate_congr {s s' g g' : EReal} (hs : s = s') (hg : g = g') :
    s * Ideal.div 1 (1 + Ideal.exp (0 - g)) = Ideal.div 1 (1 + Ideal.exp (-g')) * s' := by
  subst hs hg; rw [zero_sub, mul_comm]

/-- The gradient of a gate through its sigmoid, of equal products, factors and gates. -/
theorem gate_grad_congr {s s' u u' g g' : EReal} (hs : s = s') (hu : u = u') (hg : g = g') :
    s * u * (Ideal.div 1 (1 + Ideal.exp (0 - g)) * (1 - Ideal.div 1 (1 + Ideal.exp (0 - g))))
      = s' * u' * (Ideal.div 1 (1 + Ideal.exp (-g')) * (1 - Ideal.div 1 (1 + Ideal.exp (-g')))) := by
  subst hs hu hg; rw [zero_sub]

/-- The conjunction of a list of bits is one only if each is. -/
theorem fold_andi {ι : Type} [DecidableEq ι] (s : Finset ι) (p : ι → BitVec 1) (h : Finset.fold IntOp.andi (1#1) p s = 1#1) :
    ∀ x ∈ s, p x = 1#1 := by
  induction s using Finset.induction_on with
  | empty => exact fun x hx => absurd hx (Finset.notMem_empty _)
  | insert a s ha ih =>
    rw [Finset.fold_insert ha] at h
    intro x hx
    rcases BitVec.eq_zero_or_eq_one (p a) with e | e <;>
      rcases BitVec.eq_zero_or_eq_one (Finset.fold IntOp.andi (1#1) p s) with g | g <;> rw [e, g] at h
    · exact absurd h (by decide)
    · exact absurd h (by decide)
    · exact absurd h (by decide)
    · rcases Finset.mem_insert.1 hx with rfl | hx
      · exact e
      · exact ih g x hx

theorem andi_one {a b : BitVec 1} (h : IntOp.andi a b = 1#1) : a = 1#1 ∧ b = 1#1 := by
  rcases BitVec.eq_zero_or_eq_one a with rfl | rfl <;> rcases BitVec.eq_zero_or_eq_one b with rfl | rfl <;>
    first | exact ⟨rfl, rfl⟩ | exact absurd h (by decide)

/-- A precondition's conjunct over a matrix: every element of it is a real number. -/
theorem real_of_fold {a b : Nat} {φ : FTy} (x : (⟨2, ![a, b]⟩ : Shape).Idx → Ideal φ)
    (h : Finset.fold IntOp.andi (1#1) (fun k : Fin a × Fin b => BitVec.ofBool (decide
      (FloatOps.absf (F := Ideal) (φ := .f32) (x (ix2 k.1 k.2)) < Ideal.ofBits FTy.f32 0x7F800000#32))) Finset.univ = 1#1)
    (i : (⟨2, ![a, b]⟩ : Shape).Idx) : IsReal (x i) := by
  have := fold_andi _ _ h (i 0, i 1) (Finset.mem_univ _)
  rw [eq_ix2 i]
  exact IsReal.of_abs_lt this

/-- … over a vector. -/
theorem real_of_fold1 {a : Nat} {φ : FTy} (x : (⟨1, ![a]⟩ : Shape).Idx → Ideal φ)
    (h : Finset.fold IntOp.andi (1#1) (fun k : Fin a => BitVec.ofBool (decide
      (FloatOps.absf (F := Ideal) (φ := .f32) (x (ix1 k)) < Ideal.ofBits FTy.f32 0x7F800000#32))) Finset.univ = 1#1)
    (i : (⟨1, ![a]⟩ : Shape).Idx) : IsReal (x i) := by
  have := fold_andi _ _ h (i 0) (Finset.mem_univ _)
  rw [eq_ix1 i]
  exact IsReal.of_abs_lt this

end Cert.Proof

end
-- ==== Proof.FfnActGrad.lean ====
/- The gradient through the feed-forward net's down projection and silu(gate) · up: one product with the second operand
   transposed, times the two factors' derivatives. -/
module

public import proofs.«01_k».proof.Proof.Gen.FfnActGradIdeal.Value
public import proofs.«01_k».proof.Proof.Gen.FfnActGradRefIdeal.Read
public import proofs.«01_k».proof.Defs
public import proofs.«01_k».proof.Proof.Real
public import Idealize.ShloMosaic.Lib.Pipeline.ValueKit
public import Idealize.ShloMosaic.Lib.Pointwise

@[expose] public section

set_option maxRecDepth 16384

noncomputable section

namespace Cert.Proof.FfnActGrad

open Cert.FfnActGradIdeal Cert.FfnActGradIdeal.Gen Cert.FfnActGradIdeal.Value Idealize.ShloMosaic Idealize.ShloMosaic.TcCoe Idealize.SL.Sem
open Cert.FfnActGradRefIdeal.Read

variable (m : (ℓ : Loc nD τ sig) → Buf (Elt Ideal) ℓ)

/-- The product's operands and the two gates move with the result's block. -/
theorem idx0 : ∀ t : Fin cfg0.N, win0_0.index t = ![win0_4.index t 0, 0] := (by decide +kernel : ∀ t : Fin grid0.N, _)
theorem idx1 : ∀ t : Fin cfg0.N, win0_1.index t = ![win0_4.index t 1, 0] := (by decide +kernel : ∀ t : Fin grid0.N, _)
theorem idx2 : ∀ t : Fin cfg0.N, win0_2.index t = win0_4.index t := (by decide +kernel : ∀ t : Fin grid0.N, _)
theorem idx3 : ∀ t : Fin cfg0.N, win0_3.index t = win0_4.index t := (by decide +kernel : ∀ t : Fin grid0.N, _)
theorem idx5 : ∀ t : Fin cfg0.N, win0_5.index t = win0_4.index t := (by decide +kernel : ∀ t : Fin grid0.N, _)

/-- The precondition: the cotangent, the weight and the up values are real numbers. -/
theorem real_args [Cert.Pre_ffn_finite.Facts] (h : Cert.Pre_FfnActGradIdeal_ffn_finite m) (c : Dev nD) :
    (∀ i, IsReal (m ((c : Thread nD τ).loc main_arg0) i)) ∧ (∀ i, IsReal (m ((c : Thread nD τ).loc main_arg1) i))
      ∧ ∀ i, IsReal (m ((c : Thread nD τ).loc main_arg3) i) := by
  have h := congrFun (h c) ix0
  pointwise [Cert.Pre_ffn_finite.fn] at h
  obtain ⟨h, h3⟩ := andi_one h
  obtain ⟨h0, h1⟩ := andi_one h
  exact ⟨real_of_fold (φ := .bf16) _ h0, real_of_fold (φ := .bf16) _ h1, real_of_fold (φ := .bf16) _ h3⟩

/-- What a point writes is the reference's expression at the block's place. -/
theorem final4 (c : Dev nD) (hr : (∀ i, IsReal (m ((c : Thread nD τ).loc main_arg0) i))
    ∧ (∀ i, IsReal (m ((c : Thread nD τ).loc main_arg1) i)) ∧ ∀ i, IsReal (m ((c : Thread nD τ).loc main_arg3) i)) :
    (dats m 0 c).arrAt 4 cfg0.N
    = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  unfold_payloads
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24]
  blk_simp [iblk]
  rw [V_main_arg0, V_main_arg1, V_main_arg2, V_main_arg3]
  have e0 := idx0 t
  have e1 := idx1 t
  have e2 := idx2 t
  have e3 := idx3 t
  refine silu_grad_congr ?_ ?_ ?_ ?_ ?_
  · (refine Finset.sum_congr (M := EReal) rfl fun k _ => ?_; congr 2 <;> blk_ext [e0, e1])
  · congr 1; blk_ext [e3]
  · congr 1; blk_ext [e2]
  · exact IsReal.sum _ fun k => (hr.1 _).mul (hr.2.1 _)
  · exact hr.2.2 _

/-- What a point writes is the reference's expression at the block's place. -/
theorem final5 (c : Dev nD) : (dats m 0 c).arrAt 5 cfg0.N
    = val_main_v19 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  unfold_payloads
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24]
  blk_simp [iblk]
  rw [V_main_arg0, V_main_arg1, V_main_arg2]
  have e0 := idx0 t
  have e1 := idx1 t
  have e2 := idx2 t
  have e3 := idx3 t
  have e5 := idx5 t
  refine up_grad_congr ?_ ?_
  · (refine Finset.sum_congr (M := EReal) rfl fun k _ => ?_; congr 2 <;> blk_ext [e0, e1, e5])
  · congr 1; blk_ext [e2, e5]

/-- From launches that agree on the arguments, kernel and reference end with the same results. -/
theorem algebraic [Cert.Pre_ffn_finite.Facts] : Cert.algebraic_FfnActGradIdeal_FfnActGradRefIdeal_pre_ffn_finite := fun m g m' g' hp hagree =>
  ⟨fun c => val_main_v24 (F := Ideal) (m ((c : Thread nD τ).loc main_arg0)) (m ((c : Thread nD τ).loc main_arg1)) (m ((c : Thread nD τ).loc main_arg2)) (m ((c : Thread nD τ).loc main_arg3)), fun c => val_main_v19 (F := Ideal) (m ((c : Thread nD τ).loc main_arg0)) (m ((c : Thread nD τ).loc main_arg1)) (m ((c : Thread nD τ).loc main_arg2)), (θ_run defs _ _).mono (fun _ h c => ⟨(h c).1.trans (final4 m c (real_args m hp c)), (h c).2.1.trans (final5 m c), (h c).2.2⟩) (run_blocks m g),
    (θ_run Cert.FfnActGradRefIdeal.defs _ _).mono (fun _ h c => ⟨(h c).1.trans (by rw [(hagree c).1, (hagree c).2.1, (hagree c).2.2.1, (hagree c).2.2.2]; rfl), (h c).2.1.trans (by rw [(hagree c).1, (hagree c).2.1, (hagree c).2.2.1]; rfl), (h c).2.2⟩)
      (Cert.FfnActGradRefIdeal.Value.run m' g')⟩

end Cert.Proof.FfnActGrad

end
-- ==== Proof.MergeGrad.lean ====
/- The gradient through the output projection and the merge gates. -/
module

public import proofs.«01_k».proof.Proof.Gen.MergeGradIdeal.Value
public import proofs.«01_k».proof.Proof.Gen.MergeGradRefIdeal.Read
public import proofs.«01_k».proof.Defs
public import proofs.«01_k».proof.Proof.Real
public import Idealize.ShloMosaic.Lib.Pipeline.ValueKit
public import Idealize.ShloMosaic.Lib.Pointwise

@[expose] public section

set_option maxRecDepth 16384
set_option maxHeartbeats 2000000

noncomputable section

namespace Cert.Proof.MergeGrad

open Cert.MergeGradIdeal Cert.MergeGradIdeal.Gen Cert.MergeGradIdeal.Value Idealize.ShloMosaic Idealize.ShloMosaic.TcCoe Idealize.SL.Sem
open Cert.MergeGradRefIdeal.Read

variable (m : (ℓ : Loc nD τ sig) → Buf (Elt Ideal) ℓ)

/-- Rows and columns of the operands move with the result; the gates lie in the wide array. -/
theorem idx0 : ∀ t : Fin cfg0.N, win0_0.index t = ![win0_6.index t 0, 0] := (by decide +kernel : ∀ t : Fin grid0.N, _)
theorem idx1 : ∀ t : Fin cfg0.N, win0_1.index t = ![win0_6.index t 1, 0] := (by decide +kernel : ∀ t : Fin grid0.N, _)
theorem idx2 : ∀ t : Fin cfg0.N, win0_2.index t = ![win0_6.index t 0, win0_6.index t 1 + 2] := (by decide +kernel : ∀ t : Fin grid0.N, _)
theorem idx3 : ∀ t : Fin cfg0.N, win0_3.index t = ![win0_6.index t 0, win0_6.index t 1 + 3] := (by decide +kernel : ∀ t : Fin grid0.N, _)
theorem idx4 : ∀ t : Fin cfg0.N, win0_4.index t = win0_6.index t := (by decide +kernel : ∀ t : Fin grid0.N, _)
theorem idx5 : ∀ t : Fin cfg0.N, win0_5.index t = win0_6.index t := (by decide +kernel : ∀ t : Fin grid0.N, _)
theorem idx7 : ∀ t : Fin cfg0.N, win0_7.index t = win0_6.index t := (by decide +kernel : ∀ t : Fin grid0.N, _)
theorem idx8 : ∀ t : Fin cfg0.N, win0_8.index t = ![win0_6.index t 0, 1] := (by decide +kernel : ∀ t : Fin grid0.N, _)

/-- What a point writes is the reference's expression at the block's place. -/
theorem final6 (c : Dev nD) : (dats m 0 c).arrAt 6 cfg0.N
    = val_main_v35 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  simp only [outsAt0]
  frame_out
  unfold_payloads
  pointwise [val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_cst_2, val_main_v15, val_main_v16, val_main_cst_3, val_main_v17, val_main_v18, val_main_cst_4, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst_5, val_main_v37, val_main_cst_6, val_main_v38, val_main_v39, val_main_v40]
  blk_simp [iblk]
  rw [V_main_arg0, V_main_arg1]
  have e0 := idx0 t
  have e1 := idx1 t
  have e2 := idx2 t
  have e3 := idx3 t
  have e4 := idx4 t
  have e5 := idx5 t
  have e7 := idx7 t
  have e8 := idx8 t
  refine mul_gate_congr ?_ ?_
  · (refine Finset.sum_congr (M := EReal) rfl fun k _ => ?_; congr 2 <;> blk_ext [e0, e1])
  · unfold X0_2 Pipeline.Window.fill
    rw [dif_pos (moved0_2 t y)]
    blk_simp [iblk]
    rw [V_main_arg2]
    congr 1; blk_ext [e2]

/-- What a point writes is the reference's expression at the block's place. -/
theorem final7 (c : Dev nD) : (dats m 0 c).arrAt 7 cfg0.N
    = val_main_v31 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  simp only [outsAt0]
  frame_out
  unfold_payloads
  pointwise [val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_cst_2, val_main_v15, val_main_v16, val_main_cst_3, val_main_v17, val_main_v18, val_main_cst_4, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst_5, val_main_v37, val_main_cst_6, val_main_v38, val_main_v39, val_main_v40]
  blk_simp [iblk]
  rw [V_main_arg0, V_main_arg1]
  have e0 := idx0 t
  have e1 := idx1 t
  have e2 := idx2 t
  have e3 := idx3 t
  have e4 := idx4 t
  have e5 := idx5 t
  have e7 := idx7 t
  have e8 := idx8 t
  refine mul_gate_congr ?_ ?_
  · (refine Finset.sum_congr (M := EReal) rfl fun k _ => ?_; congr 2 <;> blk_ext [e0, e1, e7])
  · unfold X0_3 Pipeline.Window.fill
    rw [dif_pos (moved0_3 t y)]
    blk_simp [iblk]
    rw [V_main_arg2]
    congr 1; blk_ext [e3, e7]

/-- The reference's gate gradient in the first gate's columns, … -/
theorem ref_gate1 (x0 : (⟨S4096x1024, .bf16⟩ : BufTy).Contents (Elt Ideal)) (x1 : (⟨S1024x1024, .bf16⟩ : BufTy).Contents (Elt Ideal)) (x2 : (⟨S4096x8960, .f32⟩ : BufTy).Contents (Elt Ideal)) (x3 x4 : (⟨S4096x1024, .bf16⟩ : BufTy).Contents (Elt Ideal)) (p : Fin 4096) (j : Fin 1024) (q : ℕ) (h : q < 8960) (hq : q = 2048 + (j : ℕ)) :
    val_main_v40 (F := Ideal) x0 x1 x2 x3 x4 (ix2 p ⟨q, h⟩) = val_main_v36 (F := Ideal) x0 x1 x2 x3 (ix2 p j) := by
  subst hq
  pointwise [val_main_v37, val_main_v38, val_main_v39, val_main_v40, val_main_cst_5, val_main_cst_6]
  rw [dif_neg (fun h => absurd h.1 (by omega))]
  exact zero_add (M := EReal) _

/-- … and in the second gate's. -/
theorem ref_gate2 (x0 : (⟨S4096x1024, .bf16⟩ : BufTy).Contents (Elt Ideal)) (x1 : (⟨S1024x1024, .bf16⟩ : BufTy).Contents (Elt Ideal)) (x2 : (⟨S4096x8960, .f32⟩ : BufTy).Contents (Elt Ideal)) (x3 x4 : (⟨S4096x1024, .bf16⟩ : BufTy).Contents (Elt Ideal)) (p : Fin 4096) (j : Fin 1024) (q : ℕ) (h : q < 8960) (hq : q = 3072 + (j : ℕ)) :
    val_main_v40 (F := Ideal) x0 x1 x2 x3 x4 (ix2 p ⟨q, h⟩) = val_main_v32 (F := Ideal) x0 x1 x2 x4 (ix2 p j) := by
  subst hq
  pointwise [val_main_v37, val_main_v38, val_main_v39, val_main_v40, val_main_cst_5, val_main_cst_6]
  have := j.isLt
  rw [dif_neg (fun h => absurd h.2 (by omega))]
  exact add_zero (M := EReal) _

/-- The gates' block lies at column 2048. -/
theorem emb8 (t : Fin cfg0.N) (y : ((cfg0.win 8).xblock (cfg0.grid.coords t)).Idx) (h : 2048 + (y (1 : Fin 2) : ℕ) < 8960) :
    (win0_8.blk t).view.emb y = ix2 ((win0_8.blk t).view.emb y 0) ⟨2048 + (y (1 : Fin 2) : ℕ), h⟩ := by
  have e8 := idx8 t
  blk_ext [e8]

/-- The operands' blocks, by the wide result's row block. -/
theorem jdx0 : ∀ t : Fin cfg0.N, win0_0.index t = ![win0_8.index t 0, 0] := (by decide +kernel : ∀ t : Fin grid0.N, _)
theorem jdx1 : ∀ t : Fin cfg0.N, win0_1.index t = ![0, 0] := (by decide +kernel : ∀ t : Fin grid0.N, _)
theorem jdx2 : ∀ t : Fin cfg0.N, win0_2.index t = ![win0_8.index t 0, 2] := (by decide +kernel : ∀ t : Fin grid0.N, _)
theorem jdx3 : ∀ t : Fin cfg0.N, win0_3.index t = ![win0_8.index t 0, 3] := (by decide +kernel : ∀ t : Fin grid0.N, _)
theorem jdx4 : ∀ t : Fin cfg0.N, win0_4.index t = ![win0_8.index t 0, 0] := (by decide +kernel : ∀ t : Fin grid0.N, _)
theorem jdx5 : ∀ t : Fin cfg0.N, win0_5.index t = ![win0_8.index t 0, 0] := (by decide +kernel : ∀ t : Fin grid0.N, _)

/-- … the gates' columns hold the gates' gradients, and the other columns what the buffer held at first. -/
theorem final8 (c : Dev nD) (i : S4096x8960.Idx) : (dats m 0 c).arrAt 8 cfg0.N i
    = if (i 1 : ℕ) / 2048 = 1 then val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i else V m c main_v0_2 i := by
  refine (dats m 0 c).arrAt_apply_of_coversWhere 8 _ (P := fun i : S4096x8960.Idx => (i 1 : ℕ) / 2048 = 1) (fun β => β (1 : Fin _) = 1) (by decide +kernel)
          (fun t hf y => ?_) (fun j => Iff.rfl) i
  blk_simp
  rw [after0_8]
  simp only [outsAt0]
  frame_out
  unfold_payloads
  pointwise
  have hy : (y (1 : Fin 2) : ℕ) < 2048 := (y (1 : Fin 2)).isLt
  refine Eq.trans ?_ (congrArg (val_main_v40 (F := Ideal) _ _ _ _ _) (emb8 t y (by omega)).symm)
  by_cases h : (y (1 : Fin 2) : ℕ) < 1024
  · rw [dif_pos h]
    refine Eq.trans ?_ (ref_gate1 _ _ _ _ _ _ ⟨y (1 : Fin 2), h⟩ _ (by omega) rfl).symm
    pointwise [val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_cst_2, val_main_v15, val_main_v16, val_main_cst_3, val_main_v17, val_main_v18, val_main_cst_4, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst_5, val_main_v37, val_main_cst_6, val_main_v38, val_main_v39, val_main_v40]
    blk_simp [iblk]
    have e0 := jdx0 t
    have e1 := jdx1 t
    have e2 := jdx2 t
    have e3 := jdx3 t
    have e4 := jdx4 t
    have e5 := jdx5 t
    have e8 := idx8 t
    refine gate_grad_congr ?_ ?_ ?_
    · (refine Finset.sum_congr (M := EReal) rfl fun k _ => ?_; rw [V_main_arg0, V_main_arg1]; congr 2 <;> blk_ext [e0, e1, e8])
    · rw [V_main_arg3]; congr 1; blk_ext [e4, e8]
    · unfold X0_2 Pipeline.Window.fill
      rw [dif_pos (moved0_2 t _)]
      blk_simp [iblk]
      rw [V_main_arg2]
      congr 1; blk_ext [e2, e8]
  · rw [dif_neg h]
    refine Eq.trans ?_ (ref_gate2 _ _ _ _ _ _ ⟨(y (1 : Fin 2) : ℕ) - 1024, by omega⟩ _ (by omega) (show 2048 + (y (1 : Fin 2) : ℕ) = 3072 + ((y (1 : Fin 2) : ℕ) - 1024) by omega)).symm
    pointwise [val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_cst_2, val_main_v15, val_main_v16, val_main_cst_3, val_main_v17, val_main_v18, val_main_cst_4, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst_5, val_main_v37, val_main_cst_6, val_main_v38, val_main_v39, val_main_v40]
    blk_simp [iblk]
    have e0 := jdx0 t
    have e1 := jdx1 t
    have e2 := jdx2 t
    have e3 := jdx3 t
    have e4 := jdx4 t
    have e5 := jdx5 t
    have e8 := idx8 t
    refine gate_grad_congr ?_ ?_ ?_
    · (refine Finset.sum_congr (M := EReal) rfl fun k _ => ?_; rw [V_main_arg0, V_main_arg1]; congr 2 <;> blk_ext [e0, e1, e8])
    · rw [V_main_arg4]; congr 1; blk_ext [e5, e8]
    · unfold X0_3 Pipeline.Window.fill
      rw [dif_pos (moved0_3 t _)]
      blk_simp [iblk]
      rw [V_main_arg2]
      congr 1; blk_ext [e3, e8]

/-- A column number whose word lies between 2048 and 4095 is in block 1 of 2048. -/
theorem col_range (n : ℕ) (hn : n < 8960) (h : IntOp.andi (IntOp.cmpi CmpIPredicate.sge (BitVec.ofNat 32 n) 2048#32)
      (IntOp.cmpi CmpIPredicate.slt (BitVec.ofNat 32 n) 4096#32) = 1#1) : n / 2048 = 1 := by
  obtain ⟨h1, h2⟩ := andi_one h
  simp only [IntOp.cmpi, BitVec.sle, BitVec.slt] at h1 h2
  have hI : (BitVec.ofNat 32 n).toInt = n := by
    rw [BitVec.toInt_eq_toNat_cond]; simp; omega
  rw [hI] at h1 h2
  have hb : ∀ {b : Bool}, BitVec.ofBool b = 1#1 → b = true := by decide
  have k1 := of_decide_eq_true (hb h1)
  have k2 := of_decide_eq_true (hb h2)
  simp at k1 k2
  omega

/-- The mask of the third result is one at the gates' columns only. -/
theorem on_cols [Cert.On_gate_columns.Facts] (a0 : (⟨S4096x1024, .bf16⟩ : BufTy).Contents (Elt Ideal)) (a1 : (⟨S1024x1024, .bf16⟩ : BufTy).Contents (Elt Ideal)) (a2 : (⟨S4096x8960, .f32⟩ : BufTy).Contents (Elt Ideal)) (a3 a4 : (⟨S4096x1024, .bf16⟩ : BufTy).Contents (Elt Ideal))
    (i : (⟨2, ![4096, 8960]⟩ : Shape).Idx) (h : (Cert.On_gate_columns.fn (F := Ideal) a0 a1 a2 a3 a4).2.2 i = 1#1) : (i 1 : ℕ) / 2048 = 1 := by
  pointwise [Cert.On_gate_columns.fn] at h
  exact col_range _ (i 1).isLt h

/-- From launches that agree on the arguments, kernel and reference end with the same results, the third's on the gates' columns. -/
theorem algebraic [Cert.On_gate_columns.Facts] : Cert.algebraic_MergeGradIdeal_MergeGradRefIdeal_on_gate_columns := fun m g m' g' _ hagree =>
  ⟨fun c => val_main_v35 (F := Ideal) (m ((c : Thread nD τ).loc main_arg0)) (m ((c : Thread nD τ).loc main_arg1)) (m ((c : Thread nD τ).loc main_arg2)), fun c => val_main_v31 (F := Ideal) (m ((c : Thread nD τ).loc main_arg0)) (m ((c : Thread nD τ).loc main_arg1)) (m ((c : Thread nD τ).loc main_arg2)),
    fun c => val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    (θ_run defs _ _).mono (fun _ h c => ⟨fun i _ => congrFun ((h c).1.trans (final6 m c)) i, fun i _ => congrFun ((h c).2.1.trans (final7 m c)) i,
      fun i hi => (congrFun (h c).2.2.1 i).trans ((final8 m c i).trans (if_pos (on_cols _ _ _ _ _ i hi))), (h c).2.2.2⟩) (run_blocks m g),
    (θ_run Cert.MergeGradRefIdeal.defs _ _).mono (fun _ h c => ⟨fun i _ => congrFun ((h c).1.trans (by rw [(hagree c).1, (hagree c).2.1, (hagree c).2.2.1]; rfl)) i,
      fun i _ => congrFun ((h c).2.1.trans (by rw [(hagree c).1, (hagree c).2.1, (hagree c).2.2.1]; rfl)) i,
      fun i _ => congrFun ((h c).2.2.1.trans (by rw [(hagree c).1, (hagree c).2.1, (hagree c).2.2.1, (hagree c).2.2.2.1, (hagree c).2.2.2.2]; rfl)) i,
      (h c).2.2.2⟩) (Cert.MergeGradRefIdeal.Value.run m' g')⟩

end Cert.Proof.MergeGrad

end
-- ==== Proof.Norm.lean ====
/- RMSNorm's gradient over the extended reals: the kernel's form, with the normalised row and one mean, is the chain rule's,
   with the derivative of the inverse root; for rows that are real numbers. -/
module

public import proofs.«01_k».proof.Proof.Real

@[expose] public section

noncomputable section

namespace Cert.Proof

open Idealize.ShloMosaic

theorem bits_1024 : Ideal.ofBits FTy.f32 1149239296#32 = ((1024 : ℝ) : EReal) := by
  simp [Ideal.ofBits, Ideal.ieee]; norm_num; rw [← EReal.coe_mul]; congr 1; norm_num
theorem bits_mhalf : Ideal.ofBits FTy.f32 3204448256#32 = ((-(1 / 2) : ℝ) : EReal) := by
  simp [Ideal.ofBits, Ideal.ieee]; norm_num; rw [← EReal.coe_mul]; congr 1; norm_num
theorem bits_eps : ∃ e : ℝ, 0 < e ∧ Ideal.ofBits FTy.f32 897988541#32 = (e : EReal) := by
  refine ⟨8796093 / 2 ^ 43, by positivity, ?_⟩
  simp [Ideal.ofBits, Ideal.ieee]; norm_num; rw [← EReal.coe_mul]; congr 1; norm_num

/-- The product, of values whose type is the extended reals' only by unfolding. -/
abbrev mulE (a b : EReal) : EReal := a * b

/-- A row's mean square, the small constant added. -/
def meanSq {n : Nat} (X : Fin n → EReal) : EReal :=
  Ideal.div (∑ k, X k * X k) (Ideal.ofBits FTy.f32 1149239296#32) + Ideal.ofBits FTy.f32 897988541#32

theorem div_1024 (x : EReal) : Ideal.div x ((1024 : ℝ) : EReal) = x * (((1 : ℝ) / 1024 : ℝ) : EReal) :=
  Ideal.div_coe (by norm_num) x

theorem coe_sum {n : Nat} (f : Fin n → ℝ) : (∑ k, ((f k : ℝ) : EReal)) = ((∑ k, f k : ℝ) : EReal) := by
  induction n with
  | zero => simp
  | succ n ih => rw [Fin.sum_univ_succ, Fin.sum_univ_succ, ih, EReal.coe_add]

/-- Of a row of real numbers it is a positive real number. -/
theorem meanSq_pos {n : Nat} (x : Fin n → ℝ) : ∃ v : ℝ, 0 < v ∧ meanSq (fun k => (x k : EReal)) = (v : EReal) := by
  obtain ⟨e, he, hb⟩ := bits_eps
  refine ⟨(∑ k, x k * x k) * (1 / 1024) + e, ?_, ?_⟩
  · have : 0 ≤ ∑ k, x k * x k := Finset.sum_nonneg fun k _ => mul_self_nonneg _
    positivity
  · unfold meanSq
    rw [hb, bits_1024, div_1024]
    simp only [← EReal.coe_mul, coe_sum, ← EReal.coe_add]

/-- An extended real's inverse root, of a positive real number. -/
theorem rsqrt_pos {v : ℝ} (h : 0 < v) : Ideal.rsqrt (v : EReal) = (((Real.sqrt v)⁻¹ : ℝ) : EReal) := by
  rw [Ideal.rsqrt_coe, if_neg (by linarith), if_neg (by linarith)]

theorem norm_grad_real {n : Nat} (X D : Fin n → EReal) (hX : ∀ k, IsReal (X k)) (hD : ∀ k, IsReal (D k))
    {x d : EReal} (hx : IsReal x) (hd : IsReal d) :
    Ideal.rsqrt (meanSq X) * (d - x * Ideal.rsqrt (meanSq X)
        * Ideal.div (∑ k, D k * (X k * Ideal.rsqrt (meanSq X))) (Ideal.ofBits FTy.f32 1149239296#32))
      = d * Ideal.rsqrt (meanSq X)
        + x * Ideal.div ((∑ k, X k * D k) * (Ideal.ofBits FTy.f32 3204448256#32
            * Ideal.div (Ideal.rsqrt (meanSq X)) (meanSq X))) (Ideal.ofBits FTy.f32 1149239296#32)
        + Ideal.div ((∑ k, X k * D k) * (Ideal.ofBits FTy.f32 3204448256#32
            * Ideal.div (Ideal.rsqrt (meanSq X)) (meanSq X))) (Ideal.ofBits FTy.f32 1149239296#32) * x := by
  choose X' hX' using hX
  choose D' hD' using hD
  obtain ⟨x, rfl⟩ := hx
  obtain ⟨d, rfl⟩ := hd
  obtain rfl : X = fun k => (X' k : EReal) := funext hX'
  obtain rfl : D = fun k => (D' k : EReal) := funext hD'
  obtain ⟨v, hv, e⟩ := meanSq_pos X'
  rw [e, rsqrt_pos hv, bits_1024, bits_mhalf, Ideal.div_coe hv.ne']
  simp only [div_1024, ← EReal.coe_mul, coe_sum, ← EReal.coe_add, ← EReal.coe_sub]
  congr 1
  have hs : Real.sqrt v ≠ 0 := (Real.sqrt_pos.2 hv).ne'
  have hr : (1 / v : ℝ) = (Real.sqrt v)⁻¹ * (Real.sqrt v)⁻¹ := by
    rw [← mul_inv, Real.mul_self_sqrt hv.le, one_div]
  rw [hr]
  generalize (Real.sqrt v)⁻¹ = r
  have h1 : (∑ k, D' k * (X' k * r)) = (∑ k, X' k * D' k) * r := by
    rw [Finset.sum_mul]; exact Finset.sum_congr rfl fun k _ => by ring
  rw [h1]
  ring

/-- The gradient of the input in the two forms, of equal rows, elements and residual gradients. -/
theorem norm_grad_congr {n : Nat} {X X' D D' : Fin n → EReal} {x x' d d' e e' : EReal} (hX : X = X') (hD : D = D')
    (hx : x = x') (hd : d = d') (he : e = e') (rX : ∀ k, IsReal (X' k)) (rD : ∀ k, IsReal (D' k)) (rx : IsReal x') (rd : IsReal d') :
    Ideal.rsqrt (meanSq X) * (d - x * Ideal.rsqrt (meanSq X)
        * Ideal.div (∑ k, D k * (X k * Ideal.rsqrt (meanSq X))) (Ideal.ofBits FTy.f32 1149239296#32)) + e
      = d' * Ideal.rsqrt (meanSq X')
        + x' * (∑ _ : Fin 1, Ideal.div ((∑ k, X' k * D' k) * (Ideal.ofBits FTy.f32 3204448256#32
            * Ideal.div (Ideal.rsqrt (meanSq X')) (meanSq X'))) (Ideal.ofBits FTy.f32 1149239296#32))
        + (∑ _ : Fin 1, Ideal.div ((∑ k, X' k * D' k) * (Ideal.ofBits FTy.f32 3204448256#32
            * Ideal.div (Ideal.rsqrt (meanSq X')) (meanSq X'))) (Ideal.ofBits FTy.f32 1149239296#32)) * x' + e' := by
  subst hX hD hx hd he
  rw [Fin.sum_univ_one, norm_grad_real X D rX rD rx rd]

/-- The normalised and scaled element, of equal rows. -/
theorem norm_congr {n : Nat} {X X' : Fin n → EReal} {x x' w w' : EReal} (hX : X = X') (hx : x = x') (hw : w = w') :
    x * Ideal.rsqrt (meanSq X) * w = x' * Ideal.rsqrt (meanSq X') * w' := by
  subst hX hx hw; rfl

/-- A token's share of the weights' gradient, of equal rows. -/
theorem norm_dw_congr {n : Nat} {X X' : Fin n → EReal} {x x' h h' : EReal} (hX : X = X') (hx : x = x') (hh : h = h') :
    h * (x * Ideal.rsqrt (meanSq X)) = x' * Ideal.rsqrt (meanSq X') * h' := by
  subst hX hx hh; exact mul_comm _ _

end Cert.Proof

end
-- ==== Proof.NormGrad.lean ====
/- The gradient of RMSNorm, the residual's added: of the input, and of the weights summed over the tokens. -/
module

public import proofs.«01_k».proof.Proof.Gen.NormGradIdeal.Value
public import proofs.«01_k».proof.Proof.Gen.NormGradRefIdeal.Read
public import proofs.«01_k».proof.Defs
public import proofs.«01_k».proof.Proof.Real
public import proofs.«01_k».proof.Proof.Norm
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.NormGrad

open Cert.NormGradIdeal Cert.NormGradIdeal.Gen Cert.NormGradIdeal.Value Idealize.ShloMosaic Idealize.ShloMosaic.TcCoe Idealize.SL.Sem
open Cert.NormGradRefIdeal.Read

variable (m : (ℓ : Loc nD τ sig) → Buf (Elt Ideal) ℓ)

/-- The rows move with the result's; the weights are read whole. -/
theorem idx0 : ∀ t : Fin cfg0.N, win0_0.index t = win0_4.index t := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = win0_4.index t := (by decide +kernel : ∀ t : Fin grid0.N, _)
theorem idx3 : ∀ t : Fin cfg0.N, win0_3.index t = win0_4.index t := (by decide +kernel : ∀ t : Fin grid0.N, _)
theorem idx5 : ∀ t : Fin cfg0.N, win0_5.index t = win0_4.index t := (by decide +kernel : ∀ t : Fin grid0.N, _)
theorem idx6 : ∀ t : Fin cfg0.N, win0_6.index t = ![0, 0] := (by decide +kernel : ∀ t : Fin grid0.N, _)
theorem col4 : ∀ t : Fin cfg0.N, win0_4.index t 1 = 0 := (by decide +kernel : ∀ t : Fin grid0.N, _)
theorem row4 : ∀ t : Fin cfg0.N, win0_4.index t 0 = t.val := (by decide +kernel : ∀ t : Fin grid0.N, _)

/-- The weights as the kernel's row holds them. -/
theorem row_w (c : Dev nD) (j : S1x1024.Idx) : V m c main_v0 j = m ((c : Thread nD τ).loc main_arg1) (ix1 (j 1)) := by
  entry_read
  pointwise

/-- The precondition: the rows, the weights and the cotangent are real numbers. -/
theorem real_args [Cert.Pre_norm_finite.Facts] (h : Cert.Pre_NormGradIdeal_norm_finite m) (c : Dev nD) :
    (∀ i, IsReal (m ((c : Thread nD τ).loc main_arg0) i)) ∧ (∀ i, IsReal (m ((c : Thread nD τ).loc main_arg1) i))
      ∧ ∀ i, IsReal (m ((c : Thread nD τ).loc main_arg2) i) := by
  have h := congrFun (h c) ix0
  pointwise [Cert.Pre_norm_finite.fn] at h
  obtain ⟨h, h3⟩ := andi_one h
  obtain ⟨h0, h1⟩ := andi_one h
  exact ⟨real_of_fold (φ := .f32) _ h0, real_of_fold1 (φ := .f32) _ h1, real_of_fold (φ := .f32) _ h3⟩

set_option maxHeartbeats 600000 in
/-- The input's gradient. -/
theorem final4 (c : Dev nD) (hr : (∀ i, IsReal (m ((c : Thread nD τ).loc main_arg0) i)) ∧ (∀ i, IsReal (m ((c : Thread nD τ).loc main_arg1) i))
      ∧ ∀ i, IsReal (m ((c : Thread nD τ).loc main_arg2) i)) : (dats m 0 c).arrAt 4 cfg0.N
    = val_main_v36 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have e0 := idx0 t
  have e1 := idx1 t
  have e2 := idx2 t
  have e3 := idx3 t
  have e5 := idx5 t
  have c4 := col4 t
  blk_simp
  rw [after0_4]
  by_cases h0 : t.val % 8 = 0
  · rw [outsAt0_A m c t h0]
    frame_out
    unfold_payloads
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_cst, val_main_cst_0, val_main_cst_1, val_main_cst_2, val_main_cst_3, val_main_cst_4, val_main_cst_5, val_main_cst_6, val_main_cst_7]
    blk_simp [iblk]
    rw [V_main_arg0, V_main_arg2, V_main_arg3, show V m c main_v0 = fun j => m ((c : Thread nD τ).loc main_arg1) (ix1 (j 1)) from funext (row_w m c)]
    refine norm_grad_congr (X := fun k => m ((c : Thread nD τ).loc main_arg0) ((win0_0.blk t).view.emb (ix2 (y 0) k))) (X' := fun k => m ((c : Thread nD τ).loc main_arg0) (ix2 ((win0_4.blk t).view.emb y 0) k))
      (D := fun k => mulE (m ((c : Thread nD τ).loc main_arg2) ((win0_2.blk t).view.emb (ix2 (y 0) k))) (m ((c : Thread nD τ).loc main_arg1) (ix1 ((win0_1.blk t).view.emb (ix2 0 k) 1))))
      (D' := fun k => mulE (m ((c : Thread nD τ).loc main_arg2) (ix2 ((win0_4.blk t).view.emb y 0) k)) (m ((c : Thread nD τ).loc main_arg1) (ix1 k)))
      (funext fun k => ?_) (funext fun k => ?_) ?_ ?_ ?_ (fun k => hr.1 _) (fun k => (hr.2.2 _).mul (hr.2.1 _)) (hr.1 _) ((hr.2.2 _).mul (hr.2.1 _))
    · congr 1; blk_ext [e0, c4, e5]
    · congr 2 <;> blk_ext [e1, e2, c4, e5]
    · congr 1; blk_ext [e0, e5]
    · congr 2 <;> blk_ext [e1, e2, c4, e5]
    · congr 1; blk_ext [e3, e5]
  · rw [outsAt0_B m c t h0]
    frame_out
    unfold_payloads
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_cst, val_main_cst_0, val_main_cst_1, val_main_cst_2, val_main_cst_3, val_main_cst_4, val_main_cst_5, val_main_cst_6, val_main_cst_7]
    blk_simp [iblk]
    rw [V_main_arg0, V_main_arg2, V_main_arg3, show V m c main_v0 = fun j => m ((c : Thread nD τ).loc main_arg1) (ix1 (j 1)) from funext (row_w m c)]
    refine norm_grad_congr (X := fun k => m ((c : Thread nD τ).loc main_arg0) ((win0_0.blk t).view.emb (ix2 (y 0) k))) (X' := fun k => m ((c : Thread nD τ).loc main_arg0) (ix2 ((win0_4.blk t).view.emb y 0) k))
      (D := fun k => mulE (m ((c : Thread nD τ).loc main_arg2) ((win0_2.blk t).view.emb (ix2 (y 0) k))) (m ((c : Thread nD τ).loc main_arg1) (ix1 ((win0_1.blk t).view.emb (ix2 0 k) 1))))
      (D' := fun k => mulE (m ((c : Thread nD τ).loc main_arg2) (ix2 ((win0_4.blk t).view.emb y 0) k)) (m ((c : Thread nD τ).loc main_arg1) (ix1 k)))
      (funext fun k => ?_) (funext fun k => ?_) ?_ ?_ ?_ (fun k => hr.1 _) (fun k => (hr.2.2 _).mul (hr.2.1 _)) (hr.1 _) ((hr.2.2 _).mul (hr.2.1 _))
    · congr 1; blk_ext [e0, c4, e5]
    · congr 2 <;> blk_ext [e1, e2, c4, e5]
    · congr 1; blk_ext [e0, e5]
    · congr 2 <;> blk_ext [e1, e2, c4, e5]
    · congr 1; blk_ext [e3, e5]

set_option maxHeartbeats 600000 in
/-- … and its rounding. -/
theorem final5 (c : Dev nD) (hr : (∀ i, IsReal (m ((c : Thread nD τ).loc main_arg0) i)) ∧ (∀ i, IsReal (m ((c : Thread nD τ).loc main_arg1) i))
      ∧ ∀ i, IsReal (m ((c : Thread nD τ).loc main_arg2) i)) : (dats m 0 c).arrAt 5 cfg0.N
    = val_main_v37 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have e0 := idx0 t
  have e1 := idx1 t
  have e2 := idx2 t
  have e3 := idx3 t
  have e5 := idx5 t
  have c4 := col4 t
  blk_simp
  rw [after0_5]
  by_cases h0 : t.val % 8 = 0
  · rw [outsAt0_A m c t h0]
    frame_out
    unfold_payloads
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_cst, val_main_cst_0, val_main_cst_1, val_main_cst_2, val_main_cst_3, val_main_cst_4, val_main_cst_5, val_main_cst_6, val_main_cst_7]
    blk_simp [iblk]
    rw [V_main_arg0, V_main_arg2, V_main_arg3, show V m c main_v0 = fun j => m ((c : Thread nD τ).loc main_arg1) (ix1 (j 1)) from funext (row_w m c)]
    refine norm_grad_congr (X := fun k => m ((c : Thread nD τ).loc main_arg0) ((win0_0.blk t).view.emb (ix2 (y 0) k))) (X' := fun k => m ((c : Thread nD τ).loc main_arg0) (ix2 ((win0_5.blk t).view.emb y 0) k))
      (D := fun k => mulE (m ((c : Thread nD τ).loc main_arg2) ((win0_2.blk t).view.emb (ix2 (y 0) k))) (m ((c : Thread nD τ).loc main_arg1) (ix1 ((win0_1.blk t).view.emb (ix2 0 k) 1))))
      (D' := fun k => mulE (m ((c : Thread nD τ).loc main_arg2) (ix2 ((win0_5.blk t).view.emb y 0) k)) (m ((c : Thread nD τ).loc main_arg1) (ix1 k)))
      (funext fun k => ?_) (funext fun k => ?_) ?_ ?_ ?_ (fun k => hr.1 _) (fun k => (hr.2.2 _).mul (hr.2.1 _)) (hr.1 _) ((hr.2.2 _).mul (hr.2.1 _))
    · congr 1; blk_ext [e0, c4, e5]
    · congr 2 <;> blk_ext [e1, e2, c4, e5]
    · congr 1; blk_ext [e0, e5]
    · congr 2 <;> blk_ext [e1, e2, c4, e5]
    · congr 1; blk_ext [e3, e5]
  · rw [outsAt0_B m c t h0]
    frame_out
    unfold_payloads
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_cst, val_main_cst_0, val_main_cst_1, val_main_cst_2, val_main_cst_3, val_main_cst_4, val_main_cst_5, val_main_cst_6, val_main_cst_7]
    blk_simp [iblk]
    rw [V_main_arg0, V_main_arg2, V_main_arg3, show V m c main_v0 = fun j => m ((c : Thread nD τ).loc main_arg1) (ix1 (j 1)) from funext (row_w m c)]
    refine norm_grad_congr (X := fun k => m ((c : Thread nD τ).loc main_arg0) ((win0_0.blk t).view.emb (ix2 (y 0) k))) (X' := fun k => m ((c : Thread nD τ).loc main_arg0) (ix2 ((win0_5.blk t).view.emb y 0) k))
      (D := fun k => mulE (m ((c : Thread nD τ).loc main_arg2) ((win0_2.blk t).view.emb (ix2 (y 0) k))) (m ((c : Thread nD τ).loc main_arg1) (ix1 ((win0_1.blk t).view.emb (ix2 0 k) 1))))
      (D' := fun k => mulE (m ((c : Thread nD τ).loc main_arg2) (ix2 ((win0_5.blk t).view.emb y 0) k)) (m ((c : Thread nD τ).loc main_arg1) (ix1 k)))
      (funext fun k => ?_) (funext fun k => ?_) ?_ ?_ ?_ (fun k => hr.1 _) (fun k => (hr.2.2 _).mul (hr.2.1 _)) (hr.1 _) ((hr.2.2 _).mul (hr.2.1 _))
    · congr 1; blk_ext [e0, c4, e5]
    · congr 2 <;> blk_ext [e1, e2, c4, e5]
    · congr 1; blk_ext [e0, e5]
    · congr 2 <;> blk_ext [e1, e2, c4, e5]
    · congr 1; blk_ext [e3, e5]

/-- What a point adds to the weights' gradient: the sum over its tokens. -/
def part (c : Dev nD) (t : Fin cfg0.N) : S1x1024.Idx → EReal := fun j =>
  ∑ k : Fin 512, mulE (m ((c : Thread nD τ).loc main_arg2) ((win0_2.blk t).view.emb (ix2 k (j 1))))
    (mulE (m ((c : Thread nD τ).loc main_arg0) ((win0_0.blk t).view.emb (ix2 k (j 1))))
      (Ideal.rsqrt (meanSq fun x : Fin 1024 => m ((c : Thread nD τ).loc main_arg0) ((win0_0.blk t).view.emb (ix2 k x)))))

/-- After the last point the accumulator holds the sum of what the 8 points add. -/
theorem acc (c : Dev nD) (t : Fin cfg0.N) (hr : t.val % 8 = 8 - 1) (i : S1x1024.Idx) :
    (outsAt0 m c t.val t.isLt).2.2 i
      = ∑ s : Fin 8, part m c ⟨8 * (t.val / 8) + s.val, Pipeline.run_point_lt_of_flush t hr s⟩ i :=
  (Pipeline.eq_sum_fin_of_reset_step_apply_of_flush (M := EReal) (fun n h => (outsAt0 m c n h).2.2) 8 (fun _ => 0) (part m c)
      (fun t h j => by
        rw [outsAt0_A m c t h]
        frame_out
        unfold part
        unfold_payloads
        pointwise
        blk_simp [iblk]
        simp only [V_main_arg0, V_main_arg2]
        rfl)
      (fun t h j => by
        rw [outsAt0_B m c t h]
        frame_out
        unfold part
        unfold_payloads
        pointwise
        blk_simp [iblk]
        simp only [V_main_arg0, V_main_arg2]
        rfl) t hr i).trans (zero_add (M := EReal) _)

/-- The weights' gradient: one sum over all tokens. -/
theorem final6 (c : Dev nD) : (dats m 0 c).arrAt 6 cfg0.N
    = val_main_v38 (F := Ideal) (m ((c : Thread nD τ).loc main_arg0)) (m ((c : Thread nD τ).loc main_arg2)) := by
  refine (dats m 0 c).arrAt_eq_of_covers 6 _ (by decide +kernel) fun t hf y => ?_
  have hr := (flush0_6 t).mp hf
  blk_simp
  rw [after0_6, acc m c t hr]
  unfold part
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_cst, val_main_cst_0, val_main_cst_1, val_main_cst_2, val_main_cst_3, val_main_cst_4, val_main_cst_5, val_main_cst_6, val_main_cst_7]
  refine Eq.trans ?_ (Fin.sum_univ_one (M := EReal) _).symm
  refine Fin.sum_mul_add_congr fun s k hl => ?_
  have hs := s.isLt
  have h8 : t.val < 8 := t.isLt
  have e0 := idx0 ⟨8 * (t.val / 8) + s.val, Pipeline.run_point_lt_of_flush t hr s⟩
  have e2 := idx2 ⟨8 * (t.val / 8) + s.val, Pipeline.run_point_lt_of_flush t hr s⟩
  have c4 := col4 ⟨8 * (t.val / 8) + s.val, Pipeline.run_point_lt_of_flush t hr s⟩
  have r4 : win0_4.index ⟨8 * (t.val / 8) + s.val, Pipeline.run_point_lt_of_flush t hr s⟩ 0 = s.val :=
    (row4 ⟨8 * (t.val / 8) + s.val, Pipeline.run_point_lt_of_flush t hr s⟩).trans (by show 8 * (t.val / 8) + s.val = s.val; omega)
  have e6 := idx6 t
  refine norm_dw_congr (X := fun k' => m ((c : Thread nD τ).loc main_arg0) (((View.whole main_arg0).slice (win0_0.rect ⟨8 * (t.val / 8) + s.val, Pipeline.run_point_lt_of_flush t hr s⟩)).emb (ix2 k k'))) (funext fun k' => ?_) ?_ ?_
  · congr 1; blk_ext [e0, c4, r4, e6]
  · congr 1; blk_ext [e0, c4, r4, e6]
  · congr 1; blk_ext [e2, c4, r4, e6]

/-- From launches that agree on the arguments, kernel and reference end with the same results. -/
theorem algebraic [Cert.Pre_norm_finite.Facts] : Cert.algebraic_NormGradIdeal_NormGradRefIdeal_pre_norm_finite := fun m g m' g' hp hagree =>
  ⟨fun c => val_main_v36 (F := Ideal) (m ((c : Thread nD τ).loc main_arg0)) (m ((c : Thread nD τ).loc main_arg1)) (m ((c : Thread nD τ).loc main_arg2)) (m ((c : Thread nD τ).loc main_arg3)), fun c => val_main_v37 (F := Ideal) (m ((c : Thread nD τ).loc main_arg0)) (m ((c : Thread nD τ).loc main_arg1)) (m ((c : Thread nD τ).loc main_arg2)) (m ((c : Thread nD τ).loc main_arg3)),
    fun c => val_main_v38 (F := Ideal) (m ((c : Thread nD τ).loc main_arg0)) (m ((c : Thread nD τ).loc main_arg2)),
    (θ_run defs _ _).mono (fun _ h c => ⟨(h c).1.trans (final4 m c (real_args m hp c)), (h c).2.1.trans (final5 m c (real_args m hp c)), (h c).2.2.1.trans (final6 m c), (h c).2.2.2⟩) (run_blocks m g),
    (θ_run Cert.NormGradRefIdeal.defs _ _).mono (fun _ h c => ⟨(h c).1.trans (by rw [(hagree c).1, (hagree c).2.1, (hagree c).2.2.1, (hagree c).2.2.2]; rfl),
        (h c).2.1.trans (by rw [(hagree c).1, (hagree c).2.1, (hagree c).2.2.1, (hagree c).2.2.2]; rfl),
        (h c).2.2.1.trans (by rw [(hagree c).1, (hagree c).2.2.1]; rfl), (h c).2.2.2⟩)
      (Cert.NormGradRefIdeal.Value.run m' g')⟩

end Cert.Proof.NormGrad

end
-- ==== Proof.Conv.lean ====
/- A causal convolution's gradients over the extended reals. The kernel reads the rows after a row by a rotation, and takes
   back what the rotation brings round to the last rows; the chain rule pads with zeros. -/
module

public import proofs.«01_k».proof.Proof.Norm

@[expose] public section

noncomputable section

namespace Cert.Proof

open Idealize.ShloMosaic

/-- A function of rows that are real numbers, on all natural numbers. -/
theorem exists_nat {n : Nat} (D : Fin n → EReal) (h : ∀ i, IsReal (D i)) : ∃ d : ℕ → ℝ, ∀ i : Fin n, D i = (d i : EReal) := by
  choose d hd using h
  exact ⟨fun i => if h : i < n then d ⟨i, h⟩ else 0, fun i => by simp only [dif_pos i.isLt]; exact hd i⟩

/-- The weights' gradient at a distance of `s` rows: the rotated product's sum, less its last `s` rows', is the sum over
    the rows that have a row `s` after. -/
theorem conv_dw (s n : ℕ) (hn : s + n = 4096) (hs : s ≤ 16) (D U : Fin 4096 → EReal) (hD : ∀ i, IsReal (D i)) (hU : ∀ i, IsReal (U i)) :
    (∑ i : Fin 4096, D ⟨(i + s) % 4096, Nat.mod_lt _ (by norm_num)⟩ * U i)
        - (∑ r : Fin 16, if 16 ≤ (r : ℕ) + s then D ⟨(4080 + r + s) % 4096, Nat.mod_lt _ (by norm_num)⟩ * U ⟨4080 + r, by omega⟩ else 0)
      = ∑ j : Fin n, D ⟨s + j, by omega⟩ * U ⟨j, by omega⟩ := by
  obtain ⟨d, hd⟩ := exists_nat D hD
  obtain ⟨u, hu⟩ := exists_nat U hU
  have e1 : (∑ i : Fin 4096, D ⟨(i + s) % 4096, Nat.mod_lt _ (by norm_num)⟩ * U i)
      = ((∑ i ∈ Finset.range 4096, d ((i + s) % 4096) * u i : ℝ) : EReal) := by
    rw [Finset.sum_range, ← coe_sum]
    exact Finset.sum_congr rfl fun i _ => by rw [hd, hu, EReal.coe_mul]
  have e2 : (∑ r : Fin 16, if 16 ≤ (r : ℕ) + s then D ⟨(4080 + r + s) % 4096, Nat.mod_lt _ (by norm_num)⟩ * U ⟨4080 + r, by omega⟩ else 0)
      = ((∑ r ∈ Finset.range 16, (if 16 ≤ r + s then d ((4080 + r + s) % 4096) * u (4080 + r) else 0) : ℝ) : EReal) := by
    rw [Finset.sum_range, ← coe_sum]
    refine Finset.sum_congr rfl fun r _ => ?_
    split
    · rw [hd, hu, EReal.coe_mul]
    · rw [EReal.coe_zero]
  have e3 : (∑ j : Fin n, D ⟨s + j, by omega⟩ * U ⟨j, by omega⟩) = ((∑ i ∈ Finset.range n, d (i + s) * u i : ℝ) : EReal) := by
    rw [Finset.sum_range, ← coe_sum]
    exact Finset.sum_congr rfl fun j _ => by rw [hd, hu, EReal.coe_mul]; simp only [add_comm]
  rw [e1, e2, e3, ← EReal.coe_sub]
  congr 1
  have r1 : (∑ i ∈ Finset.range 4096, d ((i + s) % 4096) * u i)
      = (∑ i ∈ Finset.range (4096 - s), d (i + s) * u i)
        + ∑ k ∈ Finset.range s, d ((4096 - s + k + s) % 4096) * u (4096 - s + k) := by
    rw [show Finset.range 4096 = Finset.range (4096 - s + s) from congrArg _ (by omega), Finset.sum_range_add]
    congr 1
    refine Finset.sum_congr rfl fun i hi => ?_
    rw [Finset.mem_range] at hi
    rw [Nat.mod_eq_of_lt (by omega)]
  have r2 : (∑ r ∈ Finset.range 16, (if 16 ≤ r + s then d ((4080 + r + s) % 4096) * u (4080 + r) else 0))
      = ∑ k ∈ Finset.range s, d ((4096 - s + k + s) % 4096) * u (4096 - s + k) := by
    rw [show Finset.range 16 = Finset.range (16 - s + s) from congrArg _ (by omega), Finset.sum_range_add,
      Finset.sum_eq_zero (s := Finset.range (16 - s)) fun r hr => if_neg (by rw [Finset.mem_range] at hr; omega), zero_add]
    refine Finset.sum_congr rfl fun k hk => ?_
    rw [if_pos (by omega)]
    rw [show 4080 + (16 - s + k) = 4096 - s + k by omega]
  obtain rfl : n = 4096 - s := by omega
  rw [r1, r2, add_sub_cancel_right]

/-- A gated value's derivative is a real number. -/
theorem silu_der_real (g : EReal) : IsReal (sigm g * (1 + g * (1 - sigm g))) := by
  have h1 : (1 : EReal) - 1 = 0 := by rw [← EReal.coe_one, ← EReal.coe_sub, sub_self, EReal.coe_zero]
  induction g with
  | bot => exact ⟨0, by simp [sigm_bot]⟩
  | top => exact ⟨1, by simp [sigm_top, h1]⟩
  | coe g => rw [sigm_coe]; norm_cast; exact ⟨_, rfl⟩

/-- The gradient before SiLU: a real number, the cotangent's being one. -/
theorem dpre_real {c : EReal} (hc : IsReal c) (g : EReal) :
    IsReal (c * Ideal.div 1 (1 + Ideal.exp (-g)) + g * c * (Ideal.div 1 (1 + Ideal.exp (-g)) * (1 - Ideal.div 1 (1 + Ideal.exp (-g))))) := by
  have h := silu_grad hc g
  unfold sigm at h
  rw [← h]
  exact hc.mul (silu_der_real g)

/-- The two forms of the gradient before SiLU. -/
theorem dpre_congr {c c' g g' : EReal} (hc : c = c') (hg : g = g') (h : IsReal c') :
    c * (Ideal.div 1 (1 + Ideal.exp (0 - g)) * (1 + g * (1 - Ideal.div 1 (1 + Ideal.exp (0 - g)))))
      = c' * Ideal.div 1 (1 + Ideal.exp (-g')) + g' * c' * (Ideal.div 1 (1 + Ideal.exp (-g')) * (1 - Ideal.div 1 (1 + Ideal.exp (-g')))) := by
  subst hc hg; rw [zero_sub]; exact silu_grad h g

end Cert.Proof

end
-- ==== Proof.ConvSsmGrad.lean ====
/- The gradient of the causal convolution of the state-space path, SiLU's first: of the columns it reads, its weights and its bias. -/
module

public import proofs.«01_k».proof.Proof.Gen.ConvSsmGradIdeal.Value
public import proofs.«01_k».proof.Proof.Gen.ConvSsmGradRefIdeal.Read
public import proofs.«01_k».proof.Defs
public import proofs.«01_k».proof.Proof.Conv
public import Idealize.ShloMosaic.Lib.Claim
public import Idealize.ShloMosaic.Lib.KernelVsHost
public import Idealize.ShloMosaic.Lib.Pipeline.ValueKit
public import Idealize.ShloMosaic.Lib.Pointwise

@[expose] public section

set_option maxRecDepth 16384
set_option maxHeartbeats 4000000

noncomputable section

namespace Cert.Proof.ConvSsmGrad

open Cert.ConvSsmGradIdeal Cert.ConvSsmGradIdeal.Gen Cert.ConvSsmGradIdeal.Value Idealize.ShloMosaic Idealize.ShloMosaic.TcCoe Idealize.SL.Sem
open Cert.ConvSsmGradRefIdeal.Read

variable (m : (ℓ : Loc nD τ sig) → Buf (Elt Ideal) ℓ)

/-- A point handles 256 channels; in the wide array they lie after 7168 columns. -/
theorem idx0 : ∀ t : Fin cfg0.N, win0_0.index t = ![0, t.val + 28] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, t.val + 28] := (by decide +kernel : ∀ t : Fin grid0.N, _)
theorem idx5 : ∀ t : Fin cfg0.N, win0_5.index t = ![0, t.val] := (by decide +kernel : ∀ t : Fin grid0.N, _)
theorem idx6 : ∀ t : Fin cfg0.N, win0_6.index t = ![0, t.val] := (by decide +kernel : ∀ t : Fin grid0.N, _)

/-- The sums before SiLU, computed on the host as the reference computes them. -/
theorem pre (c : Dev nD) : V m c main_v36 = val_main_v40 (F := Ideal) (m ((c : Thread nD τ).loc main_arg0)) (m ((c : Thread nD τ).loc main_arg1)) (m ((c : Thread nD τ).loc main_arg2)) := by
  entry_read
  rfl

/-- The gradient before SiLU. -/
abbrev dpre (c : Dev nD) : S4096x1536.Idx → EReal :=
  val_main_v54 (F := Ideal) (m ((c : Thread nD τ).loc main_arg0)) (m ((c : Thread nD τ).loc main_arg1)) (m ((c : Thread nD τ).loc main_arg2)) (m ((c : Thread nD τ).loc main_arg3))

theorem col (t : Fin cfg0.N) (j : Fin 256) : 256 * t.val + j.val < 1536 := by
  have h : t.val < 6 := t.isLt
  omega

/-- … as a point's block holds it, … -/
theorem dpre_blk (c : Dev nD) (hr : ∀ i, IsReal (m ((c : Thread nD τ).loc main_arg3) i)) (t : Fin cfg0.N) :
    k0_pay7 (F := Ideal) (iblk m c 2 t) (iblk m c 3 t) = fun i => dpre m c (ix2 (i 0) ⟨256 * t.val + (i 1).val, col t (i 1)⟩) := by
  funext i
  have e2 := idx2 t
  have e3 := idx3 t
  unfold_payloads
  pointwise [dpre, val_main_v54, val_main_v53, val_main_v52, val_main_v51, val_main_v50, val_main_v49, val_main_v48, val_main_v47, val_main_v46, val_main_v45, val_main_v44, val_main_v43, val_main_v42, val_main_v41, val_main_cst_7, val_main_cst_8, val_main_cst_9]
  blk_simp [iblk]
  rw [pre, V_main_arg3]
  exact dpre_congr (by congr 1; blk_ext [e3]) (by congr 1; blk_ext [e2]) (hr _)

/-- … and a real number where the cotangent is one. -/
theorem dpre_is (c : Dev nD) (hr : ∀ i, IsReal (m ((c : Thread nD τ).loc main_arg3) i)) (i : S4096x1536.Idx) : IsReal (dpre m c i) := by
  pointwise [dpre, val_main_v54, val_main_v53, val_main_v52, val_main_v51, val_main_v50, val_main_v49, val_main_v48, val_main_v47, val_main_v46, val_main_v45, val_main_v44, val_main_v43, val_main_v42, val_main_v41, val_main_cst_7, val_main_cst_8, val_main_cst_9]
  exact dpre_real (hr _) _

/-- The convolved columns and the weights, as a point's blocks hold them. -/
theorem u_blk (c : Dev nD) (t : Fin cfg0.N) :
    iblk m c 0 t = fun i : S4096x256.Idx => m ((c : Thread nD τ).loc main_arg0) (ix2 (i 0) ⟨7168 + (256 * t.val + (i 1).val), by have := col t (i 1); omega⟩) := by
  funext i
  have e0 := idx0 t
  blk_simp [iblk]
  rw [V_main_arg0]
  congr 1; blk_ext [e0]
theorem w_blk (c : Dev nD) (t : Fin cfg0.N) :
    iblk m c 1 t = fun i : S4x256.Idx => m ((c : Thread nD τ).loc main_arg1) (ix2 (i 0) ⟨256 * t.val + (i 1).val, col t (i 1)⟩) := by
  funext i
  have e1 := idx1 t
  blk_simp [iblk]
  rw [V_main_arg1]
  congr 1; blk_ext [e1]

/-- A block rotated by `s` rows upwards. -/
def rot (s : ℕ) (D : S4096x256.Idx → EReal) : S4096x256.Idx → EReal := fun i => D (ix2 ⟨((i 0).val + s) % 4096, Nat.mod_lt _ (by norm_num)⟩ (i 1))

theorem rot_eq (n : BitVec 32) (s : ℕ) (hn : n.toNat = 4096 - s) (hs : s ≤ 4096) (h0 : 0 < s) (D : S4096x256.Idx → EReal) :
    dynamicRotate (s := S4096x256) 0 n none D rotates_S4096x256_d0 = rot s D := by
  funext i
  refine dynamicRotate_apply _ _ _ _ _ _ fun b => ?_
  fin_cases b
  · show ((i 0).val + s) % 4096 = ((i 0).val + 4096 - n.toNat % 4096) % 4096
    have := (i 0).isLt
    rw [hn, Nat.mod_eq_of_lt (by omega : 4096 - s < 4096)]
    congr 1; omega
  · rfl

theorem rot_lt (s : ℕ) (D : S4096x256.Idx → EReal) (p : Fin 4096) (j : Fin 256) (h : s + p < 4096) :
    rot s D (ix2 p j) = D (ix2 ⟨s + p, h⟩ j) := by
  show D (ix2 ⟨(p.val + s) % 4096, _⟩ j) = _
  congr 2
  exact Fin.ext ((Nat.mod_eq_of_lt (by omega)).trans (Nat.add_comm _ _))

/-- A block's last rows, by their number's word. -/
theorem mask1 : ∀ r : Fin 16, IntOp.cmpi .sge (BitVec.ofNat 32 r) 15#32 = if 16 ≤ (r : ℕ) + 1 then 1#1 else 0#1 := by decide
theorem mask2 : ∀ r : Fin 16, IntOp.cmpi .sge (BitVec.ofNat 32 r) 14#32 = if 16 ≤ (r : ℕ) + 2 then 1#1 else 0#1 := by decide
theorem mask3 : ∀ r : Fin 16, IntOp.cmpi .sge (BitVec.ofNat 32 r) 13#32 = if 16 ≤ (r : ℕ) + 3 then 1#1 else 0#1 := by decide
theorem select_if (p : Prop) [Decidable p] (a b : EReal) : Scalar.select (if p then 1#1 else 0#1) a b = if p then a else b := by
  by_cases h : p
  · rw [if_pos h, if_pos h]; rfl
  · rw [if_neg h, if_neg h]; rfl

/-- The weights' gradient a row at a time: the sums over the rows that have a row `s` after, … -/
theorem dw0 (D U : S4096x256.Idx → EReal) (hD : ∀ i, IsReal (D i)) (hU : ∀ i, IsReal (U i)) (y : S1x256.Idx) :
    k0_pay3 (F := Ideal) U D (iota Kind.tc S16x256 32 [0] iota_S16x256_d0_w32) 4093#32 y
      = ∑ k : Fin 4093, D (ix2 ⟨3 + k, by omega⟩ (y 1)) * U (ix2 ⟨k, by omega⟩ (y 1)) := by
  unfold k0_pay3 k0_pay1 k0_pay2
  rw [rot_eq 4093#32 3 rfl (by norm_num) (by norm_num)]
  pointwise
  unfold rot
  pointwise
  simp only [mask3, select_if]
  exact conv_dw 3 4093 rfl (by norm_num) (fun k => D (ix2 k (y 1))) (fun k => U (ix2 k (y 1))) (fun _ => hD _) fun _ => hU _
theorem dw1 (D U : S4096x256.Idx → EReal) (hD : ∀ i, IsReal (D i)) (hU : ∀ i, IsReal (U i)) (y : S1x256.Idx) :
    k0_pay20 (F := Ideal) U D (iota Kind.tc S16x256 32 [0] iota_S16x256_d0_w32) y
      = ∑ k : Fin 4094, D (ix2 ⟨2 + k, by omega⟩ (y 1)) * U (ix2 ⟨k, by omega⟩ (y 1)) := by
  unfold k0_pay20 k0_pay16 k0_pay17
  rw [rot_eq 4094#32 2 rfl (by norm_num) (by norm_num)]
  pointwise
  unfold rot
  pointwise
  simp only [mask2, select_if]
  exact conv_dw 2 4094 rfl (by norm_num) (fun k => D (ix2 k (y 1))) (fun k => U (ix2 k (y 1))) (fun _ => hD _) fun _ => hU _
theorem dw2 (D U : S4096x256.Idx → EReal) (hD : ∀ i, IsReal (D i)) (hU : ∀ i, IsReal (U i)) (y : S1x256.Idx) :
    k0_pay15 (F := Ideal) U (rot 1 D) k0_pay11 y
      = ∑ k : Fin 4095, D (ix2 ⟨1 + k, by omega⟩ (y 1)) * U (ix2 ⟨k, by omega⟩ (y 1)) := by
  unfold k0_pay15 k0_pay11
  pointwise
  unfold rot
  pointwise
  simp only [mask1, select_if]
  exact conv_dw 1 4095 rfl (by norm_num) (fun k => D (ix2 k (y 1))) (fun k => U (ix2 k (y 1))) (fun _ => hD _) fun _ => hU _

/-- … and the reference's, whose padding's zeros add nothing. -/
theorem ref_row (c : Dev nD) (k : Fin 4) (j : Fin 1536) : val_main_v105 (F := Ideal) (m ((c : Thread nD τ).loc main_arg0)) (m ((c : Thread nD τ).loc main_arg1)) (m ((c : Thread nD τ).loc main_arg2)) (m ((c : Thread nD τ).loc main_arg3)) (ix2 k j)
    = ∑ i : Fin (4093 + k), mulE (dpre m c (ix2 ⟨3 - k + i, by omega⟩ j)) (m ((c : Thread nD τ).loc main_arg0) (ix2 ⟨i, by omega⟩ ⟨7168 + j, by omega⟩)) := by
  have hz : ∀ (n : ℕ) (f : Fin n → EReal), (∑ x, f x * 0) = 0 := fun n f => Finset.sum_eq_zero fun x _ => mul_zero _
  fin_cases k
  · pointwise [val_main_v0, val_main_v1, val_main_v2, val_main_cst, val_main_v3, val_main_v4, val_main_v5, val_main_cst_0, val_main_v6, val_main_v7, val_main_v8, val_main_v9, val_main_v10, val_main_v11, val_main_v12, val_main_v13, val_main_cst_1, val_main_v14, val_main_v15, val_main_v16, val_main_cst_2, val_main_v17, val_main_v18, val_main_v19, val_main_v20, val_main_v21, val_main_v22, val_main_v23, val_main_cst_3, val_main_v24, val_main_v25, val_main_v26, val_main_cst_4, val_main_v27, val_main_v28, val_main_v29, val_main_v30, val_main_v31, val_main_v32, val_main_v33, val_main_cst_5, val_main_v34, val_main_v35, val_main_cst_6, val_main_v36, val_main_v37, val_main_v38, val_main_v39, val_main_v41, val_main_v42, val_main_cst_7, val_main_v43, val_main_v44, val_main_cst_8, val_main_v45, val_main_v46, val_main_cst_9, val_main_v47, val_main_v48, val_main_v49, val_main_v50, val_main_v51, val_main_v52, val_main_v53, val_main_v55, val_main_v56, val_main_v57, val_main_cst_10, val_main_v58, val_main_v59, val_main_cst_11, val_main_v60, val_main_v61, val_main_v62, val_main_v63, val_main_cst_12, val_main_v64, val_main_v65, val_main_v66, val_main_v67, val_main_cst_13, val_main_v68, val_main_v69, val_main_cst_14, val_main_v70, val_main_v71, val_main_v72, val_main_cst_15, val_main_v73, val_main_v74, val_main_v75, val_main_cst_16, val_main_v76, val_main_v77, val_main_v78, val_main_v79, val_main_v80, val_main_cst_17, val_main_v81, val_main_v82, val_main_cst_18, val_main_v83, val_main_v84, val_main_v85, val_main_cst_19, val_main_v86, val_main_v87, val_main_v88, val_main_cst_20, val_main_v89, val_main_v90, val_main_cst_21, val_main_v91, val_main_v92, val_main_v93, val_main_v94, val_main_v95, val_main_cst_22, val_main_v96, val_main_v97, val_main_cst_23, val_main_v98, val_main_v99, val_main_v100, val_main_cst_24, val_main_v101, val_main_v102, val_main_v103, val_main_cst_25, val_main_v104, val_main_v105, val_main_v106, val_main_c, val_main_c_26, val_main_v107]
    refine (Fin.sum_univ_one (M := EReal) _).trans ?_
    refine (congrArg (· + _) (hz _ _)).trans ((zero_add (M := EReal) _).trans ?_)
    rfl
  · pointwise [val_main_v0, val_main_v1, val_main_v2, val_main_cst, val_main_v3, val_main_v4, val_main_v5, val_main_cst_0, val_main_v6, val_main_v7, val_main_v8, val_main_v9, val_main_v10, val_main_v11, val_main_v12, val_main_v13, val_main_cst_1, val_main_v14, val_main_v15, val_main_v16, val_main_cst_2, val_main_v17, val_main_v18, val_main_v19, val_main_v20, val_main_v21, val_main_v22, val_main_v23, val_main_cst_3, val_main_v24, val_main_v25, val_main_v26, val_main_cst_4, val_main_v27, val_main_v28, val_main_v29, val_main_v30, val_main_v31, val_main_v32, val_main_v33, val_main_cst_5, val_main_v34, val_main_v35, val_main_cst_6, val_main_v36, val_main_v37, val_main_v38, val_main_v39, val_main_v41, val_main_v42, val_main_cst_7, val_main_v43, val_main_v44, val_main_cst_8, val_main_v45, val_main_v46, val_main_cst_9, val_main_v47, val_main_v48, val_main_v49, val_main_v50, val_main_v51, val_main_v52, val_main_v53, val_main_v55, val_main_v56, val_main_v57, val_main_cst_10, val_main_v58, val_main_v59, val_main_cst_11, val_main_v60, val_main_v61, val_main_v62, val_main_v63, val_main_cst_12, val_main_v64, val_main_v65, val_main_v66, val_main_v67, val_main_cst_13, val_main_v68, val_main_v69, val_main_cst_14, val_main_v70, val_main_v71, val_main_v72, val_main_cst_15, val_main_v73, val_main_v74, val_main_v75, val_main_cst_16, val_main_v76, val_main_v77, val_main_v78, val_main_v79, val_main_v80, val_main_cst_17, val_main_v81, val_main_v82, val_main_cst_18, val_main_v83, val_main_v84, val_main_v85, val_main_cst_19, val_main_v86, val_main_v87, val_main_v88, val_main_cst_20, val_main_v89, val_main_v90, val_main_cst_21, val_main_v91, val_main_v92, val_main_v93, val_main_v94, val_main_v95, val_main_cst_22, val_main_v96, val_main_v97, val_main_cst_23, val_main_v98, val_main_v99, val_main_v100, val_main_cst_24, val_main_v101, val_main_v102, val_main_v103, val_main_cst_25, val_main_v104, val_main_v105, val_main_v106, val_main_c, val_main_c_26, val_main_v107]
    refine (Fin.sum_univ_one (M := EReal) _).trans ?_
    refine (congrArg (· + _) (hz _ _)).trans ((zero_add (M := EReal) _).trans ?_)
    rfl
  · pointwise [val_main_v0, val_main_v1, val_main_v2, val_main_cst, val_main_v3, val_main_v4, val_main_v5, val_main_cst_0, val_main_v6, val_main_v7, val_main_v8, val_main_v9, val_main_v10, val_main_v11, val_main_v12, val_main_v13, val_main_cst_1, val_main_v14, val_main_v15, val_main_v16, val_main_cst_2, val_main_v17, val_main_v18, val_main_v19, val_main_v20, val_main_v21, val_main_v22, val_main_v23, val_main_cst_3, val_main_v24, val_main_v25, val_main_v26, val_main_cst_4, val_main_v27, val_main_v28, val_main_v29, val_main_v30, val_main_v31, val_main_v32, val_main_v33, val_main_cst_5, val_main_v34, val_main_v35, val_main_cst_6, val_main_v36, val_main_v37, val_main_v38, val_main_v39, val_main_v41, val_main_v42, val_main_cst_7, val_main_v43, val_main_v44, val_main_cst_8, val_main_v45, val_main_v46, val_main_cst_9, val_main_v47, val_main_v48, val_main_v49, val_main_v50, val_main_v51, val_main_v52, val_main_v53, val_main_v55, val_main_v56, val_main_v57, val_main_cst_10, val_main_v58, val_main_v59, val_main_cst_11, val_main_v60, val_main_v61, val_main_v62, val_main_v63, val_main_cst_12, val_main_v64, val_main_v65, val_main_v66, val_main_v67, val_main_cst_13, val_main_v68, val_main_v69, val_main_cst_14, val_main_v70, val_main_v71, val_main_v72, val_main_cst_15, val_main_v73, val_main_v74, val_main_v75, val_main_cst_16, val_main_v76, val_main_v77, val_main_v78, val_main_v79, val_main_v80, val_main_cst_17, val_main_v81, val_main_v82, val_main_cst_18, val_main_v83, val_main_v84, val_main_v85, val_main_cst_19, val_main_v86, val_main_v87, val_main_v88, val_main_cst_20, val_main_v89, val_main_v90, val_main_cst_21, val_main_v91, val_main_v92, val_main_v93, val_main_v94, val_main_v95, val_main_cst_22, val_main_v96, val_main_v97, val_main_cst_23, val_main_v98, val_main_v99, val_main_v100, val_main_cst_24, val_main_v101, val_main_v102, val_main_v103, val_main_cst_25, val_main_v104, val_main_v105, val_main_v106, val_main_c, val_main_c_26, val_main_v107]
    refine (Fin.sum_univ_one (M := EReal) _).trans ?_
    refine (congrArg (· + _) (hz _ _)).trans ((zero_add (M := EReal) _).trans ?_)
    rfl
  · pointwise [val_main_v0, val_main_v1, val_main_v2, val_main_cst, val_main_v3, val_main_v4, val_main_v5, val_main_cst_0, val_main_v6, val_main_v7, val_main_v8, val_main_v9, val_main_v10, val_main_v11, val_main_v12, val_main_v13, val_main_cst_1, val_main_v14, val_main_v15, val_main_v16, val_main_cst_2, val_main_v17, val_main_v18, val_main_v19, val_main_v20, val_main_v21, val_main_v22, val_main_v23, val_main_cst_3, val_main_v24, val_main_v25, val_main_v26, val_main_cst_4, val_main_v27, val_main_v28, val_main_v29, val_main_v30, val_main_v31, val_main_v32, val_main_v33, val_main_cst_5, val_main_v34, val_main_v35, val_main_cst_6, val_main_v36, val_main_v37, val_main_v38, val_main_v39, val_main_v41, val_main_v42, val_main_cst_7, val_main_v43, val_main_v44, val_main_cst_8, val_main_v45, val_main_v46, val_main_cst_9, val_main_v47, val_main_v48, val_main_v49, val_main_v50, val_main_v51, val_main_v52, val_main_v53, val_main_v55, val_main_v56, val_main_v57, val_main_cst_10, val_main_v58, val_main_v59, val_main_cst_11, val_main_v60, val_main_v61, val_main_v62, val_main_v63, val_main_cst_12, val_main_v64, val_main_v65, val_main_v66, val_main_v67, val_main_cst_13, val_main_v68, val_main_v69, val_main_cst_14, val_main_v70, val_main_v71, val_main_v72, val_main_cst_15, val_main_v73, val_main_v74, val_main_v75, val_main_cst_16, val_main_v76, val_main_v77, val_main_v78, val_main_v79, val_main_v80, val_main_cst_17, val_main_v81, val_main_v82, val_main_cst_18, val_main_v83, val_main_v84, val_main_v85, val_main_cst_19, val_main_v86, val_main_v87, val_main_v88, val_main_cst_20, val_main_v89, val_main_v90, val_main_cst_21, val_main_v91, val_main_v92, val_main_v93, val_main_v94, val_main_v95, val_main_cst_22, val_main_v96, val_main_v97, val_main_cst_23, val_main_v98, val_main_v99, val_main_v100, val_main_cst_24, val_main_v101, val_main_v102, val_main_v103, val_main_cst_25, val_main_v104, val_main_v105, val_main_v106, val_main_c, val_main_c_26, val_main_v107]
    refine (Fin.sum_univ_one (M := EReal) _).trans ?_
    refine Finset.sum_congr (M := EReal) rfl fun i _ => ?_
    rw [dif_neg (Nat.not_lt_zero _)]

/-- The precondition: the convolved columns and the cotangent are real numbers. -/
theorem real_args [Cert.Pre_conv_ssm_finite.Facts] (h : Cert.Pre_ConvSsmGradIdeal_conv_ssm_finite m) (c : Dev nD) :
    (∀ i, IsReal (m ((c : Thread nD τ).loc main_arg0) i)) ∧ ∀ i, IsReal (m ((c : Thread nD τ).loc main_arg3) i) := by
  have h := congrFun (h c) ix0
  pointwise [Cert.Pre_conv_ssm_finite.fn] at h
  obtain ⟨h0, h1⟩ := andi_one h
  exact ⟨real_of_fold (φ := .f32) _ h0, real_of_fold (φ := .f32) _ h1⟩

/-- The weights' gradient. -/
theorem final5 (c : Dev nD) (hr : (∀ i, IsReal (m ((c : Thread nD τ).loc main_arg0) i)) ∧ ∀ i, IsReal (m ((c : Thread nD τ).loc main_arg3) i)) : (dats m 0 c).arrAt 5 cfg0.N
    = val_main_v105 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf z => ?_
  have e5 := idx5 t
  blk_simp
  rw [after0_5]
  unfold outsAt0
  frame_out
  have hU : ∀ i, IsReal (iblk m c 0 t i) := fun i => by rw [u_blk]; exact hr.1 _
  have hD : ∀ i, IsReal (dpre m c i) := dpre_is m c hr.2
  canon_tiles y
  case piece0 =>
    rw [dpre_blk m c hr.2 t, dw0 _ _ (fun _ => hD _) hU, u_blk,
      show ((View.whole main_v37_1).slice (win0_5.rect t)).emb z = ix2 0 ⟨256 * t.val + (y 1).val, col t (y 1)⟩ by blk_ext [e5], ref_row]
    rfl
  case piece1 =>
    rw [dpre_blk m c hr.2 t, dw1 _ _ (fun _ => hD _) hU, u_blk,
      show ((View.whole main_v37_1).slice (win0_5.rect t)).emb z = ix2 1 ⟨256 * t.val + (y 1).val, col t (y 1)⟩ by blk_ext [e5], ref_row]
    rfl
  case piece2 =>
    unfold k0_pay10
    rw [dpre_blk m c hr.2 t, rot_eq 4095#32 1 rfl (by norm_num) (by norm_num), dw2 _ _ (fun _ => hD _) hU, u_blk,
      show ((View.whole main_v37_1).slice (win0_5.rect t)).emb z = ix2 2 ⟨256 * t.val + (y 1).val, col t (y 1)⟩ by blk_ext [e5], ref_row]
    rfl
  case piece3 =>
    unfold k0_pay9
    rw [dpre_blk m c hr.2 t, u_blk,
      show ((View.whole main_v37_1).slice (win0_5.rect t)).emb z = ix2 3 ⟨256 * t.val + (y 1).val, col t (y 1)⟩ by blk_ext [e5], ref_row]
    pointwise

/-- The bias's gradient. -/
theorem final6 (c : Dev nD) (hr : ∀ i, IsReal (m ((c : Thread nD τ).loc main_arg3) i)) : (dats m 0 c).arrAt 6 cfg0.N
    = val_main_v92 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  have e6 := idx6 t
  blk_simp
  rw [after0_6]
  unfold outsAt0
  frame_out
  rw [dpre_blk m c hr t]
  unfold k0_pay6
  pointwise [val_main_v92, val_main_v91, val_main_cst_21]
  refine Finset.sum_congr (M := EReal) rfl fun k _ => ?_
  unfold dpre
  congr 1; blk_ext [e6]

/-- The input's gradient lies in its columns of the wide array. -/
theorem ref_wide (c : Dev nD) (i : Fin 4096) (j : Fin 1536) : val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 i ⟨7168 + j, by omega⟩)
    = val_main_v102 (F := Ideal) (m ((c : Thread nD τ).loc main_arg0)) (m ((c : Thread nD τ).loc main_arg1)) (m ((c : Thread nD τ).loc main_arg2)) (m ((c : Thread nD τ).loc main_arg3)) (ix2 i j) := by
  unfold val_main_v107
  rw [Host.dynamicUpdateSlice_eq_updateSlice _ _ _ _ ![0, 7168] (by intro a; fin_cases a <;> rfl) (by decide)]
  pointwise [val_main_v106]
  exact dif_pos (by omega)

/-- Its rows that have three rows after, … -/
theorem dx_most (c : Dev nD) (t : Fin cfg0.N) (hr : ∀ i, IsReal (m ((c : Thread nD τ).loc main_arg3) i)) (p : Fin 4096) (j : Fin 256) (hp : p.val < 4080) :
    k0_pay4 (F := Ideal) (iblk m c 1 t) (k0_pay7 (iblk m c 2 t) (iblk m c 3 t))
        (k0_pay18 (iblk m c 1 t) (k0_pay7 (iblk m c 2 t) (iblk m c 3 t)) (k0_pay12 (iblk m c 1 t) (iblk m c 2 t) (iblk m c 3 t))) 4093#32 (ix2 p j)
      = val_main_v102 (F := Ideal) (m ((c : Thread nD τ).loc main_arg0)) (m ((c : Thread nD τ).loc main_arg1)) (m ((c : Thread nD τ).loc main_arg2)) (m ((c : Thread nD τ).loc main_arg3)) (ix2 p ⟨256 * t.val + j, col t j⟩) := by
  unfold k0_pay4 k0_pay18 k0_pay12 k0_pay10 k0_pay1 k0_pay16
  rw [dpre_blk m c hr t, w_blk, rot_eq 4093#32 3 rfl (by norm_num) (by norm_num), rot_eq 4094#32 2 rfl (by norm_num) (by norm_num), rot_eq 4095#32 1 rfl (by norm_num) (by norm_num)]
  pointwise [val_main_v0, val_main_v1, val_main_v2, val_main_cst, val_main_v3, val_main_v4, val_main_v5, val_main_cst_0, val_main_v6, val_main_v7, val_main_v8, val_main_v9, val_main_v10, val_main_v11, val_main_v12, val_main_v13, val_main_cst_1, val_main_v14, val_main_v15, val_main_v16, val_main_cst_2, val_main_v17, val_main_v18, val_main_v19, val_main_v20, val_main_v21, val_main_v22, val_main_v23, val_main_cst_3, val_main_v24, val_main_v25, val_main_v26, val_main_cst_4, val_main_v27, val_main_v28, val_main_v29, val_main_v30, val_main_v31, val_main_v32, val_main_v33, val_main_cst_5, val_main_v34, val_main_v35, val_main_cst_6, val_main_v36, val_main_v37, val_main_v38, val_main_v39, val_main_v41, val_main_v42, val_main_cst_7, val_main_v43, val_main_v44, val_main_cst_8, val_main_v45, val_main_v46, val_main_cst_9, val_main_v47, val_main_v48, val_main_v49, val_main_v50, val_main_v51, val_main_v52, val_main_v53, val_main_v55, val_main_v56, val_main_v57, val_main_cst_10, val_main_v58, val_main_v59, val_main_cst_11, val_main_v60, val_main_v61, val_main_v62, val_main_v63, val_main_cst_12, val_main_v64, val_main_v65, val_main_v66, val_main_v67, val_main_cst_13, val_main_v68, val_main_v69, val_main_cst_14, val_main_v70, val_main_v71, val_main_v72, val_main_cst_15, val_main_v73, val_main_v74, val_main_v75, val_main_cst_16, val_main_v76, val_main_v77, val_main_v78, val_main_v79, val_main_v80, val_main_cst_17, val_main_v81, val_main_v82, val_main_cst_18, val_main_v83, val_main_v84, val_main_v85, val_main_cst_19, val_main_v86, val_main_v87, val_main_v88, val_main_cst_20, val_main_v89, val_main_v90, val_main_cst_21, val_main_v91, val_main_v92, val_main_v93, val_main_v94, val_main_v95, val_main_cst_22, val_main_v96, val_main_v97, val_main_cst_23, val_main_v98, val_main_v99, val_main_v100, val_main_cst_24, val_main_v101, val_main_v102, val_main_v103, val_main_cst_25, val_main_v104, val_main_v105, val_main_v106, val_main_c, val_main_c_26, val_main_v107]
  have hc := col t j
  rw [rot_lt 1 _ _ _ (by omega), rot_lt 2 _ _ _ (by omega), rot_lt 3 _ _ _ (by omega), dif_pos (by omega), dif_pos (by omega), dif_pos (by omega)]
  rfl

/-- … and its last rows, the rows after the end being zeros. -/
theorem dx_last (c : Dev nD) (t : Fin cfg0.N) (hr : ∀ i, IsReal (m ((c : Thread nD τ).loc main_arg3) i)) (r : Fin 16) (j : Fin 256) :
    k0_pay5 (F := Ideal) (iblk m c 1 t) (k0_pay7 (iblk m c 2 t) (iblk m c 3 t)) (iota Kind.tc S16x256 32 [0] iota_S16x256_d0_w32)
        (k0_pay19 (iblk m c 1 t) (k0_pay7 (iblk m c 2 t) (iblk m c 3 t)) (iota Kind.tc S16x256 32 [0] iota_S16x256_d0_w32) (k0_pay8 (iblk m c 1 t) (iblk m c 2 t) (iblk m c 3 t))
          k0_pay11 (k0_pay13 (iblk m c 1 t)) (k0_pay14 (iblk m c 2 t) (iblk m c 3 t))) 4093#32 (ix2 r j)
      = val_main_v102 (F := Ideal) (m ((c : Thread nD τ).loc main_arg0)) (m ((c : Thread nD τ).loc main_arg1)) (m ((c : Thread nD τ).loc main_arg2)) (m ((c : Thread nD τ).loc main_arg3)) (ix2 ⟨4080 + r, by omega⟩ ⟨256 * t.val + j, col t j⟩) := by
  unfold k0_pay5 k0_pay19 k0_pay8 k0_pay11 k0_pay13 k0_pay14 k0_pay10 k0_pay1 k0_pay2 k0_pay16 k0_pay17
  rw [dpre_blk m c hr t, w_blk, rot_eq 4093#32 3 rfl (by norm_num) (by norm_num), rot_eq 4094#32 2 rfl (by norm_num) (by norm_num), rot_eq 4095#32 1 rfl (by norm_num) (by norm_num)]
  pointwise [val_main_v0, val_main_v1, val_main_v2, val_main_cst, val_main_v3, val_main_v4, val_main_v5, val_main_cst_0, val_main_v6, val_main_v7, val_main_v8, val_main_v9, val_main_v10, val_main_v11, val_main_v12, val_main_v13, val_main_cst_1, val_main_v14, val_main_v15, val_main_v16, val_main_cst_2, val_main_v17, val_main_v18, val_main_v19, val_main_v20, val_main_v21, val_main_v22, val_main_v23, val_main_cst_3, val_main_v24, val_main_v25, val_main_v26, val_main_cst_4, val_main_v27, val_main_v28, val_main_v29, val_main_v30, val_main_v31, val_main_v32, val_main_v33, val_main_cst_5, val_main_v34, val_main_v35, val_main_cst_6, val_main_v36, val_main_v37, val_main_v38, val_main_v39, val_main_v41, val_main_v42, val_main_cst_7, val_main_v43, val_main_v44, val_main_cst_8, val_main_v45, val_main_v46, val_main_cst_9, val_main_v47, val_main_v48, val_main_v49, val_main_v50, val_main_v51, val_main_v52, val_main_v53, val_main_v55, val_main_v56, val_main_v57, val_main_cst_10, val_main_v58, val_main_v59, val_main_cst_11, val_main_v60, val_main_v61, val_main_v62, val_main_v63, val_main_cst_12, val_main_v64, val_main_v65, val_main_v66, val_main_v67, val_main_cst_13, val_main_v68, val_main_v69, val_main_cst_14, val_main_v70, val_main_v71, val_main_v72, val_main_cst_15, val_main_v73, val_main_v74, val_main_v75, val_main_cst_16, val_main_v76, val_main_v77, val_main_v78, val_main_v79, val_main_v80, val_main_cst_17, val_main_v81, val_main_v82, val_main_cst_18, val_main_v83, val_main_v84, val_main_v85, val_main_cst_19, val_main_v86, val_main_v87, val_main_v88, val_main_cst_20, val_main_v89, val_main_v90, val_main_cst_21, val_main_v91, val_main_v92, val_main_v93, val_main_v94, val_main_v95, val_main_cst_22, val_main_v96, val_main_v97, val_main_cst_23, val_main_v98, val_main_v99, val_main_v100, val_main_cst_24, val_main_v101, val_main_v102, val_main_v103, val_main_cst_25, val_main_v104, val_main_v105, val_main_v106, val_main_c, val_main_c_26, val_main_v107]
  have hc := col t j
  rw [mask1 r, mask2 r, mask3 r]
  simp only [select_if]
  congr 1
  · congr 1
    · congr 1
      by_cases h : 16 ≤ r.val + 1
      · rw [if_pos h, dif_neg (by omega)]
      · rw [if_neg h, dif_pos (by omega), rot_lt 1 _ _ _ (by show 1 + (4080 + r.val) < 4096; omega)]; rfl
    · by_cases h : 16 ≤ r.val + 2
      · rw [if_pos h, dif_neg (by omega)]
      · rw [if_neg h, dif_pos (by omega), rot_lt 2 _ _ _ (by show 2 + (4080 + r.val) < 4096; omega)]; rfl
  · by_cases h : 16 ≤ r.val + 3
    · rw [if_pos h, dif_neg (by omega)]
    · rw [if_neg h, dif_pos (by omega), rot_lt 3 _ _ _ (by show 3 + (4080 + r.val) < 4096; omega)]; rfl

/-- The wide result holds the input's gradient in its columns, and what the buffer held at first in the others. -/
theorem final4 (c : Dev nD) (hr : ∀ i, IsReal (m ((c : Thread nD τ).loc main_arg3) i)) (i : S4096x8960.Idx) : (dats m 0 c).arrAt 4 cfg0.N i
    = if 28 ≤ (i 1 : ℕ) / 256 ∧ (i 1 : ℕ) / 256 < 34 then val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i else V m c main_v37_0 i := by
  refine (dats m 0 c).arrAt_apply_of_coversWhere 4 _ (P := fun i : S4096x8960.Idx => 28 ≤ (i 1 : ℕ) / 256 ∧ (i 1 : ℕ) / 256 < 34) (fun β => 28 ≤ β (1 : Fin _) ∧ β (1 : Fin _) < 34) (by decide +kernel)
          (fun t hf y => ?_) (fun j => Iff.rfl) i
  have e4 := idx4 t
  blk_simp
  rw [after0_4]
  unfold outsAt0
  frame_out
  have h1 : (y (1 : Fin 2)).val < 256 := (y (1 : Fin 2)).isLt
  have h0 : (y (0 : Fin 2)).val < 4096 := (y (0 : Fin 2)).isLt
  rw [show ((View.whole main_v37_0).slice (win0_4.rect t)).emb y = ix2 ⟨(y (0 : Fin 2)).val, h0⟩ ⟨7168 + (256 * t.val + (y (1 : Fin 2)).val), by have := col t ⟨_, h1⟩; simp only at this; omega⟩ by blk_ext [e4],
    ref_wide m c ⟨(y (0 : Fin 2)).val, h0⟩ ⟨256 * t.val + (y (1 : Fin 2)).val, col t ⟨_, h1⟩⟩]
  by_cases h : 4080 ≤ (y (0 : Fin 2)).val
  · have hy : y = (Rect.unit (s := S4096x256) ![4080, 0] ![16, 256] inb_S4096x256_S16x256_4080_0).emb (ix2 ⟨(y (0 : Fin 2)).val - 4080, by omega⟩ ⟨(y (1 : Fin 2)).val, h1⟩) := by
      funext a
      fin_cases a
      · exact Fin.ext (by show (y (0 : Fin 2)).val = 4080 + 1 * ((y (0 : Fin 2)).val - 4080); omega)
      · exact Fin.ext (by show (y (1 : Fin 2)).val = 0 + 1 * (y (1 : Fin 2)).val; omega)
    refine (congrArg (View.canon _) hy).trans ((View.canon_cons_emb _ _ _ _).trans ((dx_last m c t hr _ _).trans ?_))
    congr 2
    exact Fin.ext (by show 4080 + ((y (0 : Fin 2)).val - 4080) = (y (0 : Fin 2)).val; omega)
  · rw [View.canon_cons_of_not_mem _ _ (Rect.not_mem_set_of_axis _ _ 0 4080 16 rfl rfl rfl (Or.inl (by omega))),
      View.canon_cons_unit_lit inb_S4096x256_S4096x256_0_0 _ _ (by intro a; fin_cases a <;> rfl)]
    refine Eq.trans (congrArg _ (show y = ix2 ⟨(y (0 : Fin 2)).val, h0⟩ ⟨(y (1 : Fin 2)).val, h1⟩ by blk_ext)) (dx_most m c t hr _ _ (by show (y (0 : Fin 2)).val < 4080; omega))

/-- In the other columns the reference leaves the array as it was. -/
theorem ref_other (c : Dev nD) (i : S4096x8960.Idx) (h : ¬(28 ≤ (i 1 : ℕ) / 256 ∧ (i 1 : ℕ) / 256 < 34)) : val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i
    = m ((c : Thread nD τ).loc main_arg4) i := by
  unfold val_main_v107
  rw [Host.dynamicUpdateSlice_eq_updateSlice _ _ _ _ ![0, 7168] (by intro a; fin_cases a <;> rfl) (by decide)]
  pointwise
  exact dif_neg (by omega)

theorem entry4 (c : Dev nD) : V m c main_v37_0 = m ((c : Thread nD τ).loc main_arg4) := by
  entry_read
  rfl

theorem final4' (c : Dev nD) (hr : ∀ i, IsReal (m ((c : Thread nD τ).loc main_arg3) i)) : (dats m 0 c).arrAt 4 cfg0.N = val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  rw [final4 m c hr]
  by_cases h : 28 ≤ (i 1 : ℕ) / 256 ∧ (i 1 : ℕ) / 256 < 34
  · rw [if_pos h]
  · rw [if_neg h, ref_other m c i h, entry4]

/-- From launches that agree on the arguments, kernel and reference end with the same results. -/
theorem algebraic [Cert.Pre_conv_ssm_finite.Facts] : Cert.algebraic_ConvSsmGradIdeal_ConvSsmGradRefIdeal_pre_conv_ssm_finite := fun m g m' g' hp hagree =>
  ⟨fun c => val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)), fun c => val_main_v105 (F := Ideal) (m ((c : Thread nD τ).loc main_arg0)) (m ((c : Thread nD τ).loc main_arg1)) (m ((c : Thread nD τ).loc main_arg2)) (m ((c : Thread nD τ).loc main_arg3)),
    fun c => val_main_v92 (F := Ideal) (m ((c : Thread nD τ).loc main_arg0)) (m ((c : Thread nD τ).loc main_arg1)) (m ((c : Thread nD τ).loc main_arg2)) (m ((c : Thread nD τ).loc main_arg3)),
    (θ_run defs _ _).mono (fun _ h c => ⟨(h c).1.trans (final4' m c (real_args m hp c).2), (h c).2.1.trans (final5 m c (real_args m hp c)), (h c).2.2.1.trans (final6 m c (real_args m hp c).2), (h c).2.2.2⟩) (run_blocks m g),
    (θ_run Cert.ConvSsmGradRefIdeal.defs _ _).mono (fun _ h c => ⟨(h c).1.trans ((val_main_v107_eq m' c).trans (by rw [(hagree c).1, (hagree c).2.1, (hagree c).2.2.1, (hagree c).2.2.2.1, (hagree c).2.2.2.2])),
        (h c).2.1.trans ((val_main_v105_eq m' c).trans (by rw [(hagree c).1, (hagree c).2.1, (hagree c).2.2.1, (hagree c).2.2.2.1])),
        (h c).2.2.1.trans ((val_main_v92_eq m' c).trans (by rw [(hagree c).1, (hagree c).2.1, (hagree c).2.2.1, (hagree c).2.2.2.1])), (h c).2.2.2⟩)
      (Cert.ConvSsmGradRefIdeal.Value.run m' g')⟩

end Cert.Proof.ConvSsmGrad

end
-- ==== Proof.ConvGdnGrad.lean ====
/- The gradient of the causal convolution of the gated delta rule, SiLU's first: of the columns it reads, its weights. -/
module

public import proofs.«01_k».proof.Proof.Gen.ConvGdnGradIdeal.Value
public import proofs.«01_k».proof.Proof.Gen.ConvGdnGradRefIdeal.Read
public import proofs.«01_k».proof.Defs
public import proofs.«01_k».proof.Proof.Conv
public import Idealize.ShloMosaic.Lib.Claim
public import Idealize.ShloMosaic.Lib.KernelVsHost
public import Idealize.ShloMosaic.Lib.Pipeline.ValueKit
public import Idealize.ShloMosaic.Lib.Pointwise

@[expose] public section

set_option maxRecDepth 16384
set_option maxHeartbeats 4000000

noncomputable section

namespace Cert.Proof.ConvGdnGrad

open Cert.ConvGdnGradIdeal Cert.ConvGdnGradIdeal.Gen Cert.ConvGdnGradIdeal.Value Idealize.ShloMosaic Idealize.ShloMosaic.TcCoe Idealize.SL.Sem
open Cert.ConvGdnGradRefIdeal.Read

variable (m : (ℓ : Loc nD τ sig) → Buf (Elt Ideal) ℓ)

/-- A point handles 256 channels; in the wide array they lie after 4096 columns. -/
theorem idx0 : ∀ t : Fin cfg0.N, win0_0.index t = ![0, t.val + 16] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, t.val + 16] := (by decide +kernel : ∀ t : Fin grid0.N, _)
theorem idx5 : ∀ t : Fin cfg0.N, win0_5.index t = ![0, t.val] := (by decide +kernel : ∀ t : Fin grid0.N, _)

/-- The sums before SiLU, computed on the host as the reference computes them. -/
theorem pre (c : Dev nD) : V m c main_v37 = val_main_v41 (F := Ideal) (m ((c : Thread nD τ).loc main_arg0)) (m ((c : Thread nD τ).loc main_arg1)) := by
  entry_read
  rfl

/-- The gradient before SiLU. -/
abbrev dpre (c : Dev nD) : S4096x3072.Idx → EReal :=
  val_main_v55 (F := Ideal) (m ((c : Thread nD τ).loc main_arg0)) (m ((c : Thread nD τ).loc main_arg1)) (m ((c : Thread nD τ).loc main_arg2))

theorem col (t : Fin cfg0.N) (j : Fin 256) : 256 * t.val + j.val < 3072 := by
  have h : t.val < 12 := t.isLt
  omega

/-- … as a point's block holds it, … -/
theorem dpre_blk (c : Dev nD) (hr : ∀ i, IsReal (m ((c : Thread nD τ).loc main_arg2) i)) (t : Fin cfg0.N) :
    k0_pay7 (F := Ideal) (iblk m c 2 t) (iblk m c 3 t) = fun i => dpre m c (ix2 (i 0) ⟨256 * t.val + (i 1).val, col t (i 1)⟩) := by
  funext i
  have e2 := idx2 t
  have e3 := idx3 t
  unfold_payloads
  pointwise [dpre, val_main_v55, val_main_v54, val_main_v53, val_main_v52, val_main_v51, val_main_v50, val_main_v49, val_main_v48, val_main_v47, val_main_v46, val_main_v45, val_main_v44, val_main_v43, val_main_v42, val_main_cst_8, val_main_cst_9, val_main_cst_10]
  blk_simp [iblk]
  rw [pre, V_main_arg2]
  exact dpre_congr (by congr 1; blk_ext [e3]) (by congr 1; blk_ext [e2]) (hr _)

/-- … and a real number where the cotangent is one. -/
theorem dpre_is (c : Dev nD) (hr : ∀ i, IsReal (m ((c : Thread nD τ).loc main_arg2) i)) (i : S4096x3072.Idx) : IsReal (dpre m c i) := by
  pointwise [dpre, val_main_v55, val_main_v54, val_main_v53, val_main_v52, val_main_v51, val_main_v50, val_main_v49, val_main_v48, val_main_v47, val_main_v46, val_main_v45, val_main_v44, val_main_v43, val_main_v42, val_main_cst_8, val_main_cst_9, val_main_cst_10]
  exact dpre_real (hr _) _

/-- The convolved columns and the weights, as a point's blocks hold them. -/
theorem u_blk (c : Dev nD) (t : Fin cfg0.N) :
    iblk m c 0 t = fun i : S4096x256.Idx => m ((c : Thread nD τ).loc main_arg0) (ix2 (i 0) ⟨4096 + (256 * t.val + (i 1).val), by have := col t (i 1); omega⟩) := by
  funext i
  have e0 := idx0 t
  blk_simp [iblk]
  rw [V_main_arg0]
  congr 1; blk_ext [e0]
theorem w_blk (c : Dev nD) (t : Fin cfg0.N) :
    iblk m c 1 t = fun i : S4x256.Idx => m ((c : Thread nD τ).loc main_arg1) (ix2 (i 0) ⟨256 * t.val + (i 1).val, col t (i 1)⟩) := by
  funext i
  have e1 := idx1 t
  blk_simp [iblk]
  rw [V_main_arg1]
  congr 1; blk_ext [e1]

/-- A block rotated by `s` rows upwards. -/
def rot (s : ℕ) (D : S4096x256.Idx → EReal) : S4096x256.Idx → EReal := fun i => D (ix2 ⟨((i 0).val + s) % 4096, Nat.mod_lt _ (by norm_num)⟩ (i 1))

theorem rot_eq (n : BitVec 32) (s : ℕ) (hn : n.toNat = 4096 - s) (hs : s ≤ 4096) (h0 : 0 < s) (D : S4096x256.Idx → EReal) :
    dynamicRotate (s := S4096x256) 0 n none D rotates_S4096x256_d0 = rot s D := by
  funext i
  refine dynamicRotate_apply _ _ _ _ _ _ fun b => ?_
  fin_cases b
  · show ((i 0).val + s) % 4096 = ((i 0).val + 4096 - n.toNat % 4096) % 4096
    have := (i 0).isLt
    rw [hn, Nat.mod_eq_of_lt (by omega : 4096 - s < 4096)]
    congr 1; omega
  · rfl

theorem rot_lt (s : ℕ) (D : S4096x256.Idx → EReal) (p : Fin 4096) (j : Fin 256) (h : s + p < 4096) :
    rot s D (ix2 p j) = D (ix2 ⟨s + p, h⟩ j) := by
  show D (ix2 ⟨(p.val + s) % 4096, _⟩ j) = _
  congr 2
  exact Fin.ext ((Nat.mod_eq_of_lt (by omega)).trans (Nat.add_comm _ _))

/-- A block's last rows, by their number's word. -/
theorem mask1 : ∀ r : Fin 16, IntOp.cmpi .sge (BitVec.ofNat 32 r) 15#32 = if 16 ≤ (r : ℕ) + 1 then 1#1 else 0#1 := by decide
theorem mask2 : ∀ r : Fin 16, IntOp.cmpi .sge (BitVec.ofNat 32 r) 14#32 = if 16 ≤ (r : ℕ) + 2 then 1#1 else 0#1 := by decide
theorem mask3 : ∀ r : Fin 16, IntOp.cmpi .sge (BitVec.ofNat 32 r) 13#32 = if 16 ≤ (r : ℕ) + 3 then 1#1 else 0#1 := by decide
theorem select_if (p : Prop) [Decidable p] (a b : EReal) : Scalar.select (if p then 1#1 else 0#1) a b = if p then a else b := by
  by_cases h : p
  · rw [if_pos h, if_pos h]; rfl
  · rw [if_neg h, if_neg h]; rfl

/-- The weights' gradient a row at a time: the sums over the rows that have a row `s` after, … -/
theorem dw0 (D U : S4096x256.Idx → EReal) (hD : ∀ i, IsReal (D i)) (hU : ∀ i, IsReal (U i)) (y : S1x256.Idx) :
    k0_pay3 (F := Ideal) U D (iota Kind.tc S16x256 32 [0] iota_S16x256_d0_w32) 4093#32 y
      = ∑ k : Fin 4093, D (ix2 ⟨3 + k, by omega⟩ (y 1)) * U (ix2 ⟨k, by omega⟩ (y 1)) := by
  unfold k0_pay3 k0_pay1 k0_pay2
  rw [rot_eq 4093#32 3 rfl (by norm_num) (by norm_num)]
  pointwise
  unfold rot
  pointwise
  simp only [mask3, select_if]
  exact conv_dw 3 4093 rfl (by norm_num) (fun k => D (ix2 k (y 1))) (fun k => U (ix2 k (y 1))) (fun _ => hD _) fun _ => hU _
theorem dw1 (D U : S4096x256.Idx → EReal) (hD : ∀ i, IsReal (D i)) (hU : ∀ i, IsReal (U i)) (y : S1x256.Idx) :
    k0_pay20 (F := Ideal) U D (iota Kind.tc S16x256 32 [0] iota_S16x256_d0_w32) y
      = ∑ k : Fin 4094, D (ix2 ⟨2 + k, by omega⟩ (y 1)) * U (ix2 ⟨k, by omega⟩ (y 1)) := by
  unfold k0_pay20 k0_pay16 k0_pay17
  rw [rot_eq 4094#32 2 rfl (by norm_num) (by norm_num)]
  pointwise
  unfold rot
  pointwise
  simp only [mask2, select_if]
  exact conv_dw 2 4094 rfl (by norm_num) (fun k => D (ix2 k (y 1))) (fun k => U (ix2 k (y 1))) (fun _ => hD _) fun _ => hU _
theorem dw2 (D U : S4096x256.Idx → EReal) (hD : ∀ i, IsReal (D i)) (hU : ∀ i, IsReal (U i)) (y : S1x256.Idx) :
    k0_pay15 (F := Ideal) U (rot 1 D) k0_pay11 y
      = ∑ k : Fin 4095, D (ix2 ⟨1 + k, by omega⟩ (y 1)) * U (ix2 ⟨k, by omega⟩ (y 1)) := by
  unfold k0_pay15 k0_pay11
  pointwise
  unfold rot
  pointwise
  simp only [mask1, select_if]
  exact conv_dw 1 4095 rfl (by norm_num) (fun k => D (ix2 k (y 1))) (fun k => U (ix2 k (y 1))) (fun _ => hD _) fun _ => hU _

/-- … and the reference's, whose padding's zeros add nothing. -/
theorem ref_row (c : Dev nD) (k : Fin 4) (j : Fin 3072) : val_main_v106 (F := Ideal) (m ((c : Thread nD τ).loc main_arg0)) (m ((c : Thread nD τ).loc main_arg1)) (m ((c : Thread nD τ).loc main_arg2)) (ix2 k j)
    = ∑ i : Fin (4093 + k), mulE (dpre m c (ix2 ⟨3 - k + i, by omega⟩ j)) (m ((c : Thread nD τ).loc main_arg0) (ix2 ⟨i, by omega⟩ ⟨4096 + j, by omega⟩)) := by
  have hz : ∀ (n : ℕ) (f : Fin n → EReal), (∑ x, f x * 0) = 0 := fun n f => Finset.sum_eq_zero fun x _ => mul_zero _
  fin_cases k
  · pointwise [val_main_cst, val_main_v0, val_main_v1, val_main_v2, val_main_v3, val_main_cst_0, val_main_v4, val_main_v5, val_main_v6, val_main_cst_1, val_main_v7, val_main_v8, val_main_v9, val_main_v10, val_main_v11, val_main_v12, val_main_v13, val_main_v14, val_main_cst_2, val_main_v15, val_main_v16, val_main_v17, val_main_cst_3, val_main_v18, val_main_v19, val_main_v20, val_main_v21, val_main_v22, val_main_v23, val_main_v24, val_main_cst_4, val_main_v25, val_main_v26, val_main_v27, val_main_cst_5, val_main_v28, val_main_v29, val_main_v30, val_main_v31, val_main_v32, val_main_v33, val_main_v34, val_main_cst_6, val_main_v35, val_main_v36, val_main_cst_7, val_main_v37, val_main_v38, val_main_v39, val_main_v40, val_main_v42, val_main_v43, val_main_cst_8, val_main_v44, val_main_v45, val_main_cst_9, val_main_v46, val_main_v47, val_main_cst_10, val_main_v48, val_main_v49, val_main_v50, val_main_v51, val_main_v52, val_main_v53, val_main_v54, val_main_v56, val_main_v57, val_main_v58, val_main_cst_11, val_main_v59, val_main_v60, val_main_cst_12, val_main_v61, val_main_v62, val_main_v63, val_main_v64, val_main_cst_13, val_main_v65, val_main_v66, val_main_v67, val_main_v68, val_main_cst_14, val_main_v69, val_main_v70, val_main_cst_15, val_main_v71, val_main_v72, val_main_v73, val_main_cst_16, val_main_v74, val_main_v75, val_main_v76, val_main_cst_17, val_main_v77, val_main_v78, val_main_v79, val_main_v80, val_main_v81, val_main_cst_18, val_main_v82, val_main_v83, val_main_cst_19, val_main_v84, val_main_v85, val_main_v86, val_main_cst_20, val_main_v87, val_main_v88, val_main_v89, val_main_cst_21, val_main_v90, val_main_v91, val_main_cst_22, val_main_v92, val_main_v93, val_main_v94, val_main_v95, val_main_v96, val_main_cst_23, val_main_v97, val_main_v98, val_main_cst_24, val_main_v99, val_main_v100, val_main_v101, val_main_cst_25, val_main_v102, val_main_v103, val_main_v104, val_main_cst_26, val_main_v105, val_main_v106, val_main_v107, val_main_c, val_main_c_27, val_main_v108]
    refine (Fin.sum_univ_one (M := EReal) _).trans ?_
    refine (congrArg (· + _) (hz _ _)).trans ((zero_add (M := EReal) _).trans ?_)
    rfl
  · pointwise [val_main_cst, val_main_v0, val_main_v1, val_main_v2, val_main_v3, val_main_cst_0, val_main_v4, val_main_v5, val_main_v6, val_main_cst_1, val_main_v7, val_main_v8, val_main_v9, val_main_v10, val_main_v11, val_main_v12, val_main_v13, val_main_v14, val_main_cst_2, val_main_v15, val_main_v16, val_main_v17, val_main_cst_3, val_main_v18, val_main_v19, val_main_v20, val_main_v21, val_main_v22, val_main_v23, val_main_v24, val_main_cst_4, val_main_v25, val_main_v26, val_main_v27, val_main_cst_5, val_main_v28, val_main_v29, val_main_v30, val_main_v31, val_main_v32, val_main_v33, val_main_v34, val_main_cst_6, val_main_v35, val_main_v36, val_main_cst_7, val_main_v37, val_main_v38, val_main_v39, val_main_v40, val_main_v42, val_main_v43, val_main_cst_8, val_main_v44, val_main_v45, val_main_cst_9, val_main_v46, val_main_v47, val_main_cst_10, val_main_v48, val_main_v49, val_main_v50, val_main_v51, val_main_v52, val_main_v53, val_main_v54, val_main_v56, val_main_v57, val_main_v58, val_main_cst_11, val_main_v59, val_main_v60, val_main_cst_12, val_main_v61, val_main_v62, val_main_v63, val_main_v64, val_main_cst_13, val_main_v65, val_main_v66, val_main_v67, val_main_v68, val_main_cst_14, val_main_v69, val_main_v70, val_main_cst_15, val_main_v71, val_main_v72, val_main_v73, val_main_cst_16, val_main_v74, val_main_v75, val_main_v76, val_main_cst_17, val_main_v77, val_main_v78, val_main_v79, val_main_v80, val_main_v81, val_main_cst_18, val_main_v82, val_main_v83, val_main_cst_19, val_main_v84, val_main_v85, val_main_v86, val_main_cst_20, val_main_v87, val_main_v88, val_main_v89, val_main_cst_21, val_main_v90, val_main_v91, val_main_cst_22, val_main_v92, val_main_v93, val_main_v94, val_main_v95, val_main_v96, val_main_cst_23, val_main_v97, val_main_v98, val_main_cst_24, val_main_v99, val_main_v100, val_main_v101, val_main_cst_25, val_main_v102, val_main_v103, val_main_v104, val_main_cst_26, val_main_v105, val_main_v106, val_main_v107, val_main_c, val_main_c_27, val_main_v108]
    refine (Fin.sum_univ_one (M := EReal) _).trans ?_
    refine (congrArg (· + _) (hz _ _)).trans ((zero_add (M := EReal) _).trans ?_)
    rfl
  · pointwise [val_main_cst, val_main_v0, val_main_v1, val_main_v2, val_main_v3, val_main_cst_0, val_main_v4, val_main_v5, val_main_v6, val_main_cst_1, val_main_v7, val_main_v8, val_main_v9, val_main_v10, val_main_v11, val_main_v12, val_main_v13, val_main_v14, val_main_cst_2, val_main_v15, val_main_v16, val_main_v17, val_main_cst_3, val_main_v18, val_main_v19, val_main_v20, val_main_v21, val_main_v22, val_main_v23, val_main_v24, val_main_cst_4, val_main_v25, val_main_v26, val_main_v27, val_main_cst_5, val_main_v28, val_main_v29, val_main_v30, val_main_v31, val_main_v32, val_main_v33, val_main_v34, val_main_cst_6, val_main_v35, val_main_v36, val_main_cst_7, val_main_v37, val_main_v38, val_main_v39, val_main_v40, val_main_v42, val_main_v43, val_main_cst_8, val_main_v44, val_main_v45, val_main_cst_9, val_main_v46, val_main_v47, val_main_cst_10, val_main_v48, val_main_v49, val_main_v50, val_main_v51, val_main_v52, val_main_v53, val_main_v54, val_main_v56, val_main_v57, val_main_v58, val_main_cst_11, val_main_v59, val_main_v60, val_main_cst_12, val_main_v61, val_main_v62, val_main_v63, val_main_v64, val_main_cst_13, val_main_v65, val_main_v66, val_main_v67, val_main_v68, val_main_cst_14, val_main_v69, val_main_v70, val_main_cst_15, val_main_v71, val_main_v72, val_main_v73, val_main_cst_16, val_main_v74, val_main_v75, val_main_v76, val_main_cst_17, val_main_v77, val_main_v78, val_main_v79, val_main_v80, val_main_v81, val_main_cst_18, val_main_v82, val_main_v83, val_main_cst_19, val_main_v84, val_main_v85, val_main_v86, val_main_cst_20, val_main_v87, val_main_v88, val_main_v89, val_main_cst_21, val_main_v90, val_main_v91, val_main_cst_22, val_main_v92, val_main_v93, val_main_v94, val_main_v95, val_main_v96, val_main_cst_23, val_main_v97, val_main_v98, val_main_cst_24, val_main_v99, val_main_v100, val_main_v101, val_main_cst_25, val_main_v102, val_main_v103, val_main_v104, val_main_cst_26, val_main_v105, val_main_v106, val_main_v107, val_main_c, val_main_c_27, val_main_v108]
    refine (Fin.sum_univ_one (M := EReal) _).trans ?_
    refine (congrArg (· + _) (hz _ _)).trans ((zero_add (M := EReal) _).trans ?_)
    rfl
  · pointwise [val_main_cst, val_main_v0, val_main_v1, val_main_v2, val_main_v3, val_main_cst_0, val_main_v4, val_main_v5, val_main_v6, val_main_cst_1, val_main_v7, val_main_v8, val_main_v9, val_main_v10, val_main_v11, val_main_v12, val_main_v13, val_main_v14, val_main_cst_2, val_main_v15, val_main_v16, val_main_v17, val_main_cst_3, val_main_v18, val_main_v19, val_main_v20, val_main_v21, val_main_v22, val_main_v23, val_main_v24, val_main_cst_4, val_main_v25, val_main_v26, val_main_v27, val_main_cst_5, val_main_v28, val_main_v29, val_main_v30, val_main_v31, val_main_v32, val_main_v33, val_main_v34, val_main_cst_6, val_main_v35, val_main_v36, val_main_cst_7, val_main_v37, val_main_v38, val_main_v39, val_main_v40, val_main_v42, val_main_v43, val_main_cst_8, val_main_v44, val_main_v45, val_main_cst_9, val_main_v46, val_main_v47, val_main_cst_10, val_main_v48, val_main_v49, val_main_v50, val_main_v51, val_main_v52, val_main_v53, val_main_v54, val_main_v56, val_main_v57, val_main_v58, val_main_cst_11, val_main_v59, val_main_v60, val_main_cst_12, val_main_v61, val_main_v62, val_main_v63, val_main_v64, val_main_cst_13, val_main_v65, val_main_v66, val_main_v67, val_main_v68, val_main_cst_14, val_main_v69, val_main_v70, val_main_cst_15, val_main_v71, val_main_v72, val_main_v73, val_main_cst_16, val_main_v74, val_main_v75, val_main_v76, val_main_cst_17, val_main_v77, val_main_v78, val_main_v79, val_main_v80, val_main_v81, val_main_cst_18, val_main_v82, val_main_v83, val_main_cst_19, val_main_v84, val_main_v85, val_main_v86, val_main_cst_20, val_main_v87, val_main_v88, val_main_v89, val_main_cst_21, val_main_v90, val_main_v91, val_main_cst_22, val_main_v92, val_main_v93, val_main_v94, val_main_v95, val_main_v96, val_main_cst_23, val_main_v97, val_main_v98, val_main_cst_24, val_main_v99, val_main_v100, val_main_v101, val_main_cst_25, val_main_v102, val_main_v103, val_main_v104, val_main_cst_26, val_main_v105, val_main_v106, val_main_v107, val_main_c, val_main_c_27, val_main_v108]
    refine (Fin.sum_univ_one (M := EReal) _).trans ?_
    refine Finset.sum_congr (M := EReal) rfl fun i _ => ?_
    rw [dif_neg (Nat.not_lt_zero _)]

/-- The precondition: the convolved columns and the cotangent are real numbers. -/
theorem real_args [Cert.Pre_conv_gdn_finite.Facts] (h : Cert.Pre_ConvGdnGradIdeal_conv_gdn_finite m) (c : Dev nD) :
    (∀ i, IsReal (m ((c : Thread nD τ).loc main_arg0) i)) ∧ ∀ i, IsReal (m ((c : Thread nD τ).loc main_arg2) i) := by
  have h := congrFun (h c) ix0
  pointwise [Cert.Pre_conv_gdn_finite.fn] at h
  obtain ⟨h0, h1⟩ := andi_one h
  exact ⟨real_of_fold (φ := .f32) _ h0, real_of_fold (φ := .f32) _ h1⟩

/-- The weights' gradient. -/
theorem final5 (c : Dev nD) (hr : (∀ i, IsReal (m ((c : Thread nD τ).loc main_arg0) i)) ∧ ∀ i, IsReal (m ((c : Thread nD τ).loc main_arg2) i)) : (dats m 0 c).arrAt 5 cfg0.N
    = val_main_v106 (F := Ideal) (m ((c : Thread nD τ).loc main_arg0)) (m ((c : Thread nD τ).loc main_arg1)) (m ((c : Thread nD τ).loc main_arg2)) := by
  refine (dats m 0 c).arrAt_eq_of_covers 5 _ (by decide +kernel) fun t hf z => ?_
  have e5 := idx5 t
  blk_simp
  rw [after0_5]
  unfold outsAt0
  frame_out
  have hU : ∀ i, IsReal (iblk m c 0 t i) := fun i => by rw [u_blk]; exact hr.1 _
  have hD : ∀ i, IsReal (dpre m c i) := dpre_is m c hr.2
  canon_tiles y
  case piece0 =>
    rw [dpre_blk m c hr.2 t, dw0 _ _ (fun _ => hD _) hU, u_blk,
      show ((View.whole main_v38_1).slice (win0_5.rect t)).emb z = ix2 0 ⟨256 * t.val + (y 1).val, col t (y 1)⟩ by blk_ext [e5], ref_row]
    rfl
  case piece1 =>
    rw [dpre_blk m c hr.2 t, dw1 _ _ (fun _ => hD _) hU, u_blk,
      show ((View.whole main_v38_1).slice (win0_5.rect t)).emb z = ix2 1 ⟨256 * t.val + (y 1).val, col t (y 1)⟩ by blk_ext [e5], ref_row]
    rfl
  case piece2 =>
    unfold k0_pay10
    rw [dpre_blk m c hr.2 t, rot_eq 4095#32 1 rfl (by norm_num) (by norm_num), dw2 _ _ (fun _ => hD _) hU, u_blk,
      show ((View.whole main_v38_1).slice (win0_5.rect t)).emb z = ix2 2 ⟨256 * t.val + (y 1).val, col t (y 1)⟩ by blk_ext [e5], ref_row]
    rfl
  case piece3 =>
    unfold k0_pay9
    rw [dpre_blk m c hr.2 t, u_blk,
      show ((View.whole main_v38_1).slice (win0_5.rect t)).emb z = ix2 3 ⟨256 * t.val + (y 1).val, col t (y 1)⟩ by blk_ext [e5], ref_row]
    pointwise

/-- The input's gradient lies in its columns of the wide array. -/
theorem ref_wide (c : Dev nD) (i : Fin 4096) (j : Fin 3072) : val_main_v108 (F := Ideal) (m ((c : Thread nD τ).loc main_arg0)) (m ((c : Thread nD τ).loc main_arg1)) (m ((c : Thread nD τ).loc main_arg2)) (m ((c : Thread nD τ).loc main_arg3)) (ix2 i ⟨4096 + j, by omega⟩)
    = val_main_v103 (F := Ideal) (m ((c : Thread nD τ).loc main_arg0)) (m ((c : Thread nD τ).loc main_arg1)) (m ((c : Thread nD τ).loc main_arg2)) (ix2 i j) := by
  unfold val_main_v108
  rw [Host.dynamicUpdateSlice_eq_updateSlice _ _ _ _ ![0, 4096] (by intro a; fin_cases a <;> rfl) (by decide)]
  pointwise [val_main_v107]
  exact dif_pos (by omega)

/-- Its rows that have three rows after, … -/
theorem dx_most (c : Dev nD) (t : Fin cfg0.N) (hr : ∀ i, IsReal (m ((c : Thread nD τ).loc main_arg2) i)) (p : Fin 4096) (j : Fin 256) (hp : p.val < 4080) :
    k0_pay4 (F := Ideal) (iblk m c 1 t) (k0_pay7 (iblk m c 2 t) (iblk m c 3 t))
        (k0_pay18 (iblk m c 1 t) (k0_pay7 (iblk m c 2 t) (iblk m c 3 t)) (k0_pay12 (iblk m c 1 t) (iblk m c 2 t) (iblk m c 3 t))) 4093#32 (ix2 p j)
      = val_main_v103 (F := Ideal) (m ((c : Thread nD τ).loc main_arg0)) (m ((c : Thread nD τ).loc main_arg1)) (m ((c : Thread nD τ).loc main_arg2)) (ix2 p ⟨256 * t.val + j, col t j⟩) := by
  unfold k0_pay4 k0_pay18 k0_pay12 k0_pay10 k0_pay1 k0_pay16
  rw [dpre_blk m c hr t, w_blk, rot_eq 4093#32 3 rfl (by norm_num) (by norm_num), rot_eq 4094#32 2 rfl (by norm_num) (by norm_num), rot_eq 4095#32 1 rfl (by norm_num) (by norm_num)]
  pointwise [val_main_cst, val_main_v0, val_main_v1, val_main_v2, val_main_v3, val_main_cst_0, val_main_v4, val_main_v5, val_main_v6, val_main_cst_1, val_main_v7, val_main_v8, val_main_v9, val_main_v10, val_main_v11, val_main_v12, val_main_v13, val_main_v14, val_main_cst_2, val_main_v15, val_main_v16, val_main_v17, val_main_cst_3, val_main_v18, val_main_v19, val_main_v20, val_main_v21, val_main_v22, val_main_v23, val_main_v24, val_main_cst_4, val_main_v25, val_main_v26, val_main_v27, val_main_cst_5, val_main_v28, val_main_v29, val_main_v30, val_main_v31, val_main_v32, val_main_v33, val_main_v34, val_main_cst_6, val_main_v35, val_main_v36, val_main_cst_7, val_main_v37, val_main_v38, val_main_v39, val_main_v40, val_main_v42, val_main_v43, val_main_cst_8, val_main_v44, val_main_v45, val_main_cst_9, val_main_v46, val_main_v47, val_main_cst_10, val_main_v48, val_main_v49, val_main_v50, val_main_v51, val_main_v52, val_main_v53, val_main_v54, val_main_v56, val_main_v57, val_main_v58, val_main_cst_11, val_main_v59, val_main_v60, val_main_cst_12, val_main_v61, val_main_v62, val_main_v63, val_main_v64, val_main_cst_13, val_main_v65, val_main_v66, val_main_v67, val_main_v68, val_main_cst_14, val_main_v69, val_main_v70, val_main_cst_15, val_main_v71, val_main_v72, val_main_v73, val_main_cst_16, val_main_v74, val_main_v75, val_main_v76, val_main_cst_17, val_main_v77, val_main_v78, val_main_v79, val_main_v80, val_main_v81, val_main_cst_18, val_main_v82, val_main_v83, val_main_cst_19, val_main_v84, val_main_v85, val_main_v86, val_main_cst_20, val_main_v87, val_main_v88, val_main_v89, val_main_cst_21, val_main_v90, val_main_v91, val_main_cst_22, val_main_v92, val_main_v93, val_main_v94, val_main_v95, val_main_v96, val_main_cst_23, val_main_v97, val_main_v98, val_main_cst_24, val_main_v99, val_main_v100, val_main_v101, val_main_cst_25, val_main_v102, val_main_v103, val_main_v104, val_main_cst_26, val_main_v105, val_main_v106, val_main_v107, val_main_c, val_main_c_27, val_main_v108]
  have hc := col t j
  rw [rot_lt 1 _ _ _ (by omega), rot_lt 2 _ _ _ (by omega), rot_lt 3 _ _ _ (by omega), dif_pos (by omega), dif_pos (by omega), dif_pos (by omega)]
  rfl

/-- … and its last rows, the rows after the end being zeros. -/
theorem dx_last (c : Dev nD) (t : Fin cfg0.N) (hr : ∀ i, IsReal (m ((c : Thread nD τ).loc main_arg2) i)) (r : Fin 16) (j : Fin 256) :
    k0_pay5 (F := Ideal) (iblk m c 1 t) (k0_pay7 (iblk m c 2 t) (iblk m c 3 t)) (iota Kind.tc S16x256 32 [0] iota_S16x256_d0_w32)
        (k0_pay19 (iblk m c 1 t) (k0_pay7 (iblk m c 2 t) (iblk m c 3 t)) (iota Kind.tc S16x256 32 [0] iota_S16x256_d0_w32) (k0_pay8 (iblk m c 1 t) (iblk m c 2 t) (iblk m c 3 t))
          k0_pay11 (k0_pay13 (iblk m c 1 t)) (k0_pay14 (iblk m c 2 t) (iblk m c 3 t))) 4093#32 (ix2 r j)
      = val_main_v103 (F := Ideal) (m ((c : Thread nD τ).loc main_arg0)) (m ((c : Thread nD τ).loc main_arg1)) (m ((c : Thread nD τ).loc main_arg2)) (ix2 ⟨4080 + r, by omega⟩ ⟨256 * t.val + j, col t j⟩) := by
  unfold k0_pay5 k0_pay19 k0_pay8 k0_pay11 k0_pay13 k0_pay14 k0_pay10 k0_pay1 k0_pay2 k0_pay16 k0_pay17
  rw [dpre_blk m c hr t, w_blk, rot_eq 4093#32 3 rfl (by norm_num) (by norm_num), rot_eq 4094#32 2 rfl (by norm_num) (by norm_num), rot_eq 4095#32 1 rfl (by norm_num) (by norm_num)]
  pointwise [val_main_cst, val_main_v0, val_main_v1, val_main_v2, val_main_v3, val_main_cst_0, val_main_v4, val_main_v5, val_main_v6, val_main_cst_1, val_main_v7, val_main_v8, val_main_v9, val_main_v10, val_main_v11, val_main_v12, val_main_v13, val_main_v14, val_main_cst_2, val_main_v15, val_main_v16, val_main_v17, val_main_cst_3, val_main_v18, val_main_v19, val_main_v20, val_main_v21, val_main_v22, val_main_v23, val_main_v24, val_main_cst_4, val_main_v25, val_main_v26, val_main_v27, val_main_cst_5, val_main_v28, val_main_v29, val_main_v30, val_main_v31, val_main_v32, val_main_v33, val_main_v34, val_main_cst_6, val_main_v35, val_main_v36, val_main_cst_7, val_main_v37, val_main_v38, val_main_v39, val_main_v40, val_main_v42, val_main_v43, val_main_cst_8, val_main_v44, val_main_v45, val_main_cst_9, val_main_v46, val_main_v47, val_main_cst_10, val_main_v48, val_main_v49, val_main_v50, val_main_v51, val_main_v52, val_main_v53, val_main_v54, val_main_v56, val_main_v57, val_main_v58, val_main_cst_11, val_main_v59, val_main_v60, val_main_cst_12, val_main_v61, val_main_v62, val_main_v63, val_main_v64, val_main_cst_13, val_main_v65, val_main_v66, val_main_v67, val_main_v68, val_main_cst_14, val_main_v69, val_main_v70, val_main_cst_15, val_main_v71, val_main_v72, val_main_v73, val_main_cst_16, val_main_v74, val_main_v75, val_main_v76, val_main_cst_17, val_main_v77, val_main_v78, val_main_v79, val_main_v80, val_main_v81, val_main_cst_18, val_main_v82, val_main_v83, val_main_cst_19, val_main_v84, val_main_v85, val_main_v86, val_main_cst_20, val_main_v87, val_main_v88, val_main_v89, val_main_cst_21, val_main_v90, val_main_v91, val_main_cst_22, val_main_v92, val_main_v93, val_main_v94, val_main_v95, val_main_v96, val_main_cst_23, val_main_v97, val_main_v98, val_main_cst_24, val_main_v99, val_main_v100, val_main_v101, val_main_cst_25, val_main_v102, val_main_v103, val_main_v104, val_main_cst_26, val_main_v105, val_main_v106, val_main_v107, val_main_c, val_main_c_27, val_main_v108]
  have hc := col t j
  rw [mask1 r, mask2 r, mask3 r]
  simp only [select_if]
  congr 1
  · congr 1
    · congr 1
      by_cases h : 16 ≤ r.val + 1
      · rw [if_pos h, dif_neg (by omega)]
      · rw [if_neg h, dif_pos (by omega), rot_lt 1 _ _ _ (by show 1 + (4080 + r.val) < 4096; omega)]; rfl
    · by_cases h : 16 ≤ r.val + 2
      · rw [if_pos h, dif_neg (by omega)]
      · rw [if_neg h, dif_pos (by omega), rot_lt 2 _ _ _ (by show 2 + (4080 + r.val) < 4096; omega)]; rfl
  · by_cases h : 16 ≤ r.val + 3
    · rw [if_pos h, dif_neg (by omega)]
    · rw [if_neg h, dif_pos (by omega), rot_lt 3 _ _ _ (by show 3 + (4080 + r.val) < 4096; omega)]; rfl

/-- The wide result holds the input's gradient in its columns, and what the buffer held at first in the others. -/
theorem final4 (c : Dev nD) (hr : ∀ i, IsReal (m ((c : Thread nD τ).loc main_arg2) i)) (i : S4096x8960.Idx) : (dats m 0 c).arrAt 4 cfg0.N i
    = if 16 ≤ (i 1 : ℕ) / 256 ∧ (i 1 : ℕ) / 256 < 28 then val_main_v108 (F := Ideal) (m ((c : Thread nD τ).loc main_arg0)) (m ((c : Thread nD τ).loc main_arg1)) (m ((c : Thread nD τ).loc main_arg2)) (m ((c : Thread nD τ).loc main_arg3)) i else V m c main_v38_0 i := by
  refine (dats m 0 c).arrAt_apply_of_coversWhere 4 _ (P := fun i : S4096x8960.Idx => 16 ≤ (i 1 : ℕ) / 256 ∧ (i 1 : ℕ) / 256 < 28) (fun β => 16 ≤ β (1 : Fin _) ∧ β (1 : Fin _) < 28) (by decide +kernel)
          (fun t hf y => ?_) (fun j => Iff.rfl) i
  have e4 := idx4 t
  blk_simp
  rw [after0_4]
  unfold outsAt0
  frame_out
  have h1 : (y (1 : Fin 2)).val < 256 := (y (1 : Fin 2)).isLt
  have h0 : (y (0 : Fin 2)).val < 4096 := (y (0 : Fin 2)).isLt
  rw [show ((View.whole main_v38_0).slice (win0_4.rect t)).emb y = ix2 ⟨(y (0 : Fin 2)).val, h0⟩ ⟨4096 + (256 * t.val + (y (1 : Fin 2)).val), by have := col t ⟨_, h1⟩; simp only at this; omega⟩ by blk_ext [e4],
    ref_wide m c ⟨(y (0 : Fin 2)).val, h0⟩ ⟨256 * t.val + (y (1 : Fin 2)).val, col t ⟨_, h1⟩⟩]
  by_cases h : 4080 ≤ (y (0 : Fin 2)).val
  · have hy : y = (Rect.unit (s := S4096x256) ![4080, 0] ![16, 256] inb_S4096x256_S16x256_4080_0).emb (ix2 ⟨(y (0 : Fin 2)).val - 4080, by omega⟩ ⟨(y (1 : Fin 2)).val, h1⟩) := by
      funext a
      fin_cases a
      · exact Fin.ext (by show (y (0 : Fin 2)).val = 4080 + 1 * ((y (0 : Fin 2)).val - 4080); omega)
      · exact Fin.ext (by show (y (1 : Fin 2)).val = 0 + 1 * (y (1 : Fin 2)).val; omega)
    refine (congrArg (View.canon _) hy).trans ((View.canon_cons_emb _ _ _ _).trans ((dx_last m c t hr _ _).trans ?_))
    congr 2
    exact Fin.ext (by show 4080 + ((y (0 : Fin 2)).val - 4080) = (y (0 : Fin 2)).val; omega)
  · rw [View.canon_cons_of_not_mem _ _ (Rect.not_mem_set_of_axis _ _ 0 4080 16 rfl rfl rfl (Or.inl (by omega))),
      View.canon_cons_unit_lit inb_S4096x256_S4096x256_0_0 _ _ (by intro a; fin_cases a <;> rfl)]
    refine Eq.trans (congrArg _ (show y = ix2 ⟨(y (0 : Fin 2)).val, h0⟩ ⟨(y (1 : Fin 2)).val, h1⟩ by blk_ext)) (dx_most m c t hr _ _ (by show (y (0 : Fin 2)).val < 4080; omega))

/-- In the other columns the reference leaves the array as it was. -/
theorem ref_other (c : Dev nD) (i : S4096x8960.Idx) (h : ¬(16 ≤ (i 1 : ℕ) / 256 ∧ (i 1 : ℕ) / 256 < 28)) : val_main_v108 (F := Ideal) (m ((c : Thread nD τ).loc main_arg0)) (m ((c : Thread nD τ).loc main_arg1)) (m ((c : Thread nD τ).loc main_arg2)) (m ((c : Thread nD τ).loc main_arg3)) i
    = m ((c : Thread nD τ).loc main_arg3) i := by
  unfold val_main_v108
  rw [Host.dynamicUpdateSlice_eq_updateSlice _ _ _ _ ![0, 4096] (by intro a; fin_cases a <;> rfl) (by decide)]
  pointwise
  exact dif_neg (by omega)

theorem entry4 (c : Dev nD) : V m c main_v38_0 = m ((c : Thread nD τ).loc main_arg3) := by
  entry_read
  rfl

theorem final4' (c : Dev nD) (hr : ∀ i, IsReal (m ((c : Thread nD τ).loc main_arg2) i)) : (dats m 0 c).arrAt 4 cfg0.N = val_main_v108 (F := Ideal) (m ((c : Thread nD τ).loc main_arg0)) (m ((c : Thread nD τ).loc main_arg1)) (m ((c : Thread nD τ).loc main_arg2)) (m ((c : Thread nD τ).loc main_arg3)) := by
  funext i
  rw [final4 m c hr]
  by_cases h : 16 ≤ (i 1 : ℕ) / 256 ∧ (i 1 : ℕ) / 256 < 28
  · rw [if_pos h]
  · rw [if_neg h, ref_other m c i h, entry4]

/-- From launches that agree on the arguments, kernel and reference end with the same results. -/
theorem algebraic [Cert.Pre_conv_gdn_finite.Facts] : Cert.algebraic_ConvGdnGradIdeal_ConvGdnGradRefIdeal_pre_conv_gdn_finite := fun m g m' g' hp hagree =>
  ⟨fun c => val_main_v108 (F := Ideal) (m ((c : Thread nD τ).loc main_arg0)) (m ((c : Thread nD τ).loc main_arg1)) (m ((c : Thread nD τ).loc main_arg2)) (m ((c : Thread nD τ).loc main_arg3)), fun c => val_main_v106 (F := Ideal) (m ((c : Thread nD τ).loc main_arg0)) (m ((c : Thread nD τ).loc main_arg1)) (m ((c : Thread nD τ).loc main_arg2)),
    (θ_run defs _ _).mono (fun _ h c => ⟨(h c).1.trans (final4' m c (real_args m hp c).2), (h c).2.1.trans (final5 m c (real_args m hp c)), (h c).2.2.2⟩) (run_blocks m g),
    (θ_run Cert.ConvGdnGradRefIdeal.defs _ _).mono (fun _ h c => ⟨(h c).1.trans ((val_main_v108_eq m' c).trans (by rw [(hagree c).1, (hagree c).2.1, (hagree c).2.2.1, (hagree c).2.2.2])),
        (h c).2.1.trans ((val_main_v106_eq m' c).trans (by rw [(hagree c).1, (hagree c).2.1, (hagree c).2.2.1])), (h c).2.2⟩)
      (Cert.ConvGdnGradRefIdeal.Value.run m' g')⟩

end Cert.Proof.ConvGdnGrad

end
-- ==== Proof.GateNorm.lean ====
/- The gated group norm's gradient over the extended reals: RMSNorm over groups of 512 of the rows that a gate scaled, in the
   kernel's form (the normalised row and one mean) and in the chain rule's; for rows that are real numbers. -/
module

public import proofs.«01_k».proof.Proof.Norm

@[expose] public section

noncomputable section

namespace Cert.Proof

open Idealize.ShloMosaic

theorem bits_512 : Ideal.ofBits FTy.f32 1140850688#32 = ((512 : ℝ) : EReal) := by
  simp [Ideal.ofBits, Ideal.ieee]; norm_num; rw [← EReal.coe_mul]; congr 1; norm_num

/-- A group's mean square, the small constant added. -/
def groupSq {n : Nat} (X : Fin n → EReal) : EReal :=
  Ideal.div (∑ k, X k * X k) (Ideal.ofBits FTy.f32 1140850688#32) + Ideal.ofBits FTy.f32 897988541#32

theorem div_512 (x : EReal) : Ideal.div x ((512 : ℝ) : EReal) = x * (((1 : ℝ) / 512 : ℝ) : EReal) :=
  Ideal.div_coe (by norm_num) x

/-- Of a group of real numbers it is a positive real number. -/
theorem groupSq_pos {n : Nat} (x : Fin n → ℝ) : ∃ v : ℝ, 0 < v ∧ groupSq (fun k => (x k : EReal)) = (v : EReal) := by
  obtain ⟨e, he, hb⟩ := bits_eps
  refine ⟨(∑ k, x k * x k) * (1 / 512) + e, ?_, ?_⟩
  · have : 0 ≤ ∑ k, x k * x k := Finset.sum_nonneg fun k _ => mul_self_nonneg _
    positivity
  · unfold groupSq
    rw [hb, bits_512, div_512]
    simp only [← EReal.coe_mul, coe_sum, ← EReal.coe_add]

/-- The gradient of the group norm's input, as the kernel computes it. -/
def groupGrad {n : Nat} (X D : Fin n → EReal) (x d : EReal) : EReal :=
  Ideal.rsqrt (groupSq X) * (d - x * Ideal.rsqrt (groupSq X)
    * Ideal.div (∑ k, D k * (X k * Ideal.rsqrt (groupSq X))) (Ideal.ofBits FTy.f32 1140850688#32))

/-- It is a real number, and the chain rule's. -/
theorem groupGrad_real {n : Nat} (X D : Fin n → EReal) (hX : ∀ k, IsReal (X k)) (hD : ∀ k, IsReal (D k))
    {x d : EReal} (hx : IsReal x) (hd : IsReal d) : IsReal (groupGrad X D x d) ∧
    groupGrad X D x d
      = d * Ideal.rsqrt (groupSq X)
        + x * Ideal.div ((∑ k, X k * D k) * (Ideal.ofBits FTy.f32 3204448256#32
            * Ideal.div (Ideal.rsqrt (groupSq X)) (groupSq X))) (Ideal.ofBits FTy.f32 1140850688#32)
        + Ideal.div ((∑ k, X k * D k) * (Ideal.ofBits FTy.f32 3204448256#32
            * Ideal.div (Ideal.rsqrt (groupSq X)) (groupSq X))) (Ideal.ofBits FTy.f32 1140850688#32) * x := by
  choose X' hX' using hX
  choose D' hD' using hD
  obtain ⟨x, rfl⟩ := hx
  obtain ⟨d, rfl⟩ := hd
  obtain rfl : X = fun k => (X' k : EReal) := funext hX'
  obtain rfl : D = fun k => (D' k : EReal) := funext hD'
  obtain ⟨v, hv, e⟩ := groupSq_pos X'
  unfold groupGrad
  rw [e, rsqrt_pos hv, bits_512, bits_mhalf, Ideal.div_coe hv.ne']
  simp only [div_512, ← EReal.coe_mul, coe_sum, ← EReal.coe_add, ← EReal.coe_sub]
  refine ⟨IsReal.coe _, ?_⟩
  congr 1
  have hs : Real.sqrt v ≠ 0 := (Real.sqrt_pos.2 hv).ne'
  have hr : (1 / v : ℝ) = (Real.sqrt v)⁻¹ * (Real.sqrt v)⁻¹ := by
    rw [← mul_inv, Real.mul_self_sqrt hv.le, one_div]
  rw [hr]
  generalize (Real.sqrt v)⁻¹ = r
  have h1 : (∑ k, D' k * (X' k * r)) = (∑ k, X' k * D' k) * r := by
    rw [Finset.sum_mul]; exact Finset.sum_congr rfl fun k _ => by ring
  rw [h1]
  ring

/-- The gated element, in the kernel's spelling. -/
def gated (y z : EReal) : EReal := y * (z * Ideal.div 1 (1 + Ideal.exp (0 - z)))

theorem gated_eq (y z : EReal) : gated y z = y * (z * Ideal.div 1 (1 + Ideal.exp (-z))) := by unfold gated; rw [zero_sub]

theorem gated_real {y z : EReal} (hy : IsReal y) (hz : IsReal z) : IsReal (gated y z) := by
  obtain ⟨z, rfl⟩ := hz
  rw [gated_eq]
  exact hy.mul ((IsReal.coe z).mul (by have := sigm_coe z; unfold sigm at this; exact ⟨_, this⟩))

/-- The gradient of the gate in the two forms, of equal rows, elements and gates. -/
theorem gate_norm_grad {n : Nat} {Y Y' Z Z' D D' : Fin n → EReal} {y y' z z' d d' : EReal} (hY : Y = Y') (hZ : Z = Z') (hD : D = D')
    (hy : y = y') (hz : z = z') (hd : d = d') (rY : ∀ k, IsReal (Y' k)) (rZ : ∀ k, IsReal (Z' k)) (rD : ∀ k, IsReal (D' k))
    (ry : IsReal y') (rz : IsReal z') (rd : IsReal d') :
    groupGrad (fun k => gated (Y k) (Z k)) D (gated y z) d * y
        * (Ideal.div 1 (1 + Ideal.exp (0 - z)) * (1 + z * (1 - Ideal.div 1 (1 + Ideal.exp (0 - z)))))
      = y' * groupGrad (fun k => gated (Y' k) (Z' k)) D' (gated y' z') d' * Ideal.div 1 (1 + Ideal.exp (-z'))
        + z' * (y' * groupGrad (fun k => gated (Y' k) (Z' k)) D' (gated y' z') d')
          * (Ideal.div 1 (1 + Ideal.exp (-z')) * (1 - Ideal.div 1 (1 + Ideal.exp (-z')))) := by
  subst hY hZ hD hy hz hd
  have h := (groupGrad_real (fun k => gated (Y k) (Z k)) D (fun k => gated_real (rY k) (rZ k)) rD (gated_real ry rz) rd).1
  rw [zero_sub, mul_comm y]
  exact silu_grad (h.mul ry) z

end Cert.Proof

end
-- ==== Proof.SsdRow.lean ====
module

public import proofs.«01_k».proof.Proof.Gen.SsdGradIdeal.Value
public import proofs.«01_k».proof.Proof.Gen.SsdGradRefIdeal.Read
public import proofs.«01_k».proof.Defs
public import proofs.«01_k».proof.Proof.GateNorm
public import Idealize.ShloMosaic.Lib.Claim
public import Idealize.ShloMosaic.Lib.KernelVsHost
public import Idealize.ShloMosaic.Lib.Pipeline.ValueKit
public import Idealize.ShloMosaic.Lib.Pointwise

@[expose] public section

set_option maxRecDepth 16384
set_option maxHeartbeats 4000000

noncomputable section

namespace Cert.Proof.SsdGrad

open Cert.SsdGradIdeal Cert.SsdGradIdeal.Gen Cert.SsdGradIdeal.Value Idealize.ShloMosaic Idealize.ShloMosaic.TcCoe Idealize.SL.Sem
open Cert.SsdGradRefIdeal.Read

variable (m : (ℓ : Loc nD τ sig) → Buf (Elt Ideal) ℓ)

theorem idx12 : ∀ t : Fin cfg0.N, win0_12.index t = ![7 - t.val, 0] := (by decide +kernel : ∀ t : Fin grid0.N, _)

/-- A chunk's gradient of the gate, of the chunk's blocks. -/
def dzChunk (act : FVec Ideal S64x1536 .f32) (ysc : FVec Ideal S64x1024 .f32) (dx nw : FVec Ideal S1x1024 .f32) (z dy : FVec Ideal S64x1024 .f32) : FVec Ideal S64x1024 .bf16 :=
  k0_pay40 (F := Ideal) (k0_pay24 act ysc dx) z (k0_pay25 z (FloatOps.ofBits FTy.f32 0#32)) (k0_pay28 dy nw)
      (k0_pay32 (k0_pay24 act ysc dx) z (FloatOps.ofBits FTy.f32 0#32) dy nw)
      (k0_pay33 (k0_pay24 act ysc dx) z (FloatOps.ofBits FTy.f32 0#32))
      (k0_pay34 (k0_pay24 act ysc dx) z (FloatOps.ofBits FTy.f32 0#32))
      (k0_pay35 (k0_pay24 act ysc dx) z (FloatOps.ofBits FTy.f32 0#32))

/-- The group of lane `j`, by its 512 lanes. -/
abbrev lanes (j : Fin 1024) (k : Fin 512) : Fin 1024 := ⟨j.val / 512 * 512 + k.val, by omega⟩

/-- A row's gradient of the gate, of the scan's row `Y`, the gate's row `Z` and the weighted cotangent's row `D`. -/
def dzRow (Y Z D : Fin 1024 → EReal) (j : Fin 1024) : EReal :=
  groupGrad (fun k => gated (Y (lanes j k)) (Z (lanes j k))) (fun k => D (lanes j k)) (gated (Y j) (Z j)) (D j) * Y j
    * (Ideal.div 1 (1 + Ideal.exp (0 - Z j)) * (1 + Z j * (1 - Ideal.div 1 (1 + Ideal.exp (0 - Z j)))))

theorem dzChunk_apply (act : FVec Ideal S64x1536 .f32) (ysc : FVec Ideal S64x1024 .f32) (dx nw : FVec Ideal S1x1024 .f32) (z dy : FVec Ideal S64x1024 .f32) (p : Fin 64) (j : Fin 1024) :
   dzChunk act ysc dx nw z dy (ix2 p j) = dzRow (fun q => ysc (ix2 p q) + dx (ix2 0 q) * act (ix2 p ⟨q.val, by omega⟩)) (fun q => z (ix2 p q)) (fun q => dy (ix2 p q) * nw (ix2 0 q)) j := by
  unfold dzChunk
  unfold_payloads
  pointwise
  unfold dzRow
  by_cases h : j.val < 512
  · rw [dif_pos h, show lanes j = fun k => ⟨k.val, by omega⟩ from funext fun k => Fin.ext (by show j.val / 512 * 512 + k.val = k.val; omega)]
    rfl
  · have e : 512 + (j.val - 512) = j.val := by omega
    rw [dif_neg h, show lanes j = fun k => ⟨512 + k.val, by omega⟩ from funext fun k => Fin.ext (by show j.val / 512 * 512 + k.val = 512 + k.val; omega)]
    simp only [e]
    rfl

theorem ref_y (x0 : FVec Ideal S4096x1536 .f32) (x4 : FVec Ideal S16 .f32) (x6 : FVec Ideal S4096x1024 .f32) (i : Fin 4096) (j : Fin 1024) :
    val_main_v9 (F := Ideal) x0 x4 x6 (ix2 i j) = x6 (ix2 i j) + x4 (ix1 ⟨j.val / 64, by omega⟩) * x0 (ix2 i ⟨j.val, by omega⟩) := by
  pointwise [val_main_v9, val_main_v0, val_main_v1, val_main_v2, val_main_v3, val_main_v4, val_main_v5, val_main_v6, val_main_v7, val_main_v8, val_main_v10, val_main_v11, val_main_cst, val_main_v12, val_main_v13, val_main_cst_0, val_main_v14, val_main_v15, val_main_cst_1, val_main_v16, val_main_v17, val_main_v18, val_main_v19, val_main_v20, val_main_v22, val_main_cst_2, val_main_v23, val_main_v24, val_main_cst_3, val_main_v25, val_main_v26, val_main_cst_4, val_main_v27, val_main_v28, val_main_v29, val_main_v30, val_main_cst_5, val_main_v31, val_main_v32, val_main_v33, val_main_v34, val_main_v35, val_main_v36, val_main_v37, val_main_v38, val_main_v39, val_main_cst_6, val_main_v40, val_main_v41, val_main_v42, val_main_cst_7, val_main_v44, val_main_v45, val_main_v46, val_main_cst_8, val_main_v47, val_main_v48, val_main_v49, val_main_v50, val_main_v51, val_main_cst_9, val_main_v52, val_main_v53, val_main_cst_10, val_main_v54, val_main_v55, val_main_v56, val_main_v57, val_main_v58, val_main_v59, val_main_v60, val_main_v61, val_main_v62, val_main_v63, val_main_v64, val_main_v65, val_main_v66, val_main_v67, val_main_v68, val_main_cst_11, val_main_v69, val_main_v70, val_main_cst_12, val_main_v71, val_main_v72, val_main_cst_13, val_main_v73, val_main_v74, val_main_c, val_main_c_14, val_main_v75, val_main_v76, val_main_c_15, val_main_call0_v0, val_main_v77, val_main_v78]

theorem ref_gated (x0 : FVec Ideal S4096x1536 .f32) (x1 : FVec Ideal S4096x8960 .f32) (x4 : FVec Ideal S16 .f32) (x6 : FVec Ideal S4096x1024 .f32) (i : Fin 4096) (j : Fin 1024) (k : Fin 512) :
    val_main_v21 (F := Ideal) x0 x1 x4 x6 (ix3 i ⟨j.val / 512, by omega⟩ k) = gated (val_main_v9 (F := Ideal) x0 x4 x6 (ix2 i (lanes j k))) (x1 (ix2 i ⟨(lanes j k).val, by omega⟩)) := by
  pointwise [val_main_v21, val_main_v0, val_main_v1, val_main_v2, val_main_v3, val_main_v4, val_main_v5, val_main_v6, val_main_v7, val_main_v8, val_main_v10, val_main_v11, val_main_cst, val_main_v12, val_main_v13, val_main_cst_0, val_main_v14, val_main_v15, val_main_cst_1, val_main_v16, val_main_v17, val_main_v18, val_main_v19, val_main_v20, val_main_v22, val_main_cst_2, val_main_v23, val_main_v24, val_main_cst_3, val_main_v25, val_main_v26, val_main_cst_4, val_main_v27, val_main_v28, val_main_v29, val_main_v30, val_main_cst_5, val_main_v31, val_main_v32, val_main_v33, val_main_v34, val_main_v35, val_main_v36, val_main_v37, val_main_v38, val_main_v39, val_main_cst_6, val_main_v40, val_main_v41, val_main_v42, val_main_cst_7, val_main_v44, val_main_v45, val_main_v46, val_main_cst_8, val_main_v47, val_main_v48, val_main_v49, val_main_v50, val_main_v51, val_main_cst_9, val_main_v52, val_main_v53, val_main_cst_10, val_main_v54, val_main_v55, val_main_v56, val_main_v57, val_main_v58, val_main_v59, val_main_v60, val_main_v61, val_main_v62, val_main_v63, val_main_v64, val_main_v65, val_main_v66, val_main_v67, val_main_v68, val_main_cst_11, val_main_v69, val_main_v70, val_main_cst_12, val_main_v71, val_main_v72, val_main_cst_13, val_main_v73, val_main_v74, val_main_c, val_main_c_14, val_main_v75, val_main_v76, val_main_c_15, val_main_call0_v0, val_main_v77, val_main_v78]
  rw [gated_eq]

theorem ref_d (x5 : FVec Ideal S1024 .f32) (x8 : FVec Ideal S4096x1024 .f32) (i : Fin 4096) (j : Fin 1024) :
    val_main_v43 (F := Ideal) x5 x8 (ix2 i j) = x8 (ix2 i j) * x5 (ix1 j) := by
  pointwise [val_main_v43, val_main_v0, val_main_v1, val_main_v2, val_main_v3, val_main_v4, val_main_v5, val_main_v6, val_main_v7, val_main_v8, val_main_v10, val_main_v11, val_main_cst, val_main_v12, val_main_v13, val_main_cst_0, val_main_v14, val_main_v15, val_main_cst_1, val_main_v16, val_main_v17, val_main_v18, val_main_v19, val_main_v20, val_main_v22, val_main_cst_2, val_main_v23, val_main_v24, val_main_cst_3, val_main_v25, val_main_v26, val_main_cst_4, val_main_v27, val_main_v28, val_main_v29, val_main_v30, val_main_cst_5, val_main_v31, val_main_v32, val_main_v33, val_main_v34, val_main_v35, val_main_v36, val_main_v37, val_main_v38, val_main_v39, val_main_cst_6, val_main_v40, val_main_v41, val_main_v42, val_main_cst_7, val_main_v44, val_main_v45, val_main_v46, val_main_cst_8, val_main_v47, val_main_v48, val_main_v49, val_main_v50, val_main_v51, val_main_cst_9, val_main_v52, val_main_v53, val_main_cst_10, val_main_v54, val_main_v55, val_main_v56, val_main_v57, val_main_v58, val_main_v59, val_main_v60, val_main_v61, val_main_v62, val_main_v63, val_main_v64, val_main_v65, val_main_v66, val_main_v67, val_main_v68, val_main_cst_11, val_main_v69, val_main_v70, val_main_cst_12, val_main_v71, val_main_v72, val_main_cst_13, val_main_v73, val_main_v74, val_main_c, val_main_c_14, val_main_v75, val_main_v76, val_main_c_15, val_main_call0_v0, val_main_v77, val_main_v78]

theorem ref_dz (x0 : FVec Ideal S4096x1536 .f32) (x1 : FVec Ideal S4096x8960 .f32) (x4 : FVec Ideal S16 .f32) (x5 : FVec Ideal S1024 .f32) (x6 x8 : FVec Ideal S4096x1024 .f32)
    (r0 : ∀ i, IsReal (x0 i)) (r1 : ∀ i, IsReal (x1 i)) (r4 : ∀ i, IsReal (x4 i)) (r5 : ∀ i, IsReal (x5 i)) (r6 : ∀ i, IsReal (x6 i)) (r8 : ∀ i, IsReal (x8 i)) (i : Fin 4096) (j : Fin 1024) :
   val_main_v66 (F := Ideal) x0 x1 x4 x5 x6 x8 (ix2 i j) = dzRow (fun q => val_main_v9 (F := Ideal) x0 x4 x6 (ix2 i q)) (fun q => x1 (ix2 i ⟨q.val, by omega⟩)) (fun q => val_main_v43 (F := Ideal) x5 x8 (ix2 i q)) j := by
  have rY : ∀ q, IsReal (val_main_v9 (F := Ideal) x0 x4 x6 (ix2 i q)) := fun q => by rw [ref_y]; exact (r6 _).add ((r4 _).mul (r0 _))
  have rD : ∀ q, IsReal (val_main_v43 (F := Ideal) x5 x8 (ix2 i q)) := fun q => by rw [ref_d]; exact (r8 _).mul (r5 _)
  have e : lanes j ⟨j.val % 512, by omega⟩ = j := Fin.ext (by show j.val / 512 * 512 + j.val % 512 = j.val; omega)
  refine Eq.trans ?_ (gate_norm_grad (Y := fun k => val_main_v9 (F := Ideal) x0 x4 x6 (ix2 i (lanes j k))) (Z := fun k => x1 (ix2 i ⟨(lanes j k).val, by omega⟩))
    (D := fun k => val_main_v43 (F := Ideal) x5 x8 (ix2 i (lanes j k))) rfl rfl rfl rfl rfl rfl (fun _ => rY _) (fun _ => r1 _) (fun _ => rD _) (rY j) (r1 (ix2 i ⟨j.val, by omega⟩)) (rD j)).symm
  rw [(groupGrad_real _ _ (fun k => gated_real (rY _) (r1 _)) (fun _ => rD _) (gated_real (rY j) (r1 _)) (rD j)).2]
  pointwise [val_main_v0, val_main_v1, val_main_v2, val_main_v3, val_main_v4, val_main_v5, val_main_v6, val_main_v7, val_main_v8, val_main_v10, val_main_v11, val_main_cst, val_main_v12, val_main_v13, val_main_cst_0, val_main_v14, val_main_v15, val_main_cst_1, val_main_v16, val_main_v17, val_main_v18, val_main_v19, val_main_v20, val_main_v22, val_main_cst_2, val_main_v23, val_main_v24, val_main_cst_3, val_main_v25, val_main_v26, val_main_cst_4, val_main_v27, val_main_v28, val_main_v29, val_main_v30, val_main_cst_5, val_main_v31, val_main_v32, val_main_v33, val_main_v34, val_main_v35, val_main_v36, val_main_v37, val_main_v38, val_main_v39, val_main_cst_6, val_main_v40, val_main_v41, val_main_v42, val_main_cst_7, val_main_v44, val_main_v45, val_main_v46, val_main_cst_8, val_main_v47, val_main_v48, val_main_v49, val_main_v50, val_main_v51, val_main_cst_9, val_main_v52, val_main_v53, val_main_cst_10, val_main_v54, val_main_v55, val_main_v56, val_main_v57, val_main_v58, val_main_v59, val_main_v60, val_main_v61, val_main_v62, val_main_v63, val_main_v64, val_main_v65, val_main_v66, val_main_v67, val_main_v68, val_main_cst_11, val_main_v69, val_main_v70, val_main_cst_12, val_main_v71, val_main_v72, val_main_cst_13, val_main_v73, val_main_v74, val_main_c, val_main_c_14, val_main_v75, val_main_v76, val_main_c_15, val_main_call0_v0, val_main_v77, val_main_v78]
  simp only [ref_gated, e, Nat.div_add_mod', Fin.sum_univ_one (M := EReal)]
  rfl

end Cert.Proof.SsdGrad

end
-- ==== Proof.SsdBlk.lean ====
module

public import proofs.«01_k».proof.Proof.Gen.SsdGradIdeal.Value
public import proofs.«01_k».proof.Proof.Gen.SsdGradRefIdeal.Read
public import proofs.«01_k».proof.Defs
public import proofs.«01_k».proof.Proof.GateNorm
public import Idealize.ShloMosaic.Lib.Claim
public import Idealize.ShloMosaic.Lib.KernelVsHost
public import Idealize.ShloMosaic.Lib.Pipeline.ValueKit
public import Idealize.ShloMosaic.Lib.Pointwise

@[expose] public section

set_option maxRecDepth 16384
set_option maxHeartbeats 4000000

noncomputable section

namespace Cert.Proof.SsdGrad

open Cert.SsdGradIdeal Cert.SsdGradIdeal.Gen Cert.SsdGradIdeal.Value Idealize.ShloMosaic Idealize.ShloMosaic.TcCoe Idealize.SL.Sem
open Cert.SsdGradRefIdeal.Read

variable (m : (ℓ : Loc nD τ sig) → Buf (Elt Ideal) ℓ)

/-- A point handles 512 rows, the last ones first. -/
theorem idx0 : ∀ t : Fin cfg0.N, win0_0.index t = ![7 - t.val, 0] := (by decide +kernel : ∀ t : Fin grid0.N, _)
theorem idx1 : ∀ t : Fin cfg0.N, win0_1.index t = ![7 - t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx8 : ∀ t : Fin cfg0.N, win0_8.index t = ![7 - t.val, 0] := (by decide +kernel : ∀ t : Fin grid0.N, _)
theorem idx10 : ∀ t : Fin cfg0.N, win0_10.index t = ![7 - t.val, 0] := (by decide +kernel : ∀ t : Fin grid0.N, _)

abbrev row (t : Fin cfg0.N) (p : Fin 512) : Fin 4096 := ⟨512 * (7 - t.val) + p.val, by omega⟩

/-- The blocks of the arrays, and the two rows that the host lays out. -/
theorem blk0 (c : Dev nD) (t : Fin cfg0.N) : iblk m c 0 t = fun i : S512x1536.Idx => m ((c : Thread nD τ).loc main_arg0) (ix2 (row t (i 0)) (i 1)) := by
  funext i
  have e0 := idx0 t
  blk_simp [iblk]
  rw [V_main_arg0]
  congr 1; blk_ext [e0]
theorem blk1 (c : Dev nD) (t : Fin cfg0.N) : X0_1 m c t = fun i : S512x1024.Idx => m ((c : Thread nD τ).loc main_arg1) (ix2 (row t (i 0)) ⟨(i 1).val, Nat.lt_of_lt_of_le (i 1).isLt (by decide)⟩) := by
  funext i
  have e1 := idx1 t
  unfold X0_1 Pipeline.Window.fill
  rw [dif_pos (moved0_1 t i)]
  blk_simp [iblk]
  rw [V_main_arg1]
  congr 1; blk_ext [e1]
theorem V5 (c : Dev nD) : V m c main_v2 = fun i : S1x1024.Idx => m ((c : Thread nD τ).loc main_arg4) (ix1 ⟨(i 1).val / 64, by have : (i (1 : Fin 2)).val < 1024 := (i 1).isLt; omega⟩) := by
  refine Eq.trans (b := StableHlo.after (hostOps0 (F := Ideal)) (fun b => m (c, b)) (Proc.devRef .tc main_v2)) ?_ ?_
  · show StableHlo.after (hostOps0 ++ (hostOps0_1 ++ hostOps0_2)) _ _ = _
    rw [StableHlo.after_append]
    exact StableHlo.after_of_forall_not_mem (b := Proc.devRef .tc main_v2) _ _ (List.forall_iff_forall_mem.mp (by
      simp only [hostOps0_1, hostOps0_2, List.cons_append, List.nil_append, List.Forall, StableHlo.nullary_writes, StableHlo.unary_writes, StableHlo.binary_writes,
        StableHlo.ternary_writes, StableHlo.quaternary_writes, StableHlo.reshape_writes, StableHlo.binaryIndexed_writes, Finset.mem_singleton]
      repeat' apply And.intro
      all_goals exact StableHlo.devRef_ne_of_ne (by decide)))
  entry_read
  funext i
  pointwise
theorem V6 (c : Dev nD) : V m c main_v3 = fun i : S1x1024.Idx => m ((c : Thread nD τ).loc main_arg5) (ix1 (i 1)) := by
  refine Eq.trans (b := StableHlo.after (hostOps0 (F := Ideal)) (fun b => m (c, b)) (Proc.devRef .tc main_v3)) ?_ ?_
  · show StableHlo.after (hostOps0 ++ (hostOps0_1 ++ hostOps0_2)) _ _ = _
    rw [StableHlo.after_append]
    exact StableHlo.after_of_forall_not_mem (b := Proc.devRef .tc main_v3) _ _ (List.forall_iff_forall_mem.mp (by
      simp only [hostOps0_1, hostOps0_2, List.cons_append, List.nil_append, List.Forall, StableHlo.nullary_writes, StableHlo.unary_writes, StableHlo.binary_writes,
        StableHlo.ternary_writes, StableHlo.quaternary_writes, StableHlo.reshape_writes, StableHlo.binaryIndexed_writes, Finset.mem_singleton]
      repeat' apply And.intro
      all_goals exact StableHlo.devRef_ne_of_ne (by decide)))
  entry_read
  funext i
  pointwise
theorem blk5 (c : Dev nD) (t : Fin cfg0.N) : iblk m c 5 t = fun i : S1x1024.Idx => m ((c : Thread nD τ).loc main_arg4) (ix1 ⟨(i 1).val / 64, by have : (i (1 : Fin 2)).val < 1024 := (i 1).isLt; omega⟩) := by
  funext i
  have e5 := idx5 t
  blk_simp [iblk]
  rw [V5]
  congr 1; blk_ext [e5]
theorem blk6 (c : Dev nD) (t : Fin cfg0.N) : iblk m c 6 t = fun i : S1x1024.Idx => m ((c : Thread nD τ).loc main_arg5) (ix1 (i 1)) := by
  funext i
  have e6 := idx6 t
  blk_simp [iblk]
  rw [V6]
  congr 1; blk_ext [e6]
theorem blk8 (c : Dev nD) (t : Fin cfg0.N) : iblk m c 8 t = fun i : S512x1024.Idx => m ((c : Thread nD τ).loc main_arg6) (ix2 (row t (i 0)) (i 1)) := by
  funext i
  have e8 := idx8 t
  blk_simp [iblk]
  rw [V_main_arg6]
  congr 1; blk_ext [e8]
theorem blk10 (c : Dev nD) (t : Fin cfg0.N) : iblk m c 10 t = fun i : S512x1024.Idx => m ((c : Thread nD τ).loc main_arg8) (ix2 (row t (i 0)) (i 1)) := by
  funext i
  have e10 := idx10 t
  blk_simp [iblk]
  rw [V_main_arg8]
  congr 1; blk_ext [e10]

end Cert.Proof.SsdGrad

end
-- ==== Proof.SsdDz.lean ====
module

public import proofs.«01_k».proof.Proof.Gen.SsdGradIdeal.Value
public import proofs.«01_k».proof.Proof.Gen.SsdGradRefIdeal.Read
public import proofs.«01_k».proof.Defs
public import proofs.«01_k».proof.Proof.SsdRow
public import proofs.«01_k».proof.Proof.SsdBlk
public import Idealize.ShloMosaic.Lib.Claim
public import Idealize.ShloMosaic.Lib.KernelVsHost
public import Idealize.ShloMosaic.Lib.Pipeline.ValueKit
public import Idealize.ShloMosaic.Lib.Pointwise

@[expose] public section

set_option maxRecDepth 16384
set_option maxHeartbeats 4000000

noncomputable section

namespace Cert.Proof.SsdGrad

open Cert.SsdGradIdeal Cert.SsdGradIdeal.Gen Cert.SsdGradIdeal.Value Idealize.ShloMosaic Idealize.ShloMosaic.TcCoe Idealize.SL.Sem
open Cert.SsdGradRefIdeal.Read

variable (m : (ℓ : Loc nD τ sig) → Buf (Elt Ideal) ℓ)

/-- A chunk's gradient of the gate is the reference's rows. -/
theorem dz_piece (c : Dev nD) (r0 : ∀ i, IsReal (m ((c : Thread nD τ).loc main_arg0) i)) (r1 : ∀ i, IsReal (m ((c : Thread nD τ).loc main_arg1) i)) (r4 : ∀ i, IsReal (m ((c : Thread nD τ).loc main_arg4) i))
    (r5 : ∀ i, IsReal (m ((c : Thread nD τ).loc main_arg5) i)) (r6 : ∀ i, IsReal (m ((c : Thread nD τ).loc main_arg6) i)) (r8 : ∀ i, IsReal (m ((c : Thread nD τ).loc main_arg8) i))
    (t : Fin cfg0.N) (o : ℕ) (ho : o + 64 ≤ 512) (inb : ∀ a : Fin 2, (![o, 0] : Fin 2 → ℕ) a + (![64, 1536] : Fin 2 → ℕ) a ≤ S512x1536.size a) (inb' : ∀ a : Fin 2, (![o, 0] : Fin 2 → ℕ) a + (![64, 1024] : Fin 2 → ℕ) a ≤ S512x1024.size a) (p : Fin 64) (j : Fin 1024) :
    dzChunk (View.ld (iblk m c 0 t) (Rect.unit ![o, 0] ![64, 1536] inb)) (View.ld (iblk m c 8 t) (Rect.unit ![o, 0] ![64, 1024] inb')) (iblk m c 5 t) (iblk m c 6 t)
        (View.ld (X0_1 m c t) (Rect.unit ![o, 0] ![64, 1024] inb')) (View.ld (iblk m c 10 t) (Rect.unit ![o, 0] ![64, 1024] inb')) (ix2 p j)
      = val_main_v66 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg8))
        (ix2 (row t ⟨o + p.val, by omega⟩) j) := by
  rw [dzChunk_apply, ref_dz _ _ _ _ _ _ r0 r1 r4 r5 r6 r8, blk0, blk1, blk5, blk6, blk8, blk10]
  simp only [ref_y, ref_d]
  pointwise

/-- The reference's wide array has the gate's gradient in its first columns … -/
theorem ref_wide (c : Dev nD) (i : Fin 4096) (j : Fin 1024) : val_main_v75 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg8)) (m ((c : Thread nD τ).loc main_arg9)) (ix2 i ⟨j.val, by omega⟩) = val_main_v66 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg8)) (ix2 i j) := by
  unfold val_main_v75
  rw [Host.dynamicUpdateSlice_eq_updateSlice _ _ _ _ ![0, 0] (by intro a; fin_cases a <;> rfl) (by decide)]
  pointwise [val_main_v74]

/-- … and leaves its other columns as they were. -/
theorem ref_other (c : Dev nD) (i : S4096x8960.Idx) (h : ¬(i 1 : ℕ) / 1024 = 0) : val_main_v75 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg8)) (m ((c : Thread nD τ).loc main_arg9)) i = m ((c : Thread nD τ).loc main_arg9) i := by
  unfold val_main_v75
  rw [Host.dynamicUpdateSlice_eq_updateSlice _ _ _ _ ![0, 0] (by intro a; fin_cases a <;> rfl) (by decide)]
  pointwise
  exact dif_neg (by omega)

theorem dz_blkA (c : Dev nD) (r0 : ∀ i, IsReal (m ((c : Thread nD τ).loc main_arg0) i)) (r1 : ∀ i, IsReal (m ((c : Thread nD τ).loc main_arg1) i)) (r4 : ∀ i, IsReal (m ((c : Thread nD τ).loc main_arg4) i)) (r5 : ∀ i, IsReal (m ((c : Thread nD τ).loc main_arg5) i)) (r6 : ∀ i, IsReal (m ((c : Thread nD τ).loc main_arg6) i)) (r8 : ∀ i, IsReal (m ((c : Thread nD τ).loc main_arg8) i)) (t : Fin cfg0.N) (h : t.val % 8 = 0) (y : S512x1024.Idx) :
    (outsAt0 m c t.val t.isLt).2.1 y = val_main_v66 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg8)) (ix2 (row t ⟨(y (0 : Fin 2)).val, (y (0 : Fin 2)).isLt⟩) ⟨(y (1 : Fin 2)).val, (y (1 : Fin 2)).isLt⟩) := by
  rw [outsAt0_A m c t h]
  frame_out
  canon_tiles x
  · refine Eq.trans (b := dzChunk (View.ld (iblk m c 0 t) (Rect.unit ![0, 0] ![64, 1536] inb_S512x1536_S64x1536_0_0)) (View.ld (iblk m c 8 t) (Rect.unit ![0, 0] ![64, 1024] inb_S512x1024_S64x1024_0_0)) (iblk m c 5 t) (iblk m c 6 t)
        (View.ld (X0_1 m c t) (Rect.unit ![0, 0] ![64, 1024] inb_S512x1024_S64x1024_0_0)) (View.ld (iblk m c 10 t) (Rect.unit ![0, 0] ![64, 1024] inb_S512x1024_S64x1024_0_0)) (ix2 (x 0) (x 1))) ?_ ((dz_piece m c r0 r1 r4 r5 r6 r8 t 0 (by norm_num) _ _ (x 0) (x 1)).trans ?_)
    · rw [show x = ix2 (x 0) (x 1) by blk_ext]
      rfl
    · congr 1
      blk_ext [h0, h1]
  · refine Eq.trans (b := dzChunk (View.ld (iblk m c 0 t) (Rect.unit ![64, 0] ![64, 1536] inb_S512x1536_S64x1536_64_0)) (View.ld (iblk m c 8 t) (Rect.unit ![64, 0] ![64, 1024] inb_S512x1024_S64x1024_64_0)) (iblk m c 5 t) (iblk m c 6 t)
        (View.ld (X0_1 m c t) (Rect.unit ![64, 0] ![64, 1024] inb_S512x1024_S64x1024_64_0)) (View.ld (iblk m c 10 t) (Rect.unit ![64, 0] ![64, 1024] inb_S512x1024_S64x1024_64_0)) (ix2 (x 0) (x 1))) ?_ ((dz_piece m c r0 r1 r4 r5 r6 r8 t 64 (by norm_num) _ _ (x 0) (x 1)).trans ?_)
    · rw [show x = ix2 (x 0) (x 1) by blk_ext]
      rfl
    · congr 1
      blk_ext [h0, h1]
  · refine Eq.trans (b := dzChunk (View.ld (iblk m c 0 t) (Rect.unit ![128, 0] ![64, 1536] inb_S512x1536_S64x1536_128_0)) (View.ld (iblk m c 8 t) (Rect.unit ![128, 0] ![64, 1024] inb_S512x1024_S64x1024_128_0)) (iblk m c 5 t) (iblk m c 6 t)
        (View.ld (X0_1 m c t) (Rect.unit ![128, 0] ![64, 1024] inb_S512x1024_S64x1024_128_0)) (View.ld (iblk m c 10 t) (Rect.unit ![128, 0] ![64, 1024] inb_S512x1024_S64x1024_128_0)) (ix2 (x 0) (x 1))) ?_ ((dz_piece m c r0 r1 r4 r5 r6 r8 t 128 (by norm_num) _ _ (x 0) (x 1)).trans ?_)
    · rw [show x = ix2 (x 0) (x 1) by blk_ext]
      rfl
    · congr 1
      blk_ext [h0, h1]
  · refine Eq.trans (b := dzChunk (View.ld (iblk m c 0 t) (Rect.unit ![192, 0] ![64, 1536] inb_S512x1536_S64x1536_192_0)) (View.ld (iblk m c 8 t) (Rect.unit ![192, 0] ![64, 1024] inb_S512x1024_S64x1024_192_0)) (iblk m c 5 t) (iblk m c 6 t)
        (View.ld (X0_1 m c t) (Rect.unit ![192, 0] ![64, 1024] inb_S512x1024_S64x1024_192_0)) (View.ld (iblk m c 10 t) (Rect.unit ![192, 0] ![64, 1024] inb_S512x1024_S64x1024_192_0)) (ix2 (x 0) (x 1))) ?_ ((dz_piece m c r0 r1 r4 r5 r6 r8 t 192 (by norm_num) _ _ (x 0) (x 1)).trans ?_)
    · rw [show x = ix2 (x 0) (x 1) by blk_ext]
      rfl
    · congr 1
      blk_ext [h0, h1]
  · refine Eq.trans (b := dzChunk (View.ld (iblk m c 0 t) (Rect.unit ![256, 0] ![64, 1536] inb_S512x1536_S64x1536_256_0)) (View.ld (iblk m c 8 t) (Rect.unit ![256, 0] ![64, 1024] inb_S512x1024_S64x1024_256_0)) (iblk m c 5 t) (iblk m c 6 t)
        (View.ld (X0_1 m c t) (Rect.unit ![256, 0] ![64, 1024] inb_S512x1024_S64x1024_256_0)) (View.ld (iblk m c 10 t) (Rect.unit ![256, 0] ![64, 1024] inb_S512x1024_S64x1024_256_0)) (ix2 (x 0) (x 1))) ?_ ((dz_piece m c r0 r1 r4 r5 r6 r8 t 256 (by norm_num) _ _ (x 0) (x 1)).trans ?_)
    · rw [show x = ix2 (x 0) (x 1) by blk_ext]
      rfl
    · congr 1
      blk_ext [h0, h1]
  · refine Eq.trans (b := dzChunk (View.ld (iblk m c 0 t) (Rect.unit ![320, 0] ![64, 1536] inb_S512x1536_S64x1536_320_0)) (View.ld (iblk m c 8 t) (Rect.unit ![320, 0] ![64, 1024] inb_S512x1024_S64x1024_320_0)) (iblk m c 5 t) (iblk m c 6 t)
        (View.ld (X0_1 m c t) (Rect.unit ![320, 0] ![64, 1024] inb_S512x1024_S64x1024_320_0)) (View.ld (iblk m c 10 t) (Rect.unit ![320, 0] ![64, 1024] inb_S512x1024_S64x1024_320_0)) (ix2 (x 0) (x 1))) ?_ ((dz_piece m c r0 r1 r4 r5 r6 r8 t 320 (by norm_num) _ _ (x 0) (x 1)).trans ?_)
    · rw [show x = ix2 (x 0) (x 1) by blk_ext]
      rfl
    · congr 1
      blk_ext [h0, h1]
  · refine Eq.trans (b := dzChunk (View.ld (iblk m c 0 t) (Rect.unit ![384, 0] ![64, 1536] inb_S512x1536_S64x1536_384_0)) (View.ld (iblk m c 8 t) (Rect.unit ![384, 0] ![64, 1024] inb_S512x1024_S64x1024_384_0)) (iblk m c 5 t) (iblk m c 6 t)
        (View.ld (X0_1 m c t) (Rect.unit ![384, 0] ![64, 1024] inb_S512x1024_S64x1024_384_0)) (View.ld (iblk m c 10 t) (Rect.unit ![384, 0] ![64, 1024] inb_S512x1024_S64x1024_384_0)) (ix2 (x 0) (x 1))) ?_ ((dz_piece m c r0 r1 r4 r5 r6 r8 t 384 (by norm_num) _ _ (x 0) (x 1)).trans ?_)
    · rw [show x = ix2 (x 0) (x 1) by blk_ext]
      rfl
    · congr 1
      blk_ext [h0, h1]
  · refine Eq.trans (b := dzChunk (View.ld (iblk m c 0 t) (Rect.unit ![448, 0] ![64, 1536] inb_S512x1536_S64x1536_448_0)) (View.ld (iblk m c 8 t) (Rect.unit ![448, 0] ![64, 1024] inb_S512x1024_S64x1024_448_0)) (iblk m c 5 t) (iblk m c 6 t)
        (View.ld (X0_1 m c t) (Rect.unit ![448, 0] ![64, 1024] inb_S512x1024_S64x1024_448_0)) (View.ld (iblk m c 10 t) (Rect.unit ![448, 0] ![64, 1024] inb_S512x1024_S64x1024_448_0)) (ix2 (x 0) (x 1))) ?_ ((dz_piece m c r0 r1 r4 r5 r6 r8 t 448 (by norm_num) _ _ (x 0) (x 1)).trans ?_)
    · rw [show x = ix2 (x 0) (x 1) by blk_ext]
      rfl
    · congr 1
      blk_ext [h0, h1]
theorem dz_blkB (c : Dev nD) (r0 : ∀ i, IsReal (m ((c : Thread nD τ).loc main_arg0) i)) (r1 : ∀ i, IsReal (m ((c : Thread nD τ).loc main_arg1) i)) (r4 : ∀ i, IsReal (m ((c : Thread nD τ).loc main_arg4) i)) (r5 : ∀ i, IsReal (m ((c : Thread nD τ).loc main_arg5) i)) (r6 : ∀ i, IsReal (m ((c : Thread nD τ).loc main_arg6) i)) (r8 : ∀ i, IsReal (m ((c : Thread nD τ).loc main_arg8) i)) (t : Fin cfg0.N) (h : ¬t.val % 8 = 0) (y : S512x1024.Idx) :
    (outsAt0 m c t.val t.isLt).2.1 y = val_main_v66 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg8)) (ix2 (row t ⟨(y (0 : Fin 2)).val, (y (0 : Fin 2)).isLt⟩) ⟨(y (1 : Fin 2)).val, (y (1 : Fin 2)).isLt⟩) := by
  rw [outsAt0_B m c t h]
  frame_out
  canon_tiles x
  · refine Eq.trans (b := dzChunk (View.ld (iblk m c 0 t) (Rect.unit ![0, 0] ![64, 1536] inb_S512x1536_S64x1536_0_0)) (View.ld (iblk m c 8 t) (Rect.unit ![0, 0] ![64, 1024] inb_S512x1024_S64x1024_0_0)) (iblk m c 5 t) (iblk m c 6 t)
        (View.ld (X0_1 m c t) (Rect.unit ![0, 0] ![64, 1024] inb_S512x1024_S64x1024_0_0)) (View.ld (iblk m c 10 t) (Rect.unit ![0, 0] ![64, 1024] inb_S512x1024_S64x1024_0_0)) (ix2 (x 0) (x 1))) ?_ ((dz_piece m c r0 r1 r4 r5 r6 r8 t 0 (by norm_num) _ _ (x 0) (x 1)).trans ?_)
    · rw [show x = ix2 (x 0) (x 1) by blk_ext]
      rfl
    · congr 1
      blk_ext [h0, h1]
  · refine Eq.trans (b := dzChunk (View.ld (iblk m c 0 t) (Rect.unit ![64, 0] ![64, 1536] inb_S512x1536_S64x1536_64_0)) (View.ld (iblk m c 8 t) (Rect.unit ![64, 0] ![64, 1024] inb_S512x1024_S64x1024_64_0)) (iblk m c 5 t) (iblk m c 6 t)
        (View.ld (X0_1 m c t) (Rect.unit ![64, 0] ![64, 1024] inb_S512x1024_S64x1024_64_0)) (View.ld (iblk m c 10 t) (Rect.unit ![64, 0] ![64, 1024] inb_S512x1024_S64x1024_64_0)) (ix2 (x 0) (x 1))) ?_ ((dz_piece m c r0 r1 r4 r5 r6 r8 t 64 (by norm_num) _ _ (x 0) (x 1)).trans ?_)
    · rw [show x = ix2 (x 0) (x 1) by blk_ext]
      rfl
    · congr 1
      blk_ext [h0, h1]
  · refine Eq.trans (b := dzChunk (View.ld (iblk m c 0 t) (Rect.unit ![128, 0] ![64, 1536] inb_S512x1536_S64x1536_128_0)) (View.ld (iblk m c 8 t) (Rect.unit ![128, 0] ![64, 1024] inb_S512x1024_S64x1024_128_0)) (iblk m c 5 t) (iblk m c 6 t)
        (View.ld (X0_1 m c t) (Rect.unit ![128, 0] ![64, 1024] inb_S512x1024_S64x1024_128_0)) (View.ld (iblk m c 10 t) (Rect.unit ![128, 0] ![64, 1024] inb_S512x1024_S64x1024_128_0)) (ix2 (x 0) (x 1))) ?_ ((dz_piece m c r0 r1 r4 r5 r6 r8 t 128 (by norm_num) _ _ (x 0) (x 1)).trans ?_)
    · rw [show x = ix2 (x 0) (x 1) by blk_ext]
      rfl
    · congr 1
      blk_ext [h0, h1]
  · refine Eq.trans (b := dzChunk (View.ld (iblk m c 0 t) (Rect.unit ![192, 0] ![64, 1536] inb_S512x1536_S64x1536_192_0)) (View.ld (iblk m c 8 t) (Rect.unit ![192, 0] ![64, 1024] inb_S512x1024_S64x1024_192_0)) (iblk m c 5 t) (iblk m c 6 t)
        (View.ld (X0_1 m c t) (Rect.unit ![192, 0] ![64, 1024] inb_S512x1024_S64x1024_192_0)) (View.ld (iblk m c 10 t) (Rect.unit ![192, 0] ![64, 1024] inb_S512x1024_S64x1024_192_0)) (ix2 (x 0) (x 1))) ?_ ((dz_piece m c r0 r1 r4 r5 r6 r8 t 192 (by norm_num) _ _ (x 0) (x 1)).trans ?_)
    · rw [show x = ix2 (x 0) (x 1) by blk_ext]
      rfl
    · congr 1
      blk_ext [h0, h1]
  · refine Eq.trans (b := dzChunk (View.ld (iblk m c 0 t) (Rect.unit ![256, 0] ![64, 1536] inb_S512x1536_S64x1536_256_0)) (View.ld (iblk m c 8 t) (Rect.unit ![256, 0] ![64, 1024] inb_S512x1024_S64x1024_256_0)) (iblk m c 5 t) (iblk m c 6 t)
        (View.ld (X0_1 m c t) (Rect.unit ![256, 0] ![64, 1024] inb_S512x1024_S64x1024_256_0)) (View.ld (iblk m c 10 t) (Rect.unit ![256, 0] ![64, 1024] inb_S512x1024_S64x1024_256_0)) (ix2 (x 0) (x 1))) ?_ ((dz_piece m c r0 r1 r4 r5 r6 r8 t 256 (by norm_num) _ _ (x 0) (x 1)).trans ?_)
    · rw [show x = ix2 (x 0) (x 1) by blk_ext]
      rfl
    · congr 1
      blk_ext [h0, h1]
  · refine Eq.trans (b := dzChunk (View.ld (iblk m c 0 t) (Rect.unit ![320, 0] ![64, 1536] inb_S512x1536_S64x1536_320_0)) (View.ld (iblk m c 8 t) (Rect.unit ![320, 0] ![64, 1024] inb_S512x1024_S64x1024_320_0)) (iblk m c 5 t) (iblk m c 6 t)
        (View.ld (X0_1 m c t) (Rect.unit ![320, 0] ![64, 1024] inb_S512x1024_S64x1024_320_0)) (View.ld (iblk m c 10 t) (Rect.unit ![320, 0] ![64, 1024] inb_S512x1024_S64x1024_320_0)) (ix2 (x 0) (x 1))) ?_ ((dz_piece m c r0 r1 r4 r5 r6 r8 t 320 (by norm_num) _ _ (x 0) (x 1)).trans ?_)
    · rw [show x = ix2 (x 0) (x 1) by blk_ext]
      rfl
    · congr 1
      blk_ext [h0, h1]
  · refine Eq.trans (b := dzChunk (View.ld (iblk m c 0 t) (Rect.unit ![384, 0] ![64, 1536] inb_S512x1536_S64x1536_384_0)) (View.ld (iblk m c 8 t) (Rect.unit ![384, 0] ![64, 1024] inb_S512x1024_S64x1024_384_0)) (iblk m c 5 t) (iblk m c 6 t)
        (View.ld (X0_1 m c t) (Rect.unit ![384, 0] ![64, 1024] inb_S512x1024_S64x1024_384_0)) (View.ld (iblk m c 10 t) (Rect.unit ![384, 0] ![64, 1024] inb_S512x1024_S64x1024_384_0)) (ix2 (x 0) (x 1))) ?_ ((dz_piece m c r0 r1 r4 r5 r6 r8 t 384 (by norm_num) _ _ (x 0) (x 1)).trans ?_)
    · rw [show x = ix2 (x 0) (x 1) by blk_ext]
      rfl
    · congr 1
      blk_ext [h0, h1]
  · refine Eq.trans (b := dzChunk (View.ld (iblk m c 0 t) (Rect.unit ![448, 0] ![64, 1536] inb_S512x1536_S64x1536_448_0)) (View.ld (iblk m c 8 t) (Rect.unit ![448, 0] ![64, 1024] inb_S512x1024_S64x1024_448_0)) (iblk m c 5 t) (iblk m c 6 t)
        (View.ld (X0_1 m c t) (Rect.unit ![448, 0] ![64, 1024] inb_S512x1024_S64x1024_448_0)) (View.ld (iblk m c 10 t) (Rect.unit ![448, 0] ![64, 1024] inb_S512x1024_S64x1024_448_0)) (ix2 (x 0) (x 1))) ?_ ((dz_piece m c r0 r1 r4 r5 r6 r8 t 448 (by norm_num) _ _ (x 0) (x 1)).trans ?_)
    · rw [show x = ix2 (x 0) (x 1) by blk_ext]
      rfl
    · congr 1
      blk_ext [h0, h1]

/-- The wide result holds the gate's gradient in its columns, and what the buffer held at first in the others. -/
theorem final12 (c : Dev nD) (r0 : ∀ i, IsReal (m ((c : Thread nD τ).loc main_arg0) i)) (r1 : ∀ i, IsReal (m ((c : Thread nD τ).loc main_arg1) i)) (r4 : ∀ i, IsReal (m ((c : Thread nD τ).loc main_arg4) i)) (r5 : ∀ i, IsReal (m ((c : Thread nD τ).loc main_arg5) i)) (r6 : ∀ i, IsReal (m ((c : Thread nD τ).loc main_arg6) i)) (r8 : ∀ i, IsReal (m ((c : Thread nD τ).loc main_arg8) i)) (i : S4096x8960.Idx) : (dats m 0 c).arrAt 12 cfg0.N i
    = if (i 1 : ℕ) / 1024 = 0 then val_main_v75 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg8)) (m ((c : Thread nD τ).loc main_arg9)) i else V m c main_v9_1 i := by
  refine (dats m 0 c).arrAt_apply_of_coversWhere 12 _ (P := fun i : S4096x8960.Idx => (i 1 : ℕ) / 1024 = 0) (fun β => β (1 : Fin _) = 0) (by decide +kernel)
          (fun t hf y => ?_) (fun j => Iff.rfl) i
  have e12 := idx12 t
  blk_simp
  rw [after0_12]
  have h1 : (y (1 : Fin 2)).val < 1024 := (((cfg0.win 12).xinj (cfg0.grid.coords t) y : S512x1024.Idx) (1 : Fin 2)).isLt
  have h0 : (y (0 : Fin 2)).val < 512 := (((cfg0.win 12).xinj (cfg0.grid.coords t) y : S512x1024.Idx) (0 : Fin 2)).isLt
  rw [show (win0_12.blk t).view.emb y = ix2 (row t ⟨(y (0 : Fin 2)).val, h0⟩) ⟨(y (1 : Fin 2)).val, by omega⟩ by blk_ext [e12],
    ref_wide m c (row t ⟨(y (0 : Fin 2)).val, h0⟩) ⟨(y (1 : Fin 2)).val, h1⟩]
  by_cases h : t.val % 8 = 0
  · exact dz_blkA m c r0 r1 r4 r5 r6 r8 t h ((cfg0.win 12).xinj (cfg0.grid.coords t) y : S512x1024.Idx)
  · exact dz_blkB m c r0 r1 r4 r5 r6 r8 t h ((cfg0.win 12).xinj (cfg0.grid.coords t) y : S512x1024.Idx)

end Cert.Proof.SsdGrad

end
-- ==== Proof.SsdDnw.lean ====
module

public import proofs.«01_k».proof.Proof.Gen.SsdGradIdeal.Value
public import proofs.«01_k».proof.Proof.Gen.SsdGradRefIdeal.Read
public import proofs.«01_k».proof.Defs
public import proofs.«01_k».proof.Proof.SsdRow
public import proofs.«01_k».proof.Proof.SsdBlk
public import Idealize.ShloMosaic.Lib.Claim
public import Idealize.ShloMosaic.Lib.KernelVsHost
public import Idealize.ShloMosaic.Lib.Pipeline.ValueKit
public import Idealize.ShloMosaic.Lib.Pointwise

@[expose] public section

set_option maxRecDepth 16384
set_option maxHeartbeats 4000000

noncomputable section

namespace Cert.Proof.SsdGrad

open Cert.SsdGradIdeal Cert.SsdGradIdeal.Gen Cert.SsdGradIdeal.Value Idealize.ShloMosaic Idealize.ShloMosaic.TcCoe Idealize.SL.Sem
open Cert.SsdGradRefIdeal.Read

variable (m : (ℓ : Loc nD τ sig) → Buf (Elt Ideal) ℓ)

/-- A row's normed value, of the scan's row `Y` and the gate's row `Z`. -/
def ynRow (Y Z : Fin 1024 → EReal) (j : Fin 1024) : EReal :=
  gated (Y j) (Z j) * Ideal.rsqrt (groupSq fun k => gated (Y (lanes j k)) (Z (lanes j k)))

/-- A chunk's step of the norm weights' gradient, of the chunk's blocks and the sum so far. -/
def dnwChunk (act : FVec Ideal S64x1536 .f32) (ysc : FVec Ideal S64x1024 .f32) (dx : FVec Ideal S1x1024 .f32) (z dy : FVec Ideal S64x1024 .f32) (acc : FVec Ideal S1x1024 .f32) : FVec Ideal S1x1024 .f32 :=
  k0_pay37 (F := Ideal) dy (k0_pay31 (k0_pay24 act ysc dx) z (FloatOps.ofBits FTy.f32 0#32)) (k0_pay33 (k0_pay24 act ysc dx) z (FloatOps.ofBits FTy.f32 0#32))
    (k0_pay35 (k0_pay24 act ysc dx) z (FloatOps.ofBits FTy.f32 0#32)) acc

theorem dnwChunk_apply (act : FVec Ideal S64x1536 .f32) (ysc : FVec Ideal S64x1024 .f32) (dx : FVec Ideal S1x1024 .f32) (z dy : FVec Ideal S64x1024 .f32) (acc : FVec Ideal S1x1024 .f32) (j : Fin 1024) :
    dnwChunk act ysc dx z dy acc (ix2 0 j) = acc (ix2 0 j) + ∑ p : Fin 64, mulE (dy (ix2 p j))
      (ynRow (fun q => ysc (ix2 p q) + dx (ix2 0 q) * act (ix2 p ⟨q.val, by omega⟩)) (fun q => z (ix2 p q)) j) := by
  unfold dnwChunk
  unfold_payloads
  pointwise
  congr 1
  refine Finset.sum_congr rfl fun p _ => ?_
  unfold ynRow
  by_cases h : j.val < 512
  · rw [dif_pos h, show lanes j = fun k => ⟨k.val, by omega⟩ from funext fun k => Fin.ext (by show j.val / 512 * 512 + k.val = k.val; omega)]
    rfl
  · have e : 512 + (j.val - 512) = j.val := by omega
    rw [dif_neg h, show lanes j = fun k => ⟨512 + k.val, by omega⟩ from funext fun k => Fin.ext (by show j.val / 512 * 512 + k.val = 512 + k.val; omega)]
    simp only [e]
    rfl

theorem ref_dnw (x0 : FVec Ideal S4096x1536 .f32) (x1 : FVec Ideal S4096x8960 .f32) (x4 : FVec Ideal S16 .f32) (x6 x8 : FVec Ideal S4096x1024 .f32) (j : Fin 1024) :
    val_main_v76 (F := Ideal) x0 x1 x4 x6 x8 (ix2 0 j) = ∑ i : Fin 4096, mulE (x8 (ix2 i j)) (ynRow (fun q => val_main_v9 (F := Ideal) x0 x4 x6 (ix2 i q)) (fun q => x1 (ix2 i ⟨q.val, by omega⟩)) j) := by
  have e : lanes j ⟨j.val % 512, by omega⟩ = j := Fin.ext (by show j.val / 512 * 512 + j.val % 512 = j.val; omega)
  pointwise [val_main_v76, val_main_v43, val_main_v0, val_main_v1, val_main_v2, val_main_v3, val_main_v4, val_main_v5, val_main_v6, val_main_v7, val_main_v8, val_main_v10, val_main_v11, val_main_cst, val_main_v12, val_main_v13, val_main_cst_0, val_main_v14, val_main_v15, val_main_cst_1, val_main_v16, val_main_v17, val_main_v18, val_main_v19, val_main_v20, val_main_v22, val_main_cst_2, val_main_v23, val_main_v24, val_main_cst_3, val_main_v25, val_main_v26, val_main_cst_4, val_main_v27, val_main_v28, val_main_v29, val_main_v30, val_main_cst_5, val_main_v31, val_main_v32, val_main_v33, val_main_v34, val_main_v35, val_main_v36, val_main_v37, val_main_v38, val_main_v39, val_main_cst_6, val_main_v40, val_main_v41, val_main_v42, val_main_cst_7, val_main_v44, val_main_v45, val_main_v46, val_main_cst_8, val_main_v47, val_main_v48, val_main_v49, val_main_v50, val_main_v51, val_main_cst_9, val_main_v52, val_main_v53, val_main_cst_10, val_main_v54, val_main_v55, val_main_v56, val_main_v57, val_main_v58, val_main_v59, val_main_v60, val_main_v61, val_main_v62, val_main_v63, val_main_v64, val_main_v65, val_main_v66, val_main_v67, val_main_v68, val_main_cst_11, val_main_v69, val_main_v70, val_main_cst_12, val_main_v71, val_main_v72, val_main_cst_13, val_main_v73, val_main_v74, val_main_c, val_main_c_14, val_main_v75, val_main_v76, val_main_c_15, val_main_call0_v0, val_main_v77, val_main_v78, val_main_v21]
  simp only [ref_gated, e, Nat.div_add_mod', Fin.sum_univ_one (M := EReal)]
  refine Finset.sum_congr rfl fun i _ => (EReal.mul_comm _ _).trans ?_
  unfold ynRow groupSq
  simp only [gated_eq]

/-- The rows in the order of the points, of the chunks and in a chunk. -/
theorem rows_rev {M : Type*} [AddCommMonoid M] (T : Fin 4096 → M) :
    ∑ s : Fin 8, ∑ q : Fin 8, ∑ p : Fin 64, T ⟨512 * (7 - s.val) + (64 * (7 - q.val) + p.val), by omega⟩ = ∑ i : Fin 4096, T i := by
  let e : Fin 8 × Fin 8 × Fin 64 ≃ Fin 4096 :=
    { toFun := fun x => ⟨512 * (7 - x.1.val) + (64 * (7 - x.2.1.val) + x.2.2.val), by omega⟩
      invFun := fun i => (⟨7 - i.val / 512, by omega⟩, ⟨7 - i.val % 512 / 64, by omega⟩, ⟨i.val % 64, by omega⟩)
      left_inv := fun ⟨a, b, d⟩ => by
        refine Prod.ext (Fin.ext ?_) (Prod.ext (Fin.ext ?_) (Fin.ext ?_))
        · show 7 - (512 * (7 - a.val) + (64 * (7 - b.val) + d.val)) / 512 = a.val
          omega
        · show 7 - (512 * (7 - a.val) + (64 * (7 - b.val) + d.val)) % 512 / 64 = b.val
          omega
        · show (512 * (7 - a.val) + (64 * (7 - b.val) + d.val)) % 64 = d.val
          omega
      right_inv := fun i => Fin.ext (by
        show 512 * (7 - (7 - i.val / 512)) + (64 * (7 - (7 - i.val % 512 / 64)) + i.val % 64) = i.val
        omega) }
  rw [← Equiv.sum_comp e T, Fintype.sum_prod_type]
  refine Finset.sum_congr rfl fun s _ => ?_
  rw [Fintype.sum_prod_type]
  rfl

theorem idx14 : ∀ t : Fin cfg0.N, win0_14.index t = ![0, 0] := (by decide +kernel : ∀ t : Fin grid0.N, _)

/-- What a row adds to the weights' gradient. -/
def dnwTerm (c : Dev nD) (j : Fin 1024) (i : Fin 4096) : EReal :=
  mulE (m ((c : Thread nD τ).loc main_arg8) (ix2 i j)) (ynRow (fun q => val_main_v9 (F := Ideal) (m ((c : Thread nD τ).loc main_arg0)) (m ((c : Thread nD τ).loc main_arg4)) (m ((c : Thread nD τ).loc main_arg6)) (ix2 i q)) (fun q => m ((c : Thread nD τ).loc main_arg1) (ix2 i ⟨q.val, by omega⟩)) j)

/-- The step of the chunk of a point that begins at row `o`. -/
def dnwAt (c : Dev nD) (t : Fin cfg0.N) (o : ℕ) (inb : ∀ a : Fin 2, (![o, 0] : Fin 2 → ℕ) a + (![64, 1536] : Fin 2 → ℕ) a ≤ S512x1536.size a) (inb' : ∀ a : Fin 2, (![o, 0] : Fin 2 → ℕ) a + (![64, 1024] : Fin 2 → ℕ) a ≤ S512x1024.size a) (acc : FVec Ideal S1x1024 .f32) : FVec Ideal S1x1024 .f32 :=
  dnwChunk (View.ld (iblk m c 0 t) (Rect.unit ![o, 0] ![64, 1536] inb)) (View.ld (iblk m c 8 t) (Rect.unit ![o, 0] ![64, 1024] inb')) (iblk m c 5 t)
    (View.ld (X0_1 m c t) (Rect.unit ![o, 0] ![64, 1024] inb')) (View.ld (iblk m c 10 t) (Rect.unit ![o, 0] ![64, 1024] inb')) acc

theorem dnwAt_apply (c : Dev nD) (t : Fin cfg0.N) (o : ℕ) (ho : o + 64 ≤ 512) (inb : ∀ a : Fin 2, (![o, 0] : Fin 2 → ℕ) a + (![64, 1536] : Fin 2 → ℕ) a ≤ S512x1536.size a) (inb' : ∀ a : Fin 2, (![o, 0] : Fin 2 → ℕ) a + (![64, 1024] : Fin 2 → ℕ) a ≤ S512x1024.size a) (acc : FVec Ideal S1x1024 .f32) (j : Fin 1024) :
    dnwAt m c t o inb inb' acc (ix2 0 j) = acc (ix2 0 j) + ∑ p : Fin 64, dnwTerm m c j (row t ⟨o + p.val, by omega⟩) := by
  unfold dnwAt dnwTerm
  rw [dnwChunk_apply, blk0, blk1, blk5, blk8, blk10]
  simp only [ref_y]
  pointwise

/-- What a point adds. -/
def dnwPart (c : Dev nD) (t : Fin cfg0.N) : S1x1024.Idx → EReal := fun x =>
  ∑ q : Fin 8, ∑ p : Fin 64, dnwTerm m c ⟨(x (1 : Fin 2)).val, (x (1 : Fin 2)).isLt⟩ ⟨512 * (7 - t.val) + (64 * (7 - q.val) + p.val), by omega⟩

theorem dnw_point (c : Dev nD) (t : Fin cfg0.N) (acc : FVec Ideal S1x1024 .f32) (x : S1x1024.Idx) :
    (dnwAt m c t 0 inb_S512x1536_S64x1536_0_0 inb_S512x1024_S64x1024_0_0 (dnwAt m c t 64 inb_S512x1536_S64x1536_64_0 inb_S512x1024_S64x1024_64_0 (dnwAt m c t 128 inb_S512x1536_S64x1536_128_0 inb_S512x1024_S64x1024_128_0 (dnwAt m c t 192 inb_S512x1536_S64x1536_192_0 inb_S512x1024_S64x1024_192_0 (dnwAt m c t 256 inb_S512x1536_S64x1536_256_0 inb_S512x1024_S64x1024_256_0 (dnwAt m c t 320 inb_S512x1536_S64x1536_320_0 inb_S512x1024_S64x1024_320_0 (dnwAt m c t 384 inb_S512x1536_S64x1536_384_0 inb_S512x1024_S64x1024_384_0 (dnwAt m c t 448 inb_S512x1536_S64x1536_448_0 inb_S512x1024_S64x1024_448_0 acc)))))))) x = acc x + dnwPart m c t x := by
  rw [show x = ix2 (0 : Fin 1) (⟨(x (1 : Fin 2)).val, (x (1 : Fin 2)).isLt⟩ : Fin 1024) by blk_ext]
  rw [dnwAt_apply m c t 0 (by norm_num), dnwAt_apply m c t 64 (by norm_num), dnwAt_apply m c t 128 (by norm_num), dnwAt_apply m c t 192 (by norm_num), dnwAt_apply m c t 256 (by norm_num), dnwAt_apply m c t 320 (by norm_num), dnwAt_apply m c t 384 (by norm_num), dnwAt_apply m c t 448 (by norm_num)]
  unfold dnwPart
  rw [Fin.sum_univ_eight (M := EReal)]
  simp only [add_assoc (G := EReal)]
  rfl

theorem dnw_acc (c : Dev nD) (t : Fin cfg0.N) (hr : t.val % 8 = 8 - 1) (x : S1x1024.Idx) :
    (outsAt0 m c t.val t.isLt).2.2.2.1 x = ∑ s : Fin 8, dnwPart m c ⟨8 * (t.val / 8) + s.val, Pipeline.run_point_lt_of_flush t hr s⟩ x :=
  (Pipeline.eq_sum_fin_of_reset_step_apply_of_flush (M := EReal) (fun n h => (outsAt0 m c n h).2.2.2.1) 8 (fun _ => 0) (dnwPart m c)
      (fun t h j => by
        rw [outsAt0_A m c t h]
        frame_out
        refine Eq.trans ?_ ((dnw_point m c t (constant (F := Ideal) S1x1024 .f32 0x00000000#32) j).trans (congrArg (· + dnwPart m c t j) (Ideal.ofBits_zero_f32)))
        rfl)
      (fun t h j => by
        rw [outsAt0_B m c t h]
        frame_out
        exact dnw_point m c t _ j) t hr x).trans (zero_add (M := EReal) _)

theorem dnw_total (c : Dev nD) (t : Fin cfg0.N) (hr : t.val % 8 = 8 - 1) (x : S1x1024.Idx) :
    (outsAt0 m c t.val t.isLt).2.2.2.1 x = val_main_v76 (F := Ideal) (m ((c : Thread nD τ).loc main_arg0)) (m ((c : Thread nD τ).loc main_arg1)) (m ((c : Thread nD τ).loc main_arg4)) (m ((c : Thread nD τ).loc main_arg6)) (m ((c : Thread nD τ).loc main_arg8)) (ix2 (0 : Fin 1) (⟨(x (1 : Fin 2)).val, (x (1 : Fin 2)).isLt⟩ : Fin 1024)) := by
  rw [dnw_acc m c t hr, ref_dnw, ← rows_rev]
  have h8 : t.val < 8 := t.isLt
  refine Finset.sum_congr rfl fun s _ => Finset.sum_congr rfl fun q _ => Finset.sum_congr rfl fun p _ => ?_
  show dnwTerm m c _ _ = dnwTerm m c _ _
  congr 1
  exact Fin.ext (by show 512 * (7 - (8 * (t.val / 8) + s.val)) + (64 * (7 - q.val) + p.val) = 512 * (7 - s.val) + (64 * (7 - q.val) + p.val); omega)

/-- The norm weights' gradient: one sum over all rows. -/
theorem final14 (c : Dev nD) : (dats m 0 c).arrAt 14 cfg0.N = val_main_v76 (F := Ideal) (m ((c : Thread nD τ).loc main_arg0)) (m ((c : Thread nD τ).loc main_arg1)) (m ((c : Thread nD τ).loc main_arg4)) (m ((c : Thread nD τ).loc main_arg6)) (m ((c : Thread nD τ).loc main_arg8)) := by
  refine (dats m 0 c).arrAt_eq_of_covers 14 _ (by decide +kernel) fun t hf y => ?_
  have hr := (flush0_14 t).mp hf
  have e14 := idx14 t
  blk_simp
  rw [after0_14]
  refine (dnw_total m c t hr y).trans ?_
  congr 1
  blk_ext [e14]

end Cert.Proof.SsdGrad

end
-- ==== Proof.SsdDd.lean ====
module

public import proofs.«01_k».proof.Proof.Gen.SsdGradIdeal.Value
public import proofs.«01_k».proof.Proof.Gen.SsdGradRefIdeal.Read
public import proofs.«01_k».proof.Defs
public import proofs.«01_k».proof.Proof.SsdRow
public import proofs.«01_k».proof.Proof.SsdDnw
public import proofs.«01_k».proof.Proof.SsdBlk
public import Idealize.ShloMosaic.Lib.Claim
public import Idealize.ShloMosaic.Lib.KernelVsHost
public import Idealize.ShloMosaic.Lib.Pipeline.ValueKit
public import Idealize.ShloMosaic.Lib.Pointwise

@[expose] public section

set_option maxRecDepth 16384
set_option maxHeartbeats 4000000

noncomputable section

namespace Cert.Proof.SsdGrad

open Cert.SsdGradIdeal Cert.SsdGradIdeal.Gen Cert.SsdGradIdeal.Value Idealize.ShloMosaic Idealize.ShloMosaic.TcCoe Idealize.SL.Sem
open Cert.SsdGradRefIdeal.Read

variable (m : (ℓ : Loc nD τ sig) → Buf (Elt Ideal) ℓ)

/-- The column's head, as the host computes it. -/
theorem col_div : ∀ k : Fin 1024, (Scalar.select
          (IntOp.andi
            (IntOp.cmpi CmpIPredicate.ne
              (if BitVec.ofNat 32 k.val = 0 then 0 else if (BitVec.ofNat 32 k.val).msb = true then -1 else 1 : BitVec 32)
              (if 64#32 = 0 then 0 else if (64#32).msb = true then -1 else 1 : BitVec 32))
            (IntOp.cmpi CmpIPredicate.ne (IntOp.remsi ArithUnit.host (BitVec.ofNat 32 k.val) 64#32) 0#32))
          (IntOp.subi (IntOp.divsi ArithUnit.host (BitVec.ofNat 32 k.val) 64#32) 1#32)
          (IntOp.divsi ArithUnit.host (BitVec.ofNat 32 k.val) 64#32) : BitVec 32) = BitVec.ofNat 32 (k.val / 64) := by decide +kernel

theorem V7 (c : Dev nD) : V m c main_v8 = fun i : S128x1024.Idx => if (i 0).val = (i 1).val / 64 then (1 : EReal) else 0 := by
  show StableHlo.after [_, _, _, _, _, _, _, _, _, _, _, _, _, _, _, _, _, _, _, _, _, _, _, _, _, _, _] _ _ = _
  entry_read
  simp only [StableHlo.TRef.toBuf, StableHlo.TRef.ofBuf, cast_eq]
  funext i
  pointwise
  have h0 : (i 0).val < 128 := (i 0).isLt
  have h1 : (i 1).val < 1024 := (i 1).isLt
  refine (congrArg (fun b => FloatOps.uitofp (F := Ideal) FTy.bf16 (IntOp.cmpi CmpIPredicate.eq b (BitVec.ofNat 32 ↑(i 0)))) (col_div ⟨_, h1⟩)).trans ?_
  by_cases h : (i 0).val = (i 1).val / 64
  · rw [if_pos h, ← h]
    simp [IntOp.cmpi]
    show (((1#1 : BitVec 1).toNat : ℝ) : EReal) = 1
    norm_num
  · have e : IntOp.cmpi CmpIPredicate.eq (BitVec.ofNat 32 ((i 1).val / 64)) (BitVec.ofNat 32 (i 0).val) = 0#1 := by
      have hn : ¬BitVec.ofNat 32 ((i 1).val / 64) = BitVec.ofNat 32 (i 0).val := fun hb => by
        have := congrArg BitVec.toNat hb
        simp only [BitVec.toNat_ofNat] at this
        omega
      show BitVec.ofBool (BitVec.ofNat 32 ((i 1).val / 64) == BitVec.ofNat 32 (i 0).val) = 0#1
      rw [beq_eq_false_iff_ne.mpr hn]
      rfl
    rw [if_neg h]
    refine (congrArg _ e).trans ?_
    show (((0#1 : BitVec 1).toNat : ℝ) : EReal) = 0
    norm_num

theorem idx7 : ∀ t : Fin cfg0.N, win0_7.index t = ![0, 0] := (by decide +kernel : ∀ t : Fin grid0.N, _)

theorem blk7 (c : Dev nD) (t : Fin cfg0.N) : iblk m c 7 t = fun i : S128x1024.Idx => if (i 0).val = (i 1).val / 64 then (1 : EReal) else 0 := by
  funext i
  have e7 := idx7 t
  blk_simp [iblk]
  rw [V7]
  have e0 : ((win0_7.blk t).view.emb i 0 : ℕ) = (i 0).val := by blk_simp [e7]
  have e1 : ((win0_7.blk t).view.emb i 1 : ℕ) = (i 1).val := by blk_simp [e7]
  show (if ((win0_7.blk t).view.emb i 0 : ℕ) = ((win0_7.blk t).view.emb i 1 : ℕ) / 64 then (1 : EReal) else 0) = _
  rw [e0, e1]

/-- A row's gradient of the scan's row, of the scan's row `Y`, the gate's row `Z` and the weighted cotangent's row `D`. -/
def dyRow (Y Z D : Fin 1024 → EReal) (j : Fin 1024) : EReal :=
  groupGrad (fun k => gated (Y (lanes j k)) (Z (lanes j k))) (fun k => D (lanes j k)) (gated (Y j) (Z j)) (D j)
    * (Z j * Ideal.div 1 (1 + Ideal.exp (0 - Z j)))

/-- A product with the expansion in three parts, as the kernel writes it. -/
def dot3 (X R : Fin 1024 → EReal) : EReal :=
  (∑ j, X j * R j) + (∑ j, (X j - X j) * R j) + ∑ j, (X j - X j - (X j - X j)) * R j

theorem dot3_real (X R : Fin 1024 → EReal) (hX : ∀ j, IsReal (X j)) : dot3 X R = ∑ j, X j * R j := by
  have h : ∀ j, X j - X j = 0 := fun j => by
    obtain ⟨x, hx⟩ := hX j
    rw [hx, ← EReal.coe_sub, sub_self, EReal.coe_zero]
  unfold dot3
  simp only [h, sub_zero, zero_mul, Finset.sum_const_zero, add_zero]

/-- A chunk's step of the skip weights' gradient, of the chunk's blocks and the sum so far. -/
def ddChunk (R : FVec Ideal S128x1024 .bf16) (act : FVec Ideal S64x1536 .f32) (ysc : FVec Ideal S64x1024 .f32) (dx nw : FVec Ideal S1x1024 .f32) (z dy : FVec Ideal S64x1024 .f32) (acc : FVec Ideal S1x128 .f32) : FVec Ideal S1x128 .f32 :=
  k0_pay47 (F := Ideal) (k0_pay7 R) (k0_pay41 acc)
    (k0_pay44 (k0_pay7 R) (k0_pay19 act) (k0_pay26 z (FloatOps.ofBits FTy.f32 0#32)) (k0_pay28 dy nw)
      (k0_pay32 (k0_pay24 act ysc dx) z (FloatOps.ofBits FTy.f32 0#32) dy nw) (k0_pay33 (k0_pay24 act ysc dx) z (FloatOps.ofBits FTy.f32 0#32))
      (k0_pay34 (k0_pay24 act ysc dx) z (FloatOps.ofBits FTy.f32 0#32)) (k0_pay35 (k0_pay24 act ysc dx) z (FloatOps.ofBits FTy.f32 0#32)))
    (k0_pay45 (k0_pay19 act) (k0_pay26 z (FloatOps.ofBits FTy.f32 0#32)) (k0_pay28 dy nw)
      (k0_pay32 (k0_pay24 act ysc dx) z (FloatOps.ofBits FTy.f32 0#32) dy nw) (k0_pay33 (k0_pay24 act ysc dx) z (FloatOps.ofBits FTy.f32 0#32))
      (k0_pay34 (k0_pay24 act ysc dx) z (FloatOps.ofBits FTy.f32 0#32)) (k0_pay35 (k0_pay24 act ysc dx) z (FloatOps.ofBits FTy.f32 0#32)))
    (k0_pay46 (k0_pay19 act) (k0_pay26 z (FloatOps.ofBits FTy.f32 0#32)) (k0_pay28 dy nw)
      (k0_pay32 (k0_pay24 act ysc dx) z (FloatOps.ofBits FTy.f32 0#32) dy nw) (k0_pay33 (k0_pay24 act ysc dx) z (FloatOps.ofBits FTy.f32 0#32))
      (k0_pay34 (k0_pay24 act ysc dx) z (FloatOps.ofBits FTy.f32 0#32)) (k0_pay35 (k0_pay24 act ysc dx) z (FloatOps.ofBits FTy.f32 0#32)))
    (constant S1x128 .f32 0x00000000#32)

theorem ddChunk_apply (R : FVec Ideal S128x1024 .bf16) (act : FVec Ideal S64x1536 .f32) (ysc : FVec Ideal S64x1024 .f32) (dx nw : FVec Ideal S1x1024 .f32) (z dy : FVec Ideal S64x1024 .f32) (acc : FVec Ideal S1x128 .f32) (h : Fin 128) :
    ddChunk R act ysc dx nw z dy acc (ix2 0 h) = acc (ix2 0 h) + dot3 (fun j => ∑ p : Fin 64, mulE
      (dyRow (fun q => ysc (ix2 p q) + dx (ix2 0 q) * act (ix2 p ⟨q.val, by omega⟩)) (fun q => z (ix2 p q)) (fun q => dy (ix2 p q) * nw (ix2 0 q)) j) (act (ix2 p ⟨j.val, by omega⟩)))
      (fun j => R (ix2 h j)) := by
  have key : ∀ j : Fin 1024, k0_pay42 (F := Ideal) (k0_pay19 act) (k0_pay26 z (FloatOps.ofBits FTy.f32 0#32)) (k0_pay28 dy nw)
      (k0_pay32 (k0_pay24 act ysc dx) z (FloatOps.ofBits FTy.f32 0#32) dy nw) (k0_pay33 (k0_pay24 act ysc dx) z (FloatOps.ofBits FTy.f32 0#32))
      (k0_pay34 (k0_pay24 act ysc dx) z (FloatOps.ofBits FTy.f32 0#32)) (k0_pay35 (k0_pay24 act ysc dx) z (FloatOps.ofBits FTy.f32 0#32)) (ix2 0 j) = ∑ p : Fin 64, mulE
      (dyRow (fun q => ysc (ix2 p q) + dx (ix2 0 q) * act (ix2 p ⟨q.val, by omega⟩)) (fun q => z (ix2 p q)) (fun q => dy (ix2 p q) * nw (ix2 0 q)) j) (act (ix2 p ⟨j.val, by omega⟩)) := fun j => by
    unfold_payloads
    pointwise
    refine Finset.sum_congr rfl fun p _ => ?_
    unfold dyRow
    by_cases h : j.val < 512
    · rw [dif_pos h, show lanes j = fun k => ⟨k.val, by omega⟩ from funext fun k => Fin.ext (by show j.val / 512 * 512 + k.val = k.val; omega)]
      rfl
    · have e : 512 + (j.val - 512) = j.val := by omega
      rw [dif_neg h, show lanes j = fun k => ⟨512 + k.val, by omega⟩ from funext fun k => Fin.ext (by show j.val / 512 * 512 + k.val = 512 + k.val; omega)]
      simp only [e]
      rfl
  simp only [← key]
  unfold ddChunk k0_pay47 k0_pay46 k0_pay45 k0_pay44 k0_pay43 k0_pay41 k0_pay7
  generalize k0_pay42 (F := Ideal) (k0_pay19 act) (k0_pay26 z (FloatOps.ofBits FTy.f32 0#32)) (k0_pay28 dy nw)
      (k0_pay32 (k0_pay24 act ysc dx) z (FloatOps.ofBits FTy.f32 0#32) dy nw) (k0_pay33 (k0_pay24 act ysc dx) z (FloatOps.ofBits FTy.f32 0#32))
      (k0_pay34 (k0_pay24 act ysc dx) z (FloatOps.ofBits FTy.f32 0#32)) (k0_pay35 (k0_pay24 act ysc dx) z (FloatOps.ofBits FTy.f32 0#32)) = X
  pointwise
  rfl

theorem ref_dyg (x0 : FVec Ideal S4096x1536 .f32) (x1 : FVec Ideal S4096x8960 .f32) (x4 : FVec Ideal S16 .f32) (x5 : FVec Ideal S1024 .f32) (x6 x8 : FVec Ideal S4096x1024 .f32)
    (r0 : ∀ i, IsReal (x0 i)) (r1 : ∀ i, IsReal (x1 i)) (r4 : ∀ i, IsReal (x4 i)) (r5 : ∀ i, IsReal (x5 i)) (r6 : ∀ i, IsReal (x6 i)) (r8 : ∀ i, IsReal (x8 i)) (i : Fin 4096) (j : Fin 1024) :
    IsReal (val_main_v62 (F := Ideal) x0 x1 x4 x5 x6 x8 (ix2 i j)) ∧
    val_main_v62 (F := Ideal) x0 x1 x4 x5 x6 x8 (ix2 i j) = dyRow (fun q => val_main_v9 (F := Ideal) x0 x4 x6 (ix2 i q)) (fun q => x1 (ix2 i ⟨q.val, by omega⟩)) (fun q => val_main_v43 (F := Ideal) x5 x8 (ix2 i q)) j := by
  have rY : ∀ q, IsReal (val_main_v9 (F := Ideal) x0 x4 x6 (ix2 i q)) := fun q => by rw [ref_y]; exact (r6 _).add ((r4 _).mul (r0 _))
  have rD : ∀ q, IsReal (val_main_v43 (F := Ideal) x5 x8 (ix2 i q)) := fun q => by rw [ref_d]; exact (r8 _).mul (r5 _)
  have e : lanes j ⟨j.val % 512, by omega⟩ = j := Fin.ext (by show j.val / 512 * 512 + j.val % 512 = j.val; omega)
  have g := groupGrad_real (fun k => gated (val_main_v9 (F := Ideal) x0 x4 x6 (ix2 i (lanes j k))) (x1 (ix2 i ⟨(lanes j k).val, by omega⟩))) (fun k => val_main_v43 (F := Ideal) x5 x8 (ix2 i (lanes j k)))
    (fun k => gated_real (rY _) (r1 _)) (fun _ => rD _) (gated_real (rY j) (r1 (ix2 i ⟨j.val, by omega⟩))) (rD j)
  have main : val_main_v62 (F := Ideal) x0 x1 x4 x5 x6 x8 (ix2 i j) = dyRow (fun q => val_main_v9 (F := Ideal) x0 x4 x6 (ix2 i q)) (fun q => x1 (ix2 i ⟨q.val, by omega⟩)) (fun q => val_main_v43 (F := Ideal) x5 x8 (ix2 i q)) j := by
    unfold dyRow
    refine Eq.trans ?_ (congrArg (· * _) g.2).symm
    rw [zero_sub]
    pointwise [val_main_v0, val_main_v1, val_main_v2, val_main_v3, val_main_v4, val_main_v5, val_main_v6, val_main_v7, val_main_v8, val_main_v10, val_main_v11, val_main_cst, val_main_v12, val_main_v13, val_main_cst_0, val_main_v14, val_main_v15, val_main_cst_1, val_main_v16, val_main_v17, val_main_v18, val_main_v19, val_main_v20, val_main_v22, val_main_cst_2, val_main_v23, val_main_v24, val_main_cst_3, val_main_v25, val_main_v26, val_main_cst_4, val_main_v27, val_main_v28, val_main_v29, val_main_v30, val_main_cst_5, val_main_v31, val_main_v32, val_main_v33, val_main_v34, val_main_v35, val_main_v36, val_main_v37, val_main_v38, val_main_v39, val_main_cst_6, val_main_v40, val_main_v41, val_main_v42, val_main_cst_7, val_main_v44, val_main_v45, val_main_v46, val_main_cst_8, val_main_v47, val_main_v48, val_main_v49, val_main_v50, val_main_v51, val_main_cst_9, val_main_v52, val_main_v53, val_main_cst_10, val_main_v54, val_main_v55, val_main_v56, val_main_v57, val_main_v58, val_main_v59, val_main_v60, val_main_v61, val_main_v62, val_main_v63, val_main_v64, val_main_v65, val_main_v66, val_main_v67, val_main_v68, val_main_cst_11, val_main_v69, val_main_v70, val_main_cst_12, val_main_v71, val_main_v72, val_main_cst_13, val_main_v73, val_main_v74, val_main_c, val_main_c_14, val_main_v75, val_main_v76, val_main_c_15, val_main_call0_v0, val_main_v77, val_main_v78]
    simp only [ref_gated, e, Nat.div_add_mod', Fin.sum_univ_one (M := EReal)]
    rfl
  refine ⟨?_, main⟩
  rw [main]
  have sl := gated_real (IsReal.coe 1) (r1 (ix2 i ⟨j.val, by omega⟩))
  unfold gated at sl
  rw [EReal.coe_one, one_mul] at sl
  exact g.1.mul sl

/-- The host's sum over the first and the last of three axes. -/
theorem fiber_mid {n0 n1 n2 : ℕ} {t : Shape} (h : (⟨3, ![n0, n1, n2]⟩ : Shape).ReducesTo [0, 2] t) (hr : 0 < t.rank) (hs : t.size ⟨0, hr⟩ = n1) (j : t.Idx) (i : (⟨3, ![n0, n1, n2]⟩ : Shape).Idx) :
    h.drop i = j ↔ ∃ k : Fin n0 × Fin n2, ix3 k.1 ⟨(j ⟨0, hr⟩).val, Shape.coordLt (j ⟨0, hr⟩) hs⟩ k.2 = i := by
  constructor
  · intro e
    refine ⟨(i 0, i 2), ?_⟩
    funext a; apply Fin.ext
    match a with
    | ⟨0, _⟩ => rfl
    | ⟨1, _⟩ => exact (congrArg Fin.val (congrFun e ⟨0, hr⟩)).symm
    | ⟨2, _⟩ => rfl
  · rintro ⟨k, rfl⟩
    funext a; apply Fin.ext
    have ha : a = ⟨0, hr⟩ := Fin.ext (by have h1 : t.rank = 1 := h.1; have := a.isLt; show a.val = 0; omega)
    subst ha
    rfl

theorem hostSum_mid {n0 n1 n2 : ℕ} {t : Shape} (h : (⟨3, ![n0, n1, n2]⟩ : Shape).ReducesTo [0, 2] t) (hr : 0 < t.rank) (hs : t.size ⟨0, hr⟩ = n1) (v : (⟨3, ![n0, n1, n2]⟩ : Shape).Idx → EReal) (init : EReal) (j : t.Idx) :
    Ideal.hostReduceAdd h v init j = init + ∑ k0 : Fin n0, ∑ k2 : Fin n2, v (ix3 k0 ⟨(j ⟨0, hr⟩).val, Shape.coordLt (j ⟨0, hr⟩) hs⟩ k2) := by
  refine congrArg (init + ·) ?_
  refine (Finset.sum_filter_eq_sum_of_fiber _ (fun k : Fin n0 × Fin n2 => ix3 k.1 ⟨(j ⟨0, hr⟩).val, Shape.coordLt (j ⟨0, hr⟩) hs⟩ k.2)
    (fun _ _ e => Prod.ext (congrFun e 0) (congrFun e 2)) (fiber_mid h hr hs j) v).trans ?_
  simp only [Fintype.sum_prod_type]

theorem ref_v69 (x0 : FVec Ideal S4096x1536 .f32) (x1 : FVec Ideal S4096x8960 .f32) (x4 : FVec Ideal S16 .f32) (x5 : FVec Ideal S1024 .f32) (x6 x8 : FVec Ideal S4096x1024 .f32) (h : Fin 16) : val_main_v69 (F := Ideal) x0 x1 x4 x5 x6 x8 (ix1 h) = ∑ i : Fin 4096, ∑ d : Fin 64,
    mulE (val_main_v62 (F := Ideal) x0 x1 x4 x5 x6 x8 (ix2 i ⟨64 * h.val + d.val, by omega⟩)) (x0 (ix2 i ⟨64 * h.val + d.val, by omega⟩)) := by
  unfold val_main_v69
  rw [ValueIdx.hostReduceAdd_apply]
  refine (hostSum_mid (n0 := 4096) (n1 := 16) (n2 := 64) _ (by decide) rfl _ _ _).trans ?_
  refine Eq.trans (congrArg (· + _) (Ideal.ofBits_zero_f32)) ?_
  refine (zero_add (M := EReal) _).trans ?_
  refine Finset.sum_congr rfl fun i _ => Finset.sum_congr rfl fun d _ => ?_
  pointwise [val_main_v68, val_main_v67, val_main_v1, val_main_v0]
  unfold mulE
  congr 2 <;> blk_ext

theorem ref_v71 (x0 : FVec Ideal S4096x1536 .f32) (x1 : FVec Ideal S4096x8960 .f32) (x4 : FVec Ideal S16 .f32) (x5 : FVec Ideal S1024 .f32) (x6 x8 : FVec Ideal S4096x1024 .f32) (h : Fin 16) : val_main_v71 (F := Ideal) x0 x1 x4 x5 x6 x8 (ix1 h) = val_main_v69 (F := Ideal) x0 x1 x4 x5 x6 x8 (ix1 h) := by
  unfold val_main_v71
  rw [ValueIdx.hostReduceAdd_apply]
  refine (hostSum_mid (n0 := 1) (n1 := 16) (n2 := 1) _ (by decide) rfl _ _ _).trans ?_
  refine Eq.trans (congrArg (· + _) (Ideal.ofBits_zero_f32)) ?_
  refine (zero_add (M := EReal) _).trans ?_
  rw [Fin.sum_univ_one (M := EReal), Fin.sum_univ_one (M := EReal)]
  pointwise [val_main_v70]

theorem ref_dd (x0 : FVec Ideal S4096x1536 .f32) (x1 : FVec Ideal S4096x8960 .f32) (x4 : FVec Ideal S16 .f32) (x5 : FVec Ideal S1024 .f32) (x6 x8 : FVec Ideal S4096x1024 .f32) (h : Fin 128) :
    val_main_v78 (F := Ideal) x0 x1 x4 x5 x6 x8 (ix2 0 h) = ∑ i : Fin 4096, if hh : h.val < 16 then
      ∑ d : Fin 64, mulE (val_main_v62 (F := Ideal) x0 x1 x4 x5 x6 x8 (ix2 i ⟨64 * h.val + d.val, by omega⟩)) (x0 (ix2 i ⟨64 * h.val + d.val, by omega⟩)) else 0 := by
  pointwise [val_main_v0, val_main_v1, val_main_v2, val_main_v3, val_main_v4, val_main_v5, val_main_v6, val_main_v7, val_main_v8, val_main_v10, val_main_v11, val_main_cst, val_main_v12, val_main_v13, val_main_cst_0, val_main_v14, val_main_v15, val_main_cst_1, val_main_v16, val_main_v17, val_main_v18, val_main_v19, val_main_v20, val_main_v22, val_main_cst_2, val_main_v23, val_main_v24, val_main_cst_3, val_main_v25, val_main_v26, val_main_cst_4, val_main_v27, val_main_v28, val_main_v29, val_main_v30, val_main_cst_5, val_main_v31, val_main_v32, val_main_v33, val_main_v34, val_main_v35, val_main_v36, val_main_v37, val_main_v38, val_main_v39, val_main_cst_6, val_main_v40, val_main_v41, val_main_v42, val_main_cst_7, val_main_v44, val_main_v45, val_main_v46, val_main_cst_8, val_main_v47, val_main_v48, val_main_v49, val_main_v50, val_main_v51, val_main_cst_9, val_main_v52, val_main_v53, val_main_cst_10, val_main_v54, val_main_v55, val_main_v56, val_main_v57, val_main_v58, val_main_v59, val_main_v60, val_main_v61, val_main_v63, val_main_v64, val_main_v65, val_main_v66, val_main_v67, val_main_v68, val_main_cst_11, val_main_v70, val_main_cst_12, val_main_v72, val_main_cst_13, val_main_v73, val_main_v74, val_main_c, val_main_c_14, val_main_v75, val_main_v76, val_main_c_15, val_main_call0_v0, val_main_v77, val_main_v78, val_main_v21]
  by_cases hh : h.val < 16
  · rw [dif_pos hh]
    refine (Fin.sum_univ_one (M := EReal) _).trans ((ref_v71 x0 x1 x4 x5 x6 x8 ⟨h.val, hh⟩).trans ((ref_v69 x0 x1 x4 x5 x6 x8 ⟨h.val, hh⟩).trans ?_))
    exact Finset.sum_congr rfl fun i _ => by rw [dif_pos hh]
  · rw [dif_neg hh]
    refine Eq.trans ?_ (Finset.sum_eq_zero fun i _ => dif_neg hh).symm
    show (((0#32 : BitVec 32).toInt : ℝ) : EReal) = 0
    norm_num

/-- The expansion's row of a head picks the head's lanes. -/
theorem head_sum (X : Fin 1024 → EReal) (h : Fin 128) : (∑ j : Fin 1024, X j * (if h.val = j.val / 64 then (1 : EReal) else 0))
    = if hh : h.val < 16 then ∑ d : Fin 64, X ⟨64 * h.val + d.val, by omega⟩ else 0 := by
  by_cases hh : h.val < 16
  · rw [dif_pos hh, ← Fin.sum_mul_add_congr (F := fun (s : Fin 16) (k : Fin 64) => X ⟨s.val * 64 + k.val, by omega⟩ * (if h.val = (s.val * 64 + k.val) / 64 then (1 : EReal) else 0)) (fun s k hl => rfl)]
    rw [Finset.sum_eq_single (⟨h.val, hh⟩ : Fin 16)]
    · refine Finset.sum_congr rfl fun d _ => ?_
      rw [if_pos (by show h.val = (h.val * 64 + d.val) / 64; omega), mul_one]
      congr 1
      exact Fin.ext (by show h.val * 64 + d.val = 64 * h.val + d.val; omega)
    · intro s _ hs
      refine Finset.sum_eq_zero fun d _ => ?_
      rw [if_neg (fun he => hs (Fin.ext (by show s.val = h.val; omega))), mul_zero]
    · exact fun hn => absurd (Finset.mem_univ _) hn
  · rw [dif_neg hh]
    exact Finset.sum_eq_zero fun j _ => by rw [if_neg (by omega), mul_zero]

/-- What a row adds to the skip weights' gradient. -/
def ddTerm (c : Dev nD) (h : Fin 128) (i : Fin 4096) : EReal :=
  if hh : h.val < 16 then ∑ d : Fin 64, mulE (val_main_v62 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg8)) (ix2 i ⟨64 * h.val + d.val, by omega⟩)) (m ((c : Thread nD τ).loc main_arg0) (ix2 i ⟨64 * h.val + d.val, by omega⟩)) else 0

/-- The step of the chunk of a point that begins at row `o`. -/
def ddAt (c : Dev nD) (t : Fin cfg0.N) (o : ℕ) (inb : ∀ a : Fin 2, (![o, 0] : Fin 2 → ℕ) a + (![64, 1536] : Fin 2 → ℕ) a ≤ S512x1536.size a) (inb' : ∀ a : Fin 2, (![o, 0] : Fin 2 → ℕ) a + (![64, 1024] : Fin 2 → ℕ) a ≤ S512x1024.size a) (acc : FVec Ideal S1x128 .f32) : FVec Ideal S1x128 .f32 :=
  ddChunk (iblk m c 7 t) (View.ld (iblk m c 0 t) (Rect.unit ![o, 0] ![64, 1536] inb)) (View.ld (iblk m c 8 t) (Rect.unit ![o, 0] ![64, 1024] inb')) (iblk m c 5 t) (iblk m c 6 t)
    (View.ld (X0_1 m c t) (Rect.unit ![o, 0] ![64, 1024] inb')) (View.ld (iblk m c 10 t) (Rect.unit ![o, 0] ![64, 1024] inb')) acc

theorem ddAt_apply (c : Dev nD) (r0 : ∀ i, IsReal (m ((c : Thread nD τ).loc main_arg0) i)) (r1 : ∀ i, IsReal (m ((c : Thread nD τ).loc main_arg1) i)) (r4 : ∀ i, IsReal (m ((c : Thread nD τ).loc main_arg4) i)) (r5 : ∀ i, IsReal (m ((c : Thread nD τ).loc main_arg5) i)) (r6 : ∀ i, IsReal (m ((c : Thread nD τ).loc main_arg6) i)) (r8 : ∀ i, IsReal (m ((c : Thread nD τ).loc main_arg8) i)) (t : Fin cfg0.N) (o : ℕ) (ho : o + 64 ≤ 512) (inb : ∀ a : Fin 2, (![o, 0] : Fin 2 → ℕ) a + (![64, 1536] : Fin 2 → ℕ) a ≤ S512x1536.size a) (inb' : ∀ a : Fin 2, (![o, 0] : Fin 2 → ℕ) a + (![64, 1024] : Fin 2 → ℕ) a ≤ S512x1024.size a) (acc : FVec Ideal S1x128 .f32) (h : Fin 128) :
    ddAt m c t o inb inb' acc (ix2 0 h) = acc (ix2 0 h) + ∑ p : Fin 64, ddTerm m c h (row t ⟨o + p.val, by omega⟩) := by
  unfold ddAt ddTerm
  rw [ddChunk_apply, blk0, blk1, blk5, blk6, blk7, blk8, blk10]
  refine congrArg (acc (ix2 0 h) + ·) ?_
  refine (congrArg₂ dot3 (x' := fun j => ∑ p : Fin 64, mulE (val_main_v62 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg8)) (ix2 (row t ⟨o + p.val, by omega⟩) j)) (m ((c : Thread nD τ).loc main_arg0) (ix2 (row t ⟨o + p.val, by omega⟩) ⟨j.val, by omega⟩)))
    (funext fun j => Finset.sum_congr rfl fun p _ => congrArg₂ mulE ?_ ?_) rfl).trans ?_
  · rw [(ref_dyg _ _ _ _ _ _ r0 r1 r4 r5 r6 r8 _ j).2]
    simp only [ref_y, ref_d]
    pointwise
  · pointwise
  rw [dot3_real _ _ (fun j => IsReal.sum _ fun p => ((ref_dyg _ _ _ _ _ _ r0 r1 r4 r5 r6 r8 _ j).1).mul (r0 _))]
  refine (head_sum _ h).trans ?_
  by_cases hh : h.val < 16
  · rw [dif_pos hh, Finset.sum_comm]
    exact Finset.sum_congr rfl fun p _ => by rw [dif_pos hh]
  · rw [dif_neg hh]
    exact (Finset.sum_eq_zero fun p _ => dif_neg hh).symm

/-- What a point adds. -/
def ddPart (c : Dev nD) (t : Fin cfg0.N) : S1x128.Idx → EReal := fun x =>
  ∑ q : Fin 8, ∑ p : Fin 64, ddTerm m c ⟨(x (1 : Fin 2)).val, (x (1 : Fin 2)).isLt⟩ ⟨512 * (7 - t.val) + (64 * (7 - q.val) + p.val), by omega⟩

theorem dd_point (c : Dev nD) (r0 : ∀ i, IsReal (m ((c : Thread nD τ).loc main_arg0) i)) (r1 : ∀ i, IsReal (m ((c : Thread nD τ).loc main_arg1) i)) (r4 : ∀ i, IsReal (m ((c : Thread nD τ).loc main_arg4) i)) (r5 : ∀ i, IsReal (m ((c : Thread nD τ).loc main_arg5) i)) (r6 : ∀ i, IsReal (m ((c : Thread nD τ).loc main_arg6) i)) (r8 : ∀ i, IsReal (m ((c : Thread nD τ).loc main_arg8) i)) (t : Fin cfg0.N) (acc : FVec Ideal S1x128 .f32) (x : S1x128.Idx) :
    (ddAt m c t 0 inb_S512x1536_S64x1536_0_0 inb_S512x1024_S64x1024_0_0 (ddAt m c t 64 inb_S512x1536_S64x1536_64_0 inb_S512x1024_S64x1024_64_0 (ddAt m c t 128 inb_S512x1536_S64x1536_128_0 inb_S512x1024_S64x1024_128_0 (ddAt m c t 192 inb_S512x1536_S64x1536_192_0 inb_S512x1024_S64x1024_192_0 (ddAt m c t 256 inb_S512x1536_S64x1536_256_0 inb_S512x1024_S64x1024_256_0 (ddAt m c t 320 inb_S512x1536_S64x1536_320_0 inb_S512x1024_S64x1024_320_0 (ddAt m c t 384 inb_S512x1536_S64x1536_384_0 inb_S512x1024_S64x1024_384_0 (ddAt m c t 448 inb_S512x1536_S64x1536_448_0 inb_S512x1024_S64x1024_448_0 acc)))))))) x = acc x + ddPart m c t x := by
  rw [show x = ix2 (0 : Fin 1) (⟨(x (1 : Fin 2)).val, (x (1 : Fin 2)).isLt⟩ : Fin 128) by blk_ext]
  rw [ddAt_apply m c r0 r1 r4 r5 r6 r8 t 0 (by norm_num), ddAt_apply m c r0 r1 r4 r5 r6 r8 t 64 (by norm_num), ddAt_apply m c r0 r1 r4 r5 r6 r8 t 128 (by norm_num), ddAt_apply m c r0 r1 r4 r5 r6 r8 t 192 (by norm_num), ddAt_apply m c r0 r1 r4 r5 r6 r8 t 256 (by norm_num), ddAt_apply m c r0 r1 r4 r5 r6 r8 t 320 (by norm_num), ddAt_apply m c r0 r1 r4 r5 r6 r8 t 384 (by norm_num), ddAt_apply m c r0 r1 r4 r5 r6 r8 t 448 (by norm_num)]
  unfold ddPart
  rw [Fin.sum_univ_eight (M := EReal)]
  simp only [add_assoc (G := EReal)]
  rfl

theorem dd_acc (c : Dev nD) (r0 : ∀ i, IsReal (m ((c : Thread nD τ).loc main_arg0) i)) (r1 : ∀ i, IsReal (m ((c : Thread nD τ).loc main_arg1) i)) (r4 : ∀ i, IsReal (m ((c : Thread nD τ).loc main_arg4) i)) (r5 : ∀ i, IsReal (m ((c : Thread nD τ).loc main_arg5) i)) (r6 : ∀ i, IsReal (m ((c : Thread nD τ).loc main_arg6) i)) (r8 : ∀ i, IsReal (m ((c : Thread nD τ).loc main_arg8) i)) (t : Fin cfg0.N) (hr : t.val % 8 = 8 - 1) (x : S1x128.Idx) :
    (outsAt0 m c t.val t.isLt).2.2.2.2.1 x = ∑ s : Fin 8, ddPart m c ⟨8 * (t.val / 8) + s.val, Pipeline.run_point_lt_of_flush t hr s⟩ x :=
  (Pipeline.eq_sum_fin_of_reset_step_apply_of_flush (M := EReal) (fun n h => (outsAt0 m c n h).2.2.2.2.1) 8 (fun _ => 0) (ddPart m c)
      (fun t h j => by
        rw [outsAt0_A m c t h]
        frame_out
        refine Eq.trans ?_ ((dd_point m c r0 r1 r4 r5 r6 r8 t (constant (F := Ideal) S1x128 .f32 0x00000000#32) j).trans (congrArg (· + ddPart m c t j) (Ideal.ofBits_zero_f32)))
        rfl)
      (fun t h j => by
        rw [outsAt0_B m c t h]
        frame_out
        exact dd_point m c r0 r1 r4 r5 r6 r8 t _ j) t hr x).trans (zero_add (M := EReal) _)

theorem dd_total (c : Dev nD) (r0 : ∀ i, IsReal (m ((c : Thread nD τ).loc main_arg0) i)) (r1 : ∀ i, IsReal (m ((c : Thread nD τ).loc main_arg1) i)) (r4 : ∀ i, IsReal (m ((c : Thread nD τ).loc main_arg4) i)) (r5 : ∀ i, IsReal (m ((c : Thread nD τ).loc main_arg5) i)) (r6 : ∀ i, IsReal (m ((c : Thread nD τ).loc main_arg6) i)) (r8 : ∀ i, IsReal (m ((c : Thread nD τ).loc main_arg8) i)) (t : Fin cfg0.N) (hr : t.val % 8 = 8 - 1) (x : S1x128.Idx) :
    (outsAt0 m c t.val t.isLt).2.2.2.2.1 x = val_main_v78 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg8)) (ix2 (0 : Fin 1) (⟨(x (1 : Fin 2)).val, (x (1 : Fin 2)).isLt⟩ : Fin 128)) := by
  rw [dd_acc m c r0 r1 r4 r5 r6 r8 t hr, ref_dd, ← rows_rev]
  have h8 : t.val < 8 := t.isLt
  refine Finset.sum_congr rfl fun s _ => Finset.sum_congr rfl fun q _ => Finset.sum_congr rfl fun p _ => ?_
  show ddTerm m c _ _ = ddTerm m c _ _
  congr 1
  exact Fin.ext (by show 512 * (7 - (8 * (t.val / 8) + s.val)) + (64 * (7 - q.val) + p.val) = 512 * (7 - s.val) + (64 * (7 - q.val) + p.val); omega)

theorem idx15 : ∀ t : Fin cfg0.N, win0_15.index t = ![0, 0] := (by decide +kernel : ∀ t : Fin grid0.N, _)

/-- The skip weights' gradient: one sum over all rows and a head's lanes. -/
theorem final15 (c : Dev nD) (r0 : ∀ i, IsReal (m ((c : Thread nD τ).loc main_arg0) i)) (r1 : ∀ i, IsReal (m ((c : Thread nD τ).loc main_arg1) i)) (r4 : ∀ i, IsReal (m ((c : Thread nD τ).loc main_arg4) i)) (r5 : ∀ i, IsReal (m ((c : Thread nD τ).loc main_arg5) i)) (r6 : ∀ i, IsReal (m ((c : Thread nD τ).loc main_arg6) i)) (r8 : ∀ i, IsReal (m ((c : Thread nD τ).loc main_arg8) i)) : (dats m 0 c).arrAt 15 cfg0.N = val_main_v78 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg8)) := by
  refine (dats m 0 c).arrAt_eq_of_covers 15 _ (by decide +kernel) fun t hf y => ?_
  have hr := (flush0_15 t).mp hf
  have e15 := idx15 t
  blk_simp
  rw [after0_15]
  refine (dd_total m c r0 r1 r4 r5 r6 r8 t hr y).trans ?_
  congr 1
  blk_ext [e15]

end Cert.Proof.SsdGrad

end
-- ==== Proof.SsdGrad.lean ====
module

public import proofs.«01_k».proof.Proof.Gen.SsdGradIdeal.Value
public import proofs.«01_k».proof.Proof.Gen.SsdGradRefIdeal.Read
public import proofs.«01_k».proof.Defs
public import proofs.«01_k».proof.Proof.SsdRow
public import proofs.«01_k».proof.Proof.SsdDz
public import proofs.«01_k».proof.Proof.SsdDd
public import proofs.«01_k».proof.Proof.SsdDnw
public import proofs.«01_k».proof.Proof.Real
public import proofs.«01_k».proof.Proof.SsdBlk
public import Idealize.ShloMosaic.Lib.Claim
public import Idealize.ShloMosaic.Lib.KernelVsHost
public import Idealize.ShloMosaic.Lib.Pipeline.ValueKit
public import Idealize.ShloMosaic.Lib.Pointwise

@[expose] public section

set_option maxRecDepth 16384
set_option maxHeartbeats 4000000

noncomputable section

namespace Cert.Proof.SsdGrad

open Cert.SsdGradIdeal Cert.SsdGradIdeal.Gen Cert.SsdGradIdeal.Value Idealize.ShloMosaic Idealize.ShloMosaic.TcCoe Idealize.SL.Sem
open Cert.SsdGradRefIdeal.Read

variable (m : (ℓ : Loc nD τ sig) → Buf (Elt Ideal) ℓ)

theorem real_args [Cert.Pre_ssd_finite.Facts] (h : Cert.Pre_SsdGradIdeal_ssd_finite m) (c : Dev nD) :
    (∀ i, IsReal (m ((c : Thread nD τ).loc main_arg0) i)) ∧ (∀ i, IsReal (m ((c : Thread nD τ).loc main_arg1) i)) ∧ (∀ i, IsReal (m ((c : Thread nD τ).loc main_arg4) i)) ∧ (∀ i, IsReal (m ((c : Thread nD τ).loc main_arg5) i)) ∧ (∀ i, IsReal (m ((c : Thread nD τ).loc main_arg6) i)) ∧ (∀ i, IsReal (m ((c : Thread nD τ).loc main_arg8) i)) := by
  have h := congrFun (h c) ix0
  pointwise [Cert.Pre_ssd_finite.fn, Cert.Pre_ssd_finite.fn_part1] at h
  obtain ⟨h, h8⟩ := andi_one h
  obtain ⟨h, h6⟩ := andi_one h
  obtain ⟨h, h5⟩ := andi_one h
  obtain ⟨h, h4⟩ := andi_one h
  obtain ⟨h0, h1⟩ := andi_one h
  exact ⟨real_of_fold (φ := .f32) _ h0, real_of_fold (φ := .f32) _ h1, real_of_fold1 (φ := .f32) _ h4, real_of_fold1 (φ := .f32) _ h5, real_of_fold (φ := .f32) _ h6, real_of_fold (φ := .f32) _ h8⟩

theorem entry12 (c : Dev nD) : V m c main_v9_1 = m ((c : Thread nD τ).loc main_arg9) := by
  show StableHlo.after [_, _, _, _, _, _, _, _, _, _, _, _, _, _, _, _, _, _, _, _, _, _, _, _, _, _, _] _ _ = _
  entry_read
  rfl

theorem final12' (c : Dev nD) (r0 : ∀ i, IsReal (m ((c : Thread nD τ).loc main_arg0) i)) (r1 : ∀ i, IsReal (m ((c : Thread nD τ).loc main_arg1) i)) (r4 : ∀ i, IsReal (m ((c : Thread nD τ).loc main_arg4) i)) (r5 : ∀ i, IsReal (m ((c : Thread nD τ).loc main_arg5) i)) (r6 : ∀ i, IsReal (m ((c : Thread nD τ).loc main_arg6) i)) (r8 : ∀ i, IsReal (m ((c : Thread nD τ).loc main_arg8) i)) : (dats m 0 c).arrAt 12 cfg0.N = val_main_v75 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg8)) (m ((c : Thread nD τ).loc main_arg9)) := by
  funext i
  rw [final12 m c r0 r1 r4 r5 r6 r8]
  by_cases h : (i 1 : ℕ) / 1024 = 0
  · rw [if_pos h]
  · rw [if_neg h, ref_other m c i h, entry12]

/-- From launches that agree on the arguments, kernel and reference end with the same results. -/
theorem algebraic [Cert.Pre_ssd_finite.Facts] : Cert.algebraic_SsdGradIdeal_SsdGradRefIdeal_pre_ssd_finite := fun m g m' g' hp hagree =>
  ⟨fun c => val_main_v75 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg8)) (m ((c : Thread nD τ).loc main_arg9)), fun c => val_main_v76 (F := Ideal) (m ((c : Thread nD τ).loc main_arg0)) (m ((c : Thread nD τ).loc main_arg1)) (m ((c : Thread nD τ).loc main_arg4)) (m ((c : Thread nD τ).loc main_arg6)) (m ((c : Thread nD τ).loc main_arg8)),
    fun c => val_main_v78 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg8)),
    (θ_run defs _ _).mono (fun _ h c => by
      obtain ⟨r0, r1, r4, r5, r6, r8⟩ := real_args m hp c
      exact ⟨(h c).2.1.trans (final12' m c r0 r1 r4 r5 r6 r8), (h c).2.2.2.1.trans (final14 m c), (h c).2.2.2.2.1.trans (final15 m c r0 r1 r4 r5 r6 r8), (h c).2.2.2.2.2.2.2⟩) (run_blocks m g),
    (θ_run Cert.SsdGradRefIdeal.defs _ _).mono (fun _ h c => ⟨(h c).1.trans ((val_main_v75_eq m' c).trans (by rw [(hagree c).1, (hagree c).2.1, (hagree c).2.2.2.2.1, (hagree c).2.2.2.2.2.1, (hagree c).2.2.2.2.2.2.1, (hagree c).2.2.2.2.2.2.2.2.1, (hagree c).2.2.2.2.2.2.2.2.2])),
        (h c).2.1.trans ((val_main_v76_eq _ _ _ _ _).trans (by rw [(hagree c).1, (hagree c).2.1, (hagree c).2.2.2.2.1, (hagree c).2.2.2.2.2.2.1, (hagree c).2.2.2.2.2.2.2.2.1])),
        (h c).2.2.1.trans ((val_main_v78_eq m' c).trans (by rw [(hagree c).1, (hagree c).2.1, (hagree c).2.2.2.2.1, (hagree c).2.2.2.2.2.1, (hagree c).2.2.2.2.2.2.1, (hagree c).2.2.2.2.2.2.2.2.1])), (h c).2.2.2⟩)
      (Cert.SsdGradRefIdeal.Value.run m' g')⟩

end Cert.Proof.SsdGrad

end
-- ==== Proof.InProjGrad.lean ====
/- The gradient of the input of the input projection: one product, its contracted axis cut into seven. -/
module

public import proofs.«01_k».proof.Proof.Gen.InProjGradIdeal.Value
public import proofs.«01_k».proof.Proof.Gen.InProjGradRefIdeal.Read
public import proofs.«01_k».proof.Defs
public import proofs.«01_k».proof.Proof.Real
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.InProjGrad

open Cert.InProjGradIdeal Cert.InProjGradIdeal.Gen Cert.InProjGradIdeal.Value Idealize.ShloMosaic Idealize.ShloMosaic.TcCoe Idealize.SL.Sem
open Cert.InProjGradRefIdeal.Read

variable (m : (ℓ : Loc nD τ sig) → Buf (Elt Ideal) ℓ)

theorem idx0 : ∀ t : Fin cfg0.N, win0_0.index t = ![win0_2.index t 0, t.val % 7] := (by decide +kernel : ∀ t : Fin grid0.N, _)
theorem idx1 : ∀ t : Fin cfg0.N, win0_1.index t = ![win0_2.index t 1, t.val % 7] := (by decide +kernel : ∀ t : Fin grid0.N, _)
theorem idx2 : ∀ t : Fin cfg0.N, win0_2.index t = ![t.val / 7, 0] := (by decide +kernel : ∀ t : Fin grid0.N, _)

/-- What a point adds: the product of the blocks it reads. -/
def part (c : Dev nD) (t : Fin cfg0.N) : S1024x1024.Idx → EReal := k0_pay1 (F := Ideal) (iblk m c 0 t) (iblk m c 1 t)

/-- When a block is written back, the accumulator holds the sum of what the 7 points of its run add. -/
theorem acc (c : Dev nD) (t : Fin cfg0.N) (hr : t.val % 7 = 7 - 1) (i : S1024x1024.Idx) :
    (outsAt0 m c t.val t.isLt).2 i
      = ∑ s : Fin 7, part m c ⟨7 * (t.val / 7) + s.val, Pipeline.run_point_lt_of_flush t hr s⟩ i :=
  (Pipeline.eq_sum_fin_of_reset_step_apply_of_flush (M := EReal) (fun n h => (outsAt0 m c n h).2) 7 (fun _ => 0) (part m c)
      (fun t h j => by
        rw [outsAt0_A m c t h (by omega) (by omega)]
        frame_out
        unfold part
        unfold_payloads
        pointwise)
      (fun t h j => by
        by_cases h2 : t.val % 7 = 6
        · rw [outsAt0_C m c t h (by omega) h2]
          frame_out
          unfold part
          unfold_payloads
          pointwise
          exact Ideal.add_congr (congrFun (read_unread_whole (Val := Elt Ideal) cc0_scratch0 (Memref.isWhole_whole _) _) j) rfl
        · rw [outsAt0_B m c t h (by omega) h2]
          frame_out
          unfold part
          unfold_payloads
          pointwise
          exact Ideal.add_congr (congrFun (read_unread_whole (Val := Elt Ideal) cc0_scratch0 (Memref.isWhole_whole _) _) j) rfl) t hr i).trans (zero_add (M := EReal) _)

/-- … and what is written back is the accumulator. -/
theorem out_eq (c : Dev nD) (t : Fin cfg0.N) (hr : t.val % 7 = 6) (i) :
    (outsAt0 m c t.val t.isLt).1 i = (outsAt0 m c t.val t.isLt).2 i := by
  rw [outsAt0_C m c t (by omega) (by omega) hr]
  frame_out

/-- Every run of points adds up the products of its blocks along the contracted axis; the blocks tile the result, so the array is the one product. -/
theorem final2 (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, out_eq m c t hr, acc m c t hr]
  unfold part
  unfold_payloads
  pointwise [val_main_v2, val_main_v1, val_main_v0]
  refine Fin.sum_mul_add_congr fun s k hl => ?_
  blk_simp [iblk]
  rw [V_main_arg0, V_main_arg1]
  have hs := s.isLt
  have e0 := idx0 ⟨7 * (t.val / 7) + s.val, Pipeline.run_point_lt_of_flush t hr s⟩
  have e1 := idx1 ⟨7 * (t.val / 7) + s.val, Pipeline.run_point_lt_of_flush t hr s⟩
  have e2 := idx2 ⟨7 * (t.val / 7) + s.val, Pipeline.run_point_lt_of_flush t hr s⟩
  have e3 := idx2 t
  have d1 : (7 * (t.val / 7) + s.val) / 7 = t.val / 7 := by omega
  have d2 : (7 * (t.val / 7) + s.val) % 7 = s.val := by omega
  simp only [d1, d2] at e0 e1 e2
  rw [e2] at e0 e1
  congr 2 <;> blk_ext [e0, e1, e3]

/-- From launches that agree on the arguments, kernel and reference end with the same results. -/
theorem algebraic : Cert.algebraic_InProjGradIdeal_InProjGradRefIdeal := fun m g m' g' _ hagree =>
  ⟨fun c => _, (θ_run defs _ _).mono (fun _ h c => ⟨(h c).1.trans (final2 m c), (h c).2⟩) (run_blocks m g),
    (θ_run Cert.InProjGradRefIdeal.defs _ _).mono (fun _ h c => ⟨(h c).1.trans (by rw [(hagree c).1, (hagree c).2]; rfl), (h c).2⟩)
      (Cert.InProjGradRefIdeal.Value.run m' g')⟩

end Cert.Proof.InProjGrad

end
-- ==== Proof.InProjDw.lean ====
/- The gradient of the input projection's weights: one product over the tokens, which are cut into four. -/
module

public import proofs.«01_k».proof.Proof.Gen.InProjDwIdeal.Value
public import proofs.«01_k».proof.Proof.Gen.InProjDwRefIdeal.Read
public import proofs.«01_k».proof.Defs
public import proofs.«01_k».proof.Proof.Real
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.InProjDw

open Cert.InProjDwIdeal Cert.InProjDwIdeal.Gen Cert.InProjDwIdeal.Value Idealize.ShloMosaic Idealize.ShloMosaic.TcCoe Idealize.SL.Sem
open Cert.InProjDwRefIdeal.Read

variable (m : (ℓ : Loc nD τ sig) → Buf (Elt Ideal) ℓ)

theorem idx0 : ∀ t : Fin cfg0.N, win0_0.index t = ![t.val % 4, 0] := (by decide +kernel : ∀ t : Fin grid0.N, _)
theorem idx1 : ∀ t : Fin cfg0.N, win0_1.index t = ![t.val % 4, t.val / 4] := (by decide +kernel : ∀ t : Fin grid0.N, _)
theorem idx2 : ∀ t : Fin cfg0.N, win0_2.index t = ![0, t.val / 4] := (by decide +kernel : ∀ t : Fin grid0.N, _)

/-- What a point adds: the product of the blocks it reads. -/
def part (c : Dev nD) (t : Fin cfg0.N) : S1024x1280.Idx → EReal := k0_pay1 (F := Ideal) (iblk m c 0 t) (iblk m c 1 t)

/-- When a block is written back, the accumulator holds the sum of what the 4 points of its run add. -/
theorem acc (c : Dev nD) (t : Fin cfg0.N) (hr : t.val % 4 = 4 - 1) (i : S1024x1280.Idx) :
    (outsAt0 m c t.val t.isLt).2 i
      = ∑ s : Fin 4, part m c ⟨4 * (t.val / 4) + s.val, Pipeline.run_point_lt_of_flush t hr s⟩ i :=
  (Pipeline.eq_sum_fin_of_reset_step_apply_of_flush (M := EReal) (fun n h => (outsAt0 m c n h).2) 4 (fun _ => 0) (part m c)
      (fun t h j => by
        rw [outsAt0_A m c t h (by omega) (by omega)]
        frame_out
        unfold part
        unfold_payloads
        pointwise)
      (fun t h j => by
        by_cases h2 : t.val % 4 = 3
        · rw [outsAt0_C m c t h (by omega) h2]
          frame_out
          unfold part
          unfold_payloads
          pointwise
          exact Ideal.add_congr (congrFun (read_unread_whole (Val := Elt Ideal) cc0_scratch0 (Memref.isWhole_whole _) _) j) rfl
        · rw [outsAt0_B m c t h (by omega) h2]
          frame_out
          unfold part
          unfold_payloads
          pointwise
          exact Ideal.add_congr (congrFun (read_unread_whole (Val := Elt Ideal) cc0_scratch0 (Memref.isWhole_whole _) _) j) rfl) t hr i).trans (zero_add (M := EReal) _)

/-- … and what is written back is the accumulator. -/
theorem out_eq (c : Dev nD) (t : Fin cfg0.N) (hr : t.val % 4 = 3) (i) :
    (outsAt0 m c t.val t.isLt).1 i = (outsAt0 m c t.val t.isLt).2 i := by
  rw [outsAt0_C m c t (by omega) (by omega) hr]
  frame_out
  unfold_payloads
  pointwise

/-- Every run of points adds up the products of its blocks along the contracted axis; the blocks tile the result, so the array is the one product. -/
theorem final2 (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, out_eq m c t hr, acc m c t hr]
  unfold part
  unfold_payloads
  pointwise [val_main_v4, val_main_v3, val_main_v2, val_main_v1, val_main_v0]
  refine Fin.sum_mul_add_congr fun s k hl => ?_
  blk_simp [iblk]
  rw [V_main_arg0, V_main_arg1]
  have hs := s.isLt
  have e0 := idx0 ⟨4 * (t.val / 4) + s.val, Pipeline.run_point_lt_of_flush t hr s⟩
  have e1 := idx1 ⟨4 * (t.val / 4) + s.val, Pipeline.run_point_lt_of_flush t hr s⟩
  have e2 := idx2 t
  have d1 : (4 * (t.val / 4) + s.val) / 4 = t.val / 4 := by omega
  have d2 : (4 * (t.val / 4) + s.val) % 4 = s.val := by omega
  simp only [d1, d2] at e0 e1
  refine (mul_comm (G := EReal) _ _).trans ?_
  congr 2 <;> blk_ext [e0, e1, e2]

/-- From launches that agree on the arguments, kernel and reference end with the same results. -/
theorem algebraic : Cert.algebraic_InProjDwIdeal_InProjDwRefIdeal := fun m g m' g' _ hagree =>
  ⟨fun c => _, (θ_run defs _ _).mono (fun _ h c => ⟨(h c).1.trans (final2 m c), (h c).2⟩) (run_blocks m g),
    (θ_run Cert.InProjDwRefIdeal.defs _ _).mono (fun _ h c => ⟨(h c).1.trans (by rw [(hagree c).1, (hagree c).2]; rfl), (h c).2⟩)
      (Cert.InProjDwRefIdeal.Value.run m' g')⟩

end Cert.Proof.InProjDw

end
-- ==== Proof.FfnInGrad.lean ====
/- The gradient of the input of the feed-forward net: one product with the weights of both halves, its contracted axis cut into two. -/
module

public import proofs.«01_k».proof.Proof.Gen.FfnInGradIdeal.Value
public import proofs.«01_k».proof.Proof.Gen.FfnInGradRefIdeal.Read
public import proofs.«01_k».proof.Defs
public import proofs.«01_k».proof.Proof.Real
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.FfnInGrad

open Cert.FfnInGradIdeal Cert.FfnInGradIdeal.Gen Cert.FfnInGradIdeal.Value Idealize.ShloMosaic Idealize.ShloMosaic.TcCoe Idealize.SL.Sem
open Cert.FfnInGradRefIdeal.Read

variable (m : (ℓ : Loc nD τ sig) → Buf (Elt Ideal) ℓ)

theorem idx0 : ∀ t : Fin cfg0.N, win0_0.index t = ![t.val / 2, t.val % 2] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)
theorem idx3 : ∀ t : Fin cfg0.N, win0_3.index t = ![0, 2 + t.val % 2] := (by decide +kernel : ∀ t : Fin grid0.N, _)
theorem idx4 : ∀ t : Fin cfg0.N, win0_4.index t = ![t.val / 2, 0] := (by decide +kernel : ∀ t : Fin grid0.N, _)

/-- What a point adds: the product of the blocks it reads. -/
def part (c : Dev nD) (t : Fin cfg0.N) : S1024x1024.Idx → EReal := k0_pay1 (F := Ideal) (iblk m c 0 t) (iblk m c 1 t) (iblk m c 2 t) (iblk m c 3 t)

/-- When a block is written back, the accumulator holds the sum of what the 2 points of its run add. -/
theorem acc (c : Dev nD) (t : Fin cfg0.N) (hr : t.val % 2 = 2 - 1) (i : S1024x1024.Idx) :
    (outsAt0 m c t.val t.isLt).2 i
      = ∑ s : Fin 2, part m c ⟨2 * (t.val / 2) + s.val, Pipeline.run_point_lt_of_flush t hr s⟩ i :=
  (Pipeline.eq_sum_fin_of_reset_step_apply_of_flush (M := EReal) (fun n h => (outsAt0 m c n h).2) 2 (fun _ => 0) (part m c)
      (fun t h j => by
        rw [outsAt0_A m c t h (by omega) (by omega)]
        frame_out
        unfold part
        unfold_payloads
        pointwise)
      (fun t h j => by
        rw [outsAt0_B m c t h (by omega) (by omega)]
        frame_out
        unfold part
        unfold_payloads
        pointwise
        exact Ideal.add_congr (congrFun (read_unread_whole (Val := Elt Ideal) cc0_scratch0 (Memref.isWhole_whole _) _) j) rfl) t hr i).trans (zero_add (M := EReal) _)

/-- … and what is written back is the accumulator. -/
theorem out_eq (c : Dev nD) (t : Fin cfg0.N) (hr : t.val % 2 = 1) (i) :
    (outsAt0 m c t.val t.isLt).1 i = (outsAt0 m c t.val t.isLt).2 i := by
  rw [outsAt0_B m c t (by omega) (by omega) hr]
  frame_out

/-- Every run of points adds up the products of its blocks along the contracted axis; the blocks tile the result, so the array is the one product. -/
theorem final4 (c : Dev nD) : (dats m 0 c).arrAt 4 cfg0.N
    = val_main_v4 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  have hr := (flush0_4 t).mp hf
  blk_simp
  rw [after0_4, out_eq m c t hr, acc m c t hr]
  unfold part
  unfold_payloads
  pointwise [val_main_v4, val_main_v3, val_main_v2, val_main_v1, val_main_v0]
  refine (Finset.sum_add_distrib (M := EReal)).trans (Ideal.add_congr ?_ ?_)
  · refine Fin.sum_mul_add_congr fun s k hl => ?_
    blk_simp [iblk]
    rw [V_main_arg0, V_main_arg2]
    have hs := s.isLt
    have d1 : (2 * (t.val / 2) + s.val) / 2 = t.val / 2 := by omega
    have d2 : (2 * (t.val / 2) + s.val) % 2 = s.val := by omega
    have e0 := idx0 ⟨2 * (t.val / 2) + s.val, Pipeline.run_point_lt_of_flush t hr s⟩
    have e1 := idx1 ⟨2 * (t.val / 2) + s.val, Pipeline.run_point_lt_of_flush t hr s⟩
    have e4 := idx4 t
    simp only [d1, d2] at e0 e1
    congr 2 <;> blk_ext [e0, e1, e4]
  · refine Fin.sum_mul_add_congr fun s k hl => ?_
    blk_simp [iblk]
    rw [V_main_arg1, V_main_arg2]
    have hs := s.isLt
    have d1 : (2 * (t.val / 2) + s.val) / 2 = t.val / 2 := by omega
    have d2 : (2 * (t.val / 2) + s.val) % 2 = s.val := by omega
    have e0 := idx2 ⟨2 * (t.val / 2) + s.val, Pipeline.run_point_lt_of_flush t hr s⟩
    have e1 := idx3 ⟨2 * (t.val / 2) + s.val, Pipeline.run_point_lt_of_flush t hr s⟩
    have e4 := idx4 t
    simp only [d1, d2] at e0 e1
    congr 2 <;> blk_ext [e0, e1, e4]

/-- From launches that agree on the arguments, kernel and reference end with the same results. -/
theorem algebraic : Cert.algebraic_FfnInGradIdeal_FfnInGradRefIdeal := fun m g m' g' _ hagree =>
  ⟨fun c => _, (θ_run defs _ _).mono (fun _ h c => ⟨(h c).1.trans (final4 m c), (h c).2⟩) (run_blocks m g),
    (θ_run Cert.FfnInGradRefIdeal.defs _ _).mono (fun _ h c => ⟨(h c).1.trans (by rw [(hagree c).1, (hagree c).2.1, (hagree c).2.2]; rfl), (h c).2⟩)
      (Cert.FfnInGradRefIdeal.Value.run m' g')⟩

end Cert.Proof.FfnInGrad

end
-- ==== Proof.FfnInDw.lean ====
/- The gradient of the weights of one half (gate or up) of the feed-forward net's input: one product over the tokens, which are cut into four. -/
module

public import proofs.«01_k».proof.Proof.Gen.FfnInDwIdeal.Value
public import proofs.«01_k».proof.Proof.Gen.FfnInDwRefIdeal.Read
public import proofs.«01_k».proof.Defs
public import proofs.«01_k».proof.Proof.Real
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.FfnInDw

open Cert.FfnInDwIdeal Cert.FfnInDwIdeal.Gen Cert.FfnInDwIdeal.Value Idealize.ShloMosaic Idealize.ShloMosaic.TcCoe Idealize.SL.Sem
open Cert.FfnInDwRefIdeal.Read

variable (m : (ℓ : Loc nD τ sig) → Buf (Elt Ideal) ℓ)

theorem idx0 : ∀ t : Fin cfg0.N, win0_0.index t = ![t.val % 4, 0] := (by decide +kernel : ∀ t : Fin grid0.N, _)
theorem idx1 : ∀ t : Fin cfg0.N, win0_1.index t = ![t.val % 4, t.val / 4] := (by decide +kernel : ∀ t : Fin grid0.N, _)
theorem idx2 : ∀ t : Fin cfg0.N, win0_2.index t = ![0, t.val / 4] := (by decide +kernel : ∀ t : Fin grid0.N, _)

/-- What a point adds: the product of the blocks it reads. -/
def part (c : Dev nD) (t : Fin cfg0.N) : S1024x1408.Idx → EReal := k0_pay1 (F := Ideal) (iblk m c 0 t) (iblk m c 1 t)

/-- When a block is written back, the accumulator holds the sum of what the 4 points of its run add. -/
theorem acc (c : Dev nD) (t : Fin cfg0.N) (hr : t.val % 4 = 4 - 1) (i : S1024x1408.Idx) :
    (outsAt0 m c t.val t.isLt).2 i
      = ∑ s : Fin 4, part m c ⟨4 * (t.val / 4) + s.val, Pipeline.run_point_lt_of_flush t hr s⟩ i :=
  (Pipeline.eq_sum_fin_of_reset_step_apply_of_flush (M := EReal) (fun n h => (outsAt0 m c n h).2) 4 (fun _ => 0) (part m c)
      (fun t h j => by
        rw [outsAt0_A m c t h (by omega) (by omega)]
        frame_out
        unfold part
        unfold_payloads
        pointwise)
      (fun t h j => by
        by_cases h2 : t.val % 4 = 3
        · rw [outsAt0_C m c t h (by omega) h2]
          frame_out
          unfold part
          unfold_payloads
          pointwise
          exact Ideal.add_congr (congrFun (read_unread_whole (Val := Elt Ideal) cc0_scratch0 (Memref.isWhole_whole _) _) j) rfl
        · rw [outsAt0_B m c t h (by omega) h2]
          frame_out
          unfold part
          unfold_payloads
          pointwise
          exact Ideal.add_congr (congrFun (read_unread_whole (Val := Elt Ideal) cc0_scratch0 (Memref.isWhole_whole _) _) j) rfl) t hr i).trans (zero_add (M := EReal) _)

/-- … and what is written back is the accumulator. -/
theorem out_eq (c : Dev nD) (t : Fin cfg0.N) (hr : t.val % 4 = 3) (i) :
    (outsAt0 m c t.val t.isLt).1 i = (outsAt0 m c t.val t.isLt).2 i := by
  rw [outsAt0_C m c t (by omega) (by omega) hr]
  frame_out
  unfold_payloads
  pointwise

/-- Every run of points adds up the products of its blocks along the contracted axis; the blocks tile the result, so the array is the one product. -/
theorem final2 (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, out_eq m c t hr, acc m c t hr]
  unfold part
  unfold_payloads
  pointwise [val_main_v4, val_main_v3, val_main_v2, val_main_v1, val_main_v0]
  refine Fin.sum_mul_add_congr fun s k hl => ?_
  blk_simp [iblk]
  rw [V_main_arg0, V_main_arg1]
  have hs := s.isLt
  have e0 := idx0 ⟨4 * (t.val / 4) + s.val, Pipeline.run_point_lt_of_flush t hr s⟩
  have e1 := idx1 ⟨4 * (t.val / 4) + s.val, Pipeline.run_point_lt_of_flush t hr s⟩
  have e2 := idx2 t
  have d1 : (4 * (t.val / 4) + s.val) / 4 = t.val / 4 := by omega
  have d2 : (4 * (t.val / 4) + s.val) % 4 = s.val := by omega
  simp only [d1, d2] at e0 e1
  refine (mul_comm (G := EReal) _ _).trans ?_
  congr 2 <;> blk_ext [e0, e1, e2]

/-- From launches that agree on the arguments, kernel and reference end with the same results. -/
theorem algebraic : Cert.algebraic_FfnInDwIdeal_FfnInDwRefIdeal := fun m g m' g' _ hagree =>
  ⟨fun c => _, (θ_run defs _ _).mono (fun _ h c => ⟨(h c).1.trans (final2 m c), (h c).2⟩) (run_blocks m g),
    (θ_run Cert.FfnInDwRefIdeal.defs _ _).mono (fun _ h c => ⟨(h c).1.trans (by rw [(hagree c).1, (hagree c).2]; rfl), (h c).2⟩)
      (Cert.FfnInDwRefIdeal.Value.run m' g')⟩

end Cert.Proof.FfnInDw

end
-- ==== Proof.FfnDownDw.lean ====
/- The gradient of the feed-forward net's down projection's weights: one product over the tokens, which are cut into four. -/
module

public import proofs.«01_k».proof.Proof.Gen.FfnDownDwIdeal.Value
public import proofs.«01_k».proof.Proof.Gen.FfnDownDwRefIdeal.Read
public import proofs.«01_k».proof.Defs
public import proofs.«01_k».proof.Proof.Real
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.FfnDownDw

open Cert.FfnDownDwIdeal Cert.FfnDownDwIdeal.Gen Cert.FfnDownDwIdeal.Value Idealize.ShloMosaic Idealize.ShloMosaic.TcCoe Idealize.SL.Sem
open Cert.FfnDownDwRefIdeal.Read

variable (m : (ℓ : Loc nD τ sig) → Buf (Elt Ideal) ℓ)

theorem idx0 : ∀ t : Fin cfg0.N, win0_0.index t = ![t.val % 4, t.val / 4] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, 0] := (by decide +kernel : ∀ t : Fin grid0.N, _)

/-- What a point adds: the product of the blocks it reads. -/
def part (c : Dev nD) (t : Fin cfg0.N) : S1408x1024.Idx → EReal := k0_pay1 (F := Ideal) (iblk m c 0 t) (iblk m c 1 t)

/-- When a block is written back, the accumulator holds the sum of what the 4 points of its run add. -/
theorem acc (c : Dev nD) (t : Fin cfg0.N) (hr : t.val % 4 = 4 - 1) (i : S1408x1024.Idx) :
    (outsAt0 m c t.val t.isLt).2 i
      = ∑ s : Fin 4, part m c ⟨4 * (t.val / 4) + s.val, Pipeline.run_point_lt_of_flush t hr s⟩ i :=
  (Pipeline.eq_sum_fin_of_reset_step_apply_of_flush (M := EReal) (fun n h => (outsAt0 m c n h).2) 4 (fun _ => 0) (part m c)
      (fun t h j => by
        rw [outsAt0_A m c t h (by omega) (by omega)]
        frame_out
        unfold part
        unfold_payloads
        pointwise)
      (fun t h j => by
        by_cases h2 : t.val % 4 = 3
        · rw [outsAt0_C m c t h (by omega) h2]
          frame_out
          unfold part
          unfold_payloads
          pointwise
          exact Ideal.add_congr (congrFun (read_unread_whole (Val := Elt Ideal) cc0_scratch0 (Memref.isWhole_whole _) _) j) rfl
        · rw [outsAt0_B m c t h (by omega) h2]
          frame_out
          unfold part
          unfold_payloads
          pointwise
          exact Ideal.add_congr (congrFun (read_unread_whole (Val := Elt Ideal) cc0_scratch0 (Memref.isWhole_whole _) _) j) rfl) t hr i).trans (zero_add (M := EReal) _)

/-- … and what is written back is the accumulator. -/
theorem out_eq (c : Dev nD) (t : Fin cfg0.N) (hr : t.val % 4 = 3) (i) :
    (outsAt0 m c t.val t.isLt).1 i = (outsAt0 m c t.val t.isLt).2 i := by
  rw [outsAt0_C m c t (by omega) (by omega) hr]
  frame_out
  unfold_payloads
  pointwise

/-- Every run of points adds up the products of its blocks along the contracted axis; the blocks tile the result, so the array is the one product. -/
theorem final2 (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, out_eq m c t hr, acc m c t hr]
  unfold part
  unfold_payloads
  pointwise [val_main_v4, val_main_v3, val_main_v2, val_main_v1, val_main_v0]
  refine Fin.sum_mul_add_congr fun s k hl => ?_
  blk_simp [iblk]
  rw [V_main_arg0, V_main_arg1]
  have hs := s.isLt
  have e0 := idx0 ⟨4 * (t.val / 4) + s.val, Pipeline.run_point_lt_of_flush t hr s⟩
  have e1 := idx1 ⟨4 * (t.val / 4) + s.val, Pipeline.run_point_lt_of_flush t hr s⟩
  have e2 := idx2 t
  have d1 : (4 * (t.val / 4) + s.val) / 4 = t.val / 4 := by omega
  have d2 : (4 * (t.val / 4) + s.val) % 4 = s.val := by omega
  simp only [d1, d2] at e0 e1
  refine (mul_comm (G := EReal) _ _).trans ?_
  congr 2 <;> blk_ext [e0, e1, e2]

/-- From launches that agree on the arguments, kernel and reference end with the same results. -/
theorem algebraic : Cert.algebraic_FfnDownDwIdeal_FfnDownDwRefIdeal := fun m g m' g' _ hagree =>
  ⟨fun c => _, (θ_run defs _ _).mono (fun _ h c => ⟨(h c).1.trans (final2 m c), (h c).2⟩) (run_blocks m g),
    (θ_run Cert.FfnDownDwRefIdeal.defs _ _).mono (fun _ h c => ⟨(h c).1.trans (by rw [(hagree c).1, (hagree c).2]; rfl), (h c).2⟩)
      (Cert.FfnDownDwRefIdeal.Value.run m' g')⟩

end Cert.Proof.FfnDownDw

end
-- ==== Proof.SquareDw.lean ====
/- The gradient of a square projection's weights: one product over the tokens, which are cut into four. -/
module

public import proofs.«01_k».proof.Proof.Gen.SquareDwIdeal.Value
public import proofs.«01_k».proof.Proof.Gen.SquareDwRefIdeal.Read
public import proofs.«01_k».proof.Defs
public import proofs.«01_k».proof.Proof.Real
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.SquareDw

open Cert.SquareDwIdeal Cert.SquareDwIdeal.Gen Cert.SquareDwIdeal.Value Idealize.ShloMosaic Idealize.ShloMosaic.TcCoe Idealize.SL.Sem
open Cert.SquareDwRefIdeal.Read

variable (m : (ℓ : Loc nD τ sig) → Buf (Elt Ideal) ℓ)

theorem idx0 : ∀ t : Fin cfg0.N, win0_0.index t = ![t.val % 4, 0] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![0, 0] := (by decide +kernel : ∀ t : Fin grid0.N, _)

/-- What a point adds: the product of the blocks it reads. -/
def part (c : Dev nD) (t : Fin cfg0.N) : S1024x1024.Idx → EReal := k0_pay1 (F := Ideal) (iblk m c 0 t) (iblk m c 1 t)

/-- When a block is written back, the accumulator holds the sum of what the 4 points of its run add. -/
theorem acc (c : Dev nD) (t : Fin cfg0.N) (hr : t.val % 4 = 4 - 1) (i : S1024x1024.Idx) :
    (outsAt0 m c t.val t.isLt).2 i
      = ∑ s : Fin 4, part m c ⟨4 * (t.val / 4) + s.val, Pipeline.run_point_lt_of_flush t hr s⟩ i :=
  (Pipeline.eq_sum_fin_of_reset_step_apply_of_flush (M := EReal) (fun n h => (outsAt0 m c n h).2) 4 (fun _ => 0) (part m c)
      (fun t h j => by
        rw [outsAt0_A m c t h (by have h4 : t.val < 4 := t.isLt; omega) (by omega)]
        frame_out
        unfold part
        unfold_payloads
        pointwise)
      (fun t h j => by
        by_cases h2 : t.val % 4 = 3
        · rw [outsAt0_C m c t h (by omega) h2]
          frame_out
          unfold part
          unfold_payloads
          pointwise
          exact Ideal.add_congr (congrFun (read_unread_whole (Val := Elt Ideal) cc0_scratch0 (Memref.isWhole_whole _) _) j) rfl
        · rw [outsAt0_B m c t h (by omega) h2]
          frame_out
          unfold part
          unfold_payloads
          pointwise
          exact Ideal.add_congr (congrFun (read_unread_whole (Val := Elt Ideal) cc0_scratch0 (Memref.isWhole_whole _) _) j) rfl) t hr i).trans (zero_add (M := EReal) _)

/-- … and what is written back is the accumulator. -/
theorem out_eq (c : Dev nD) (t : Fin cfg0.N) (hr : t.val % 4 = 3) (i) :
    (outsAt0 m c t.val t.isLt).1 i = (outsAt0 m c t.val t.isLt).2 i := by
  rw [outsAt0_C m c t (by omega) (by omega) hr]
  frame_out
  unfold_payloads
  pointwise

/-- Every run of points adds up the products of its blocks along the contracted axis; the blocks tile the result, so the array is the one product. -/
theorem final2 (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, out_eq m c t hr, acc m c t hr]
  unfold part
  unfold_payloads
  pointwise [val_main_v4, val_main_v3, val_main_v2, val_main_v1, val_main_v0]
  refine Fin.sum_mul_add_congr fun s k hl => ?_
  blk_simp [iblk]
  rw [V_main_arg0, V_main_arg1]
  have hs := s.isLt
  have e0 := idx0 ⟨4 * (t.val / 4) + s.val, Pipeline.run_point_lt_of_flush t hr s⟩
  have e1 := idx1 ⟨4 * (t.val / 4) + s.val, Pipeline.run_point_lt_of_flush t hr s⟩
  have e2 := idx2 t
  have d1 : (4 * (t.val / 4) + s.val) / 4 = t.val / 4 := by omega
  have d2 : (4 * (t.val / 4) + s.val) % 4 = s.val := by omega
  simp only [d1, d2] at e0 e1
  refine (mul_comm (G := EReal) _ _).trans ?_
  congr 2 <;> blk_ext [e0, e1, e2]

/-- From launches that agree on the arguments, kernel and reference end with the same results. -/
theorem algebraic : Cert.algebraic_SquareDwIdeal_SquareDwRefIdeal := fun m g m' g' _ hagree =>
  ⟨fun c => _, (θ_run defs _ _).mono (fun _ h c => ⟨(h c).1.trans (final2 m c), (h c).2⟩) (run_blocks m g),
    (θ_run Cert.SquareDwRefIdeal.defs _ _).mono (fun _ h c => ⟨(h c).1.trans (by rw [(hagree c).1, (hagree c).2]; rfl), (h c).2⟩)
      (Cert.SquareDwRefIdeal.Value.run m' g')⟩

end Cert.Proof.SquareDw

end
-- ==== Proof.SquareGrad.lean ====
/- The gradient of the input of a square projection: one product with the second operand transposed. -/
module

public import proofs.«01_k».proof.Proof.Gen.SquareGradIdeal.Value
public import proofs.«01_k».proof.Proof.Gen.SquareGradRefIdeal.Read
public import proofs.«01_k».proof.Defs
public import Idealize.ShloMosaic.Lib.Pipeline.ValueKit
public import Idealize.ShloMosaic.Lib.Pointwise

@[expose] public section

set_option maxRecDepth 16384

noncomputable section

namespace Cert.Proof.SquareGrad

open Cert.SquareGradIdeal Cert.SquareGradIdeal.Gen Cert.SquareGradIdeal.Value Idealize.ShloMosaic Idealize.ShloMosaic.TcCoe Idealize.SL.Sem
open Cert.SquareGradRefIdeal.Read

variable (m : (ℓ : Loc nD τ sig) → Buf (Elt Ideal) ℓ)

/-- The first operand's rows move with the result's; the second operand is read whole. -/
theorem idx0 : ∀ t : Fin cfg0.N, win0_0.index t = ![win0_2.index t 0, 0] := (by decide +kernel : ∀ t : Fin grid0.N, _)
theorem idx1 : ∀ t : Fin cfg0.N, win0_1.index t = ![win0_2.index t 1, 0] := (by decide +kernel : ∀ t : Fin grid0.N, _)

/-- What a point writes is the block product of the blocks it reads; the blocks tile the result, so the array is the one product. -/
theorem final2 (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  pointwise [val_main_v2, val_main_v1, val_main_v0]
  blk_simp [iblk]
  refine Finset.sum_congr (M := EReal) rfl fun k _ => ?_
  rw [V_main_arg0, V_main_arg1]
  have e0 := idx0 t
  have e1 := idx1 t
  congr 2 <;> blk_ext [e0, e1]

/-- From launches that agree on the arguments, kernel and reference end with the same results. -/
theorem algebraic : Cert.algebraic_SquareGradIdeal_SquareGradRefIdeal := fun m g m' g' _ hagree =>
  ⟨fun c => _, (θ_run defs _ _).mono (fun _ h c => ⟨(h c).1.trans (final2 m c), (h c).2⟩) (run_blocks m g),
    (θ_run Cert.SquareGradRefIdeal.defs _ _).mono (fun _ h c => ⟨(h c).1.trans (by rw [(hagree c).1, (hagree c).2]; rfl), (h c).2⟩)
      (Cert.SquareGradRefIdeal.Value.run m' g')⟩

end Cert.Proof.SquareGrad

end
-- ==== Proof.InProj.lean ====
/- The input projection, forward: one product, tiled over rows and columns of the result. -/
module

public import proofs.«01_k».proof.Proof.Gen.InProjIdeal.Value
public import proofs.«01_k».proof.Proof.Gen.InProjRefIdeal.Read
public import proofs.«01_k».proof.Defs
public import Idealize.ShloMosaic.Lib.Pipeline.ValueKit
public import Idealize.ShloMosaic.Lib.Pointwise

@[expose] public section

set_option maxRecDepth 16384

noncomputable section

namespace Cert.Proof.InProj

open Cert.InProjIdeal Cert.InProjIdeal.Gen Cert.InProjIdeal.Value Idealize.ShloMosaic Idealize.ShloMosaic.TcCoe Idealize.SL.Sem
open Cert.InProjRefIdeal.Read

variable (m : (ℓ : Loc nD τ sig) → Buf (Elt Ideal) ℓ)

/-- The first operand's rows and the second's columns move with the result's block. -/
theorem idx0 : ∀ t : Fin cfg0.N, win0_0.index t = ![win0_2.index t 0, 0] := (by decide +kernel : ∀ t : Fin grid0.N, _)
theorem idx1 : ∀ t : Fin cfg0.N, win0_1.index t = ![0, win0_2.index t 1] := (by decide +kernel : ∀ t : Fin grid0.N, _)

/-- What a point writes is the block product of the blocks it reads; the blocks tile the result, so the array is the one product. -/
theorem final2 (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  pointwise [val_main_v2, val_main_v1, val_main_v0]
  blk_simp [iblk]
  refine Finset.sum_congr (M := EReal) rfl fun k _ => ?_
  rw [V_main_arg0, V_main_arg1]
  have e0 := idx0 t
  have e1 := idx1 t
  congr 2 <;> blk_ext [e0, e1]

/-- From launches that agree on the arguments, kernel and reference end with the same results. -/
theorem algebraic : Cert.algebraic_InProjIdeal_InProjRefIdeal := fun m g m' g' _ hagree =>
  ⟨fun c => _, (θ_run defs _ _).mono (fun _ h c => ⟨(h c).1.trans (final2 m c), (h c).2⟩) (run_blocks m g),
    (θ_run Cert.InProjRefIdeal.defs _ _).mono (fun _ h c => ⟨(h c).1.trans (by rw [(hagree c).1, (hagree c).2]; rfl), (h c).2⟩)
      (Cert.InProjRefIdeal.Value.run m' g')⟩

end Cert.Proof.InProj

end
-- ==== Proof.ProjSsm.lean ====
/- A square projection, forward, its result rounded: one product. -/
module

public import proofs.«01_k».proof.Proof.Gen.ProjSsmIdeal.Value
public import proofs.«01_k».proof.Proof.Gen.ProjSsmRefIdeal.Read
public import proofs.«01_k».proof.Defs
public import Idealize.ShloMosaic.Lib.Pipeline.ValueKit
public import Idealize.ShloMosaic.Lib.Pointwise

@[expose] public section

set_option maxRecDepth 16384

noncomputable section

namespace Cert.Proof.ProjSsm

open Cert.ProjSsmIdeal Cert.ProjSsmIdeal.Gen Cert.ProjSsmIdeal.Value Idealize.ShloMosaic Idealize.ShloMosaic.TcCoe Idealize.SL.Sem
open Cert.ProjSsmRefIdeal.Read

variable (m : (ℓ : Loc nD τ sig) → Buf (Elt Ideal) ℓ)

/-- The first operand's rows and the second's columns move with the result's block. -/
theorem idx0 : ∀ t : Fin cfg0.N, win0_0.index t = ![win0_2.index t 0, 0] := (by decide +kernel : ∀ t : Fin grid0.N, _)
theorem idx1 : ∀ t : Fin cfg0.N, win0_1.index t = ![0, win0_2.index t 1] := (by decide +kernel : ∀ t : Fin grid0.N, _)

/-- What a point writes is the block product of the blocks it reads; the blocks tile the result, so the array is the one product. -/
theorem final2 (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  pointwise [val_main_v3, val_main_v2, val_main_v1, val_main_v0]
  blk_simp [iblk]
  refine Finset.sum_congr (M := EReal) rfl fun k _ => ?_
  rw [V_main_arg0, V_main_arg1]
  have e0 := idx0 t
  have e1 := idx1 t
  congr 2 <;> blk_ext [e0, e1]

/-- From launches that agree on the arguments, kernel and reference end with the same results. -/
theorem algebraic : Cert.algebraic_ProjSsmIdeal_ProjSsmRefIdeal := fun m g m' g' _ hagree =>
  ⟨fun c => _, (θ_run defs _ _).mono (fun _ h c => ⟨(h c).1.trans (final2 m c), (h c).2⟩) (run_blocks m g),
    (θ_run Cert.ProjSsmRefIdeal.defs _ _).mono (fun _ h c => ⟨(h c).1.trans (by rw [(hagree c).1, (hagree c).2]; rfl), (h c).2⟩)
      (Cert.ProjSsmRefIdeal.Value.run m' g')⟩

end Cert.Proof.ProjSsm

end
-- ==== Proof.ProjMerge.lean ====
/- The projection joined with the merge: p = y W, and the merged value, each branch times its gate. -/
module

public import proofs.«01_k».proof.Proof.Gen.ProjMergeIdeal.Value
public import proofs.«01_k».proof.Proof.Gen.ProjMergeRefIdeal.Read
public import proofs.«01_k».proof.Defs
public import proofs.«01_k».proof.Proof.Real
public import Idealize.ShloMosaic.Lib.Pipeline.ValueKit
public import Idealize.ShloMosaic.Lib.Pointwise

@[expose] public section

set_option maxRecDepth 16384

noncomputable section

namespace Cert.Proof.ProjMerge

open Cert.ProjMergeIdeal Cert.ProjMergeIdeal.Gen Cert.ProjMergeIdeal.Value Idealize.ShloMosaic Idealize.ShloMosaic.TcCoe Idealize.SL.Sem
open Cert.ProjMergeRefIdeal.Read

variable (m : (ℓ : Loc nD τ sig) → Buf (Elt Ideal) ℓ)

/-- Rows of the first operand, columns of the second and the branch move with the result; the gates lie in the wide array. -/
theorem idx0 : ∀ t : Fin cfg0.N, win0_0.index t = ![win0_5.index t 0, 0] := (by decide +kernel : ∀ t : Fin grid0.N, _)
theorem idx1 : ∀ t : Fin cfg0.N, win0_1.index t = ![0, win0_5.index t 1] := (by decide +kernel : ∀ t : Fin grid0.N, _)
theorem idx2 : ∀ t : Fin cfg0.N, win0_2.index t = win0_6.index t := (by decide +kernel : ∀ t : Fin grid0.N, _)
theorem idx3 : ∀ t : Fin cfg0.N, win0_3.index t = ![win0_6.index t 0, win0_6.index t 1 + 2] := (by decide +kernel : ∀ t : Fin grid0.N, _)
theorem idx4 : ∀ t : Fin cfg0.N, win0_4.index t = ![win0_6.index t 0, win0_6.index t 1 + 3] := (by decide +kernel : ∀ t : Fin grid0.N, _)
theorem idx6 : ∀ t : Fin cfg0.N, win0_6.index t = win0_5.index t := (by decide +kernel : ∀ t : Fin grid0.N, _)

/-- What a point writes is the reference's expression at the block's place. -/
theorem final5 (c : Dev nD) : (dats m 0 c).arrAt 5 cfg0.N
    = val_main_v21 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  simp only [outsAt0]
  frame_out
  unfold_payloads
  pointwise [val_main_v0, val_main_v1, val_main_v2, val_main_v3, val_main_v4, val_main_v5, val_main_v6, val_main_cst, val_main_v7, val_main_v8, val_main_cst_0, val_main_v9, val_main_v10, val_main_v11, val_main_v12, val_main_v13, val_main_v14, val_main_cst_1, val_main_v15, val_main_v16, val_main_cst_2, val_main_v17, val_main_v18, val_main_v19, val_main_v20, val_main_v21, val_main_v22]
  blk_simp [iblk]
  rw [V_main_arg0, V_main_arg1]
  have e0 := idx0 t
  have e1 := idx1 t
  (refine Finset.sum_congr (M := EReal) rfl fun k _ => ?_; congr 2 <;> blk_ext [e0, e1])

/-- What a point writes is the reference's expression at the block's place. -/
theorem final6 (c : Dev nD) : (dats m 0 c).arrAt 6 cfg0.N
    = val_main_v22 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  simp only [outsAt0]
  frame_out
  unfold_payloads
  pointwise [val_main_v0, val_main_v1, val_main_v2, val_main_v3, val_main_v4, val_main_v5, val_main_v6, val_main_cst, val_main_v7, val_main_v8, val_main_cst_0, val_main_v9, val_main_v10, val_main_v11, val_main_v12, val_main_v13, val_main_v14, val_main_cst_1, val_main_v15, val_main_v16, val_main_cst_2, val_main_v17, val_main_v18, val_main_v19, val_main_v20, val_main_v21, val_main_v22]
  blk_simp [iblk]
  rw [V_main_arg0, V_main_arg1, V_main_arg2]
  have e0 := idx0 t
  have e1 := idx1 t
  have e2 := idx2 t
  have e3 := idx3 t
  have e4 := idx4 t
  have e6 := idx6 t
  refine Ideal.add_congr (gate_mul_congr ?_ ?_) (gate_mul_congr ?_ ?_)
  · congr 1; blk_ext [e2]
  · unfold X0_3 Pipeline.Window.fill
    rw [dif_pos (moved0_3 t y)]
    blk_simp [iblk]
    rw [V_main_arg3]
    congr 1; blk_ext [e3]
  · (refine Finset.sum_congr (M := EReal) rfl fun k _ => ?_; congr 2 <;> blk_ext [e0, e1, e6])
  · unfold X0_4 Pipeline.Window.fill
    rw [dif_pos (moved0_4 t y)]
    blk_simp [iblk]
    rw [V_main_arg3]
    congr 1; blk_ext [e4]

/-- From launches that agree on the arguments, kernel and reference end with the same results. -/
theorem algebraic : Cert.algebraic_ProjMergeIdeal_ProjMergeRefIdeal := fun m g m' g' _ hagree =>
  ⟨fun c => val_main_v21 (F := Ideal) (m ((c : Thread nD τ).loc main_arg0)) (m ((c : Thread nD τ).loc main_arg1)), fun c => val_main_v22 (F := Ideal) (m ((c : Thread nD τ).loc main_arg0)) (m ((c : Thread nD τ).loc main_arg1)) (m ((c : Thread nD τ).loc main_arg2)) (m ((c : Thread nD τ).loc main_arg3)), (θ_run defs _ _).mono (fun _ h c => ⟨(h c).1.trans (final5 m c), (h c).2.1.trans (final6 m c), (h c).2.2⟩) (run_blocks m g),
    (θ_run Cert.ProjMergeRefIdeal.defs _ _).mono (fun _ h c => ⟨(h c).1.trans (by rw [(hagree c).1, (hagree c).2.1]; rfl), (h c).2.1.trans (by rw [(hagree c).1, (hagree c).2.1, (hagree c).2.2.1, (hagree c).2.2.2]; rfl), (h c).2.2⟩)
      (Cert.ProjMergeRefIdeal.Value.run m' g')⟩

end Cert.Proof.ProjMerge

end
-- ==== Proof.OutProj.lean ====
/- The output projection, forward, with the residual added: one product and a sum. -/
module

public import proofs.«01_k».proof.Proof.Gen.OutProjIdeal.Value
public import proofs.«01_k».proof.Proof.Gen.OutProjRefIdeal.Read
public import proofs.«01_k».proof.Defs
public import Idealize.ShloMosaic.Lib.Pipeline.ValueKit
public import Idealize.ShloMosaic.Lib.Pointwise

@[expose] public section

set_option maxRecDepth 16384

noncomputable section

namespace Cert.Proof.OutProj

open Cert.OutProjIdeal Cert.OutProjIdeal.Gen Cert.OutProjIdeal.Value Idealize.ShloMosaic Idealize.ShloMosaic.TcCoe Idealize.SL.Sem
open Cert.OutProjRefIdeal.Read

variable (m : (ℓ : Loc nD τ sig) → Buf (Elt Ideal) ℓ)

/-- The first operand's rows and the second's columns move with the result's block, the residual's block is the result's. -/
theorem idx0 : ∀ t : Fin cfg0.N, win0_0.index t = ![win0_3.index t 0, 0] := (by decide +kernel : ∀ t : Fin grid0.N, _)
theorem idx1 : ∀ t : Fin cfg0.N, win0_1.index t = ![0, win0_3.index t 1] := (by decide +kernel : ∀ t : Fin grid0.N, _)
theorem idx2 : ∀ t : Fin cfg0.N, win0_2.index t = win0_3.index t := (by decide +kernel : ∀ t : Fin grid0.N, _)

/-- What a point writes is the block product of the blocks it reads; the blocks tile the result, so the array is the one product. -/
theorem final3 (c : Dev nD) : (dats m 0 c).arrAt 3 cfg0.N
    = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  unfold_payloads
  pointwise [val_main_v3, val_main_v2, val_main_v1, val_main_v0]
  blk_simp [iblk]
  rw [V_main_arg0, V_main_arg1, V_main_arg2]
  have e0 := idx0 t
  have e1 := idx1 t
  have e2 := idx2 t
  refine (add_comm (G := EReal) _ _).trans (Ideal.add_congr ?_ ?_)
  · congr 1; blk_ext [e2]
  · refine Finset.sum_congr (M := EReal) rfl fun k _ => ?_
    congr 2 <;> blk_ext [e0, e1]

/-- From launches that agree on the arguments, kernel and reference end with the same results. -/
theorem algebraic : Cert.algebraic_OutProjIdeal_OutProjRefIdeal := fun m g m' g' _ hagree =>
  ⟨fun c => _, (θ_run defs _ _).mono (fun _ h c => ⟨(h c).1.trans (final3 m c), (h c).2⟩) (run_blocks m g),
    (θ_run Cert.OutProjRefIdeal.defs _ _).mono (fun _ h c => ⟨(h c).1.trans (by rw [(hagree c).1, (hagree c).2.1, (hagree c).2.2]; rfl), (h c).2⟩)
      (Cert.OutProjRefIdeal.Value.run m' g')⟩

end Cert.Proof.OutProj

end
-- ==== Proof.FfnIn.lean ====
/- The feed-forward net's first call: the gate and the up product, and silu(gate) · up. -/
module

public import proofs.«01_k».proof.Proof.Gen.FfnInIdeal.Value
public import proofs.«01_k».proof.Proof.Gen.FfnInRefIdeal.Read
public import proofs.«01_k».proof.Defs
public import proofs.«01_k».proof.Proof.Real
public import Idealize.ShloMosaic.Lib.Pipeline.ValueKit
public import Idealize.ShloMosaic.Lib.Pointwise

@[expose] public section

set_option maxRecDepth 16384

noncomputable section

namespace Cert.Proof.FfnIn

open Cert.FfnInIdeal Cert.FfnInIdeal.Gen Cert.FfnInIdeal.Value Idealize.ShloMosaic Idealize.ShloMosaic.TcCoe Idealize.SL.Sem
open Cert.FfnInRefIdeal.Read

variable (m : (ℓ : Loc nD τ sig) → Buf (Elt Ideal) ℓ)

/-- Rows of the first operand and columns of the second move with the result's block; the up columns lie two blocks to the right. -/
theorem idx0 : ∀ t : Fin cfg0.N, win0_0.index t = ![win0_4.index t 0, 0] := (by decide +kernel : ∀ t : Fin grid0.N, _)
theorem idx1 : ∀ t : Fin cfg0.N, win0_1.index t = ![0, win0_4.index t 1] := (by decide +kernel : ∀ t : Fin grid0.N, _)
theorem idx2 : ∀ t : Fin cfg0.N, win0_2.index t = ![win0_4.index t 0, 0] := (by decide +kernel : ∀ t : Fin grid0.N, _)
theorem idx3 : ∀ t : Fin cfg0.N, win0_3.index t = ![0, win0_4.index t 1 + 2] := (by decide +kernel : ∀ t : Fin grid0.N, _)
theorem idx5 : ∀ t : Fin cfg0.N, win0_5.index t = win0_4.index t := (by decide +kernel : ∀ t : Fin grid0.N, _)
theorem idx6 : ∀ t : Fin cfg0.N, win0_6.index t = win0_4.index t := (by decide +kernel : ∀ t : Fin grid0.N, _)

/-- What a point writes is the reference's expression at the block's place. -/
theorem final4 (c : Dev nD) : (dats m 0 c).arrAt 4 cfg0.N
    = val_main_v5 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  frame_out
  unfold_payloads
  pointwise [val_main_v0, val_main_v1, val_main_v2, val_main_v3, val_main_v4, val_main_v5, val_main_v6, val_main_v7, val_main_v8, val_main_cst, val_main_v9, val_main_v10, val_main_cst_0, val_main_v11, val_main_v12, val_main_v13, val_main_v14, val_main_v15]
  blk_simp [iblk]
  rw [V_main_arg0, V_main_arg1]
  have e0 := idx0 t
  have e1 := idx1 t
  have e2 := idx2 t
  have e3 := idx3 t
  (refine Finset.sum_congr (M := EReal) rfl fun k _ => ?_; congr 2 <;> blk_ext [e0, e1])

/-- What a point writes is the reference's expression at the block's place. -/
theorem final5 (c : Dev nD) : (dats m 0 c).arrAt 5 cfg0.N
    = val_main_v6 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  frame_out
  unfold_payloads
  pointwise [val_main_v0, val_main_v1, val_main_v2, val_main_v3, val_main_v4, val_main_v5, val_main_v6, val_main_v7, val_main_v8, val_main_cst, val_main_v9, val_main_v10, val_main_cst_0, val_main_v11, val_main_v12, val_main_v13, val_main_v14, val_main_v15]
  blk_simp [iblk]
  rw [V_main_arg0, V_main_arg1]
  have e0 := idx0 t
  have e1 := idx1 t
  have e2 := idx2 t
  have e3 := idx3 t
  have e5 := idx5 t
  (refine Finset.sum_congr (M := EReal) rfl fun k _ => ?_; congr 2 <;> blk_ext [e2, e3, e5])

/-- What a point writes is the reference's expression at the block's place. -/
theorem final6 (c : Dev nD) : (dats m 0 c).arrAt 6 cfg0.N
    = val_main_v15 (F := Ideal) (m ((c : Thread nD τ).loc main_arg0)) (m ((c : Thread nD τ).loc main_arg1)) := by
  refine (dats m 0 c).arrAt_eq_of_covers 6 _ (by decide +kernel) fun t hf y => ?_
  blk_simp
  rw [after0_6]
  frame_out
  unfold_payloads
  pointwise [val_main_v0, val_main_v1, val_main_v2, val_main_v3, val_main_v4, val_main_v5, val_main_v6, val_main_v7, val_main_v8, val_main_cst, val_main_v9, val_main_v10, val_main_cst_0, val_main_v11, val_main_v12, val_main_v13, val_main_v14, val_main_v15]
  blk_simp [iblk]
  rw [V_main_arg0, V_main_arg1]
  have e0 := idx0 t
  have e1 := idx1 t
  have e2 := idx2 t
  have e3 := idx3 t
  have e6 := idx6 t
  refine Ideal.mul_congr (Ideal.mul_congr ?_ (congrArg (fun s : EReal => Ideal.div 1 (1 + Ideal.exp s)) ?_)) ?_
  · (refine Finset.sum_congr (M := EReal) rfl fun k _ => ?_; congr 2 <;> blk_ext [e0, e1, e6])
  · rw [zero_sub (G := EReal)]
    refine congrArg (fun s : EReal => -s) ?_
    (refine Finset.sum_congr (M := EReal) rfl fun k _ => ?_; congr 2 <;> blk_ext [e0, e1, e6])
  · (refine Finset.sum_congr (M := EReal) rfl fun k _ => ?_; congr 2 <;> blk_ext [e2, e3, e6])

/-- From launches that agree on the arguments, kernel and reference end with the same results. -/
theorem algebraic : Cert.algebraic_FfnInIdeal_FfnInRefIdeal := fun m g m' g' _ hagree =>
  ⟨fun c => _, fun c => _, fun c => _, (θ_run defs _ _).mono (fun _ h c => ⟨(h c).1.trans (final4 m c), (h c).2.1.trans (final5 m c), (h c).2.2.1.trans (final6 m c), (h c).2.2.2⟩) (run_blocks m g),
    (θ_run Cert.FfnInRefIdeal.defs _ _).mono (fun _ h c => ⟨(h c).1.trans (by rw [(hagree c).1, (hagree c).2]; rfl), (h c).2.1.trans (by rw [(hagree c).1, (hagree c).2]; rfl), (h c).2.2.1.trans (by rw [(hagree c).1, (hagree c).2]; rfl), (h c).2.2.2⟩)
      (Cert.FfnInRefIdeal.Value.run m' g')⟩

end Cert.Proof.FfnIn

end
-- ==== Proof.FfnDown.lean ====
/- The feed-forward net's down projection, forward, with the residual added: one product and a sum. -/
module

public import proofs.«01_k».proof.Proof.Gen.FfnDownIdeal.Value
public import proofs.«01_k».proof.Proof.Gen.FfnDownRefIdeal.Read
public import proofs.«01_k».proof.Defs
public import Idealize.ShloMosaic.Lib.Pipeline.ValueKit
public import Idealize.ShloMosaic.Lib.Pointwise

@[expose] public section

set_option maxRecDepth 16384

noncomputable section

namespace Cert.Proof.FfnDown

open Cert.FfnDownIdeal Cert.FfnDownIdeal.Gen Cert.FfnDownIdeal.Value Idealize.ShloMosaic Idealize.ShloMosaic.TcCoe Idealize.SL.Sem
open Cert.FfnDownRefIdeal.Read

variable (m : (ℓ : Loc nD τ sig) → Buf (Elt Ideal) ℓ)

/-- The first operand's rows and the second's columns move with the result's block, the residual's block is the result's. -/
theorem idx0 : ∀ t : Fin cfg0.N, win0_0.index t = ![win0_3.index t 0, 0] := (by decide +kernel : ∀ t : Fin grid0.N, _)
theorem idx1 : ∀ t : Fin cfg0.N, win0_1.index t = ![0, win0_3.index t 1] := (by decide +kernel : ∀ t : Fin grid0.N, _)
theorem idx2 : ∀ t : Fin cfg0.N, win0_2.index t = win0_3.index t := (by decide +kernel : ∀ t : Fin grid0.N, _)

/-- What a point writes is the block product of the blocks it reads; the blocks tile the result, so the array is the one product. -/
theorem final3 (c : Dev nD) : (dats m 0 c).arrAt 3 cfg0.N
    = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  unfold_payloads
  pointwise [val_main_v3, val_main_v2, val_main_v1, val_main_v0]
  blk_simp [iblk]
  rw [V_main_arg0, V_main_arg1, V_main_arg2]
  have e0 := idx0 t
  have e1 := idx1 t
  have e2 := idx2 t
  refine (add_comm (G := EReal) _ _).trans (Ideal.add_congr ?_ ?_)
  · congr 1; blk_ext [e2]
  · refine Finset.sum_congr (M := EReal) rfl fun k _ => ?_
    congr 2 <;> blk_ext [e0, e1]

/-- From launches that agree on the arguments, kernel and reference end with the same results. -/
theorem algebraic : Cert.algebraic_FfnDownIdeal_FfnDownRefIdeal := fun m g m' g' _ hagree =>
  ⟨fun c => _, (θ_run defs _ _).mono (fun _ h c => ⟨(h c).1.trans (final3 m c), (h c).2⟩) (run_blocks m g),
    (θ_run Cert.FfnDownRefIdeal.defs _ _).mono (fun _ h c => ⟨(h c).1.trans (by rw [(hagree c).1, (hagree c).2.1, (hagree c).2.2]; rfl), (h c).2⟩)
      (Cert.FfnDownRefIdeal.Value.run m' g')⟩

end Cert.Proof.FfnDown

end
-- ==== Proof.NormFwd.lean ====
/- The forward RMSNorm: every row divided by the root of its mean square and scaled. -/
module

public import proofs.«01_k».proof.Proof.Gen.NormFwdIdeal.Value
public import proofs.«01_k».proof.Proof.Gen.NormFwdRefIdeal.Read
public import proofs.«01_k».proof.Defs
public import proofs.«01_k».proof.Proof.Real
public import proofs.«01_k».proof.Proof.Norm
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.NormFwd

open Cert.NormFwdIdeal Cert.NormFwdIdeal.Gen Cert.NormFwdIdeal.Value Idealize.ShloMosaic Idealize.ShloMosaic.TcCoe Idealize.SL.Sem
open Cert.NormFwdRefIdeal.Read

variable (m : (ℓ : Loc nD τ sig) → Buf (Elt Ideal) ℓ)

/-- The rows move with the result's; the weights are read whole. -/
theorem idx0 : ∀ t : Fin cfg0.N, win0_0.index t = win0_2.index t := (by decide +kernel : ∀ t : Fin grid0.N, _)
theorem idx1 : ∀ t : Fin cfg0.N, win0_1.index t = ![0, 0] := (by decide +kernel : ∀ t : Fin grid0.N, _)
theorem col2 : ∀ t : Fin cfg0.N, win0_2.index t 1 = 0 := (by decide +kernel : ∀ t : Fin grid0.N, _)

/-- The weights as the kernel's row holds them. -/
theorem row_w (c : Dev nD) (j : S1x1024.Idx) : V m c main_v0 j = m ((c : Thread nD τ).loc main_arg1) (ix1 (j 1)) := by
  entry_read
  pointwise

/-- What a point writes is the reference's expression at the block's place. -/
theorem final2 (c : Dev nD) : (dats m 0 c).arrAt 2 cfg0.N
    = val_main_v13 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold_payloads
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  blk_simp [iblk]
  rw [V_main_arg0, row_w]
  have e0 := idx0 t
  have e1 := idx1 t
  have c2 := col2 t
  refine norm_congr (X := fun k => m ((c : Thread nD τ).loc main_arg0) ((win0_0.blk t).view.emb (ix2 (y 0) k))) (X' := fun k => m ((c : Thread nD τ).loc main_arg0) (ix2 ((win0_2.blk t).view.emb y 0) k)) (funext fun k => ?_) ?_ ?_
  · congr 1; blk_ext [e0, c2]
  · congr 1; blk_ext [e0]
  · congr 1; blk_ext [e1, c2]

/-- From launches that agree on the arguments, kernel and reference end with the same results. -/
theorem algebraic : Cert.algebraic_NormFwdIdeal_NormFwdRefIdeal := fun m g m' g' _ hagree =>
  ⟨fun c => _, (θ_run defs _ _).mono (fun _ h c => ⟨(h c).1.trans (final2 m c), (h c).2⟩) (run_blocks m g),
    (θ_run Cert.NormFwdRefIdeal.defs _ _).mono (fun _ h c => ⟨(h c).1.trans (by rw [(hagree c).1, (hagree c).2]; rfl), (h c).2⟩)
      (Cert.NormFwdRefIdeal.Value.run m' g')⟩

end Cert.Proof.NormFwd

end
-- ==== Proof.LossHead.lean ====
/- The loss of a row of predictions against its targets, summed over the tokens, and its gradient: of the last layer's output,
   and of the norm's weights summed over the tokens. -/
module

public import proofs.«01_k».proof.Proof.Gen.LossHeadIdeal.Value
public import proofs.«01_k».proof.Proof.Gen.LossHeadRefIdeal.Read
public import proofs.«01_k».proof.Defs
public import proofs.«01_k».proof.Proof.Real
public import proofs.«01_k».proof.Proof.Norm
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.LossHead

open Cert.LossHeadIdeal Cert.LossHeadIdeal.Gen Cert.LossHeadIdeal.Value Idealize.ShloMosaic Idealize.ShloMosaic.TcCoe Idealize.SL.Sem
open Cert.LossHeadRefIdeal.Read

theorem bits_half : Ideal.ofBits FTy.f32 1056964608#32 = ((1 / 2 : ℝ) : EReal) := by
  simp [Ideal.ofBits, Ideal.ieee]; norm_num; rw [← EReal.coe_mul]; congr 1; norm_num
theorem bits_two : Ideal.ofBits FTy.f32 1073741824#32 = ((2 : ℝ) : EReal) := by
  simp [Ideal.ofBits, Ideal.ieee]; norm_num; rw [← EReal.coe_mul]; congr 1; norm_num
theorem bits_inv : Ideal.ofBits FTy.f32 981467136#32 = ((1 / 1024 : ℝ) : EReal) := by
  simp [Ideal.ofBits, Ideal.ieee]; norm_num; rw [← EReal.coe_mul]; congr 1; norm_num

/-- The derivative of half a mean square in an error: its mean's share. -/
theorem half_two (e : EReal) :
    Ideal.div (Ideal.ofBits FTy.f32 1056964608#32) (Ideal.ofBits FTy.f32 1149239296#32)
        * (Ideal.ofBits FTy.f32 1073741824#32 * e)
      = e * Ideal.ofBits FTy.f32 981467136#32 := by
  rw [bits_half, bits_1024, bits_two, bits_inv, div_1024, ← EReal.coe_mul, ← mul_assoc, ← EReal.coe_mul, mul_comm]
  congr 2; norm_num

/-- The inverse root of a mean square of real numbers is a real number. -/
theorem real_rsqrt {n : Nat} {X : Fin n → EReal} (h : ∀ k, IsReal (X k)) : IsReal (Ideal.rsqrt (meanSq X)) := by
  choose x hx using h
  obtain rfl : X = fun k => (x k : EReal) := funext hx
  obtain ⟨v, hv, e⟩ := meanSq_pos x
  rw [e, rsqrt_pos hv]
  exact IsReal.coe _

/-- An element's error: the normalised and scaled element less its target. -/
def err {n : Nat} (X : Fin n → EReal) (x w t : EReal) : EReal := x * Ideal.rsqrt (meanSq X) * w - t

theorem err_real {n : Nat} {X : Fin n → EReal} {x w t : EReal} (hX : ∀ k, IsReal (X k)) (hx : IsReal x) (hw : IsReal w) (ht : IsReal t) :
    IsReal (err X x w t) := ((hx.mul (real_rsqrt hX)).mul hw).sub ht

/-- A token's loss, before the half: its errors' mean square. -/
def rowLoss {n : Nat} (X W T : Fin n → EReal) : EReal :=
  Ideal.div (∑ k, err X (X k) (W k) (T k) * err X (X k) (W k) (T k)) (Ideal.ofBits FTy.f32 1149239296#32)

theorem rowLoss_real {n : Nat} {X W T : Fin n → EReal} (hX : ∀ k, IsReal (X k)) (hW : ∀ k, IsReal (W k)) (hT : ∀ k, IsReal (T k)) :
    IsReal (rowLoss X W T) := by
  unfold rowLoss
  rw [bits_1024, div_1024]
  exact (IsReal.sum _ fun k => (err_real hX (hX k) (hW k) (hT k)).mul (err_real hX (hX k) (hW k) (hT k))).mul (IsReal.coe _)

/-- The half of a sum of real numbers is the sum of the blocks' halves. -/
theorem half_sum {a b : Nat} (f : Fin a → Fin b → EReal) (h : ∀ s k, IsReal (f s k)) (g : EReal) (hg : ∑ s, ∑ k, f s k = g) :
    ∑ s, Ideal.ofBits FTy.f32 1056964608#32 * ∑ k, f s k = Ideal.ofBits FTy.f32 1056964608#32 * g := by
  subst hg
  choose f' hf using h
  obtain rfl : f = fun s k => (f' s k : EReal) := funext fun s => funext (hf s)
  rw [bits_half]
  simp only [coe_sum, ← EReal.coe_mul]
  rw [Finset.mul_sum]

/-- The gradient of the input in the two forms, of equal rows, weights and targets. -/
theorem loss_grad_congr {n : Nat} {X X' W W' T T' : Fin n → EReal} {x x' w w' t t' : EReal} (hX : X = X') (hW : W = W') (hT : T = T')
    (hx : x = x') (hw : w = w') (ht : t = t') (rX : ∀ k, IsReal (X' k)) (rW : ∀ k, IsReal (W' k)) (rT : ∀ k, IsReal (T' k))
    (rx : IsReal x') (rw' : IsReal w') (rt : IsReal t') :
    Ideal.rsqrt (meanSq X) * ((x * Ideal.rsqrt (meanSq X) * w - t) * Ideal.ofBits FTy.f32 981467136#32 * w - x * Ideal.rsqrt (meanSq X)
        * Ideal.div (∑ k, (X k * Ideal.rsqrt (meanSq X) * W k - T k) * Ideal.ofBits FTy.f32 981467136#32 * W k
          * (X k * Ideal.rsqrt (meanSq X))) (Ideal.ofBits FTy.f32 1149239296#32))
      = (Ideal.div (Ideal.ofBits FTy.f32 1056964608#32) (Ideal.ofBits FTy.f32 1149239296#32) * (Ideal.ofBits FTy.f32 1073741824#32 * (x' * Ideal.rsqrt (meanSq X') * w' - t'))) * w' * Ideal.rsqrt (meanSq X')
        + x' * (∑ _ : Fin 1, (Ideal.div ((∑ k, X' k * ((Ideal.div (Ideal.ofBits FTy.f32 1056964608#32) (Ideal.ofBits FTy.f32 1149239296#32) * (Ideal.ofBits FTy.f32 1073741824#32 * (X' k * Ideal.rsqrt (meanSq X') * W' k - T' k))) * W' k)) * (Ideal.ofBits FTy.f32 3204448256#32
            * Ideal.div (Ideal.rsqrt (meanSq X')) (meanSq X'))) (Ideal.ofBits FTy.f32 1149239296#32)))
        + (∑ _ : Fin 1, (Ideal.div ((∑ k, X' k * ((Ideal.div (Ideal.ofBits FTy.f32 1056964608#32) (Ideal.ofBits FTy.f32 1149239296#32) * (Ideal.ofBits FTy.f32 1073741824#32 * (X' k * Ideal.rsqrt (meanSq X') * W' k - T' k))) * W' k)) * (Ideal.ofBits FTy.f32 3204448256#32
            * Ideal.div (Ideal.rsqrt (meanSq X')) (meanSq X'))) (Ideal.ofBits FTy.f32 1149239296#32))) * x' := by
  subst hX hW hT hx hw ht
  have ri : IsReal (Ideal.ofBits FTy.f32 981467136#32) := by rw [bits_inv]; exact IsReal.coe _
  simp only [half_two, Fin.sum_univ_one]
  exact norm_grad_real X (fun k => (X k * Ideal.rsqrt (meanSq X) * W k - T k) * Ideal.ofBits FTy.f32 981467136#32 * W k) rX
    (fun k => ((err_real rX (rX k) (rW k) (rT k)).mul ri).mul (rW k)) rx (((err_real rX rx rw' rt).mul ri).mul rw')

/-- A token's share of the weights' gradient, of equal rows, weights and targets. -/
theorem loss_dw_congr {n : Nat} {X X' : Fin n → EReal} {x x' w w' t t' : EReal} (hX : X = X') (hx : x = x') (hw : w = w') (ht : t = t') :
    mulE (mulE (err X x w t) (Ideal.ofBits FTy.f32 981467136#32)) (mulE x (Ideal.rsqrt (meanSq X)))
      = x' * Ideal.rsqrt (meanSq X') * (Ideal.div (Ideal.ofBits FTy.f32 1056964608#32) (Ideal.ofBits FTy.f32 1149239296#32) * (Ideal.ofBits FTy.f32 1073741824#32 * (x' * Ideal.rsqrt (meanSq X') * w' - t'))) := by
  subst hX hx hw ht
  rw [half_two]
  exact mul_comm _ _

/-- A token's loss, of equal rows, weights and targets. -/
theorem rowLoss_congr {n : Nat} {X X' W W' T T' : Fin n → EReal} (hX : X = X') (hW : W = W') (hT : T = T') :
    rowLoss X W T = rowLoss X' W' T' := by
  subst hX hW hT; rfl

variable (m : (ℓ : Loc nD τ sig) → Buf (Elt Ideal) ℓ)

/-- The rows move with the result's; the weights are read whole. -/
theorem idx0 : ∀ t : Fin cfg0.N, win0_0.index t = win0_4.index t := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = win0_4.index t := (by decide +kernel : ∀ t : Fin grid0.N, _)
theorem idx3 : ∀ t : Fin cfg0.N, win0_3.index t = ![0, 0] := (by decide +kernel : ∀ t : Fin grid0.N, _)
theorem idx5 : ∀ t : Fin cfg0.N, win0_5.index t = win0_4.index t := (by decide +kernel : ∀ t : Fin grid0.N, _)
theorem idx6 : ∀ t : Fin cfg0.N, win0_6.index t = ![0, 0] := (by decide +kernel : ∀ t : Fin grid0.N, _)
theorem col4 : ∀ t : Fin cfg0.N, win0_4.index t 1 = 0 := (by decide +kernel : ∀ t : Fin grid0.N, _)
theorem row4 : ∀ t : Fin cfg0.N, win0_4.index t 0 = t.val := (by decide +kernel : ∀ t : Fin grid0.N, _)

/-- The weights as the kernel's row holds them. -/
theorem row_w (c : Dev nD) (j : S1x1024.Idx) : V m c main_v0 j = m ((c : Thread nD τ).loc main_arg1) (ix1 (j 1)) := by
  entry_read
  pointwise

/-- The precondition: the rows, the weights and the targets are real numbers. -/
theorem real_args [Cert.Pre_loss_finite.Facts] (h : Cert.Pre_LossHeadIdeal_loss_finite m) (c : Dev nD) :
    (∀ i, IsReal (m ((c : Thread nD τ).loc main_arg0) i)) ∧ (∀ i, IsReal (m ((c : Thread nD τ).loc main_arg1) i))
      ∧ ∀ i, IsReal (m ((c : Thread nD τ).loc main_arg2) i) := by
  have h := congrFun (h c) ix0
  pointwise [Cert.Pre_loss_finite.fn] at h
  obtain ⟨h, h3⟩ := andi_one h
  obtain ⟨h0, h1⟩ := andi_one h
  exact ⟨real_of_fold (φ := .f32) _ h0, real_of_fold1 (φ := .f32) _ h1, real_of_fold (φ := .f32) _ h3⟩

set_option maxHeartbeats 1000000 in
/-- The input's gradient. -/
theorem final4 (c : Dev nD) (hr : (∀ i, IsReal (m ((c : Thread nD τ).loc main_arg0) i)) ∧ (∀ i, IsReal (m ((c : Thread nD τ).loc main_arg1) i))
      ∧ ∀ i, IsReal (m ((c : Thread nD τ).loc main_arg2) i)) : (dats m 0 c).arrAt 4 cfg0.N
    = val_main_v50 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  have e0 := idx0 t
  have e1 := idx1 t
  have e2 := idx2 t
  have e5 := idx5 t
  have c4 := col4 t
  blk_simp
  rw [after0_4]
  by_cases h0 : t.val % 8 = 0
  · rw [outsAt0_A m c t h0]
    frame_out
    unfold_payloads
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
    blk_simp [iblk]
    rw [V_main_arg0, V_main_arg2, show V m c main_v0 = fun j => m ((c : Thread nD τ).loc main_arg1) (ix1 (j 1)) from funext (row_w m c)]
    refine loss_grad_congr (X := fun k => m ((c : Thread nD τ).loc main_arg0) ((win0_0.blk t).view.emb (ix2 (y 0) k))) (X' := fun k => m ((c : Thread nD τ).loc main_arg0) (ix2 ((win0_4.blk t).view.emb y 0) k))
      (W := fun k => m ((c : Thread nD τ).loc main_arg1) (ix1 ((win0_1.blk t).view.emb (ix2 0 k) 1))) (W' := fun k => m ((c : Thread nD τ).loc main_arg1) (ix1 k))
      (T := fun k => m ((c : Thread nD τ).loc main_arg2) ((win0_2.blk t).view.emb (ix2 (y 0) k))) (T' := fun k => m ((c : Thread nD τ).loc main_arg2) (ix2 ((win0_4.blk t).view.emb y 0) k))
      (funext fun k => ?_) (funext fun k => ?_) (funext fun k => ?_) ?_ ?_ ?_ (fun k => hr.1 _) (fun k => hr.2.1 _) (fun k => hr.2.2 _) (hr.1 _) (hr.2.1 _) (hr.2.2 _)
    · congr 1; blk_ext [e0, c4, e5]
    · congr 1; blk_ext [e1, c4, e5]
    · congr 1; blk_ext [e2, c4, e5]
    · congr 1; blk_ext [e0, c4, e5]
    · congr 1; blk_ext [e1, c4, e5]
    · congr 1; blk_ext [e2, c4, e5]
  · rw [outsAt0_B m c t h0]
    frame_out
    unfold_payloads
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
    blk_simp [iblk]
    rw [V_main_arg0, V_main_arg2, show V m c main_v0 = fun j => m ((c : Thread nD τ).loc main_arg1) (ix1 (j 1)) from funext (row_w m c)]
    refine loss_grad_congr (X := fun k => m ((c : Thread nD τ).loc main_arg0) ((win0_0.blk t).view.emb (ix2 (y 0) k))) (X' := fun k => m ((c : Thread nD τ).loc main_arg0) (ix2 ((win0_4.blk t).view.emb y 0) k))
      (W := fun k => m ((c : Thread nD τ).loc main_arg1) (ix1 ((win0_1.blk t).view.emb (ix2 0 k) 1))) (W' := fun k => m ((c : Thread nD τ).loc main_arg1) (ix1 k))
      (T := fun k => m ((c : Thread nD τ).loc main_arg2) ((win0_2.blk t).view.emb (ix2 (y 0) k))) (T' := fun k => m ((c : Thread nD τ).loc main_arg2) (ix2 ((win0_4.blk t).view.emb y 0) k))
      (funext fun k => ?_) (funext fun k => ?_) (funext fun k => ?_) ?_ ?_ ?_ (fun k => hr.1 _) (fun k => hr.2.1 _) (fun k => hr.2.2 _) (hr.1 _) (hr.2.1 _) (hr.2.2 _)
    · congr 1; blk_ext [e0, c4, e5]
    · congr 1; blk_ext [e1, c4, e5]
    · congr 1; blk_ext [e2, c4, e5]
    · congr 1; blk_ext [e0, c4, e5]
    · congr 1; blk_ext [e1, c4, e5]
    · congr 1; blk_ext [e2, c4, e5]

set_option maxHeartbeats 1000000 in
/-- … and its rounding. -/
theorem final5 (c : Dev nD) (hr : (∀ i, IsReal (m ((c : Thread nD τ).loc main_arg0) i)) ∧ (∀ i, IsReal (m ((c : Thread nD τ).loc main_arg1) i))
      ∧ ∀ i, IsReal (m ((c : Thread nD τ).loc main_arg2) i)) : (dats m 0 c).arrAt 5 cfg0.N
    = val_main_v52 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  have e0 := idx0 t
  have e1 := idx1 t
  have e2 := idx2 t
  have e5 := idx5 t
  have c4 := col4 t
  blk_simp
  rw [after0_5]
  by_cases h0 : t.val % 8 = 0
  · rw [outsAt0_A m c t h0]
    frame_out
    unfold_payloads
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
    blk_simp [iblk]
    rw [V_main_arg0, V_main_arg2, show V m c main_v0 = fun j => m ((c : Thread nD τ).loc main_arg1) (ix1 (j 1)) from funext (row_w m c)]
    refine loss_grad_congr (X := fun k => m ((c : Thread nD τ).loc main_arg0) ((win0_0.blk t).view.emb (ix2 (y 0) k))) (X' := fun k => m ((c : Thread nD τ).loc main_arg0) (ix2 ((win0_5.blk t).view.emb y 0) k))
      (W := fun k => m ((c : Thread nD τ).loc main_arg1) (ix1 ((win0_1.blk t).view.emb (ix2 0 k) 1))) (W' := fun k => m ((c : Thread nD τ).loc main_arg1) (ix1 k))
      (T := fun k => m ((c : Thread nD τ).loc main_arg2) ((win0_2.blk t).view.emb (ix2 (y 0) k))) (T' := fun k => m ((c : Thread nD τ).loc main_arg2) (ix2 ((win0_5.blk t).view.emb y 0) k))
      (funext fun k => ?_) (funext fun k => ?_) (funext fun k => ?_) ?_ ?_ ?_ (fun k => hr.1 _) (fun k => hr.2.1 _) (fun k => hr.2.2 _) (hr.1 _) (hr.2.1 _) (hr.2.2 _)
    · congr 1; blk_ext [e0, c4, e5]
    · congr 1; blk_ext [e1, c4, e5]
    · congr 1; blk_ext [e2, c4, e5]
    · congr 1; blk_ext [e0, c4, e5]
    · congr 1; blk_ext [e1, c4, e5]
    · congr 1; blk_ext [e2, c4, e5]
  · rw [outsAt0_B m c t h0]
    frame_out
    unfold_payloads
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
    blk_simp [iblk]
    rw [V_main_arg0, V_main_arg2, show V m c main_v0 = fun j => m ((c : Thread nD τ).loc main_arg1) (ix1 (j 1)) from funext (row_w m c)]
    refine loss_grad_congr (X := fun k => m ((c : Thread nD τ).loc main_arg0) ((win0_0.blk t).view.emb (ix2 (y 0) k))) (X' := fun k => m ((c : Thread nD τ).loc main_arg0) (ix2 ((win0_5.blk t).view.emb y 0) k))
      (W := fun k => m ((c : Thread nD τ).loc main_arg1) (ix1 ((win0_1.blk t).view.emb (ix2 0 k) 1))) (W' := fun k => m ((c : Thread nD τ).loc main_arg1) (ix1 k))
      (T := fun k => m ((c : Thread nD τ).loc main_arg2) ((win0_2.blk t).view.emb (ix2 (y 0) k))) (T' := fun k => m ((c : Thread nD τ).loc main_arg2) (ix2 ((win0_5.blk t).view.emb y 0) k))
      (funext fun k => ?_) (funext fun k => ?_) (funext fun k => ?_) ?_ ?_ ?_ (fun k => hr.1 _) (fun k => hr.2.1 _) (fun k => hr.2.2 _) (hr.1 _) (hr.2.1 _) (hr.2.2 _)
    · congr 1; blk_ext [e0, c4, e5]
    · congr 1; blk_ext [e1, c4, e5]
    · congr 1; blk_ext [e2, c4, e5]
    · congr 1; blk_ext [e0, c4, e5]
    · congr 1; blk_ext [e1, c4, e5]
    · congr 1; blk_ext [e2, c4, e5]

/-- What a point adds to the weights' gradient: the sum over its tokens. -/
def part (c : Dev nD) (t : Fin cfg0.N) : S1x1024.Idx → EReal := fun j =>
  ∑ k : Fin 512, mulE (mulE (err (fun x : Fin 1024 => m ((c : Thread nD τ).loc main_arg0) ((win0_0.blk t).view.emb (ix2 k x))) (m ((c : Thread nD τ).loc main_arg0) ((win0_0.blk t).view.emb (ix2 k (j 1))))
      (m ((c : Thread nD τ).loc main_arg1) (ix1 ((win0_1.blk t).view.emb (ix2 0 (j 1)) 1))) (m ((c : Thread nD τ).loc main_arg2) ((win0_2.blk t).view.emb (ix2 k (j 1))))) (Ideal.ofBits FTy.f32 981467136#32))
    (mulE (m ((c : Thread nD τ).loc main_arg0) ((win0_0.blk t).view.emb (ix2 k (j 1)))) (Ideal.rsqrt (meanSq fun x : Fin 1024 => m ((c : Thread nD τ).loc main_arg0) ((win0_0.blk t).view.emb (ix2 k x)))))

/-- After the last point the accumulator holds the sum of what the 8 points add. -/
theorem acc (c : Dev nD) (t : Fin cfg0.N) (hr : t.val % 8 = 8 - 1) (i : S1x1024.Idx) :
    (outsAt0 m c t.val t.isLt).2.2.2 i
      = ∑ s : Fin 8, part m c ⟨8 * (t.val / 8) + s.val, Pipeline.run_point_lt_of_flush t hr s⟩ i :=
  (Pipeline.eq_sum_fin_of_reset_step_apply_of_flush (M := EReal) (fun n h => (outsAt0 m c n h).2.2.2) 8 (fun _ => 0) (part m c)
      (fun t h j => by
        rw [outsAt0_A m c t h]
        frame_out
        unfold part
        unfold_payloads
        pointwise
        blk_simp [iblk]
        simp only [V_main_arg0, V_main_arg2, show V m c main_v0 = fun j => m ((c : Thread nD τ).loc main_arg1) (ix1 (j 1)) from funext (row_w m c)]
        rfl)
      (fun t h j => by
        rw [outsAt0_B m c t h]
        frame_out
        unfold part
        unfold_payloads
        pointwise
        blk_simp [iblk]
        simp only [V_main_arg0, V_main_arg2, show V m c main_v0 = fun j => m ((c : Thread nD τ).loc main_arg1) (ix1 (j 1)) from funext (row_w m c)]
        rfl) t hr i).trans (zero_add (M := EReal) _)

/-- What a point adds to the loss: half the sum of its tokens'. -/
def lossPart (c : Dev nD) (t : Fin cfg0.N) : S1x1.Idx → EReal := fun _ =>
  mulE (Ideal.ofBits FTy.f32 1056964608#32) (∑ k : Fin 512, rowLoss (fun x : Fin 1024 => m ((c : Thread nD τ).loc main_arg0) ((win0_0.blk t).view.emb (ix2 k x)))
    (fun x : Fin 1024 => m ((c : Thread nD τ).loc main_arg1) (ix1 ((win0_1.blk t).view.emb (ix2 0 x) 1))) (fun x : Fin 1024 => m ((c : Thread nD τ).loc main_arg2) ((win0_2.blk t).view.emb (ix2 k x))))

/-- After the last point the accumulator holds the sum of what the 8 points add. -/
theorem lossAcc (c : Dev nD) (t : Fin cfg0.N) (hr : t.val % 8 = 8 - 1) (i : S1x1.Idx) :
    (outsAt0 m c t.val t.isLt).1 i
      = ∑ s : Fin 8, lossPart m c ⟨8 * (t.val / 8) + s.val, Pipeline.run_point_lt_of_flush t hr s⟩ i :=
  (Pipeline.eq_sum_fin_of_reset_step_apply_of_flush (M := EReal) (fun n h => (outsAt0 m c n h).1) 8 (fun _ => 0) (lossPart m c)
      (fun t h j => by
        rw [outsAt0_A m c t h]
        frame_out
        unfold lossPart
        unfold_payloads
        pointwise
        blk_simp [iblk]
        simp only [V_main_arg0, V_main_arg2, show V m c main_v0 = fun j => m ((c : Thread nD τ).loc main_arg1) (ix1 (j 1)) from funext (row_w m c)]
        rfl)
      (fun t h j => by
        rw [outsAt0_B m c t h]
        frame_out
        unfold lossPart
        unfold_payloads
        pointwise
        blk_simp [iblk]
        simp only [V_main_arg0, V_main_arg2, show V m c main_v0 = fun j => m ((c : Thread nD τ).loc main_arg1) (ix1 (j 1)) from funext (row_w m c)]
        rfl) t hr i).trans (zero_add (M := EReal) _)

/-- The weights' gradient: one sum over all tokens. -/
theorem final6 (c : Dev nD) : (dats m 0 c).arrAt 6 cfg0.N
    = val_main_v53 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  have hl := (flush0_6 t).mp hf
  blk_simp
  rw [after0_6, acc m c t hl]
  unfold part
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  refine Eq.trans ?_ (Fin.sum_univ_one (M := EReal) _).symm
  refine Fin.sum_mul_add_congr fun s k hk => ?_
  have hs := s.isLt
  have h8 : t.val < 8 := t.isLt
  have e0 := idx0 ⟨8 * (t.val / 8) + s.val, Pipeline.run_point_lt_of_flush t hl s⟩
  have e1 := idx1 ⟨8 * (t.val / 8) + s.val, Pipeline.run_point_lt_of_flush t hl s⟩
  have e2 := idx2 ⟨8 * (t.val / 8) + s.val, Pipeline.run_point_lt_of_flush t hl s⟩
  have c4 := col4 ⟨8 * (t.val / 8) + s.val, Pipeline.run_point_lt_of_flush t hl s⟩
  have r4 : win0_4.index ⟨8 * (t.val / 8) + s.val, Pipeline.run_point_lt_of_flush t hl s⟩ 0 = s.val :=
    (row4 ⟨8 * (t.val / 8) + s.val, Pipeline.run_point_lt_of_flush t hl s⟩).trans (by show 8 * (t.val / 8) + s.val = s.val; omega)
  have e6 := idx6 t
  refine loss_dw_congr (funext fun k' => ?_) ?_ ?_ ?_
  · congr 1; blk_ext [e0, c4, r4, e6]
  · congr 1; blk_ext [e0, c4, r4, e6]
  · congr 1; blk_ext [e1, e6]
  · congr 1; blk_ext [e2, c4, r4, e6]

/-- The loss: half the sum of all tokens' mean squares. -/
theorem final3 (c : Dev nD) (hr : (∀ i, IsReal (m ((c : Thread nD τ).loc main_arg0) i)) ∧ (∀ i, IsReal (m ((c : Thread nD τ).loc main_arg1) i))
      ∧ ∀ i, IsReal (m ((c : Thread nD τ).loc main_arg2) i)) : (dats m 0 c).arrAt 3 cfg0.N
    = val_main_v51 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have hl := (flush0_3 t).mp hf
  blk_simp
  rw [after0_3, lossAcc m c t hl]
  unfold lossPart
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  refine (half_sum _ (fun s k => rowLoss_real (fun _ => hr.1 _) (fun _ => hr.2.1 _) (fun _ => hr.2.2 _)) _ ?_).trans rfl
  refine Fin.sum_mul_add_congr fun s k hk => ?_
  have hs := s.isLt
  have h8 : t.val < 8 := t.isLt
  have e0 := idx0 ⟨8 * (t.val / 8) + s.val, Pipeline.run_point_lt_of_flush t hl s⟩
  have e1 := idx1 ⟨8 * (t.val / 8) + s.val, Pipeline.run_point_lt_of_flush t hl s⟩
  have e2 := idx2 ⟨8 * (t.val / 8) + s.val, Pipeline.run_point_lt_of_flush t hl s⟩
  have c4 := col4 ⟨8 * (t.val / 8) + s.val, Pipeline.run_point_lt_of_flush t hl s⟩
  have r4 : win0_4.index ⟨8 * (t.val / 8) + s.val, Pipeline.run_point_lt_of_flush t hl s⟩ 0 = s.val :=
    (row4 ⟨8 * (t.val / 8) + s.val, Pipeline.run_point_lt_of_flush t hl s⟩).trans (by show 8 * (t.val / 8) + s.val = s.val; omega)
  refine rowLoss_congr (funext fun x => ?_) (funext fun x => ?_) (funext fun x => ?_)
  · congr 1; blk_ext [e0, c4, r4]
  · congr 1; blk_ext [e1]
  · congr 1; blk_ext [e2, c4, r4]

/-- From launches that agree on the arguments, kernel and reference end with the same results. -/
theorem algebraic [Cert.Pre_loss_finite.Facts] : Cert.algebraic_LossHeadIdeal_LossHeadRefIdeal_pre_loss_finite := fun m g m' g' hp hagree =>
  ⟨fun c => val_main_v51 (F := Ideal) (m ((c : Thread nD τ).loc main_arg0)) (m ((c : Thread nD τ).loc main_arg1)) (m ((c : Thread nD τ).loc main_arg2)), fun c => val_main_v50 (F := Ideal) (m ((c : Thread nD τ).loc main_arg0)) (m ((c : Thread nD τ).loc main_arg1)) (m ((c : Thread nD τ).loc main_arg2)),
    fun c => val_main_v52 (F := Ideal) (m ((c : Thread nD τ).loc main_arg0)) (m ((c : Thread nD τ).loc main_arg1)) (m ((c : Thread nD τ).loc main_arg2)), fun c => val_main_v53 (F := Ideal) (m ((c : Thread nD τ).loc main_arg0)) (m ((c : Thread nD τ).loc main_arg1)) (m ((c : Thread nD τ).loc main_arg2)),
    (θ_run defs _ _).mono (fun _ h c => ⟨(h c).1.trans (final3 m c (real_args m hp c)), (h c).2.1.trans (final4 m c (real_args m hp c)),
      (h c).2.2.1.trans (final5 m c (real_args m hp c)), (h c).2.2.2.1.trans (final6 m c), (h c).2.2.2.2⟩) (run_blocks m g),
    (θ_run Cert.LossHeadRefIdeal.defs _ _).mono (fun _ h c => ⟨(h c).1.trans (by rw [(hagree c).1, (hagree c).2.1, (hagree c).2.2]; rfl),
        (h c).2.1.trans ((val_main_v50_eq m' c).trans (by rw [(hagree c).1, (hagree c).2.1, (hagree c).2.2])),
        (h c).2.2.1.trans ((val_main_v52_eq m' c).trans (by rw [(hagree c).1, (hagree c).2.1, (hagree c).2.2])),
        (h c).2.2.2.1.trans (by rw [(hagree c).1, (hagree c).2.1, (hagree c).2.2]; rfl), (h c).2.2.2.2⟩)
      (Cert.LossHeadRefIdeal.Value.run m' g')⟩

end Cert.Proof.LossHead

end
-- ==== Proof.SumSmall.lean ====
/- The sum over the eight devices of the gradients that are not cut over them, packed in rows. -/
module

public import proofs.«01_k».proof.Proof.Gen.SumSmallIdeal.Value
public import proofs.«01_k».proof.Proof.Gen.SumSmallRefIdeal.Read
public import proofs.«01_k».proof.Defs
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.SumSmall

open Cert.SumSmallIdeal Cert.SumSmallIdeal.Gen Cert.SumSmallIdeal.Value Idealize.ShloMosaic Idealize.ShloMosaic.TcCoe Idealize.SL.Sem
open Cert.SumSmallRefIdeal.Read

/-- The sum, of values whose type is the extended reals' only by unfolding. -/
abbrev addE (a b : EReal) : EReal := a + b

variable (m : (ℓ : Loc nD τ sig) → Buf (Elt Ideal) ℓ)

/-- The blocks that a point reads. -/
theorem idx0 : ∀ t : Fin cfg0.N, win0_0.index t = ![0, win0_8.index t 0, 0] := (by decide +kernel : ∀ t : Fin grid0.N, _)
theorem idx1 : ∀ t : Fin cfg0.N, win0_1.index t = ![1, win0_8.index t 0, 0] := (by decide +kernel : ∀ t : Fin grid0.N, _)
theorem idx2 : ∀ t : Fin cfg0.N, win0_2.index t = ![2, win0_8.index t 0, 0] := (by decide +kernel : ∀ t : Fin grid0.N, _)
theorem idx3 : ∀ t : Fin cfg0.N, win0_3.index t = ![3, win0_8.index t 0, 0] := (by decide +kernel : ∀ t : Fin grid0.N, _)
theorem idx4 : ∀ t : Fin cfg0.N, win0_4.index t = ![4, win0_8.index t 0, 0] := (by decide +kernel : ∀ t : Fin grid0.N, _)
theorem idx5 : ∀ t : Fin cfg0.N, win0_5.index t = ![5, win0_8.index t 0, 0] := (by decide +kernel : ∀ t : Fin grid0.N, _)
theorem idx6 : ∀ t : Fin cfg0.N, win0_6.index t = ![6, win0_8.index t 0, 0] := (by decide +kernel : ∀ t : Fin grid0.N, _)
theorem idx7 : ∀ t : Fin cfg0.N, win0_7.index t = ![7, win0_8.index t 0, 0] := (by decide +kernel : ∀ t : Fin grid0.N, _)
theorem col : ∀ t : Fin cfg0.N, win0_8.index t 1 = 0 := (by decide +kernel : ∀ t : Fin grid0.N, _)

/-- The sum, in the order in which the kernel adds. -/
theorem final (c : Dev nD) : (dats m 0 c).arrAt 8 cfg0.N
    = val_main_v0 (F := Ideal) (m ((c : Thread nD τ).loc main_arg0)) := by
  refine (dats m 0 c).arrAt_eq_of_covers 8 _ (by decide +kernel) fun t hf y => ?_
  blk_simp
  rw [after0_8]
  frame_out
  unfold_payloads
  pointwise [val_main_cst, val_main_v0]
  blk_simp [iblk]
  rw [V_main_arg0]
  refine Eq.trans ?_ (Fin.sum_univ_eight (M := EReal) _).symm
  refine congrArg₂ addE (congrArg₂ addE (congrArg₂ addE (congrArg₂ addE (congrArg₂ addE (congrArg₂ addE (congrArg₂ addE ?_ ?_) ?_) ?_) ?_) ?_) ?_) ?_
  · congr 1; blk_ext [idx0 t, col t]
  · congr 1; blk_ext [idx1 t, col t]
  · congr 1; blk_ext [idx2 t, col t]
  · congr 1; blk_ext [idx3 t, col t]
  · congr 1; blk_ext [idx4 t, col t]
  · congr 1; blk_ext [idx5 t, col t]
  · congr 1; blk_ext [idx6 t, col t]
  · congr 1; blk_ext [idx7 t, col t]

/-- From launches that agree on the arguments, kernel and reference end with the same results. -/
theorem algebraic : Cert.algebraic_SumSmallIdeal_SumSmallRefIdeal := fun m g m' g' _ hagree =>
  ⟨fun c => val_main_v0 (F := Ideal) (m ((c : Thread nD τ).loc main_arg0)),
    (θ_run defs _ _).mono (fun _ h c => ⟨(h c).1.trans (final m c), (h c).2⟩) (run_blocks m g),
    (θ_run Cert.SumSmallRefIdeal.defs _ _).mono (fun _ h c => ⟨(h c).1.trans (by rw [hagree c]; rfl), (h c).2⟩)
      (Cert.SumSmallRefIdeal.Value.run m' g')⟩

end Cert.Proof.SumSmall

end
-- ==== Proof.SumConvSsm.lean ====
/- The sum over the four chips of one device's part of a gradient: of the state-space path's convolution. -/
module

public import proofs.«01_k».proof.Proof.Gen.SumConvSsmIdeal.Value
public import proofs.«01_k».proof.Proof.Gen.SumConvSsmRefIdeal.Read
public import proofs.«01_k».proof.Defs
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.SumConvSsm

open Cert.SumConvSsmIdeal Cert.SumConvSsmIdeal.Gen Cert.SumConvSsmIdeal.Value Idealize.ShloMosaic Idealize.ShloMosaic.TcCoe Idealize.SL.Sem
open Cert.SumConvSsmRefIdeal.Read

/-- The sum, of values whose type is the extended reals' only by unfolding. -/
abbrev addE (a b : EReal) : EReal := a + b

/-- One term and the three others'. -/
theorem sum_three (a : EReal) (f : Fin 3 → EReal) : a + ∑ k, f k = a + f 0 + f 1 + f 2 := by
  rw [Fin.sum_univ_three, ← add_assoc, ← add_assoc]

variable (m : (ℓ : Loc nD τ sig) → Buf (Elt Ideal) ℓ)

/-- The blocks that a point reads. -/
theorem idx0 : ∀ t : Fin cfg0.N, win0_0.index t = ![0, win0_4.index t 0, 0] := (by decide +kernel : ∀ t : Fin grid0.N, _)
theorem idx1 : ∀ t : Fin cfg0.N, win0_1.index t = ![0, win0_4.index t 0, 0] := (by decide +kernel : ∀ t : Fin grid0.N, _)
theorem idx2 : ∀ t : Fin cfg0.N, win0_2.index t = ![1, win0_4.index t 0, 0] := (by decide +kernel : ∀ t : Fin grid0.N, _)
theorem idx3 : ∀ t : Fin cfg0.N, win0_3.index t = ![2, win0_4.index t 0, 0] := (by decide +kernel : ∀ t : Fin grid0.N, _)
theorem col : ∀ t : Fin cfg0.N, win0_4.index t 1 = 0 := (by decide +kernel : ∀ t : Fin grid0.N, _)

/-- The sum, in the order in which the kernel adds. -/
theorem final (c : Dev nD) : (dats m 0 c).arrAt 4 cfg0.N
    = val_main_v4 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  frame_out
  unfold_payloads
  pointwise [val_main_v0, val_main_v1, val_main_v2, val_main_cst, val_main_v3, val_main_v4]
  blk_simp [iblk]
  rw [V_main_arg0, V_main_arg1]
  refine Eq.trans ?_ (sum_three _ _).symm
  refine congrArg₂ addE (congrArg₂ addE (congrArg₂ addE ?_ ?_) ?_) ?_
  · congr 1; blk_ext [idx0 t, col t]
  · congr 1; blk_ext [idx1 t, col t]
  · congr 1; blk_ext [idx2 t, col t]
  · congr 1; blk_ext [idx3 t, col t]

/-- From launches that agree on the arguments, kernel and reference end with the same results. -/
theorem algebraic : Cert.algebraic_SumConvSsmIdeal_SumConvSsmRefIdeal := fun m g m' g' _ hagree =>
  ⟨fun c => val_main_v4 (F := Ideal) (m ((c : Thread nD τ).loc main_arg0)) (m ((c : Thread nD τ).loc main_arg1)),
    (θ_run defs _ _).mono (fun _ h c => ⟨(h c).1.trans (final m c), (h c).2⟩) (run_blocks m g),
    (θ_run Cert.SumConvSsmRefIdeal.defs _ _).mono (fun _ h c => ⟨(h c).1.trans (by rw [(hagree c).1, (hagree c).2]; rfl), (h c).2⟩)
      (Cert.SumConvSsmRefIdeal.Value.run m' g')⟩

end Cert.Proof.SumConvSsm

end
-- ==== Proof.SumConvGdn.lean ====
/- The sum over the four chips of one device's part of a gradient: of the delta rule's convolution. -/
module

public import proofs.«01_k».proof.Proof.Gen.SumConvGdnIdeal.Value
public import proofs.«01_k».proof.Proof.Gen.SumConvGdnRefIdeal.Read
public import proofs.«01_k».proof.Defs
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.SumConvGdn

open Cert.SumConvGdnIdeal Cert.SumConvGdnIdeal.Gen Cert.SumConvGdnIdeal.Value Idealize.ShloMosaic Idealize.ShloMosaic.TcCoe Idealize.SL.Sem
open Cert.SumConvGdnRefIdeal.Read

/-- The sum, of values whose type is the extended reals' only by unfolding. -/
abbrev addE (a b : EReal) : EReal := a + b

/-- One term and the three others'. -/
theorem sum_three (a : EReal) (f : Fin 3 → EReal) : a + ∑ k, f k = a + f 0 + f 1 + f 2 := by
  rw [Fin.sum_univ_three, ← add_assoc, ← add_assoc]

variable (m : (ℓ : Loc nD τ sig) → Buf (Elt Ideal) ℓ)

/-- The blocks that a point reads. -/
theorem idx0 : ∀ t : Fin cfg0.N, win0_0.index t = ![0, win0_4.index t 0, 0] := (by decide +kernel : ∀ t : Fin grid0.N, _)
theorem idx1 : ∀ t : Fin cfg0.N, win0_1.index t = ![0, win0_4.index t 0, 0] := (by decide +kernel : ∀ t : Fin grid0.N, _)
theorem idx2 : ∀ t : Fin cfg0.N, win0_2.index t = ![1, win0_4.index t 0, 0] := (by decide +kernel : ∀ t : Fin grid0.N, _)
theorem idx3 : ∀ t : Fin cfg0.N, win0_3.index t = ![2, win0_4.index t 0, 0] := (by decide +kernel : ∀ t : Fin grid0.N, _)
theorem col : ∀ t : Fin cfg0.N, win0_4.index t 1 = 0 := (by decide +kernel : ∀ t : Fin grid0.N, _)

/-- The sum, in the order in which the kernel adds. -/
theorem final (c : Dev nD) : (dats m 0 c).arrAt 4 cfg0.N
    = val_main_v4 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  frame_out
  unfold_payloads
  pointwise [val_main_v0, val_main_v1, val_main_v2, val_main_cst, val_main_v3, val_main_v4]
  blk_simp [iblk]
  rw [V_main_arg0, V_main_arg1]
  refine Eq.trans ?_ (sum_three _ _).symm
  refine congrArg₂ addE (congrArg₂ addE (congrArg₂ addE ?_ ?_) ?_) ?_
  · congr 1; blk_ext [idx0 t, col t]
  · congr 1; blk_ext [idx1 t, col t]
  · congr 1; blk_ext [idx2 t, col t]
  · congr 1; blk_ext [idx3 t, col t]

/-- From launches that agree on the arguments, kernel and reference end with the same results. -/
theorem algebraic : Cert.algebraic_SumConvGdnIdeal_SumConvGdnRefIdeal := fun m g m' g' _ hagree =>
  ⟨fun c => val_main_v4 (F := Ideal) (m ((c : Thread nD τ).loc main_arg0)) (m ((c : Thread nD τ).loc main_arg1)),
    (θ_run defs _ _).mono (fun _ h c => ⟨(h c).1.trans (final m c), (h c).2⟩) (run_blocks m g),
    (θ_run Cert.SumConvGdnRefIdeal.defs _ _).mono (fun _ h c => ⟨(h c).1.trans (by rw [(hagree c).1, (hagree c).2]; rfl), (h c).2⟩)
      (Cert.SumConvGdnRefIdeal.Value.run m' g')⟩

end Cert.Proof.SumConvGdn

end
-- ==== Proof.SumSquare.lean ====
/- The sum over the four chips of one device's part of a gradient: of a square projection. -/
module

public import proofs.«01_k».proof.Proof.Gen.SumSquareIdeal.Value
public import proofs.«01_k».proof.Proof.Gen.SumSquareRefIdeal.Read
public import proofs.«01_k».proof.Defs
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.SumSquare

open Cert.SumSquareIdeal Cert.SumSquareIdeal.Gen Cert.SumSquareIdeal.Value Idealize.ShloMosaic Idealize.ShloMosaic.TcCoe Idealize.SL.Sem
open Cert.SumSquareRefIdeal.Read

/-- The sum, of values whose type is the extended reals' only by unfolding. -/
abbrev addE (a b : EReal) : EReal := a + b

/-- One term and the three others'. -/
theorem sum_three (a : EReal) (f : Fin 3 → EReal) : a + ∑ k, f k = a + f 0 + f 1 + f 2 := by
  rw [Fin.sum_univ_three, ← add_assoc, ← add_assoc]

variable (m : (ℓ : Loc nD τ sig) → Buf (Elt Ideal) ℓ)

/-- The blocks that a point reads. -/
theorem idx0 : ∀ t : Fin cfg0.N, win0_0.index t = ![0, win0_4.index t 0, 0] := (by decide +kernel : ∀ t : Fin grid0.N, _)
theorem idx1 : ∀ t : Fin cfg0.N, win0_1.index t = ![0, win0_4.index t 0, 0] := (by decide +kernel : ∀ t : Fin grid0.N, _)
theorem idx2 : ∀ t : Fin cfg0.N, win0_2.index t = ![1, win0_4.index t 0, 0] := (by decide +kernel : ∀ t : Fin grid0.N, _)
theorem idx3 : ∀ t : Fin cfg0.N, win0_3.index t = ![2, win0_4.index t 0, 0] := (by decide +kernel : ∀ t : Fin grid0.N, _)
theorem col : ∀ t : Fin cfg0.N, win0_4.index t 1 = 0 := (by decide +kernel : ∀ t : Fin grid0.N, _)

/-- The sum, in the order in which the kernel adds. -/
theorem final (c : Dev nD) : (dats m 0 c).arrAt 4 cfg0.N
    = val_main_v4 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  frame_out
  unfold_payloads
  pointwise [val_main_v0, val_main_v1, val_main_v2, val_main_cst, val_main_v3, val_main_v4]
  blk_simp [iblk]
  rw [V_main_arg0, V_main_arg1]
  refine Eq.trans ?_ (sum_three _ _).symm
  refine congrArg₂ addE (congrArg₂ addE (congrArg₂ addE ?_ ?_) ?_) ?_
  · congr 1; blk_ext [idx0 t, col t]
  · congr 1; blk_ext [idx1 t, col t]
  · congr 1; blk_ext [idx2 t, col t]
  · congr 1; blk_ext [idx3 t, col t]

/-- From launches that agree on the arguments, kernel and reference end with the same results. -/
theorem algebraic : Cert.algebraic_SumSquareIdeal_SumSquareRefIdeal := fun m g m' g' _ hagree =>
  ⟨fun c => val_main_v4 (F := Ideal) (m ((c : Thread nD τ).loc main_arg0)) (m ((c : Thread nD τ).loc main_arg1)),
    (θ_run defs _ _).mono (fun _ h c => ⟨(h c).1.trans (final m c), (h c).2⟩) (run_blocks m g),
    (θ_run Cert.SumSquareRefIdeal.defs _ _).mono (fun _ h c => ⟨(h c).1.trans (by rw [(hagree c).1, (hagree c).2]; rfl), (h c).2⟩)
      (Cert.SumSquareRefIdeal.Value.run m' g')⟩

end Cert.Proof.SumSquare

end
-- ==== Proof.SumFfnDown.lean ====
/- The sum over the four chips of one device's part of a gradient: of the feed-forward block's second product. -/
module

public import proofs.«01_k».proof.Proof.Gen.SumFfnDownIdeal.Value
public import proofs.«01_k».proof.Proof.Gen.SumFfnDownRefIdeal.Read
public import proofs.«01_k».proof.Defs
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.SumFfnDown

open Cert.SumFfnDownIdeal Cert.SumFfnDownIdeal.Gen Cert.SumFfnDownIdeal.Value Idealize.ShloMosaic Idealize.ShloMosaic.TcCoe Idealize.SL.Sem
open Cert.SumFfnDownRefIdeal.Read

/-- The sum, of values whose type is the extended reals' only by unfolding. -/
abbrev addE (a b : EReal) : EReal := a + b

/-- One term and the three others'. -/
theorem sum_three (a : EReal) (f : Fin 3 → EReal) : a + ∑ k, f k = a + f 0 + f 1 + f 2 := by
  rw [Fin.sum_univ_three, ← add_assoc, ← add_assoc]

variable (m : (ℓ : Loc nD τ sig) → Buf (Elt Ideal) ℓ)

/-- The blocks that a point reads. -/
theorem idx0 : ∀ t : Fin cfg0.N, win0_0.index t = ![0, win0_4.index t 0, 0] := (by decide +kernel : ∀ t : Fin grid0.N, _)
theorem idx1 : ∀ t : Fin cfg0.N, win0_1.index t = ![0, win0_4.index t 0, 0] := (by decide +kernel : ∀ t : Fin grid0.N, _)
theorem idx2 : ∀ t : Fin cfg0.N, win0_2.index t = ![1, win0_4.index t 0, 0] := (by decide +kernel : ∀ t : Fin grid0.N, _)
theorem idx3 : ∀ t : Fin cfg0.N, win0_3.index t = ![2, win0_4.index t 0, 0] := (by decide +kernel : ∀ t : Fin grid0.N, _)
theorem col : ∀ t : Fin cfg0.N, win0_4.index t 1 = 0 := (by decide +kernel : ∀ t : Fin grid0.N, _)

/-- The sum, in the order in which the kernel adds. -/
theorem final (c : Dev nD) : (dats m 0 c).arrAt 4 cfg0.N
    = val_main_v4 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  frame_out
  unfold_payloads
  pointwise [val_main_v0, val_main_v1, val_main_v2, val_main_cst, val_main_v3, val_main_v4]
  blk_simp [iblk]
  rw [V_main_arg0, V_main_arg1]
  refine Eq.trans ?_ (sum_three _ _).symm
  refine congrArg₂ addE (congrArg₂ addE (congrArg₂ addE ?_ ?_) ?_) ?_
  · congr 1; blk_ext [idx0 t, col t]
  · congr 1; blk_ext [idx1 t, col t]
  · congr 1; blk_ext [idx2 t, col t]
  · congr 1; blk_ext [idx3 t, col t]

/-- From launches that agree on the arguments, kernel and reference end with the same results. -/
theorem algebraic : Cert.algebraic_SumFfnDownIdeal_SumFfnDownRefIdeal := fun m g m' g' _ hagree =>
  ⟨fun c => val_main_v4 (F := Ideal) (m ((c : Thread nD τ).loc main_arg0)) (m ((c : Thread nD τ).loc main_arg1)),
    (θ_run defs _ _).mono (fun _ h c => ⟨(h c).1.trans (final m c), (h c).2⟩) (run_blocks m g),
    (θ_run Cert.SumFfnDownRefIdeal.defs _ _).mono (fun _ h c => ⟨(h c).1.trans (by rw [(hagree c).1, (hagree c).2]; rfl), (h c).2⟩)
      (Cert.SumFfnDownRefIdeal.Value.run m' g')⟩

end Cert.Proof.SumFfnDown

end
-- ==== Proof.SumFfnIn.lean ====
/- The sum over the four chips of one device's part of a gradient: of the feed-forward block's first product. -/
module

public import proofs.«01_k».proof.Proof.Gen.SumFfnInIdeal.Value
public import proofs.«01_k».proof.Proof.Gen.SumFfnInRefIdeal.Read
public import proofs.«01_k».proof.Defs
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.SumFfnIn

open Cert.SumFfnInIdeal Cert.SumFfnInIdeal.Gen Cert.SumFfnInIdeal.Value Idealize.ShloMosaic Idealize.ShloMosaic.TcCoe Idealize.SL.Sem
open Cert.SumFfnInRefIdeal.Read

/-- The sum, of values whose type is the extended reals' only by unfolding. -/
abbrev addE (a b : EReal) : EReal := a + b

/-- One term and the three others'. -/
theorem sum_three (a : EReal) (f : Fin 3 → EReal) : a + ∑ k, f k = a + f 0 + f 1 + f 2 := by
  rw [Fin.sum_univ_three, ← add_assoc, ← add_assoc]

variable (m : (ℓ : Loc nD τ sig) → Buf (Elt Ideal) ℓ)

/-- The blocks that a point reads. -/
theorem idx0 : ∀ t : Fin cfg0.N, win0_0.index t = ![0, win0_4.index t 0, 0] := (by decide +kernel : ∀ t : Fin grid0.N, _)
theorem idx1 : ∀ t : Fin cfg0.N, win0_1.index t = ![0, win0_4.index t 0, 0] := (by decide +kernel : ∀ t : Fin grid0.N, _)
theorem idx2 : ∀ t : Fin cfg0.N, win0_2.index t = ![1, win0_4.index t 0, 0] := (by decide +kernel : ∀ t : Fin grid0.N, _)
theorem idx3 : ∀ t : Fin cfg0.N, win0_3.index t = ![2, win0_4.index t 0, 0] := (by decide +kernel : ∀ t : Fin grid0.N, _)
theorem col : ∀ t : Fin cfg0.N, win0_4.index t 1 = 0 := (by decide +kernel : ∀ t : Fin grid0.N, _)

/-- The sum, in the order in which the kernel adds. -/
theorem final (c : Dev nD) : (dats m 0 c).arrAt 4 cfg0.N
    = val_main_v4 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  frame_out
  unfold_payloads
  pointwise [val_main_v0, val_main_v1, val_main_v2, val_main_cst, val_main_v3, val_main_v4]
  blk_simp [iblk]
  rw [V_main_arg0, V_main_arg1]
  refine Eq.trans ?_ (sum_three _ _).symm
  refine congrArg₂ addE (congrArg₂ addE (congrArg₂ addE ?_ ?_) ?_) ?_
  · congr 1; blk_ext [idx0 t, col t]
  · congr 1; blk_ext [idx1 t, col t]
  · congr 1; blk_ext [idx2 t, col t]
  · congr 1; blk_ext [idx3 t, col t]

/-- From launches that agree on the arguments, kernel and reference end with the same results. -/
theorem algebraic : Cert.algebraic_SumFfnInIdeal_SumFfnInRefIdeal := fun m g m' g' _ hagree =>
  ⟨fun c => val_main_v4 (F := Ideal) (m ((c : Thread nD τ).loc main_arg0)) (m ((c : Thread nD τ).loc main_arg1)),
    (θ_run defs _ _).mono (fun _ h c => ⟨(h c).1.trans (final m c), (h c).2⟩) (run_blocks m g),
    (θ_run Cert.SumFfnInRefIdeal.defs _ _).mono (fun _ h c => ⟨(h c).1.trans (by rw [(hagree c).1, (hagree c).2]; rfl), (h c).2⟩)
      (Cert.SumFfnInRefIdeal.Value.run m' g')⟩

end Cert.Proof.SumFfnIn

end
-- ==== Proof.SumIn.lean ====
/- The sum over the four chips of one device's part of a gradient: of the input projection. -/
module

public import proofs.«01_k».proof.Proof.Gen.SumInIdeal.Value
public import proofs.«01_k».proof.Proof.Gen.SumInRefIdeal.Read
public import proofs.«01_k».proof.Defs
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.SumIn

open Cert.SumInIdeal Cert.SumInIdeal.Gen Cert.SumInIdeal.Value Idealize.ShloMosaic Idealize.ShloMosaic.TcCoe Idealize.SL.Sem
open Cert.SumInRefIdeal.Read

/-- The sum, of values whose type is the extended reals' only by unfolding. -/
abbrev addE (a b : EReal) : EReal := a + b

/-- One term and the three others'. -/
theorem sum_three (a : EReal) (f : Fin 3 → EReal) : a + ∑ k, f k = a + f 0 + f 1 + f 2 := by
  rw [Fin.sum_univ_three, ← add_assoc, ← add_assoc]

variable (m : (ℓ : Loc nD τ sig) → Buf (Elt Ideal) ℓ)

/-- The blocks that a point reads. -/
theorem idx0 : ∀ t : Fin cfg0.N, win0_0.index t = ![0, win0_4.index t 0, 0] := (by decide +kernel : ∀ t : Fin grid0.N, _)
theorem idx1 : ∀ t : Fin cfg0.N, win0_1.index t = ![0, win0_4.index t 0, 0] := (by decide +kernel : ∀ t : Fin grid0.N, _)
theorem idx2 : ∀ t : Fin cfg0.N, win0_2.index t = ![1, win0_4.index t 0, 0] := (by decide +kernel : ∀ t : Fin grid0.N, _)
theorem idx3 : ∀ t : Fin cfg0.N, win0_3.index t = ![2, win0_4.index t 0, 0] := (by decide +kernel : ∀ t : Fin grid0.N, _)
theorem col : ∀ t : Fin cfg0.N, win0_4.index t 1 = 0 := (by decide +kernel : ∀ t : Fin grid0.N, _)

/-- The sum, in the order in which the kernel adds. -/
theorem final (c : Dev nD) : (dats m 0 c).arrAt 4 cfg0.N
    = val_main_v4 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  frame_out
  unfold_payloads
  pointwise [val_main_v0, val_main_v1, val_main_v2, val_main_cst, val_main_v3, val_main_v4]
  blk_simp [iblk]
  rw [V_main_arg0, V_main_arg1]
  refine Eq.trans ?_ (sum_three _ _).symm
  refine congrArg₂ addE (congrArg₂ addE (congrArg₂ addE ?_ ?_) ?_) ?_
  · congr 1; blk_ext [idx0 t, col t]
  · congr 1; blk_ext [idx1 t, col t]
  · congr 1; blk_ext [idx2 t, col t]
  · congr 1; blk_ext [idx3 t, col t]

/-- From launches that agree on the arguments, kernel and reference end with the same results. -/
theorem algebraic : Cert.algebraic_SumInIdeal_SumInRefIdeal := fun m g m' g' _ hagree =>
  ⟨fun c => val_main_v4 (F := Ideal) (m ((c : Thread nD τ).loc main_arg0)) (m ((c : Thread nD τ).loc main_arg1)),
    (θ_run defs _ _).mono (fun _ h c => ⟨(h c).1.trans (final m c), (h c).2⟩) (run_blocks m g),
    (θ_run Cert.SumInRefIdeal.defs _ _).mono (fun _ h c => ⟨(h c).1.trans (by rw [(hagree c).1, (hagree c).2]; rfl), (h c).2⟩)
      (Cert.SumInRefIdeal.Value.run m' g')⟩

end Cert.Proof.SumIn

end
-- ==== Proof.Adam.lean ====
/- The optimizer's step of one entry, and the choice between the two layers' gradients. -/
module

public import Idealize.ShloMosaic.Lib.Pipeline.ValueKit
public import Idealize.ShloMosaic.Lib.Pointwise

@[expose] public section

noncomputable section

namespace Cert.Proof.Adam

open Idealize.ShloMosaic

/-- The first moment after the step. -/
def adamM (g x : EReal) : EReal := Ideal.ofBits FTy.f32 1063675494#32 * x + Ideal.ofBits FTy.f32 1036831949#32 * g

/-- The second moment after the step. -/
def adamV (g x : EReal) : EReal := Ideal.ofBits FTy.f32 1065336439#32 * x + Ideal.ofBits FTy.f32 981668463#32 * (g * g)

/-- The change of the weight. -/
def adamD (w g x v : EReal) : EReal :=
  Ideal.ofBits FTy.f32 3129152111#32 *
    (Ideal.div (Ideal.div (Ideal.ofBits FTy.f32 1063675494#32 * x + Ideal.ofBits FTy.f32 1036831949#32 * g) (Ideal.ofBits FTy.f32 1059503362#32))
      (Ideal.sqrt (Ideal.div (Ideal.ofBits FTy.f32 1065336439#32 * v + Ideal.ofBits FTy.f32 981668463#32 * (g * g)) (Ideal.ofBits FTy.f32 1008933580#32))
        + Ideal.ofBits FTy.f32 841731191#32)
      + Ideal.ofBits FTy.f32 1008981770#32 * w)

theorem adamM_congr {g g' x x' : EReal} (hg : g = g') (hx : x = x') : adamM g x = adamM g' x' := by rw [hg, hx]

theorem adamV_congr {g g' x x' : EReal} (hg : g = g') (hx : x = x') : adamV g x = adamV g' x' := by rw [hg, hx]

theorem adamD_congr {w w' g g' x x' v v' : EReal} (hw : w = w') (hg : g = g') (hx : x = x') (hv : v = v') :
    adamD w g x v = adamD w' g' x' v' := by rw [hw, hg, hx, hv]

theorem select_zero {α : Type} (a b : α) : Scalar.select 0#1 a b = b := rfl

theorem select_one {α : Type} (a b : α) : Scalar.select 1#1 a b = a := rfl

theorem dite_eq_dite {α : Type} {p q : Prop} [Decidable p] [Decidable q] {a a' b b' : α} (h : p ↔ q) (ha : a = a') (hb : b = b') :
    (if _ : p then a else b) = if _ : q then a' else b' := by
  by_cases hq : q
  · rw [dif_pos hq, dif_pos (h.2 hq), ha]
  · rw [dif_neg hq, dif_neg (fun hp => hq (h.1 hp)), hb]

end Cert.Proof.Adam

end
-- ==== Proof.AdamNorm.lean ====
/- The optimizer's step of the layer norms and the state-space norm. -/
module

public import proofs.«01_k».proof.Proof.Gen.AdamNormIdeal.Value
public import proofs.«01_k».proof.Proof.Gen.AdamNormRefIdeal.Read
public import proofs.«01_k».proof.Defs
public import proofs.«01_k».proof.Proof.Adam
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.AdamNorm

open Cert.AdamNormIdeal Cert.AdamNormIdeal.Gen Cert.AdamNormIdeal.Value Idealize.ShloMosaic Idealize.ShloMosaic.TcCoe Idealize.SL.Sem
open Cert.AdamNormRefIdeal.Read Cert.Proof.Adam

variable (m : (ℓ : Loc nD τ sig) → Buf (Elt Ideal) ℓ)

/-- The arrays as the call is given them. -/
theorem row0 (c : Dev nD) (j : S1x2x1024.Idx) : V m c main_v0 j = m ((c : Thread nD τ).loc main_arg0) (ix2 (j 1) (j 2)) := by
  entry_read
  pointwise

theorem row1 (c : Dev nD) (j : S1x2x1024.Idx) : V m c main_v1 j = m ((c : Thread nD τ).loc main_arg2) (ix2 (j 1) (j 2)) := by
  entry_read
  pointwise

theorem row2 (c : Dev nD) (j : S1x2x1024.Idx) : V m c main_v2 j = m ((c : Thread nD τ).loc main_arg3) (ix2 (j 1) (j 2)) := by
  entry_read
  pointwise

/-- The blocks that a point reads and writes. -/
theorem idx0_4 : ∀ t : Fin cfg0.N, win0_0.index t = win0_4.index t := (by decide +kernel : ∀ t : Fin grid0.N, _)
theorem idx1_4 : ∀ t : Fin cfg0.N, win0_1.index t = win0_4.index t := (by decide +kernel : ∀ t : Fin grid0.N, _)
theorem idx2_4 : ∀ t : Fin cfg0.N, win0_2.index t = win0_4.index t := (by decide +kernel : ∀ t : Fin grid0.N, _)
theorem idx3_4 : ∀ t : Fin cfg0.N, win0_3.index t = ![win0_4.index t 1, 0] := (by decide +kernel : ∀ t : Fin grid0.N, _)
theorem col_4 : ∀ t : Fin cfg0.N, win0_4.index t 2 = 0 := (by decide +kernel : ∀ t : Fin grid0.N, _)

/-- The blocks that a point reads and writes. -/
theorem idx0_5 : ∀ t : Fin cfg0.N, win0_0.index t = win0_5.index t := (by decide +kernel : ∀ t : Fin grid0.N, _)
theorem idx1_5 : ∀ t : Fin cfg0.N, win0_1.index t = win0_5.index t := (by decide +kernel : ∀ t : Fin grid0.N, _)
theorem idx2_5 : ∀ t : Fin cfg0.N, win0_2.index t = win0_5.index t := (by decide +kernel : ∀ t : Fin grid0.N, _)
theorem idx3_5 : ∀ t : Fin cfg0.N, win0_3.index t = ![win0_5.index t 1, 0] := (by decide +kernel : ∀ t : Fin grid0.N, _)
theorem col_5 : ∀ t : Fin cfg0.N, win0_5.index t 2 = 0 := (by decide +kernel : ∀ t : Fin grid0.N, _)

/-- The blocks that a point reads and writes. -/
theorem idx0_6 : ∀ t : Fin cfg0.N, win0_0.index t = win0_6.index t := (by decide +kernel : ∀ t : Fin grid0.N, _)
theorem idx1_6 : ∀ t : Fin cfg0.N, win0_1.index t = win0_6.index t := (by decide +kernel : ∀ t : Fin grid0.N, _)
theorem idx2_6 : ∀ t : Fin cfg0.N, win0_2.index t = win0_6.index t := (by decide +kernel : ∀ t : Fin grid0.N, _)
theorem idx3_6 : ∀ t : Fin cfg0.N, win0_3.index t = ![win0_6.index t 1, 0] := (by decide +kernel : ∀ t : Fin grid0.N, _)
theorem col_6 : ∀ t : Fin cfg0.N, win0_6.index t 2 = 0 := (by decide +kernel : ∀ t : Fin grid0.N, _)

/-- The blocks that a point reads and writes. -/
theorem idx0_7 : ∀ t : Fin cfg0.N, win0_0.index t = win0_7.index t := (by decide +kernel : ∀ t : Fin grid0.N, _)
theorem idx1_7 : ∀ t : Fin cfg0.N, win0_1.index t = win0_7.index t := (by decide +kernel : ∀ t : Fin grid0.N, _)
theorem idx2_7 : ∀ t : Fin cfg0.N, win0_2.index t = win0_7.index t := (by decide +kernel : ∀ t : Fin grid0.N, _)
theorem idx3_7 : ∀ t : Fin cfg0.N, win0_3.index t = ![win0_7.index t 1, 0] := (by decide +kernel : ∀ t : Fin grid0.N, _)
theorem col_7 : ∀ t : Fin cfg0.N, win0_7.index t 2 = 0 := (by decide +kernel : ∀ t : Fin grid0.N, _)

/-- The gradient, as the step used it. -/
theorem final4 (c : Dev nD) : (dats m 0 c).arrAt 4 cfg0.N
    = val_main_v24 (F := Ideal) (m ((c : Thread nD τ).loc main_arg1)) := by
  refine (dats m 0 c).arrAt_eq_of_covers 4 _ (by decide +kernel) fun t hf y => ?_
  blk_simp
  rw [after0_4]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, val_main_v27]
  blk_simp [iblk]
  · rw [V_main_arg1]
    congr 1; blk_ext [idx3_4 t, col_4 t]

/-- The change of the weights. -/
theorem final5 (c : Dev nD) : (dats m 0 c).arrAt 5 cfg0.N
    = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, val_main_v27]
  blk_simp [iblk]
  refine adamD_congr ?_ ?_ ?_ ?_
  · rw [row0]
    congr 1; blk_ext [idx0_5 t, col_5 t]
  · rw [V_main_arg1]
    congr 1; blk_ext [idx3_5 t, col_5 t]
  · rw [row1]
    congr 1; blk_ext [idx1_5 t, col_5 t]
  · rw [row2]
    congr 1; blk_ext [idx2_5 t, col_5 t]

/-- The first moment. -/
theorem final6 (c : Dev nD) : (dats m 0 c).arrAt 6 cfg0.N
    = val_main_v26 (F := Ideal) (m ((c : Thread nD τ).loc main_arg1)) (m ((c : Thread nD τ).loc main_arg2)) := by
  refine (dats m 0 c).arrAt_eq_of_covers 6 _ (by decide +kernel) fun t hf y => ?_
  blk_simp
  rw [after0_6]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, val_main_v27]
  blk_simp [iblk]
  refine adamM_congr ?_ ?_
  · rw [V_main_arg1]
    congr 1; blk_ext [idx3_6 t, col_6 t]
  · rw [row1]
    congr 1; blk_ext [idx1_6 t, col_6 t]

/-- The second moment. -/
theorem final7 (c : Dev nD) : (dats m 0 c).arrAt 7 cfg0.N
    = val_main_v27 (F := Ideal) (m ((c : Thread nD τ).loc main_arg1)) (m ((c : Thread nD τ).loc main_arg3)) := by
  refine (dats m 0 c).arrAt_eq_of_covers 7 _ (by decide +kernel) fun t hf y => ?_
  blk_simp
  rw [after0_7]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, val_main_v27]
  blk_simp [iblk]
  refine adamV_congr ?_ ?_
  · rw [V_main_arg1]
    congr 1; blk_ext [idx3_7 t, col_7 t]
  · rw [row2]
    congr 1; blk_ext [idx2_7 t, col_7 t]

/-- From launches that agree on the arguments, kernel and reference end with the same results. -/
theorem algebraic : Cert.algebraic_AdamNormIdeal_AdamNormRefIdeal := fun m g m' g' _ hagree =>
  ⟨fun c => val_main_v24 (F := Ideal) (m ((c : Thread nD τ).loc main_arg1)), fun c => val_main_v25 (F := Ideal) (m ((c : Thread nD τ).loc main_arg0)) (m ((c : Thread nD τ).loc main_arg1)) (m ((c : Thread nD τ).loc main_arg2)) (m ((c : Thread nD τ).loc main_arg3)), fun c => val_main_v26 (F := Ideal) (m ((c : Thread nD τ).loc main_arg1)) (m ((c : Thread nD τ).loc main_arg2)), fun c => val_main_v27 (F := Ideal) (m ((c : Thread nD τ).loc main_arg1)) (m ((c : Thread nD τ).loc main_arg3)),
    (θ_run defs _ _).mono (fun _ h c => ⟨(h c).1.trans (final4 m c), (h c).2.1.trans (final5 m c), (h c).2.2.1.trans (final6 m c), (h c).2.2.2.1.trans (final7 m c), (h c).2.2.2.2⟩) (run_blocks m g),
    (θ_run Cert.AdamNormRefIdeal.defs _ _).mono (fun _ h c => ⟨(h c).1.trans (by rw [(hagree c).2.1]; rfl),
        (h c).2.1.trans (by rw [(hagree c).1, (hagree c).2.1, (hagree c).2.2.1, (hagree c).2.2.2]; rfl),
        (h c).2.2.1.trans (by rw [(hagree c).2.1, (hagree c).2.2.1]; rfl),
        (h c).2.2.2.1.trans (by rw [(hagree c).2.1, (hagree c).2.2.2]; rfl), (h c).2.2.2.2⟩)
      (Cert.AdamNormRefIdeal.Value.run m' g')⟩

end Cert.Proof.AdamNorm

end
-- ==== Proof.AdamConvB.lean ====
/- The optimizer's step of the convolution's bias. -/
module

public import proofs.«01_k».proof.Proof.Gen.AdamConvBIdeal.Value
public import proofs.«01_k».proof.Proof.Gen.AdamConvBRefIdeal.Read
public import proofs.«01_k».proof.Defs
public import proofs.«01_k».proof.Proof.Adam
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.AdamConvB

open Cert.AdamConvBIdeal Cert.AdamConvBIdeal.Gen Cert.AdamConvBIdeal.Value Idealize.ShloMosaic Idealize.ShloMosaic.TcCoe Idealize.SL.Sem
open Cert.AdamConvBRefIdeal.Read Cert.Proof.Adam

variable (m : (ℓ : Loc nD τ sig) → Buf (Elt Ideal) ℓ)

/-- The arrays as the call is given them. -/
theorem row0 (c : Dev nD) (j : S1x2x1536.Idx) : V m c main_v0 j = m ((c : Thread nD τ).loc main_arg0) (ix2 (j 1) (j 2)) := by
  entry_read
  pointwise

theorem row1 (c : Dev nD) (j : S1x2x1536.Idx) : V m c main_v1 j = m ((c : Thread nD τ).loc main_arg2) (ix2 (j 1) (j 2)) := by
  entry_read
  pointwise

theorem row2 (c : Dev nD) (j : S1x2x1536.Idx) : V m c main_v2 j = m ((c : Thread nD τ).loc main_arg3) (ix2 (j 1) (j 2)) := by
  entry_read
  pointwise

/-- The blocks that a point reads and writes. -/
theorem idx0_4 : ∀ t : Fin cfg0.N, win0_0.index t = win0_4.index t := (by decide +kernel : ∀ t : Fin grid0.N, _)
theorem idx1_4 : ∀ t : Fin cfg0.N, win0_1.index t = win0_4.index t := (by decide +kernel : ∀ t : Fin grid0.N, _)
theorem idx2_4 : ∀ t : Fin cfg0.N, win0_2.index t = win0_4.index t := (by decide +kernel : ∀ t : Fin grid0.N, _)
theorem idx3_4 : ∀ t : Fin cfg0.N, win0_3.index t = ![win0_4.index t 1, 0] := (by decide +kernel : ∀ t : Fin grid0.N, _)
theorem col_4 : ∀ t : Fin cfg0.N, win0_4.index t 2 = 0 := (by decide +kernel : ∀ t : Fin grid0.N, _)

/-- The blocks that a point reads and writes. -/
theorem idx0_5 : ∀ t : Fin cfg0.N, win0_0.index t = win0_5.index t := (by decide +kernel : ∀ t : Fin grid0.N, _)
theorem idx1_5 : ∀ t : Fin cfg0.N, win0_1.index t = win0_5.index t := (by decide +kernel : ∀ t : Fin grid0.N, _)
theorem idx2_5 : ∀ t : Fin cfg0.N, win0_2.index t = win0_5.index t := (by decide +kernel : ∀ t : Fin grid0.N, _)
theorem idx3_5 : ∀ t : Fin cfg0.N, win0_3.index t = ![win0_5.index t 1, 0] := (by decide +kernel : ∀ t : Fin grid0.N, _)
theorem col_5 : ∀ t : Fin cfg0.N, win0_5.index t 2 = 0 := (by decide +kernel : ∀ t : Fin grid0.N, _)

/-- The blocks that a point reads and writes. -/
theorem idx0_6 : ∀ t : Fin cfg0.N, win0_0.index t = win0_6.index t := (by decide +kernel : ∀ t : Fin grid0.N, _)
theorem idx1_6 : ∀ t : Fin cfg0.N, win0_1.index t = win0_6.index t := (by decide +kernel : ∀ t : Fin grid0.N, _)
theorem idx2_6 : ∀ t : Fin cfg0.N, win0_2.index t = win0_6.index t := (by decide +kernel : ∀ t : Fin grid0.N, _)
theorem idx3_6 : ∀ t : Fin cfg0.N, win0_3.index t = ![win0_6.index t 1, 0] := (by decide +kernel : ∀ t : Fin grid0.N, _)
theorem col_6 : ∀ t : Fin cfg0.N, win0_6.index t 2 = 0 := (by decide +kernel : ∀ t : Fin grid0.N, _)

/-- The blocks that a point reads and writes. -/
theorem idx0_7 : ∀ t : Fin cfg0.N, win0_0.index t = win0_7.index t := (by decide +kernel : ∀ t : Fin grid0.N, _)
theorem idx1_7 : ∀ t : Fin cfg0.N, win0_1.index t = win0_7.index t := (by decide +kernel : ∀ t : Fin grid0.N, _)
theorem idx2_7 : ∀ t : Fin cfg0.N, win0_2.index t = win0_7.index t := (by decide +kernel : ∀ t : Fin grid0.N, _)
theorem idx3_7 : ∀ t : Fin cfg0.N, win0_3.index t = ![win0_7.index t 1, 0] := (by decide +kernel : ∀ t : Fin grid0.N, _)
theorem col_7 : ∀ t : Fin cfg0.N, win0_7.index t 2 = 0 := (by decide +kernel : ∀ t : Fin grid0.N, _)

/-- The gradient, as the step used it. -/
theorem final4 (c : Dev nD) : (dats m 0 c).arrAt 4 cfg0.N
    = val_main_v24 (F := Ideal) (m ((c : Thread nD τ).loc main_arg1)) := by
  refine (dats m 0 c).arrAt_eq_of_covers 4 _ (by decide +kernel) fun t hf y => ?_
  blk_simp
  rw [after0_4]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, val_main_v27]
  blk_simp [iblk]
  · rw [V_main_arg1]
    congr 1; blk_ext [idx3_4 t, col_4 t]

/-- The change of the weights. -/
theorem final5 (c : Dev nD) : (dats m 0 c).arrAt 5 cfg0.N
    = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, val_main_v27]
  blk_simp [iblk]
  refine adamD_congr ?_ ?_ ?_ ?_
  · rw [row0]
    congr 1; blk_ext [idx0_5 t, col_5 t]
  · rw [V_main_arg1]
    congr 1; blk_ext [idx3_5 t, col_5 t]
  · rw [row1]
    congr 1; blk_ext [idx1_5 t, col_5 t]
  · rw [row2]
    congr 1; blk_ext [idx2_5 t, col_5 t]

/-- The first moment. -/
theorem final6 (c : Dev nD) : (dats m 0 c).arrAt 6 cfg0.N
    = val_main_v26 (F := Ideal) (m ((c : Thread nD τ).loc main_arg1)) (m ((c : Thread nD τ).loc main_arg2)) := by
  refine (dats m 0 c).arrAt_eq_of_covers 6 _ (by decide +kernel) fun t hf y => ?_
  blk_simp
  rw [after0_6]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, val_main_v27]
  blk_simp [iblk]
  refine adamM_congr ?_ ?_
  · rw [V_main_arg1]
    congr 1; blk_ext [idx3_6 t, col_6 t]
  · rw [row1]
    congr 1; blk_ext [idx1_6 t, col_6 t]

/-- The second moment. -/
theorem final7 (c : Dev nD) : (dats m 0 c).arrAt 7 cfg0.N
    = val_main_v27 (F := Ideal) (m ((c : Thread nD τ).loc main_arg1)) (m ((c : Thread nD τ).loc main_arg3)) := by
  refine (dats m 0 c).arrAt_eq_of_covers 7 _ (by decide +kernel) fun t hf y => ?_
  blk_simp
  rw [after0_7]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, val_main_v27]
  blk_simp [iblk]
  refine adamV_congr ?_ ?_
  · rw [V_main_arg1]
    congr 1; blk_ext [idx3_7 t, col_7 t]
  · rw [row2]
    congr 1; blk_ext [idx2_7 t, col_7 t]

/-- From launches that agree on the arguments, kernel and reference end with the same results. -/
theorem algebraic : Cert.algebraic_AdamConvBIdeal_AdamConvBRefIdeal := fun m g m' g' _ hagree =>
  ⟨fun c => val_main_v24 (F := Ideal) (m ((c : Thread nD τ).loc main_arg1)), fun c => val_main_v25 (F := Ideal) (m ((c : Thread nD τ).loc main_arg0)) (m ((c : Thread nD τ).loc main_arg1)) (m ((c : Thread nD τ).loc main_arg2)) (m ((c : Thread nD τ).loc main_arg3)), fun c => val_main_v26 (F := Ideal) (m ((c : Thread nD τ).loc main_arg1)) (m ((c : Thread nD τ).loc main_arg2)), fun c => val_main_v27 (F := Ideal) (m ((c : Thread nD τ).loc main_arg1)) (m ((c : Thread nD τ).loc main_arg3)),
    (θ_run defs _ _).mono (fun _ h c => ⟨(h c).1.trans (final4 m c), (h c).2.1.trans (final5 m c), (h c).2.2.1.trans (final6 m c), (h c).2.2.2.1.trans (final7 m c), (h c).2.2.2.2⟩) (run_blocks m g),
    (θ_run Cert.AdamConvBRefIdeal.defs _ _).mono (fun _ h c => ⟨(h c).1.trans (by rw [(hagree c).2.1]; rfl),
        (h c).2.1.trans (by rw [(hagree c).1, (hagree c).2.1, (hagree c).2.2.1, (hagree c).2.2.2]; rfl),
        (h c).2.2.1.trans (by rw [(hagree c).2.1, (hagree c).2.2.1]; rfl),
        (h c).2.2.2.1.trans (by rw [(hagree c).2.1, (hagree c).2.2.2]; rfl), (h c).2.2.2.2⟩)
      (Cert.AdamConvBRefIdeal.Value.run m' g')⟩

end Cert.Proof.AdamConvB

end
-- ==== Proof.AdamHeads.lean ====
/- The optimizer's step of the state-space heads' numbers. -/
module

public import proofs.«01_k».proof.Proof.Gen.AdamHeadsIdeal.Value
public import proofs.«01_k».proof.Proof.Gen.AdamHeadsRefIdeal.Read
public import proofs.«01_k».proof.Defs
public import proofs.«01_k».proof.Proof.Adam
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.AdamHeads

open Cert.AdamHeadsIdeal Cert.AdamHeadsIdeal.Gen Cert.AdamHeadsIdeal.Value Idealize.ShloMosaic Idealize.ShloMosaic.TcCoe Idealize.SL.Sem
open Cert.AdamHeadsRefIdeal.Read Cert.Proof.Adam

variable (m : (ℓ : Loc nD τ sig) → Buf (Elt Ideal) ℓ)

/-- The arrays as the call is given them. -/
theorem row0 (c : Dev nD) (j : S1x2x16.Idx) : V m c main_v0 j = m ((c : Thread nD τ).loc main_arg0) (ix2 (j 1) (j 2)) := by
  entry_read
  pointwise

theorem row1 (c : Dev nD) (j : S1x2x16.Idx) : V m c main_v1 j = m ((c : Thread nD τ).loc main_arg2) (ix2 (j 1) (j 2)) := by
  entry_read
  pointwise

theorem row2 (c : Dev nD) (j : S1x2x16.Idx) : V m c main_v2 j = m ((c : Thread nD τ).loc main_arg3) (ix2 (j 1) (j 2)) := by
  entry_read
  pointwise

/-- The blocks that a point reads and writes. -/
theorem idx0_4 : ∀ t : Fin cfg0.N, win0_0.index t = win0_4.index t := (by decide +kernel : ∀ t : Fin grid0.N, _)
theorem idx1_4 : ∀ t : Fin cfg0.N, win0_1.index t = win0_4.index t := (by decide +kernel : ∀ t : Fin grid0.N, _)
theorem idx2_4 : ∀ t : Fin cfg0.N, win0_2.index t = win0_4.index t := (by decide +kernel : ∀ t : Fin grid0.N, _)
theorem idx3_4 : ∀ t : Fin cfg0.N, win0_3.index t = ![win0_4.index t 1, 0] := (by decide +kernel : ∀ t : Fin grid0.N, _)
theorem col_4 : ∀ t : Fin cfg0.N, win0_4.index t 2 = 0 := (by decide +kernel : ∀ t : Fin grid0.N, _)

/-- The blocks that a point reads and writes. -/
theorem idx0_5 : ∀ t : Fin cfg0.N, win0_0.index t = win0_5.index t := (by decide +kernel : ∀ t : Fin grid0.N, _)
theorem idx1_5 : ∀ t : Fin cfg0.N, win0_1.index t = win0_5.index t := (by decide +kernel : ∀ t : Fin grid0.N, _)
theorem idx2_5 : ∀ t : Fin cfg0.N, win0_2.index t = win0_5.index t := (by decide +kernel : ∀ t : Fin grid0.N, _)
theorem idx3_5 : ∀ t : Fin cfg0.N, win0_3.index t = ![win0_5.index t 1, 0] := (by decide +kernel : ∀ t : Fin grid0.N, _)
theorem col_5 : ∀ t : Fin cfg0.N, win0_5.index t 2 = 0 := (by decide +kernel : ∀ t : Fin grid0.N, _)

/-- The blocks that a point reads and writes. -/
theorem idx0_6 : ∀ t : Fin cfg0.N, win0_0.index t = win0_6.index t := (by decide +kernel : ∀ t : Fin grid0.N, _)
theorem idx1_6 : ∀ t : Fin cfg0.N, win0_1.index t = win0_6.index t := (by decide +kernel : ∀ t : Fin grid0.N, _)
theorem idx2_6 : ∀ t : Fin cfg0.N, win0_2.index t = win0_6.index t := (by decide +kernel : ∀ t : Fin grid0.N, _)
theorem idx3_6 : ∀ t : Fin cfg0.N, win0_3.index t = ![win0_6.index t 1, 0] := (by decide +kernel : ∀ t : Fin grid0.N, _)
theorem col_6 : ∀ t : Fin cfg0.N, win0_6.index t 2 = 0 := (by decide +kernel : ∀ t : Fin grid0.N, _)

/-- The blocks that a point reads and writes. -/
theorem idx0_7 : ∀ t : Fin cfg0.N, win0_0.index t = win0_7.index t := (by decide +kernel : ∀ t : Fin grid0.N, _)
theorem idx1_7 : ∀ t : Fin cfg0.N, win0_1.index t = win0_7.index t := (by decide +kernel : ∀ t : Fin grid0.N, _)
theorem idx2_7 : ∀ t : Fin cfg0.N, win0_2.index t = win0_7.index t := (by decide +kernel : ∀ t : Fin grid0.N, _)
theorem idx3_7 : ∀ t : Fin cfg0.N, win0_3.index t = ![win0_7.index t 1, 0] := (by decide +kernel : ∀ t : Fin grid0.N, _)
theorem col_7 : ∀ t : Fin cfg0.N, win0_7.index t 2 = 0 := (by decide +kernel : ∀ t : Fin grid0.N, _)

/-- The gradient, as the step used it. -/
theorem final4 (c : Dev nD) : (dats m 0 c).arrAt 4 cfg0.N
    = val_main_v24 (F := Ideal) (m ((c : Thread nD τ).loc main_arg1)) := by
  refine (dats m 0 c).arrAt_eq_of_covers 4 _ (by decide +kernel) fun t hf y => ?_
  blk_simp
  rw [after0_4]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, val_main_v27]
  blk_simp [iblk]
  · rw [V_main_arg1]
    congr 1; blk_ext [idx3_4 t, col_4 t]

/-- The change of the weights. -/
theorem final5 (c : Dev nD) : (dats m 0 c).arrAt 5 cfg0.N
    = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, val_main_v27]
  blk_simp [iblk]
  refine adamD_congr ?_ ?_ ?_ ?_
  · rw [row0]
    congr 1; blk_ext [idx0_5 t, col_5 t]
  · rw [V_main_arg1]
    congr 1; blk_ext [idx3_5 t, col_5 t]
  · rw [row1]
    congr 1; blk_ext [idx1_5 t, col_5 t]
  · rw [row2]
    congr 1; blk_ext [idx2_5 t, col_5 t]

/-- The first moment. -/
theorem final6 (c : Dev nD) : (dats m 0 c).arrAt 6 cfg0.N
    = val_main_v26 (F := Ideal) (m ((c : Thread nD τ).loc main_arg1)) (m ((c : Thread nD τ).loc main_arg2)) := by
  refine (dats m 0 c).arrAt_eq_of_covers 6 _ (by decide +kernel) fun t hf y => ?_
  blk_simp
  rw [after0_6]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, val_main_v27]
  blk_simp [iblk]
  refine adamM_congr ?_ ?_
  · rw [V_main_arg1]
    congr 1; blk_ext [idx3_6 t, col_6 t]
  · rw [row1]
    congr 1; blk_ext [idx1_6 t, col_6 t]

/-- The second moment. -/
theorem final7 (c : Dev nD) : (dats m 0 c).arrAt 7 cfg0.N
    = val_main_v27 (F := Ideal) (m ((c : Thread nD τ).loc main_arg1)) (m ((c : Thread nD τ).loc main_arg3)) := by
  refine (dats m 0 c).arrAt_eq_of_covers 7 _ (by decide +kernel) fun t hf y => ?_
  blk_simp
  rw [after0_7]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, val_main_v27]
  blk_simp [iblk]
  refine adamV_congr ?_ ?_
  · rw [V_main_arg1]
    congr 1; blk_ext [idx3_7 t, col_7 t]
  · rw [row2]
    congr 1; blk_ext [idx2_7 t, col_7 t]

/-- From launches that agree on the arguments, kernel and reference end with the same results. -/
theorem algebraic : Cert.algebraic_AdamHeadsIdeal_AdamHeadsRefIdeal := fun m g m' g' _ hagree =>
  ⟨fun c => val_main_v24 (F := Ideal) (m ((c : Thread nD τ).loc main_arg1)), fun c => val_main_v25 (F := Ideal) (m ((c : Thread nD τ).loc main_arg0)) (m ((c : Thread nD τ).loc main_arg1)) (m ((c : Thread nD τ).loc main_arg2)) (m ((c : Thread nD τ).loc main_arg3)), fun c => val_main_v26 (F := Ideal) (m ((c : Thread nD τ).loc main_arg1)) (m ((c : Thread nD τ).loc main_arg2)), fun c => val_main_v27 (F := Ideal) (m ((c : Thread nD τ).loc main_arg1)) (m ((c : Thread nD τ).loc main_arg3)),
    (θ_run defs _ _).mono (fun _ h c => ⟨(h c).1.trans (final4 m c), (h c).2.1.trans (final5 m c), (h c).2.2.1.trans (final6 m c), (h c).2.2.2.1.trans (final7 m c), (h c).2.2.2.2⟩) (run_blocks m g),
    (θ_run Cert.AdamHeadsRefIdeal.defs _ _).mono (fun _ h c => ⟨(h c).1.trans (by rw [(hagree c).2.1]; rfl),
        (h c).2.1.trans (by rw [(hagree c).1, (hagree c).2.1, (hagree c).2.2.1, (hagree c).2.2.2]; rfl),
        (h c).2.2.1.trans (by rw [(hagree c).2.1, (hagree c).2.2.1]; rfl),
        (h c).2.2.2.1.trans (by rw [(hagree c).2.1, (hagree c).2.2.2]; rfl), (h c).2.2.2.2⟩)
      (Cert.AdamHeadsRefIdeal.Value.run m' g')⟩

end Cert.Proof.AdamHeads

end
-- ==== Proof.AdamGdnHeads.lean ====
/- The optimizer's step of the delta rule's heads' numbers. -/
module

public import proofs.«01_k».proof.Proof.Gen.AdamGdnHeadsIdeal.Value
public import proofs.«01_k».proof.Proof.Gen.AdamGdnHeadsRefIdeal.Read
public import proofs.«01_k».proof.Defs
public import proofs.«01_k».proof.Proof.Adam
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.AdamGdnHeads

open Cert.AdamGdnHeadsIdeal Cert.AdamGdnHeadsIdeal.Gen Cert.AdamGdnHeadsIdeal.Value Idealize.ShloMosaic Idealize.ShloMosaic.TcCoe Idealize.SL.Sem
open Cert.AdamGdnHeadsRefIdeal.Read Cert.Proof.Adam

variable (m : (ℓ : Loc nD τ sig) → Buf (Elt Ideal) ℓ)

/-- The arrays as the call is given them. -/
theorem row0 (c : Dev nD) (j : S1x2x8.Idx) : V m c main_v0 j = m ((c : Thread nD τ).loc main_arg0) (ix2 (j 1) (j 2)) := by
  entry_read
  pointwise

theorem row1 (c : Dev nD) (j : S1x2x8.Idx) : V m c main_v1 j = m ((c : Thread nD τ).loc main_arg2) (ix2 (j 1) (j 2)) := by
  entry_read
  pointwise

theorem row2 (c : Dev nD) (j : S1x2x8.Idx) : V m c main_v2 j = m ((c : Thread nD τ).loc main_arg3) (ix2 (j 1) (j 2)) := by
  entry_read
  pointwise

/-- The blocks that a point reads and writes. -/
theorem idx0_4 : ∀ t : Fin cfg0.N, win0_0.index t = win0_4.index t := (by decide +kernel : ∀ t : Fin grid0.N, _)
theorem idx1_4 : ∀ t : Fin cfg0.N, win0_1.index t = win0_4.index t := (by decide +kernel : ∀ t : Fin grid0.N, _)
theorem idx2_4 : ∀ t : Fin cfg0.N, win0_2.index t = win0_4.index t := (by decide +kernel : ∀ t : Fin grid0.N, _)
theorem idx3_4 : ∀ t : Fin cfg0.N, win0_3.index t = ![win0_4.index t 1, 0] := (by decide +kernel : ∀ t : Fin grid0.N, _)
theorem col_4 : ∀ t : Fin cfg0.N, win0_4.index t 2 = 0 := (by decide +kernel : ∀ t : Fin grid0.N, _)

/-- The blocks that a point reads and writes. -/
theorem idx0_5 : ∀ t : Fin cfg0.N, win0_0.index t = win0_5.index t := (by decide +kernel : ∀ t : Fin grid0.N, _)
theorem idx1_5 : ∀ t : Fin cfg0.N, win0_1.index t = win0_5.index t := (by decide +kernel : ∀ t : Fin grid0.N, _)
theorem idx2_5 : ∀ t : Fin cfg0.N, win0_2.index t = win0_5.index t := (by decide +kernel : ∀ t : Fin grid0.N, _)
theorem idx3_5 : ∀ t : Fin cfg0.N, win0_3.index t = ![win0_5.index t 1, 0] := (by decide +kernel : ∀ t : Fin grid0.N, _)
theorem col_5 : ∀ t : Fin cfg0.N, win0_5.index t 2 = 0 := (by decide +kernel : ∀ t : Fin grid0.N, _)

/-- The blocks that a point reads and writes. -/
theorem idx0_6 : ∀ t : Fin cfg0.N, win0_0.index t = win0_6.index t := (by decide +kernel : ∀ t : Fin grid0.N, _)
theorem idx1_6 : ∀ t : Fin cfg0.N, win0_1.index t = win0_6.index t := (by decide +kernel : ∀ t : Fin grid0.N, _)
theorem idx2_6 : ∀ t : Fin cfg0.N, win0_2.index t = win0_6.index t := (by decide +kernel : ∀ t : Fin grid0.N, _)
theorem idx3_6 : ∀ t : Fin cfg0.N, win0_3.index t = ![win0_6.index t 1, 0] := (by decide +kernel : ∀ t : Fin grid0.N, _)
theorem col_6 : ∀ t : Fin cfg0.N, win0_6.index t 2 = 0 := (by decide +kernel : ∀ t : Fin grid0.N, _)

/-- The blocks that a point reads and writes. -/
theorem idx0_7 : ∀ t : Fin cfg0.N, win0_0.index t = win0_7.index t := (by decide +kernel : ∀ t : Fin grid0.N, _)
theorem idx1_7 : ∀ t : Fin cfg0.N, win0_1.index t = win0_7.index t := (by decide +kernel : ∀ t : Fin grid0.N, _)
theorem idx2_7 : ∀ t : Fin cfg0.N, win0_2.index t = win0_7.index t := (by decide +kernel : ∀ t : Fin grid0.N, _)
theorem idx3_7 : ∀ t : Fin cfg0.N, win0_3.index t = ![win0_7.index t 1, 0] := (by decide +kernel : ∀ t : Fin grid0.N, _)
theorem col_7 : ∀ t : Fin cfg0.N, win0_7.index t 2 = 0 := (by decide +kernel : ∀ t : Fin grid0.N, _)

/-- The gradient, as the step used it. -/
theorem final4 (c : Dev nD) : (dats m 0 c).arrAt 4 cfg0.N
    = val_main_v24 (F := Ideal) (m ((c : Thread nD τ).loc main_arg1)) := by
  refine (dats m 0 c).arrAt_eq_of_covers 4 _ (by decide +kernel) fun t hf y => ?_
  blk_simp
  rw [after0_4]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, val_main_v27]
  blk_simp [iblk]
  · rw [V_main_arg1]
    congr 1; blk_ext [idx3_4 t, col_4 t]

/-- The change of the weights. -/
theorem final5 (c : Dev nD) : (dats m 0 c).arrAt 5 cfg0.N
    = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, val_main_v27]
  blk_simp [iblk]
  refine adamD_congr ?_ ?_ ?_ ?_
  · rw [row0]
    congr 1; blk_ext [idx0_5 t, col_5 t]
  · rw [V_main_arg1]
    congr 1; blk_ext [idx3_5 t, col_5 t]
  · rw [row1]
    congr 1; blk_ext [idx1_5 t, col_5 t]
  · rw [row2]
    congr 1; blk_ext [idx2_5 t, col_5 t]

/-- The first moment. -/
theorem final6 (c : Dev nD) : (dats m 0 c).arrAt 6 cfg0.N
    = val_main_v26 (F := Ideal) (m ((c : Thread nD τ).loc main_arg1)) (m ((c : Thread nD τ).loc main_arg2)) := by
  refine (dats m 0 c).arrAt_eq_of_covers 6 _ (by decide +kernel) fun t hf y => ?_
  blk_simp
  rw [after0_6]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, val_main_v27]
  blk_simp [iblk]
  refine adamM_congr ?_ ?_
  · rw [V_main_arg1]
    congr 1; blk_ext [idx3_6 t, col_6 t]
  · rw [row1]
    congr 1; blk_ext [idx1_6 t, col_6 t]

/-- The second moment. -/
theorem final7 (c : Dev nD) : (dats m 0 c).arrAt 7 cfg0.N
    = val_main_v27 (F := Ideal) (m ((c : Thread nD τ).loc main_arg1)) (m ((c : Thread nD τ).loc main_arg3)) := by
  refine (dats m 0 c).arrAt_eq_of_covers 7 _ (by decide +kernel) fun t hf y => ?_
  blk_simp
  rw [after0_7]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, val_main_v27]
  blk_simp [iblk]
  refine adamV_congr ?_ ?_
  · rw [V_main_arg1]
    congr 1; blk_ext [idx3_7 t, col_7 t]
  · rw [row2]
    congr 1; blk_ext [idx2_7 t, col_7 t]

/-- From launches that agree on the arguments, kernel and reference end with the same results. -/
theorem algebraic : Cert.algebraic_AdamGdnHeadsIdeal_AdamGdnHeadsRefIdeal := fun m g m' g' _ hagree =>
  ⟨fun c => val_main_v24 (F := Ideal) (m ((c : Thread nD τ).loc main_arg1)), fun c => val_main_v25 (F := Ideal) (m ((c : Thread nD τ).loc main_arg0)) (m ((c : Thread nD τ).loc main_arg1)) (m ((c : Thread nD τ).loc main_arg2)) (m ((c : Thread nD τ).loc main_arg3)), fun c => val_main_v26 (F := Ideal) (m ((c : Thread nD τ).loc main_arg1)) (m ((c : Thread nD τ).loc main_arg2)), fun c => val_main_v27 (F := Ideal) (m ((c : Thread nD τ).loc main_arg1)) (m ((c : Thread nD τ).loc main_arg3)),
    (θ_run defs _ _).mono (fun _ h c => ⟨(h c).1.trans (final4 m c), (h c).2.1.trans (final5 m c), (h c).2.2.1.trans (final6 m c), (h c).2.2.2.1.trans (final7 m c), (h c).2.2.2.2⟩) (run_blocks m g),
    (θ_run Cert.AdamGdnHeadsRefIdeal.defs _ _).mono (fun _ h c => ⟨(h c).1.trans (by rw [(hagree c).2.1]; rfl),
        (h c).2.1.trans (by rw [(hagree c).1, (hagree c).2.1, (hagree c).2.2.1, (hagree c).2.2.2]; rfl),
        (h c).2.2.1.trans (by rw [(hagree c).2.1, (hagree c).2.2.1]; rfl),
        (h c).2.2.2.1.trans (by rw [(hagree c).2.1, (hagree c).2.2.2]; rfl), (h c).2.2.2.2⟩)
      (Cert.AdamGdnHeadsRefIdeal.Value.run m' g')⟩

end Cert.Proof.AdamGdnHeads

end
-- ==== Proof.AdamGdnNorm.lean ====
/- The optimizer's step of the delta rule's norm. -/
module

public import proofs.«01_k».proof.Proof.Gen.AdamGdnNormIdeal.Value
public import proofs.«01_k».proof.Proof.Gen.AdamGdnNormRefIdeal.Read
public import proofs.«01_k».proof.Defs
public import proofs.«01_k».proof.Proof.Adam
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.AdamGdnNorm

open Cert.AdamGdnNormIdeal Cert.AdamGdnNormIdeal.Gen Cert.AdamGdnNormIdeal.Value Idealize.ShloMosaic Idealize.ShloMosaic.TcCoe Idealize.SL.Sem
open Cert.AdamGdnNormRefIdeal.Read Cert.Proof.Adam

variable (m : (ℓ : Loc nD τ sig) → Buf (Elt Ideal) ℓ)

/-- The arrays as the call is given them. -/
theorem row0 (c : Dev nD) (j : S1x2x128.Idx) : V m c main_v0 j = m ((c : Thread nD τ).loc main_arg0) (ix2 (j 1) (j 2)) := by
  entry_read
  pointwise

theorem row1 (c : Dev nD) (j : S1x2x128.Idx) : V m c main_v1 j = m ((c : Thread nD τ).loc main_arg2) (ix2 (j 1) (j 2)) := by
  entry_read
  pointwise

theorem row2 (c : Dev nD) (j : S1x2x128.Idx) : V m c main_v2 j = m ((c : Thread nD τ).loc main_arg3) (ix2 (j 1) (j 2)) := by
  entry_read
  pointwise

/-- The blocks that a point reads and writes. -/
theorem idx0_4 : ∀ t : Fin cfg0.N, win0_0.index t = win0_4.index t := (by decide +kernel : ∀ t : Fin grid0.N, _)
theorem idx1_4 : ∀ t : Fin cfg0.N, win0_1.index t = win0_4.index t := (by decide +kernel : ∀ t : Fin grid0.N, _)
theorem idx2_4 : ∀ t : Fin cfg0.N, win0_2.index t = win0_4.index t := (by decide +kernel : ∀ t : Fin grid0.N, _)
theorem idx3_4 : ∀ t : Fin cfg0.N, win0_3.index t = ![win0_4.index t 1, 0] := (by decide +kernel : ∀ t : Fin grid0.N, _)
theorem col_4 : ∀ t : Fin cfg0.N, win0_4.index t 2 = 0 := (by decide +kernel : ∀ t : Fin grid0.N, _)

/-- The blocks that a point reads and writes. -/
theorem idx0_5 : ∀ t : Fin cfg0.N, win0_0.index t = win0_5.index t := (by decide +kernel : ∀ t : Fin grid0.N, _)
theorem idx1_5 : ∀ t : Fin cfg0.N, win0_1.index t = win0_5.index t := (by decide +kernel : ∀ t : Fin grid0.N, _)
theorem idx2_5 : ∀ t : Fin cfg0.N, win0_2.index t = win0_5.index t := (by decide +kernel : ∀ t : Fin grid0.N, _)
theorem idx3_5 : ∀ t : Fin cfg0.N, win0_3.index t = ![win0_5.index t 1, 0] := (by decide +kernel : ∀ t : Fin grid0.N, _)
theorem col_5 : ∀ t : Fin cfg0.N, win0_5.index t 2 = 0 := (by decide +kernel : ∀ t : Fin grid0.N, _)

/-- The blocks that a point reads and writes. -/
theorem idx0_6 : ∀ t : Fin cfg0.N, win0_0.index t = win0_6.index t := (by decide +kernel : ∀ t : Fin grid0.N, _)
theorem idx1_6 : ∀ t : Fin cfg0.N, win0_1.index t = win0_6.index t := (by decide +kernel : ∀ t : Fin grid0.N, _)
theorem idx2_6 : ∀ t : Fin cfg0.N, win0_2.index t = win0_6.index t := (by decide +kernel : ∀ t : Fin grid0.N, _)
theorem idx3_6 : ∀ t : Fin cfg0.N, win0_3.index t = ![win0_6.index t 1, 0] := (by decide +kernel : ∀ t : Fin grid0.N, _)
theorem col_6 : ∀ t : Fin cfg0.N, win0_6.index t 2 = 0 := (by decide +kernel : ∀ t : Fin grid0.N, _)

/-- The blocks that a point reads and writes. -/
theorem idx0_7 : ∀ t : Fin cfg0.N, win0_0.index t = win0_7.index t := (by decide +kernel : ∀ t : Fin grid0.N, _)
theorem idx1_7 : ∀ t : Fin cfg0.N, win0_1.index t = win0_7.index t := (by decide +kernel : ∀ t : Fin grid0.N, _)
theorem idx2_7 : ∀ t : Fin cfg0.N, win0_2.index t = win0_7.index t := (by decide +kernel : ∀ t : Fin grid0.N, _)
theorem idx3_7 : ∀ t : Fin cfg0.N, win0_3.index t = ![win0_7.index t 1, 0] := (by decide +kernel : ∀ t : Fin grid0.N, _)
theorem col_7 : ∀ t : Fin cfg0.N, win0_7.index t 2 = 0 := (by decide +kernel : ∀ t : Fin grid0.N, _)

/-- The gradient, as the step used it. -/
theorem final4 (c : Dev nD) : (dats m 0 c).arrAt 4 cfg0.N
    = val_main_v24 (F := Ideal) (m ((c : Thread nD τ).loc main_arg1)) := by
  refine (dats m 0 c).arrAt_eq_of_covers 4 _ (by decide +kernel) fun t hf y => ?_
  blk_simp
  rw [after0_4]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, val_main_v27]
  blk_simp [iblk]
  · rw [V_main_arg1]
    congr 1; blk_ext [idx3_4 t, col_4 t]

/-- The change of the weights. -/
theorem final5 (c : Dev nD) : (dats m 0 c).arrAt 5 cfg0.N
    = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, val_main_v27]
  blk_simp [iblk]
  refine adamD_congr ?_ ?_ ?_ ?_
  · rw [row0]
    congr 1; blk_ext [idx0_5 t, col_5 t]
  · rw [V_main_arg1]
    congr 1; blk_ext [idx3_5 t, col_5 t]
  · rw [row1]
    congr 1; blk_ext [idx1_5 t, col_5 t]
  · rw [row2]
    congr 1; blk_ext [idx2_5 t, col_5 t]

/-- The first moment. -/
theorem final6 (c : Dev nD) : (dats m 0 c).arrAt 6 cfg0.N
    = val_main_v26 (F := Ideal) (m ((c : Thread nD τ).loc main_arg1)) (m ((c : Thread nD τ).loc main_arg2)) := by
  refine (dats m 0 c).arrAt_eq_of_covers 6 _ (by decide +kernel) fun t hf y => ?_
  blk_simp
  rw [after0_6]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, val_main_v27]
  blk_simp [iblk]
  refine adamM_congr ?_ ?_
  · rw [V_main_arg1]
    congr 1; blk_ext [idx3_6 t, col_6 t]
  · rw [row1]
    congr 1; blk_ext [idx1_6 t, col_6 t]

/-- The second moment. -/
theorem final7 (c : Dev nD) : (dats m 0 c).arrAt 7 cfg0.N
    = val_main_v27 (F := Ideal) (m ((c : Thread nD τ).loc main_arg1)) (m ((c : Thread nD τ).loc main_arg3)) := by
  refine (dats m 0 c).arrAt_eq_of_covers 7 _ (by decide +kernel) fun t hf y => ?_
  blk_simp
  rw [after0_7]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, val_main_v27]
  blk_simp [iblk]
  refine adamV_congr ?_ ?_
  · rw [V_main_arg1]
    congr 1; blk_ext [idx3_7 t, col_7 t]
  · rw [row2]
    congr 1; blk_ext [idx2_7 t, col_7 t]

/-- From launches that agree on the arguments, kernel and reference end with the same results. -/
theorem algebraic : Cert.algebraic_AdamGdnNormIdeal_AdamGdnNormRefIdeal := fun m g m' g' _ hagree =>
  ⟨fun c => val_main_v24 (F := Ideal) (m ((c : Thread nD τ).loc main_arg1)), fun c => val_main_v25 (F := Ideal) (m ((c : Thread nD τ).loc main_arg0)) (m ((c : Thread nD τ).loc main_arg1)) (m ((c : Thread nD τ).loc main_arg2)) (m ((c : Thread nD τ).loc main_arg3)), fun c => val_main_v26 (F := Ideal) (m ((c : Thread nD τ).loc main_arg1)) (m ((c : Thread nD τ).loc main_arg2)), fun c => val_main_v27 (F := Ideal) (m ((c : Thread nD τ).loc main_arg1)) (m ((c : Thread nD τ).loc main_arg3)),
    (θ_run defs _ _).mono (fun _ h c => ⟨(h c).1.trans (final4 m c), (h c).2.1.trans (final5 m c), (h c).2.2.1.trans (final6 m c), (h c).2.2.2.1.trans (final7 m c), (h c).2.2.2.2⟩) (run_blocks m g),
    (θ_run Cert.AdamGdnNormRefIdeal.defs _ _).mono (fun _ h c => ⟨(h c).1.trans (by rw [(hagree c).2.1]; rfl),
        (h c).2.1.trans (by rw [(hagree c).1, (hagree c).2.1, (hagree c).2.2.1, (hagree c).2.2.2]; rfl),
        (h c).2.2.1.trans (by rw [(hagree c).2.1, (hagree c).2.2.1]; rfl),
        (h c).2.2.2.1.trans (by rw [(hagree c).2.1, (hagree c).2.2.2]; rfl), (h c).2.2.2.2⟩)
      (Cert.AdamGdnNormRefIdeal.Value.run m' g')⟩

end Cert.Proof.AdamGdnNorm

end
-- ==== Proof.AdamFinal.lean ====
/- The optimizer's step of the last norm. -/
module

public import proofs.«01_k».proof.Proof.Gen.AdamFinalIdeal.Value
public import proofs.«01_k».proof.Proof.Gen.AdamFinalRefIdeal.Read
public import proofs.«01_k».proof.Defs
public import proofs.«01_k».proof.Proof.Adam
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.AdamFinal

open Cert.AdamFinalIdeal Cert.AdamFinalIdeal.Gen Cert.AdamFinalIdeal.Value Idealize.ShloMosaic Idealize.ShloMosaic.TcCoe Idealize.SL.Sem
open Cert.AdamFinalRefIdeal.Read Cert.Proof.Adam

variable (m : (ℓ : Loc nD τ sig) → Buf (Elt Ideal) ℓ)

/-- The arrays as the call is given them. -/
theorem row0 (c : Dev nD) (j : S1x1x1024.Idx) : V m c main_v1 j = m ((c : Thread nD τ).loc main_arg0) (ix1 (j 2)) := by
  entry_read
  pointwise

theorem row1 (c : Dev nD) (j : S1x1x1024.Idx) : V m c main_v2 j = m ((c : Thread nD τ).loc main_arg2) (ix1 (j 2)) := by
  entry_read
  pointwise

theorem row2 (c : Dev nD) (j : S1x1x1024.Idx) : V m c main_v3 j = m ((c : Thread nD τ).loc main_arg3) (ix1 (j 2)) := by
  entry_read
  pointwise

theorem row3 (c : Dev nD) (j : S1x1024.Idx) : V m c main_v0 j = m ((c : Thread nD τ).loc main_arg1) (ix1 (j 1)) := by
  entry_read
  pointwise

/-- The blocks that a point reads and writes. -/
theorem idx0_4 : ∀ t : Fin cfg0.N, win0_0.index t = win0_4.index t := (by decide +kernel : ∀ t : Fin grid0.N, _)
theorem idx1_4 : ∀ t : Fin cfg0.N, win0_1.index t = win0_4.index t := (by decide +kernel : ∀ t : Fin grid0.N, _)
theorem idx2_4 : ∀ t : Fin cfg0.N, win0_2.index t = win0_4.index t := (by decide +kernel : ∀ t : Fin grid0.N, _)
theorem idx3_4 : ∀ t : Fin cfg0.N, win0_3.index t = ![win0_4.index t 1, 0] := (by decide +kernel : ∀ t : Fin grid0.N, _)
theorem col_4 : ∀ t : Fin cfg0.N, win0_4.index t 2 = 0 := (by decide +kernel : ∀ t : Fin grid0.N, _)

/-- The blocks that a point reads and writes. -/
theorem idx0_5 : ∀ t : Fin cfg0.N, win0_0.index t = win0_5.index t := (by decide +kernel : ∀ t : Fin grid0.N, _)
theorem idx1_5 : ∀ t : Fin cfg0.N, win0_1.index t = win0_5.index t := (by decide +kernel : ∀ t : Fin grid0.N, _)
theorem idx2_5 : ∀ t : Fin cfg0.N, win0_2.index t = win0_5.index t := (by decide +kernel : ∀ t : Fin grid0.N, _)
theorem idx3_5 : ∀ t : Fin cfg0.N, win0_3.index t = ![win0_5.index t 1, 0] := (by decide +kernel : ∀ t : Fin grid0.N, _)
theorem col_5 : ∀ t : Fin cfg0.N, win0_5.index t 2 = 0 := (by decide +kernel : ∀ t : Fin grid0.N, _)

/-- The blocks that a point reads and writes. -/
theorem idx0_6 : ∀ t : Fin cfg0.N, win0_0.index t = win0_6.index t := (by decide +kernel : ∀ t : Fin grid0.N, _)
theorem idx1_6 : ∀ t : Fin cfg0.N, win0_1.index t = win0_6.index t := (by decide +kernel : ∀ t : Fin grid0.N, _)
theorem idx2_6 : ∀ t : Fin cfg0.N, win0_2.index t = win0_6.index t := (by decide +kernel : ∀ t : Fin grid0.N, _)
theorem idx3_6 : ∀ t : Fin cfg0.N, win0_3.index t = ![win0_6.index t 1, 0] := (by decide +kernel : ∀ t : Fin grid0.N, _)
theorem col_6 : ∀ t : Fin cfg0.N, win0_6.index t 2 = 0 := (by decide +kernel : ∀ t : Fin grid0.N, _)

/-- The blocks that a point reads and writes. -/
theorem idx0_7 : ∀ t : Fin cfg0.N, win0_0.index t = win0_7.index t := (by decide +kernel : ∀ t : Fin grid0.N, _)
theorem idx1_7 : ∀ t : Fin cfg0.N, win0_1.index t = win0_7.index t := (by decide +kernel : ∀ t : Fin grid0.N, _)
theorem idx2_7 : ∀ t : Fin cfg0.N, win0_2.index t = win0_7.index t := (by decide +kernel : ∀ t : Fin grid0.N, _)
theorem idx3_7 : ∀ t : Fin cfg0.N, win0_3.index t = ![win0_7.index t 1, 0] := (by decide +kernel : ∀ t : Fin grid0.N, _)
theorem col_7 : ∀ t : Fin cfg0.N, win0_7.index t 2 = 0 := (by decide +kernel : ∀ t : Fin grid0.N, _)

/-- The gradient, as the step used it. -/
theorem final4 (c : Dev nD) : (dats m 0 c).arrAt 4 cfg0.N
    = val_main_v24 (F := Ideal) (m ((c : Thread nD τ).loc main_arg1)) := by
  refine (dats m 0 c).arrAt_eq_of_covers 4 _ (by decide +kernel) fun t hf y => ?_
  blk_simp
  rw [after0_4]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, val_main_v27]
  blk_simp [iblk]
  · rw [row3]
    congr 1; blk_ext [idx3_4 t, col_4 t]

/-- The change of the weights. -/
theorem final5 (c : Dev nD) : (dats m 0 c).arrAt 5 cfg0.N
    = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, val_main_v27]
  blk_simp [iblk]
  refine adamD_congr ?_ ?_ ?_ ?_
  · rw [row0]
    congr 1; blk_ext [idx0_5 t, col_5 t]
  · rw [row3]
    congr 1; blk_ext [idx3_5 t, col_5 t]
  · rw [row1]
    congr 1; blk_ext [idx1_5 t, col_5 t]
  · rw [row2]
    congr 1; blk_ext [idx2_5 t, col_5 t]

/-- The first moment. -/
theorem final6 (c : Dev nD) : (dats m 0 c).arrAt 6 cfg0.N
    = val_main_v26 (F := Ideal) (m ((c : Thread nD τ).loc main_arg1)) (m ((c : Thread nD τ).loc main_arg2)) := by
  refine (dats m 0 c).arrAt_eq_of_covers 6 _ (by decide +kernel) fun t hf y => ?_
  blk_simp
  rw [after0_6]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, val_main_v27]
  blk_simp [iblk]
  refine adamM_congr ?_ ?_
  · rw [row3]
    congr 1; blk_ext [idx3_6 t, col_6 t]
  · rw [row1]
    congr 1; blk_ext [idx1_6 t, col_6 t]

/-- The second moment. -/
theorem final7 (c : Dev nD) : (dats m 0 c).arrAt 7 cfg0.N
    = val_main_v27 (F := Ideal) (m ((c : Thread nD τ).loc main_arg1)) (m ((c : Thread nD τ).loc main_arg3)) := by
  refine (dats m 0 c).arrAt_eq_of_covers 7 _ (by decide +kernel) fun t hf y => ?_
  blk_simp
  rw [after0_7]
  frame_out
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, val_main_v24, val_main_v25, val_main_v26, val_main_v27]
  blk_simp [iblk]
  refine adamV_congr ?_ ?_
  · rw [row3]
    congr 1; blk_ext [idx3_7 t, col_7 t]
  · rw [row2]
    congr 1; blk_ext [idx2_7 t, col_7 t]

/-- From launches that agree on the arguments, kernel and reference end with the same results. -/
theorem algebraic : Cert.algebraic_AdamFinalIdeal_AdamFinalRefIdeal := fun m g m' g' _ hagree =>
  ⟨fun c => val_main_v24 (F := Ideal) (m ((c : Thread nD τ).loc main_arg1)), fun c => val_main_v25 (F := Ideal) (m ((c : Thread nD τ).loc main_arg0)) (m ((c : Thread nD τ).loc main_arg1)) (m ((c : Thread nD τ).loc main_arg2)) (m ((c : Thread nD τ).loc main_arg3)), fun c => val_main_v26 (F := Ideal) (m ((c : Thread nD τ).loc main_arg1)) (m ((c : Thread nD τ).loc main_arg2)), fun c => val_main_v27 (F := Ideal) (m ((c : Thread nD τ).loc main_arg1)) (m ((c : Thread nD τ).loc main_arg3)),
    (θ_run defs _ _).mono (fun _ h c => ⟨(h c).1.trans (final4 m c), (h c).2.1.trans (final5 m c), (h c).2.2.1.trans (final6 m c), (h c).2.2.2.1.trans (final7 m c), (h c).2.2.2.2⟩) (run_blocks m g),
    (θ_run Cert.AdamFinalRefIdeal.defs _ _).mono (fun _ h c => ⟨(h c).1.trans (by rw [(hagree c).2.1]; rfl),
        (h c).2.1.trans (by rw [(hagree c).1, (hagree c).2.1, (hagree c).2.2.1, (hagree c).2.2.2]; rfl),
        (h c).2.2.1.trans (by rw [(hagree c).2.1, (hagree c).2.2.1]; rfl),
        (h c).2.2.2.1.trans (by rw [(hagree c).2.1, (hagree c).2.2.2]; rfl), (h c).2.2.2.2⟩)
      (Cert.AdamFinalRefIdeal.Value.run m' g')⟩

end Cert.Proof.AdamFinal

end
-- ==== Proof.AdamConvSsm.lean ====
/- The optimizer's step of the state-space path's convolution. -/
module

public import proofs.«01_k».proof.Proof.Gen.AdamConvSsmIdeal.Value
public import proofs.«01_k».proof.Proof.Gen.AdamConvSsmRefIdeal.Read
public import proofs.«01_k».proof.Defs
public import proofs.«01_k».proof.Proof.Adam
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.AdamConvSsm

open Cert.AdamConvSsmIdeal Cert.AdamConvSsmIdeal.Gen Cert.AdamConvSsmIdeal.Value Idealize.ShloMosaic Idealize.ShloMosaic.TcCoe Idealize.SL.Sem
open Cert.AdamConvSsmRefIdeal.Read Cert.Proof.Adam

variable (m : (ℓ : Loc nD τ sig) → Buf (Elt Ideal) ℓ)

/-- The blocks that a point reads and writes. -/
theorem idx0_5 : ∀ t : Fin cfg0.N, win0_0.index t = win0_5.index t := (by decide +kernel : ∀ t : Fin grid0.N, _)
theorem idx1_5 : ∀ t : Fin cfg0.N, win0_1.index t = win0_5.index t := (by decide +kernel : ∀ t : Fin grid0.N, _)
theorem idx2_5 : ∀ t : Fin cfg0.N, win0_2.index t = win0_5.index t := (by decide +kernel : ∀ t : Fin grid0.N, _)
theorem idx3_5 : ∀ t : Fin cfg0.N, win0_3.index t = ![win0_5.index t 1, 0] := (by decide +kernel : ∀ t : Fin grid0.N, _)
theorem idx4_5 : ∀ t : Fin cfg0.N, win0_4.index t = ![win0_5.index t 1, 0] := (by decide +kernel : ∀ t : Fin grid0.N, _)
theorem col_5 : ∀ t : Fin cfg0.N, win0_5.index t 2 = 0 := (by decide +kernel : ∀ t : Fin grid0.N, _)
theorem layer_5 : ∀ t : Fin cfg0.N, Scalar.cmpi CmpIPredicate.eq (BitVec.ofNat 32 (grid0.coords t 0).val) 1#32 = if win0_5.index t 0 < 1 then 0#1 else 1#1 := (by decide +kernel : ∀ t : Fin grid0.N, _)

/-- The blocks that a point reads and writes. -/
theorem idx0_6 : ∀ t : Fin cfg0.N, win0_0.index t = win0_6.index t := (by decide +kernel : ∀ t : Fin grid0.N, _)
theorem idx1_6 : ∀ t : Fin cfg0.N, win0_1.index t = win0_6.index t := (by decide +kernel : ∀ t : Fin grid0.N, _)
theorem idx2_6 : ∀ t : Fin cfg0.N, win0_2.index t = win0_6.index t := (by decide +kernel : ∀ t : Fin grid0.N, _)
theorem idx3_6 : ∀ t : Fin cfg0.N, win0_3.index t = ![win0_6.index t 1, 0] := (by decide +kernel : ∀ t : Fin grid0.N, _)
theorem idx4_6 : ∀ t : Fin cfg0.N, win0_4.index t = ![win0_6.index t 1, 0] := (by decide +kernel : ∀ t : Fin grid0.N, _)
theorem col_6 : ∀ t : Fin cfg0.N, win0_6.index t 2 = 0 := (by decide +kernel : ∀ t : Fin grid0.N, _)
theorem layer_6 : ∀ t : Fin cfg0.N, Scalar.cmpi CmpIPredicate.eq (BitVec.ofNat 32 (grid0.coords t 0).val) 1#32 = if win0_6.index t 0 < 1 then 0#1 else 1#1 := (by decide +kernel : ∀ t : Fin grid0.N, _)

/-- The blocks that a point reads and writes. -/
theorem idx0_7 : ∀ t : Fin cfg0.N, win0_0.index t = win0_7.index t := (by decide +kernel : ∀ t : Fin grid0.N, _)
theorem idx1_7 : ∀ t : Fin cfg0.N, win0_1.index t = win0_7.index t := (by decide +kernel : ∀ t : Fin grid0.N, _)
theorem idx2_7 : ∀ t : Fin cfg0.N, win0_2.index t = win0_7.index t := (by decide +kernel : ∀ t : Fin grid0.N, _)
theorem idx3_7 : ∀ t : Fin cfg0.N, win0_3.index t = ![win0_7.index t 1, 0] := (by decide +kernel : ∀ t : Fin grid0.N, _)
theorem idx4_7 : ∀ t : Fin cfg0.N, win0_4.index t = ![win0_7.index t 1, 0] := (by decide +kernel : ∀ t : Fin grid0.N, _)
theorem col_7 : ∀ t : Fin cfg0.N, win0_7.index t 2 = 0 := (by decide +kernel : ∀ t : Fin grid0.N, _)
theorem layer_7 : ∀ t : Fin cfg0.N, Scalar.cmpi CmpIPredicate.eq (BitVec.ofNat 32 (grid0.coords t 0).val) 1#32 = if win0_7.index t 0 < 1 then 0#1 else 1#1 := (by decide +kernel : ∀ t : Fin grid0.N, _)

/-- The blocks that a point reads and writes. -/
theorem idx0_8 : ∀ t : Fin cfg0.N, win0_0.index t = win0_8.index t := (by decide +kernel : ∀ t : Fin grid0.N, _)
theorem idx1_8 : ∀ t : Fin cfg0.N, win0_1.index t = win0_8.index t := (by decide +kernel : ∀ t : Fin grid0.N, _)
theorem idx2_8 : ∀ t : Fin cfg0.N, win0_2.index t = win0_8.index t := (by decide +kernel : ∀ t : Fin grid0.N, _)
theorem idx3_8 : ∀ t : Fin cfg0.N, win0_3.index t = ![win0_8.index t 1, 0] := (by decide +kernel : ∀ t : Fin grid0.N, _)
theorem idx4_8 : ∀ t : Fin cfg0.N, win0_4.index t = ![win0_8.index t 1, 0] := (by decide +kernel : ∀ t : Fin grid0.N, _)
theorem col_8 : ∀ t : Fin cfg0.N, win0_8.index t 2 = 0 := (by decide +kernel : ∀ t : Fin grid0.N, _)
theorem layer_8 : ∀ t : Fin cfg0.N, Scalar.cmpi CmpIPredicate.eq (BitVec.ofNat 32 (grid0.coords t 0).val) 1#32 = if win0_8.index t 0 < 1 then 0#1 else 1#1 := (by decide +kernel : ∀ t : Fin grid0.N, _)

/-- The gradient, as the step used it. -/
theorem final5 (c : Dev nD) : (dats m 0 c).arrAt 5 cfg0.N
    = val_main_v2 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  unfold_payloads
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26]
  blk_simp [iblk]
  · rw [layer_5 t]
    by_cases h : win0_5.index t 0 < 1
    · rw [if_pos h, dif_pos h, select_zero, V_main_arg1]
      congr 1; blk_ext [idx3_5 t, col_5 t]
    · rw [if_neg h, dif_neg h, select_one, V_main_arg2]
      congr 1; blk_ext [idx4_5 t, col_5 t]

/-- The change of the weights. -/
theorem final6 (c : Dev nD) : (dats m 0 c).arrAt 6 cfg0.N
    = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  unfold_payloads
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26]
  blk_simp [iblk]
  refine adamD_congr ?_ ?_ ?_ ?_
  · rw [V_main_arg0]
    congr 1; blk_ext [idx0_6 t, col_6 t]
  · rw [layer_6 t]
    by_cases h : win0_6.index t 0 < 1
    · rw [if_pos h, dif_pos h, select_zero, V_main_arg1]
      congr 1; blk_ext [idx3_6 t, col_6 t]
    · rw [if_neg h, dif_neg h, select_one, V_main_arg2]
      congr 1; blk_ext [idx4_6 t, col_6 t]
  · rw [V_main_arg3]
    congr 1; blk_ext [idx1_6 t, col_6 t]
  · rw [V_main_arg4]
    congr 1; blk_ext [idx2_6 t, col_6 t]

/-- The first moment. -/
theorem final7 (c : Dev nD) : (dats m 0 c).arrAt 7 cfg0.N
    = val_main_v7 (F := Ideal) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  unfold_payloads
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26]
  blk_simp [iblk]
  refine adamM_congr ?_ ?_
  · rw [layer_7 t]
    by_cases h : win0_7.index t 0 < 1
    · rw [if_pos h, dif_pos h, select_zero, V_main_arg1]
      congr 1; blk_ext [idx3_7 t, col_7 t]
    · rw [if_neg h, dif_neg h, select_one, V_main_arg2]
      congr 1; blk_ext [idx4_7 t, col_7 t]
  · rw [V_main_arg3]
    congr 1; blk_ext [idx1_7 t, col_7 t]

/-- The second moment. -/
theorem final8 (c : Dev nD) : (dats m 0 c).arrAt 8 cfg0.N
    = val_main_v13 (F := Ideal) (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8]
  frame_out
  unfold_payloads
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26]
  blk_simp [iblk]
  refine adamV_congr ?_ ?_
  · rw [layer_8 t]
    by_cases h : win0_8.index t 0 < 1
    · rw [if_pos h, dif_pos h, select_zero, V_main_arg1]
      congr 1; blk_ext [idx3_8 t, col_8 t]
    · rw [if_neg h, dif_neg h, select_one, V_main_arg2]
      congr 1; blk_ext [idx4_8 t, col_8 t]
  · rw [V_main_arg4]
    congr 1; blk_ext [idx2_8 t, col_8 t]

/-- From launches that agree on the arguments, kernel and reference end with the same results. -/
theorem algebraic : Cert.algebraic_AdamConvSsmIdeal_AdamConvSsmRefIdeal := fun m g m' g' _ hagree =>
  ⟨fun c => val_main_v2 (F := Ideal) (m ((c : Thread nD τ).loc main_arg1)) (m ((c : Thread nD τ).loc main_arg2)), fun c => val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)), fun c => val_main_v7 (F := Ideal) (m ((c : Thread nD τ).loc main_arg1)) (m ((c : Thread nD τ).loc main_arg2)) (m ((c : Thread nD τ).loc main_arg3)), fun c => val_main_v13 (F := Ideal) (m ((c : Thread nD τ).loc main_arg1)) (m ((c : Thread nD τ).loc main_arg2)) (m ((c : Thread nD τ).loc main_arg4)),
    (θ_run defs _ _).mono (fun _ h c => ⟨(h c).1.trans (final5 m c), (h c).2.1.trans (final6 m c), (h c).2.2.1.trans (final7 m c), (h c).2.2.2.1.trans (final8 m c), (h c).2.2.2.2⟩) (run_blocks m g),
    (θ_run Cert.AdamConvSsmRefIdeal.defs _ _).mono (fun _ h c => ⟨(h c).1.trans (by rw [(hagree c).2.1, (hagree c).2.2.1]; rfl),
        (h c).2.1.trans (by rw [(hagree c).1, (hagree c).2.1, (hagree c).2.2.1, (hagree c).2.2.2.1, (hagree c).2.2.2.2]; rfl),
        (h c).2.2.1.trans (by rw [(hagree c).2.1, (hagree c).2.2.1, (hagree c).2.2.2.1]; rfl),
        (h c).2.2.2.1.trans (by rw [(hagree c).2.1, (hagree c).2.2.1, (hagree c).2.2.2.2]; rfl), (h c).2.2.2.2⟩)
      (Cert.AdamConvSsmRefIdeal.Value.run m' g')⟩

end Cert.Proof.AdamConvSsm

end
-- ==== Proof.AdamConvGdn.lean ====
/- The optimizer's step of the delta rule's convolution. -/
module

public import proofs.«01_k».proof.Proof.Gen.AdamConvGdnIdeal.Value
public import proofs.«01_k».proof.Proof.Gen.AdamConvGdnRefIdeal.Read
public import proofs.«01_k».proof.Defs
public import proofs.«01_k».proof.Proof.Adam
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.AdamConvGdn

open Cert.AdamConvGdnIdeal Cert.AdamConvGdnIdeal.Gen Cert.AdamConvGdnIdeal.Value Idealize.ShloMosaic Idealize.ShloMosaic.TcCoe Idealize.SL.Sem
open Cert.AdamConvGdnRefIdeal.Read Cert.Proof.Adam

variable (m : (ℓ : Loc nD τ sig) → Buf (Elt Ideal) ℓ)

/-- The blocks that a point reads and writes. -/
theorem idx0_5 : ∀ t : Fin cfg0.N, win0_0.index t = win0_5.index t := (by decide +kernel : ∀ t : Fin grid0.N, _)
theorem idx1_5 : ∀ t : Fin cfg0.N, win0_1.index t = win0_5.index t := (by decide +kernel : ∀ t : Fin grid0.N, _)
theorem idx2_5 : ∀ t : Fin cfg0.N, win0_2.index t = win0_5.index t := (by decide +kernel : ∀ t : Fin grid0.N, _)
theorem idx3_5 : ∀ t : Fin cfg0.N, win0_3.index t = ![win0_5.index t 1, 0] := (by decide +kernel : ∀ t : Fin grid0.N, _)
theorem idx4_5 : ∀ t : Fin cfg0.N, win0_4.index t = ![win0_5.index t 1, 0] := (by decide +kernel : ∀ t : Fin grid0.N, _)
theorem col_5 : ∀ t : Fin cfg0.N, win0_5.index t 2 = 0 := (by decide +kernel : ∀ t : Fin grid0.N, _)
theorem layer_5 : ∀ t : Fin cfg0.N, Scalar.cmpi CmpIPredicate.eq (BitVec.ofNat 32 (grid0.coords t 0).val) 1#32 = if win0_5.index t 0 < 1 then 0#1 else 1#1 := (by decide +kernel : ∀ t : Fin grid0.N, _)

/-- The blocks that a point reads and writes. -/
theorem idx0_6 : ∀ t : Fin cfg0.N, win0_0.index t = win0_6.index t := (by decide +kernel : ∀ t : Fin grid0.N, _)
theorem idx1_6 : ∀ t : Fin cfg0.N, win0_1.index t = win0_6.index t := (by decide +kernel : ∀ t : Fin grid0.N, _)
theorem idx2_6 : ∀ t : Fin cfg0.N, win0_2.index t = win0_6.index t := (by decide +kernel : ∀ t : Fin grid0.N, _)
theorem idx3_6 : ∀ t : Fin cfg0.N, win0_3.index t = ![win0_6.index t 1, 0] := (by decide +kernel : ∀ t : Fin grid0.N, _)
theorem idx4_6 : ∀ t : Fin cfg0.N, win0_4.index t = ![win0_6.index t 1, 0] := (by decide +kernel : ∀ t : Fin grid0.N, _)
theorem col_6 : ∀ t : Fin cfg0.N, win0_6.index t 2 = 0 := (by decide +kernel : ∀ t : Fin grid0.N, _)
theorem layer_6 : ∀ t : Fin cfg0.N, Scalar.cmpi CmpIPredicate.eq (BitVec.ofNat 32 (grid0.coords t 0).val) 1#32 = if win0_6.index t 0 < 1 then 0#1 else 1#1 := (by decide +kernel : ∀ t : Fin grid0.N, _)

/-- The blocks that a point reads and writes. -/
theorem idx0_7 : ∀ t : Fin cfg0.N, win0_0.index t = win0_7.index t := (by decide +kernel : ∀ t : Fin grid0.N, _)
theorem idx1_7 : ∀ t : Fin cfg0.N, win0_1.index t = win0_7.index t := (by decide +kernel : ∀ t : Fin grid0.N, _)
theorem idx2_7 : ∀ t : Fin cfg0.N, win0_2.index t = win0_7.index t := (by decide +kernel : ∀ t : Fin grid0.N, _)
theorem idx3_7 : ∀ t : Fin cfg0.N, win0_3.index t = ![win0_7.index t 1, 0] := (by decide +kernel : ∀ t : Fin grid0.N, _)
theorem idx4_7 : ∀ t : Fin cfg0.N, win0_4.index t = ![win0_7.index t 1, 0] := (by decide +kernel : ∀ t : Fin grid0.N, _)
theorem col_7 : ∀ t : Fin cfg0.N, win0_7.index t 2 = 0 := (by decide +kernel : ∀ t : Fin grid0.N, _)
theorem layer_7 : ∀ t : Fin cfg0.N, Scalar.cmpi CmpIPredicate.eq (BitVec.ofNat 32 (grid0.coords t 0).val) 1#32 = if win0_7.index t 0 < 1 then 0#1 else 1#1 := (by decide +kernel : ∀ t : Fin grid0.N, _)

/-- The blocks that a point reads and writes. -/
theorem idx0_8 : ∀ t : Fin cfg0.N, win0_0.index t = win0_8.index t := (by decide +kernel : ∀ t : Fin grid0.N, _)
theorem idx1_8 : ∀ t : Fin cfg0.N, win0_1.index t = win0_8.index t := (by decide +kernel : ∀ t : Fin grid0.N, _)
theorem idx2_8 : ∀ t : Fin cfg0.N, win0_2.index t = win0_8.index t := (by decide +kernel : ∀ t : Fin grid0.N, _)
theorem idx3_8 : ∀ t : Fin cfg0.N, win0_3.index t = ![win0_8.index t 1, 0] := (by decide +kernel : ∀ t : Fin grid0.N, _)
theorem idx4_8 : ∀ t : Fin cfg0.N, win0_4.index t = ![win0_8.index t 1, 0] := (by decide +kernel : ∀ t : Fin grid0.N, _)
theorem col_8 : ∀ t : Fin cfg0.N, win0_8.index t 2 = 0 := (by decide +kernel : ∀ t : Fin grid0.N, _)
theorem layer_8 : ∀ t : Fin cfg0.N, Scalar.cmpi CmpIPredicate.eq (BitVec.ofNat 32 (grid0.coords t 0).val) 1#32 = if win0_8.index t 0 < 1 then 0#1 else 1#1 := (by decide +kernel : ∀ t : Fin grid0.N, _)

/-- The gradient, as the step used it. -/
theorem final5 (c : Dev nD) : (dats m 0 c).arrAt 5 cfg0.N
    = val_main_v2 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  unfold_payloads
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26]
  blk_simp [iblk]
  · rw [layer_5 t]
    by_cases h : win0_5.index t 0 < 1
    · rw [if_pos h, dif_pos h, select_zero, V_main_arg1]
      congr 1; blk_ext [idx3_5 t, col_5 t]
    · rw [if_neg h, dif_neg h, select_one, V_main_arg2]
      congr 1; blk_ext [idx4_5 t, col_5 t]

/-- The change of the weights. -/
theorem final6 (c : Dev nD) : (dats m 0 c).arrAt 6 cfg0.N
    = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  unfold_payloads
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26]
  blk_simp [iblk]
  refine adamD_congr ?_ ?_ ?_ ?_
  · rw [V_main_arg0]
    congr 1; blk_ext [idx0_6 t, col_6 t]
  · rw [layer_6 t]
    by_cases h : win0_6.index t 0 < 1
    · rw [if_pos h, dif_pos h, select_zero, V_main_arg1]
      congr 1; blk_ext [idx3_6 t, col_6 t]
    · rw [if_neg h, dif_neg h, select_one, V_main_arg2]
      congr 1; blk_ext [idx4_6 t, col_6 t]
  · rw [V_main_arg3]
    congr 1; blk_ext [idx1_6 t, col_6 t]
  · rw [V_main_arg4]
    congr 1; blk_ext [idx2_6 t, col_6 t]

/-- The first moment. -/
theorem final7 (c : Dev nD) : (dats m 0 c).arrAt 7 cfg0.N
    = val_main_v7 (F := Ideal) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  unfold_payloads
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26]
  blk_simp [iblk]
  refine adamM_congr ?_ ?_
  · rw [layer_7 t]
    by_cases h : win0_7.index t 0 < 1
    · rw [if_pos h, dif_pos h, select_zero, V_main_arg1]
      congr 1; blk_ext [idx3_7 t, col_7 t]
    · rw [if_neg h, dif_neg h, select_one, V_main_arg2]
      congr 1; blk_ext [idx4_7 t, col_7 t]
  · rw [V_main_arg3]
    congr 1; blk_ext [idx1_7 t, col_7 t]

/-- The second moment. -/
theorem final8 (c : Dev nD) : (dats m 0 c).arrAt 8 cfg0.N
    = val_main_v13 (F := Ideal) (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8]
  frame_out
  unfold_payloads
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26]
  blk_simp [iblk]
  refine adamV_congr ?_ ?_
  · rw [layer_8 t]
    by_cases h : win0_8.index t 0 < 1
    · rw [if_pos h, dif_pos h, select_zero, V_main_arg1]
      congr 1; blk_ext [idx3_8 t, col_8 t]
    · rw [if_neg h, dif_neg h, select_one, V_main_arg2]
      congr 1; blk_ext [idx4_8 t, col_8 t]
  · rw [V_main_arg4]
    congr 1; blk_ext [idx2_8 t, col_8 t]

/-- From launches that agree on the arguments, kernel and reference end with the same results. -/
theorem algebraic : Cert.algebraic_AdamConvGdnIdeal_AdamConvGdnRefIdeal := fun m g m' g' _ hagree =>
  ⟨fun c => val_main_v2 (F := Ideal) (m ((c : Thread nD τ).loc main_arg1)) (m ((c : Thread nD τ).loc main_arg2)), fun c => val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)), fun c => val_main_v7 (F := Ideal) (m ((c : Thread nD τ).loc main_arg1)) (m ((c : Thread nD τ).loc main_arg2)) (m ((c : Thread nD τ).loc main_arg3)), fun c => val_main_v13 (F := Ideal) (m ((c : Thread nD τ).loc main_arg1)) (m ((c : Thread nD τ).loc main_arg2)) (m ((c : Thread nD τ).loc main_arg4)),
    (θ_run defs _ _).mono (fun _ h c => ⟨(h c).1.trans (final5 m c), (h c).2.1.trans (final6 m c), (h c).2.2.1.trans (final7 m c), (h c).2.2.2.1.trans (final8 m c), (h c).2.2.2.2⟩) (run_blocks m g),
    (θ_run Cert.AdamConvGdnRefIdeal.defs _ _).mono (fun _ h c => ⟨(h c).1.trans (by rw [(hagree c).2.1, (hagree c).2.2.1]; rfl),
        (h c).2.1.trans (by rw [(hagree c).1, (hagree c).2.1, (hagree c).2.2.1, (hagree c).2.2.2.1, (hagree c).2.2.2.2]; rfl),
        (h c).2.2.1.trans (by rw [(hagree c).2.1, (hagree c).2.2.1, (hagree c).2.2.2.1]; rfl),
        (h c).2.2.2.1.trans (by rw [(hagree c).2.1, (hagree c).2.2.1, (hagree c).2.2.2.2]; rfl), (h c).2.2.2.2⟩)
      (Cert.AdamConvGdnRefIdeal.Value.run m' g')⟩

end Cert.Proof.AdamConvGdn

end
-- ==== Proof.AdamSquare.lean ====
/- The optimizer's step of the square projections. -/
module

public import proofs.«01_k».proof.Proof.Gen.AdamSquareIdeal.Value
public import proofs.«01_k».proof.Proof.Gen.AdamSquareRefIdeal.Read
public import proofs.«01_k».proof.Defs
public import proofs.«01_k».proof.Proof.Adam
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.AdamSquare

open Cert.AdamSquareIdeal Cert.AdamSquareIdeal.Gen Cert.AdamSquareIdeal.Value Idealize.ShloMosaic Idealize.ShloMosaic.TcCoe Idealize.SL.Sem
open Cert.AdamSquareRefIdeal.Read Cert.Proof.Adam

variable (m : (ℓ : Loc nD τ sig) → Buf (Elt Ideal) ℓ)

/-- The blocks that a point reads and writes. -/
theorem idx0_5 : ∀ t : Fin cfg0.N, win0_0.index t = win0_5.index t := (by decide +kernel : ∀ t : Fin grid0.N, _)
theorem idx1_5 : ∀ t : Fin cfg0.N, win0_1.index t = win0_5.index t := (by decide +kernel : ∀ t : Fin grid0.N, _)
theorem idx2_5 : ∀ t : Fin cfg0.N, win0_2.index t = win0_5.index t := (by decide +kernel : ∀ t : Fin grid0.N, _)
theorem idx3_5 : ∀ t : Fin cfg0.N, win0_3.index t = ![win0_5.index t 1, 0] := (by decide +kernel : ∀ t : Fin grid0.N, _)
theorem idx4_5 : ∀ t : Fin cfg0.N, win0_4.index t = ![win0_5.index t 1, 0] := (by decide +kernel : ∀ t : Fin grid0.N, _)
theorem col_5 : ∀ t : Fin cfg0.N, win0_5.index t 2 = 0 := (by decide +kernel : ∀ t : Fin grid0.N, _)
theorem layer_5 : ∀ t : Fin cfg0.N, Scalar.cmpi CmpIPredicate.eq (BitVec.ofNat 32 (grid0.coords t 0).val) 1#32 = if win0_5.index t 0 < 1 then 0#1 else 1#1 := (by decide +kernel : ∀ t : Fin grid0.N, _)

/-- The blocks that a point reads and writes. -/
theorem idx0_6 : ∀ t : Fin cfg0.N, win0_0.index t = win0_6.index t := (by decide +kernel : ∀ t : Fin grid0.N, _)
theorem idx1_6 : ∀ t : Fin cfg0.N, win0_1.index t = win0_6.index t := (by decide +kernel : ∀ t : Fin grid0.N, _)
theorem idx2_6 : ∀ t : Fin cfg0.N, win0_2.index t = win0_6.index t := (by decide +kernel : ∀ t : Fin grid0.N, _)
theorem idx3_6 : ∀ t : Fin cfg0.N, win0_3.index t = ![win0_6.index t 1, 0] := (by decide +kernel : ∀ t : Fin grid0.N, _)
theorem idx4_6 : ∀ t : Fin cfg0.N, win0_4.index t = ![win0_6.index t 1, 0] := (by decide +kernel : ∀ t : Fin grid0.N, _)
theorem col_6 : ∀ t : Fin cfg0.N, win0_6.index t 2 = 0 := (by decide +kernel : ∀ t : Fin grid0.N, _)
theorem layer_6 : ∀ t : Fin cfg0.N, Scalar.cmpi CmpIPredicate.eq (BitVec.ofNat 32 (grid0.coords t 0).val) 1#32 = if win0_6.index t 0 < 1 then 0#1 else 1#1 := (by decide +kernel : ∀ t : Fin grid0.N, _)

/-- The blocks that a point reads and writes. -/
theorem idx0_7 : ∀ t : Fin cfg0.N, win0_0.index t = win0_7.index t := (by decide +kernel : ∀ t : Fin grid0.N, _)
theorem idx1_7 : ∀ t : Fin cfg0.N, win0_1.index t = win0_7.index t := (by decide +kernel : ∀ t : Fin grid0.N, _)
theorem idx2_7 : ∀ t : Fin cfg0.N, win0_2.index t = win0_7.index t := (by decide +kernel : ∀ t : Fin grid0.N, _)
theorem idx3_7 : ∀ t : Fin cfg0.N, win0_3.index t = ![win0_7.index t 1, 0] := (by decide +kernel : ∀ t : Fin grid0.N, _)
theorem idx4_7 : ∀ t : Fin cfg0.N, win0_4.index t = ![win0_7.index t 1, 0] := (by decide +kernel : ∀ t : Fin grid0.N, _)
theorem col_7 : ∀ t : Fin cfg0.N, win0_7.index t 2 = 0 := (by decide +kernel : ∀ t : Fin grid0.N, _)
theorem layer_7 : ∀ t : Fin cfg0.N, Scalar.cmpi CmpIPredicate.eq (BitVec.ofNat 32 (grid0.coords t 0).val) 1#32 = if win0_7.index t 0 < 1 then 0#1 else 1#1 := (by decide +kernel : ∀ t : Fin grid0.N, _)

/-- The blocks that a point reads and writes. -/
theorem idx0_8 : ∀ t : Fin cfg0.N, win0_0.index t = win0_8.index t := (by decide +kernel : ∀ t : Fin grid0.N, _)
theorem idx1_8 : ∀ t : Fin cfg0.N, win0_1.index t = win0_8.index t := (by decide +kernel : ∀ t : Fin grid0.N, _)
theorem idx2_8 : ∀ t : Fin cfg0.N, win0_2.index t = win0_8.index t := (by decide +kernel : ∀ t : Fin grid0.N, _)
theorem idx3_8 : ∀ t : Fin cfg0.N, win0_3.index t = ![win0_8.index t 1, 0] := (by decide +kernel : ∀ t : Fin grid0.N, _)
theorem idx4_8 : ∀ t : Fin cfg0.N, win0_4.index t = ![win0_8.index t 1, 0] := (by decide +kernel : ∀ t : Fin grid0.N, _)
theorem col_8 : ∀ t : Fin cfg0.N, win0_8.index t 2 = 0 := (by decide +kernel : ∀ t : Fin grid0.N, _)
theorem layer_8 : ∀ t : Fin cfg0.N, Scalar.cmpi CmpIPredicate.eq (BitVec.ofNat 32 (grid0.coords t 0).val) 1#32 = if win0_8.index t 0 < 1 then 0#1 else 1#1 := (by decide +kernel : ∀ t : Fin grid0.N, _)

/-- The gradient, as the step used it. -/
theorem final5 (c : Dev nD) : (dats m 0 c).arrAt 5 cfg0.N
    = val_main_v2 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  unfold_payloads
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26]
  blk_simp [iblk]
  · rw [layer_5 t]
    by_cases h : win0_5.index t 0 < 1
    · rw [if_pos h, dif_pos h, select_zero, V_main_arg1]
      congr 1; blk_ext [idx3_5 t, col_5 t]
    · rw [if_neg h, dif_neg h, select_one, V_main_arg2]
      congr 1; blk_ext [idx4_5 t, col_5 t]

/-- The change of the weights. -/
theorem final6 (c : Dev nD) : (dats m 0 c).arrAt 6 cfg0.N
    = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  unfold_payloads
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26]
  blk_simp [iblk]
  refine adamD_congr ?_ ?_ ?_ ?_
  · rw [V_main_arg0]
    congr 1; blk_ext [idx0_6 t, col_6 t]
  · rw [layer_6 t]
    by_cases h : win0_6.index t 0 < 1
    · rw [if_pos h, dif_pos h, select_zero, V_main_arg1]
      congr 1; blk_ext [idx3_6 t, col_6 t]
    · rw [if_neg h, dif_neg h, select_one, V_main_arg2]
      congr 1; blk_ext [idx4_6 t, col_6 t]
  · rw [V_main_arg3]
    congr 1; blk_ext [idx1_6 t, col_6 t]
  · rw [V_main_arg4]
    congr 1; blk_ext [idx2_6 t, col_6 t]

/-- The first moment. -/
theorem final7 (c : Dev nD) : (dats m 0 c).arrAt 7 cfg0.N
    = val_main_v7 (F := Ideal) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  unfold_payloads
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26]
  blk_simp [iblk]
  refine adamM_congr ?_ ?_
  · rw [layer_7 t]
    by_cases h : win0_7.index t 0 < 1
    · rw [if_pos h, dif_pos h, select_zero, V_main_arg1]
      congr 1; blk_ext [idx3_7 t, col_7 t]
    · rw [if_neg h, dif_neg h, select_one, V_main_arg2]
      congr 1; blk_ext [idx4_7 t, col_7 t]
  · rw [V_main_arg3]
    congr 1; blk_ext [idx1_7 t, col_7 t]

/-- The second moment. -/
theorem final8 (c : Dev nD) : (dats m 0 c).arrAt 8 cfg0.N
    = val_main_v13 (F := Ideal) (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8]
  frame_out
  unfold_payloads
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26]
  blk_simp [iblk]
  refine adamV_congr ?_ ?_
  · rw [layer_8 t]
    by_cases h : win0_8.index t 0 < 1
    · rw [if_pos h, dif_pos h, select_zero, V_main_arg1]
      congr 1; blk_ext [idx3_8 t, col_8 t]
    · rw [if_neg h, dif_neg h, select_one, V_main_arg2]
      congr 1; blk_ext [idx4_8 t, col_8 t]
  · rw [V_main_arg4]
    congr 1; blk_ext [idx2_8 t, col_8 t]

/-- From launches that agree on the arguments, kernel and reference end with the same results. -/
theorem algebraic : Cert.algebraic_AdamSquareIdeal_AdamSquareRefIdeal := fun m g m' g' _ hagree =>
  ⟨fun c => val_main_v2 (F := Ideal) (m ((c : Thread nD τ).loc main_arg1)) (m ((c : Thread nD τ).loc main_arg2)), fun c => val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)), fun c => val_main_v7 (F := Ideal) (m ((c : Thread nD τ).loc main_arg1)) (m ((c : Thread nD τ).loc main_arg2)) (m ((c : Thread nD τ).loc main_arg3)), fun c => val_main_v13 (F := Ideal) (m ((c : Thread nD τ).loc main_arg1)) (m ((c : Thread nD τ).loc main_arg2)) (m ((c : Thread nD τ).loc main_arg4)),
    (θ_run defs _ _).mono (fun _ h c => ⟨(h c).1.trans (final5 m c), (h c).2.1.trans (final6 m c), (h c).2.2.1.trans (final7 m c), (h c).2.2.2.1.trans (final8 m c), (h c).2.2.2.2⟩) (run_blocks m g),
    (θ_run Cert.AdamSquareRefIdeal.defs _ _).mono (fun _ h c => ⟨(h c).1.trans (by rw [(hagree c).2.1, (hagree c).2.2.1]; rfl),
        (h c).2.1.trans (by rw [(hagree c).1, (hagree c).2.1, (hagree c).2.2.1, (hagree c).2.2.2.1, (hagree c).2.2.2.2]; rfl),
        (h c).2.2.1.trans (by rw [(hagree c).2.1, (hagree c).2.2.1, (hagree c).2.2.2.1]; rfl),
        (h c).2.2.2.1.trans (by rw [(hagree c).2.1, (hagree c).2.2.1, (hagree c).2.2.2.2]; rfl), (h c).2.2.2.2⟩)
      (Cert.AdamSquareRefIdeal.Value.run m' g')⟩

end Cert.Proof.AdamSquare

end
-- ==== Proof.AdamFfnDown.lean ====
/- The optimizer's step of the feed-forward block's second product. -/
module

public import proofs.«01_k».proof.Proof.Gen.AdamFfnDownIdeal.Value
public import proofs.«01_k».proof.Proof.Gen.AdamFfnDownRefIdeal.Read
public import proofs.«01_k».proof.Defs
public import proofs.«01_k».proof.Proof.Adam
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.AdamFfnDown

open Cert.AdamFfnDownIdeal Cert.AdamFfnDownIdeal.Gen Cert.AdamFfnDownIdeal.Value Idealize.ShloMosaic Idealize.ShloMosaic.TcCoe Idealize.SL.Sem
open Cert.AdamFfnDownRefIdeal.Read Cert.Proof.Adam

variable (m : (ℓ : Loc nD τ sig) → Buf (Elt Ideal) ℓ)

/-- The blocks that a point reads and writes. -/
theorem idx0_5 : ∀ t : Fin cfg0.N, win0_0.index t = win0_5.index t := (by decide +kernel : ∀ t : Fin grid0.N, _)
theorem idx1_5 : ∀ t : Fin cfg0.N, win0_1.index t = win0_5.index t := (by decide +kernel : ∀ t : Fin grid0.N, _)
theorem idx2_5 : ∀ t : Fin cfg0.N, win0_2.index t = win0_5.index t := (by decide +kernel : ∀ t : Fin grid0.N, _)
theorem idx3_5 : ∀ t : Fin cfg0.N, win0_3.index t = ![win0_5.index t 1, 0] := (by decide +kernel : ∀ t : Fin grid0.N, _)
theorem idx4_5 : ∀ t : Fin cfg0.N, win0_4.index t = ![win0_5.index t 1, 0] := (by decide +kernel : ∀ t : Fin grid0.N, _)
theorem col_5 : ∀ t : Fin cfg0.N, win0_5.index t 2 = 0 := (by decide +kernel : ∀ t : Fin grid0.N, _)
theorem layer_5 : ∀ t : Fin cfg0.N, Scalar.cmpi CmpIPredicate.eq (BitVec.ofNat 32 (grid0.coords t 0).val) 1#32 = if win0_5.index t 0 < 1 then 0#1 else 1#1 := (by decide +kernel : ∀ t : Fin grid0.N, _)

/-- The blocks that a point reads and writes. -/
theorem idx0_6 : ∀ t : Fin cfg0.N, win0_0.index t = win0_6.index t := (by decide +kernel : ∀ t : Fin grid0.N, _)
theorem idx1_6 : ∀ t : Fin cfg0.N, win0_1.index t = win0_6.index t := (by decide +kernel : ∀ t : Fin grid0.N, _)
theorem idx2_6 : ∀ t : Fin cfg0.N, win0_2.index t = win0_6.index t := (by decide +kernel : ∀ t : Fin grid0.N, _)
theorem idx3_6 : ∀ t : Fin cfg0.N, win0_3.index t = ![win0_6.index t 1, 0] := (by decide +kernel : ∀ t : Fin grid0.N, _)
theorem idx4_6 : ∀ t : Fin cfg0.N, win0_4.index t = ![win0_6.index t 1, 0] := (by decide +kernel : ∀ t : Fin grid0.N, _)
theorem col_6 : ∀ t : Fin cfg0.N, win0_6.index t 2 = 0 := (by decide +kernel : ∀ t : Fin grid0.N, _)
theorem layer_6 : ∀ t : Fin cfg0.N, Scalar.cmpi CmpIPredicate.eq (BitVec.ofNat 32 (grid0.coords t 0).val) 1#32 = if win0_6.index t 0 < 1 then 0#1 else 1#1 := (by decide +kernel : ∀ t : Fin grid0.N, _)

/-- The blocks that a point reads and writes. -/
theorem idx0_7 : ∀ t : Fin cfg0.N, win0_0.index t = win0_7.index t := (by decide +kernel : ∀ t : Fin grid0.N, _)
theorem idx1_7 : ∀ t : Fin cfg0.N, win0_1.index t = win0_7.index t := (by decide +kernel : ∀ t : Fin grid0.N, _)
theorem idx2_7 : ∀ t : Fin cfg0.N, win0_2.index t = win0_7.index t := (by decide +kernel : ∀ t : Fin grid0.N, _)
theorem idx3_7 : ∀ t : Fin cfg0.N, win0_3.index t = ![win0_7.index t 1, 0] := (by decide +kernel : ∀ t : Fin grid0.N, _)
theorem idx4_7 : ∀ t : Fin cfg0.N, win0_4.index t = ![win0_7.index t 1, 0] := (by decide +kernel : ∀ t : Fin grid0.N, _)
theorem col_7 : ∀ t : Fin cfg0.N, win0_7.index t 2 = 0 := (by decide +kernel : ∀ t : Fin grid0.N, _)
theorem layer_7 : ∀ t : Fin cfg0.N, Scalar.cmpi CmpIPredicate.eq (BitVec.ofNat 32 (grid0.coords t 0).val) 1#32 = if win0_7.index t 0 < 1 then 0#1 else 1#1 := (by decide +kernel : ∀ t : Fin grid0.N, _)

/-- The blocks that a point reads and writes. -/
theorem idx0_8 : ∀ t : Fin cfg0.N, win0_0.index t = win0_8.index t := (by decide +kernel : ∀ t : Fin grid0.N, _)
theorem idx1_8 : ∀ t : Fin cfg0.N, win0_1.index t = win0_8.index t := (by decide +kernel : ∀ t : Fin grid0.N, _)
theorem idx2_8 : ∀ t : Fin cfg0.N, win0_2.index t = win0_8.index t := (by decide +kernel : ∀ t : Fin grid0.N, _)
theorem idx3_8 : ∀ t : Fin cfg0.N, win0_3.index t = ![win0_8.index t 1, 0] := (by decide +kernel : ∀ t : Fin grid0.N, _)
theorem idx4_8 : ∀ t : Fin cfg0.N, win0_4.index t = ![win0_8.index t 1, 0] := (by decide +kernel : ∀ t : Fin grid0.N, _)
theorem col_8 : ∀ t : Fin cfg0.N, win0_8.index t 2 = 0 := (by decide +kernel : ∀ t : Fin grid0.N, _)
theorem layer_8 : ∀ t : Fin cfg0.N, Scalar.cmpi CmpIPredicate.eq (BitVec.ofNat 32 (grid0.coords t 0).val) 1#32 = if win0_8.index t 0 < 1 then 0#1 else 1#1 := (by decide +kernel : ∀ t : Fin grid0.N, _)

/-- The gradient, as the step used it. -/
theorem final5 (c : Dev nD) : (dats m 0 c).arrAt 5 cfg0.N
    = val_main_v2 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  unfold_payloads
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26]
  blk_simp [iblk]
  · rw [layer_5 t]
    by_cases h : win0_5.index t 0 < 1
    · rw [if_pos h, dif_pos h, select_zero, V_main_arg1]
      congr 1; blk_ext [idx3_5 t, col_5 t]
    · rw [if_neg h, dif_neg h, select_one, V_main_arg2]
      congr 1; blk_ext [idx4_5 t, col_5 t]

/-- The change of the weights. -/
theorem final6 (c : Dev nD) : (dats m 0 c).arrAt 6 cfg0.N
    = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  unfold_payloads
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26]
  blk_simp [iblk]
  refine adamD_congr ?_ ?_ ?_ ?_
  · rw [V_main_arg0]
    congr 1; blk_ext [idx0_6 t, col_6 t]
  · rw [layer_6 t]
    by_cases h : win0_6.index t 0 < 1
    · rw [if_pos h, dif_pos h, select_zero, V_main_arg1]
      congr 1; blk_ext [idx3_6 t, col_6 t]
    · rw [if_neg h, dif_neg h, select_one, V_main_arg2]
      congr 1; blk_ext [idx4_6 t, col_6 t]
  · rw [V_main_arg3]
    congr 1; blk_ext [idx1_6 t, col_6 t]
  · rw [V_main_arg4]
    congr 1; blk_ext [idx2_6 t, col_6 t]

/-- The first moment. -/
theorem final7 (c : Dev nD) : (dats m 0 c).arrAt 7 cfg0.N
    = val_main_v7 (F := Ideal) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  unfold_payloads
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26]
  blk_simp [iblk]
  refine adamM_congr ?_ ?_
  · rw [layer_7 t]
    by_cases h : win0_7.index t 0 < 1
    · rw [if_pos h, dif_pos h, select_zero, V_main_arg1]
      congr 1; blk_ext [idx3_7 t, col_7 t]
    · rw [if_neg h, dif_neg h, select_one, V_main_arg2]
      congr 1; blk_ext [idx4_7 t, col_7 t]
  · rw [V_main_arg3]
    congr 1; blk_ext [idx1_7 t, col_7 t]

/-- The second moment. -/
theorem final8 (c : Dev nD) : (dats m 0 c).arrAt 8 cfg0.N
    = val_main_v13 (F := Ideal) (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8]
  frame_out
  unfold_payloads
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26]
  blk_simp [iblk]
  refine adamV_congr ?_ ?_
  · rw [layer_8 t]
    by_cases h : win0_8.index t 0 < 1
    · rw [if_pos h, dif_pos h, select_zero, V_main_arg1]
      congr 1; blk_ext [idx3_8 t, col_8 t]
    · rw [if_neg h, dif_neg h, select_one, V_main_arg2]
      congr 1; blk_ext [idx4_8 t, col_8 t]
  · rw [V_main_arg4]
    congr 1; blk_ext [idx2_8 t, col_8 t]

/-- From launches that agree on the arguments, kernel and reference end with the same results. -/
theorem algebraic : Cert.algebraic_AdamFfnDownIdeal_AdamFfnDownRefIdeal := fun m g m' g' _ hagree =>
  ⟨fun c => val_main_v2 (F := Ideal) (m ((c : Thread nD τ).loc main_arg1)) (m ((c : Thread nD τ).loc main_arg2)), fun c => val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)), fun c => val_main_v7 (F := Ideal) (m ((c : Thread nD τ).loc main_arg1)) (m ((c : Thread nD τ).loc main_arg2)) (m ((c : Thread nD τ).loc main_arg3)), fun c => val_main_v13 (F := Ideal) (m ((c : Thread nD τ).loc main_arg1)) (m ((c : Thread nD τ).loc main_arg2)) (m ((c : Thread nD τ).loc main_arg4)),
    (θ_run defs _ _).mono (fun _ h c => ⟨(h c).1.trans (final5 m c), (h c).2.1.trans (final6 m c), (h c).2.2.1.trans (final7 m c), (h c).2.2.2.1.trans (final8 m c), (h c).2.2.2.2⟩) (run_blocks m g),
    (θ_run Cert.AdamFfnDownRefIdeal.defs _ _).mono (fun _ h c => ⟨(h c).1.trans (by rw [(hagree c).2.1, (hagree c).2.2.1]; rfl),
        (h c).2.1.trans (by rw [(hagree c).1, (hagree c).2.1, (hagree c).2.2.1, (hagree c).2.2.2.1, (hagree c).2.2.2.2]; rfl),
        (h c).2.2.1.trans (by rw [(hagree c).2.1, (hagree c).2.2.1, (hagree c).2.2.2.1]; rfl),
        (h c).2.2.2.1.trans (by rw [(hagree c).2.1, (hagree c).2.2.1, (hagree c).2.2.2.2]; rfl), (h c).2.2.2.2⟩)
      (Cert.AdamFfnDownRefIdeal.Value.run m' g')⟩

end Cert.Proof.AdamFfnDown

end
-- ==== Proof.AdamFfnIn.lean ====
/- The optimizer's step of the feed-forward block's first product, stored transposed. -/
module

public import proofs.«01_k».proof.Proof.Gen.AdamFfnInIdeal.Value
public import proofs.«01_k».proof.Proof.Gen.AdamFfnInRefIdeal.Read
public import proofs.«01_k».proof.Defs
public import proofs.«01_k».proof.Proof.Adam
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.AdamFfnIn

open Cert.AdamFfnInIdeal Cert.AdamFfnInIdeal.Gen Cert.AdamFfnInIdeal.Value Idealize.ShloMosaic Idealize.ShloMosaic.TcCoe Idealize.SL.Sem
open Cert.AdamFfnInRefIdeal.Read Cert.Proof.Adam

variable (m : (ℓ : Loc nD τ sig) → Buf (Elt Ideal) ℓ)

/-- The arrays as the call is given them. -/
theorem row0 (c : Dev nD) (j : S2x704x1024.Idx) : V m c main_v0 j = m ((c : Thread nD τ).loc main_arg0) (ix3 (j 0) (j 2) (j 1)) := by
  entry_read
  pointwise

theorem row1 (c : Dev nD) (j : S2x704x1024.Idx) : V m c main_v3 j = m ((c : Thread nD τ).loc main_arg3) (ix3 (j 0) (j 2) (j 1)) := by
  entry_read
  pointwise

theorem row2 (c : Dev nD) (j : S2x704x1024.Idx) : V m c main_v4 j = m ((c : Thread nD τ).loc main_arg4) (ix3 (j 0) (j 2) (j 1)) := by
  entry_read
  pointwise

theorem row3 (c : Dev nD) (j : S704x1024.Idx) : V m c main_v1 j = m ((c : Thread nD τ).loc main_arg1) (ix2 (j 1) (j 0)) := by
  entry_read
  pointwise

theorem row4 (c : Dev nD) (j : S704x1024.Idx) : V m c main_v2 j = m ((c : Thread nD τ).loc main_arg2) (ix2 (j 1) (j 0)) := by
  entry_read
  pointwise

/-- The blocks that a point reads and writes. -/
theorem idx0_5 : ∀ t : Fin cfg0.N, win0_0.index t = win0_5.index t := (by decide +kernel : ∀ t : Fin grid0.N, _)
theorem idx1_5 : ∀ t : Fin cfg0.N, win0_1.index t = win0_5.index t := (by decide +kernel : ∀ t : Fin grid0.N, _)
theorem idx2_5 : ∀ t : Fin cfg0.N, win0_2.index t = win0_5.index t := (by decide +kernel : ∀ t : Fin grid0.N, _)
theorem idx3_5 : ∀ t : Fin cfg0.N, win0_3.index t = ![win0_5.index t 1, 0] := (by decide +kernel : ∀ t : Fin grid0.N, _)
theorem idx4_5 : ∀ t : Fin cfg0.N, win0_4.index t = ![win0_5.index t 1, 0] := (by decide +kernel : ∀ t : Fin grid0.N, _)
theorem col_5 : ∀ t : Fin cfg0.N, win0_5.index t 2 = 0 := (by decide +kernel : ∀ t : Fin grid0.N, _)
theorem layer_5 : ∀ t : Fin cfg0.N, Scalar.cmpi CmpIPredicate.eq (BitVec.ofNat 32 (grid0.coords t 0).val) 1#32 = if win0_5.index t 0 < 1 then 0#1 else 1#1 := (by decide +kernel : ∀ t : Fin grid0.N, _)

/-- The blocks that a point reads and writes. -/
theorem idx0_6 : ∀ t : Fin cfg0.N, win0_0.index t = win0_6.index t := (by decide +kernel : ∀ t : Fin grid0.N, _)
theorem idx1_6 : ∀ t : Fin cfg0.N, win0_1.index t = win0_6.index t := (by decide +kernel : ∀ t : Fin grid0.N, _)
theorem idx2_6 : ∀ t : Fin cfg0.N, win0_2.index t = win0_6.index t := (by decide +kernel : ∀ t : Fin grid0.N, _)
theorem idx3_6 : ∀ t : Fin cfg0.N, win0_3.index t = ![win0_6.index t 1, 0] := (by decide +kernel : ∀ t : Fin grid0.N, _)
theorem idx4_6 : ∀ t : Fin cfg0.N, win0_4.index t = ![win0_6.index t 1, 0] := (by decide +kernel : ∀ t : Fin grid0.N, _)
theorem col_6 : ∀ t : Fin cfg0.N, win0_6.index t 2 = 0 := (by decide +kernel : ∀ t : Fin grid0.N, _)
theorem layer_6 : ∀ t : Fin cfg0.N, Scalar.cmpi CmpIPredicate.eq (BitVec.ofNat 32 (grid0.coords t 0).val) 1#32 = if win0_6.index t 0 < 1 then 0#1 else 1#1 := (by decide +kernel : ∀ t : Fin grid0.N, _)

/-- The blocks that a point reads and writes. -/
theorem idx0_7 : ∀ t : Fin cfg0.N, win0_0.index t = win0_7.index t := (by decide +kernel : ∀ t : Fin grid0.N, _)
theorem idx1_7 : ∀ t : Fin cfg0.N, win0_1.index t = win0_7.index t := (by decide +kernel : ∀ t : Fin grid0.N, _)
theorem idx2_7 : ∀ t : Fin cfg0.N, win0_2.index t = win0_7.index t := (by decide +kernel : ∀ t : Fin grid0.N, _)
theorem idx3_7 : ∀ t : Fin cfg0.N, win0_3.index t = ![win0_7.index t 1, 0] := (by decide +kernel : ∀ t : Fin grid0.N, _)
theorem idx4_7 : ∀ t : Fin cfg0.N, win0_4.index t = ![win0_7.index t 1, 0] := (by decide +kernel : ∀ t : Fin grid0.N, _)
theorem col_7 : ∀ t : Fin cfg0.N, win0_7.index t 2 = 0 := (by decide +kernel : ∀ t : Fin grid0.N, _)
theorem layer_7 : ∀ t : Fin cfg0.N, Scalar.cmpi CmpIPredicate.eq (BitVec.ofNat 32 (grid0.coords t 0).val) 1#32 = if win0_7.index t 0 < 1 then 0#1 else 1#1 := (by decide +kernel : ∀ t : Fin grid0.N, _)

/-- The blocks that a point reads and writes. -/
theorem idx0_8 : ∀ t : Fin cfg0.N, win0_0.index t = win0_8.index t := (by decide +kernel : ∀ t : Fin grid0.N, _)
theorem idx1_8 : ∀ t : Fin cfg0.N, win0_1.index t = win0_8.index t := (by decide +kernel : ∀ t : Fin grid0.N, _)
theorem idx2_8 : ∀ t : Fin cfg0.N, win0_2.index t = win0_8.index t := (by decide +kernel : ∀ t : Fin grid0.N, _)
theorem idx3_8 : ∀ t : Fin cfg0.N, win0_3.index t = ![win0_8.index t 1, 0] := (by decide +kernel : ∀ t : Fin grid0.N, _)
theorem idx4_8 : ∀ t : Fin cfg0.N, win0_4.index t = ![win0_8.index t 1, 0] := (by decide +kernel : ∀ t : Fin grid0.N, _)
theorem col_8 : ∀ t : Fin cfg0.N, win0_8.index t 2 = 0 := (by decide +kernel : ∀ t : Fin grid0.N, _)
theorem layer_8 : ∀ t : Fin cfg0.N, Scalar.cmpi CmpIPredicate.eq (BitVec.ofNat 32 (grid0.coords t 0).val) 1#32 = if win0_8.index t 0 < 1 then 0#1 else 1#1 := (by decide +kernel : ∀ t : Fin grid0.N, _)

/-- The gradient, as the step used it. -/
theorem final5 (c : Dev nD) : (dats m 0 c).arrAt 5 cfg0.N
    = val_main_v27 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  unfold_payloads
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, val_main_v27, val_main_v28, val_main_v29, val_main_v30]
  blk_simp [iblk]
  · rw [layer_5 t]
    by_cases h : win0_5.index t 0 < 1
    · rw [if_pos h, dif_pos h, select_zero, row3]
      congr 1; blk_ext [idx3_5 t, col_5 t]
    · rw [if_neg h, dif_neg h, select_one, row4]
      congr 1; blk_ext [idx4_5 t, col_5 t]

/-- The change of the weights. -/
theorem final6 (c : Dev nD) : (dats m 0 c).arrAt 6 cfg0.N
    = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  unfold_payloads
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, val_main_v27, val_main_v28, val_main_v29, val_main_v30]
  blk_simp [iblk]
  refine adamD_congr ?_ ?_ ?_ ?_
  · rw [row0]
    congr 1; blk_ext [idx0_6 t, col_6 t]
  · rw [layer_6 t]
    by_cases h : win0_6.index t 0 < 1
    · rw [if_pos h, dif_pos h, select_zero, row3]
      congr 1; blk_ext [idx3_6 t, col_6 t]
    · rw [if_neg h, dif_neg h, select_one, row4]
      congr 1; blk_ext [idx4_6 t, col_6 t]
  · rw [row1]
    congr 1; blk_ext [idx1_6 t, col_6 t]
  · rw [row2]
    congr 1; blk_ext [idx2_6 t, col_6 t]

/-- The first moment. -/
theorem final7 (c : Dev nD) : (dats m 0 c).arrAt 7 cfg0.N
    = val_main_v29 (F := Ideal) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  unfold_payloads
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, val_main_v27, val_main_v28, val_main_v29, val_main_v30]
  blk_simp [iblk]
  refine adamM_congr ?_ ?_
  · rw [layer_7 t]
    by_cases h : win0_7.index t 0 < 1
    · rw [if_pos h, dif_pos h, select_zero, row3]
      congr 1; blk_ext [idx3_7 t, col_7 t]
    · rw [if_neg h, dif_neg h, select_one, row4]
      congr 1; blk_ext [idx4_7 t, col_7 t]
  · rw [row1]
    congr 1; blk_ext [idx1_7 t, col_7 t]

/-- The second moment. -/
theorem final8 (c : Dev nD) : (dats m 0 c).arrAt 8 cfg0.N
    = val_main_v30 (F := Ideal) (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8]
  frame_out
  unfold_payloads
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, val_main_v27, val_main_v28, val_main_v29, val_main_v30]
  blk_simp [iblk]
  refine adamV_congr ?_ ?_
  · rw [layer_8 t]
    by_cases h : win0_8.index t 0 < 1
    · rw [if_pos h, dif_pos h, select_zero, row3]
      congr 1; blk_ext [idx3_8 t, col_8 t]
    · rw [if_neg h, dif_neg h, select_one, row4]
      congr 1; blk_ext [idx4_8 t, col_8 t]
  · rw [row2]
    congr 1; blk_ext [idx2_8 t, col_8 t]

/-- From launches that agree on the arguments, kernel and reference end with the same results. -/
theorem algebraic : Cert.algebraic_AdamFfnInIdeal_AdamFfnInRefIdeal := fun m g m' g' _ hagree =>
  ⟨fun c => val_main_v27 (F := Ideal) (m ((c : Thread nD τ).loc main_arg1)) (m ((c : Thread nD τ).loc main_arg2)), fun c => val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)), fun c => val_main_v29 (F := Ideal) (m ((c : Thread nD τ).loc main_arg1)) (m ((c : Thread nD τ).loc main_arg2)) (m ((c : Thread nD τ).loc main_arg3)), fun c => val_main_v30 (F := Ideal) (m ((c : Thread nD τ).loc main_arg1)) (m ((c : Thread nD τ).loc main_arg2)) (m ((c : Thread nD τ).loc main_arg4)),
    (θ_run defs _ _).mono (fun _ h c => ⟨(h c).1.trans (final5 m c), (h c).2.1.trans (final6 m c), (h c).2.2.1.trans (final7 m c), (h c).2.2.2.1.trans (final8 m c), (h c).2.2.2.2⟩) (run_blocks m g),
    (θ_run Cert.AdamFfnInRefIdeal.defs _ _).mono (fun _ h c => ⟨(h c).1.trans (by rw [(hagree c).2.1, (hagree c).2.2.1]; rfl),
        (h c).2.1.trans (by rw [(hagree c).1, (hagree c).2.1, (hagree c).2.2.1, (hagree c).2.2.2.1, (hagree c).2.2.2.2]; rfl),
        (h c).2.2.1.trans (by rw [(hagree c).2.1, (hagree c).2.2.1, (hagree c).2.2.2.1]; rfl),
        (h c).2.2.2.1.trans (by rw [(hagree c).2.1, (hagree c).2.2.1, (hagree c).2.2.2.2]; rfl), (h c).2.2.2.2⟩)
      (Cert.AdamFfnInRefIdeal.Value.run m' g')⟩

end Cert.Proof.AdamFfnIn

end
-- ==== Proof.AdamIn.lean ====
/- The optimizer's step of the input projection, stored by columns. -/
module

public import proofs.«01_k».proof.Proof.Gen.AdamInIdeal.Value
public import proofs.«01_k».proof.Proof.Gen.AdamInRefIdeal.Read
public import proofs.«01_k».proof.Defs
public import proofs.«01_k».proof.Proof.Adam
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.AdamIn

open Cert.AdamInIdeal Cert.AdamInIdeal.Gen Cert.AdamInIdeal.Value Idealize.ShloMosaic Idealize.ShloMosaic.TcCoe Idealize.SL.Sem
open Cert.AdamInRefIdeal.Read Cert.Proof.Adam

variable (m : (ℓ : Loc nD τ sig) → Buf (Elt Ideal) ℓ)

/-- The arrays as the call is given them. -/
theorem row0 (c : Dev nD) (j : S1092x2x1024.Idx) : V m c main_v0 j = m ((c : Thread nD τ).loc main_arg0) (ix3 (j 1) (j 2) (j 0)) := by
  entry_read
  pointwise

theorem row2 (c : Dev nD) (j : S1092x2x1024.Idx) : V m c main_v6 j = m ((c : Thread nD τ).loc main_arg3) (ix3 (j 1) (j 2) (j 0)) := by
  entry_read
  pointwise

theorem row3 (c : Dev nD) (j : S1092x2x1024.Idx) : V m c main_v7 j = m ((c : Thread nD τ).loc main_arg4) (ix3 (j 1) (j 2) (j 0)) := by
  entry_read
  pointwise

theorem row1 (c : Dev nD) (j : S1092x2x1024.Idx) : V m c main_v5 j = if _ : (j 1 : ℕ) < 1 then m ((c : Thread nD τ).loc main_arg1) (ix2 (j 2) (j 0)) else m ((c : Thread nD τ).loc main_arg2) (ix2 (j 2) (j 0)) := by
  entry_read
  pointwise

/-- The blocks that a point reads and writes. -/
theorem idx0_4 : ∀ t : Fin cfg0.N, win0_0.index t = win0_4.index t := (by decide +kernel : ∀ t : Fin grid0.N, _)
theorem idx2_4 : ∀ t : Fin cfg0.N, win0_2.index t = win0_4.index t := (by decide +kernel : ∀ t : Fin grid0.N, _)
theorem idx3_4 : ∀ t : Fin cfg0.N, win0_3.index t = win0_4.index t := (by decide +kernel : ∀ t : Fin grid0.N, _)
theorem idx1_4 : ∀ t : Fin cfg0.N, win0_1.index t = win0_4.index t := (by decide +kernel : ∀ t : Fin grid0.N, _)

/-- The blocks that a point reads and writes. -/
theorem idx0_5 : ∀ t : Fin cfg0.N, win0_0.index t = win0_5.index t := (by decide +kernel : ∀ t : Fin grid0.N, _)
theorem idx2_5 : ∀ t : Fin cfg0.N, win0_2.index t = win0_5.index t := (by decide +kernel : ∀ t : Fin grid0.N, _)
theorem idx3_5 : ∀ t : Fin cfg0.N, win0_3.index t = win0_5.index t := (by decide +kernel : ∀ t : Fin grid0.N, _)
theorem idx1_5 : ∀ t : Fin cfg0.N, win0_1.index t = win0_5.index t := (by decide +kernel : ∀ t : Fin grid0.N, _)

/-- The blocks that a point reads and writes. -/
theorem idx0_6 : ∀ t : Fin cfg0.N, win0_0.index t = win0_6.index t := (by decide +kernel : ∀ t : Fin grid0.N, _)
theorem idx2_6 : ∀ t : Fin cfg0.N, win0_2.index t = win0_6.index t := (by decide +kernel : ∀ t : Fin grid0.N, _)
theorem idx3_6 : ∀ t : Fin cfg0.N, win0_3.index t = win0_6.index t := (by decide +kernel : ∀ t : Fin grid0.N, _)
theorem idx1_6 : ∀ t : Fin cfg0.N, win0_1.index t = win0_6.index t := (by decide +kernel : ∀ t : Fin grid0.N, _)

/-- The change of the weights. -/
theorem final4 (c : Dev nD) : (dats m 0 c).arrAt 4 cfg0.N
    = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 4 _ (by decide +kernel) fun t hf y => ?_
  blk_simp
  rw [after0_4]
  frame_out
  unfold_payloads
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, val_main_v27, val_main_v28, val_main_v29]
  blk_simp [iblk]
  refine adamD_congr ?_ ?_ ?_ ?_
  · rw [row0]
    congr 1; blk_ext [idx0_4 t]
  · rw [row1]
    refine dite_eq_dite ?_ ?_ ?_
    · blk_simp; rw [idx1_4 t]
    · congr 1; blk_ext [idx1_4 t]
    · congr 1; blk_ext [idx1_4 t]
  · rw [row2]
    congr 1; blk_ext [idx2_4 t]
  · rw [row3]
    congr 1; blk_ext [idx3_4 t]

/-- The first moment. -/
theorem final5 (c : Dev nD) : (dats m 0 c).arrAt 5 cfg0.N
    = val_main_v28 (F := Ideal) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  unfold_payloads
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, val_main_v27, val_main_v28, val_main_v29]
  blk_simp [iblk]
  refine adamM_congr ?_ ?_
  · rw [row1]
    refine dite_eq_dite ?_ ?_ ?_
    · blk_simp; rw [idx1_5 t]
    · congr 1; blk_ext [idx1_5 t]
    · congr 1; blk_ext [idx1_5 t]
  · rw [row2]
    congr 1; blk_ext [idx2_5 t]

/-- The second moment. -/
theorem final6 (c : Dev nD) : (dats m 0 c).arrAt 6 cfg0.N
    = val_main_v29 (F := Ideal) (m ((c : Thread nD τ).loc main_arg1)) (m ((c : Thread nD τ).loc main_arg2)) (m ((c : Thread nD τ).loc main_arg4)) := by
  refine (dats m 0 c).arrAt_eq_of_covers 6 _ (by decide +kernel) fun t hf y => ?_
  blk_simp
  rw [after0_6]
  frame_out
  unfold_payloads
  pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26, val_main_v27, val_main_v28, val_main_v29]
  blk_simp [iblk]
  refine adamV_congr ?_ ?_
  · rw [row1]
    refine dite_eq_dite ?_ ?_ ?_
    · blk_simp; rw [idx1_6 t]
    · congr 1; blk_ext [idx1_6 t]
    · congr 1; blk_ext [idx1_6 t]
  · rw [row3]
    congr 1; blk_ext [idx3_6 t]

/-- From launches that agree on the arguments, kernel and reference end with the same results. -/
theorem algebraic : Cert.algebraic_AdamInIdeal_AdamInRefIdeal := fun m g m' g' _ hagree =>
  ⟨fun c => val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)), fun c => val_main_v28 (F := Ideal) (m ((c : Thread nD τ).loc main_arg1)) (m ((c : Thread nD τ).loc main_arg2)) (m ((c : Thread nD τ).loc main_arg3)), fun c => val_main_v29 (F := Ideal) (m ((c : Thread nD τ).loc main_arg1)) (m ((c : Thread nD τ).loc main_arg2)) (m ((c : Thread nD τ).loc main_arg4)),
    (θ_run defs _ _).mono (fun _ h c => ⟨(h c).1.trans (final4 m c), (h c).2.1.trans (final5 m c), (h c).2.2.1.trans (final6 m c), (h c).2.2.2⟩) (run_blocks m g),
    (θ_run Cert.AdamInRefIdeal.defs _ _).mono (fun _ h c => ⟨(h c).1.trans (by rw [(hagree c).1, (hagree c).2.1, (hagree c).2.2.1, (hagree c).2.2.2.1, (hagree c).2.2.2.2]; rfl),
        (h c).2.1.trans (by rw [(hagree c).2.1, (hagree c).2.2.1, (hagree c).2.2.2.1]; rfl),
        (h c).2.2.1.trans (by rw [(hagree c).2.1, (hagree c).2.2.1, (hagree c).2.2.2.2]; rfl), (h c).2.2.2⟩)
      (Cert.AdamInRefIdeal.Value.run m' g')⟩

end Cert.Proof.AdamIn

end
-- ==== Proof.lean ====
module

public import proofs.«01_k».proof.Defs
public import proofs.«01_k».proof.Proof.Gen.Pre_ffn_finite
public import proofs.«01_k».proof.Proof.Gen.Pre_norm_finite
public import proofs.«01_k».proof.Proof.Gen.Pre_conv_ssm_finite
public import proofs.«01_k».proof.Proof.Gen.Pre_conv_gdn_finite
public import proofs.«01_k».proof.Proof.Gen.Pre_ssd_finite
public import proofs.«01_k».proof.Proof.Gen.Pre_loss_finite
public import proofs.«01_k».proof.Proof.Gen.On_gate_columns
public import proofs.«01_k».proof.Proof.Gen.FfnActGrad.Frame
public import proofs.«01_k».proof.Proof.Gen.FfnActGradIdeal.Frame
public import proofs.«01_k».proof.Proof.Gen.FfnActGradRefIdeal.Run
public import proofs.«01_k».proof.Proof.FfnActGrad
public import proofs.«01_k».proof.Proof.Gen.MergeGrad.Frame
public import proofs.«01_k».proof.Proof.Gen.MergeGradIdeal.Frame
public import proofs.«01_k».proof.Proof.Gen.MergeGradRefIdeal.Run
public import proofs.«01_k».proof.Proof.MergeGrad
public import proofs.«01_k».proof.Proof.Gen.NormGrad.Frame
public import proofs.«01_k».proof.Proof.Gen.NormGradIdeal.Frame
public import proofs.«01_k».proof.Proof.Gen.NormGradRefIdeal.Run
public import proofs.«01_k».proof.Proof.NormGrad
public import proofs.«01_k».proof.Proof.Gen.ConvSsmGrad.Frame
public import proofs.«01_k».proof.Proof.Gen.ConvSsmGradIdeal.Frame
public import proofs.«01_k».proof.Proof.Gen.ConvSsmGradRefIdeal.Run
public import proofs.«01_k».proof.Proof.ConvSsmGrad
public import proofs.«01_k».proof.Proof.Gen.ConvGdnGrad.Frame
public import proofs.«01_k».proof.Proof.Gen.ConvGdnGradIdeal.Frame
public import proofs.«01_k».proof.Proof.Gen.ConvGdnGradRefIdeal.Run
public import proofs.«01_k».proof.Proof.ConvGdnGrad
public import proofs.«01_k».proof.Proof.Gen.SsdGrad.Frame
public import proofs.«01_k».proof.Proof.Gen.SsdGradIdeal.Frame
public import proofs.«01_k».proof.Proof.Gen.SsdGradRefIdeal.Run
public import proofs.«01_k».proof.Proof.SsdGrad
public import proofs.«01_k».proof.Proof.Gen.InProjGrad.Frame
public import proofs.«01_k».proof.Proof.Gen.InProjGradIdeal.Frame
public import proofs.«01_k».proof.Proof.Gen.InProjGradRefIdeal.Run
public import proofs.«01_k».proof.Proof.InProjGrad
public import proofs.«01_k».proof.Proof.Gen.InProjDw.Frame
public import proofs.«01_k».proof.Proof.Gen.InProjDwIdeal.Frame
public import proofs.«01_k».proof.Proof.Gen.InProjDwRefIdeal.Run
public import proofs.«01_k».proof.Proof.InProjDw
public import proofs.«01_k».proof.Proof.Gen.FfnInGrad.Frame
public import proofs.«01_k».proof.Proof.Gen.FfnInGradIdeal.Frame
public import proofs.«01_k».proof.Proof.Gen.FfnInGradRefIdeal.Run
public import proofs.«01_k».proof.Proof.FfnInGrad
public import proofs.«01_k».proof.Proof.Gen.FfnInDw.Frame
public import proofs.«01_k».proof.Proof.Gen.FfnInDwIdeal.Frame
public import proofs.«01_k».proof.Proof.Gen.FfnInDwRefIdeal.Run
public import proofs.«01_k».proof.Proof.FfnInDw
public import proofs.«01_k».proof.Proof.Gen.FfnDownDw.Frame
public import proofs.«01_k».proof.Proof.Gen.FfnDownDwIdeal.Frame
public import proofs.«01_k».proof.Proof.Gen.FfnDownDwRefIdeal.Run
public import proofs.«01_k».proof.Proof.FfnDownDw
public import proofs.«01_k».proof.Proof.Gen.SquareDw.Frame
public import proofs.«01_k».proof.Proof.Gen.SquareDwIdeal.Frame
public import proofs.«01_k».proof.Proof.Gen.SquareDwRefIdeal.Run
public import proofs.«01_k».proof.Proof.SquareDw
public import proofs.«01_k».proof.Proof.Gen.SquareGrad.Frame
public import proofs.«01_k».proof.Proof.Gen.SquareGradIdeal.Frame
public import proofs.«01_k».proof.Proof.Gen.SquareGradRefIdeal.Run
public import proofs.«01_k».proof.Proof.SquareGrad
public import proofs.«01_k».proof.Proof.Gen.InProj.Frame
public import proofs.«01_k».proof.Proof.Gen.InProjIdeal.Frame
public import proofs.«01_k».proof.Proof.Gen.InProjRefIdeal.Run
public import proofs.«01_k».proof.Proof.InProj
public import proofs.«01_k».proof.Proof.Gen.ProjSsm.Frame
public import proofs.«01_k».proof.Proof.Gen.ProjSsmIdeal.Frame
public import proofs.«01_k».proof.Proof.Gen.ProjSsmRefIdeal.Run
public import proofs.«01_k».proof.Proof.ProjSsm
public import proofs.«01_k».proof.Proof.Gen.ProjMerge.Frame
public import proofs.«01_k».proof.Proof.Gen.ProjMergeIdeal.Frame
public import proofs.«01_k».proof.Proof.Gen.ProjMergeRefIdeal.Run
public import proofs.«01_k».proof.Proof.ProjMerge
public import proofs.«01_k».proof.Proof.Gen.OutProj.Frame
public import proofs.«01_k».proof.Proof.Gen.OutProjIdeal.Frame
public import proofs.«01_k».proof.Proof.Gen.OutProjRefIdeal.Run
public import proofs.«01_k».proof.Proof.OutProj
public import proofs.«01_k».proof.Proof.Gen.FfnIn.Frame
public import proofs.«01_k».proof.Proof.Gen.FfnInIdeal.Frame
public import proofs.«01_k».proof.Proof.Gen.FfnInRefIdeal.Run
public import proofs.«01_k».proof.Proof.FfnIn
public import proofs.«01_k».proof.Proof.Gen.FfnDown.Frame
public import proofs.«01_k».proof.Proof.Gen.FfnDownIdeal.Frame
public import proofs.«01_k».proof.Proof.Gen.FfnDownRefIdeal.Run
public import proofs.«01_k».proof.Proof.FfnDown
public import proofs.«01_k».proof.Proof.Gen.NormFwd.Frame
public import proofs.«01_k».proof.Proof.Gen.NormFwdIdeal.Frame
public import proofs.«01_k».proof.Proof.Gen.NormFwdRefIdeal.Run
public import proofs.«01_k».proof.Proof.NormFwd
public import proofs.«01_k».proof.Proof.Gen.LossHead.Frame
public import proofs.«01_k».proof.Proof.Gen.LossHeadIdeal.Frame
public import proofs.«01_k».proof.Proof.Gen.LossHeadRefIdeal.Run
public import proofs.«01_k».proof.Proof.LossHead
public import proofs.«01_k».proof.Proof.Gen.SumSmall.Frame
public import proofs.«01_k».proof.Proof.Gen.SumSmallIdeal.Frame
public import proofs.«01_k».proof.Proof.Gen.SumSmallRefIdeal.Run
public import proofs.«01_k».proof.Proof.SumSmall
public import proofs.«01_k».proof.Proof.Gen.SumConvSsm.Frame
public import proofs.«01_k».proof.Proof.Gen.SumConvSsmIdeal.Frame
public import proofs.«01_k».proof.Proof.Gen.SumConvSsmRefIdeal.Run
public import proofs.«01_k».proof.Proof.SumConvSsm
public import proofs.«01_k».proof.Proof.Gen.SumConvGdn.Frame
public import proofs.«01_k».proof.Proof.Gen.SumConvGdnIdeal.Frame
public import proofs.«01_k».proof.Proof.Gen.SumConvGdnRefIdeal.Run
public import proofs.«01_k».proof.Proof.SumConvGdn
public import proofs.«01_k».proof.Proof.Gen.SumSquare.Frame
public import proofs.«01_k».proof.Proof.Gen.SumSquareIdeal.Frame
public import proofs.«01_k».proof.Proof.Gen.SumSquareRefIdeal.Run
public import proofs.«01_k».proof.Proof.SumSquare
public import proofs.«01_k».proof.Proof.Gen.SumFfnDown.Frame
public import proofs.«01_k».proof.Proof.Gen.SumFfnDownIdeal.Frame
public import proofs.«01_k».proof.Proof.Gen.SumFfnDownRefIdeal.Run
public import proofs.«01_k».proof.Proof.SumFfnDown
public import proofs.«01_k».proof.Proof.Gen.SumFfnIn.Frame
public import proofs.«01_k».proof.Proof.Gen.SumFfnInIdeal.Frame
public import proofs.«01_k».proof.Proof.Gen.SumFfnInRefIdeal.Run
public import proofs.«01_k».proof.Proof.SumFfnIn
public import proofs.«01_k».proof.Proof.Gen.SumIn.Frame
public import proofs.«01_k».proof.Proof.Gen.SumInIdeal.Frame
public import proofs.«01_k».proof.Proof.Gen.SumInRefIdeal.Run
public import proofs.«01_k».proof.Proof.SumIn
public import proofs.«01_k».proof.Proof.Gen.AdamNorm.Frame
public import proofs.«01_k».proof.Proof.Gen.AdamNormIdeal.Frame
public import proofs.«01_k».proof.Proof.Gen.AdamNormRefIdeal.Run
public import proofs.«01_k».proof.Proof.AdamNorm
public import proofs.«01_k».proof.Proof.Gen.AdamConvB.Frame
public import proofs.«01_k».proof.Proof.Gen.AdamConvBIdeal.Frame
public import proofs.«01_k».proof.Proof.Gen.AdamConvBRefIdeal.Run
public import proofs.«01_k».proof.Proof.AdamConvB
public import proofs.«01_k».proof.Proof.Gen.AdamHeads.Frame
public import proofs.«01_k».proof.Proof.Gen.AdamHeadsIdeal.Frame
public import proofs.«01_k».proof.Proof.Gen.AdamHeadsRefIdeal.Run
public import proofs.«01_k».proof.Proof.AdamHeads
public import proofs.«01_k».proof.Proof.Gen.AdamGdnHeads.Frame
public import proofs.«01_k».proof.Proof.Gen.AdamGdnHeadsIdeal.Frame
public import proofs.«01_k».proof.Proof.Gen.AdamGdnHeadsRefIdeal.Run
public import proofs.«01_k».proof.Proof.AdamGdnHeads
public import proofs.«01_k».proof.Proof.Gen.AdamGdnNorm.Frame
public import proofs.«01_k».proof.Proof.Gen.AdamGdnNormIdeal.Frame
public import proofs.«01_k».proof.Proof.Gen.AdamGdnNormRefIdeal.Run
public import proofs.«01_k».proof.Proof.AdamGdnNorm
public import proofs.«01_k».proof.Proof.Gen.AdamFinal.Frame
public import proofs.«01_k».proof.Proof.Gen.AdamFinalIdeal.Frame
public import proofs.«01_k».proof.Proof.Gen.AdamFinalRefIdeal.Run
public import proofs.«01_k».proof.Proof.AdamFinal
public import proofs.«01_k».proof.Proof.Gen.AdamConvSsm.Frame
public import proofs.«01_k».proof.Proof.Gen.AdamConvSsmIdeal.Frame
public import proofs.«01_k».proof.Proof.Gen.AdamConvSsmRefIdeal.Run
public import proofs.«01_k».proof.Proof.AdamConvSsm
public import proofs.«01_k».proof.Proof.Gen.AdamConvGdn.Frame
public import proofs.«01_k».proof.Proof.Gen.AdamConvGdnIdeal.Frame
public import proofs.«01_k».proof.Proof.Gen.AdamConvGdnRefIdeal.Run
public import proofs.«01_k».proof.Proof.AdamConvGdn
public import proofs.«01_k».proof.Proof.Gen.AdamSquare.Frame
public import proofs.«01_k».proof.Proof.Gen.AdamSquareIdeal.Frame
public import proofs.«01_k».proof.Proof.Gen.AdamSquareRefIdeal.Run
public import proofs.«01_k».proof.Proof.AdamSquare
public import proofs.«01_k».proof.Proof.Gen.AdamFfnDown.Frame
public import proofs.«01_k».proof.Proof.Gen.AdamFfnDownIdeal.Frame
public import proofs.«01_k».proof.Proof.Gen.AdamFfnDownRefIdeal.Run
public import proofs.«01_k».proof.Proof.AdamFfnDown
public import proofs.«01_k».proof.Proof.Gen.AdamFfnIn.Frame
public import proofs.«01_k».proof.Proof.Gen.AdamFfnInIdeal.Frame
public import proofs.«01_k».proof.Proof.Gen.AdamFfnInRefIdeal.Run
public import proofs.«01_k».proof.Proof.AdamFfnIn
public import proofs.«01_k».proof.Proof.Gen.AdamIn.Frame
public import proofs.«01_k».proof.Proof.Gen.AdamInIdeal.Frame
public import proofs.«01_k».proof.Proof.Gen.AdamInRefIdeal.Run
public import proofs.«01_k».proof.Proof.AdamIn
public import Idealize.ShloMosaic.Lib.Pipeline.ValueKit

@[expose] public section

namespace Cert.Proof

open Idealize.ShloMosaic Idealize.SL.Sem

theorem frame_FfnActGradRef : Cert.quiescent_FfnActGradRefIdeal := fun m ρ _ =>
  (θ_run Cert.FfnActGradRefIdeal.defs _ _).mono (fun r h => ⟨fun c => (h c).2.2, sem_eq_zero_of_no_sems (by decide) r.2⟩)
    (Cert.FfnActGradRefIdeal.Value.run (F := Ideal) m ρ)

theorem frame_MergeGradRef : Cert.quiescent_MergeGradRefIdeal := fun m ρ _ =>
  (θ_run Cert.MergeGradRefIdeal.defs _ _).mono (fun r h => ⟨fun c => (h c).2.2.2, sem_eq_zero_of_no_sems (by decide) r.2⟩)
    (Cert.MergeGradRefIdeal.Value.run (F := Ideal) m ρ)

theorem frame_NormGradRef : Cert.quiescent_NormGradRefIdeal := fun m ρ _ =>
  (θ_run Cert.NormGradRefIdeal.defs _ _).mono (fun r h => ⟨fun c => (h c).2.2.2, sem_eq_zero_of_no_sems (by decide) r.2⟩)
    (Cert.NormGradRefIdeal.Value.run (F := Ideal) m ρ)

theorem frame_ConvSsmGradRef : Cert.quiescent_ConvSsmGradRefIdeal := fun m ρ _ =>
  (θ_run Cert.ConvSsmGradRefIdeal.defs _ _).mono (fun r h => ⟨fun c => (h c).2.2.2, sem_eq_zero_of_no_sems (by decide) r.2⟩)
    (Cert.ConvSsmGradRefIdeal.Value.run (F := Ideal) m ρ)

theorem frame_ConvGdnGradRef : Cert.quiescent_ConvGdnGradRefIdeal := fun m ρ _ =>
  (θ_run Cert.ConvGdnGradRefIdeal.defs _ _).mono (fun r h => ⟨fun c => (h c).2.2, sem_eq_zero_of_no_sems (by decide) r.2⟩)
    (Cert.ConvGdnGradRefIdeal.Value.run (F := Ideal) m ρ)

theorem frame_SsdGradRef : Cert.quiescent_SsdGradRefIdeal := fun m ρ _ =>
  (θ_run Cert.SsdGradRefIdeal.defs _ _).mono (fun r h => ⟨fun c => (h c).2.2.2, sem_eq_zero_of_no_sems (by decide) r.2⟩)
    (Cert.SsdGradRefIdeal.Value.run (F := Ideal) m ρ)

theorem frame_InProjGradRef : Cert.quiescent_InProjGradRefIdeal := fun m ρ _ =>
  (θ_run Cert.InProjGradRefIdeal.defs _ _).mono (fun r h => ⟨fun c => (h c).2, sem_eq_zero_of_no_sems (by decide) r.2⟩)
    (Cert.InProjGradRefIdeal.Value.run (F := Ideal) m ρ)

theorem frame_InProjDwRef : Cert.quiescent_InProjDwRefIdeal := fun m ρ _ =>
  (θ_run Cert.InProjDwRefIdeal.defs _ _).mono (fun r h => ⟨fun c => (h c).2, sem_eq_zero_of_no_sems (by decide) r.2⟩)
    (Cert.InProjDwRefIdeal.Value.run (F := Ideal) m ρ)

theorem frame_FfnInGradRef : Cert.quiescent_FfnInGradRefIdeal := fun m ρ _ =>
  (θ_run Cert.FfnInGradRefIdeal.defs _ _).mono (fun r h => ⟨fun c => (h c).2, sem_eq_zero_of_no_sems (by decide) r.2⟩)
    (Cert.FfnInGradRefIdeal.Value.run (F := Ideal) m ρ)

theorem frame_FfnInDwRef : Cert.quiescent_FfnInDwRefIdeal := fun m ρ _ =>
  (θ_run Cert.FfnInDwRefIdeal.defs _ _).mono (fun r h => ⟨fun c => (h c).2, sem_eq_zero_of_no_sems (by decide) r.2⟩)
    (Cert.FfnInDwRefIdeal.Value.run (F := Ideal) m ρ)

theorem frame_FfnDownDwRef : Cert.quiescent_FfnDownDwRefIdeal := fun m ρ _ =>
  (θ_run Cert.FfnDownDwRefIdeal.defs _ _).mono (fun r h => ⟨fun c => (h c).2, sem_eq_zero_of_no_sems (by decide) r.2⟩)
    (Cert.FfnDownDwRefIdeal.Value.run (F := Ideal) m ρ)

theorem frame_SquareDwRef : Cert.quiescent_SquareDwRefIdeal := fun m ρ _ =>
  (θ_run Cert.SquareDwRefIdeal.defs _ _).mono (fun r h => ⟨fun c => (h c).2, sem_eq_zero_of_no_sems (by decide) r.2⟩)
    (Cert.SquareDwRefIdeal.Value.run (F := Ideal) m ρ)

theorem frame_SquareGradRef : Cert.quiescent_SquareGradRefIdeal := fun m ρ _ =>
  (θ_run Cert.SquareGradRefIdeal.defs _ _).mono (fun r h => ⟨fun c => (h c).2, sem_eq_zero_of_no_sems (by decide) r.2⟩)
    (Cert.SquareGradRefIdeal.Value.run (F := Ideal) m ρ)

theorem frame_InProjRef : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

theorem frame_ProjSsmRef : Cert.quiescent_ProjSsmRefIdeal := fun m ρ _ =>
  (θ_run Cert.ProjSsmRefIdeal.defs _ _).mono (fun r h => ⟨fun c => (h c).2, sem_eq_zero_of_no_sems (by decide) r.2⟩)
    (Cert.ProjSsmRefIdeal.Value.run (F := Ideal) m ρ)

theorem frame_ProjMergeRef : Cert.quiescent_ProjMergeRefIdeal := fun m ρ _ =>
  (θ_run Cert.ProjMergeRefIdeal.defs _ _).mono (fun r h => ⟨fun c => (h c).2.2, sem_eq_zero_of_no_sems (by decide) r.2⟩)
    (Cert.ProjMergeRefIdeal.Value.run (F := Ideal) m ρ)

theorem frame_OutProjRef : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

theorem frame_FfnInRef : Cert.quiescent_FfnInRefIdeal := fun m ρ _ =>
  (θ_run Cert.FfnInRefIdeal.defs _ _).mono (fun r h => ⟨fun c => (h c).2.2.2, sem_eq_zero_of_no_sems (by decide) r.2⟩)
    (Cert.FfnInRefIdeal.Value.run (F := Ideal) m ρ)

theorem frame_FfnDownRef : Cert.quiescent_FfnDownRefIdeal := fun m ρ _ =>
  (θ_run Cert.FfnDownRefIdeal.defs _ _).mono (fun r h => ⟨fun c => (h c).2, sem_eq_zero_of_no_sems (by decide) r.2⟩)
    (Cert.FfnDownRefIdeal.Value.run (F := Ideal) m ρ)

theorem frame_NormFwdRef : Cert.quiescent_NormFwdRefIdeal := fun m ρ _ =>
  (θ_run Cert.NormFwdRefIdeal.defs _ _).mono (fun r h => ⟨fun c => (h c).2, sem_eq_zero_of_no_sems (by decide) r.2⟩)
    (Cert.NormFwdRefIdeal.Value.run (F := Ideal) m ρ)

theorem frame_LossHeadRef : Cert.quiescent_LossHeadRefIdeal := fun m ρ _ =>
  (θ_run Cert.LossHeadRefIdeal.defs _ _).mono (fun r h => ⟨fun c => (h c).2.2.2.2, sem_eq_zero_of_no_sems (by decide) r.2⟩)
    (Cert.LossHeadRefIdeal.Value.run (F := Ideal) m ρ)

theorem frame_SumSmallRef : Cert.quiescent_SumSmallRefIdeal := fun m ρ _ =>
  (θ_run Cert.SumSmallRefIdeal.defs _ _).mono (fun r h => ⟨fun c => (h c).2, sem_eq_zero_of_no_sems (by decide) r.2⟩)
    (Cert.SumSmallRefIdeal.Value.run (F := Ideal) m ρ)

theorem frame_SumConvSsmRef : Cert.quiescent_SumConvSsmRefIdeal := fun m ρ _ =>
  (θ_run Cert.SumConvSsmRefIdeal.defs _ _).mono (fun r h => ⟨fun c => (h c).2, sem_eq_zero_of_no_sems (by decide) r.2⟩)
    (Cert.SumConvSsmRefIdeal.Value.run (F := Ideal) m ρ)

theorem frame_SumConvGdnRef : Cert.quiescent_SumConvGdnRefIdeal := fun m ρ _ =>
  (θ_run Cert.SumConvGdnRefIdeal.defs _ _).mono (fun r h => ⟨fun c => (h c).2, sem_eq_zero_of_no_sems (by decide) r.2⟩)
    (Cert.SumConvGdnRefIdeal.Value.run (F := Ideal) m ρ)

theorem frame_SumSquareRef : Cert.quiescent_SumSquareRefIdeal := fun m ρ _ =>
  (θ_run Cert.SumSquareRefIdeal.defs _ _).mono (fun r h => ⟨fun c => (h c).2, sem_eq_zero_of_no_sems (by decide) r.2⟩)
    (Cert.SumSquareRefIdeal.Value.run (F := Ideal) m ρ)

theorem frame_SumFfnDownRef : Cert.quiescent_SumFfnDownRefIdeal := fun m ρ _ =>
  (θ_run Cert.SumFfnDownRefIdeal.defs _ _).mono (fun r h => ⟨fun c => (h c).2, sem_eq_zero_of_no_sems (by decide) r.2⟩)
    (Cert.SumFfnDownRefIdeal.Value.run (F := Ideal) m ρ)

theorem frame_SumFfnInRef : Cert.quiescent_SumFfnInRefIdeal := fun m ρ _ =>
  (θ_run Cert.SumFfnInRefIdeal.defs _ _).mono (fun r h => ⟨fun c => (h c).2, sem_eq_zero_of_no_sems (by decide) r.2⟩)
    (Cert.SumFfnInRefIdeal.Value.run (F := Ideal) m ρ)

theorem frame_SumInRef : Cert.quiescent_SumInRefIdeal := fun m ρ _ =>
  (θ_run Cert.SumInRefIdeal.defs _ _).mono (fun r h => ⟨fun c => (h c).2, sem_eq_zero_of_no_sems (by decide) r.2⟩)
    (Cert.SumInRefIdeal.Value.run (F := Ideal) m ρ)

theorem frame_AdamNormRef : Cert.quiescent_AdamNormRefIdeal := fun m ρ _ =>
  (θ_run Cert.AdamNormRefIdeal.defs _ _).mono (fun r h => ⟨fun c => (h c).2.2.2.2, sem_eq_zero_of_no_sems (by decide) r.2⟩)
    (Cert.AdamNormRefIdeal.Value.run (F := Ideal) m ρ)

theorem frame_AdamConvBRef : Cert.quiescent_AdamConvBRefIdeal := fun m ρ _ =>
  (θ_run Cert.AdamConvBRefIdeal.defs _ _).mono (fun r h => ⟨fun c => (h c).2.2.2.2, sem_eq_zero_of_no_sems (by decide) r.2⟩)
    (Cert.AdamConvBRefIdeal.Value.run (F := Ideal) m ρ)

theorem frame_AdamHeadsRef : Cert.quiescent_AdamHeadsRefIdeal := fun m ρ _ =>
  (θ_run Cert.AdamHeadsRefIdeal.defs _ _).mono (fun r h => ⟨fun c => (h c).2.2.2.2, sem_eq_zero_of_no_sems (by decide) r.2⟩)
    (Cert.AdamHeadsRefIdeal.Value.run (F := Ideal) m ρ)

theorem frame_AdamGdnHeadsRef : Cert.quiescent_AdamGdnHeadsRefIdeal := fun m ρ _ =>
  (θ_run Cert.AdamGdnHeadsRefIdeal.defs _ _).mono (fun r h => ⟨fun c => (h c).2.2.2.2, sem_eq_zero_of_no_sems (by decide) r.2⟩)
    (Cert.AdamGdnHeadsRefIdeal.Value.run (F := Ideal) m ρ)

theorem frame_AdamGdnNormRef : Cert.quiescent_AdamGdnNormRefIdeal := fun m ρ _ =>
  (θ_run Cert.AdamGdnNormRefIdeal.defs _ _).mono (fun r h => ⟨fun c => (h c).2.2.2.2, sem_eq_zero_of_no_sems (by decide) r.2⟩)
    (Cert.AdamGdnNormRefIdeal.Value.run (F := Ideal) m ρ)

theorem frame_AdamFinalRef : Cert.quiescent_AdamFinalRefIdeal := fun m ρ _ =>
  (θ_run Cert.AdamFinalRefIdeal.defs _ _).mono (fun r h => ⟨fun c => (h c).2.2.2.2, sem_eq_zero_of_no_sems (by decide) r.2⟩)
    (Cert.AdamFinalRefIdeal.Value.run (F := Ideal) m ρ)

theorem frame_AdamConvSsmRef : Cert.quiescent_AdamConvSsmRefIdeal := fun m ρ _ =>
  (θ_run Cert.AdamConvSsmRefIdeal.defs _ _).mono (fun r h => ⟨fun c => (h c).2.2.2.2, sem_eq_zero_of_no_sems (by decide) r.2⟩)
    (Cert.AdamConvSsmRefIdeal.Value.run (F := Ideal) m ρ)

theorem frame_AdamConvGdnRef : Cert.quiescent_AdamConvGdnRefIdeal := fun m ρ _ =>
  (θ_run Cert.AdamConvGdnRefIdeal.defs _ _).mono (fun r h => ⟨fun c => (h c).2.2.2.2, sem_eq_zero_of_no_sems (by decide) r.2⟩)
    (Cert.AdamConvGdnRefIdeal.Value.run (F := Ideal) m ρ)

theorem frame_AdamSquareRef : Cert.quiescent_AdamSquareRefIdeal := fun m ρ _ =>
  (θ_run Cert.AdamSquareRefIdeal.defs _ _).mono (fun r h => ⟨fun c => (h c).2.2.2.2, sem_eq_zero_of_no_sems (by decide) r.2⟩)
    (Cert.AdamSquareRefIdeal.Value.run (F := Ideal) m ρ)

theorem frame_AdamFfnDownRef : Cert.quiescent_AdamFfnDownRefIdeal := fun m ρ _ =>
  (θ_run Cert.AdamFfnDownRefIdeal.defs _ _).mono (fun r h => ⟨fun c => (h c).2.2.2.2, sem_eq_zero_of_no_sems (by decide) r.2⟩)
    (Cert.AdamFfnDownRefIdeal.Value.run (F := Ideal) m ρ)

theorem frame_AdamFfnInRef : Cert.quiescent_AdamFfnInRefIdeal := fun m ρ _ =>
  (θ_run Cert.AdamFfnInRefIdeal.defs _ _).mono (fun r h => ⟨fun c => (h c).2.2.2.2, sem_eq_zero_of_no_sems (by decide) r.2⟩)
    (Cert.AdamFfnInRefIdeal.Value.run (F := Ideal) m ρ)

theorem frame_AdamInRef : Cert.quiescent_AdamInRefIdeal := fun m ρ _ =>
  (θ_run Cert.AdamInRefIdeal.defs _ _).mono (fun r h => ⟨fun c => (h c).2.2.2, sem_eq_zero_of_no_sems (by decide) r.2⟩)
    (Cert.AdamInRefIdeal.Value.run (F := Ideal) m ρ)

theorem claim : Cert.Claim :=
  ⟨Cert.FfnActGrad.Gen.facts, Cert.FfnActGradIdeal.Gen.facts, Cert.FfnActGradRefIdeal.Gen.facts, Cert.MergeGrad.Gen.facts, Cert.MergeGradIdeal.Gen.facts, Cert.MergeGradRefIdeal.Gen.facts, Cert.NormGrad.Gen.facts, Cert.NormGradIdeal.Gen.facts, Cert.NormGradRefIdeal.Gen.facts, Cert.ConvSsmGrad.Gen.facts, Cert.ConvSsmGradIdeal.Gen.facts, Cert.ConvSsmGradRefIdeal.Gen.facts, Cert.ConvGdnGrad.Gen.facts, Cert.ConvGdnGradIdeal.Gen.facts, Cert.ConvGdnGradRefIdeal.Gen.facts, Cert.SsdGrad.Gen.facts, Cert.SsdGradIdeal.Gen.facts, Cert.SsdGradRefIdeal.Gen.facts, Cert.InProjGrad.Gen.facts, Cert.InProjGradIdeal.Gen.facts, Cert.InProjGradRefIdeal.Gen.facts, Cert.InProjDw.Gen.facts, Cert.InProjDwIdeal.Gen.facts, Cert.InProjDwRefIdeal.Gen.facts, Cert.FfnInGrad.Gen.facts, Cert.FfnInGradIdeal.Gen.facts, Cert.FfnInGradRefIdeal.Gen.facts, Cert.FfnInDw.Gen.facts, Cert.FfnInDwIdeal.Gen.facts, Cert.FfnInDwRefIdeal.Gen.facts, Cert.FfnDownDw.Gen.facts, Cert.FfnDownDwIdeal.Gen.facts, Cert.FfnDownDwRefIdeal.Gen.facts, Cert.SquareDw.Gen.facts, Cert.SquareDwIdeal.Gen.facts, Cert.SquareDwRefIdeal.Gen.facts, Cert.SquareGrad.Gen.facts, Cert.SquareGradIdeal.Gen.facts, Cert.SquareGradRefIdeal.Gen.facts, Cert.InProj.Gen.facts, Cert.InProjIdeal.Gen.facts, Cert.InProjRefIdeal.Gen.facts, Cert.ProjSsm.Gen.facts, Cert.ProjSsmIdeal.Gen.facts, Cert.ProjSsmRefIdeal.Gen.facts, Cert.ProjMerge.Gen.facts, Cert.ProjMergeIdeal.Gen.facts, Cert.ProjMergeRefIdeal.Gen.facts, Cert.OutProj.Gen.facts, Cert.OutProjIdeal.Gen.facts, Cert.OutProjRefIdeal.Gen.facts, Cert.FfnIn.Gen.facts, Cert.FfnInIdeal.Gen.facts, Cert.FfnInRefIdeal.Gen.facts, Cert.FfnDown.Gen.facts, Cert.FfnDownIdeal.Gen.facts, Cert.FfnDownRefIdeal.Gen.facts, Cert.NormFwd.Gen.facts, Cert.NormFwdIdeal.Gen.facts, Cert.NormFwdRefIdeal.Gen.facts, Cert.LossHead.Gen.facts, Cert.LossHeadIdeal.Gen.facts, Cert.LossHeadRefIdeal.Gen.facts, Cert.SumSmall.Gen.facts, Cert.SumSmallIdeal.Gen.facts, Cert.SumSmallRefIdeal.Gen.facts, Cert.SumConvSsm.Gen.facts, Cert.SumConvSsmIdeal.Gen.facts, Cert.SumConvSsmRefIdeal.Gen.facts, Cert.SumConvGdn.Gen.facts, Cert.SumConvGdnIdeal.Gen.facts, Cert.SumConvGdnRefIdeal.Gen.facts, Cert.SumSquare.Gen.facts, Cert.SumSquareIdeal.Gen.facts, Cert.SumSquareRefIdeal.Gen.facts, Cert.SumFfnDown.Gen.facts, Cert.SumFfnDownIdeal.Gen.facts, Cert.SumFfnDownRefIdeal.Gen.facts, Cert.SumFfnIn.Gen.facts, Cert.SumFfnInIdeal.Gen.facts, Cert.SumFfnInRefIdeal.Gen.facts, Cert.SumIn.Gen.facts, Cert.SumInIdeal.Gen.facts, Cert.SumInRefIdeal.Gen.facts, Cert.AdamNorm.Gen.facts, Cert.AdamNormIdeal.Gen.facts, Cert.AdamNormRefIdeal.Gen.facts, Cert.AdamConvB.Gen.facts, Cert.AdamConvBIdeal.Gen.facts, Cert.AdamConvBRefIdeal.Gen.facts, Cert.AdamHeads.Gen.facts, Cert.AdamHeadsIdeal.Gen.facts, Cert.AdamHeadsRefIdeal.Gen.facts, Cert.AdamGdnHeads.Gen.facts, Cert.AdamGdnHeadsIdeal.Gen.facts, Cert.AdamGdnHeadsRefIdeal.Gen.facts, Cert.AdamGdnNorm.Gen.facts, Cert.AdamGdnNormIdeal.Gen.facts, Cert.AdamGdnNormRefIdeal.Gen.facts, Cert.AdamFinal.Gen.facts, Cert.AdamFinalIdeal.Gen.facts, Cert.AdamFinalRefIdeal.Gen.facts, Cert.AdamConvSsm.Gen.facts, Cert.AdamConvSsmIdeal.Gen.facts, Cert.AdamConvSsmRefIdeal.Gen.facts, Cert.AdamConvGdn.Gen.facts, Cert.AdamConvGdnIdeal.Gen.facts, Cert.AdamConvGdnRefIdeal.Gen.facts, Cert.AdamSquare.Gen.facts, Cert.AdamSquareIdeal.Gen.facts, Cert.AdamSquareRefIdeal.Gen.facts, Cert.AdamFfnDown.Gen.facts, Cert.AdamFfnDownIdeal.Gen.facts, Cert.AdamFfnDownRefIdeal.Gen.facts, Cert.AdamFfnIn.Gen.facts, Cert.AdamFfnInIdeal.Gen.facts, Cert.AdamFfnInRefIdeal.Gen.facts, Cert.AdamIn.Gen.facts, Cert.AdamInIdeal.Gen.facts, Cert.AdamInRefIdeal.Gen.facts, Cert.Pre_ffn_finite.Gen.facts, Cert.Pre_norm_finite.Gen.facts, Cert.Pre_conv_ssm_finite.Gen.facts, Cert.Pre_conv_gdn_finite.Gen.facts, Cert.Pre_ssd_finite.Gen.facts, Cert.Pre_loss_finite.Gen.facts, Cert.On_gate_columns.Gen.facts,
    fun m ρ _ => Cert.FfnActGrad.Gen.frame m ρ,
    fun m ρ _ => Cert.FfnActGradIdeal.Gen.frame m ρ,
    fun m ρ _ => Cert.FfnActGradIdeal.Gen.frame m ρ,
    frame_FfnActGradRef,
    fun m ρ _ => frame_FfnActGradRef m ρ trivial,
    fun m ρ _ => Cert.MergeGrad.Gen.frame m ρ,
    fun m ρ _ => Cert.MergeGradIdeal.Gen.frame m ρ,
    frame_MergeGradRef,
    fun m ρ _ => Cert.NormGrad.Gen.frame m ρ,
    fun m ρ _ => Cert.NormGradIdeal.Gen.frame m ρ,
    fun m ρ _ => Cert.NormGradIdeal.Gen.frame m ρ,
    frame_NormGradRef,
    fun m ρ _ => frame_NormGradRef m ρ trivial,
    fun m ρ _ => Cert.ConvSsmGrad.Gen.frame m ρ,
    fun m ρ _ => Cert.ConvSsmGradIdeal.Gen.frame m ρ,
    fun m ρ _ => Cert.ConvSsmGradIdeal.Gen.frame m ρ,
    frame_ConvSsmGradRef,
    fun m ρ _ => frame_ConvSsmGradRef m ρ trivial,
    fun m ρ _ => Cert.ConvGdnGrad.Gen.frame m ρ,
    fun m ρ _ => Cert.ConvGdnGradIdeal.Gen.frame m ρ,
    fun m ρ _ => Cert.ConvGdnGradIdeal.Gen.frame m ρ,
    frame_ConvGdnGradRef,
    fun m ρ _ => frame_ConvGdnGradRef m ρ trivial,
    fun m ρ _ => Cert.SsdGrad.Gen.frame m ρ,
    fun m ρ _ => Cert.SsdGradIdeal.Gen.frame m ρ,
    fun m ρ _ => Cert.SsdGradIdeal.Gen.frame m ρ,
    frame_SsdGradRef,
    fun m ρ _ => frame_SsdGradRef m ρ trivial,
    fun m ρ _ => Cert.InProjGrad.Gen.frame m ρ,
    fun m ρ _ => Cert.InProjGradIdeal.Gen.frame m ρ,
    frame_InProjGradRef,
    fun m ρ _ => Cert.InProjDw.Gen.frame m ρ,
    fun m ρ _ => Cert.InProjDwIdeal.Gen.frame m ρ,
    frame_InProjDwRef,
    fun m ρ _ => Cert.FfnInGrad.Gen.frame m ρ,
    fun m ρ _ => Cert.FfnInGradIdeal.Gen.frame m ρ,
    frame_FfnInGradRef,
    fun m ρ _ => Cert.FfnInDw.Gen.frame m ρ,
    fun m ρ _ => Cert.FfnInDwIdeal.Gen.frame m ρ,
    frame_FfnInDwRef,
    fun m ρ _ => Cert.FfnDownDw.Gen.frame m ρ,
    fun m ρ _ => Cert.FfnDownDwIdeal.Gen.frame m ρ,
    frame_FfnDownDwRef,
    fun m ρ _ => Cert.SquareDw.Gen.frame m ρ,
    fun m ρ _ => Cert.SquareDwIdeal.Gen.frame m ρ,
    frame_SquareDwRef,
    fun m ρ _ => Cert.SquareGrad.Gen.frame m ρ,
    fun m ρ _ => Cert.SquareGradIdeal.Gen.frame m ρ,
    frame_SquareGradRef,
    fun m ρ _ => Cert.InProj.Gen.frame m ρ,
    fun m ρ _ => Cert.InProjIdeal.Gen.frame m ρ,
    frame_InProjRef,
    fun m ρ _ => Cert.ProjSsm.Gen.frame m ρ,
    fun m ρ _ => Cert.ProjSsmIdeal.Gen.frame m ρ,
    frame_ProjSsmRef,
    fun m ρ _ => Cert.ProjMerge.Gen.frame m ρ,
    fun m ρ _ => Cert.ProjMergeIdeal.Gen.frame m ρ,
    frame_ProjMergeRef,
    fun m ρ _ => Cert.OutProj.Gen.frame m ρ,
    fun m ρ _ => Cert.OutProjIdeal.Gen.frame m ρ,
    frame_OutProjRef,
    fun m ρ _ => Cert.FfnIn.Gen.frame m ρ,
    fun m ρ _ => Cert.FfnInIdeal.Gen.frame m ρ,
    frame_FfnInRef,
    fun m ρ _ => Cert.FfnDown.Gen.frame m ρ,
    fun m ρ _ => Cert.FfnDownIdeal.Gen.frame m ρ,
    frame_FfnDownRef,
    fun m ρ _ => Cert.NormFwd.Gen.frame m ρ,
    fun m ρ _ => Cert.NormFwdIdeal.Gen.frame m ρ,
    frame_NormFwdRef,
    fun m ρ _ => Cert.LossHead.Gen.frame m ρ,
    fun m ρ _ => Cert.LossHeadIdeal.Gen.frame m ρ,
    fun m ρ _ => Cert.LossHeadIdeal.Gen.frame m ρ,
    frame_LossHeadRef,
    fun m ρ _ => frame_LossHeadRef m ρ trivial,
    fun m ρ _ => Cert.SumSmall.Gen.frame m ρ,
    fun m ρ _ => Cert.SumSmallIdeal.Gen.frame m ρ,
    frame_SumSmallRef,
    fun m ρ _ => Cert.SumConvSsm.Gen.frame m ρ,
    fun m ρ _ => Cert.SumConvSsmIdeal.Gen.frame m ρ,
    frame_SumConvSsmRef,
    fun m ρ _ => Cert.SumConvGdn.Gen.frame m ρ,
    fun m ρ _ => Cert.SumConvGdnIdeal.Gen.frame m ρ,
    frame_SumConvGdnRef,
    fun m ρ _ => Cert.SumSquare.Gen.frame m ρ,
    fun m ρ _ => Cert.SumSquareIdeal.Gen.frame m ρ,
    frame_SumSquareRef,
    fun m ρ _ => Cert.SumFfnDown.Gen.frame m ρ,
    fun m ρ _ => Cert.SumFfnDownIdeal.Gen.frame m ρ,
    frame_SumFfnDownRef,
    fun m ρ _ => Cert.SumFfnIn.Gen.frame m ρ,
    fun m ρ _ => Cert.SumFfnInIdeal.Gen.frame m ρ,
    frame_SumFfnInRef,
    fun m ρ _ => Cert.SumIn.Gen.frame m ρ,
    fun m ρ _ => Cert.SumInIdeal.Gen.frame m ρ,
    frame_SumInRef,
    fun m ρ _ => Cert.AdamNorm.Gen.frame m ρ,
    fun m ρ _ => Cert.AdamNormIdeal.Gen.frame m ρ,
    frame_AdamNormRef,
    fun m ρ _ => Cert.AdamConvB.Gen.frame m ρ,
    fun m ρ _ => Cert.AdamConvBIdeal.Gen.frame m ρ,
    frame_AdamConvBRef,
    fun m ρ _ => Cert.AdamHeads.Gen.frame m ρ,
    fun m ρ _ => Cert.AdamHeadsIdeal.Gen.frame m ρ,
    frame_AdamHeadsRef,
    fun m ρ _ => Cert.AdamGdnHeads.Gen.frame m ρ,
    fun m ρ _ => Cert.AdamGdnHeadsIdeal.Gen.frame m ρ,
    frame_AdamGdnHeadsRef,
    fun m ρ _ => Cert.AdamGdnNorm.Gen.frame m ρ,
    fun m ρ _ => Cert.AdamGdnNormIdeal.Gen.frame m ρ,
    frame_AdamGdnNormRef,
    fun m ρ _ => Cert.AdamFinal.Gen.frame m ρ,
    fun m ρ _ => Cert.AdamFinalIdeal.Gen.frame m ρ,
    frame_AdamFinalRef,
    fun m ρ _ => Cert.AdamConvSsm.Gen.frame m ρ,
    fun m ρ _ => Cert.AdamConvSsmIdeal.Gen.frame m ρ,
    frame_AdamConvSsmRef,
    fun m ρ _ => Cert.AdamConvGdn.Gen.frame m ρ,
    fun m ρ _ => Cert.AdamConvGdnIdeal.Gen.frame m ρ,
    frame_AdamConvGdnRef,
    fun m ρ _ => Cert.AdamSquare.Gen.frame m ρ,
    fun m ρ _ => Cert.AdamSquareIdeal.Gen.frame m ρ,
    frame_AdamSquareRef,
    fun m ρ _ => Cert.AdamFfnDown.Gen.frame m ρ,
    fun m ρ _ => Cert.AdamFfnDownIdeal.Gen.frame m ρ,
    frame_AdamFfnDownRef,
    fun m ρ _ => Cert.AdamFfnIn.Gen.frame m ρ,
    fun m ρ _ => Cert.AdamFfnInIdeal.Gen.frame m ρ,
    frame_AdamFfnInRef,
    fun m ρ _ => Cert.AdamIn.Gen.frame m ρ,
    fun m ρ _ => Cert.AdamInIdeal.Gen.frame m ρ,
    frame_AdamInRef,
    trivial,
    FfnActGrad.algebraic,
    trivial,
    MergeGrad.algebraic,
    trivial,
    NormGrad.algebraic,
    trivial,
    ConvSsmGrad.algebraic,
    trivial,
    ConvGdnGrad.algebraic,
    trivial,
    SsdGrad.algebraic,
    trivial,
    InProjGrad.algebraic,
    trivial,
    InProjDw.algebraic,
    trivial,
    FfnInGrad.algebraic,
    trivial,
    FfnInDw.algebraic,
    trivial,
    FfnDownDw.algebraic,
    trivial,
    SquareDw.algebraic,
    trivial,
    SquareGrad.algebraic,
    trivial,
    InProj.algebraic,
    trivial,
    ProjSsm.algebraic,
    trivial,
    ProjMerge.algebraic,
    trivial,
    OutProj.algebraic,
    trivial,
    FfnIn.algebraic,
    trivial,
    FfnDown.algebraic,
    trivial,
    NormFwd.algebraic,
    trivial,
    LossHead.algebraic,
    trivial,
    SumSmall.algebraic,
    trivial,
    SumConvSsm.algebraic,
    trivial,
    SumConvGdn.algebraic,
    trivial,
    SumSquare.algebraic,
    trivial,
    SumFfnDown.algebraic,
    trivial,
    SumFfnIn.algebraic,
    trivial,
    SumIn.algebraic,
    trivial,
    AdamNorm.algebraic,
    trivial,
    AdamConvB.algebraic,
    trivial,
    AdamHeads.algebraic,
    trivial,
    AdamGdnHeads.algebraic,
    trivial,
    AdamGdnNorm.algebraic,
    trivial,
    AdamFinal.algebraic,
    trivial,
    AdamConvSsm.algebraic,
    trivial,
    AdamConvGdn.algebraic,
    trivial,
    AdamSquare.algebraic,
    trivial,
    AdamFfnDown.algebraic,
    trivial,
    AdamFfnIn.algebraic,
    trivial,
    AdamIn.algebraic⟩

end Cert.Proof

end
